-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_FinalSwap (m : (ℓ : Loc Cert.FinalSwap.nD Cert.FinalSwap.τ Cert.FinalSwap.sig) → Buf (Elt Bits) ℓ) : Prop :=
  True

def Pre_FinalSwapIdeal (m : (ℓ : Loc Cert.FinalSwapIdeal.nD Cert.FinalSwapIdeal.τ Cert.FinalSwapIdeal.sig) → Buf (Elt Ideal) ℓ) : Prop :=
  True

def Pre_FinalSwapRefIdeal (m : (ℓ : Loc Cert.FinalSwapRefIdeal.nD Cert.FinalSwapRefIdeal.τ Cert.FinalSwapRefIdeal.sig) → Buf (Elt Ideal) ℓ) : Prop :=
  True

def Pre_FinalSwapRef (m : (ℓ : Loc Cert.FinalSwapRef.nD Cert.FinalSwapRef.τ Cert.FinalSwapRef.sig) → Buf (Elt Bits) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamHeads (m : (ℓ : Loc Cert.AdamHeads.nD Cert.AdamHeads.τ Cert.AdamHeads.sig) → Buf (Elt Bits) ℓ) : Prop :=
  True

def Pre_AdamHeadsIdeal (m : (ℓ : Loc Cert.AdamHeadsIdeal.nD Cert.AdamHeadsIdeal.τ Cert.AdamHeadsIdeal.sig) → Buf (Elt Ideal) ℓ) : Prop :=
  True

def Pre_AdamHeadsRefIdeal (m : (ℓ : Loc Cert.AdamHeadsRefIdeal.nD Cert.AdamHeadsRefIdeal.τ Cert.AdamHeadsRefIdeal.sig) → Buf (Elt Ideal) ℓ) : Prop :=
  True

def Pre_AdamDn (m : (ℓ : Loc Cert.AdamDn.nD Cert.AdamDn.τ Cert.AdamDn.sig) → Buf (Elt Bits) ℓ) : Prop :=
  True

def Pre_AdamDnIdeal (m : (ℓ : Loc Cert.AdamDnIdeal.nD Cert.AdamDnIdeal.τ Cert.AdamDnIdeal.sig) → Buf (Elt Ideal) ℓ) : Prop :=
  True

def Pre_AdamDnRefIdeal (m : (ℓ : Loc Cert.AdamDnRefIdeal.nD Cert.AdamDnRefIdeal.τ Cert.AdamDnRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamWb (m : (ℓ : Loc Cert.AdamWb.nD Cert.AdamWb.τ Cert.AdamWb.sig) → Buf (Elt Bits) ℓ) : Prop :=
  True

def Pre_AdamWbIdeal (m : (ℓ : Loc Cert.AdamWbIdeal.nD Cert.AdamWbIdeal.τ Cert.AdamWbIdeal.sig) → Buf (Elt Ideal) ℓ) : Prop :=
  True

def Pre_AdamWbRefIdeal (m : (ℓ : Loc Cert.AdamWbRefIdeal.nD Cert.AdamWbRefIdeal.τ Cert.AdamWbRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsRefIdeal (m : (ℓ : Loc Cert.SmallGradsRefIdeal.nD Cert.SmallGradsRefIdeal.τ Cert.SmallGradsRefIdeal.sig) → Buf (Elt Ideal) ℓ) : Prop :=
  True

def Pre_BigGrads (m : (ℓ : Loc Cert.BigGrads.nD Cert.BigGrads.τ Cert.BigGrads.sig) → Buf (Elt Bits) ℓ) : Prop :=
  True

def Pre_BigGradsIdeal (m : (ℓ : Loc Cert.BigGradsIdeal.nD Cert.BigGradsIdeal.τ Cert.BigGradsIdeal.sig) → Buf (Elt Ideal) ℓ) : Prop :=
  True

def Pre_BigGradsRefIdeal (m : (ℓ : Loc Cert.BigGradsRefIdeal.nD Cert.BigGradsRefIdeal.τ Cert.BigGradsRefIdeal.sig) → Buf (Elt Ideal) ℓ) : Prop :=
  True

def Pre_AdaBGrad (m : (ℓ : Loc Cert.AdaBGrad.nD Cert.AdaBGrad.τ Cert.AdaBGrad.sig) → Buf (Elt Bits) ℓ) : Prop :=
  True

def Pre_AdaBGradIdeal (m : (ℓ : Loc Cert.AdaBGradIdeal.nD Cert.AdaBGradIdeal.τ Cert.AdaBGradIdeal.sig) → Buf (Elt Ideal) ℓ) : Prop :=
  True

def Pre_AdaBGradRefIdeal (m : (ℓ : Loc Cert.AdaBGradRefIdeal.nD Cert.AdaBGradRefIdeal.τ Cert.AdaBGradRefIdeal.sig) → Buf (Elt Ideal) ℓ) : Prop :=
  True

def Pre_AdaWGrad (m : (ℓ : Loc Cert.AdaWGrad.nD Cert.AdaWGrad.τ Cert.AdaWGrad.sig) → Buf (Elt Bits) ℓ) : Prop :=
  True

def Pre_AdaWGradIdeal (m : (ℓ : Loc Cert.AdaWGradIdeal.nD Cert.AdaWGradIdeal.τ Cert.AdaWGradIdeal.sig) → Buf (Elt Ideal) ℓ) : Prop :=
  True

def Pre_AdaWGradRefIdeal (m : (ℓ : Loc Cert.AdaWGradRefIdeal.nD Cert.AdaWGradRefIdeal.τ Cert.AdaWGradRefIdeal.sig) → Buf (Elt Ideal) ℓ) : Prop :=
  True

def Pre_CSilu (m : (ℓ : Loc Cert.CSilu.nD Cert.CSilu.τ Cert.CSilu.sig) → Buf (Elt Bits) ℓ) : Prop :=
  True

def Pre_CSiluIdeal (m : (ℓ : Loc Cert.CSiluIdeal.nD Cert.CSiluIdeal.τ Cert.CSiluIdeal.sig) → Buf (Elt Ideal) ℓ) : Prop :=
  True

def Pre_CSiluRefIdeal (m : (ℓ : Loc Cert.CSiluRefIdeal.nD Cert.CSiluRefIdeal.τ Cert.CSiluRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuRefIdeal (m : (ℓ : Loc Cert.FfnGuRefIdeal.nD Cert.FfnGuRefIdeal.τ Cert.FfnGuRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixQkv (m : (ℓ : Loc Cert.MixQkv.nD Cert.MixQkv.τ Cert.MixQkv.sig) → Buf (Elt Bits) ℓ) : Prop :=
  True

def Pre_MixQkvIdeal (m : (ℓ : Loc Cert.MixQkvIdeal.nD Cert.MixQkvIdeal.τ Cert.MixQkvIdeal.sig) → Buf (Elt Ideal) ℓ) : Prop :=
  True

def Pre_MixQkvRefIdeal (m : (ℓ : Loc Cert.MixQkvRefIdeal.nD Cert.MixQkvRefIdeal.τ Cert.MixQkvRefIdeal.sig) → Buf (Elt Ideal) ℓ) : Prop :=
  True

def Pre_MixZ (m : (ℓ : Loc Cert.MixZ.nD Cert.MixZ.τ Cert.MixZ.sig) → Buf (Elt Bits) ℓ) : Prop :=
  True

def Pre_MixZIdeal (m : (ℓ : Loc Cert.MixZIdeal.nD Cert.MixZIdeal.τ Cert.MixZIdeal.sig) → Buf (Elt Ideal) ℓ) : Prop :=
  True

def Pre_MixZRefIdeal (m : (ℓ : Loc Cert.MixZRefIdeal.nD Cert.MixZRefIdeal.τ Cert.MixZRefIdeal.sig) → Buf (Elt Ideal) ℓ) : Prop :=
  True

def Pre_MixBa (m : (ℓ : Loc Cert.MixBa.nD Cert.MixBa.τ Cert.MixBa.sig) → Buf (Elt Bits) ℓ) : Prop :=
  True

def Pre_MixBaIdeal (m : (ℓ : Loc Cert.MixBaIdeal.nD Cert.MixBaIdeal.τ Cert.MixBaIdeal.sig) → Buf (Elt Ideal) ℓ) : Prop :=
  True

def Pre_MixBaRefIdeal (m : (ℓ : Loc Cert.MixBaRefIdeal.nD Cert.MixBaRefIdeal.τ Cert.MixBaRefIdeal.sig) → Buf (Elt Ideal) ℓ) : Prop :=
  True

def Pre_MixDa (m : (ℓ : Loc Cert.MixDa.nD Cert.MixDa.τ Cert.MixDa.sig) → Buf (Elt Bits) ℓ) : Prop :=
  True

def Pre_MixDaIdeal (m : (ℓ : Loc Cert.MixDaIdeal.nD Cert.MixDaIdeal.τ Cert.MixDaIdeal.sig) → Buf (Elt Ideal) ℓ) : Prop :=
  True

def Pre_MixDaRefIdeal (m : (ℓ : Loc Cert.MixDaRefIdeal.nD Cert.MixDaRefIdeal.τ Cert.MixDaRefIdeal.sig) → Buf (Elt Ideal) ℓ) : Prop :=
  True

def Pre_MixPg (m : (ℓ : Loc Cert.MixPg.nD Cert.MixPg.τ Cert.MixPg.sig) → Buf (Elt Bits) ℓ) : Prop :=
  True

def Pre_MixPgIdeal (m : (ℓ : Loc Cert.MixPgIdeal.nD Cert.MixPgIdeal.τ Cert.MixPgIdeal.sig) → Buf (Elt Ideal) ℓ) : Prop :=
  True

def Pre_MixPgRefIdeal (m : (ℓ : Loc Cert.MixPgRefIdeal.nD Cert.MixPgRefIdeal.τ Cert.MixPgRefIdeal.sig) → Buf (Elt Ideal) ℓ) : Prop :=
  True

def Pre_MixWb (m : (ℓ : Loc Cert.MixWb.nD Cert.MixWb.τ Cert.MixWb.sig) → Buf (Elt Bits) ℓ) : Prop :=
  True

def Pre_MixWbIdeal (m : (ℓ : Loc Cert.MixWbIdeal.nD Cert.MixWbIdeal.τ Cert.MixWbIdeal.sig) → Buf (Elt Ideal) ℓ) : Prop :=
  True

def Pre_MixWbRefIdeal (m : (ℓ : Loc Cert.MixWbRefIdeal.nD Cert.MixWbRefIdeal.τ Cert.MixWbRefIdeal.sig) → Buf (Elt Ideal) ℓ) : Prop :=
  True

def Pre_MixGate (m : (ℓ : Loc Cert.MixGate.nD Cert.MixGate.τ Cert.MixGate.sig) → Buf (Elt Bits) ℓ) : Prop :=
  True

def Pre_MixGateIdeal (m : (ℓ : Loc Cert.MixGateIdeal.nD Cert.MixGateIdeal.τ Cert.MixGateIdeal.sig) → Buf (Elt Ideal) ℓ) : Prop :=
  True

def Pre_MixGateRefIdeal (m : (ℓ : Loc Cert.MixGateRefIdeal.nD Cert.MixGateRefIdeal.τ Cert.MixGateRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixWaDx (m : (ℓ : Loc Cert.MixWaDx.nD Cert.MixWaDx.τ Cert.MixWaDx.sig) → Buf (Elt Bits) ℓ) : Prop :=
  True

def Pre_MixWaDxIdeal (m : (ℓ : Loc Cert.MixWaDxIdeal.nD Cert.MixWaDxIdeal.τ Cert.MixWaDxIdeal.sig) → Buf (Elt Ideal) ℓ) : Prop :=
  True

def Pre_MixWaDxRefIdeal (m : (ℓ : Loc Cert.MixWaDxRefIdeal.nD Cert.MixWaDxRefIdeal.τ Cert.MixWaDxRefIdeal.sig) → Buf (Elt Ideal) ℓ) : Prop :=
  True

def Pre_MixWbDx (m : (ℓ : Loc Cert.MixWbDx.nD Cert.MixWbDx.τ Cert.MixWbDx.sig) → Buf (Elt Bits) ℓ) : Prop :=
  True

def Pre_MixWbDxIdeal (m : (ℓ : Loc Cert.MixWbDxIdeal.nD Cert.MixWbDxIdeal.τ Cert.MixWbDxIdeal.sig) → Buf (Elt Ideal) ℓ) : Prop :=
  True

def Pre_MixWbDxRefIdeal (m : (ℓ : Loc Cert.MixWbDxRefIdeal.nD Cert.MixWbDxRefIdeal.τ Cert.MixWbDxRefIdeal.sig) → Buf (Elt Ideal) ℓ) : Prop :=
  True

def Pre_MixQkvDx (m : (ℓ : Loc Cert.MixQkvDx.nD Cert.MixQkvDx.τ Cert.MixQkvDx.sig) → Buf (Elt Bits) ℓ) : Prop :=
  True

def Pre_MixQkvDxIdeal (m : (ℓ : Loc Cert.MixQkvDxIdeal.nD Cert.MixQkvDxIdeal.τ Cert.MixQkvDxIdeal.sig) → Buf (Elt Ideal) ℓ) : Prop :=
  True

def Pre_MixQkvDxRefIdeal (m : (ℓ : Loc Cert.MixQkvDxRefIdeal.nD Cert.MixQkvDxRefIdeal.τ Cert.MixQkvDxRefIdeal.sig) → Buf (Elt Ideal) ℓ) : Prop :=
  True

def Pre_MixZDx (m : (ℓ : Loc Cert.MixZDx.nD Cert.MixZDx.τ Cert.MixZDx.sig) → Buf (Elt Bits) ℓ) : Prop :=
  True

def Pre_MixZDxIdeal (m : (ℓ : Loc Cert.MixZDxIdeal.nD Cert.MixZDxIdeal.τ Cert.MixZDxIdeal.sig) → Buf (Elt Ideal) ℓ) : Prop :=
  True

def Pre_MixZDxRefIdeal (m : (ℓ : Loc Cert.MixZDxRefIdeal.nD Cert.MixZDxRefIdeal.τ Cert.MixZDxRefIdeal.sig) → Buf (Elt Ideal) ℓ) : Prop :=
  True

def Pre_MixBaDx (m : (ℓ : Loc Cert.MixBaDx.nD Cert.MixBaDx.τ Cert.MixBaDx.sig) → Buf (Elt Bits) ℓ) : Prop :=
  True

def Pre_MixBaDxIdeal (m : (ℓ : Loc Cert.MixBaDxIdeal.nD Cert.MixBaDxIdeal.τ Cert.MixBaDxIdeal.sig) → Buf (Elt Ideal) ℓ) : Prop :=
  True

def Pre_MixBaDxRefIdeal (m : (ℓ : Loc Cert.MixBaDxRefIdeal.nD Cert.MixBaDxRefIdeal.τ Cert.MixBaDxRefIdeal.sig) → Buf (Elt Ideal) ℓ) : Prop :=
  True

def Pre_MixDaDx (m : (ℓ : Loc Cert.MixDaDx.nD Cert.MixDaDx.τ Cert.MixDaDx.sig) → Buf (Elt Bits) ℓ) : Prop :=
  True

def Pre_MixDaDxIdeal (m : (ℓ : Loc Cert.MixDaDxIdeal.nD Cert.MixDaDxIdeal.τ Cert.MixDaDxIdeal.sig) → Buf (Elt Ideal) ℓ) : Prop :=
  True

def Pre_MixDaDxRefIdeal (m : (ℓ : Loc Cert.MixDaDxRefIdeal.nD Cert.MixDaDxRefIdeal.τ Cert.MixDaDxRefIdeal.sig) → Buf (Elt Ideal) ℓ) : Prop :=
  True

def Pre_MixPgDx (m : (ℓ : Loc Cert.MixPgDx.nD Cert.MixPgDx.τ Cert.MixPgDx.sig) → Buf (Elt Bits) ℓ) : Prop :=
  True

def Pre_MixPgDxIdeal (m : (ℓ : Loc Cert.MixPgDxIdeal.nD Cert.MixPgDxIdeal.τ Cert.MixPgDxIdeal.sig) → Buf (Elt Ideal) ℓ) : Prop :=
  True

def Pre_MixPgDxRefIdeal (m : (ℓ : Loc Cert.MixPgDxRefIdeal.nD Cert.MixPgDxRefIdeal.τ Cert.MixPgDxRefIdeal.sig) → Buf (Elt Ideal) ℓ) : Prop :=
  True

def Pre_FfnGuDx (m : (ℓ : Loc Cert.FfnGuDx.nD Cert.FfnGuDx.τ Cert.FfnGuDx.sig) → Buf (Elt Bits) ℓ) : Prop :=
  True

def Pre_FfnGuDxIdeal (m : (ℓ : Loc Cert.FfnGuDxIdeal.nD Cert.FfnGuDxIdeal.τ Cert.FfnGuDxIdeal.sig) → Buf (Elt Ideal) ℓ) : Prop :=
  True

def Pre_FfnGuDxRefIdeal (m : (ℓ : Loc Cert.FfnGuDxRefIdeal.nD Cert.FfnGuDxRefIdeal.τ Cert.FfnGuDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnGuDw (m : (ℓ : Loc Cert.FfnGuDw.nD Cert.FfnGuDw.τ Cert.FfnGuDw.sig) → Buf (Elt Bits) ℓ) : Prop :=
  True

def Pre_FfnGuDwIdeal (m : (ℓ : Loc Cert.FfnGuDwIdeal.nD Cert.FfnGuDwIdeal.τ Cert.FfnGuDwIdeal.sig) → Buf (Elt Ideal) ℓ) : Prop :=
  True

def Pre_FfnGuDwRefIdeal (m : (ℓ : Loc Cert.FfnGuDwRefIdeal.nD Cert.FfnGuDwRefIdeal.τ Cert.FfnGuDwRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixWbDw (m : (ℓ : Loc Cert.MixWbDw.nD Cert.MixWbDw.τ Cert.MixWbDw.sig) → Buf (Elt Bits) ℓ) : Prop :=
  True

def Pre_MixWbDwIdeal (m : (ℓ : Loc Cert.MixWbDwIdeal.nD Cert.MixWbDwIdeal.τ Cert.MixWbDwIdeal.sig) → Buf (Elt Ideal) ℓ) : Prop :=
  True

def Pre_MixWbDwRefIdeal (m : (ℓ : Loc Cert.MixWbDwRefIdeal.nD Cert.MixWbDwRefIdeal.τ Cert.MixWbDwRefIdeal.sig) → Buf (Elt Ideal) ℓ) : Prop :=
  True

def Pre_MixQkvDw (m : (ℓ : Loc Cert.MixQkvDw.nD Cert.MixQkvDw.τ Cert.MixQkvDw.sig) → Buf (Elt Bits) ℓ) : Prop :=
  True

def Pre_MixQkvDwIdeal (m : (ℓ : Loc Cert.MixQkvDwIdeal.nD Cert.MixQkvDwIdeal.τ Cert.MixQkvDwIdeal.sig) → Buf (Elt Ideal) ℓ) : Prop :=
  True

def Pre_MixQkvDwRefIdeal (m : (ℓ : Loc Cert.MixQkvDwRefIdeal.nD Cert.MixQkvDwRefIdeal.τ Cert.MixQkvDwRefIdeal.sig) → Buf (Elt Ideal) ℓ) : Prop :=
  True

def Pre_MixBaDw (m : (ℓ : Loc Cert.MixBaDw.nD Cert.MixBaDw.τ Cert.MixBaDw.sig) → Buf (Elt Bits) ℓ) : Prop :=
  True

def Pre_MixBaDwIdeal (m : (ℓ : Loc Cert.MixBaDwIdeal.nD Cert.MixBaDwIdeal.τ Cert.MixBaDwIdeal.sig) → Buf (Elt Ideal) ℓ) : Prop :=
  True

def Pre_MixBaDwRefIdeal (m : (ℓ : Loc Cert.MixBaDwRefIdeal.nD Cert.MixBaDwRefIdeal.τ Cert.MixBaDwRefIdeal.sig) → Buf (Elt Ideal) ℓ) : Prop :=
  True

def Pre_MixDaDw (m : (ℓ : Loc Cert.MixDaDw.nD Cert.MixDaDw.τ Cert.MixDaDw.sig) → Buf (Elt Bits) ℓ) : Prop :=
  True

def Pre_MixDaDwIdeal (m : (ℓ : Loc Cert.MixDaDwIdeal.nD Cert.MixDaDwIdeal.τ Cert.MixDaDwIdeal.sig) → Buf (Elt Ideal) ℓ) : Prop :=
  True

def Pre_MixDaDwRefIdeal (m : (ℓ : Loc Cert.MixDaDwRefIdeal.nD Cert.MixDaDwRefIdeal.τ Cert.MixDaDwRefIdeal.sig) → Buf (Elt Ideal) ℓ) : Prop :=
  True

def Pre_MixPgDw (m : (ℓ : Loc Cert.MixPgDw.nD Cert.MixPgDw.τ Cert.MixPgDw.sig) → Buf (Elt Bits) ℓ) : Prop :=
  True

def Pre_MixPgDwIdeal (m : (ℓ : Loc Cert.MixPgDwIdeal.nD Cert.MixPgDwIdeal.τ Cert.MixPgDwIdeal.sig) → Buf (Elt Ideal) ℓ) : Prop :=
  True

def Pre_MixPgDwRefIdeal (m : (ℓ : Loc Cert.MixPgDwRefIdeal.nD Cert.MixPgDwRefIdeal.τ Cert.MixPgDwRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_FinalSwap [hFinalSwap : Cert.FinalSwap.Facts] : Prop :=
  ∀ (m : (ℓ : Loc Cert.FinalSwap.nD Cert.FinalSwap.τ Cert.FinalSwap.sig) → Buf (Elt Bits) ℓ) (g : Dev Cert.FinalSwap.nD → PrngReg), Pre_FinalSwap m →
    θ_run (Cert.FinalSwap.defs (F := Bits)) (onTc (τ := Cert.FinalSwap.τ) (Cert.FinalSwap.main (F := Bits))) ⟨m, fun _ => 0, g⟩ (fun r => (∀ c : Dev Cert.FinalSwap.nD,
      r.2.mem ((c.tc : Thread Cert.FinalSwap.nD Cert.FinalSwap.τ).loc Cert.FinalSwap.main_arg0) = m ((c.tc : Thread Cert.FinalSwap.nD Cert.FinalSwap.τ).loc Cert.FinalSwap.main_arg0))
      ∧ r.2.sem = fun _ => 0)

def quiescent_FinalSwapIdeal [hFinalSwapIdeal : Cert.FinalSwapIdeal.Facts] : Prop :=
  ∀ (m : (ℓ : Loc Cert.FinalSwapIdeal.nD Cert.FinalSwapIdeal.τ Cert.FinalSwapIdeal.sig) → Buf (Elt Ideal) ℓ) (g : Dev Cert.FinalSwapIdeal.nD → PrngReg), Pre_FinalSwapIdeal m →
    θ_run (Cert.FinalSwapIdeal.defs (F := Ideal)) (onTc (τ := Cert.FinalSwapIdeal.τ) (Cert.FinalSwapIdeal.main (F := Ideal))) ⟨m, fun _ => 0, g⟩ (fun r => (∀ c : Dev Cert.FinalSwapIdeal.nD,
      r.2.mem ((c.tc : Thread Cert.FinalSwapIdeal.nD Cert.FinalSwapIdeal.τ).loc Cert.FinalSwapIdeal.main_arg0) = m ((c.tc : Thread Cert.FinalSwapIdeal.nD Cert.FinalSwapIdeal.τ).loc Cert.FinalSwapIdeal.main_arg0))
      ∧ r.2.sem = fun _ => 0)

def quiescent_FinalSwapRefIdeal [hFinalSwapRefIdeal : Cert.FinalSwapRefIdeal.Facts] : Prop :=
  ∀ (m : (ℓ : Loc Cert.FinalSwapRefIdeal.nD Cert.FinalSwapRefIdeal.τ Cert.FinalSwapRefIdeal.sig) → Buf (Elt Ideal) ℓ) (g : Dev Cert.FinalSwapRefIdeal.nD → PrngReg), Pre_FinalSwapRefIdeal m →
    θ_run (Cert.FinalSwapRefIdeal.defs (F := Ideal)) (onTc (τ := Cert.FinalSwapRefIdeal.τ) (Cert.FinalSwapRefIdeal.main (F := Ideal))) ⟨m, fun _ => 0, g⟩ (fun r => (∀ c : Dev Cert.FinalSwapRefIdeal.nD,
      r.2.mem ((c.tc : Thread Cert.FinalSwapRefIdeal.nD Cert.FinalSwapRefIdeal.τ).loc Cert.FinalSwapRefIdeal.main_arg0) = m ((c.tc : Thread Cert.FinalSwapRefIdeal.nD Cert.FinalSwapRefIdeal.τ).loc Cert.FinalSwapRefIdeal.main_arg0))
      ∧ r.2.sem = fun _ => 0)

def quiescent_FinalSwapRef [hFinalSwapRef : Cert.FinalSwapRef.Facts] : Prop :=
  ∀ (m : (ℓ : Loc Cert.FinalSwapRef.nD Cert.FinalSwapRef.τ Cert.FinalSwapRef.sig) → Buf (Elt Bits) ℓ) (g : Dev Cert.FinalSwapRef.nD → PrngReg), Pre_FinalSwapRef m →
    θ_run (Cert.FinalSwapRef.defs (F := Bits)) (onTc (τ := Cert.FinalSwapRef.τ) (Cert.FinalSwapRef.main (F := Bits))) ⟨m, fun _ => 0, g⟩ (fun r => (∀ c : Dev Cert.FinalSwapRef.nD,
      r.2.mem ((c.tc : Thread Cert.FinalSwapRef.nD Cert.FinalSwapRef.τ).loc Cert.FinalSwapRef.main_arg0) = m ((c.tc : Thread Cert.FinalSwapRef.nD Cert.FinalSwapRef.τ).loc Cert.FinalSwapRef.main_arg0))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamHeads [hAdamHeads : Cert.AdamHeads.Facts] : Prop :=
  ∀ (m : (ℓ : Loc Cert.AdamHeads.nD Cert.AdamHeads.τ Cert.AdamHeads.sig) → Buf (Elt Bits) ℓ) (g : Dev Cert.AdamHeads.nD → PrngReg), Pre_AdamHeads m →
    θ_run (Cert.AdamHeads.defs (F := Bits)) (onTc (τ := Cert.AdamHeads.τ) (Cert.AdamHeads.main (F := Bits))) ⟨m, fun _ => 0, g⟩ (fun r => (∀ c : Dev Cert.AdamHeads.nD,
      r.2.mem ((c.tc : Thread Cert.AdamHeads.nD Cert.AdamHeads.τ).loc Cert.AdamHeads.main_arg0) = m ((c.tc : Thread Cert.AdamHeads.nD Cert.AdamHeads.τ).loc Cert.AdamHeads.main_arg0)
      ∧ r.2.mem ((c.tc : Thread Cert.AdamHeads.nD Cert.AdamHeads.τ).loc Cert.AdamHeads.main_arg1) = m ((c.tc : Thread Cert.AdamHeads.nD Cert.AdamHeads.τ).loc Cert.AdamHeads.main_arg1)
      ∧ r.2.mem ((c.tc : Thread Cert.AdamHeads.nD Cert.AdamHeads.τ).loc Cert.AdamHeads.main_arg2) = m ((c.tc : Thread Cert.AdamHeads.nD Cert.AdamHeads.τ).loc Cert.AdamHeads.main_arg2)
      ∧ r.2.mem ((c.tc : Thread Cert.AdamHeads.nD Cert.AdamHeads.τ).loc Cert.AdamHeads.main_arg3) = m ((c.tc : Thread Cert.AdamHeads.nD Cert.AdamHeads.τ).loc Cert.AdamHeads.main_arg3))
      ∧ r.2.sem = fun _ => 0)

def quiescent_AdamHeadsIdeal [hAdamHeadsIdeal : Cert.AdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg), Pre_AdamHeadsIdeal m →
    θ_run (Cert.AdamHeadsIdeal.defs (F := Ideal)) (onTc (τ := Cert.AdamHeadsIdeal.τ) (Cert.AdamHeadsIdeal.main (F := Ideal))) ⟨m, fun _ => 0, g⟩ (fun r => (∀ c : Dev Cert.AdamHeadsIdeal.nD,
      r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
      ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
      ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
      ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ r.2.sem = fun _ => 0)

def quiescent_AdamHeadsRefIdeal [hAdamHeadsRefIdeal : Cert.AdamHeadsRefIdeal.Facts] : Prop :=
  ∀ (m : (ℓ : Loc Cert.AdamHeadsRefIdeal.nD Cert.AdamHeadsRefIdeal.τ Cert.AdamHeadsRefIdeal.sig) → Buf (Elt Ideal) ℓ) (g : Dev Cert.AdamHeadsRefIdeal.nD → PrngReg), Pre_AdamHeadsRefIdeal m →
    θ_run (Cert.AdamHeadsRefIdeal.defs (F := Ideal)) (onTc (τ := Cert.AdamHeadsRefIdeal.τ) (Cert.AdamHeadsRefIdeal.main (F := Ideal))) ⟨m, fun _ => 0, g⟩ (fun r => (∀ c : Dev Cert.AdamHeadsRefIdeal.nD,
      r.2.mem ((c.tc : Thread Cert.AdamHeadsRefIdeal.nD Cert.AdamHeadsRefIdeal.τ).loc Cert.AdamHeadsRefIdeal.main_arg0) = m ((c.tc : Thread Cert.AdamHeadsRefIdeal.nD Cert.AdamHeadsRefIdeal.τ).loc Cert.AdamHeadsRefIdeal.main_arg0)
      ∧ r.2.mem ((c.tc : Thread Cert.AdamHeadsRefIdeal.nD Cert.AdamHeadsRefIdeal.τ).loc Cert.AdamHeadsRefIdeal.main_arg1) = m ((c.tc : Thread Cert.AdamHeadsRefIdeal.nD Cert.AdamHeadsRefIdeal.τ).loc Cert.AdamHeadsRefIdeal.main_arg1)
      ∧ r.2.mem ((c.tc : Thread Cert.AdamHeadsRefIdeal.nD Cert.AdamHeadsRefIdeal.τ).loc Cert.AdamHeadsRefIdeal.main_arg2) = m ((c.tc : Thread Cert.AdamHeadsRefIdeal.nD Cert.AdamHeadsRefIdeal.τ).loc Cert.AdamHeadsRefIdeal.main_arg2)
      ∧ r.2.mem ((c.tc : Thread Cert.AdamHeadsRefIdeal.nD Cert.AdamHeadsRefIdeal.τ).loc Cert.AdamHeadsRefIdeal.main_arg3) = m ((c.tc : Thread Cert.AdamHeadsRefIdeal.nD Cert.AdamHeadsRefIdeal.τ).loc Cert.AdamHeadsRefIdeal.main_arg3))
      ∧ r.2.sem = fun _ => 0)

def quiescent_AdamDn [hAdamDn : Cert.AdamDn.Facts] : Prop :=
  ∀ (m : (ℓ : Loc Cert.AdamDn.nD Cert.AdamDn.τ Cert.AdamDn.sig) → Buf (Elt Bits) ℓ) (g : Dev Cert.AdamDn.nD → PrngReg), Pre_AdamDn m →
    θ_run (Cert.AdamDn.defs (F := Bits)) (onTc (τ := Cert.AdamDn.τ) (Cert.AdamDn.main (F := Bits))) ⟨m, fun _ => 0, g⟩ (fun r => (∀ c : Dev Cert.AdamDn.nD,
      r.2.mem ((c.tc : Thread Cert.AdamDn.nD Cert.AdamDn.τ).loc Cert.AdamDn.main_arg0) = m ((c.tc : Thread Cert.AdamDn.nD Cert.AdamDn.τ).loc Cert.AdamDn.main_arg0)
      ∧ r.2.mem ((c.tc : Thread Cert.AdamDn.nD Cert.AdamDn.τ).loc Cert.AdamDn.main_arg1) = m ((c.tc : Thread Cert.AdamDn.nD Cert.AdamDn.τ).loc Cert.AdamDn.main_arg1)
      ∧ r.2.mem ((c.tc : Thread Cert.AdamDn.nD Cert.AdamDn.τ).loc Cert.AdamDn.main_arg2) = m ((c.tc : Thread Cert.AdamDn.nD Cert.AdamDn.τ).loc Cert.AdamDn.main_arg2)
      ∧ r.2.mem ((c.tc : Thread Cert.AdamDn.nD Cert.AdamDn.τ).loc Cert.AdamDn.main_arg3) = m ((c.tc : Thread Cert.AdamDn.nD Cert.AdamDn.τ).loc Cert.AdamDn.main_arg3))
      ∧ r.2.sem = fun _ => 0)

def quiescent_AdamDnIdeal [hAdamDnIdeal : Cert.AdamDnIdeal.Facts] : Prop :=
  ∀ (m : (ℓ : Loc Cert.AdamDnIdeal.nD Cert.AdamDnIdeal.τ Cert.AdamDnIdeal.sig) → Buf (Elt Ideal) ℓ) (g : Dev Cert.AdamDnIdeal.nD → PrngReg), Pre_AdamDnIdeal m →
    θ_run (Cert.AdamDnIdeal.defs (F := Ideal)) (onTc (τ := Cert.AdamDnIdeal.τ) (Cert.AdamDnIdeal.main (F := Ideal))) ⟨m, fun _ => 0, g⟩ (fun r => (∀ c : Dev Cert.AdamDnIdeal.nD,
      r.2.mem ((c.tc : Thread Cert.AdamDnIdeal.nD Cert.AdamDnIdeal.τ).loc Cert.AdamDnIdeal.main_arg0) = m ((c.tc : Thread Cert.AdamDnIdeal.nD Cert.AdamDnIdeal.τ).loc Cert.AdamDnIdeal.main_arg0)
      ∧ r.2.mem ((c.tc : Thread Cert.AdamDnIdeal.nD Cert.AdamDnIdeal.τ).loc Cert.AdamDnIdeal.main_arg1) = m ((c.tc : Thread Cert.AdamDnIdeal.nD Cert.AdamDnIdeal.τ).loc Cert.AdamDnIdeal.main_arg1)
      ∧ r.2.mem ((c.tc : Thread Cert.AdamDnIdeal.nD Cert.AdamDnIdeal.τ).loc Cert.AdamDnIdeal.main_arg2) = m ((c.tc : Thread Cert.AdamDnIdeal.nD Cert.AdamDnIdeal.τ).loc Cert.AdamDnIdeal.main_arg2)
      ∧ r.2.mem ((c.tc : Thread Cert.AdamDnIdeal.nD Cert.AdamDnIdeal.τ).loc Cert.AdamDnIdeal.main_arg3) = m ((c.tc : Thread Cert.AdamDnIdeal.nD Cert.AdamDnIdeal.τ).loc Cert.AdamDnIdeal.main_arg3))
      ∧ r.2.sem = fun _ => 0)

def quiescent_AdamDnRefIdeal [hAdamDnRefIdeal : Cert.AdamDnRefIdeal.Facts] : Prop :=
  ∀ (m : (ℓ : Loc Cert.AdamDnRefIdeal.nD Cert.AdamDnRefIdeal.τ Cert.AdamDnRefIdeal.sig) → Buf (Elt Ideal) ℓ) (g : Dev Cert.AdamDnRefIdeal.nD → PrngReg), Pre_AdamDnRefIdeal m →
    θ_run (Cert.AdamDnRefIdeal.defs (F := Ideal)) (onTc (τ := Cert.AdamDnRefIdeal.τ) (Cert.AdamDnRefIdeal.main (F := Ideal))) ⟨m, fun _ => 0, g⟩ (fun r => (∀ c : Dev Cert.AdamDnRefIdeal.nD,
      r.2.mem ((c.tc : Thread Cert.AdamDnRefIdeal.nD Cert.AdamDnRefIdeal.τ).loc Cert.AdamDnRefIdeal.main_arg0) = m ((c.tc : Thread Cert.AdamDnRefIdeal.nD Cert.AdamDnRefIdeal.τ).loc Cert.AdamDnRefIdeal.main_arg0)
      ∧ r.2.mem ((c.tc : Thread Cert.AdamDnRefIdeal.nD Cert.AdamDnRefIdeal.τ).loc Cert.AdamDnRefIdeal.main_arg1) = m ((c.tc : Thread Cert.AdamDnRefIdeal.nD Cert.AdamDnRefIdeal.τ).loc Cert.AdamDnRefIdeal.main_arg1)
      ∧ r.2.mem ((c.tc : Thread Cert.AdamDnRefIdeal.nD Cert.AdamDnRefIdeal.τ).loc Cert.AdamDnRefIdeal.main_arg2) = m ((c.tc : Thread Cert.AdamDnRefIdeal.nD Cert.AdamDnRefIdeal.τ).loc Cert.AdamDnRefIdeal.main_arg2)
      ∧ r.2.mem ((c.tc : Thread Cert.AdamDnRefIdeal.nD Cert.AdamDnRefIdeal.τ).loc Cert.AdamDnRefIdeal.main_arg3) = m ((c.tc : Thread Cert.AdamDnRefIdeal.nD Cert.AdamDnRefIdeal.τ).loc Cert.AdamDnRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamWb [hAdamWb : Cert.AdamWb.Facts] : Prop :=
  ∀ (m : (ℓ : Loc Cert.AdamWb.nD Cert.AdamWb.τ Cert.AdamWb.sig) → Buf (Elt Bits) ℓ) (g : Dev Cert.AdamWb.nD → PrngReg), Pre_AdamWb m →
    θ_run (Cert.AdamWb.defs (F := Bits)) (onTc (τ := Cert.AdamWb.τ) (Cert.AdamWb.main (F := Bits))) ⟨m, fun _ => 0, g⟩ (fun r => (∀ c : Dev Cert.AdamWb.nD,
      r.2.mem ((c.tc : Thread Cert.AdamWb.nD Cert.AdamWb.τ).loc Cert.AdamWb.main_arg0) = m ((c.tc : Thread Cert.AdamWb.nD Cert.AdamWb.τ).loc Cert.AdamWb.main_arg0)
      ∧ r.2.mem ((c.tc : Thread Cert.AdamWb.nD Cert.AdamWb.τ).loc Cert.AdamWb.main_arg1) = m ((c.tc : Thread Cert.AdamWb.nD Cert.AdamWb.τ).loc Cert.AdamWb.main_arg1)
      ∧ r.2.mem ((c.tc : Thread Cert.AdamWb.nD Cert.AdamWb.τ).loc Cert.AdamWb.main_arg2) = m ((c.tc : Thread Cert.AdamWb.nD Cert.AdamWb.τ).loc Cert.AdamWb.main_arg2)
      ∧ r.2.mem ((c.tc : Thread Cert.AdamWb.nD Cert.AdamWb.τ).loc Cert.AdamWb.main_arg3) = m ((c.tc : Thread Cert.AdamWb.nD Cert.AdamWb.τ).loc Cert.AdamWb.main_arg3))
      ∧ r.2.sem = fun _ => 0)

def quiescent_AdamWbIdeal [hAdamWbIdeal : Cert.AdamWbIdeal.Facts] : Prop :=
  ∀ (m : (ℓ : Loc Cert.AdamWbIdeal.nD Cert.AdamWbIdeal.τ Cert.AdamWbIdeal.sig) → Buf (Elt Ideal) ℓ) (g : Dev Cert.AdamWbIdeal.nD → PrngReg), Pre_AdamWbIdeal m →
    θ_run (Cert.AdamWbIdeal.defs (F := Ideal)) (onTc (τ := Cert.AdamWbIdeal.τ) (Cert.AdamWbIdeal.main (F := Ideal))) ⟨m, fun _ => 0, g⟩ (fun r => (∀ c : Dev Cert.AdamWbIdeal.nD,
      r.2.mem ((c.tc : Thread Cert.AdamWbIdeal.nD Cert.AdamWbIdeal.τ).loc Cert.AdamWbIdeal.main_arg0) = m ((c.tc : Thread Cert.AdamWbIdeal.nD Cert.AdamWbIdeal.τ).loc Cert.AdamWbIdeal.main_arg0)
      ∧ r.2.mem ((c.tc : Thread Cert.AdamWbIdeal.nD Cert.AdamWbIdeal.τ).loc Cert.AdamWbIdeal.main_arg1) = m ((c.tc : Thread Cert.AdamWbIdeal.nD Cert.AdamWbIdeal.τ).loc Cert.AdamWbIdeal.main_arg1)
      ∧ r.2.mem ((c.tc : Thread Cert.AdamWbIdeal.nD Cert.AdamWbIdeal.τ).loc Cert.AdamWbIdeal.main_arg2) = m ((c.tc : Thread Cert.AdamWbIdeal.nD Cert.AdamWbIdeal.τ).loc Cert.AdamWbIdeal.main_arg2)
      ∧ r.2.mem ((c.tc : Thread Cert.AdamWbIdeal.nD Cert.AdamWbIdeal.τ).loc Cert.AdamWbIdeal.main_arg3) = m ((c.tc : Thread Cert.AdamWbIdeal.nD Cert.AdamWbIdeal.τ).loc Cert.AdamWbIdeal.main_arg3))
      ∧ r.2.sem = fun _ => 0)

def quiescent_AdamWbRefIdeal [hAdamWbRefIdeal : Cert.AdamWbRefIdeal.Facts] : Prop :=
  ∀ (m : (ℓ : Loc Cert.AdamWbRefIdeal.nD Cert.AdamWbRefIdeal.τ Cert.AdamWbRefIdeal.sig) → Buf (Elt Ideal) ℓ) (g : Dev Cert.AdamWbRefIdeal.nD → PrngReg), Pre_AdamWbRefIdeal m →
    θ_run (Cert.AdamWbRefIdeal.defs (F := Ideal)) (onTc (τ := Cert.AdamWbRefIdeal.τ) (Cert.AdamWbRefIdeal.main (F := Ideal))) ⟨m, fun _ => 0, g⟩ (fun r => (∀ c : Dev Cert.AdamWbRefIdeal.nD,
      r.2.mem ((c.tc : Thread Cert.AdamWbRefIdeal.nD Cert.AdamWbRefIdeal.τ).loc Cert.AdamWbRefIdeal.main_arg0) = m ((c.tc : Thread Cert.AdamWbRefIdeal.nD Cert.AdamWbRefIdeal.τ).loc Cert.AdamWbRefIdeal.main_arg0)
      ∧ r.2.mem ((c.tc : Thread Cert.AdamWbRefIdeal.nD Cert.AdamWbRefIdeal.τ).loc Cert.AdamWbRefIdeal.main_arg1) = m ((c.tc : Thread Cert.AdamWbRefIdeal.nD Cert.AdamWbRefIdeal.τ).loc Cert.AdamWbRefIdeal.main_arg1)
      ∧ r.2.mem ((c.tc : Thread Cert.AdamWbRefIdeal.nD Cert.AdamWbRefIdeal.τ).loc Cert.AdamWbRefIdeal.main_arg2) = m ((c.tc : Thread Cert.AdamWbRefIdeal.nD Cert.AdamWbRefIdeal.τ).loc Cert.AdamWbRefIdeal.main_arg2)
      ∧ r.2.mem ((c.tc : Thread Cert.AdamWbRefIdeal.nD Cert.AdamWbRefIdeal.τ).loc Cert.AdamWbRefIdeal.main_arg3) = m ((c.tc : Thread Cert.AdamWbRefIdeal.nD Cert.AdamWbRefIdeal.τ).loc Cert.AdamWbRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0)
      ∧ r.2.mem ((c.tc : Thread Cert.SmallGrads.nD Cert.SmallGrads.τ).loc Cert.SmallGrads.main_arg1) = m ((c.tc : Thread Cert.SmallGrads.nD Cert.SmallGrads.τ).loc Cert.SmallGrads.main_arg1)
      ∧ r.2.mem ((c.tc : Thread Cert.SmallGrads.nD Cert.SmallGrads.τ).loc Cert.SmallGrads.main_arg2) = m ((c.tc : Thread Cert.SmallGrads.nD Cert.SmallGrads.τ).loc Cert.SmallGrads.main_arg2)
      ∧ r.2.mem ((c.tc : Thread Cert.SmallGrads.nD Cert.SmallGrads.τ).loc Cert.SmallGrads.main_arg3) = m ((c.tc : Thread Cert.SmallGrads.nD Cert.SmallGrads.τ).loc Cert.SmallGrads.main_arg3)
      ∧ r.2.mem ((c.tc : Thread Cert.SmallGrads.nD Cert.SmallGrads.τ).loc Cert.SmallGrads.main_arg4) = m ((c.tc : Thread Cert.SmallGrads.nD Cert.SmallGrads.τ).loc Cert.SmallGrads.main_arg4)
      ∧ r.2.mem ((c.tc : Thread Cert.SmallGrads.nD Cert.SmallGrads.τ).loc Cert.SmallGrads.main_arg5) = m ((c.tc : Thread Cert.SmallGrads.nD Cert.SmallGrads.τ).loc Cert.SmallGrads.main_arg5)
      ∧ r.2.mem ((c.tc : Thread Cert.SmallGrads.nD Cert.SmallGrads.τ).loc Cert.SmallGrads.main_arg6) = m ((c.tc : Thread Cert.SmallGrads.nD Cert.SmallGrads.τ).loc Cert.SmallGrads.main_arg6)
      ∧ r.2.mem ((c.tc : Thread Cert.SmallGrads.nD Cert.SmallGrads.τ).loc Cert.SmallGrads.main_arg7) = m ((c.tc : Thread Cert.SmallGrads.nD Cert.SmallGrads.τ).loc Cert.SmallGrads.main_arg7)
      ∧ r.2.mem ((c.tc : Thread Cert.SmallGrads.nD Cert.SmallGrads.τ).loc Cert.SmallGrads.main_arg8) = m ((c.tc : Thread Cert.SmallGrads.nD Cert.SmallGrads.τ).loc Cert.SmallGrads.main_arg8))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
      ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
      ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
      ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
      ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
      ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
      ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
      ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
      ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8))
      ∧ r.2.sem = fun _ => 0)

def quiescent_SmallGradsRefIdeal [hSmallGradsRefIdeal : Cert.SmallGradsRefIdeal.Facts] : Prop :=
  ∀ (m : (ℓ : Loc Cert.SmallGradsRefIdeal.nD Cert.SmallGradsRefIdeal.τ Cert.SmallGradsRefIdeal.sig) → Buf (Elt Ideal) ℓ) (g : Dev Cert.SmallGradsRefIdeal.nD → PrngReg), Pre_SmallGradsRefIdeal m →
    θ_run (Cert.SmallGradsRefIdeal.defs (F := Ideal)) (onTc (τ := Cert.SmallGradsRefIdeal.τ) (Cert.SmallGradsRefIdeal.main (F := Ideal))) ⟨m, fun _ => 0, g⟩ (fun r => (∀ c : Dev Cert.SmallGradsRefIdeal.nD,
      r.2.mem ((c.tc : Thread Cert.SmallGradsRefIdeal.nD Cert.SmallGradsRefIdeal.τ).loc Cert.SmallGradsRefIdeal.main_arg0) = m ((c.tc : Thread Cert.SmallGradsRefIdeal.nD Cert.SmallGradsRefIdeal.τ).loc Cert.SmallGradsRefIdeal.main_arg0)
      ∧ r.2.mem ((c.tc : Thread Cert.SmallGradsRefIdeal.nD Cert.SmallGradsRefIdeal.τ).loc Cert.SmallGradsRefIdeal.main_arg1) = m ((c.tc : Thread Cert.SmallGradsRefIdeal.nD Cert.SmallGradsRefIdeal.τ).loc Cert.SmallGradsRefIdeal.main_arg1)
      ∧ r.2.mem ((c.tc : Thread Cert.SmallGradsRefIdeal.nD Cert.SmallGradsRefIdeal.τ).loc Cert.SmallGradsRefIdeal.main_arg2) = m ((c.tc : Thread Cert.SmallGradsRefIdeal.nD Cert.SmallGradsRefIdeal.τ).loc Cert.SmallGradsRefIdeal.main_arg2)
      ∧ r.2.mem ((c.tc : Thread Cert.SmallGradsRefIdeal.nD Cert.SmallGradsRefIdeal.τ).loc Cert.SmallGradsRefIdeal.main_arg3) = m ((c.tc : Thread Cert.SmallGradsRefIdeal.nD Cert.SmallGradsRefIdeal.τ).loc Cert.SmallGradsRefIdeal.main_arg3)
      ∧ r.2.mem ((c.tc : Thread Cert.SmallGradsRefIdeal.nD Cert.SmallGradsRefIdeal.τ).loc Cert.SmallGradsRefIdeal.main_arg4) = m ((c.tc : Thread Cert.SmallGradsRefIdeal.nD Cert.SmallGradsRefIdeal.τ).loc Cert.SmallGradsRefIdeal.main_arg4)
      ∧ r.2.mem ((c.tc : Thread Cert.SmallGradsRefIdeal.nD Cert.SmallGradsRefIdeal.τ).loc Cert.SmallGradsRefIdeal.main_arg5) = m ((c.tc : Thread Cert.SmallGradsRefIdeal.nD Cert.SmallGradsRefIdeal.τ).loc Cert.SmallGradsRefIdeal.main_arg5)
      ∧ r.2.mem ((c.tc : Thread Cert.SmallGradsRefIdeal.nD Cert.SmallGradsRefIdeal.τ).loc Cert.SmallGradsRefIdeal.main_arg6) = m ((c.tc : Thread Cert.SmallGradsRefIdeal.nD Cert.SmallGradsRefIdeal.τ).loc Cert.SmallGradsRefIdeal.main_arg6)
      ∧ r.2.mem ((c.tc : Thread Cert.SmallGradsRefIdeal.nD Cert.SmallGradsRefIdeal.τ).loc Cert.SmallGradsRefIdeal.main_arg7) = m ((c.tc : Thread Cert.SmallGradsRefIdeal.nD Cert.SmallGradsRefIdeal.τ).loc Cert.SmallGradsRefIdeal.main_arg7)
      ∧ r.2.mem ((c.tc : Thread Cert.SmallGradsRefIdeal.nD Cert.SmallGradsRefIdeal.τ).loc Cert.SmallGradsRefIdeal.main_arg8) = m ((c.tc : Thread Cert.SmallGradsRefIdeal.nD Cert.SmallGradsRefIdeal.τ).loc Cert.SmallGradsRefIdeal.main_arg8))
      ∧ r.2.sem = fun _ => 0)

def quiescent_BigGrads [hBigGrads : Cert.BigGrads.Facts] : Prop :=
  ∀ (m : (ℓ : Loc Cert.BigGrads.nD Cert.BigGrads.τ Cert.BigGrads.sig) → Buf (Elt Bits) ℓ) (g : Dev Cert.BigGrads.nD → PrngReg), Pre_BigGrads m →
    θ_run (Cert.BigGrads.defs (F := Bits)) (onTc (τ := Cert.BigGrads.τ) (Cert.BigGrads.main (F := Bits))) ⟨m, fun _ => 0, g⟩ (fun r => (∀ c : Dev Cert.BigGrads.nD,
      r.2.mem ((c.tc : Thread Cert.BigGrads.nD Cert.BigGrads.τ).loc Cert.BigGrads.main_arg0) = m ((c.tc : Thread Cert.BigGrads.nD Cert.BigGrads.τ).loc Cert.BigGrads.main_arg0)
      ∧ r.2.mem ((c.tc : Thread Cert.BigGrads.nD Cert.BigGrads.τ).loc Cert.BigGrads.main_arg1) = m ((c.tc : Thread Cert.BigGrads.nD Cert.BigGrads.τ).loc Cert.BigGrads.main_arg1)
      ∧ r.2.mem ((c.tc : Thread Cert.BigGrads.nD Cert.BigGrads.τ).loc Cert.BigGrads.main_arg2) = m ((c.tc : Thread Cert.BigGrads.nD Cert.BigGrads.τ).loc Cert.BigGrads.main_arg2)
      ∧ r.2.mem ((c.tc : Thread Cert.BigGrads.nD Cert.BigGrads.τ).loc Cert.BigGrads.main_arg3) = m ((c.tc : Thread Cert.BigGrads.nD Cert.BigGrads.τ).loc Cert.BigGrads.main_arg3)
      ∧ r.2.mem ((c.tc : Thread Cert.BigGrads.nD Cert.BigGrads.τ).loc Cert.BigGrads.main_arg4) = m ((c.tc : Thread Cert.BigGrads.nD Cert.BigGrads.τ).loc Cert.BigGrads.main_arg4)
      ∧ r.2.mem ((c.tc : Thread Cert.BigGrads.nD Cert.BigGrads.τ).loc Cert.BigGrads.main_arg5) = m ((c.tc : Thread Cert.BigGrads.nD Cert.BigGrads.τ).loc Cert.BigGrads.main_arg5)
      ∧ r.2.mem ((c.tc : Thread Cert.BigGrads.nD Cert.BigGrads.τ).loc Cert.BigGrads.main_arg6) = m ((c.tc : Thread Cert.BigGrads.nD Cert.BigGrads.τ).loc Cert.BigGrads.main_arg6)
      ∧ r.2.mem ((c.tc : Thread Cert.BigGrads.nD Cert.BigGrads.τ).loc Cert.BigGrads.main_arg7) = m ((c.tc : Thread Cert.BigGrads.nD Cert.BigGrads.τ).loc Cert.BigGrads.main_arg7)
      ∧ r.2.mem ((c.tc : Thread Cert.BigGrads.nD Cert.BigGrads.τ).loc Cert.BigGrads.main_arg8) = m ((c.tc : Thread Cert.BigGrads.nD Cert.BigGrads.τ).loc Cert.BigGrads.main_arg8)
      ∧ r.2.mem ((c.tc : Thread Cert.BigGrads.nD Cert.BigGrads.τ).loc Cert.BigGrads.main_arg9) = m ((c.tc : Thread Cert.BigGrads.nD Cert.BigGrads.τ).loc Cert.BigGrads.main_arg9))
      ∧ r.2.sem = fun _ => 0)

def quiescent_BigGradsIdeal [hBigGradsIdeal : Cert.BigGradsIdeal.Facts] : Prop :=
  ∀ (m : (ℓ : Loc Cert.BigGradsIdeal.nD Cert.BigGradsIdeal.τ Cert.BigGradsIdeal.sig) → Buf (Elt Ideal) ℓ) (g : Dev Cert.BigGradsIdeal.nD → PrngReg), Pre_BigGradsIdeal m →
    θ_run (Cert.BigGradsIdeal.defs (F := Ideal)) (onTc (τ := Cert.BigGradsIdeal.τ) (Cert.BigGradsIdeal.main (F := Ideal))) ⟨m, fun _ => 0, g⟩ (fun r => (∀ c : Dev Cert.BigGradsIdeal.nD,
      r.2.mem ((c.tc : Thread Cert.BigGradsIdeal.nD Cert.BigGradsIdeal.τ).loc Cert.BigGradsIdeal.main_arg0) = m ((c.tc : Thread Cert.BigGradsIdeal.nD Cert.BigGradsIdeal.τ).loc Cert.BigGradsIdeal.main_arg0)
      ∧ r.2.mem ((c.tc : Thread Cert.BigGradsIdeal.nD Cert.BigGradsIdeal.τ).loc Cert.BigGradsIdeal.main_arg1) = m ((c.tc : Thread Cert.BigGradsIdeal.nD Cert.BigGradsIdeal.τ).loc Cert.BigGradsIdeal.main_arg1)
      ∧ r.2.mem ((c.tc : Thread Cert.BigGradsIdeal.nD Cert.BigGradsIdeal.τ).loc Cert.BigGradsIdeal.main_arg2) = m ((c.tc : Thread Cert.BigGradsIdeal.nD Cert.BigGradsIdeal.τ).loc Cert.BigGradsIdeal.main_arg2)
      ∧ r.2.mem ((c.tc : Thread Cert.BigGradsIdeal.nD Cert.BigGradsIdeal.τ).loc Cert.BigGradsIdeal.main_arg3) = m ((c.tc : Thread Cert.BigGradsIdeal.nD Cert.BigGradsIdeal.τ).loc Cert.BigGradsIdeal.main_arg3)
      ∧ r.2.mem ((c.tc : Thread Cert.BigGradsIdeal.nD Cert.BigGradsIdeal.τ).loc Cert.BigGradsIdeal.main_arg4) = m ((c.tc : Thread Cert.BigGradsIdeal.nD Cert.BigGradsIdeal.τ).loc Cert.BigGradsIdeal.main_arg4)
      ∧ r.2.mem ((c.tc : Thread Cert.BigGradsIdeal.nD Cert.BigGradsIdeal.τ).loc Cert.BigGradsIdeal.main_arg5) = m ((c.tc : Thread Cert.BigGradsIdeal.nD Cert.BigGradsIdeal.τ).loc Cert.BigGradsIdeal.main_arg5)
      ∧ r.2.mem ((c.tc : Thread Cert.BigGradsIdeal.nD Cert.BigGradsIdeal.τ).loc Cert.BigGradsIdeal.main_arg6) = m ((c.tc : Thread Cert.BigGradsIdeal.nD Cert.BigGradsIdeal.τ).loc Cert.BigGradsIdeal.main_arg6)
      ∧ r.2.mem ((c.tc : Thread Cert.BigGradsIdeal.nD Cert.BigGradsIdeal.τ).loc Cert.BigGradsIdeal.main_arg7) = m ((c.tc : Thread Cert.BigGradsIdeal.nD Cert.BigGradsIdeal.τ).loc Cert.BigGradsIdeal.main_arg7)
      ∧ r.2.mem ((c.tc : Thread Cert.BigGradsIdeal.nD Cert.BigGradsIdeal.τ).loc Cert.BigGradsIdeal.main_arg8) = m ((c.tc : Thread Cert.BigGradsIdeal.nD Cert.BigGradsIdeal.τ).loc Cert.BigGradsIdeal.main_arg8)
      ∧ r.2.mem ((c.tc : Thread Cert.BigGradsIdeal.nD Cert.BigGradsIdeal.τ).loc Cert.BigGradsIdeal.main_arg9) = m ((c.tc : Thread Cert.BigGradsIdeal.nD Cert.BigGradsIdeal.τ).loc Cert.BigGradsIdeal.main_arg9))
      ∧ r.2.sem = fun _ => 0)

def quiescent_BigGradsRefIdeal [hBigGradsRefIdeal : Cert.BigGradsRefIdeal.Facts] : Prop :=
  ∀ (m : (ℓ : Loc Cert.BigGradsRefIdeal.nD Cert.BigGradsRefIdeal.τ Cert.BigGradsRefIdeal.sig) → Buf (Elt Ideal) ℓ) (g : Dev Cert.BigGradsRefIdeal.nD → PrngReg), Pre_BigGradsRefIdeal m →
    θ_run (Cert.BigGradsRefIdeal.defs (F := Ideal)) (onTc (τ := Cert.BigGradsRefIdeal.τ) (Cert.BigGradsRefIdeal.main (F := Ideal))) ⟨m, fun _ => 0, g⟩ (fun r => (∀ c : Dev Cert.BigGradsRefIdeal.nD,
      r.2.mem ((c.tc : Thread Cert.BigGradsRefIdeal.nD Cert.BigGradsRefIdeal.τ).loc Cert.BigGradsRefIdeal.main_arg0) = m ((c.tc : Thread Cert.BigGradsRefIdeal.nD Cert.BigGradsRefIdeal.τ).loc Cert.BigGradsRefIdeal.main_arg0)
      ∧ r.2.mem ((c.tc : Thread Cert.BigGradsRefIdeal.nD Cert.BigGradsRefIdeal.τ).loc Cert.BigGradsRefIdeal.main_arg1) = m ((c.tc : Thread Cert.BigGradsRefIdeal.nD Cert.BigGradsRefIdeal.τ).loc Cert.BigGradsRefIdeal.main_arg1)
      ∧ r.2.mem ((c.tc : Thread Cert.BigGradsRefIdeal.nD Cert.BigGradsRefIdeal.τ).loc Cert.BigGradsRefIdeal.main_arg2) = m ((c.tc : Thread Cert.BigGradsRefIdeal.nD Cert.BigGradsRefIdeal.τ).loc Cert.BigGradsRefIdeal.main_arg2)
      ∧ r.2.mem ((c.tc : Thread Cert.BigGradsRefIdeal.nD Cert.BigGradsRefIdeal.τ).loc Cert.BigGradsRefIdeal.main_arg3) = m ((c.tc : Thread Cert.BigGradsRefIdeal.nD Cert.BigGradsRefIdeal.τ).loc Cert.BigGradsRefIdeal.main_arg3)
      ∧ r.2.mem ((c.tc : Thread Cert.BigGradsRefIdeal.nD Cert.BigGradsRefIdeal.τ).loc Cert.BigGradsRefIdeal.main_arg4) = m ((c.tc : Thread Cert.BigGradsRefIdeal.nD Cert.BigGradsRefIdeal.τ).loc Cert.BigGradsRefIdeal.main_arg4)
      ∧ r.2.mem ((c.tc : Thread Cert.BigGradsRefIdeal.nD Cert.BigGradsRefIdeal.τ).loc Cert.BigGradsRefIdeal.main_arg5) = m ((c.tc : Thread Cert.BigGradsRefIdeal.nD Cert.BigGradsRefIdeal.τ).loc Cert.BigGradsRefIdeal.main_arg5)
      ∧ r.2.mem ((c.tc : Thread Cert.BigGradsRefIdeal.nD Cert.BigGradsRefIdeal.τ).loc Cert.BigGradsRefIdeal.main_arg6) = m ((c.tc : Thread Cert.BigGradsRefIdeal.nD Cert.BigGradsRefIdeal.τ).loc Cert.BigGradsRefIdeal.main_arg6)
      ∧ r.2.mem ((c.tc : Thread Cert.BigGradsRefIdeal.nD Cert.BigGradsRefIdeal.τ).loc Cert.BigGradsRefIdeal.main_arg7) = m ((c.tc : Thread Cert.BigGradsRefIdeal.nD Cert.BigGradsRefIdeal.τ).loc Cert.BigGradsRefIdeal.main_arg7)
      ∧ r.2.mem ((c.tc : Thread Cert.BigGradsRefIdeal.nD Cert.BigGradsRefIdeal.τ).loc Cert.BigGradsRefIdeal.main_arg8) = m ((c.tc : Thread Cert.BigGradsRefIdeal.nD Cert.BigGradsRefIdeal.τ).loc Cert.BigGradsRefIdeal.main_arg8)
      ∧ r.2.mem ((c.tc : Thread Cert.BigGradsRefIdeal.nD Cert.BigGradsRefIdeal.τ).loc Cert.BigGradsRefIdeal.main_arg9) = m ((c.tc : Thread Cert.BigGradsRefIdeal.nD Cert.BigGradsRefIdeal.τ).loc Cert.BigGradsRefIdeal.main_arg9))
      ∧ r.2.sem = fun _ => 0)

def quiescent_AdaBGrad [hAdaBGrad : Cert.AdaBGrad.Facts] : Prop :=
  ∀ (m : (ℓ : Loc Cert.AdaBGrad.nD Cert.AdaBGrad.τ Cert.AdaBGrad.sig) → Buf (Elt Bits) ℓ) (g : Dev Cert.AdaBGrad.nD → PrngReg), Pre_AdaBGrad m →
    θ_run (Cert.AdaBGrad.defs (F := Bits)) (onTc (τ := Cert.AdaBGrad.τ) (Cert.AdaBGrad.main (F := Bits))) ⟨m, fun _ => 0, g⟩ (fun r => (∀ c : Dev Cert.AdaBGrad.nD,
      r.2.mem ((c.tc : Thread Cert.AdaBGrad.nD Cert.AdaBGrad.τ).loc Cert.AdaBGrad.main_arg0) = m ((c.tc : Thread Cert.AdaBGrad.nD Cert.AdaBGrad.τ).loc Cert.AdaBGrad.main_arg0))
      ∧ r.2.sem = fun _ => 0)

def quiescent_AdaBGradIdeal [hAdaBGradIdeal : Cert.AdaBGradIdeal.Facts] : Prop :=
  ∀ (m : (ℓ : Loc Cert.AdaBGradIdeal.nD Cert.AdaBGradIdeal.τ Cert.AdaBGradIdeal.sig) → Buf (Elt Ideal) ℓ) (g : Dev Cert.AdaBGradIdeal.nD → PrngReg), Pre_AdaBGradIdeal m →
    θ_run (Cert.AdaBGradIdeal.defs (F := Ideal)) (onTc (τ := Cert.AdaBGradIdeal.τ) (Cert.AdaBGradIdeal.main (F := Ideal))) ⟨m, fun _ => 0, g⟩ (fun r => (∀ c : Dev Cert.AdaBGradIdeal.nD,
      r.2.mem ((c.tc : Thread Cert.AdaBGradIdeal.nD Cert.AdaBGradIdeal.τ).loc Cert.AdaBGradIdeal.main_arg0) = m ((c.tc : Thread Cert.AdaBGradIdeal.nD Cert.AdaBGradIdeal.τ).loc Cert.AdaBGradIdeal.main_arg0))
      ∧ r.2.sem = fun _ => 0)

def quiescent_AdaBGradRefIdeal [hAdaBGradRefIdeal : Cert.AdaBGradRefIdeal.Facts] : Prop :=
  ∀ (m : (ℓ : Loc Cert.AdaBGradRefIdeal.nD Cert.AdaBGradRefIdeal.τ Cert.AdaBGradRefIdeal.sig) → Buf (Elt Ideal) ℓ) (g : Dev Cert.AdaBGradRefIdeal.nD → PrngReg), Pre_AdaBGradRefIdeal m →
    θ_run (Cert.AdaBGradRefIdeal.defs (F := Ideal)) (onTc (τ := Cert.AdaBGradRefIdeal.τ) (Cert.AdaBGradRefIdeal.main (F := Ideal))) ⟨m, fun _ => 0, g⟩ (fun r => (∀ c : Dev Cert.AdaBGradRefIdeal.nD,
      r.2.mem ((c.tc : Thread Cert.AdaBGradRefIdeal.nD Cert.AdaBGradRefIdeal.τ).loc Cert.AdaBGradRefIdeal.main_arg0) = m ((c.tc : Thread Cert.AdaBGradRefIdeal.nD Cert.AdaBGradRefIdeal.τ).loc Cert.AdaBGradRefIdeal.main_arg0))
      ∧ r.2.sem = fun _ => 0)

def quiescent_AdaWGrad [hAdaWGrad : Cert.AdaWGrad.Facts] : Prop :=
  ∀ (m : (ℓ : Loc Cert.AdaWGrad.nD Cert.AdaWGrad.τ Cert.AdaWGrad.sig) → Buf (Elt Bits) ℓ) (g : Dev Cert.AdaWGrad.nD → PrngReg), Pre_AdaWGrad m →
    θ_run (Cert.AdaWGrad.defs (F := Bits)) (onTc (τ := Cert.AdaWGrad.τ) (Cert.AdaWGrad.main (F := Bits))) ⟨m, fun _ => 0, g⟩ (fun r => (∀ c : Dev Cert.AdaWGrad.nD,
      r.2.mem ((c.tc : Thread Cert.AdaWGrad.nD Cert.AdaWGrad.τ).loc Cert.AdaWGrad.main_arg0) = m ((c.tc : Thread Cert.AdaWGrad.nD Cert.AdaWGrad.τ).loc Cert.AdaWGrad.main_arg0)
      ∧ r.2.mem ((c.tc : Thread Cert.AdaWGrad.nD Cert.AdaWGrad.τ).loc Cert.AdaWGrad.main_arg1) = m ((c.tc : Thread Cert.AdaWGrad.nD Cert.AdaWGrad.τ).loc Cert.AdaWGrad.main_arg1))
      ∧ r.2.sem = fun _ => 0)

def quiescent_AdaWGradIdeal [hAdaWGradIdeal : Cert.AdaWGradIdeal.Facts] : Prop :=
  ∀ (m : (ℓ : Loc Cert.AdaWGradIdeal.nD Cert.AdaWGradIdeal.τ Cert.AdaWGradIdeal.sig) → Buf (Elt Ideal) ℓ) (g : Dev Cert.AdaWGradIdeal.nD → PrngReg), Pre_AdaWGradIdeal m →
    θ_run (Cert.AdaWGradIdeal.defs (F := Ideal)) (onTc (τ := Cert.AdaWGradIdeal.τ) (Cert.AdaWGradIdeal.main (F := Ideal))) ⟨m, fun _ => 0, g⟩ (fun r => (∀ c : Dev Cert.AdaWGradIdeal.nD,
      r.2.mem ((c.tc : Thread Cert.AdaWGradIdeal.nD Cert.AdaWGradIdeal.τ).loc Cert.AdaWGradIdeal.main_arg0) = m ((c.tc : Thread Cert.AdaWGradIdeal.nD Cert.AdaWGradIdeal.τ).loc Cert.AdaWGradIdeal.main_arg0)
      ∧ r.2.mem ((c.tc : Thread Cert.AdaWGradIdeal.nD Cert.AdaWGradIdeal.τ).loc Cert.AdaWGradIdeal.main_arg1) = m ((c.tc : Thread Cert.AdaWGradIdeal.nD Cert.AdaWGradIdeal.τ).loc Cert.AdaWGradIdeal.main_arg1))
      ∧ r.2.sem = fun _ => 0)

def quiescent_AdaWGradRefIdeal [hAdaWGradRefIdeal : Cert.AdaWGradRefIdeal.Facts] : Prop :=
  ∀ (m : (ℓ : Loc Cert.AdaWGradRefIdeal.nD Cert.AdaWGradRefIdeal.τ Cert.AdaWGradRefIdeal.sig) → Buf (Elt Ideal) ℓ) (g : Dev Cert.AdaWGradRefIdeal.nD → PrngReg), Pre_AdaWGradRefIdeal m →
    θ_run (Cert.AdaWGradRefIdeal.defs (F := Ideal)) (onTc (τ := Cert.AdaWGradRefIdeal.τ) (Cert.AdaWGradRefIdeal.main (F := Ideal))) ⟨m, fun _ => 0, g⟩ (fun r => (∀ c : Dev Cert.AdaWGradRefIdeal.nD,
      r.2.mem ((c.tc : Thread Cert.AdaWGradRefIdeal.nD Cert.AdaWGradRefIdeal.τ).loc Cert.AdaWGradRefIdeal.main_arg0) = m ((c.tc : Thread Cert.AdaWGradRefIdeal.nD Cert.AdaWGradRefIdeal.τ).loc Cert.AdaWGradRefIdeal.main_arg0)
      ∧ r.2.mem ((c.tc : Thread Cert.AdaWGradRefIdeal.nD Cert.AdaWGradRefIdeal.τ).loc Cert.AdaWGradRefIdeal.main_arg1) = m ((c.tc : Thread Cert.AdaWGradRefIdeal.nD Cert.AdaWGradRefIdeal.τ).loc Cert.AdaWGradRefIdeal.main_arg1))
      ∧ r.2.sem = fun _ => 0)

def quiescent_CSilu [hCSilu : Cert.CSilu.Facts] : Prop :=
  ∀ (m : (ℓ : Loc Cert.CSilu.nD Cert.CSilu.τ Cert.CSilu.sig) → Buf (Elt Bits) ℓ) (g : Dev Cert.CSilu.nD → PrngReg), Pre_CSilu m →
    θ_run (Cert.CSilu.defs (F := Bits)) (onTc (τ := Cert.CSilu.τ) (Cert.CSilu.main (F := Bits))) ⟨m, fun _ => 0, g⟩ (fun r => (∀ c : Dev Cert.CSilu.nD,
      r.2.mem ((c.tc : Thread Cert.CSilu.nD Cert.CSilu.τ).loc Cert.CSilu.main_arg0) = m ((c.tc : Thread Cert.CSilu.nD Cert.CSilu.τ).loc Cert.CSilu.main_arg0))
      ∧ r.2.sem = fun _ => 0)

def quiescent_CSiluIdeal [hCSiluIdeal : Cert.CSiluIdeal.Facts] : Prop :=
  ∀ (m : (ℓ : Loc Cert.CSiluIdeal.nD Cert.CSiluIdeal.τ Cert.CSiluIdeal.sig) → Buf (Elt Ideal) ℓ) (g : Dev Cert.CSiluIdeal.nD → PrngReg), Pre_CSiluIdeal m →
    θ_run (Cert.CSiluIdeal.defs (F := Ideal)) (onTc (τ := Cert.CSiluIdeal.τ) (Cert.CSiluIdeal.main (F := Ideal))) ⟨m, fun _ => 0, g⟩ (fun r => (∀ c : Dev Cert.CSiluIdeal.nD,
      r.2.mem ((c.tc : Thread Cert.CSiluIdeal.nD Cert.CSiluIdeal.τ).loc Cert.CSiluIdeal.main_arg0) = m ((c.tc : Thread Cert.CSiluIdeal.nD Cert.CSiluIdeal.τ).loc Cert.CSiluIdeal.main_arg0))
      ∧ r.2.sem = fun _ => 0)

def quiescent_CSiluRefIdeal [hCSiluRefIdeal : Cert.CSiluRefIdeal.Facts] : Prop :=
  ∀ (m : (ℓ : Loc Cert.CSiluRefIdeal.nD Cert.CSiluRefIdeal.τ Cert.CSiluRefIdeal.sig) → Buf (Elt Ideal) ℓ) (g : Dev Cert.CSiluRefIdeal.nD → PrngReg), Pre_CSiluRefIdeal m →
    θ_run (Cert.CSiluRefIdeal.defs (F := Ideal)) (onTc (τ := Cert.CSiluRefIdeal.τ) (Cert.CSiluRefIdeal.main (F := Ideal))) ⟨m, fun _ => 0, g⟩ (fun r => (∀ c : Dev Cert.CSiluRefIdeal.nD,
      r.2.mem ((c.tc : Thread Cert.CSiluRefIdeal.nD Cert.CSiluRefIdeal.τ).loc Cert.CSiluRefIdeal.main_arg0) = m ((c.tc : Thread Cert.CSiluRefIdeal.nD Cert.CSiluRefIdeal.τ).loc Cert.CSiluRefIdeal.main_arg0))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3))
      ∧ r.2.sem = fun _ => 0)

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ r.2.sem = fun _ => 0)

def quiescent_FfnGuRefIdeal [hFfnGuRefIdeal : Cert.FfnGuRefIdeal.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_MixQkv [hMixQkv : Cert.MixQkv.Facts] : Prop :=
  ∀ (m : (ℓ : Loc Cert.MixQkv.nD Cert.MixQkv.τ Cert.MixQkv.sig) → Buf (Elt Bits) ℓ) (g : Dev Cert.MixQkv.nD → PrngReg), Pre_MixQkv m →
    θ_run (Cert.MixQkv.defs (F := Bits)) (onTc (τ := Cert.MixQkv.τ) (Cert.MixQkv.main (F := Bits))) ⟨m, fun _ => 0, g⟩ (fun r => (∀ c : Dev Cert.MixQkv.nD,
      r.2.mem ((c.tc : Thread Cert.MixQkv.nD Cert.MixQkv.τ).loc Cert.MixQkv.main_arg0) = m ((c.tc : Thread Cert.MixQkv.nD Cert.MixQkv.τ).loc Cert.MixQkv.main_arg0)
      ∧ r.2.mem ((c.tc : Thread Cert.MixQkv.nD Cert.MixQkv.τ).loc Cert.MixQkv.main_arg1) = m ((c.tc : Thread Cert.MixQkv.nD Cert.MixQkv.τ).loc Cert.MixQkv.main_arg1))
      ∧ r.2.sem = fun _ => 0)

def quiescent_MixQkvIdeal [hMixQkvIdeal : Cert.MixQkvIdeal.Facts] : Prop :=
  ∀ (m : (ℓ : Loc Cert.MixQkvIdeal.nD Cert.MixQkvIdeal.τ Cert.MixQkvIdeal.sig) → Buf (Elt Ideal) ℓ) (g : Dev Cert.MixQkvIdeal.nD → PrngReg), Pre_MixQkvIdeal m →
    θ_run (Cert.MixQkvIdeal.defs (F := Ideal)) (onTc (τ := Cert.MixQkvIdeal.τ) (Cert.MixQkvIdeal.main (F := Ideal))) ⟨m, fun _ => 0, g⟩ (fun r => (∀ c : Dev Cert.MixQkvIdeal.nD,
      r.2.mem ((c.tc : Thread Cert.MixQkvIdeal.nD Cert.MixQkvIdeal.τ).loc Cert.MixQkvIdeal.main_arg0) = m ((c.tc : Thread Cert.MixQkvIdeal.nD Cert.MixQkvIdeal.τ).loc Cert.MixQkvIdeal.main_arg0)
      ∧ r.2.mem ((c.tc : Thread Cert.MixQkvIdeal.nD Cert.MixQkvIdeal.τ).loc Cert.MixQkvIdeal.main_arg1) = m ((c.tc : Thread Cert.MixQkvIdeal.nD Cert.MixQkvIdeal.τ).loc Cert.MixQkvIdeal.main_arg1))
      ∧ r.2.sem = fun _ => 0)

def quiescent_MixQkvRefIdeal [hMixQkvRefIdeal : Cert.MixQkvRefIdeal.Facts] : Prop :=
  ∀ (m : (ℓ : Loc Cert.MixQkvRefIdeal.nD Cert.MixQkvRefIdeal.τ Cert.MixQkvRefIdeal.sig) → Buf (Elt Ideal) ℓ) (g : Dev Cert.MixQkvRefIdeal.nD → PrngReg), Pre_MixQkvRefIdeal m →
    θ_run (Cert.MixQkvRefIdeal.defs (F := Ideal)) (onTc (τ := Cert.MixQkvRefIdeal.τ) (Cert.MixQkvRefIdeal.main (F := Ideal))) ⟨m, fun _ => 0, g⟩ (fun r => (∀ c : Dev Cert.MixQkvRefIdeal.nD,
      r.2.mem ((c.tc : Thread Cert.MixQkvRefIdeal.nD Cert.MixQkvRefIdeal.τ).loc Cert.MixQkvRefIdeal.main_arg0) = m ((c.tc : Thread Cert.MixQkvRefIdeal.nD Cert.MixQkvRefIdeal.τ).loc Cert.MixQkvRefIdeal.main_arg0)
      ∧ r.2.mem ((c.tc : Thread Cert.MixQkvRefIdeal.nD Cert.MixQkvRefIdeal.τ).loc Cert.MixQkvRefIdeal.main_arg1) = m ((c.tc : Thread Cert.MixQkvRefIdeal.nD Cert.MixQkvRefIdeal.τ).loc Cert.MixQkvRefIdeal.main_arg1))
      ∧ r.2.sem = fun _ => 0)

def quiescent_MixZ [hMixZ : Cert.MixZ.Facts] : Prop :=
  ∀ (m : (ℓ : Loc Cert.MixZ.nD Cert.MixZ.τ Cert.MixZ.sig) → Buf (Elt Bits) ℓ) (g : Dev Cert.MixZ.nD → PrngReg), Pre_MixZ m →
    θ_run (Cert.MixZ.defs (F := Bits)) (onTc (τ := Cert.MixZ.τ) (Cert.MixZ.main (F := Bits))) ⟨m, fun _ => 0, g⟩ (fun r => (∀ c : Dev Cert.MixZ.nD,
      r.2.mem ((c.tc : Thread Cert.MixZ.nD Cert.MixZ.τ).loc Cert.MixZ.main_arg0) = m ((c.tc : Thread Cert.MixZ.nD Cert.MixZ.τ).loc Cert.MixZ.main_arg0)
      ∧ r.2.mem ((c.tc : Thread Cert.MixZ.nD Cert.MixZ.τ).loc Cert.MixZ.main_arg1) = m ((c.tc : Thread Cert.MixZ.nD Cert.MixZ.τ).loc Cert.MixZ.main_arg1))
      ∧ r.2.sem = fun _ => 0)

def quiescent_MixZIdeal [hMixZIdeal : Cert.MixZIdeal.Facts] : Prop :=
  ∀ (m : (ℓ : Loc Cert.MixZIdeal.nD Cert.MixZIdeal.τ Cert.MixZIdeal.sig) → Buf (Elt Ideal) ℓ) (g : Dev Cert.MixZIdeal.nD → PrngReg), Pre_MixZIdeal m →
    θ_run (Cert.MixZIdeal.defs (F := Ideal)) (onTc (τ := Cert.MixZIdeal.τ) (Cert.MixZIdeal.main (F := Ideal))) ⟨m, fun _ => 0, g⟩ (fun r => (∀ c : Dev Cert.MixZIdeal.nD,
      r.2.mem ((c.tc : Thread Cert.MixZIdeal.nD Cert.MixZIdeal.τ).loc Cert.MixZIdeal.main_arg0) = m ((c.tc : Thread Cert.MixZIdeal.nD Cert.MixZIdeal.τ).loc Cert.MixZIdeal.main_arg0)
      ∧ r.2.mem ((c.tc : Thread Cert.MixZIdeal.nD Cert.MixZIdeal.τ).loc Cert.MixZIdeal.main_arg1) = m ((c.tc : Thread Cert.MixZIdeal.nD Cert.MixZIdeal.τ).loc Cert.MixZIdeal.main_arg1))
      ∧ r.2.sem = fun _ => 0)

def quiescent_MixZRefIdeal [hMixZRefIdeal : Cert.MixZRefIdeal.Facts] : Prop :=
  ∀ (m : (ℓ : Loc Cert.MixZRefIdeal.nD Cert.MixZRefIdeal.τ Cert.MixZRefIdeal.sig) → Buf (Elt Ideal) ℓ) (g : Dev Cert.MixZRefIdeal.nD → PrngReg), Pre_MixZRefIdeal m →
    θ_run (Cert.MixZRefIdeal.defs (F := Ideal)) (onTc (τ := Cert.MixZRefIdeal.τ) (Cert.MixZRefIdeal.main (F := Ideal))) ⟨m, fun _ => 0, g⟩ (fun r => (∀ c : Dev Cert.MixZRefIdeal.nD,
      r.2.mem ((c.tc : Thread Cert.MixZRefIdeal.nD Cert.MixZRefIdeal.τ).loc Cert.MixZRefIdeal.main_arg0) = m ((c.tc : Thread Cert.MixZRefIdeal.nD Cert.MixZRefIdeal.τ).loc Cert.MixZRefIdeal.main_arg0)
      ∧ r.2.mem ((c.tc : Thread Cert.MixZRefIdeal.nD Cert.MixZRefIdeal.τ).loc Cert.MixZRefIdeal.main_arg1) = m ((c.tc : Thread Cert.MixZRefIdeal.nD Cert.MixZRefIdeal.τ).loc Cert.MixZRefIdeal.main_arg1))
      ∧ r.2.sem = fun _ => 0)

def quiescent_MixBa [hMixBa : Cert.MixBa.Facts] : Prop :=
  ∀ (m : (ℓ : Loc Cert.MixBa.nD Cert.MixBa.τ Cert.MixBa.sig) → Buf (Elt Bits) ℓ) (g : Dev Cert.MixBa.nD → PrngReg), Pre_MixBa m →
    θ_run (Cert.MixBa.defs (F := Bits)) (onTc (τ := Cert.MixBa.τ) (Cert.MixBa.main (F := Bits))) ⟨m, fun _ => 0, g⟩ (fun r => (∀ c : Dev Cert.MixBa.nD,
      r.2.mem ((c.tc : Thread Cert.MixBa.nD Cert.MixBa.τ).loc Cert.MixBa.main_arg0) = m ((c.tc : Thread Cert.MixBa.nD Cert.MixBa.τ).loc Cert.MixBa.main_arg0)
      ∧ r.2.mem ((c.tc : Thread Cert.MixBa.nD Cert.MixBa.τ).loc Cert.MixBa.main_arg1) = m ((c.tc : Thread Cert.MixBa.nD Cert.MixBa.τ).loc Cert.MixBa.main_arg1))
      ∧ r.2.sem = fun _ => 0)

def quiescent_MixBaIdeal [hMixBaIdeal : Cert.MixBaIdeal.Facts] : Prop :=
  ∀ (m : (ℓ : Loc Cert.MixBaIdeal.nD Cert.MixBaIdeal.τ Cert.MixBaIdeal.sig) → Buf (Elt Ideal) ℓ) (g : Dev Cert.MixBaIdeal.nD → PrngReg), Pre_MixBaIdeal m →
    θ_run (Cert.MixBaIdeal.defs (F := Ideal)) (onTc (τ := Cert.MixBaIdeal.τ) (Cert.MixBaIdeal.main (F := Ideal))) ⟨m, fun _ => 0, g⟩ (fun r => (∀ c : Dev Cert.MixBaIdeal.nD,
      r.2.mem ((c.tc : Thread Cert.MixBaIdeal.nD Cert.MixBaIdeal.τ).loc Cert.MixBaIdeal.main_arg0) = m ((c.tc : Thread Cert.MixBaIdeal.nD Cert.MixBaIdeal.τ).loc Cert.MixBaIdeal.main_arg0)
      ∧ r.2.mem ((c.tc : Thread Cert.MixBaIdeal.nD Cert.MixBaIdeal.τ).loc Cert.MixBaIdeal.main_arg1) = m ((c.tc : Thread Cert.MixBaIdeal.nD Cert.MixBaIdeal.τ).loc Cert.MixBaIdeal.main_arg1))
      ∧ r.2.sem = fun _ => 0)

def quiescent_MixBaRefIdeal [hMixBaRefIdeal : Cert.MixBaRefIdeal.Facts] : Prop :=
  ∀ (m : (ℓ : Loc Cert.MixBaRefIdeal.nD Cert.MixBaRefIdeal.τ Cert.MixBaRefIdeal.sig) → Buf (Elt Ideal) ℓ) (g : Dev Cert.MixBaRefIdeal.nD → PrngReg), Pre_MixBaRefIdeal m →
    θ_run (Cert.MixBaRefIdeal.defs (F := Ideal)) (onTc (τ := Cert.MixBaRefIdeal.τ) (Cert.MixBaRefIdeal.main (F := Ideal))) ⟨m, fun _ => 0, g⟩ (fun r => (∀ c : Dev Cert.MixBaRefIdeal.nD,
      r.2.mem ((c.tc : Thread Cert.MixBaRefIdeal.nD Cert.MixBaRefIdeal.τ).loc Cert.MixBaRefIdeal.main_arg0) = m ((c.tc : Thread Cert.MixBaRefIdeal.nD Cert.MixBaRefIdeal.τ).loc Cert.MixBaRefIdeal.main_arg0)
      ∧ r.2.mem ((c.tc : Thread Cert.MixBaRefIdeal.nD Cert.MixBaRefIdeal.τ).loc Cert.MixBaRefIdeal.main_arg1) = m ((c.tc : Thread Cert.MixBaRefIdeal.nD Cert.MixBaRefIdeal.τ).loc Cert.MixBaRefIdeal.main_arg1))
      ∧ r.2.sem = fun _ => 0)

def quiescent_MixDa [hMixDa : Cert.MixDa.Facts] : Prop :=
  ∀ (m : (ℓ : Loc Cert.MixDa.nD Cert.MixDa.τ Cert.MixDa.sig) → Buf (Elt Bits) ℓ) (g : Dev Cert.MixDa.nD → PrngReg), Pre_MixDa m →
    θ_run (Cert.MixDa.defs (F := Bits)) (onTc (τ := Cert.MixDa.τ) (Cert.MixDa.main (F := Bits))) ⟨m, fun _ => 0, g⟩ (fun r => (∀ c : Dev Cert.MixDa.nD,
      r.2.mem ((c.tc : Thread Cert.MixDa.nD Cert.MixDa.τ).loc Cert.MixDa.main_arg0) = m ((c.tc : Thread Cert.MixDa.nD Cert.MixDa.τ).loc Cert.MixDa.main_arg0)
      ∧ r.2.mem ((c.tc : Thread Cert.MixDa.nD Cert.MixDa.τ).loc Cert.MixDa.main_arg1) = m ((c.tc : Thread Cert.MixDa.nD Cert.MixDa.τ).loc Cert.MixDa.main_arg1))
      ∧ r.2.sem = fun _ => 0)

def quiescent_MixDaIdeal [hMixDaIdeal : Cert.MixDaIdeal.Facts] : Prop :=
  ∀ (m : (ℓ : Loc Cert.MixDaIdeal.nD Cert.MixDaIdeal.τ Cert.MixDaIdeal.sig) → Buf (Elt Ideal) ℓ) (g : Dev Cert.MixDaIdeal.nD → PrngReg), Pre_MixDaIdeal m →
    θ_run (Cert.MixDaIdeal.defs (F := Ideal)) (onTc (τ := Cert.MixDaIdeal.τ) (Cert.MixDaIdeal.main (F := Ideal))) ⟨m, fun _ => 0, g⟩ (fun r => (∀ c : Dev Cert.MixDaIdeal.nD,
      r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
      ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ r.2.sem = fun _ => 0)

def quiescent_MixDaRefIdeal [hMixDaRefIdeal : Cert.MixDaRefIdeal.Facts] : Prop :=
  ∀ (m : (ℓ : Loc Cert.MixDaRefIdeal.nD Cert.MixDaRefIdeal.τ Cert.MixDaRefIdeal.sig) → Buf (Elt Ideal) ℓ) (g : Dev Cert.MixDaRefIdeal.nD → PrngReg), Pre_MixDaRefIdeal m →
    θ_run (Cert.MixDaRefIdeal.defs (F := Ideal)) (onTc (τ := Cert.MixDaRefIdeal.τ) (Cert.MixDaRefIdeal.main (F := Ideal))) ⟨m, fun _ => 0, g⟩ (fun r => (∀ c : Dev Cert.MixDaRefIdeal.nD,
      r.2.mem ((c.tc : Thread Cert.MixDaRefIdeal.nD Cert.MixDaRefIdeal.τ).loc Cert.MixDaRefIdeal.main_arg0) = m ((c.tc : Thread Cert.MixDaRefIdeal.nD Cert.MixDaRefIdeal.τ).loc Cert.MixDaRefIdeal.main_arg0)
      ∧ r.2.mem ((c.tc : Thread Cert.MixDaRefIdeal.nD Cert.MixDaRefIdeal.τ).loc Cert.MixDaRefIdeal.main_arg1) = m ((c.tc : Thread Cert.MixDaRefIdeal.nD Cert.MixDaRefIdeal.τ).loc Cert.MixDaRefIdeal.main_arg1))
      ∧ r.2.sem = fun _ => 0)

def quiescent_MixPg [hMixPg : Cert.MixPg.Facts] : Prop :=
  ∀ (m : (ℓ : Loc Cert.MixPg.nD Cert.MixPg.τ Cert.MixPg.sig) → Buf (Elt Bits) ℓ) (g : Dev Cert.MixPg.nD → PrngReg), Pre_MixPg m →
    θ_run (Cert.MixPg.defs (F := Bits)) (onTc (τ := Cert.MixPg.τ) (Cert.MixPg.main (F := Bits))) ⟨m, fun _ => 0, g⟩ (fun r => (∀ c : Dev Cert.MixPg.nD,
      r.2.mem ((c.tc : Thread Cert.MixPg.nD Cert.MixPg.τ).loc Cert.MixPg.main_arg0) = m ((c.tc : Thread Cert.MixPg.nD Cert.MixPg.τ).loc Cert.MixPg.main_arg0)
      ∧ r.2.mem ((c.tc : Thread Cert.MixPg.nD Cert.MixPg.τ).loc Cert.MixPg.main_arg1) = m ((c.tc : Thread Cert.MixPg.nD Cert.MixPg.τ).loc Cert.MixPg.main_arg1))
      ∧ r.2.sem = fun _ => 0)

def quiescent_MixPgIdeal [hMixPgIdeal : Cert.MixPgIdeal.Facts] : Prop :=
  ∀ (m : (ℓ : Loc Cert.MixPgIdeal.nD Cert.MixPgIdeal.τ Cert.MixPgIdeal.sig) → Buf (Elt Ideal) ℓ) (g : Dev Cert.MixPgIdeal.nD → PrngReg), Pre_MixPgIdeal m →
    θ_run (Cert.MixPgIdeal.defs (F := Ideal)) (onTc (τ := Cert.MixPgIdeal.τ) (Cert.MixPgIdeal.main (F := Ideal))) ⟨m, fun _ => 0, g⟩ (fun r => (∀ c : Dev Cert.MixPgIdeal.nD,
      r.2.mem ((c.tc : Thread Cert.MixPgIdeal.nD Cert.MixPgIdeal.τ).loc Cert.MixPgIdeal.main_arg0) = m ((c.tc : Thread Cert.MixPgIdeal.nD Cert.MixPgIdeal.τ).loc Cert.MixPgIdeal.main_arg0)
      ∧ r.2.mem ((c.tc : Thread Cert.MixPgIdeal.nD Cert.MixPgIdeal.τ).loc Cert.MixPgIdeal.main_arg1) = m ((c.tc : Thread Cert.MixPgIdeal.nD Cert.MixPgIdeal.τ).loc Cert.MixPgIdeal.main_arg1))
      ∧ r.2.sem = fun _ => 0)

def quiescent_MixPgRefIdeal [hMixPgRefIdeal : Cert.MixPgRefIdeal.Facts] : Prop :=
  ∀ (m : (ℓ : Loc Cert.MixPgRefIdeal.nD Cert.MixPgRefIdeal.τ Cert.MixPgRefIdeal.sig) → Buf (Elt Ideal) ℓ) (g : Dev Cert.MixPgRefIdeal.nD → PrngReg), Pre_MixPgRefIdeal m →
    θ_run (Cert.MixPgRefIdeal.defs (F := Ideal)) (onTc (τ := Cert.MixPgRefIdeal.τ) (Cert.MixPgRefIdeal.main (F := Ideal))) ⟨m, fun _ => 0, g⟩ (fun r => (∀ c : Dev Cert.MixPgRefIdeal.nD,
      r.2.mem ((c.tc : Thread Cert.MixPgRefIdeal.nD Cert.MixPgRefIdeal.τ).loc Cert.MixPgRefIdeal.main_arg0) = m ((c.tc : Thread Cert.MixPgRefIdeal.nD Cert.MixPgRefIdeal.τ).loc Cert.MixPgRefIdeal.main_arg0)
      ∧ r.2.mem ((c.tc : Thread Cert.MixPgRefIdeal.nD Cert.MixPgRefIdeal.τ).loc Cert.MixPgRefIdeal.main_arg1) = m ((c.tc : Thread Cert.MixPgRefIdeal.nD Cert.MixPgRefIdeal.τ).loc Cert.MixPgRefIdeal.main_arg1))
      ∧ r.2.sem = fun _ => 0)

def quiescent_MixWb [hMixWb : Cert.MixWb.Facts] : Prop :=
  ∀ (m : (ℓ : Loc Cert.MixWb.nD Cert.MixWb.τ Cert.MixWb.sig) → Buf (Elt Bits) ℓ) (g : Dev Cert.MixWb.nD → PrngReg), Pre_MixWb m →
    θ_run (Cert.MixWb.defs (F := Bits)) (onTc (τ := Cert.MixWb.τ) (Cert.MixWb.main (F := Bits))) ⟨m, fun _ => 0, g⟩ (fun r => (∀ c : Dev Cert.MixWb.nD,
      r.2.mem ((c.tc : Thread Cert.MixWb.nD Cert.MixWb.τ).loc Cert.MixWb.main_arg0) = m ((c.tc : Thread Cert.MixWb.nD Cert.MixWb.τ).loc Cert.MixWb.main_arg0)
      ∧ r.2.mem ((c.tc : Thread Cert.MixWb.nD Cert.MixWb.τ).loc Cert.MixWb.main_arg1) = m ((c.tc : Thread Cert.MixWb.nD Cert.MixWb.τ).loc Cert.MixWb.main_arg1))
      ∧ r.2.sem = fun _ => 0)

def quiescent_MixWbIdeal [hMixWbIdeal : Cert.MixWbIdeal.Facts] : Prop :=
  ∀ (m : (ℓ : Loc Cert.MixWbIdeal.nD Cert.MixWbIdeal.τ Cert.MixWbIdeal.sig) → Buf (Elt Ideal) ℓ) (g : Dev Cert.MixWbIdeal.nD → PrngReg), Pre_MixWbIdeal m →
    θ_run (Cert.MixWbIdeal.defs (F := Ideal)) (onTc (τ := Cert.MixWbIdeal.τ) (Cert.MixWbIdeal.main (F := Ideal))) ⟨m, fun _ => 0, g⟩ (fun r => (∀ c : Dev Cert.MixWbIdeal.nD,
      r.2.mem ((c.tc : Thread Cert.MixWbIdeal.nD Cert.MixWbIdeal.τ).loc Cert.MixWbIdeal.main_arg0) = m ((c.tc : Thread Cert.MixWbIdeal.nD Cert.MixWbIdeal.τ).loc Cert.MixWbIdeal.main_arg0)
      ∧ r.2.mem ((c.tc : Thread Cert.MixWbIdeal.nD Cert.MixWbIdeal.τ).loc Cert.MixWbIdeal.main_arg1) = m ((c.tc : Thread Cert.MixWbIdeal.nD Cert.MixWbIdeal.τ).loc Cert.MixWbIdeal.main_arg1))
      ∧ r.2.sem = fun _ => 0)

def quiescent_MixWbRefIdeal [hMixWbRefIdeal : Cert.MixWbRefIdeal.Facts] : Prop :=
  ∀ (m : (ℓ : Loc Cert.MixWbRefIdeal.nD Cert.MixWbRefIdeal.τ Cert.MixWbRefIdeal.sig) → Buf (Elt Ideal) ℓ) (g : Dev Cert.MixWbRefIdeal.nD → PrngReg), Pre_MixWbRefIdeal m →
    θ_run (Cert.MixWbRefIdeal.defs (F := Ideal)) (onTc (τ := Cert.MixWbRefIdeal.τ) (Cert.MixWbRefIdeal.main (F := Ideal))) ⟨m, fun _ => 0, g⟩ (fun r => (∀ c : Dev Cert.MixWbRefIdeal.nD,
      r.2.mem ((c.tc : Thread Cert.MixWbRefIdeal.nD Cert.MixWbRefIdeal.τ).loc Cert.MixWbRefIdeal.main_arg0) = m ((c.tc : Thread Cert.MixWbRefIdeal.nD Cert.MixWbRefIdeal.τ).loc Cert.MixWbRefIdeal.main_arg0)
      ∧ r.2.mem ((c.tc : Thread Cert.MixWbRefIdeal.nD Cert.MixWbRefIdeal.τ).loc Cert.MixWbRefIdeal.main_arg1) = m ((c.tc : Thread Cert.MixWbRefIdeal.nD Cert.MixWbRefIdeal.τ).loc Cert.MixWbRefIdeal.main_arg1))
      ∧ r.2.sem = fun _ => 0)

def quiescent_MixGate [hMixGate : Cert.MixGate.Facts] : Prop :=
  ∀ (m : (ℓ : Loc Cert.MixGate.nD Cert.MixGate.τ Cert.MixGate.sig) → Buf (Elt Bits) ℓ) (g : Dev Cert.MixGate.nD → PrngReg), Pre_MixGate m →
    θ_run (Cert.MixGate.defs (F := Bits)) (onTc (τ := Cert.MixGate.τ) (Cert.MixGate.main (F := Bits))) ⟨m, fun _ => 0, g⟩ (fun r => (∀ c : Dev Cert.MixGate.nD,
      r.2.mem ((c.tc : Thread Cert.MixGate.nD Cert.MixGate.τ).loc Cert.MixGate.main_arg0) = m ((c.tc : Thread Cert.MixGate.nD Cert.MixGate.τ).loc Cert.MixGate.main_arg0)
      ∧ r.2.mem ((c.tc : Thread Cert.MixGate.nD Cert.MixGate.τ).loc Cert.MixGate.main_arg1) = m ((c.tc : Thread Cert.MixGate.nD Cert.MixGate.τ).loc Cert.MixGate.main_arg1)
      ∧ r.2.mem ((c.tc : Thread Cert.MixGate.nD Cert.MixGate.τ).loc Cert.MixGate.main_arg2) = m ((c.tc : Thread Cert.MixGate.nD Cert.MixGate.τ).loc Cert.MixGate.main_arg2))
      ∧ r.2.sem = fun _ => 0)

def quiescent_MixGateIdeal [hMixGateIdeal : Cert.MixGateIdeal.Facts] : Prop :=
  ∀ (m : (ℓ : Loc Cert.MixGateIdeal.nD Cert.MixGateIdeal.τ Cert.MixGateIdeal.sig) → Buf (Elt Ideal) ℓ) (g : Dev Cert.MixGateIdeal.nD → PrngReg), Pre_MixGateIdeal m →
    θ_run (Cert.MixGateIdeal.defs (F := Ideal)) (onTc (τ := Cert.MixGateIdeal.τ) (Cert.MixGateIdeal.main (F := Ideal))) ⟨m, fun _ => 0, g⟩ (fun r => (∀ c : Dev Cert.MixGateIdeal.nD,
      r.2.mem ((c.tc : Thread Cert.MixGateIdeal.nD Cert.MixGateIdeal.τ).loc Cert.MixGateIdeal.main_arg0) = m ((c.tc : Thread Cert.MixGateIdeal.nD Cert.MixGateIdeal.τ).loc Cert.MixGateIdeal.main_arg0)
      ∧ r.2.mem ((c.tc : Thread Cert.MixGateIdeal.nD Cert.MixGateIdeal.τ).loc Cert.MixGateIdeal.main_arg1) = m ((c.tc : Thread Cert.MixGateIdeal.nD Cert.MixGateIdeal.τ).loc Cert.MixGateIdeal.main_arg1)
      ∧ r.2.mem ((c.tc : Thread Cert.MixGateIdeal.nD Cert.MixGateIdeal.τ).loc Cert.MixGateIdeal.main_arg2) = m ((c.tc : Thread Cert.MixGateIdeal.nD Cert.MixGateIdeal.τ).loc Cert.MixGateIdeal.main_arg2))
      ∧ r.2.sem = fun _ => 0)

def quiescent_MixGateRefIdeal [hMixGateRefIdeal : Cert.MixGateRefIdeal.Facts] : Prop :=
  ∀ (m : (ℓ : Loc Cert.MixGateRefIdeal.nD Cert.MixGateRefIdeal.τ Cert.MixGateRefIdeal.sig) → Buf (Elt Ideal) ℓ) (g : Dev Cert.MixGateRefIdeal.nD → PrngReg), Pre_MixGateRefIdeal m →
    θ_run (Cert.MixGateRefIdeal.defs (F := Ideal)) (onTc (τ := Cert.MixGateRefIdeal.τ) (Cert.MixGateRefIdeal.main (F := Ideal))) ⟨m, fun _ => 0, g⟩ (fun r => (∀ c : Dev Cert.MixGateRefIdeal.nD,
      r.2.mem ((c.tc : Thread Cert.MixGateRefIdeal.nD Cert.MixGateRefIdeal.τ).loc Cert.MixGateRefIdeal.main_arg0) = m ((c.tc : Thread Cert.MixGateRefIdeal.nD Cert.MixGateRefIdeal.τ).loc Cert.MixGateRefIdeal.main_arg0)
      ∧ r.2.mem ((c.tc : Thread Cert.MixGateRefIdeal.nD Cert.MixGateRefIdeal.τ).loc Cert.MixGateRefIdeal.main_arg1) = m ((c.tc : Thread Cert.MixGateRefIdeal.nD Cert.MixGateRefIdeal.τ).loc Cert.MixGateRefIdeal.main_arg1)
      ∧ r.2.mem ((c.tc : Thread Cert.MixGateRefIdeal.nD Cert.MixGateRefIdeal.τ).loc Cert.MixGateRefIdeal.main_arg2) = m ((c.tc : Thread Cert.MixGateRefIdeal.nD Cert.MixGateRefIdeal.τ).loc Cert.MixGateRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixWaDx [hMixWaDx : Cert.MixWaDx.Facts] : Prop :=
  ∀ (m : (ℓ : Loc Cert.MixWaDx.nD Cert.MixWaDx.τ Cert.MixWaDx.sig) → Buf (Elt Bits) ℓ) (g : Dev Cert.MixWaDx.nD → PrngReg), Pre_MixWaDx m →
    θ_run (Cert.MixWaDx.defs (F := Bits)) (onTc (τ := Cert.MixWaDx.τ) (Cert.MixWaDx.main (F := Bits))) ⟨m, fun _ => 0, g⟩ (fun r => (∀ c : Dev Cert.MixWaDx.nD,
      r.2.mem ((c.tc : Thread Cert.MixWaDx.nD Cert.MixWaDx.τ).loc Cert.MixWaDx.main_arg0) = m ((c.tc : Thread Cert.MixWaDx.nD Cert.MixWaDx.τ).loc Cert.MixWaDx.main_arg0)
      ∧ r.2.mem ((c.tc : Thread Cert.MixWaDx.nD Cert.MixWaDx.τ).loc Cert.MixWaDx.main_arg1) = m ((c.tc : Thread Cert.MixWaDx.nD Cert.MixWaDx.τ).loc Cert.MixWaDx.main_arg1))
      ∧ r.2.sem = fun _ => 0)

def quiescent_MixWaDxIdeal [hMixWaDxIdeal : Cert.MixWaDxIdeal.Facts] : Prop :=
  ∀ (m : (ℓ : Loc Cert.MixWaDxIdeal.nD Cert.MixWaDxIdeal.τ Cert.MixWaDxIdeal.sig) → Buf (Elt Ideal) ℓ) (g : Dev Cert.MixWaDxIdeal.nD → PrngReg), Pre_MixWaDxIdeal m →
    θ_run (Cert.MixWaDxIdeal.defs (F := Ideal)) (onTc (τ := Cert.MixWaDxIdeal.τ) (Cert.MixWaDxIdeal.main (F := Ideal))) ⟨m, fun _ => 0, g⟩ (fun r => (∀ c : Dev Cert.MixWaDxIdeal.nD,
      r.2.mem ((c.tc : Thread Cert.MixWaDxIdeal.nD Cert.MixWaDxIdeal.τ).loc Cert.MixWaDxIdeal.main_arg0) = m ((c.tc : Thread Cert.MixWaDxIdeal.nD Cert.MixWaDxIdeal.τ).loc Cert.MixWaDxIdeal.main_arg0)
      ∧ r.2.mem ((c.tc : Thread Cert.MixWaDxIdeal.nD Cert.MixWaDxIdeal.τ).loc Cert.MixWaDxIdeal.main_arg1) = m ((c.tc : Thread Cert.MixWaDxIdeal.nD Cert.MixWaDxIdeal.τ).loc Cert.MixWaDxIdeal.main_arg1))
      ∧ r.2.sem = fun _ => 0)

def quiescent_MixWaDxRefIdeal [hMixWaDxRefIdeal : Cert.MixWaDxRefIdeal.Facts] : Prop :=
  ∀ (m : (ℓ : Loc Cert.MixWaDxRefIdeal.nD Cert.MixWaDxRefIdeal.τ Cert.MixWaDxRefIdeal.sig) → Buf (Elt Ideal) ℓ) (g : Dev Cert.MixWaDxRefIdeal.nD → PrngReg), Pre_MixWaDxRefIdeal m →
    θ_run (Cert.MixWaDxRefIdeal.defs (F := Ideal)) (onTc (τ := Cert.MixWaDxRefIdeal.τ) (Cert.MixWaDxRefIdeal.main (F := Ideal))) ⟨m, fun _ => 0, g⟩ (fun r => (∀ c : Dev Cert.MixWaDxRefIdeal.nD,
      r.2.mem ((c.tc : Thread Cert.MixWaDxRefIdeal.nD Cert.MixWaDxRefIdeal.τ).loc Cert.MixWaDxRefIdeal.main_arg0) = m ((c.tc : Thread Cert.MixWaDxRefIdeal.nD Cert.MixWaDxRefIdeal.τ).loc Cert.MixWaDxRefIdeal.main_arg0)
      ∧ r.2.mem ((c.tc : Thread Cert.MixWaDxRefIdeal.nD Cert.MixWaDxRefIdeal.τ).loc Cert.MixWaDxRefIdeal.main_arg1) = m ((c.tc : Thread Cert.MixWaDxRefIdeal.nD Cert.MixWaDxRefIdeal.τ).loc Cert.MixWaDxRefIdeal.main_arg1))
      ∧ r.2.sem = fun _ => 0)

def quiescent_MixWbDx [hMixWbDx : Cert.MixWbDx.Facts] : Prop :=
  ∀ (m : (ℓ : Loc Cert.MixWbDx.nD Cert.MixWbDx.τ Cert.MixWbDx.sig) → Buf (Elt Bits) ℓ) (g : Dev Cert.MixWbDx.nD → PrngReg), Pre_MixWbDx m →
    θ_run (Cert.MixWbDx.defs (F := Bits)) (onTc (τ := Cert.MixWbDx.τ) (Cert.MixWbDx.main (F := Bits))) ⟨m, fun _ => 0, g⟩ (fun r => (∀ c : Dev Cert.MixWbDx.nD,
      r.2.mem ((c.tc : Thread Cert.MixWbDx.nD Cert.MixWbDx.τ).loc Cert.MixWbDx.main_arg0) = m ((c.tc : Thread Cert.MixWbDx.nD Cert.MixWbDx.τ).loc Cert.MixWbDx.main_arg0)
      ∧ r.2.mem ((c.tc : Thread Cert.MixWbDx.nD Cert.MixWbDx.τ).loc Cert.MixWbDx.main_arg1) = m ((c.tc : Thread Cert.MixWbDx.nD Cert.MixWbDx.τ).loc Cert.MixWbDx.main_arg1))
      ∧ r.2.sem = fun _ => 0)

def quiescent_MixWbDxIdeal [hMixWbDxIdeal : Cert.MixWbDxIdeal.Facts] : Prop :=
  ∀ (m : (ℓ : Loc Cert.MixWbDxIdeal.nD Cert.MixWbDxIdeal.τ Cert.MixWbDxIdeal.sig) → Buf (Elt Ideal) ℓ) (g : Dev Cert.MixWbDxIdeal.nD → PrngReg), Pre_MixWbDxIdeal m →
    θ_run (Cert.MixWbDxIdeal.defs (F := Ideal)) (onTc (τ := Cert.MixWbDxIdeal.τ) (Cert.MixWbDxIdeal.main (F := Ideal))) ⟨m, fun _ => 0, g⟩ (fun r => (∀ c : Dev Cert.MixWbDxIdeal.nD,
      r.2.mem ((c.tc : Thread Cert.MixWbDxIdeal.nD Cert.MixWbDxIdeal.τ).loc Cert.MixWbDxIdeal.main_arg0) = m ((c.tc : Thread Cert.MixWbDxIdeal.nD Cert.MixWbDxIdeal.τ).loc Cert.MixWbDxIdeal.main_arg0)
      ∧ r.2.mem ((c.tc : Thread Cert.MixWbDxIdeal.nD Cert.MixWbDxIdeal.τ).loc Cert.MixWbDxIdeal.main_arg1) = m ((c.tc : Thread Cert.MixWbDxIdeal.nD Cert.MixWbDxIdeal.τ).loc Cert.MixWbDxIdeal.main_arg1))
      ∧ r.2.sem = fun _ => 0)

def quiescent_MixWbDxRefIdeal [hMixWbDxRefIdeal : Cert.MixWbDxRefIdeal.Facts] : Prop :=
  ∀ (m : (ℓ : Loc Cert.MixWbDxRefIdeal.nD Cert.MixWbDxRefIdeal.τ Cert.MixWbDxRefIdeal.sig) → Buf (Elt Ideal) ℓ) (g : Dev Cert.MixWbDxRefIdeal.nD → PrngReg), Pre_MixWbDxRefIdeal m →
    θ_run (Cert.MixWbDxRefIdeal.defs (F := Ideal)) (onTc (τ := Cert.MixWbDxRefIdeal.τ) (Cert.MixWbDxRefIdeal.main (F := Ideal))) ⟨m, fun _ => 0, g⟩ (fun r => (∀ c : Dev Cert.MixWbDxRefIdeal.nD,
      r.2.mem ((c.tc : Thread Cert.MixWbDxRefIdeal.nD Cert.MixWbDxRefIdeal.τ).loc Cert.MixWbDxRefIdeal.main_arg0) = m ((c.tc : Thread Cert.MixWbDxRefIdeal.nD Cert.MixWbDxRefIdeal.τ).loc Cert.MixWbDxRefIdeal.main_arg0)
      ∧ r.2.mem ((c.tc : Thread Cert.MixWbDxRefIdeal.nD Cert.MixWbDxRefIdeal.τ).loc Cert.MixWbDxRefIdeal.main_arg1) = m ((c.tc : Thread Cert.MixWbDxRefIdeal.nD Cert.MixWbDxRefIdeal.τ).loc Cert.MixWbDxRefIdeal.main_arg1))
      ∧ r.2.sem = fun _ => 0)

def quiescent_MixQkvDx [hMixQkvDx : Cert.MixQkvDx.Facts] : Prop :=
  ∀ (m : (ℓ : Loc Cert.MixQkvDx.nD Cert.MixQkvDx.τ Cert.MixQkvDx.sig) → Buf (Elt Bits) ℓ) (g : Dev Cert.MixQkvDx.nD → PrngReg), Pre_MixQkvDx m →
    θ_run (Cert.MixQkvDx.defs (F := Bits)) (onTc (τ := Cert.MixQkvDx.τ) (Cert.MixQkvDx.main (F := Bits))) ⟨m, fun _ => 0, g⟩ (fun r => (∀ c : Dev Cert.MixQkvDx.nD,
      r.2.mem ((c.tc : Thread Cert.MixQkvDx.nD Cert.MixQkvDx.τ).loc Cert.MixQkvDx.main_arg0) = m ((c.tc : Thread Cert.MixQkvDx.nD Cert.MixQkvDx.τ).loc Cert.MixQkvDx.main_arg0)
      ∧ r.2.mem ((c.tc : Thread Cert.MixQkvDx.nD Cert.MixQkvDx.τ).loc Cert.MixQkvDx.main_arg1) = m ((c.tc : Thread Cert.MixQkvDx.nD Cert.MixQkvDx.τ).loc Cert.MixQkvDx.main_arg1))
      ∧ r.2.sem = fun _ => 0)

def quiescent_MixQkvDxIdeal [hMixQkvDxIdeal : Cert.MixQkvDxIdeal.Facts] : Prop :=
  ∀ (m : (ℓ : Loc Cert.MixQkvDxIdeal.nD Cert.MixQkvDxIdeal.τ Cert.MixQkvDxIdeal.sig) → Buf (Elt Ideal) ℓ) (g : Dev Cert.MixQkvDxIdeal.nD → PrngReg), Pre_MixQkvDxIdeal m →
    θ_run (Cert.MixQkvDxIdeal.defs (F := Ideal)) (onTc (τ := Cert.MixQkvDxIdeal.τ) (Cert.MixQkvDxIdeal.main (F := Ideal))) ⟨m, fun _ => 0, g⟩ (fun r => (∀ c : Dev Cert.MixQkvDxIdeal.nD,
      r.2.mem ((c.tc : Thread Cert.MixQkvDxIdeal.nD Cert.MixQkvDxIdeal.τ).loc Cert.MixQkvDxIdeal.main_arg0) = m ((c.tc : Thread Cert.MixQkvDxIdeal.nD Cert.MixQkvDxIdeal.τ).loc Cert.MixQkvDxIdeal.main_arg0)
      ∧ r.2.mem ((c.tc : Thread Cert.MixQkvDxIdeal.nD Cert.MixQkvDxIdeal.τ).loc Cert.MixQkvDxIdeal.main_arg1) = m ((c.tc : Thread Cert.MixQkvDxIdeal.nD Cert.MixQkvDxIdeal.τ).loc Cert.MixQkvDxIdeal.main_arg1))
      ∧ r.2.sem = fun _ => 0)

def quiescent_MixQkvDxRefIdeal [hMixQkvDxRefIdeal : Cert.MixQkvDxRefIdeal.Facts] : Prop :=
  ∀ (m : (ℓ : Loc Cert.MixQkvDxRefIdeal.nD Cert.MixQkvDxRefIdeal.τ Cert.MixQkvDxRefIdeal.sig) → Buf (Elt Ideal) ℓ) (g : Dev Cert.MixQkvDxRefIdeal.nD → PrngReg), Pre_MixQkvDxRefIdeal m →
    θ_run (Cert.MixQkvDxRefIdeal.defs (F := Ideal)) (onTc (τ := Cert.MixQkvDxRefIdeal.τ) (Cert.MixQkvDxRefIdeal.main (F := Ideal))) ⟨m, fun _ => 0, g⟩ (fun r => (∀ c : Dev Cert.MixQkvDxRefIdeal.nD,
      r.2.mem ((c.tc : Thread Cert.MixQkvDxRefIdeal.nD Cert.MixQkvDxRefIdeal.τ).loc Cert.MixQkvDxRefIdeal.main_arg0) = m ((c.tc : Thread Cert.MixQkvDxRefIdeal.nD Cert.MixQkvDxRefIdeal.τ).loc Cert.MixQkvDxRefIdeal.main_arg0)
      ∧ r.2.mem ((c.tc : Thread Cert.MixQkvDxRefIdeal.nD Cert.MixQkvDxRefIdeal.τ).loc Cert.MixQkvDxRefIdeal.main_arg1) = m ((c.tc : Thread Cert.MixQkvDxRefIdeal.nD Cert.MixQkvDxRefIdeal.τ).loc Cert.MixQkvDxRefIdeal.main_arg1))
      ∧ r.2.sem = fun _ => 0)

def quiescent_MixZDx [hMixZDx : Cert.MixZDx.Facts] : Prop :=
  ∀ (m : (ℓ : Loc Cert.MixZDx.nD Cert.MixZDx.τ Cert.MixZDx.sig) → Buf (Elt Bits) ℓ) (g : Dev Cert.MixZDx.nD → PrngReg), Pre_MixZDx m →
    θ_run (Cert.MixZDx.defs (F := Bits)) (onTc (τ := Cert.MixZDx.τ) (Cert.MixZDx.main (F := Bits))) ⟨m, fun _ => 0, g⟩ (fun r => (∀ c : Dev Cert.MixZDx.nD,
      r.2.mem ((c.tc : Thread Cert.MixZDx.nD Cert.MixZDx.τ).loc Cert.MixZDx.main_arg0) = m ((c.tc : Thread Cert.MixZDx.nD Cert.MixZDx.τ).loc Cert.MixZDx.main_arg0)
      ∧ r.2.mem ((c.tc : Thread Cert.MixZDx.nD Cert.MixZDx.τ).loc Cert.MixZDx.main_arg1) = m ((c.tc : Thread Cert.MixZDx.nD Cert.MixZDx.τ).loc Cert.MixZDx.main_arg1)
      ∧ r.2.mem ((c.tc : Thread Cert.MixZDx.nD Cert.MixZDx.τ).loc Cert.MixZDx.main_arg2) = m ((c.tc : Thread Cert.MixZDx.nD Cert.MixZDx.τ).loc Cert.MixZDx.main_arg2))
      ∧ r.2.sem = fun _ => 0)

def quiescent_MixZDxIdeal [hMixZDxIdeal : Cert.MixZDxIdeal.Facts] : Prop :=
  ∀ (m : (ℓ : Loc Cert.MixZDxIdeal.nD Cert.MixZDxIdeal.τ Cert.MixZDxIdeal.sig) → Buf (Elt Ideal) ℓ) (g : Dev Cert.MixZDxIdeal.nD → PrngReg), Pre_MixZDxIdeal m →
    θ_run (Cert.MixZDxIdeal.defs (F := Ideal)) (onTc (τ := Cert.MixZDxIdeal.τ) (Cert.MixZDxIdeal.main (F := Ideal))) ⟨m, fun _ => 0, g⟩ (fun r => (∀ c : Dev Cert.MixZDxIdeal.nD,
      r.2.mem ((c.tc : Thread Cert.MixZDxIdeal.nD Cert.MixZDxIdeal.τ).loc Cert.MixZDxIdeal.main_arg0) = m ((c.tc : Thread Cert.MixZDxIdeal.nD Cert.MixZDxIdeal.τ).loc Cert.MixZDxIdeal.main_arg0)
      ∧ r.2.mem ((c.tc : Thread Cert.MixZDxIdeal.nD Cert.MixZDxIdeal.τ).loc Cert.MixZDxIdeal.main_arg1) = m ((c.tc : Thread Cert.MixZDxIdeal.nD Cert.MixZDxIdeal.τ).loc Cert.MixZDxIdeal.main_arg1)
      ∧ r.2.mem ((c.tc : Thread Cert.MixZDxIdeal.nD Cert.MixZDxIdeal.τ).loc Cert.MixZDxIdeal.main_arg2) = m ((c.tc : Thread Cert.MixZDxIdeal.nD Cert.MixZDxIdeal.τ).loc Cert.MixZDxIdeal.main_arg2))
      ∧ r.2.sem = fun _ => 0)

def quiescent_MixZDxRefIdeal [hMixZDxRefIdeal : Cert.MixZDxRefIdeal.Facts] : Prop :=
  ∀ (m : (ℓ : Loc Cert.MixZDxRefIdeal.nD Cert.MixZDxRefIdeal.τ Cert.MixZDxRefIdeal.sig) → Buf (Elt Ideal) ℓ) (g : Dev Cert.MixZDxRefIdeal.nD → PrngReg), Pre_MixZDxRefIdeal m →
    θ_run (Cert.MixZDxRefIdeal.defs (F := Ideal)) (onTc (τ := Cert.MixZDxRefIdeal.τ) (Cert.MixZDxRefIdeal.main (F := Ideal))) ⟨m, fun _ => 0, g⟩ (fun r => (∀ c : Dev Cert.MixZDxRefIdeal.nD,
      r.2.mem ((c.tc : Thread Cert.MixZDxRefIdeal.nD Cert.MixZDxRefIdeal.τ).loc Cert.MixZDxRefIdeal.main_arg0) = m ((c.tc : Thread Cert.MixZDxRefIdeal.nD Cert.MixZDxRefIdeal.τ).loc Cert.MixZDxRefIdeal.main_arg0)
      ∧ r.2.mem ((c.tc : Thread Cert.MixZDxRefIdeal.nD Cert.MixZDxRefIdeal.τ).loc Cert.MixZDxRefIdeal.main_arg1) = m ((c.tc : Thread Cert.MixZDxRefIdeal.nD Cert.MixZDxRefIdeal.τ).loc Cert.MixZDxRefIdeal.main_arg1)
      ∧ r.2.mem ((c.tc : Thread Cert.MixZDxRefIdeal.nD Cert.MixZDxRefIdeal.τ).loc Cert.MixZDxRefIdeal.main_arg2) = m ((c.tc : Thread Cert.MixZDxRefIdeal.nD Cert.MixZDxRefIdeal.τ).loc Cert.MixZDxRefIdeal.main_arg2))
      ∧ r.2.sem = fun _ => 0)

def quiescent_MixBaDx [hMixBaDx : Cert.MixBaDx.Facts] : Prop :=
  ∀ (m : (ℓ : Loc Cert.MixBaDx.nD Cert.MixBaDx.τ Cert.MixBaDx.sig) → Buf (Elt Bits) ℓ) (g : Dev Cert.MixBaDx.nD → PrngReg), Pre_MixBaDx m →
    θ_run (Cert.MixBaDx.defs (F := Bits)) (onTc (τ := Cert.MixBaDx.τ) (Cert.MixBaDx.main (F := Bits))) ⟨m, fun _ => 0, g⟩ (fun r => (∀ c : Dev Cert.MixBaDx.nD,
      r.2.mem ((c.tc : Thread Cert.MixBaDx.nD Cert.MixBaDx.τ).loc Cert.MixBaDx.main_arg0) = m ((c.tc : Thread Cert.MixBaDx.nD Cert.MixBaDx.τ).loc Cert.MixBaDx.main_arg0)
      ∧ r.2.mem ((c.tc : Thread Cert.MixBaDx.nD Cert.MixBaDx.τ).loc Cert.MixBaDx.main_arg1) = m ((c.tc : Thread Cert.MixBaDx.nD Cert.MixBaDx.τ).loc Cert.MixBaDx.main_arg1)
      ∧ r.2.mem ((c.tc : Thread Cert.MixBaDx.nD Cert.MixBaDx.τ).loc Cert.MixBaDx.main_arg2) = m ((c.tc : Thread Cert.MixBaDx.nD Cert.MixBaDx.τ).loc Cert.MixBaDx.main_arg2))
      ∧ r.2.sem = fun _ => 0)

def quiescent_MixBaDxIdeal [hMixBaDxIdeal : Cert.MixBaDxIdeal.Facts] : Prop :=
  ∀ (m : (ℓ : Loc Cert.MixBaDxIdeal.nD Cert.MixBaDxIdeal.τ Cert.MixBaDxIdeal.sig) → Buf (Elt Ideal) ℓ) (g : Dev Cert.MixBaDxIdeal.nD → PrngReg), Pre_MixBaDxIdeal m →
    θ_run (Cert.MixBaDxIdeal.defs (F := Ideal)) (onTc (τ := Cert.MixBaDxIdeal.τ) (Cert.MixBaDxIdeal.main (F := Ideal))) ⟨m, fun _ => 0, g⟩ (fun r => (∀ c : Dev Cert.MixBaDxIdeal.nD,
      r.2.mem ((c.tc : Thread Cert.MixBaDxIdeal.nD Cert.MixBaDxIdeal.τ).loc Cert.MixBaDxIdeal.main_arg0) = m ((c.tc : Thread Cert.MixBaDxIdeal.nD Cert.MixBaDxIdeal.τ).loc Cert.MixBaDxIdeal.main_arg0)
      ∧ r.2.mem ((c.tc : Thread Cert.MixBaDxIdeal.nD Cert.MixBaDxIdeal.τ).loc Cert.MixBaDxIdeal.main_arg1) = m ((c.tc : Thread Cert.MixBaDxIdeal.nD Cert.MixBaDxIdeal.τ).loc Cert.MixBaDxIdeal.main_arg1)
      ∧ r.2.mem ((c.tc : Thread Cert.MixBaDxIdeal.nD Cert.MixBaDxIdeal.τ).loc Cert.MixBaDxIdeal.main_arg2) = m ((c.tc : Thread Cert.MixBaDxIdeal.nD Cert.MixBaDxIdeal.τ).loc Cert.MixBaDxIdeal.main_arg2))
      ∧ r.2.sem = fun _ => 0)

def quiescent_MixBaDxRefIdeal [hMixBaDxRefIdeal : Cert.MixBaDxRefIdeal.Facts] : Prop :=
  ∀ (m : (ℓ : Loc Cert.MixBaDxRefIdeal.nD Cert.MixBaDxRefIdeal.τ Cert.MixBaDxRefIdeal.sig) → Buf (Elt Ideal) ℓ) (g : Dev Cert.MixBaDxRefIdeal.nD → PrngReg), Pre_MixBaDxRefIdeal m →
    θ_run (Cert.MixBaDxRefIdeal.defs (F := Ideal)) (onTc (τ := Cert.MixBaDxRefIdeal.τ) (Cert.MixBaDxRefIdeal.main (F := Ideal))) ⟨m, fun _ => 0, g⟩ (fun r => (∀ c : Dev Cert.MixBaDxRefIdeal.nD,
      r.2.mem ((c.tc : Thread Cert.MixBaDxRefIdeal.nD Cert.MixBaDxRefIdeal.τ).loc Cert.MixBaDxRefIdeal.main_arg0) = m ((c.tc : Thread Cert.MixBaDxRefIdeal.nD Cert.MixBaDxRefIdeal.τ).loc Cert.MixBaDxRefIdeal.main_arg0)
      ∧ r.2.mem ((c.tc : Thread Cert.MixBaDxRefIdeal.nD Cert.MixBaDxRefIdeal.τ).loc Cert.MixBaDxRefIdeal.main_arg1) = m ((c.tc : Thread Cert.MixBaDxRefIdeal.nD Cert.MixBaDxRefIdeal.τ).loc Cert.MixBaDxRefIdeal.main_arg1)
      ∧ r.2.mem ((c.tc : Thread Cert.MixBaDxRefIdeal.nD Cert.MixBaDxRefIdeal.τ).loc Cert.MixBaDxRefIdeal.main_arg2) = m ((c.tc : Thread Cert.MixBaDxRefIdeal.nD Cert.MixBaDxRefIdeal.τ).loc Cert.MixBaDxRefIdeal.main_arg2))
      ∧ r.2.sem = fun _ => 0)

def quiescent_MixDaDx [hMixDaDx : Cert.MixDaDx.Facts] : Prop :=
  ∀ (m : (ℓ : Loc Cert.MixDaDx.nD Cert.MixDaDx.τ Cert.MixDaDx.sig) → Buf (Elt Bits) ℓ) (g : Dev Cert.MixDaDx.nD → PrngReg), Pre_MixDaDx m →
    θ_run (Cert.MixDaDx.defs (F := Bits)) (onTc (τ := Cert.MixDaDx.τ) (Cert.MixDaDx.main (F := Bits))) ⟨m, fun _ => 0, g⟩ (fun r => (∀ c : Dev Cert.MixDaDx.nD,
      r.2.mem ((c.tc : Thread Cert.MixDaDx.nD Cert.MixDaDx.τ).loc Cert.MixDaDx.main_arg0) = m ((c.tc : Thread Cert.MixDaDx.nD Cert.MixDaDx.τ).loc Cert.MixDaDx.main_arg0)
      ∧ r.2.mem ((c.tc : Thread Cert.MixDaDx.nD Cert.MixDaDx.τ).loc Cert.MixDaDx.main_arg1) = m ((c.tc : Thread Cert.MixDaDx.nD Cert.MixDaDx.τ).loc Cert.MixDaDx.main_arg1)
      ∧ r.2.mem ((c.tc : Thread Cert.MixDaDx.nD Cert.MixDaDx.τ).loc Cert.MixDaDx.main_arg2) = m ((c.tc : Thread Cert.MixDaDx.nD Cert.MixDaDx.τ).loc Cert.MixDaDx.main_arg2))
      ∧ r.2.sem = fun _ => 0)

def quiescent_MixDaDxIdeal [hMixDaDxIdeal : Cert.MixDaDxIdeal.Facts] : Prop :=
  ∀ (m : (ℓ : Loc Cert.MixDaDxIdeal.nD Cert.MixDaDxIdeal.τ Cert.MixDaDxIdeal.sig) → Buf (Elt Ideal) ℓ) (g : Dev Cert.MixDaDxIdeal.nD → PrngReg), Pre_MixDaDxIdeal m →
    θ_run (Cert.MixDaDxIdeal.defs (F := Ideal)) (onTc (τ := Cert.MixDaDxIdeal.τ) (Cert.MixDaDxIdeal.main (F := Ideal))) ⟨m, fun _ => 0, g⟩ (fun r => (∀ c : Dev Cert.MixDaDxIdeal.nD,
      r.2.mem ((c.tc : Thread Cert.MixDaDxIdeal.nD Cert.MixDaDxIdeal.τ).loc Cert.MixDaDxIdeal.main_arg0) = m ((c.tc : Thread Cert.MixDaDxIdeal.nD Cert.MixDaDxIdeal.τ).loc Cert.MixDaDxIdeal.main_arg0)
      ∧ r.2.mem ((c.tc : Thread Cert.MixDaDxIdeal.nD Cert.MixDaDxIdeal.τ).loc Cert.MixDaDxIdeal.main_arg1) = m ((c.tc : Thread Cert.MixDaDxIdeal.nD Cert.MixDaDxIdeal.τ).loc Cert.MixDaDxIdeal.main_arg1)
      ∧ r.2.mem ((c.tc : Thread Cert.MixDaDxIdeal.nD Cert.MixDaDxIdeal.τ).loc Cert.MixDaDxIdeal.main_arg2) = m ((c.tc : Thread Cert.MixDaDxIdeal.nD Cert.MixDaDxIdeal.τ).loc Cert.MixDaDxIdeal.main_arg2))
      ∧ r.2.sem = fun _ => 0)

def quiescent_MixDaDxRefIdeal [hMixDaDxRefIdeal : Cert.MixDaDxRefIdeal.Facts] : Prop :=
  ∀ (m : (ℓ : Loc Cert.MixDaDxRefIdeal.nD Cert.MixDaDxRefIdeal.τ Cert.MixDaDxRefIdeal.sig) → Buf (Elt Ideal) ℓ) (g : Dev Cert.MixDaDxRefIdeal.nD → PrngReg), Pre_MixDaDxRefIdeal m →
    θ_run (Cert.MixDaDxRefIdeal.defs (F := Ideal)) (onTc (τ := Cert.MixDaDxRefIdeal.τ) (Cert.MixDaDxRefIdeal.main (F := Ideal))) ⟨m, fun _ => 0, g⟩ (fun r => (∀ c : Dev Cert.MixDaDxRefIdeal.nD,
      r.2.mem ((c.tc : Thread Cert.MixDaDxRefIdeal.nD Cert.MixDaDxRefIdeal.τ).loc Cert.MixDaDxRefIdeal.main_arg0) = m ((c.tc : Thread Cert.MixDaDxRefIdeal.nD Cert.MixDaDxRefIdeal.τ).loc Cert.MixDaDxRefIdeal.main_arg0)
      ∧ r.2.mem ((c.tc : Thread Cert.MixDaDxRefIdeal.nD Cert.MixDaDxRefIdeal.τ).loc Cert.MixDaDxRefIdeal.main_arg1) = m ((c.tc : Thread Cert.MixDaDxRefIdeal.nD Cert.MixDaDxRefIdeal.τ).loc Cert.MixDaDxRefIdeal.main_arg1)
      ∧ r.2.mem ((c.tc : Thread Cert.MixDaDxRefIdeal.nD Cert.MixDaDxRefIdeal.τ).loc Cert.MixDaDxRefIdeal.main_arg2) = m ((c.tc : Thread Cert.MixDaDxRefIdeal.nD Cert.MixDaDxRefIdeal.τ).loc Cert.MixDaDxRefIdeal.main_arg2))
      ∧ r.2.sem = fun _ => 0)

def quiescent_MixPgDx [hMixPgDx : Cert.MixPgDx.Facts] : Prop :=
  ∀ (m : (ℓ : Loc Cert.MixPgDx.nD Cert.MixPgDx.τ Cert.MixPgDx.sig) → Buf (Elt Bits) ℓ) (g : Dev Cert.MixPgDx.nD → PrngReg), Pre_MixPgDx m →
    θ_run (Cert.MixPgDx.defs (F := Bits)) (onTc (τ := Cert.MixPgDx.τ) (Cert.MixPgDx.main (F := Bits))) ⟨m, fun _ => 0, g⟩ (fun r => (∀ c : Dev Cert.MixPgDx.nD,
      r.2.mem ((c.tc : Thread Cert.MixPgDx.nD Cert.MixPgDx.τ).loc Cert.MixPgDx.main_arg0) = m ((c.tc : Thread Cert.MixPgDx.nD Cert.MixPgDx.τ).loc Cert.MixPgDx.main_arg0)
      ∧ r.2.mem ((c.tc : Thread Cert.MixPgDx.nD Cert.MixPgDx.τ).loc Cert.MixPgDx.main_arg1) = m ((c.tc : Thread Cert.MixPgDx.nD Cert.MixPgDx.τ).loc Cert.MixPgDx.main_arg1)
      ∧ r.2.mem ((c.tc : Thread Cert.MixPgDx.nD Cert.MixPgDx.τ).loc Cert.MixPgDx.main_arg2) = m ((c.tc : Thread Cert.MixPgDx.nD Cert.MixPgDx.τ).loc Cert.MixPgDx.main_arg2))
      ∧ r.2.sem = fun _ => 0)

def quiescent_MixPgDxIdeal [hMixPgDxIdeal : Cert.MixPgDxIdeal.Facts] : Prop :=
  ∀ (m : (ℓ : Loc Cert.MixPgDxIdeal.nD Cert.MixPgDxIdeal.τ Cert.MixPgDxIdeal.sig) → Buf (Elt Ideal) ℓ) (g : Dev Cert.MixPgDxIdeal.nD → PrngReg), Pre_MixPgDxIdeal m →
    θ_run (Cert.MixPgDxIdeal.defs (F := Ideal)) (onTc (τ := Cert.MixPgDxIdeal.τ) (Cert.MixPgDxIdeal.main (F := Ideal))) ⟨m, fun _ => 0, g⟩ (fun r => (∀ c : Dev Cert.MixPgDxIdeal.nD,
      r.2.mem ((c.tc : Thread Cert.MixPgDxIdeal.nD Cert.MixPgDxIdeal.τ).loc Cert.MixPgDxIdeal.main_arg0) = m ((c.tc : Thread Cert.MixPgDxIdeal.nD Cert.MixPgDxIdeal.τ).loc Cert.MixPgDxIdeal.main_arg0)
      ∧ r.2.mem ((c.tc : Thread Cert.MixPgDxIdeal.nD Cert.MixPgDxIdeal.τ).loc Cert.MixPgDxIdeal.main_arg1) = m ((c.tc : Thread Cert.MixPgDxIdeal.nD Cert.MixPgDxIdeal.τ).loc Cert.MixPgDxIdeal.main_arg1)
      ∧ r.2.mem ((c.tc : Thread Cert.MixPgDxIdeal.nD Cert.MixPgDxIdeal.τ).loc Cert.MixPgDxIdeal.main_arg2) = m ((c.tc : Thread Cert.MixPgDxIdeal.nD Cert.MixPgDxIdeal.τ).loc Cert.MixPgDxIdeal.main_arg2))
      ∧ r.2.sem = fun _ => 0)

def quiescent_MixPgDxRefIdeal [hMixPgDxRefIdeal : Cert.MixPgDxRefIdeal.Facts] : Prop :=
  ∀ (m : (ℓ : Loc Cert.MixPgDxRefIdeal.nD Cert.MixPgDxRefIdeal.τ Cert.MixPgDxRefIdeal.sig) → Buf (Elt Ideal) ℓ) (g : Dev Cert.MixPgDxRefIdeal.nD → PrngReg), Pre_MixPgDxRefIdeal m →
    θ_run (Cert.MixPgDxRefIdeal.defs (F := Ideal)) (onTc (τ := Cert.MixPgDxRefIdeal.τ) (Cert.MixPgDxRefIdeal.main (F := Ideal))) ⟨m, fun _ => 0, g⟩ (fun r => (∀ c : Dev Cert.MixPgDxRefIdeal.nD,
      r.2.mem ((c.tc : Thread Cert.MixPgDxRefIdeal.nD Cert.MixPgDxRefIdeal.τ).loc Cert.MixPgDxRefIdeal.main_arg0) = m ((c.tc : Thread Cert.MixPgDxRefIdeal.nD Cert.MixPgDxRefIdeal.τ).loc Cert.MixPgDxRefIdeal.main_arg0)
      ∧ r.2.mem ((c.tc : Thread Cert.MixPgDxRefIdeal.nD Cert.MixPgDxRefIdeal.τ).loc Cert.MixPgDxRefIdeal.main_arg1) = m ((c.tc : Thread Cert.MixPgDxRefIdeal.nD Cert.MixPgDxRefIdeal.τ).loc Cert.MixPgDxRefIdeal.main_arg1)
      ∧ r.2.mem ((c.tc : Thread Cert.MixPgDxRefIdeal.nD Cert.MixPgDxRefIdeal.τ).loc Cert.MixPgDxRefIdeal.main_arg2) = m ((c.tc : Thread Cert.MixPgDxRefIdeal.nD Cert.MixPgDxRefIdeal.τ).loc Cert.MixPgDxRefIdeal.main_arg2))
      ∧ r.2.sem = fun _ => 0)

def quiescent_FfnGuDx [hFfnGuDx : Cert.FfnGuDx.Facts] : Prop :=
  ∀ (m : (ℓ : Loc Cert.FfnGuDx.nD Cert.FfnGuDx.τ Cert.FfnGuDx.sig) → Buf (Elt Bits) ℓ) (g : Dev Cert.FfnGuDx.nD → PrngReg), Pre_FfnGuDx m →
    θ_run (Cert.FfnGuDx.defs (F := Bits)) (onTc (τ := Cert.FfnGuDx.τ) (Cert.FfnGuDx.main (F := Bits))) ⟨m, fun _ => 0, g⟩ (fun r => (∀ c : Dev Cert.FfnGuDx.nD,
      r.2.mem ((c.tc : Thread Cert.FfnGuDx.nD Cert.FfnGuDx.τ).loc Cert.FfnGuDx.main_arg0) = m ((c.tc : Thread Cert.FfnGuDx.nD Cert.FfnGuDx.τ).loc Cert.FfnGuDx.main_arg0)
      ∧ r.2.mem ((c.tc : Thread Cert.FfnGuDx.nD Cert.FfnGuDx.τ).loc Cert.FfnGuDx.main_arg1) = m ((c.tc : Thread Cert.FfnGuDx.nD Cert.FfnGuDx.τ).loc Cert.FfnGuDx.main_arg1))
      ∧ r.2.sem = fun _ => 0)

def quiescent_FfnGuDxIdeal [hFfnGuDxIdeal : Cert.FfnGuDxIdeal.Facts] : Prop :=
  ∀ (m : (ℓ : Loc Cert.FfnGuDxIdeal.nD Cert.FfnGuDxIdeal.τ Cert.FfnGuDxIdeal.sig) → Buf (Elt Ideal) ℓ) (g : Dev Cert.FfnGuDxIdeal.nD → PrngReg), Pre_FfnGuDxIdeal m →
    θ_run (Cert.FfnGuDxIdeal.defs (F := Ideal)) (onTc (τ := Cert.FfnGuDxIdeal.τ) (Cert.FfnGuDxIdeal.main (F := Ideal))) ⟨m, fun _ => 0, g⟩ (fun r => (∀ c : Dev Cert.FfnGuDxIdeal.nD,
      r.2.mem ((c.tc : Thread Cert.FfnGuDxIdeal.nD Cert.FfnGuDxIdeal.τ).loc Cert.FfnGuDxIdeal.main_arg0) = m ((c.tc : Thread Cert.FfnGuDxIdeal.nD Cert.FfnGuDxIdeal.τ).loc Cert.FfnGuDxIdeal.main_arg0)
      ∧ r.2.mem ((c.tc : Thread Cert.FfnGuDxIdeal.nD Cert.FfnGuDxIdeal.τ).loc Cert.FfnGuDxIdeal.main_arg1) = m ((c.tc : Thread Cert.FfnGuDxIdeal.nD Cert.FfnGuDxIdeal.τ).loc Cert.FfnGuDxIdeal.main_arg1))
      ∧ r.2.sem = fun _ => 0)

def quiescent_FfnGuDxRefIdeal [hFfnGuDxRefIdeal : Cert.FfnGuDxRefIdeal.Facts] : Prop :=
  ∀ (m : (ℓ : Loc Cert.FfnGuDxRefIdeal.nD Cert.FfnGuDxRefIdeal.τ Cert.FfnGuDxRefIdeal.sig) → Buf (Elt Ideal) ℓ) (g : Dev Cert.FfnGuDxRefIdeal.nD → PrngReg), Pre_FfnGuDxRefIdeal m →
    θ_run (Cert.FfnGuDxRefIdeal.defs (F := Ideal)) (onTc (τ := Cert.FfnGuDxRefIdeal.τ) (Cert.FfnGuDxRefIdeal.main (F := Ideal))) ⟨m, fun _ => 0, g⟩ (fun r => (∀ c : Dev Cert.FfnGuDxRefIdeal.nD,
      r.2.mem ((c.tc : Thread Cert.FfnGuDxRefIdeal.nD Cert.FfnGuDxRefIdeal.τ).loc Cert.FfnGuDxRefIdeal.main_arg0) = m ((c.tc : Thread Cert.FfnGuDxRefIdeal.nD Cert.FfnGuDxRefIdeal.τ).loc Cert.FfnGuDxRefIdeal.main_arg0)
      ∧ r.2.mem ((c.tc : Thread Cert.FfnGuDxRefIdeal.nD Cert.FfnGuDxRefIdeal.τ).loc Cert.FfnGuDxRefIdeal.main_arg1) = m ((c.tc : Thread Cert.FfnGuDxRefIdeal.nD Cert.FfnGuDxRefIdeal.τ).loc Cert.FfnGuDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnGuDw [hFfnGuDw : Cert.FfnGuDw.Facts] : Prop :=
  ∀ (m : (ℓ : Loc Cert.FfnGuDw.nD Cert.FfnGuDw.τ Cert.FfnGuDw.sig) → Buf (Elt Bits) ℓ) (g : Dev Cert.FfnGuDw.nD → PrngReg), Pre_FfnGuDw m →
    θ_run (Cert.FfnGuDw.defs (F := Bits)) (onTc (τ := Cert.FfnGuDw.τ) (Cert.FfnGuDw.main (F := Bits))) ⟨m, fun _ => 0, g⟩ (fun r => (∀ c : Dev Cert.FfnGuDw.nD,
      r.2.mem ((c.tc : Thread Cert.FfnGuDw.nD Cert.FfnGuDw.τ).loc Cert.FfnGuDw.main_arg0) = m ((c.tc : Thread Cert.FfnGuDw.nD Cert.FfnGuDw.τ).loc Cert.FfnGuDw.main_arg0)
      ∧ r.2.mem ((c.tc : Thread Cert.FfnGuDw.nD Cert.FfnGuDw.τ).loc Cert.FfnGuDw.main_arg1) = m ((c.tc : Thread Cert.FfnGuDw.nD Cert.FfnGuDw.τ).loc Cert.FfnGuDw.main_arg1))
      ∧ r.2.sem = fun _ => 0)

def quiescent_FfnGuDwIdeal [hFfnGuDwIdeal : Cert.FfnGuDwIdeal.Facts] : Prop :=
  ∀ (m : (ℓ : Loc Cert.FfnGuDwIdeal.nD Cert.FfnGuDwIdeal.τ Cert.FfnGuDwIdeal.sig) → Buf (Elt Ideal) ℓ) (g : Dev Cert.FfnGuDwIdeal.nD → PrngReg), Pre_FfnGuDwIdeal m →
    θ_run (Cert.FfnGuDwIdeal.defs (F := Ideal)) (onTc (τ := Cert.FfnGuDwIdeal.τ) (Cert.FfnGuDwIdeal.main (F := Ideal))) ⟨m, fun _ => 0, g⟩ (fun r => (∀ c : Dev Cert.FfnGuDwIdeal.nD,
      r.2.mem ((c.tc : Thread Cert.FfnGuDwIdeal.nD Cert.FfnGuDwIdeal.τ).loc Cert.FfnGuDwIdeal.main_arg0) = m ((c.tc : Thread Cert.FfnGuDwIdeal.nD Cert.FfnGuDwIdeal.τ).loc Cert.FfnGuDwIdeal.main_arg0)
      ∧ r.2.mem ((c.tc : Thread Cert.FfnGuDwIdeal.nD Cert.FfnGuDwIdeal.τ).loc Cert.FfnGuDwIdeal.main_arg1) = m ((c.tc : Thread Cert.FfnGuDwIdeal.nD Cert.FfnGuDwIdeal.τ).loc Cert.FfnGuDwIdeal.main_arg1))
      ∧ r.2.sem = fun _ => 0)

def quiescent_FfnGuDwRefIdeal [hFfnGuDwRefIdeal : Cert.FfnGuDwRefIdeal.Facts] : Prop :=
  ∀ (m : (ℓ : Loc Cert.FfnGuDwRefIdeal.nD Cert.FfnGuDwRefIdeal.τ Cert.FfnGuDwRefIdeal.sig) → Buf (Elt Ideal) ℓ) (g : Dev Cert.FfnGuDwRefIdeal.nD → PrngReg), Pre_FfnGuDwRefIdeal m →
    θ_run (Cert.FfnGuDwRefIdeal.defs (F := Ideal)) (onTc (τ := Cert.FfnGuDwRefIdeal.τ) (Cert.FfnGuDwRefIdeal.main (F := Ideal))) ⟨m, fun _ => 0, g⟩ (fun r => (∀ c : Dev Cert.FfnGuDwRefIdeal.nD,
      r.2.mem ((c.tc : Thread Cert.FfnGuDwRefIdeal.nD Cert.FfnGuDwRefIdeal.τ).loc Cert.FfnGuDwRefIdeal.main_arg0) = m ((c.tc : Thread Cert.FfnGuDwRefIdeal.nD Cert.FfnGuDwRefIdeal.τ).loc Cert.FfnGuDwRefIdeal.main_arg0)
      ∧ r.2.mem ((c.tc : Thread Cert.FfnGuDwRefIdeal.nD Cert.FfnGuDwRefIdeal.τ).loc Cert.FfnGuDwRefIdeal.main_arg1) = m ((c.tc : Thread Cert.FfnGuDwRefIdeal.nD Cert.FfnGuDwRefIdeal.τ).loc Cert.FfnGuDwRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixWbDw [hMixWbDw : Cert.MixWbDw.Facts] : Prop :=
  ∀ (m : (ℓ : Loc Cert.MixWbDw.nD Cert.MixWbDw.τ Cert.MixWbDw.sig) → Buf (Elt Bits) ℓ) (g : Dev Cert.MixWbDw.nD → PrngReg), Pre_MixWbDw m →
    θ_run (Cert.MixWbDw.defs (F := Bits)) (onTc (τ := Cert.MixWbDw.τ) (Cert.MixWbDw.main (F := Bits))) ⟨m, fun _ => 0, g⟩ (fun r => (∀ c : Dev Cert.MixWbDw.nD,
      r.2.mem ((c.tc : Thread Cert.MixWbDw.nD Cert.MixWbDw.τ).loc Cert.MixWbDw.main_arg0) = m ((c.tc : Thread Cert.MixWbDw.nD Cert.MixWbDw.τ).loc Cert.MixWbDw.main_arg0)
      ∧ r.2.mem ((c.tc : Thread Cert.MixWbDw.nD Cert.MixWbDw.τ).loc Cert.MixWbDw.main_arg1) = m ((c.tc : Thread Cert.MixWbDw.nD Cert.MixWbDw.τ).loc Cert.MixWbDw.main_arg1))
      ∧ r.2.sem = fun _ => 0)

def quiescent_MixWbDwIdeal [hMixWbDwIdeal : Cert.MixWbDwIdeal.Facts] : Prop :=
  ∀ (m : (ℓ : Loc Cert.MixWbDwIdeal.nD Cert.MixWbDwIdeal.τ Cert.MixWbDwIdeal.sig) → Buf (Elt Ideal) ℓ) (g : Dev Cert.MixWbDwIdeal.nD → PrngReg), Pre_MixWbDwIdeal m →
    θ_run (Cert.MixWbDwIdeal.defs (F := Ideal)) (onTc (τ := Cert.MixWbDwIdeal.τ) (Cert.MixWbDwIdeal.main (F := Ideal))) ⟨m, fun _ => 0, g⟩ (fun r => (∀ c : Dev Cert.MixWbDwIdeal.nD,
      r.2.mem ((c.tc : Thread Cert.MixWbDwIdeal.nD Cert.MixWbDwIdeal.τ).loc Cert.MixWbDwIdeal.main_arg0) = m ((c.tc : Thread Cert.MixWbDwIdeal.nD Cert.MixWbDwIdeal.τ).loc Cert.MixWbDwIdeal.main_arg0)
      ∧ r.2.mem ((c.tc : Thread Cert.MixWbDwIdeal.nD Cert.MixWbDwIdeal.τ).loc Cert.MixWbDwIdeal.main_arg1) = m ((c.tc : Thread Cert.MixWbDwIdeal.nD Cert.MixWbDwIdeal.τ).loc Cert.MixWbDwIdeal.main_arg1))
      ∧ r.2.sem = fun _ => 0)

def quiescent_MixWbDwRefIdeal [hMixWbDwRefIdeal : Cert.MixWbDwRefIdeal.Facts] : Prop :=
  ∀ (m : (ℓ : Loc Cert.MixWbDwRefIdeal.nD Cert.MixWbDwRefIdeal.τ Cert.MixWbDwRefIdeal.sig) → Buf (Elt Ideal) ℓ) (g : Dev Cert.MixWbDwRefIdeal.nD → PrngReg), Pre_MixWbDwRefIdeal m →
    θ_run (Cert.MixWbDwRefIdeal.defs (F := Ideal)) (onTc (τ := Cert.MixWbDwRefIdeal.τ) (Cert.MixWbDwRefIdeal.main (F := Ideal))) ⟨m, fun _ => 0, g⟩ (fun r => (∀ c : Dev Cert.MixWbDwRefIdeal.nD,
      r.2.mem ((c.tc : Thread Cert.MixWbDwRefIdeal.nD Cert.MixWbDwRefIdeal.τ).loc Cert.MixWbDwRefIdeal.main_arg0) = m ((c.tc : Thread Cert.MixWbDwRefIdeal.nD Cert.MixWbDwRefIdeal.τ).loc Cert.MixWbDwRefIdeal.main_arg0)
      ∧ r.2.mem ((c.tc : Thread Cert.MixWbDwRefIdeal.nD Cert.MixWbDwRefIdeal.τ).loc Cert.MixWbDwRefIdeal.main_arg1) = m ((c.tc : Thread Cert.MixWbDwRefIdeal.nD Cert.MixWbDwRefIdeal.τ).loc Cert.MixWbDwRefIdeal.main_arg1))
      ∧ r.2.sem = fun _ => 0)

def quiescent_MixQkvDw [hMixQkvDw : Cert.MixQkvDw.Facts] : Prop :=
  ∀ (m : (ℓ : Loc Cert.MixQkvDw.nD Cert.MixQkvDw.τ Cert.MixQkvDw.sig) → Buf (Elt Bits) ℓ) (g : Dev Cert.MixQkvDw.nD → PrngReg), Pre_MixQkvDw m →
    θ_run (Cert.MixQkvDw.defs (F := Bits)) (onTc (τ := Cert.MixQkvDw.τ) (Cert.MixQkvDw.main (F := Bits))) ⟨m, fun _ => 0, g⟩ (fun r => (∀ c : Dev Cert.MixQkvDw.nD,
      r.2.mem ((c.tc : Thread Cert.MixQkvDw.nD Cert.MixQkvDw.τ).loc Cert.MixQkvDw.main_arg0) = m ((c.tc : Thread Cert.MixQkvDw.nD Cert.MixQkvDw.τ).loc Cert.MixQkvDw.main_arg0)
      ∧ r.2.mem ((c.tc : Thread Cert.MixQkvDw.nD Cert.MixQkvDw.τ).loc Cert.MixQkvDw.main_arg1) = m ((c.tc : Thread Cert.MixQkvDw.nD Cert.MixQkvDw.τ).loc Cert.MixQkvDw.main_arg1))
      ∧ r.2.sem = fun _ => 0)

def quiescent_MixQkvDwIdeal [hMixQkvDwIdeal : Cert.MixQkvDwIdeal.Facts] : Prop :=
  ∀ (m : (ℓ : Loc Cert.MixQkvDwIdeal.nD Cert.MixQkvDwIdeal.τ Cert.MixQkvDwIdeal.sig) → Buf (Elt Ideal) ℓ) (g : Dev Cert.MixQkvDwIdeal.nD → PrngReg), Pre_MixQkvDwIdeal m →
    θ_run (Cert.MixQkvDwIdeal.defs (F := Ideal)) (onTc (τ := Cert.MixQkvDwIdeal.τ) (Cert.MixQkvDwIdeal.main (F := Ideal))) ⟨m, fun _ => 0, g⟩ (fun r => (∀ c : Dev Cert.MixQkvDwIdeal.nD,
      r.2.mem ((c.tc : Thread Cert.MixQkvDwIdeal.nD Cert.MixQkvDwIdeal.τ).loc Cert.MixQkvDwIdeal.main_arg0) = m ((c.tc : Thread Cert.MixQkvDwIdeal.nD Cert.MixQkvDwIdeal.τ).loc Cert.MixQkvDwIdeal.main_arg0)
      ∧ r.2.mem ((c.tc : Thread Cert.MixQkvDwIdeal.nD Cert.MixQkvDwIdeal.τ).loc Cert.MixQkvDwIdeal.main_arg1) = m ((c.tc : Thread Cert.MixQkvDwIdeal.nD Cert.MixQkvDwIdeal.τ).loc Cert.MixQkvDwIdeal.main_arg1))
      ∧ r.2.sem = fun _ => 0)

def quiescent_MixQkvDwRefIdeal [hMixQkvDwRefIdeal : Cert.MixQkvDwRefIdeal.Facts] : Prop :=
  ∀ (m : (ℓ : Loc Cert.MixQkvDwRefIdeal.nD Cert.MixQkvDwRefIdeal.τ Cert.MixQkvDwRefIdeal.sig) → Buf (Elt Ideal) ℓ) (g : Dev Cert.MixQkvDwRefIdeal.nD → PrngReg), Pre_MixQkvDwRefIdeal m →
    θ_run (Cert.MixQkvDwRefIdeal.defs (F := Ideal)) (onTc (τ := Cert.MixQkvDwRefIdeal.τ) (Cert.MixQkvDwRefIdeal.main (F := Ideal))) ⟨m, fun _ => 0, g⟩ (fun r => (∀ c : Dev Cert.MixQkvDwRefIdeal.nD,
      r.2.mem ((c.tc : Thread Cert.MixQkvDwRefIdeal.nD Cert.MixQkvDwRefIdeal.τ).loc Cert.MixQkvDwRefIdeal.main_arg0) = m ((c.tc : Thread Cert.MixQkvDwRefIdeal.nD Cert.MixQkvDwRefIdeal.τ).loc Cert.MixQkvDwRefIdeal.main_arg0)
      ∧ r.2.mem ((c.tc : Thread Cert.MixQkvDwRefIdeal.nD Cert.MixQkvDwRefIdeal.τ).loc Cert.MixQkvDwRefIdeal.main_arg1) = m ((c.tc : Thread Cert.MixQkvDwRefIdeal.nD Cert.MixQkvDwRefIdeal.τ).loc Cert.MixQkvDwRefIdeal.main_arg1))
      ∧ r.2.sem = fun _ => 0)

def quiescent_MixBaDw [hMixBaDw : Cert.MixBaDw.Facts] : Prop :=
  ∀ (m : (ℓ : Loc Cert.MixBaDw.nD Cert.MixBaDw.τ Cert.MixBaDw.sig) → Buf (Elt Bits) ℓ) (g : Dev Cert.MixBaDw.nD → PrngReg), Pre_MixBaDw m →
    θ_run (Cert.MixBaDw.defs (F := Bits)) (onTc (τ := Cert.MixBaDw.τ) (Cert.MixBaDw.main (F := Bits))) ⟨m, fun _ => 0, g⟩ (fun r => (∀ c : Dev Cert.MixBaDw.nD,
      r.2.mem ((c.tc : Thread Cert.MixBaDw.nD Cert.MixBaDw.τ).loc Cert.MixBaDw.main_arg0) = m ((c.tc : Thread Cert.MixBaDw.nD Cert.MixBaDw.τ).loc Cert.MixBaDw.main_arg0)
      ∧ r.2.mem ((c.tc : Thread Cert.MixBaDw.nD Cert.MixBaDw.τ).loc Cert.MixBaDw.main_arg1) = m ((c.tc : Thread Cert.MixBaDw.nD Cert.MixBaDw.τ).loc Cert.MixBaDw.main_arg1))
      ∧ r.2.sem = fun _ => 0)

def quiescent_MixBaDwIdeal [hMixBaDwIdeal : Cert.MixBaDwIdeal.Facts] : Prop :=
  ∀ (m : (ℓ : Loc Cert.MixBaDwIdeal.nD Cert.MixBaDwIdeal.τ Cert.MixBaDwIdeal.sig) → Buf (Elt Ideal) ℓ) (g : Dev Cert.MixBaDwIdeal.nD → PrngReg), Pre_MixBaDwIdeal m →
    θ_run (Cert.MixBaDwIdeal.defs (F := Ideal)) (onTc (τ := Cert.MixBaDwIdeal.τ) (Cert.MixBaDwIdeal.main (F := Ideal))) ⟨m, fun _ => 0, g⟩ (fun r => (∀ c : Dev Cert.MixBaDwIdeal.nD,
      r.2.mem ((c.tc : Thread Cert.MixBaDwIdeal.nD Cert.MixBaDwIdeal.τ).loc Cert.MixBaDwIdeal.main_arg0) = m ((c.tc : Thread Cert.MixBaDwIdeal.nD Cert.MixBaDwIdeal.τ).loc Cert.MixBaDwIdeal.main_arg0)
      ∧ r.2.mem ((c.tc : Thread Cert.MixBaDwIdeal.nD Cert.MixBaDwIdeal.τ).loc Cert.MixBaDwIdeal.main_arg1) = m ((c.tc : Thread Cert.MixBaDwIdeal.nD Cert.MixBaDwIdeal.τ).loc Cert.MixBaDwIdeal.main_arg1))
      ∧ r.2.sem = fun _ => 0)

def quiescent_MixBaDwRefIdeal [hMixBaDwRefIdeal : Cert.MixBaDwRefIdeal.Facts] : Prop :=
  ∀ (m : (ℓ : Loc Cert.MixBaDwRefIdeal.nD Cert.MixBaDwRefIdeal.τ Cert.MixBaDwRefIdeal.sig) → Buf (Elt Ideal) ℓ) (g : Dev Cert.MixBaDwRefIdeal.nD → PrngReg), Pre_MixBaDwRefIdeal m →
    θ_run (Cert.MixBaDwRefIdeal.defs (F := Ideal)) (onTc (τ := Cert.MixBaDwRefIdeal.τ) (Cert.MixBaDwRefIdeal.main (F := Ideal))) ⟨m, fun _ => 0, g⟩ (fun r => (∀ c : Dev Cert.MixBaDwRefIdeal.nD,
      r.2.mem ((c.tc : Thread Cert.MixBaDwRefIdeal.nD Cert.MixBaDwRefIdeal.τ).loc Cert.MixBaDwRefIdeal.main_arg0) = m ((c.tc : Thread Cert.MixBaDwRefIdeal.nD Cert.MixBaDwRefIdeal.τ).loc Cert.MixBaDwRefIdeal.main_arg0)
      ∧ r.2.mem ((c.tc : Thread Cert.MixBaDwRefIdeal.nD Cert.MixBaDwRefIdeal.τ).loc Cert.MixBaDwRefIdeal.main_arg1) = m ((c.tc : Thread Cert.MixBaDwRefIdeal.nD Cert.MixBaDwRefIdeal.τ).loc Cert.MixBaDwRefIdeal.main_arg1))
      ∧ r.2.sem = fun _ => 0)

def quiescent_MixDaDw [hMixDaDw : Cert.MixDaDw.Facts] : Prop :=
  ∀ (m : (ℓ : Loc Cert.MixDaDw.nD Cert.MixDaDw.τ Cert.MixDaDw.sig) → Buf (Elt Bits) ℓ) (g : Dev Cert.MixDaDw.nD → PrngReg), Pre_MixDaDw m →
    θ_run (Cert.MixDaDw.defs (F := Bits)) (onTc (τ := Cert.MixDaDw.τ) (Cert.MixDaDw.main (F := Bits))) ⟨m, fun _ => 0, g⟩ (fun r => (∀ c : Dev Cert.MixDaDw.nD,
      r.2.mem ((c.tc : Thread Cert.MixDaDw.nD Cert.MixDaDw.τ).loc Cert.MixDaDw.main_arg0) = m ((c.tc : Thread Cert.MixDaDw.nD Cert.MixDaDw.τ).loc Cert.MixDaDw.main_arg0)
      ∧ r.2.mem ((c.tc : Thread Cert.MixDaDw.nD Cert.MixDaDw.τ).loc Cert.MixDaDw.main_arg1) = m ((c.tc : Thread Cert.MixDaDw.nD Cert.MixDaDw.τ).loc Cert.MixDaDw.main_arg1))
      ∧ r.2.sem = fun _ => 0)

def quiescent_MixDaDwIdeal [hMixDaDwIdeal : Cert.MixDaDwIdeal.Facts] : Prop :=
  ∀ (m : (ℓ : Loc Cert.MixDaDwIdeal.nD Cert.MixDaDwIdeal.τ Cert.MixDaDwIdeal.sig) → Buf (Elt Ideal) ℓ) (g : Dev Cert.MixDaDwIdeal.nD → PrngReg), Pre_MixDaDwIdeal m →
    θ_run (Cert.MixDaDwIdeal.defs (F := Ideal)) (onTc (τ := Cert.MixDaDwIdeal.τ) (Cert.MixDaDwIdeal.main (F := Ideal))) ⟨m, fun _ => 0, g⟩ (fun r => (∀ c : Dev Cert.MixDaDwIdeal.nD,
      r.2.mem ((c.tc : Thread Cert.MixDaDwIdeal.nD Cert.MixDaDwIdeal.τ).loc Cert.MixDaDwIdeal.main_arg0) = m ((c.tc : Thread Cert.MixDaDwIdeal.nD Cert.MixDaDwIdeal.τ).loc Cert.MixDaDwIdeal.main_arg0)
      ∧ r.2.mem ((c.tc : Thread Cert.MixDaDwIdeal.nD Cert.MixDaDwIdeal.τ).loc Cert.MixDaDwIdeal.main_arg1) = m ((c.tc : Thread Cert.MixDaDwIdeal.nD Cert.MixDaDwIdeal.τ).loc Cert.MixDaDwIdeal.main_arg1))
      ∧ r.2.sem = fun _ => 0)

def quiescent_MixDaDwRefIdeal [hMixDaDwRefIdeal : Cert.MixDaDwRefIdeal.Facts] : Prop :=
  ∀ (m : (ℓ : Loc Cert.MixDaDwRefIdeal.nD Cert.MixDaDwRefIdeal.τ Cert.MixDaDwRefIdeal.sig) → Buf (Elt Ideal) ℓ) (g : Dev Cert.MixDaDwRefIdeal.nD → PrngReg), Pre_MixDaDwRefIdeal m →
    θ_run (Cert.MixDaDwRefIdeal.defs (F := Ideal)) (onTc (τ := Cert.MixDaDwRefIdeal.τ) (Cert.MixDaDwRefIdeal.main (F := Ideal))) ⟨m, fun _ => 0, g⟩ (fun r => (∀ c : Dev Cert.MixDaDwRefIdeal.nD,
      r.2.mem ((c.tc : Thread Cert.MixDaDwRefIdeal.nD Cert.MixDaDwRefIdeal.τ).loc Cert.MixDaDwRefIdeal.main_arg0) = m ((c.tc : Thread Cert.MixDaDwRefIdeal.nD Cert.MixDaDwRefIdeal.τ).loc Cert.MixDaDwRefIdeal.main_arg0)
      ∧ r.2.mem ((c.tc : Thread Cert.MixDaDwRefIdeal.nD Cert.MixDaDwRefIdeal.τ).loc Cert.MixDaDwRefIdeal.main_arg1) = m ((c.tc : Thread Cert.MixDaDwRefIdeal.nD Cert.MixDaDwRefIdeal.τ).loc Cert.MixDaDwRefIdeal.main_arg1))
      ∧ r.2.sem = fun _ => 0)

def quiescent_MixPgDw [hMixPgDw : Cert.MixPgDw.Facts] : Prop :=
  ∀ (m : (ℓ : Loc Cert.MixPgDw.nD Cert.MixPgDw.τ Cert.MixPgDw.sig) → Buf (Elt Bits) ℓ) (g : Dev Cert.MixPgDw.nD → PrngReg), Pre_MixPgDw m →
    θ_run (Cert.MixPgDw.defs (F := Bits)) (onTc (τ := Cert.MixPgDw.τ) (Cert.MixPgDw.main (F := Bits))) ⟨m, fun _ => 0, g⟩ (fun r => (∀ c : Dev Cert.MixPgDw.nD,
      r.2.mem ((c.tc : Thread Cert.MixPgDw.nD Cert.MixPgDw.τ).loc Cert.MixPgDw.main_arg0) = m ((c.tc : Thread Cert.MixPgDw.nD Cert.MixPgDw.τ).loc Cert.MixPgDw.main_arg0)
      ∧ r.2.mem ((c.tc : Thread Cert.MixPgDw.nD Cert.MixPgDw.τ).loc Cert.MixPgDw.main_arg1) = m ((c.tc : Thread Cert.MixPgDw.nD Cert.MixPgDw.τ).loc Cert.MixPgDw.main_arg1))
      ∧ r.2.sem = fun _ => 0)

def quiescent_MixPgDwIdeal [hMixPgDwIdeal : Cert.MixPgDwIdeal.Facts] : Prop :=
  ∀ (m : (ℓ : Loc Cert.MixPgDwIdeal.nD Cert.MixPgDwIdeal.τ Cert.MixPgDwIdeal.sig) → Buf (Elt Ideal) ℓ) (g : Dev Cert.MixPgDwIdeal.nD → PrngReg), Pre_MixPgDwIdeal m →
    θ_run (Cert.MixPgDwIdeal.defs (F := Ideal)) (onTc (τ := Cert.MixPgDwIdeal.τ) (Cert.MixPgDwIdeal.main (F := Ideal))) ⟨m, fun _ => 0, g⟩ (fun r => (∀ c : Dev Cert.MixPgDwIdeal.nD,
      r.2.mem ((c.tc : Thread Cert.MixPgDwIdeal.nD Cert.MixPgDwIdeal.τ).loc Cert.MixPgDwIdeal.main_arg0) = m ((c.tc : Thread Cert.MixPgDwIdeal.nD Cert.MixPgDwIdeal.τ).loc Cert.MixPgDwIdeal.main_arg0)
      ∧ r.2.mem ((c.tc : Thread Cert.MixPgDwIdeal.nD Cert.MixPgDwIdeal.τ).loc Cert.MixPgDwIdeal.main_arg1) = m ((c.tc : Thread Cert.MixPgDwIdeal.nD Cert.MixPgDwIdeal.τ).loc Cert.MixPgDwIdeal.main_arg1))
      ∧ r.2.sem = fun _ => 0)

def quiescent_MixPgDwRefIdeal [hMixPgDwRefIdeal : Cert.MixPgDwRefIdeal.Facts] : Prop :=
  ∀ (m : (ℓ : Loc Cert.MixPgDwRefIdeal.nD Cert.MixPgDwRefIdeal.τ Cert.MixPgDwRefIdeal.sig) → Buf (Elt Ideal) ℓ) (g : Dev Cert.MixPgDwRefIdeal.nD → PrngReg), Pre_MixPgDwRefIdeal m →
    θ_run (Cert.MixPgDwRefIdeal.defs (F := Ideal)) (onTc (τ := Cert.MixPgDwRefIdeal.τ) (Cert.MixPgDwRefIdeal.main (F := Ideal))) ⟨m, fun _ => 0, g⟩ (fun r => (∀ c : Dev Cert.MixPgDwRefIdeal.nD,
      r.2.mem ((c.tc : Thread Cert.MixPgDwRefIdeal.nD Cert.MixPgDwRefIdeal.τ).loc Cert.MixPgDwRefIdeal.main_arg0) = m ((c.tc : Thread Cert.MixPgDwRefIdeal.nD Cert.MixPgDwRefIdeal.τ).loc Cert.MixPgDwRefIdeal.main_arg0)
      ∧ r.2.mem ((c.tc : Thread Cert.MixPgDwRefIdeal.nD Cert.MixPgDwRefIdeal.τ).loc Cert.MixPgDwRefIdeal.main_arg1) = m ((c.tc : Thread Cert.MixPgDwRefIdeal.nD Cert.MixPgDwRefIdeal.τ).loc Cert.MixPgDwRefIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3)
      ∧ r.2.mem ((c.tc : Thread Cert.InputGrad.nD Cert.InputGrad.τ).loc Cert.InputGrad.main_arg4) = m ((c.tc : Thread Cert.InputGrad.nD Cert.InputGrad.τ).loc Cert.InputGrad.main_arg4)
      ∧ r.2.mem ((c.tc : Thread Cert.InputGrad.nD Cert.InputGrad.τ).loc Cert.InputGrad.main_arg5) = m ((c.tc : Thread Cert.InputGrad.nD Cert.InputGrad.τ).loc Cert.InputGrad.main_arg5))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4)
      ∧ r.2.mem ((c.tc : Thread Cert.InputGradIdeal.nD Cert.InputGradIdeal.τ).loc Cert.InputGradIdeal.main_arg5) = m ((c.tc : Thread Cert.InputGradIdeal.nD Cert.InputGradIdeal.τ).loc Cert.InputGradIdeal.main_arg5))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3)
      ∧ r.2.mem ((c.tc : Thread Cert.InputGradRefIdeal.nD Cert.InputGradRefIdeal.τ).loc Cert.InputGradRefIdeal.main_arg4) = m ((c.tc : Thread Cert.InputGradRefIdeal.nD Cert.InputGradRefIdeal.τ).loc Cert.InputGradRefIdeal.main_arg4)
      ∧ r.2.mem ((c.tc : Thread Cert.InputGradRefIdeal.nD Cert.InputGradRefIdeal.τ).loc Cert.InputGradRefIdeal.main_arg5) = m ((c.tc : Thread Cert.InputGradRefIdeal.nD Cert.InputGradRefIdeal.τ).loc Cert.InputGradRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![14112, 1024]⟩ ⟨2, ![56448, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![14112, 1024]⟩ ⟨2, ![56448, 1024]⟩ (Layout.meshBlock [2, 2, 2] ![[0, 1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.blockN ⟨3, ![4, 7056, 1024]⟩ ⟨3, ![16, 14112, 1024]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.blockN ⟨3, ![4, 7056, 1024]⟩ ⟨3, ![16, 14112, 1024]⟩ (Layout.meshBlock [2, 2, 2] ![[0, 1], [2], []] c) v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.blockN ⟨3, ![4, 7056, 1024]⟩ ⟨3, ![16, 14112, 1024]⟩ (Layout.meshBlock [2, 2, 2] ![[0, 1], [2], []] c) (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.blockN ⟨3, ![4, 7056, 1024]⟩ ⟨3, ![16, 14112, 1024]⟩ (Layout.meshBlock [2, 2, 2] ![[0, 1], [2], []] c) v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.blockN ⟨3, ![4, 7056, 1024]⟩ ⟨3, ![16, 14112, 1024]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v2)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.blockN ⟨3, ![4, 7056, 1024]⟩ ⟨3, ![16, 14112, 1024]⟩ (Layout.meshBlock [2, 2, 2] ![[0, 1], [2], []] c) v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v2) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.blockN ⟨3, ![4, 7056, 1024]⟩ ⟨3, ![16, 14112, 1024]⟩ (Layout.meshBlock [2, 2, 2] ![[0, 1], [2], []] c) (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v2)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.blockN ⟨3, ![4, 7056, 1024]⟩ ⟨3, ![16, 14112, 1024]⟩ (Layout.meshBlock [2, 2, 2] ![[0, 1], [2], []] c) v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v2) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_FinalSwap_FinalSwapIdeal : Prop :=
  True

def algebraic_FinalSwapIdeal_FinalSwapRefIdeal [hFinalSwapIdeal : Cert.FinalSwapIdeal.Facts] [hFinalSwapRefIdeal : Cert.FinalSwapRefIdeal.Facts] : Prop :=
  ∀ (m : (ℓ : Loc Cert.FinalSwapIdeal.nD Cert.FinalSwapIdeal.τ Cert.FinalSwapIdeal.sig) → Buf (Elt Ideal) ℓ) (g : Dev Cert.FinalSwapIdeal.nD → PrngReg)
    (m' : (ℓ : Loc Cert.FinalSwapRefIdeal.nD Cert.FinalSwapRefIdeal.τ Cert.FinalSwapRefIdeal.sig) → Buf (Elt Ideal) ℓ) (g' : Dev Cert.FinalSwapRefIdeal.nD → PrngReg), Pre_FinalSwapIdeal m →
    (∀ c : Dev Cert.FinalSwapIdeal.nD,
      m ((c.tc : Thread Cert.FinalSwapIdeal.nD Cert.FinalSwapIdeal.τ).loc Cert.FinalSwapIdeal.main_arg0) = Layout.block ⟨2, ![7056, 1024]⟩ ⟨2, ![56448, 1024]⟩ 0 8 c (m' (((0 : Dev Cert.FinalSwapRefIdeal.nD).tc : Thread Cert.FinalSwapRefIdeal.nD Cert.FinalSwapRefIdeal.τ).loc Cert.FinalSwapRefIdeal.main_arg0))) →
    ∃ (v0 : Buf (Elt Ideal) (((0 : Dev Cert.FinalSwapRefIdeal.nD).tc : Thread Cert.FinalSwapRefIdeal.nD Cert.FinalSwapRefIdeal.τ).loc Cert.FinalSwapRefIdeal.main_v2)),
      θ_run (Cert.FinalSwapIdeal.defs (F := Ideal)) (onTc (τ := Cert.FinalSwapIdeal.τ) (Cert.FinalSwapIdeal.main (F := Ideal))) ⟨m, fun _ => 0, g⟩ (fun r => ∀ c : Dev Cert.FinalSwapIdeal.nD,
          r.2.mem ((c.tc : Thread Cert.FinalSwapIdeal.nD Cert.FinalSwapIdeal.τ).loc Cert.FinalSwapIdeal.main_v1) = Layout.block ⟨2, ![7056, 1024]⟩ ⟨2, ![56448, 1024]⟩ 0 8 c v0
          ∧ r.2.mem ((c.tc : Thread Cert.FinalSwapIdeal.nD Cert.FinalSwapIdeal.τ).loc Cert.FinalSwapIdeal.main_arg0) = m ((c.tc : Thread Cert.FinalSwapIdeal.nD Cert.FinalSwapIdeal.τ).loc Cert.FinalSwapIdeal.main_arg0))
      ∧ θ_run (Cert.FinalSwapRefIdeal.defs (F := Ideal)) (onTc (τ := Cert.FinalSwapRefIdeal.τ) (Cert.FinalSwapRefIdeal.main (F := Ideal))) ⟨m', fun _ => 0, g'⟩ (fun r =>
          r.2.mem (((0 : Dev Cert.FinalSwapRefIdeal.nD).tc : Thread Cert.FinalSwapRefIdeal.nD Cert.FinalSwapRefIdeal.τ).loc Cert.FinalSwapRefIdeal.main_v2) = v0
          ∧ r.2.mem (((0 : Dev Cert.FinalSwapRefIdeal.nD).tc : Thread Cert.FinalSwapRefIdeal.nD Cert.FinalSwapRefIdeal.τ).loc Cert.FinalSwapRefIdeal.main_arg0) = m' (((0 : Dev Cert.FinalSwapRefIdeal.nD).tc : Thread Cert.FinalSwapRefIdeal.nD Cert.FinalSwapRefIdeal.τ).loc Cert.FinalSwapRefIdeal.main_arg0))

def bitexact_FinalSwap_FinalSwapRef [hFinalSwap : Cert.FinalSwap.Facts] [hFinalSwapRef : Cert.FinalSwapRef.Facts] : Prop :=
  ∀ (m : (ℓ : Loc Cert.FinalSwap.nD Cert.FinalSwap.τ Cert.FinalSwap.sig) → Buf (Elt Bits) ℓ) (g : Dev Cert.FinalSwap.nD → PrngReg)
    (m' : (ℓ : Loc Cert.FinalSwapRef.nD Cert.FinalSwapRef.τ Cert.FinalSwapRef.sig) → Buf (Elt Bits) ℓ) (g' : Dev Cert.FinalSwapRef.nD → PrngReg), Pre_FinalSwap m →
    (∀ c : Dev Cert.FinalSwap.nD,
      m ((c.tc : Thread Cert.FinalSwap.nD Cert.FinalSwap.τ).loc Cert.FinalSwap.main_arg0) = Layout.block ⟨2, ![7056, 1024]⟩ ⟨2, ![56448, 1024]⟩ 0 8 c (m' (((0 : Dev Cert.FinalSwapRef.nD).tc : Thread Cert.FinalSwapRef.nD Cert.FinalSwapRef.τ).loc Cert.FinalSwapRef.main_arg0))) →
    ∃ (v0 : Buf (Elt Bits) (((0 : Dev Cert.FinalSwapRef.nD).tc : Thread Cert.FinalSwapRef.nD Cert.FinalSwapRef.τ).loc Cert.FinalSwapRef.main_v2)),
      θ_run (Cert.FinalSwap.defs (F := Bits)) (onTc (τ := Cert.FinalSwap.τ) (Cert.FinalSwap.main (F := Bits))) ⟨m, fun _ => 0, g⟩ (fun r => ∀ c : Dev Cert.FinalSwap.nD,
          r.2.mem ((c.tc : Thread Cert.FinalSwap.nD Cert.FinalSwap.τ).loc Cert.FinalSwap.main_v1) = Layout.block ⟨2, ![7056, 1024]⟩ ⟨2, ![56448, 1024]⟩ 0 8 c v0
          ∧ r.2.mem ((c.tc : Thread Cert.FinalSwap.nD Cert.FinalSwap.τ).loc Cert.FinalSwap.main_arg0) = m ((c.tc : Thread Cert.FinalSwap.nD Cert.FinalSwap.τ).loc Cert.FinalSwap.main_arg0))
      ∧ θ_run (Cert.FinalSwapRef.defs (F := Bits)) (onTc (τ := Cert.FinalSwapRef.τ) (Cert.FinalSwapRef.main (F := Bits))) ⟨m', fun _ => 0, g'⟩ (fun r =>
          r.2.mem (((0 : Dev Cert.FinalSwapRef.nD).tc : Thread Cert.FinalSwapRef.nD Cert.FinalSwapRef.τ).loc Cert.FinalSwapRef.main_v2) = v0
          ∧ r.2.mem (((0 : Dev Cert.FinalSwapRef.nD).tc : Thread Cert.FinalSwapRef.nD Cert.FinalSwapRef.τ).loc Cert.FinalSwapRef.main_arg0) = m' (((0 : Dev Cert.FinalSwapRef.nD).tc : Thread Cert.FinalSwapRef.nD Cert.FinalSwapRef.τ).loc Cert.FinalSwapRef.main_arg0))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v0_0)) (v1 : (c : Dev Cert.AdamAdaWIdeal.nD) → Buf (Elt Ideal) ((c.tc : Thread Cert.AdamAdaWIdeal.nD Cert.AdamAdaWIdeal.τ).loc Cert.AdamAdaWIdeal.main_v0_1)) (v2 : (c : Dev Cert.AdamAdaWIdeal.nD) → Buf (Elt Ideal) ((c.tc : Thread Cert.AdamAdaWIdeal.nD Cert.AdamAdaWIdeal.τ).loc Cert.AdamAdaWIdeal.main_v0_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v0_0) = v0 c
          ∧ r.2.mem ((c.tc : Thread Cert.AdamAdaWIdeal.nD Cert.AdamAdaWIdeal.τ).loc Cert.AdamAdaWIdeal.main_v0_1) = v1 c
          ∧ r.2.mem ((c.tc : Thread Cert.AdamAdaWIdeal.nD Cert.AdamAdaWIdeal.τ).loc Cert.AdamAdaWIdeal.main_v0_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v23) = v0 c
          ∧ r.2.mem ((c.tc : Thread Cert.AdamAdaWRefIdeal.nD Cert.AdamAdaWRefIdeal.τ).loc Cert.AdamAdaWRefIdeal.main_v4) = v1 c
          ∧ r.2.mem ((c.tc : Thread Cert.AdamAdaWRefIdeal.nD Cert.AdamAdaWRefIdeal.τ).loc Cert.AdamAdaWRefIdeal.main_v10) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_v23) = v0 c
          ∧ r.2.mem ((c.tc : Thread Cert.AdamLnRefIdeal.nD Cert.AdamLnRefIdeal.τ).loc Cert.AdamLnRefIdeal.main_v4) = v1 c
          ∧ r.2.mem ((c.tc : Thread Cert.AdamLnRefIdeal.nD Cert.AdamLnRefIdeal.τ).loc Cert.AdamLnRefIdeal.main_v10) = v2 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v23) = v0 c
          ∧ r.2.mem ((c.tc : Thread Cert.AdamFfnInRefIdeal.nD Cert.AdamFfnInRefIdeal.τ).loc Cert.AdamFfnInRefIdeal.main_v4) = v1 c
          ∧ r.2.mem ((c.tc : Thread Cert.AdamFfnInRefIdeal.nD Cert.AdamFfnInRefIdeal.τ).loc Cert.AdamFfnInRefIdeal.main_v10) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v23) = v0 c
          ∧ r.2.mem ((c.tc : Thread Cert.AdamFfnOutRefIdeal.nD Cert.AdamFfnOutRefIdeal.τ).loc Cert.AdamFfnOutRefIdeal.main_v4) = v1 c
          ∧ r.2.mem ((c.tc : Thread Cert.AdamFfnOutRefIdeal.nD Cert.AdamFfnOutRefIdeal.τ).loc Cert.AdamFfnOutRefIdeal.main_v10) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamHeads_AdamHeadsIdeal : Prop :=
  True

def algebraic_AdamHeadsIdeal_AdamHeadsRefIdeal [hAdamHeadsIdeal : Cert.AdamHeadsIdeal.Facts] [hAdamHeadsRefIdeal : Cert.AdamHeadsRefIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg)
    (m' : (ℓ : Loc Cert.AdamHeadsRefIdeal.nD Cert.AdamHeadsRefIdeal.τ Cert.AdamHeadsRefIdeal.sig) → Buf (Elt Ideal) ℓ) (g' : Dev Cert.AdamHeadsRefIdeal.nD → PrngReg), Pre_AdamHeadsIdeal m →
    (∀ c : Dev Cert.AdamHeadsIdeal.nD,
      m' ((c.tc : Thread Cert.AdamHeadsRefIdeal.nD Cert.AdamHeadsRefIdeal.τ).loc Cert.AdamHeadsRefIdeal.main_arg0) = m ((c.tc : Thread Cert.AdamHeadsIdeal.nD Cert.AdamHeadsIdeal.τ).loc Cert.AdamHeadsIdeal.main_arg0)
      ∧ m' ((c.tc : Thread Cert.AdamHeadsRefIdeal.nD Cert.AdamHeadsRefIdeal.τ).loc Cert.AdamHeadsRefIdeal.main_arg1) = m ((c.tc : Thread Cert.AdamHeadsIdeal.nD Cert.AdamHeadsIdeal.τ).loc Cert.AdamHeadsIdeal.main_arg1)
      ∧ m' ((c.tc : Thread Cert.AdamHeadsRefIdeal.nD Cert.AdamHeadsRefIdeal.τ).loc Cert.AdamHeadsRefIdeal.main_arg2) = m ((c.tc : Thread Cert.AdamHeadsIdeal.nD Cert.AdamHeadsIdeal.τ).loc Cert.AdamHeadsIdeal.main_arg2)
      ∧ m' ((c.tc : Thread Cert.AdamHeadsRefIdeal.nD Cert.AdamHeadsRefIdeal.τ).loc Cert.AdamHeadsRefIdeal.main_arg3) = m ((c.tc : Thread Cert.AdamHeadsIdeal.nD Cert.AdamHeadsIdeal.τ).loc Cert.AdamHeadsIdeal.main_arg3)) →
    ∃ (v0 : (c : Dev Cert.AdamHeadsIdeal.nD) → Buf (Elt Ideal) ((c.tc : Thread Cert.AdamHeadsIdeal.nD Cert.AdamHeadsIdeal.τ).loc Cert.AdamHeadsIdeal.main_v0_0)) (v1 : (c : Dev Cert.AdamHeadsIdeal.nD) → Buf (Elt Ideal) ((c.tc : Thread Cert.AdamHeadsIdeal.nD Cert.AdamHeadsIdeal.τ).loc Cert.AdamHeadsIdeal.main_v0_1)) (v2 : (c : Dev Cert.AdamHeadsIdeal.nD) → Buf (Elt Ideal) ((c.tc : Thread Cert.AdamHeadsIdeal.nD Cert.AdamHeadsIdeal.τ).loc Cert.AdamHeadsIdeal.main_v0_2)),
      θ_run (Cert.AdamHeadsIdeal.defs (F := Ideal)) (onTc (τ := Cert.AdamHeadsIdeal.τ) (Cert.AdamHeadsIdeal.main (F := Ideal))) ⟨m, fun _ => 0, g⟩ (fun r => ∀ c : Dev Cert.AdamHeadsIdeal.nD,
          r.2.mem ((c.tc : Thread Cert.AdamHeadsIdeal.nD Cert.AdamHeadsIdeal.τ).loc Cert.AdamHeadsIdeal.main_v0_0) = v0 c
          ∧ r.2.mem ((c.tc : Thread Cert.AdamHeadsIdeal.nD Cert.AdamHeadsIdeal.τ).loc Cert.AdamHeadsIdeal.main_v0_1) = v1 c
          ∧ r.2.mem ((c.tc : Thread Cert.AdamHeadsIdeal.nD Cert.AdamHeadsIdeal.τ).loc Cert.AdamHeadsIdeal.main_v0_2) = v2 c
          ∧ r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
          ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
          ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
          ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ θ_run (Cert.AdamHeadsRefIdeal.defs (F := Ideal)) (onTc (τ := Cert.AdamHeadsRefIdeal.τ) (Cert.AdamHeadsRefIdeal.main (F := Ideal))) ⟨m', fun _ => 0, g'⟩ (fun r => ∀ c : Dev Cert.AdamHeadsRefIdeal.nD,
          r.2.mem ((c.tc : Thread Cert.AdamHeadsRefIdeal.nD Cert.AdamHeadsRefIdeal.τ).loc Cert.AdamHeadsRefIdeal.main_v23) = v0 c
          ∧ r.2.mem ((c.tc : Thread Cert.AdamHeadsRefIdeal.nD Cert.AdamHeadsRefIdeal.τ).loc Cert.AdamHeadsRefIdeal.main_v4) = v1 c
          ∧ r.2.mem ((c.tc : Thread Cert.AdamHeadsRefIdeal.nD Cert.AdamHeadsRefIdeal.τ).loc Cert.AdamHeadsRefIdeal.main_v10) = v2 c
          ∧ r.2.mem ((c.tc : Thread Cert.AdamHeadsRefIdeal.nD Cert.AdamHeadsRefIdeal.τ).loc Cert.AdamHeadsRefIdeal.main_arg0) = m' ((c.tc : Thread Cert.AdamHeadsRefIdeal.nD Cert.AdamHeadsRefIdeal.τ).loc Cert.AdamHeadsRefIdeal.main_arg0)
          ∧ r.2.mem ((c.tc : Thread Cert.AdamHeadsRefIdeal.nD Cert.AdamHeadsRefIdeal.τ).loc Cert.AdamHeadsRefIdeal.main_arg1) = m' ((c.tc : Thread Cert.AdamHeadsRefIdeal.nD Cert.AdamHeadsRefIdeal.τ).loc Cert.AdamHeadsRefIdeal.main_arg1)
          ∧ r.2.mem ((c.tc : Thread Cert.AdamHeadsRefIdeal.nD Cert.AdamHeadsRefIdeal.τ).loc Cert.AdamHeadsRefIdeal.main_arg2) = m' ((c.tc : Thread Cert.AdamHeadsRefIdeal.nD Cert.AdamHeadsRefIdeal.τ).loc Cert.AdamHeadsRefIdeal.main_arg2)
          ∧ r.2.mem ((c.tc : Thread Cert.AdamHeadsRefIdeal.nD Cert.AdamHeadsRefIdeal.τ).loc Cert.AdamHeadsRefIdeal.main_arg3) = m' ((c.tc : Thread Cert.AdamHeadsRefIdeal.nD Cert.AdamHeadsRefIdeal.τ).loc Cert.AdamHeadsRefIdeal.main_arg3))

def preserves_AdamDn_AdamDnIdeal : Prop :=
  True

def algebraic_AdamDnIdeal_AdamDnRefIdeal [hAdamDnIdeal : Cert.AdamDnIdeal.Facts] [hAdamDnRefIdeal : Cert.AdamDnRefIdeal.Facts] : Prop :=
  ∀ (m : (ℓ : Loc Cert.AdamDnIdeal.nD Cert.AdamDnIdeal.τ Cert.AdamDnIdeal.sig) → Buf (Elt Ideal) ℓ) (g : Dev Cert.AdamDnIdeal.nD → PrngReg)
    (m' : (ℓ : Loc Cert.AdamDnRefIdeal.nD Cert.AdamDnRefIdeal.τ Cert.AdamDnRefIdeal.sig) → Buf (Elt Ideal) ℓ) (g' : Dev Cert.AdamDnRefIdeal.nD → PrngReg), Pre_AdamDnIdeal m →
    (∀ c : Dev Cert.AdamDnIdeal.nD,
      m' ((c.tc : Thread Cert.AdamDnRefIdeal.nD Cert.AdamDnRefIdeal.τ).loc Cert.AdamDnRefIdeal.main_arg0) = m ((c.tc : Thread Cert.AdamDnIdeal.nD Cert.AdamDnIdeal.τ).loc Cert.AdamDnIdeal.main_arg0)
      ∧ m' ((c.tc : Thread Cert.AdamDnRefIdeal.nD Cert.AdamDnRefIdeal.τ).loc Cert.AdamDnRefIdeal.main_arg1) = m ((c.tc : Thread Cert.AdamDnIdeal.nD Cert.AdamDnIdeal.τ).loc Cert.AdamDnIdeal.main_arg1)
      ∧ m' ((c.tc : Thread Cert.AdamDnRefIdeal.nD Cert.AdamDnRefIdeal.τ).loc Cert.AdamDnRefIdeal.main_arg2) = m ((c.tc : Thread Cert.AdamDnIdeal.nD Cert.AdamDnIdeal.τ).loc Cert.AdamDnIdeal.main_arg2)
      ∧ m' ((c.tc : Thread Cert.AdamDnRefIdeal.nD Cert.AdamDnRefIdeal.τ).loc Cert.AdamDnRefIdeal.main_arg3) = m ((c.tc : Thread Cert.AdamDnIdeal.nD Cert.AdamDnIdeal.τ).loc Cert.AdamDnIdeal.main_arg3)) →
    ∃ (v0 : (c : Dev Cert.AdamDnIdeal.nD) → Buf (Elt Ideal) ((c.tc : Thread Cert.AdamDnIdeal.nD Cert.AdamDnIdeal.τ).loc Cert.AdamDnIdeal.main_v0_0)) (v1 : (c : Dev Cert.AdamDnIdeal.nD) → Buf (Elt Ideal) ((c.tc : Thread Cert.AdamDnIdeal.nD Cert.AdamDnIdeal.τ).loc Cert.AdamDnIdeal.main_v0_1)) (v2 : (c : Dev Cert.AdamDnIdeal.nD) → Buf (Elt Ideal) ((c.tc : Thread Cert.AdamDnIdeal.nD Cert.AdamDnIdeal.τ).loc Cert.AdamDnIdeal.main_v0_2)),
      θ_run (Cert.AdamDnIdeal.defs (F := Ideal)) (onTc (τ := Cert.AdamDnIdeal.τ) (Cert.AdamDnIdeal.main (F := Ideal))) ⟨m, fun _ => 0, g⟩ (fun r => ∀ c : Dev Cert.AdamDnIdeal.nD,
          r.2.mem ((c.tc : Thread Cert.AdamDnIdeal.nD Cert.AdamDnIdeal.τ).loc Cert.AdamDnIdeal.main_v0_0) = v0 c
          ∧ r.2.mem ((c.tc : Thread Cert.AdamDnIdeal.nD Cert.AdamDnIdeal.τ).loc Cert.AdamDnIdeal.main_v0_1) = v1 c
          ∧ r.2.mem ((c.tc : Thread Cert.AdamDnIdeal.nD Cert.AdamDnIdeal.τ).loc Cert.AdamDnIdeal.main_v0_2) = v2 c
          ∧ r.2.mem ((c.tc : Thread Cert.AdamDnIdeal.nD Cert.AdamDnIdeal.τ).loc Cert.AdamDnIdeal.main_arg0) = m ((c.tc : Thread Cert.AdamDnIdeal.nD Cert.AdamDnIdeal.τ).loc Cert.AdamDnIdeal.main_arg0)
          ∧ r.2.mem ((c.tc : Thread Cert.AdamDnIdeal.nD Cert.AdamDnIdeal.τ).loc Cert.AdamDnIdeal.main_arg1) = m ((c.tc : Thread Cert.AdamDnIdeal.nD Cert.AdamDnIdeal.τ).loc Cert.AdamDnIdeal.main_arg1)
          ∧ r.2.mem ((c.tc : Thread Cert.AdamDnIdeal.nD Cert.AdamDnIdeal.τ).loc Cert.AdamDnIdeal.main_arg2) = m ((c.tc : Thread Cert.AdamDnIdeal.nD Cert.AdamDnIdeal.τ).loc Cert.AdamDnIdeal.main_arg2)
          ∧ r.2.mem ((c.tc : Thread Cert.AdamDnIdeal.nD Cert.AdamDnIdeal.τ).loc Cert.AdamDnIdeal.main_arg3) = m ((c.tc : Thread Cert.AdamDnIdeal.nD Cert.AdamDnIdeal.τ).loc Cert.AdamDnIdeal.main_arg3))
      ∧ θ_run (Cert.AdamDnRefIdeal.defs (F := Ideal)) (onTc (τ := Cert.AdamDnRefIdeal.τ) (Cert.AdamDnRefIdeal.main (F := Ideal))) ⟨m', fun _ => 0, g'⟩ (fun r => ∀ c : Dev Cert.AdamDnRefIdeal.nD,
          r.2.mem ((c.tc : Thread Cert.AdamDnRefIdeal.nD Cert.AdamDnRefIdeal.τ).loc Cert.AdamDnRefIdeal.main_v23) = v0 c
          ∧ r.2.mem ((c.tc : Thread Cert.AdamDnRefIdeal.nD Cert.AdamDnRefIdeal.τ).loc Cert.AdamDnRefIdeal.main_v4) = v1 c
          ∧ r.2.mem ((c.tc : Thread Cert.AdamDnRefIdeal.nD Cert.AdamDnRefIdeal.τ).loc Cert.AdamDnRefIdeal.main_v10) = v2 c
          ∧ r.2.mem ((c.tc : Thread Cert.AdamDnRefIdeal.nD Cert.AdamDnRefIdeal.τ).loc Cert.AdamDnRefIdeal.main_arg0) = m' ((c.tc : Thread Cert.AdamDnRefIdeal.nD Cert.AdamDnRefIdeal.τ).loc Cert.AdamDnRefIdeal.main_arg0)
          ∧ r.2.mem ((c.tc : Thread Cert.AdamDnRefIdeal.nD Cert.AdamDnRefIdeal.τ).loc Cert.AdamDnRefIdeal.main_arg1) = m' ((c.tc : Thread Cert.AdamDnRefIdeal.nD Cert.AdamDnRefIdeal.τ).loc Cert.AdamDnRefIdeal.main_arg1)
          ∧ r.2.mem ((c.tc : Thread Cert.AdamDnRefIdeal.nD Cert.AdamDnRefIdeal.τ).loc Cert.AdamDnRefIdeal.main_arg2) = m' ((c.tc : Thread Cert.AdamDnRefIdeal.nD Cert.AdamDnRefIdeal.τ).loc Cert.AdamDnRefIdeal.main_arg2)
          ∧ r.2.mem ((c.tc : Thread Cert.AdamDnRefIdeal.nD Cert.AdamDnRefIdeal.τ).loc Cert.AdamDnRefIdeal.main_arg3) = m' ((c.tc : Thread Cert.AdamDnRefIdeal.nD Cert.AdamDnRefIdeal.τ).loc Cert.AdamDnRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v23) = v0 c
          ∧ r.2.mem ((c.tc : Thread Cert.AdamMixRefIdeal.nD Cert.AdamMixRefIdeal.τ).loc Cert.AdamMixRefIdeal.main_v4) = v1 c
          ∧ r.2.mem ((c.tc : Thread Cert.AdamMixRefIdeal.nD Cert.AdamMixRefIdeal.τ).loc Cert.AdamMixRefIdeal.main_v10) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamWb_AdamWbIdeal : Prop :=
  True

def algebraic_AdamWbIdeal_AdamWbRefIdeal [hAdamWbIdeal : Cert.AdamWbIdeal.Facts] [hAdamWbRefIdeal : Cert.AdamWbRefIdeal.Facts] : Prop :=
  ∀ (m : (ℓ : Loc Cert.AdamWbIdeal.nD Cert.AdamWbIdeal.τ Cert.AdamWbIdeal.sig) → Buf (Elt Ideal) ℓ) (g : Dev Cert.AdamWbIdeal.nD → PrngReg)
    (m' : (ℓ : Loc Cert.AdamWbRefIdeal.nD Cert.AdamWbRefIdeal.τ Cert.AdamWbRefIdeal.sig) → Buf (Elt Ideal) ℓ) (g' : Dev Cert.AdamWbRefIdeal.nD → PrngReg), Pre_AdamWbIdeal m →
    (∀ c : Dev Cert.AdamWbIdeal.nD,
      m' ((c.tc : Thread Cert.AdamWbRefIdeal.nD Cert.AdamWbRefIdeal.τ).loc Cert.AdamWbRefIdeal.main_arg0) = m ((c.tc : Thread Cert.AdamWbIdeal.nD Cert.AdamWbIdeal.τ).loc Cert.AdamWbIdeal.main_arg0)
      ∧ m' ((c.tc : Thread Cert.AdamWbRefIdeal.nD Cert.AdamWbRefIdeal.τ).loc Cert.AdamWbRefIdeal.main_arg1) = m ((c.tc : Thread Cert.AdamWbIdeal.nD Cert.AdamWbIdeal.τ).loc Cert.AdamWbIdeal.main_arg1)
      ∧ m' ((c.tc : Thread Cert.AdamWbRefIdeal.nD Cert.AdamWbRefIdeal.τ).loc Cert.AdamWbRefIdeal.main_arg2) = m ((c.tc : Thread Cert.AdamWbIdeal.nD Cert.AdamWbIdeal.τ).loc Cert.AdamWbIdeal.main_arg2)
      ∧ m' ((c.tc : Thread Cert.AdamWbRefIdeal.nD Cert.AdamWbRefIdeal.τ).loc Cert.AdamWbRefIdeal.main_arg3) = m ((c.tc : Thread Cert.AdamWbIdeal.nD Cert.AdamWbIdeal.τ).loc Cert.AdamWbIdeal.main_arg3)) →
    ∃ (v0 : (c : Dev Cert.AdamWbIdeal.nD) → Buf (Elt Ideal) ((c.tc : Thread Cert.AdamWbIdeal.nD Cert.AdamWbIdeal.τ).loc Cert.AdamWbIdeal.main_v0_0)) (v1 : (c : Dev Cert.AdamWbIdeal.nD) → Buf (Elt Ideal) ((c.tc : Thread Cert.AdamWbIdeal.nD Cert.AdamWbIdeal.τ).loc Cert.AdamWbIdeal.main_v0_1)) (v2 : (c : Dev Cert.AdamWbIdeal.nD) → Buf (Elt Ideal) ((c.tc : Thread Cert.AdamWbIdeal.nD Cert.AdamWbIdeal.τ).loc Cert.AdamWbIdeal.main_v0_2)),
      θ_run (Cert.AdamWbIdeal.defs (F := Ideal)) (onTc (τ := Cert.AdamWbIdeal.τ) (Cert.AdamWbIdeal.main (F := Ideal))) ⟨m, fun _ => 0, g⟩ (fun r => ∀ c : Dev Cert.AdamWbIdeal.nD,
          r.2.mem ((c.tc : Thread Cert.AdamWbIdeal.nD Cert.AdamWbIdeal.τ).loc Cert.AdamWbIdeal.main_v0_0) = v0 c
          ∧ r.2.mem ((c.tc : Thread Cert.AdamWbIdeal.nD Cert.AdamWbIdeal.τ).loc Cert.AdamWbIdeal.main_v0_1) = v1 c
          ∧ r.2.mem ((c.tc : Thread Cert.AdamWbIdeal.nD Cert.AdamWbIdeal.τ).loc Cert.AdamWbIdeal.main_v0_2) = v2 c
          ∧ r.2.mem ((c.tc : Thread Cert.AdamWbIdeal.nD Cert.AdamWbIdeal.τ).loc Cert.AdamWbIdeal.main_arg0) = m ((c.tc : Thread Cert.AdamWbIdeal.nD Cert.AdamWbIdeal.τ).loc Cert.AdamWbIdeal.main_arg0)
          ∧ r.2.mem ((c.tc : Thread Cert.AdamWbIdeal.nD Cert.AdamWbIdeal.τ).loc Cert.AdamWbIdeal.main_arg1) = m ((c.tc : Thread Cert.AdamWbIdeal.nD Cert.AdamWbIdeal.τ).loc Cert.AdamWbIdeal.main_arg1)
          ∧ r.2.mem ((c.tc : Thread Cert.AdamWbIdeal.nD Cert.AdamWbIdeal.τ).loc Cert.AdamWbIdeal.main_arg2) = m ((c.tc : Thread Cert.AdamWbIdeal.nD Cert.AdamWbIdeal.τ).loc Cert.AdamWbIdeal.main_arg2)
          ∧ r.2.mem ((c.tc : Thread Cert.AdamWbIdeal.nD Cert.AdamWbIdeal.τ).loc Cert.AdamWbIdeal.main_arg3) = m ((c.tc : Thread Cert.AdamWbIdeal.nD Cert.AdamWbIdeal.τ).loc Cert.AdamWbIdeal.main_arg3))
      ∧ θ_run (Cert.AdamWbRefIdeal.defs (F := Ideal)) (onTc (τ := Cert.AdamWbRefIdeal.τ) (Cert.AdamWbRefIdeal.main (F := Ideal))) ⟨m', fun _ => 0, g'⟩ (fun r => ∀ c : Dev Cert.AdamWbRefIdeal.nD,
          r.2.mem ((c.tc : Thread Cert.AdamWbRefIdeal.nD Cert.AdamWbRefIdeal.τ).loc Cert.AdamWbRefIdeal.main_v23) = v0 c
          ∧ r.2.mem ((c.tc : Thread Cert.AdamWbRefIdeal.nD Cert.AdamWbRefIdeal.τ).loc Cert.AdamWbRefIdeal.main_v4) = v1 c
          ∧ r.2.mem ((c.tc : Thread Cert.AdamWbRefIdeal.nD Cert.AdamWbRefIdeal.τ).loc Cert.AdamWbRefIdeal.main_v10) = v2 c
          ∧ r.2.mem ((c.tc : Thread Cert.AdamWbRefIdeal.nD Cert.AdamWbRefIdeal.τ).loc Cert.AdamWbRefIdeal.main_arg0) = m' ((c.tc : Thread Cert.AdamWbRefIdeal.nD Cert.AdamWbRefIdeal.τ).loc Cert.AdamWbRefIdeal.main_arg0)
          ∧ r.2.mem ((c.tc : Thread Cert.AdamWbRefIdeal.nD Cert.AdamWbRefIdeal.τ).loc Cert.AdamWbRefIdeal.main_arg1) = m' ((c.tc : Thread Cert.AdamWbRefIdeal.nD Cert.AdamWbRefIdeal.τ).loc Cert.AdamWbRefIdeal.main_arg1)
          ∧ r.2.mem ((c.tc : Thread Cert.AdamWbRefIdeal.nD Cert.AdamWbRefIdeal.τ).loc Cert.AdamWbRefIdeal.main_arg2) = m' ((c.tc : Thread Cert.AdamWbRefIdeal.nD Cert.AdamWbRefIdeal.τ).loc Cert.AdamWbRefIdeal.main_arg2)
          ∧ r.2.mem ((c.tc : Thread Cert.AdamWbRefIdeal.nD Cert.AdamWbRefIdeal.τ).loc Cert.AdamWbRefIdeal.main_arg3) = m' ((c.tc : Thread Cert.AdamWbRefIdeal.nD Cert.AdamWbRefIdeal.τ).loc Cert.AdamWbRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v3) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_SmallGrads_SmallGradsIdeal : Prop :=
  True

def algebraic_SmallGradsIdeal_SmallGradsRefIdeal [hSmallGradsIdeal : Cert.SmallGradsIdeal.Facts] [hSmallGradsRefIdeal : Cert.SmallGradsRefIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.SmallGradsRefIdeal.nD Cert.SmallGradsRefIdeal.τ Cert.SmallGradsRefIdeal.sig) → Buf (Elt Ideal) ℓ) (g' : Dev Cert.SmallGradsRefIdeal.nD → PrngReg), Pre_SmallGradsIdeal m →
    (∀ c : Dev Cert.SmallGradsIdeal.nD,
      m' ((c.tc : Thread Cert.SmallGradsRefIdeal.nD Cert.SmallGradsRefIdeal.τ).loc Cert.SmallGradsRefIdeal.main_arg0) = m ((c.tc : Thread Cert.SmallGradsIdeal.nD Cert.SmallGradsIdeal.τ).loc Cert.SmallGradsIdeal.main_arg0)
      ∧ m' ((c.tc : Thread Cert.SmallGradsRefIdeal.nD Cert.SmallGradsRefIdeal.τ).loc Cert.SmallGradsRefIdeal.main_arg1) = m ((c.tc : Thread Cert.SmallGradsIdeal.nD Cert.SmallGradsIdeal.τ).loc Cert.SmallGradsIdeal.main_arg1)
      ∧ m' ((c.tc : Thread Cert.SmallGradsRefIdeal.nD Cert.SmallGradsRefIdeal.τ).loc Cert.SmallGradsRefIdeal.main_arg2) = m ((c.tc : Thread Cert.SmallGradsIdeal.nD Cert.SmallGradsIdeal.τ).loc Cert.SmallGradsIdeal.main_arg2)
      ∧ m' ((c.tc : Thread Cert.SmallGradsRefIdeal.nD Cert.SmallGradsRefIdeal.τ).loc Cert.SmallGradsRefIdeal.main_arg3) = m ((c.tc : Thread Cert.SmallGradsIdeal.nD Cert.SmallGradsIdeal.τ).loc Cert.SmallGradsIdeal.main_arg3)
      ∧ m' ((c.tc : Thread Cert.SmallGradsRefIdeal.nD Cert.SmallGradsRefIdeal.τ).loc Cert.SmallGradsRefIdeal.main_arg4) = m ((c.tc : Thread Cert.SmallGradsIdeal.nD Cert.SmallGradsIdeal.τ).loc Cert.SmallGradsIdeal.main_arg4)
      ∧ m' ((c.tc : Thread Cert.SmallGradsRefIdeal.nD Cert.SmallGradsRefIdeal.τ).loc Cert.SmallGradsRefIdeal.main_arg5) = m ((c.tc : Thread Cert.SmallGradsIdeal.nD Cert.SmallGradsIdeal.τ).loc Cert.SmallGradsIdeal.main_arg5)
      ∧ m' ((c.tc : Thread Cert.SmallGradsRefIdeal.nD Cert.SmallGradsRefIdeal.τ).loc Cert.SmallGradsRefIdeal.main_arg6) = m ((c.tc : Thread Cert.SmallGradsIdeal.nD Cert.SmallGradsIdeal.τ).loc Cert.SmallGradsIdeal.main_arg6)
      ∧ m' ((c.tc : Thread Cert.SmallGradsRefIdeal.nD Cert.SmallGradsRefIdeal.τ).loc Cert.SmallGradsRefIdeal.main_arg7) = m ((c.tc : Thread Cert.SmallGradsIdeal.nD Cert.SmallGradsIdeal.τ).loc Cert.SmallGradsIdeal.main_arg7)
      ∧ m' ((c.tc : Thread Cert.SmallGradsRefIdeal.nD Cert.SmallGradsRefIdeal.τ).loc Cert.SmallGradsRefIdeal.main_arg8) = m ((c.tc : Thread Cert.SmallGradsIdeal.nD Cert.SmallGradsIdeal.τ).loc Cert.SmallGradsIdeal.main_arg8)) →
    ∃ (v0 : (c : Dev Cert.SmallGradsIdeal.nD) → Buf (Elt Ideal) ((c.tc : Thread Cert.SmallGradsIdeal.nD Cert.SmallGradsIdeal.τ).loc Cert.SmallGradsIdeal.main_v75)) (v1 : (c : Dev Cert.SmallGradsIdeal.nD) → Buf (Elt Ideal) ((c.tc : Thread Cert.SmallGradsIdeal.nD Cert.SmallGradsIdeal.τ).loc Cert.SmallGradsIdeal.main_v76)) (v2 : (c : Dev Cert.SmallGradsIdeal.nD) → Buf (Elt Ideal) ((c.tc : Thread Cert.SmallGradsIdeal.nD Cert.SmallGradsIdeal.τ).loc Cert.SmallGradsIdeal.main_v40)) (v3 : (c : Dev Cert.SmallGradsIdeal.nD) → Buf (Elt Ideal) ((c.tc : Thread Cert.SmallGradsIdeal.nD Cert.SmallGradsIdeal.τ).loc Cert.SmallGradsIdeal.main_v45)) (v4 : (c : Dev Cert.SmallGradsIdeal.nD) → Buf (Elt Ideal) ((c.tc : Thread Cert.SmallGradsIdeal.nD Cert.SmallGradsIdeal.τ).loc Cert.SmallGradsIdeal.main_v50)) (v5 : (c : Dev Cert.SmallGradsIdeal.nD) → Buf (Elt Ideal) ((c.tc : Thread Cert.SmallGradsIdeal.nD Cert.SmallGradsIdeal.τ).loc Cert.SmallGradsIdeal.main_v55)) (v6 : (c : Dev Cert.SmallGradsIdeal.nD) → Buf (Elt Ideal) ((c.tc : Thread Cert.SmallGradsIdeal.nD Cert.SmallGradsIdeal.τ).loc Cert.SmallGradsIdeal.main_v60)) (v7 : (c : Dev Cert.SmallGradsIdeal.nD) → Buf (Elt Ideal) ((c.tc : Thread Cert.SmallGradsIdeal.nD Cert.SmallGradsIdeal.τ).loc Cert.SmallGradsIdeal.main_v65)) (v8 : (c : Dev Cert.SmallGradsIdeal.nD) → Buf (Elt Ideal) ((c.tc : Thread Cert.SmallGradsIdeal.nD Cert.SmallGradsIdeal.τ).loc Cert.SmallGradsIdeal.main_v73)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v75) = v0 c
          ∧ r.2.mem ((c.tc : Thread Cert.SmallGradsIdeal.nD Cert.SmallGradsIdeal.τ).loc Cert.SmallGradsIdeal.main_v76) = v1 c
          ∧ r.2.mem ((c.tc : Thread Cert.SmallGradsIdeal.nD Cert.SmallGradsIdeal.τ).loc Cert.SmallGradsIdeal.main_v40) = v2 c
          ∧ r.2.mem ((c.tc : Thread Cert.SmallGradsIdeal.nD Cert.SmallGradsIdeal.τ).loc Cert.SmallGradsIdeal.main_v45) = v3 c
          ∧ r.2.mem ((c.tc : Thread Cert.SmallGradsIdeal.nD Cert.SmallGradsIdeal.τ).loc Cert.SmallGradsIdeal.main_v50) = v4 c
          ∧ r.2.mem ((c.tc : Thread Cert.SmallGradsIdeal.nD Cert.SmallGradsIdeal.τ).loc Cert.SmallGradsIdeal.main_v55) = v5 c
          ∧ r.2.mem ((c.tc : Thread Cert.SmallGradsIdeal.nD Cert.SmallGradsIdeal.τ).loc Cert.SmallGradsIdeal.main_v60) = v6 c
          ∧ r.2.mem ((c.tc : Thread Cert.SmallGradsIdeal.nD Cert.SmallGradsIdeal.τ).loc Cert.SmallGradsIdeal.main_v65) = v7 c
          ∧ r.2.mem ((c.tc : Thread Cert.SmallGradsIdeal.nD Cert.SmallGradsIdeal.τ).loc Cert.SmallGradsIdeal.main_v73) = v8 c
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
          ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
          ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
          ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
          ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
          ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
          ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
          ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
          ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8))
      ∧ θ_run (Cert.SmallGradsRefIdeal.defs (F := Ideal)) (onTc (τ := Cert.SmallGradsRefIdeal.τ) (Cert.SmallGradsRefIdeal.main (F := Ideal))) ⟨m', fun _ => 0, g'⟩ (fun r => ∀ c : Dev Cert.SmallGradsRefIdeal.nD,
          r.2.mem ((c.tc : Thread Cert.SmallGradsRefIdeal.nD Cert.SmallGradsRefIdeal.τ).loc Cert.SmallGradsRefIdeal.main_v0) = v0 c
          ∧ r.2.mem ((c.tc : Thread Cert.SmallGradsRefIdeal.nD Cert.SmallGradsRefIdeal.τ).loc Cert.SmallGradsRefIdeal.main_v1) = v1 c
          ∧ r.2.mem ((c.tc : Thread Cert.SmallGradsRefIdeal.nD Cert.SmallGradsRefIdeal.τ).loc Cert.SmallGradsRefIdeal.main_v2) = v2 c
          ∧ r.2.mem ((c.tc : Thread Cert.SmallGradsRefIdeal.nD Cert.SmallGradsRefIdeal.τ).loc Cert.SmallGradsRefIdeal.main_v3) = v3 c
          ∧ r.2.mem ((c.tc : Thread Cert.SmallGradsRefIdeal.nD Cert.SmallGradsRefIdeal.τ).loc Cert.SmallGradsRefIdeal.main_v4) = v4 c
          ∧ r.2.mem ((c.tc : Thread Cert.SmallGradsRefIdeal.nD Cert.SmallGradsRefIdeal.τ).loc Cert.SmallGradsRefIdeal.main_v5) = v5 c
          ∧ r.2.mem ((c.tc : Thread Cert.SmallGradsRefIdeal.nD Cert.SmallGradsRefIdeal.τ).loc Cert.SmallGradsRefIdeal.main_v6) = v6 c
          ∧ r.2.mem ((c.tc : Thread Cert.SmallGradsRefIdeal.nD Cert.SmallGradsRefIdeal.τ).loc Cert.SmallGradsRefIdeal.main_v7) = v7 c
          ∧ r.2.mem ((c.tc : Thread Cert.SmallGradsRefIdeal.nD Cert.SmallGradsRefIdeal.τ).loc Cert.SmallGradsRefIdeal.main_v9) = v8 c
          ∧ r.2.mem ((c.tc : Thread Cert.SmallGradsRefIdeal.nD Cert.SmallGradsRefIdeal.τ).loc Cert.SmallGradsRefIdeal.main_arg0) = m' ((c.tc : Thread Cert.SmallGradsRefIdeal.nD Cert.SmallGradsRefIdeal.τ).loc Cert.SmallGradsRefIdeal.main_arg0)
          ∧ r.2.mem ((c.tc : Thread Cert.SmallGradsRefIdeal.nD Cert.SmallGradsRefIdeal.τ).loc Cert.SmallGradsRefIdeal.main_arg1) = m' ((c.tc : Thread Cert.SmallGradsRefIdeal.nD Cert.SmallGradsRefIdeal.τ).loc Cert.SmallGradsRefIdeal.main_arg1)
          ∧ r.2.mem ((c.tc : Thread Cert.SmallGradsRefIdeal.nD Cert.SmallGradsRefIdeal.τ).loc Cert.SmallGradsRefIdeal.main_arg2) = m' ((c.tc : Thread Cert.SmallGradsRefIdeal.nD Cert.SmallGradsRefIdeal.τ).loc Cert.SmallGradsRefIdeal.main_arg2)
          ∧ r.2.mem ((c.tc : Thread Cert.SmallGradsRefIdeal.nD Cert.SmallGradsRefIdeal.τ).loc Cert.SmallGradsRefIdeal.main_arg3) = m' ((c.tc : Thread Cert.SmallGradsRefIdeal.nD Cert.SmallGradsRefIdeal.τ).loc Cert.SmallGradsRefIdeal.main_arg3)
          ∧ r.2.mem ((c.tc : Thread Cert.SmallGradsRefIdeal.nD Cert.SmallGradsRefIdeal.τ).loc Cert.SmallGradsRefIdeal.main_arg4) = m' ((c.tc : Thread Cert.SmallGradsRefIdeal.nD Cert.SmallGradsRefIdeal.τ).loc Cert.SmallGradsRefIdeal.main_arg4)
          ∧ r.2.mem ((c.tc : Thread Cert.SmallGradsRefIdeal.nD Cert.SmallGradsRefIdeal.τ).loc Cert.SmallGradsRefIdeal.main_arg5) = m' ((c.tc : Thread Cert.SmallGradsRefIdeal.nD Cert.SmallGradsRefIdeal.τ).loc Cert.SmallGradsRefIdeal.main_arg5)
          ∧ r.2.mem ((c.tc : Thread Cert.SmallGradsRefIdeal.nD Cert.SmallGradsRefIdeal.τ).loc Cert.SmallGradsRefIdeal.main_arg6) = m' ((c.tc : Thread Cert.SmallGradsRefIdeal.nD Cert.SmallGradsRefIdeal.τ).loc Cert.SmallGradsRefIdeal.main_arg6)
          ∧ r.2.mem ((c.tc : Thread Cert.SmallGradsRefIdeal.nD Cert.SmallGradsRefIdeal.τ).loc Cert.SmallGradsRefIdeal.main_arg7) = m' ((c.tc : Thread Cert.SmallGradsRefIdeal.nD Cert.SmallGradsRefIdeal.τ).loc Cert.SmallGradsRefIdeal.main_arg7)
          ∧ r.2.mem ((c.tc : Thread Cert.SmallGradsRefIdeal.nD Cert.SmallGradsRefIdeal.τ).loc Cert.SmallGradsRefIdeal.main_arg8) = m' ((c.tc : Thread Cert.SmallGradsRefIdeal.nD Cert.SmallGradsRefIdeal.τ).loc Cert.SmallGradsRefIdeal.main_arg8))

def preserves_BigGrads_BigGradsIdeal : Prop :=
  True

def algebraic_BigGradsIdeal_BigGradsRefIdeal [hBigGradsIdeal : Cert.BigGradsIdeal.Facts] [hBigGradsRefIdeal : Cert.BigGradsRefIdeal.Facts] : Prop :=
  ∀ (m : (ℓ : Loc Cert.BigGradsIdeal.nD Cert.BigGradsIdeal.τ Cert.BigGradsIdeal.sig) → Buf (Elt Ideal) ℓ) (g : Dev Cert.BigGradsIdeal.nD → PrngReg)
    (m' : (ℓ : Loc Cert.BigGradsRefIdeal.nD Cert.BigGradsRefIdeal.τ Cert.BigGradsRefIdeal.sig) → Buf (Elt Ideal) ℓ) (g' : Dev Cert.BigGradsRefIdeal.nD → PrngReg), Pre_BigGradsIdeal m →
    (∀ c : Dev Cert.BigGradsIdeal.nD,
      m' ((c.tc : Thread Cert.BigGradsRefIdeal.nD Cert.BigGradsRefIdeal.τ).loc Cert.BigGradsRefIdeal.main_arg0) = m ((c.tc : Thread Cert.BigGradsIdeal.nD Cert.BigGradsIdeal.τ).loc Cert.BigGradsIdeal.main_arg0)
      ∧ m' ((c.tc : Thread Cert.BigGradsRefIdeal.nD Cert.BigGradsRefIdeal.τ).loc Cert.BigGradsRefIdeal.main_arg1) = m ((c.tc : Thread Cert.BigGradsIdeal.nD Cert.BigGradsIdeal.τ).loc Cert.BigGradsIdeal.main_arg1)
      ∧ m' ((c.tc : Thread Cert.BigGradsRefIdeal.nD Cert.BigGradsRefIdeal.τ).loc Cert.BigGradsRefIdeal.main_arg2) = m ((c.tc : Thread Cert.BigGradsIdeal.nD Cert.BigGradsIdeal.τ).loc Cert.BigGradsIdeal.main_arg2)
      ∧ m' ((c.tc : Thread Cert.BigGradsRefIdeal.nD Cert.BigGradsRefIdeal.τ).loc Cert.BigGradsRefIdeal.main_arg3) = m ((c.tc : Thread Cert.BigGradsIdeal.nD Cert.BigGradsIdeal.τ).loc Cert.BigGradsIdeal.main_arg3)
      ∧ m' ((c.tc : Thread Cert.BigGradsRefIdeal.nD Cert.BigGradsRefIdeal.τ).loc Cert.BigGradsRefIdeal.main_arg4) = m ((c.tc : Thread Cert.BigGradsIdeal.nD Cert.BigGradsIdeal.τ).loc Cert.BigGradsIdeal.main_arg4)
      ∧ m' ((c.tc : Thread Cert.BigGradsRefIdeal.nD Cert.BigGradsRefIdeal.τ).loc Cert.BigGradsRefIdeal.main_arg5) = m ((c.tc : Thread Cert.BigGradsIdeal.nD Cert.BigGradsIdeal.τ).loc Cert.BigGradsIdeal.main_arg5)
      ∧ m' ((c.tc : Thread Cert.BigGradsRefIdeal.nD Cert.BigGradsRefIdeal.τ).loc Cert.BigGradsRefIdeal.main_arg6) = m ((c.tc : Thread Cert.BigGradsIdeal.nD Cert.BigGradsIdeal.τ).loc Cert.BigGradsIdeal.main_arg6)
      ∧ m' ((c.tc : Thread Cert.BigGradsRefIdeal.nD Cert.BigGradsRefIdeal.τ).loc Cert.BigGradsRefIdeal.main_arg7) = m ((c.tc : Thread Cert.BigGradsIdeal.nD Cert.BigGradsIdeal.τ).loc Cert.BigGradsIdeal.main_arg7)
      ∧ m' ((c.tc : Thread Cert.BigGradsRefIdeal.nD Cert.BigGradsRefIdeal.τ).loc Cert.BigGradsRefIdeal.main_arg8) = m ((c.tc : Thread Cert.BigGradsIdeal.nD Cert.BigGradsIdeal.τ).loc Cert.BigGradsIdeal.main_arg8)
      ∧ m' ((c.tc : Thread Cert.BigGradsRefIdeal.nD Cert.BigGradsRefIdeal.τ).loc Cert.BigGradsRefIdeal.main_arg9) = m ((c.tc : Thread Cert.BigGradsIdeal.nD Cert.BigGradsIdeal.τ).loc Cert.BigGradsIdeal.main_arg9)) →
    ∃ (v0 : (c : Dev Cert.BigGradsIdeal.nD) → Buf (Elt Ideal) ((c.tc : Thread Cert.BigGradsIdeal.nD Cert.BigGradsIdeal.τ).loc Cert.BigGradsIdeal.main_v98)) (v1 : (c : Dev Cert.BigGradsIdeal.nD) → Buf (Elt Ideal) ((c.tc : Thread Cert.BigGradsIdeal.nD Cert.BigGradsIdeal.τ).loc Cert.BigGradsIdeal.main_v101)) (v2 : (c : Dev Cert.BigGradsIdeal.nD) → Buf (Elt Ideal) ((c.tc : Thread Cert.BigGradsIdeal.nD Cert.BigGradsIdeal.τ).loc Cert.BigGradsIdeal.main_v104)) (v3 : (c : Dev Cert.BigGradsIdeal.nD) → Buf (Elt Ideal) ((c.tc : Thread Cert.BigGradsIdeal.nD Cert.BigGradsIdeal.τ).loc Cert.BigGradsIdeal.main_v107)) (v4 : (c : Dev Cert.BigGradsIdeal.nD) → Buf (Elt Ideal) ((c.tc : Thread Cert.BigGradsIdeal.nD Cert.BigGradsIdeal.τ).loc Cert.BigGradsIdeal.main_v110)) (v5 : (c : Dev Cert.BigGradsIdeal.nD) → Buf (Elt Ideal) ((c.tc : Thread Cert.BigGradsIdeal.nD Cert.BigGradsIdeal.τ).loc Cert.BigGradsIdeal.main_v113)) (v6 : (c : Dev Cert.BigGradsIdeal.nD) → Buf (Elt Ideal) ((c.tc : Thread Cert.BigGradsIdeal.nD Cert.BigGradsIdeal.τ).loc Cert.BigGradsIdeal.main_v116)) (v7 : (c : Dev Cert.BigGradsIdeal.nD) → Buf (Elt Ideal) ((c.tc : Thread Cert.BigGradsIdeal.nD Cert.BigGradsIdeal.τ).loc Cert.BigGradsIdeal.main_v119)) (v8 : (c : Dev Cert.BigGradsIdeal.nD) → Buf (Elt Ideal) ((c.tc : Thread Cert.BigGradsIdeal.nD Cert.BigGradsIdeal.τ).loc Cert.BigGradsIdeal.main_v122)) (v9 : (c : Dev Cert.BigGradsIdeal.nD) → Buf (Elt Ideal) ((c.tc : Thread Cert.BigGradsIdeal.nD Cert.BigGradsIdeal.τ).loc Cert.BigGradsIdeal.main_v125)),
      θ_run (Cert.BigGradsIdeal.defs (F := Ideal)) (onTc (τ := Cert.BigGradsIdeal.τ) (Cert.BigGradsIdeal.main (F := Ideal))) ⟨m, fun _ => 0, g⟩ (fun r => ∀ c : Dev Cert.BigGradsIdeal.nD,
          r.2.mem ((c.tc : Thread Cert.BigGradsIdeal.nD Cert.BigGradsIdeal.τ).loc Cert.BigGradsIdeal.main_v98) = v0 c
          ∧ r.2.mem ((c.tc : Thread Cert.BigGradsIdeal.nD Cert.BigGradsIdeal.τ).loc Cert.BigGradsIdeal.main_v101) = v1 c
          ∧ r.2.mem ((c.tc : Thread Cert.BigGradsIdeal.nD Cert.BigGradsIdeal.τ).loc Cert.BigGradsIdeal.main_v104) = v2 c
          ∧ r.2.mem ((c.tc : Thread Cert.BigGradsIdeal.nD Cert.BigGradsIdeal.τ).loc Cert.BigGradsIdeal.main_v107) = v3 c
          ∧ r.2.mem ((c.tc : Thread Cert.BigGradsIdeal.nD Cert.BigGradsIdeal.τ).loc Cert.BigGradsIdeal.main_v110) = v4 c
          ∧ r.2.mem ((c.tc : Thread Cert.BigGradsIdeal.nD Cert.BigGradsIdeal.τ).loc Cert.BigGradsIdeal.main_v113) = v5 c
          ∧ r.2.mem ((c.tc : Thread Cert.BigGradsIdeal.nD Cert.BigGradsIdeal.τ).loc Cert.BigGradsIdeal.main_v116) = v6 c
          ∧ r.2.mem ((c.tc : Thread Cert.BigGradsIdeal.nD Cert.BigGradsIdeal.τ).loc Cert.BigGradsIdeal.main_v119) = v7 c
          ∧ r.2.mem ((c.tc : Thread Cert.BigGradsIdeal.nD Cert.BigGradsIdeal.τ).loc Cert.BigGradsIdeal.main_v122) = v8 c
          ∧ r.2.mem ((c.tc : Thread Cert.BigGradsIdeal.nD Cert.BigGradsIdeal.τ).loc Cert.BigGradsIdeal.main_v125) = v9 c
          ∧ r.2.mem ((c.tc : Thread Cert.BigGradsIdeal.nD Cert.BigGradsIdeal.τ).loc Cert.BigGradsIdeal.main_arg0) = m ((c.tc : Thread Cert.BigGradsIdeal.nD Cert.BigGradsIdeal.τ).loc Cert.BigGradsIdeal.main_arg0)
          ∧ r.2.mem ((c.tc : Thread Cert.BigGradsIdeal.nD Cert.BigGradsIdeal.τ).loc Cert.BigGradsIdeal.main_arg1) = m ((c.tc : Thread Cert.BigGradsIdeal.nD Cert.BigGradsIdeal.τ).loc Cert.BigGradsIdeal.main_arg1)
          ∧ r.2.mem ((c.tc : Thread Cert.BigGradsIdeal.nD Cert.BigGradsIdeal.τ).loc Cert.BigGradsIdeal.main_arg2) = m ((c.tc : Thread Cert.BigGradsIdeal.nD Cert.BigGradsIdeal.τ).loc Cert.BigGradsIdeal.main_arg2)
          ∧ r.2.mem ((c.tc : Thread Cert.BigGradsIdeal.nD Cert.BigGradsIdeal.τ).loc Cert.BigGradsIdeal.main_arg3) = m ((c.tc : Thread Cert.BigGradsIdeal.nD Cert.BigGradsIdeal.τ).loc Cert.BigGradsIdeal.main_arg3)
          ∧ r.2.mem ((c.tc : Thread Cert.BigGradsIdeal.nD Cert.BigGradsIdeal.τ).loc Cert.BigGradsIdeal.main_arg4) = m ((c.tc : Thread Cert.BigGradsIdeal.nD Cert.BigGradsIdeal.τ).loc Cert.BigGradsIdeal.main_arg4)
          ∧ r.2.mem ((c.tc : Thread Cert.BigGradsIdeal.nD Cert.BigGradsIdeal.τ).loc Cert.BigGradsIdeal.main_arg5) = m ((c.tc : Thread Cert.BigGradsIdeal.nD Cert.BigGradsIdeal.τ).loc Cert.BigGradsIdeal.main_arg5)
          ∧ r.2.mem ((c.tc : Thread Cert.BigGradsIdeal.nD Cert.BigGradsIdeal.τ).loc Cert.BigGradsIdeal.main_arg6) = m ((c.tc : Thread Cert.BigGradsIdeal.nD Cert.BigGradsIdeal.τ).loc Cert.BigGradsIdeal.main_arg6)
          ∧ r.2.mem ((c.tc : Thread Cert.BigGradsIdeal.nD Cert.BigGradsIdeal.τ).loc Cert.BigGradsIdeal.main_arg7) = m ((c.tc : Thread Cert.BigGradsIdeal.nD Cert.BigGradsIdeal.τ).loc Cert.BigGradsIdeal.main_arg7)
          ∧ r.2.mem ((c.tc : Thread Cert.BigGradsIdeal.nD Cert.BigGradsIdeal.τ).loc Cert.BigGradsIdeal.main_arg8) = m ((c.tc : Thread Cert.BigGradsIdeal.nD Cert.BigGradsIdeal.τ).loc Cert.BigGradsIdeal.main_arg8)
          ∧ r.2.mem ((c.tc : Thread Cert.BigGradsIdeal.nD Cert.BigGradsIdeal.τ).loc Cert.BigGradsIdeal.main_arg9) = m ((c.tc : Thread Cert.BigGradsIdeal.nD Cert.BigGradsIdeal.τ).loc Cert.BigGradsIdeal.main_arg9))
      ∧ θ_run (Cert.BigGradsRefIdeal.defs (F := Ideal)) (onTc (τ := Cert.BigGradsRefIdeal.τ) (Cert.BigGradsRefIdeal.main (F := Ideal))) ⟨m', fun _ => 0, g'⟩ (fun r => ∀ c : Dev Cert.BigGradsRefIdeal.nD,
          r.2.mem ((c.tc : Thread Cert.BigGradsRefIdeal.nD Cert.BigGradsRefIdeal.τ).loc Cert.BigGradsRefIdeal.main_v1) = v0 c
          ∧ r.2.mem ((c.tc : Thread Cert.BigGradsRefIdeal.nD Cert.BigGradsRefIdeal.τ).loc Cert.BigGradsRefIdeal.main_v3) = v1 c
          ∧ r.2.mem ((c.tc : Thread Cert.BigGradsRefIdeal.nD Cert.BigGradsRefIdeal.τ).loc Cert.BigGradsRefIdeal.main_v5) = v2 c
          ∧ r.2.mem ((c.tc : Thread Cert.BigGradsRefIdeal.nD Cert.BigGradsRefIdeal.τ).loc Cert.BigGradsRefIdeal.main_v7) = v3 c
          ∧ r.2.mem ((c.tc : Thread Cert.BigGradsRefIdeal.nD Cert.BigGradsRefIdeal.τ).loc Cert.BigGradsRefIdeal.main_v9) = v4 c
          ∧ r.2.mem ((c.tc : Thread Cert.BigGradsRefIdeal.nD Cert.BigGradsRefIdeal.τ).loc Cert.BigGradsRefIdeal.main_v11) = v5 c
          ∧ r.2.mem ((c.tc : Thread Cert.BigGradsRefIdeal.nD Cert.BigGradsRefIdeal.τ).loc Cert.BigGradsRefIdeal.main_v13) = v6 c
          ∧ r.2.mem ((c.tc : Thread Cert.BigGradsRefIdeal.nD Cert.BigGradsRefIdeal.τ).loc Cert.BigGradsRefIdeal.main_v15) = v7 c
          ∧ r.2.mem ((c.tc : Thread Cert.BigGradsRefIdeal.nD Cert.BigGradsRefIdeal.τ).loc Cert.BigGradsRefIdeal.main_v17) = v8 c
          ∧ r.2.mem ((c.tc : Thread Cert.BigGradsRefIdeal.nD Cert.BigGradsRefIdeal.τ).loc Cert.BigGradsRefIdeal.main_v19) = v9 c
          ∧ r.2.mem ((c.tc : Thread Cert.BigGradsRefIdeal.nD Cert.BigGradsRefIdeal.τ).loc Cert.BigGradsRefIdeal.main_arg0) = m' ((c.tc : Thread Cert.BigGradsRefIdeal.nD Cert.BigGradsRefIdeal.τ).loc Cert.BigGradsRefIdeal.main_arg0)
          ∧ r.2.mem ((c.tc : Thread Cert.BigGradsRefIdeal.nD Cert.BigGradsRefIdeal.τ).loc Cert.BigGradsRefIdeal.main_arg1) = m' ((c.tc : Thread Cert.BigGradsRefIdeal.nD Cert.BigGradsRefIdeal.τ).loc Cert.BigGradsRefIdeal.main_arg1)
          ∧ r.2.mem ((c.tc : Thread Cert.BigGradsRefIdeal.nD Cert.BigGradsRefIdeal.τ).loc Cert.BigGradsRefIdeal.main_arg2) = m' ((c.tc : Thread Cert.BigGradsRefIdeal.nD Cert.BigGradsRefIdeal.τ).loc Cert.BigGradsRefIdeal.main_arg2)
          ∧ r.2.mem ((c.tc : Thread Cert.BigGradsRefIdeal.nD Cert.BigGradsRefIdeal.τ).loc Cert.BigGradsRefIdeal.main_arg3) = m' ((c.tc : Thread Cert.BigGradsRefIdeal.nD Cert.BigGradsRefIdeal.τ).loc Cert.BigGradsRefIdeal.main_arg3)
          ∧ r.2.mem ((c.tc : Thread Cert.BigGradsRefIdeal.nD Cert.BigGradsRefIdeal.τ).loc Cert.BigGradsRefIdeal.main_arg4) = m' ((c.tc : Thread Cert.BigGradsRefIdeal.nD Cert.BigGradsRefIdeal.τ).loc Cert.BigGradsRefIdeal.main_arg4)
          ∧ r.2.mem ((c.tc : Thread Cert.BigGradsRefIdeal.nD Cert.BigGradsRefIdeal.τ).loc Cert.BigGradsRefIdeal.main_arg5) = m' ((c.tc : Thread Cert.BigGradsRefIdeal.nD Cert.BigGradsRefIdeal.τ).loc Cert.BigGradsRefIdeal.main_arg5)
          ∧ r.2.mem ((c.tc : Thread Cert.BigGradsRefIdeal.nD Cert.BigGradsRefIdeal.τ).loc Cert.BigGradsRefIdeal.main_arg6) = m' ((c.tc : Thread Cert.BigGradsRefIdeal.nD Cert.BigGradsRefIdeal.τ).loc Cert.BigGradsRefIdeal.main_arg6)
          ∧ r.2.mem ((c.tc : Thread Cert.BigGradsRefIdeal.nD Cert.BigGradsRefIdeal.τ).loc Cert.BigGradsRefIdeal.main_arg7) = m' ((c.tc : Thread Cert.BigGradsRefIdeal.nD Cert.BigGradsRefIdeal.τ).loc Cert.BigGradsRefIdeal.main_arg7)
          ∧ r.2.mem ((c.tc : Thread Cert.BigGradsRefIdeal.nD Cert.BigGradsRefIdeal.τ).loc Cert.BigGradsRefIdeal.main_arg8) = m' ((c.tc : Thread Cert.BigGradsRefIdeal.nD Cert.BigGradsRefIdeal.τ).loc Cert.BigGradsRefIdeal.main_arg8)
          ∧ r.2.mem ((c.tc : Thread Cert.BigGradsRefIdeal.nD Cert.BigGradsRefIdeal.τ).loc Cert.BigGradsRefIdeal.main_arg9) = m' ((c.tc : Thread Cert.BigGradsRefIdeal.nD Cert.BigGradsRefIdeal.τ).loc Cert.BigGradsRefIdeal.main_arg9))

def preserves_AdaBGrad_AdaBGradIdeal : Prop :=
  True

def algebraic_AdaBGradIdeal_AdaBGradRefIdeal [hAdaBGradIdeal : Cert.AdaBGradIdeal.Facts] [hAdaBGradRefIdeal : Cert.AdaBGradRefIdeal.Facts] : Prop :=
  ∀ (m : (ℓ : Loc Cert.AdaBGradIdeal.nD Cert.AdaBGradIdeal.τ Cert.AdaBGradIdeal.sig) → Buf (Elt Ideal) ℓ) (g : Dev Cert.AdaBGradIdeal.nD → PrngReg)
    (m' : (ℓ : Loc Cert.AdaBGradRefIdeal.nD Cert.AdaBGradRefIdeal.τ Cert.AdaBGradRefIdeal.sig) → Buf (Elt Ideal) ℓ) (g' : Dev Cert.AdaBGradRefIdeal.nD → PrngReg), Pre_AdaBGradIdeal m →
    (∀ c : Dev Cert.AdaBGradIdeal.nD,
      m' ((c.tc : Thread Cert.AdaBGradRefIdeal.nD Cert.AdaBGradRefIdeal.τ).loc Cert.AdaBGradRefIdeal.main_arg0) = m ((c.tc : Thread Cert.AdaBGradIdeal.nD Cert.AdaBGradIdeal.τ).loc Cert.AdaBGradIdeal.main_arg0)) →
    ∃ (v0 : (c : Dev Cert.AdaBGradIdeal.nD) → Buf (Elt Ideal) ((c.tc : Thread Cert.AdaBGradIdeal.nD Cert.AdaBGradIdeal.τ).loc Cert.AdaBGradIdeal.main_v0)),
      θ_run (Cert.AdaBGradIdeal.defs (F := Ideal)) (onTc (τ := Cert.AdaBGradIdeal.τ) (Cert.AdaBGradIdeal.main (F := Ideal))) ⟨m, fun _ => 0, g⟩ (fun r => ∀ c : Dev Cert.AdaBGradIdeal.nD,
          r.2.mem ((c.tc : Thread Cert.AdaBGradIdeal.nD Cert.AdaBGradIdeal.τ).loc Cert.AdaBGradIdeal.main_v0) = v0 c
          ∧ r.2.mem ((c.tc : Thread Cert.AdaBGradIdeal.nD Cert.AdaBGradIdeal.τ).loc Cert.AdaBGradIdeal.main_arg0) = m ((c.tc : Thread Cert.AdaBGradIdeal.nD Cert.AdaBGradIdeal.τ).loc Cert.AdaBGradIdeal.main_arg0))
      ∧ θ_run (Cert.AdaBGradRefIdeal.defs (F := Ideal)) (onTc (τ := Cert.AdaBGradRefIdeal.τ) (Cert.AdaBGradRefIdeal.main (F := Ideal))) ⟨m', fun _ => 0, g'⟩ (fun r => ∀ c : Dev Cert.AdaBGradRefIdeal.nD,
          r.2.mem ((c.tc : Thread Cert.AdaBGradRefIdeal.nD Cert.AdaBGradRefIdeal.τ).loc Cert.AdaBGradRefIdeal.main_v1) = v0 c
          ∧ r.2.mem ((c.tc : Thread Cert.AdaBGradRefIdeal.nD Cert.AdaBGradRefIdeal.τ).loc Cert.AdaBGradRefIdeal.main_arg0) = m' ((c.tc : Thread Cert.AdaBGradRefIdeal.nD Cert.AdaBGradRefIdeal.τ).loc Cert.AdaBGradRefIdeal.main_arg0))

def preserves_AdaWGrad_AdaWGradIdeal : Prop :=
  True

def algebraic_AdaWGradIdeal_AdaWGradRefIdeal [hAdaWGradIdeal : Cert.AdaWGradIdeal.Facts] [hAdaWGradRefIdeal : Cert.AdaWGradRefIdeal.Facts] : Prop :=
  ∀ (m : (ℓ : Loc Cert.AdaWGradIdeal.nD Cert.AdaWGradIdeal.τ Cert.AdaWGradIdeal.sig) → Buf (Elt Ideal) ℓ) (g : Dev Cert.AdaWGradIdeal.nD → PrngReg)
    (m' : (ℓ : Loc Cert.AdaWGradRefIdeal.nD Cert.AdaWGradRefIdeal.τ Cert.AdaWGradRefIdeal.sig) → Buf (Elt Ideal) ℓ) (g' : Dev Cert.AdaWGradRefIdeal.nD → PrngReg), Pre_AdaWGradIdeal m →
    (∀ c : Dev Cert.AdaWGradIdeal.nD,
      m' ((c.tc : Thread Cert.AdaWGradRefIdeal.nD Cert.AdaWGradRefIdeal.τ).loc Cert.AdaWGradRefIdeal.main_arg0) = m ((c.tc : Thread Cert.AdaWGradIdeal.nD Cert.AdaWGradIdeal.τ).loc Cert.AdaWGradIdeal.main_arg0)
      ∧ m' ((c.tc : Thread Cert.AdaWGradRefIdeal.nD Cert.AdaWGradRefIdeal.τ).loc Cert.AdaWGradRefIdeal.main_arg1) = m ((c.tc : Thread Cert.AdaWGradIdeal.nD Cert.AdaWGradIdeal.τ).loc Cert.AdaWGradIdeal.main_arg1)) →
    ∃ (v0 : (c : Dev Cert.AdaWGradIdeal.nD) → Buf (Elt Ideal) ((c.tc : Thread Cert.AdaWGradIdeal.nD Cert.AdaWGradIdeal.τ).loc Cert.AdaWGradIdeal.main_v4)),
      θ_run (Cert.AdaWGradIdeal.defs (F := Ideal)) (onTc (τ := Cert.AdaWGradIdeal.τ) (Cert.AdaWGradIdeal.main (F := Ideal))) ⟨m, fun _ => 0, g⟩ (fun r => ∀ c : Dev Cert.AdaWGradIdeal.nD,
          r.2.mem ((c.tc : Thread Cert.AdaWGradIdeal.nD Cert.AdaWGradIdeal.τ).loc Cert.AdaWGradIdeal.main_v4) = v0 c
          ∧ r.2.mem ((c.tc : Thread Cert.AdaWGradIdeal.nD Cert.AdaWGradIdeal.τ).loc Cert.AdaWGradIdeal.main_arg0) = m ((c.tc : Thread Cert.AdaWGradIdeal.nD Cert.AdaWGradIdeal.τ).loc Cert.AdaWGradIdeal.main_arg0)
          ∧ r.2.mem ((c.tc : Thread Cert.AdaWGradIdeal.nD Cert.AdaWGradIdeal.τ).loc Cert.AdaWGradIdeal.main_arg1) = m ((c.tc : Thread Cert.AdaWGradIdeal.nD Cert.AdaWGradIdeal.τ).loc Cert.AdaWGradIdeal.main_arg1))
      ∧ θ_run (Cert.AdaWGradRefIdeal.defs (F := Ideal)) (onTc (τ := Cert.AdaWGradRefIdeal.τ) (Cert.AdaWGradRefIdeal.main (F := Ideal))) ⟨m', fun _ => 0, g'⟩ (fun r => ∀ c : Dev Cert.AdaWGradRefIdeal.nD,
          r.2.mem ((c.tc : Thread Cert.AdaWGradRefIdeal.nD Cert.AdaWGradRefIdeal.τ).loc Cert.AdaWGradRefIdeal.main_v1) = v0 c
          ∧ r.2.mem ((c.tc : Thread Cert.AdaWGradRefIdeal.nD Cert.AdaWGradRefIdeal.τ).loc Cert.AdaWGradRefIdeal.main_arg0) = m' ((c.tc : Thread Cert.AdaWGradRefIdeal.nD Cert.AdaWGradRefIdeal.τ).loc Cert.AdaWGradRefIdeal.main_arg0)
          ∧ r.2.mem ((c.tc : Thread Cert.AdaWGradRefIdeal.nD Cert.AdaWGradRefIdeal.τ).loc Cert.AdaWGradRefIdeal.main_arg1) = m' ((c.tc : Thread Cert.AdaWGradRefIdeal.nD Cert.AdaWGradRefIdeal.τ).loc Cert.AdaWGradRefIdeal.main_arg1))

def preserves_CSilu_CSiluIdeal : Prop :=
  True

def algebraic_CSiluIdeal_CSiluRefIdeal [hCSiluIdeal : Cert.CSiluIdeal.Facts] [hCSiluRefIdeal : Cert.CSiluRefIdeal.Facts] : Prop :=
  ∀ (m : (ℓ : Loc Cert.CSiluIdeal.nD Cert.CSiluIdeal.τ Cert.CSiluIdeal.sig) → Buf (Elt Ideal) ℓ) (g : Dev Cert.CSiluIdeal.nD → PrngReg)
    (m' : (ℓ : Loc Cert.CSiluRefIdeal.nD Cert.CSiluRefIdeal.τ Cert.CSiluRefIdeal.sig) → Buf (Elt Ideal) ℓ) (g' : Dev Cert.CSiluRefIdeal.nD → PrngReg), Pre_CSiluIdeal m →
    (∀ c : Dev Cert.CSiluIdeal.nD,
      m' ((c.tc : Thread Cert.CSiluRefIdeal.nD Cert.CSiluRefIdeal.τ).loc Cert.CSiluRefIdeal.main_arg0) = m ((c.tc : Thread Cert.CSiluIdeal.nD Cert.CSiluIdeal.τ).loc Cert.CSiluIdeal.main_arg0)) →
    ∃ (v0 : (c : Dev Cert.CSiluIdeal.nD) → Buf (Elt Ideal) ((c.tc : Thread Cert.CSiluIdeal.nD Cert.CSiluIdeal.τ).loc Cert.CSiluIdeal.main_v0)),
      θ_run (Cert.CSiluIdeal.defs (F := Ideal)) (onTc (τ := Cert.CSiluIdeal.τ) (Cert.CSiluIdeal.main (F := Ideal))) ⟨m, fun _ => 0, g⟩ (fun r => ∀ c : Dev Cert.CSiluIdeal.nD,
          r.2.mem ((c.tc : Thread Cert.CSiluIdeal.nD Cert.CSiluIdeal.τ).loc Cert.CSiluIdeal.main_v0) = v0 c
          ∧ r.2.mem ((c.tc : Thread Cert.CSiluIdeal.nD Cert.CSiluIdeal.τ).loc Cert.CSiluIdeal.main_arg0) = m ((c.tc : Thread Cert.CSiluIdeal.nD Cert.CSiluIdeal.τ).loc Cert.CSiluIdeal.main_arg0))
      ∧ θ_run (Cert.CSiluRefIdeal.defs (F := Ideal)) (onTc (τ := Cert.CSiluRefIdeal.τ) (Cert.CSiluRefIdeal.main (F := Ideal))) ⟨m', fun _ => 0, g'⟩ (fun r => ∀ c : Dev Cert.CSiluRefIdeal.nD,
          r.2.mem ((c.tc : Thread Cert.CSiluRefIdeal.nD Cert.CSiluRefIdeal.τ).loc Cert.CSiluRefIdeal.main_v0) = v0 c
          ∧ r.2.mem ((c.tc : Thread Cert.CSiluRefIdeal.nD Cert.CSiluRefIdeal.τ).loc Cert.CSiluRefIdeal.main_arg0) = m' ((c.tc : Thread Cert.CSiluRefIdeal.nD Cert.CSiluRefIdeal.τ).loc Cert.CSiluRefIdeal.main_arg0))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v2)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v2) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v2) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v18) = v0 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3))

def preserves_FfnGu_FfnGuIdeal : Prop :=
  True

def algebraic_FfnGuIdeal_FfnGuRefIdeal [hFfnGuIdeal : Cert.FfnGuIdeal.Facts] [hFfnGuRefIdeal : Cert.FfnGuRefIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuRefIdeal.nD Cert.FfnGuRefIdeal.τ Cert.FfnGuRefIdeal.sig) → Buf (Elt Ideal) ℓ) (g' : Dev Cert.FfnGuRefIdeal.nD → PrngReg), Pre_FfnGuIdeal m →
    (∀ c : Dev Cert.FfnGuIdeal.nD,
      m' ((c.tc : Thread Cert.FfnGuRefIdeal.nD Cert.FfnGuRefIdeal.τ).loc Cert.FfnGuRefIdeal.main_arg0) = m ((c.tc : Thread Cert.FfnGuIdeal.nD Cert.FfnGuIdeal.τ).loc Cert.FfnGuIdeal.main_arg0)
      ∧ m' ((c.tc : Thread Cert.FfnGuRefIdeal.nD Cert.FfnGuRefIdeal.τ).loc Cert.FfnGuRefIdeal.main_arg1) = m ((c.tc : Thread Cert.FfnGuIdeal.nD Cert.FfnGuIdeal.τ).loc Cert.FfnGuIdeal.main_arg1)) →
    ∃ (v0 : (c : Dev Cert.FfnGuIdeal.nD) → Buf (Elt Ideal) ((c.tc : Thread Cert.FfnGuIdeal.nD Cert.FfnGuIdeal.τ).loc Cert.FfnGuIdeal.main_v0)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v0) = v0 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ θ_run (Cert.FfnGuRefIdeal.defs (F := Ideal)) (onTc (τ := Cert.FfnGuRefIdeal.τ) (Cert.FfnGuRefIdeal.main (F := Ideal))) ⟨m', fun _ => 0, g'⟩ (fun r => ∀ c : Dev Cert.FfnGuRefIdeal.nD,
          r.2.mem ((c.tc : Thread Cert.FfnGuRefIdeal.nD Cert.FfnGuRefIdeal.τ).loc Cert.FfnGuRefIdeal.main_v3) = v0 c
          ∧ r.2.mem ((c.tc : Thread Cert.FfnGuRefIdeal.nD Cert.FfnGuRefIdeal.τ).loc Cert.FfnGuRefIdeal.main_arg0) = m' ((c.tc : Thread Cert.FfnGuRefIdeal.nD Cert.FfnGuRefIdeal.τ).loc Cert.FfnGuRefIdeal.main_arg0)
          ∧ r.2.mem ((c.tc : Thread Cert.FfnGuRefIdeal.nD Cert.FfnGuRefIdeal.τ).loc Cert.FfnGuRefIdeal.main_arg1) = m' ((c.tc : Thread Cert.FfnGuRefIdeal.nD Cert.FfnGuRefIdeal.τ).loc Cert.FfnGuRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v5) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v7) = v0 c
          ∧ r.2.mem ((c.tc : Thread Cert.FfnDownRefIdeal.nD Cert.FfnDownRefIdeal.τ).loc Cert.FfnDownRefIdeal.main_v8) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_MixQkv_MixQkvIdeal : Prop :=
  True

def algebraic_MixQkvIdeal_MixQkvRefIdeal [hMixQkvIdeal : Cert.MixQkvIdeal.Facts] [hMixQkvRefIdeal : Cert.MixQkvRefIdeal.Facts] : Prop :=
  ∀ (m : (ℓ : Loc Cert.MixQkvIdeal.nD Cert.MixQkvIdeal.τ Cert.MixQkvIdeal.sig) → Buf (Elt Ideal) ℓ) (g : Dev Cert.MixQkvIdeal.nD → PrngReg)
    (m' : (ℓ : Loc Cert.MixQkvRefIdeal.nD Cert.MixQkvRefIdeal.τ Cert.MixQkvRefIdeal.sig) → Buf (Elt Ideal) ℓ) (g' : Dev Cert.MixQkvRefIdeal.nD → PrngReg), Pre_MixQkvIdeal m →
    (∀ c : Dev Cert.MixQkvIdeal.nD,
      m' ((c.tc : Thread Cert.MixQkvRefIdeal.nD Cert.MixQkvRefIdeal.τ).loc Cert.MixQkvRefIdeal.main_arg0) = m ((c.tc : Thread Cert.MixQkvIdeal.nD Cert.MixQkvIdeal.τ).loc Cert.MixQkvIdeal.main_arg0)
      ∧ m' ((c.tc : Thread Cert.MixQkvRefIdeal.nD Cert.MixQkvRefIdeal.τ).loc Cert.MixQkvRefIdeal.main_arg1) = m ((c.tc : Thread Cert.MixQkvIdeal.nD Cert.MixQkvIdeal.τ).loc Cert.MixQkvIdeal.main_arg1)) →
    ∃ (v0 : (c : Dev Cert.MixQkvIdeal.nD) → Buf (Elt Ideal) ((c.tc : Thread Cert.MixQkvIdeal.nD Cert.MixQkvIdeal.τ).loc Cert.MixQkvIdeal.main_v0)),
      θ_run (Cert.MixQkvIdeal.defs (F := Ideal)) (onTc (τ := Cert.MixQkvIdeal.τ) (Cert.MixQkvIdeal.main (F := Ideal))) ⟨m, fun _ => 0, g⟩ (fun r => ∀ c : Dev Cert.MixQkvIdeal.nD,
          r.2.mem ((c.tc : Thread Cert.MixQkvIdeal.nD Cert.MixQkvIdeal.τ).loc Cert.MixQkvIdeal.main_v0) = v0 c
          ∧ r.2.mem ((c.tc : Thread Cert.MixQkvIdeal.nD Cert.MixQkvIdeal.τ).loc Cert.MixQkvIdeal.main_arg0) = m ((c.tc : Thread Cert.MixQkvIdeal.nD Cert.MixQkvIdeal.τ).loc Cert.MixQkvIdeal.main_arg0)
          ∧ r.2.mem ((c.tc : Thread Cert.MixQkvIdeal.nD Cert.MixQkvIdeal.τ).loc Cert.MixQkvIdeal.main_arg1) = m ((c.tc : Thread Cert.MixQkvIdeal.nD Cert.MixQkvIdeal.τ).loc Cert.MixQkvIdeal.main_arg1))
      ∧ θ_run (Cert.MixQkvRefIdeal.defs (F := Ideal)) (onTc (τ := Cert.MixQkvRefIdeal.τ) (Cert.MixQkvRefIdeal.main (F := Ideal))) ⟨m', fun _ => 0, g'⟩ (fun r => ∀ c : Dev Cert.MixQkvRefIdeal.nD,
          r.2.mem ((c.tc : Thread Cert.MixQkvRefIdeal.nD Cert.MixQkvRefIdeal.τ).loc Cert.MixQkvRefIdeal.main_v3) = v0 c
          ∧ r.2.mem ((c.tc : Thread Cert.MixQkvRefIdeal.nD Cert.MixQkvRefIdeal.τ).loc Cert.MixQkvRefIdeal.main_arg0) = m' ((c.tc : Thread Cert.MixQkvRefIdeal.nD Cert.MixQkvRefIdeal.τ).loc Cert.MixQkvRefIdeal.main_arg0)
          ∧ r.2.mem ((c.tc : Thread Cert.MixQkvRefIdeal.nD Cert.MixQkvRefIdeal.τ).loc Cert.MixQkvRefIdeal.main_arg1) = m' ((c.tc : Thread Cert.MixQkvRefIdeal.nD Cert.MixQkvRefIdeal.τ).loc Cert.MixQkvRefIdeal.main_arg1))

def preserves_MixZ_MixZIdeal : Prop :=
  True

def algebraic_MixZIdeal_MixZRefIdeal [hMixZIdeal : Cert.MixZIdeal.Facts] [hMixZRefIdeal : Cert.MixZRefIdeal.Facts] : Prop :=
  ∀ (m : (ℓ : Loc Cert.MixZIdeal.nD Cert.MixZIdeal.τ Cert.MixZIdeal.sig) → Buf (Elt Ideal) ℓ) (g : Dev Cert.MixZIdeal.nD → PrngReg)
    (m' : (ℓ : Loc Cert.MixZRefIdeal.nD Cert.MixZRefIdeal.τ Cert.MixZRefIdeal.sig) → Buf (Elt Ideal) ℓ) (g' : Dev Cert.MixZRefIdeal.nD → PrngReg), Pre_MixZIdeal m →
    (∀ c : Dev Cert.MixZIdeal.nD,
      m' ((c.tc : Thread Cert.MixZRefIdeal.nD Cert.MixZRefIdeal.τ).loc Cert.MixZRefIdeal.main_arg0) = m ((c.tc : Thread Cert.MixZIdeal.nD Cert.MixZIdeal.τ).loc Cert.MixZIdeal.main_arg0)
      ∧ m' ((c.tc : Thread Cert.MixZRefIdeal.nD Cert.MixZRefIdeal.τ).loc Cert.MixZRefIdeal.main_arg1) = m ((c.tc : Thread Cert.MixZIdeal.nD Cert.MixZIdeal.τ).loc Cert.MixZIdeal.main_arg1)) →
    ∃ (v0 : (c : Dev Cert.MixZIdeal.nD) → Buf (Elt Ideal) ((c.tc : Thread Cert.MixZIdeal.nD Cert.MixZIdeal.τ).loc Cert.MixZIdeal.main_v0)),
      θ_run (Cert.MixZIdeal.defs (F := Ideal)) (onTc (τ := Cert.MixZIdeal.τ) (Cert.MixZIdeal.main (F := Ideal))) ⟨m, fun _ => 0, g⟩ (fun r => ∀ c : Dev Cert.MixZIdeal.nD,
          r.2.mem ((c.tc : Thread Cert.MixZIdeal.nD Cert.MixZIdeal.τ).loc Cert.MixZIdeal.main_v0) = v0 c
          ∧ r.2.mem ((c.tc : Thread Cert.MixZIdeal.nD Cert.MixZIdeal.τ).loc Cert.MixZIdeal.main_arg0) = m ((c.tc : Thread Cert.MixZIdeal.nD Cert.MixZIdeal.τ).loc Cert.MixZIdeal.main_arg0)
          ∧ r.2.mem ((c.tc : Thread Cert.MixZIdeal.nD Cert.MixZIdeal.τ).loc Cert.MixZIdeal.main_arg1) = m ((c.tc : Thread Cert.MixZIdeal.nD Cert.MixZIdeal.τ).loc Cert.MixZIdeal.main_arg1))
      ∧ θ_run (Cert.MixZRefIdeal.defs (F := Ideal)) (onTc (τ := Cert.MixZRefIdeal.τ) (Cert.MixZRefIdeal.main (F := Ideal))) ⟨m', fun _ => 0, g'⟩ (fun r => ∀ c : Dev Cert.MixZRefIdeal.nD,
          r.2.mem ((c.tc : Thread Cert.MixZRefIdeal.nD Cert.MixZRefIdeal.τ).loc Cert.MixZRefIdeal.main_v3) = v0 c
          ∧ r.2.mem ((c.tc : Thread Cert.MixZRefIdeal.nD Cert.MixZRefIdeal.τ).loc Cert.MixZRefIdeal.main_arg0) = m' ((c.tc : Thread Cert.MixZRefIdeal.nD Cert.MixZRefIdeal.τ).loc Cert.MixZRefIdeal.main_arg0)
          ∧ r.2.mem ((c.tc : Thread Cert.MixZRefIdeal.nD Cert.MixZRefIdeal.τ).loc Cert.MixZRefIdeal.main_arg1) = m' ((c.tc : Thread Cert.MixZRefIdeal.nD Cert.MixZRefIdeal.τ).loc Cert.MixZRefIdeal.main_arg1))

def preserves_MixBa_MixBaIdeal : Prop :=
  True

def algebraic_MixBaIdeal_MixBaRefIdeal [hMixBaIdeal : Cert.MixBaIdeal.Facts] [hMixBaRefIdeal : Cert.MixBaRefIdeal.Facts] : Prop :=
  ∀ (m : (ℓ : Loc Cert.MixBaIdeal.nD Cert.MixBaIdeal.τ Cert.MixBaIdeal.sig) → Buf (Elt Ideal) ℓ) (g : Dev Cert.MixBaIdeal.nD → PrngReg)
    (m' : (ℓ : Loc Cert.MixBaRefIdeal.nD Cert.MixBaRefIdeal.τ Cert.MixBaRefIdeal.sig) → Buf (Elt Ideal) ℓ) (g' : Dev Cert.MixBaRefIdeal.nD → PrngReg), Pre_MixBaIdeal m →
    (∀ c : Dev Cert.MixBaIdeal.nD,
      m' ((c.tc : Thread Cert.MixBaRefIdeal.nD Cert.MixBaRefIdeal.τ).loc Cert.MixBaRefIdeal.main_arg0) = m ((c.tc : Thread Cert.MixBaIdeal.nD Cert.MixBaIdeal.τ).loc Cert.MixBaIdeal.main_arg0)
      ∧ m' ((c.tc : Thread Cert.MixBaRefIdeal.nD Cert.MixBaRefIdeal.τ).loc Cert.MixBaRefIdeal.main_arg1) = m ((c.tc : Thread Cert.MixBaIdeal.nD Cert.MixBaIdeal.τ).loc Cert.MixBaIdeal.main_arg1)) →
    ∃ (v0 : (c : Dev Cert.MixBaIdeal.nD) → Buf (Elt Ideal) ((c.tc : Thread Cert.MixBaIdeal.nD Cert.MixBaIdeal.τ).loc Cert.MixBaIdeal.main_v0)),
      θ_run (Cert.MixBaIdeal.defs (F := Ideal)) (onTc (τ := Cert.MixBaIdeal.τ) (Cert.MixBaIdeal.main (F := Ideal))) ⟨m, fun _ => 0, g⟩ (fun r => ∀ c : Dev Cert.MixBaIdeal.nD,
          r.2.mem ((c.tc : Thread Cert.MixBaIdeal.nD Cert.MixBaIdeal.τ).loc Cert.MixBaIdeal.main_v0) = v0 c
          ∧ r.2.mem ((c.tc : Thread Cert.MixBaIdeal.nD Cert.MixBaIdeal.τ).loc Cert.MixBaIdeal.main_arg0) = m ((c.tc : Thread Cert.MixBaIdeal.nD Cert.MixBaIdeal.τ).loc Cert.MixBaIdeal.main_arg0)
          ∧ r.2.mem ((c.tc : Thread Cert.MixBaIdeal.nD Cert.MixBaIdeal.τ).loc Cert.MixBaIdeal.main_arg1) = m ((c.tc : Thread Cert.MixBaIdeal.nD Cert.MixBaIdeal.τ).loc Cert.MixBaIdeal.main_arg1))
      ∧ θ_run (Cert.MixBaRefIdeal.defs (F := Ideal)) (onTc (τ := Cert.MixBaRefIdeal.τ) (Cert.MixBaRefIdeal.main (F := Ideal))) ⟨m', fun _ => 0, g'⟩ (fun r => ∀ c : Dev Cert.MixBaRefIdeal.nD,
          r.2.mem ((c.tc : Thread Cert.MixBaRefIdeal.nD Cert.MixBaRefIdeal.τ).loc Cert.MixBaRefIdeal.main_v2) = v0 c
          ∧ r.2.mem ((c.tc : Thread Cert.MixBaRefIdeal.nD Cert.MixBaRefIdeal.τ).loc Cert.MixBaRefIdeal.main_arg0) = m' ((c.tc : Thread Cert.MixBaRefIdeal.nD Cert.MixBaRefIdeal.τ).loc Cert.MixBaRefIdeal.main_arg0)
          ∧ r.2.mem ((c.tc : Thread Cert.MixBaRefIdeal.nD Cert.MixBaRefIdeal.τ).loc Cert.MixBaRefIdeal.main_arg1) = m' ((c.tc : Thread Cert.MixBaRefIdeal.nD Cert.MixBaRefIdeal.τ).loc Cert.MixBaRefIdeal.main_arg1))

def preserves_MixDa_MixDaIdeal : Prop :=
  True

def algebraic_MixDaIdeal_MixDaRefIdeal [hMixDaIdeal : Cert.MixDaIdeal.Facts] [hMixDaRefIdeal : Cert.MixDaRefIdeal.Facts] : Prop :=
  ∀ (m : (ℓ : Loc Cert.MixDaIdeal.nD Cert.MixDaIdeal.τ Cert.MixDaIdeal.sig) → Buf (Elt Ideal) ℓ) (g : Dev Cert.MixDaIdeal.nD → PrngReg)
    (m' : (ℓ : Loc Cert.MixDaRefIdeal.nD Cert.MixDaRefIdeal.τ Cert.MixDaRefIdeal.sig) → Buf (Elt Ideal) ℓ) (g' : Dev Cert.MixDaRefIdeal.nD → PrngReg), Pre_MixDaIdeal m →
    (∀ c : Dev Cert.MixDaIdeal.nD,
      m' ((c.tc : Thread Cert.MixDaRefIdeal.nD Cert.MixDaRefIdeal.τ).loc Cert.MixDaRefIdeal.main_arg0) = m ((c.tc : Thread Cert.MixDaIdeal.nD Cert.MixDaIdeal.τ).loc Cert.MixDaIdeal.main_arg0)
      ∧ m' ((c.tc : Thread Cert.MixDaRefIdeal.nD Cert.MixDaRefIdeal.τ).loc Cert.MixDaRefIdeal.main_arg1) = m ((c.tc : Thread Cert.MixDaIdeal.nD Cert.MixDaIdeal.τ).loc Cert.MixDaIdeal.main_arg1)) →
    ∃ (v0 : (c : Dev Cert.MixDaIdeal.nD) → Buf (Elt Ideal) ((c.tc : Thread Cert.MixDaIdeal.nD Cert.MixDaIdeal.τ).loc Cert.MixDaIdeal.main_v0)),
      θ_run (Cert.MixDaIdeal.defs (F := Ideal)) (onTc (τ := Cert.MixDaIdeal.τ) (Cert.MixDaIdeal.main (F := Ideal))) ⟨m, fun _ => 0, g⟩ (fun r => ∀ c : Dev Cert.MixDaIdeal.nD,
          r.2.mem ((c.tc : Thread Cert.MixDaIdeal.nD Cert.MixDaIdeal.τ).loc Cert.MixDaIdeal.main_v0) = v0 c
          ∧ r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
          ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ θ_run (Cert.MixDaRefIdeal.defs (F := Ideal)) (onTc (τ := Cert.MixDaRefIdeal.τ) (Cert.MixDaRefIdeal.main (F := Ideal))) ⟨m', fun _ => 0, g'⟩ (fun r => ∀ c : Dev Cert.MixDaRefIdeal.nD,
          r.2.mem ((c.tc : Thread Cert.MixDaRefIdeal.nD Cert.MixDaRefIdeal.τ).loc Cert.MixDaRefIdeal.main_v3) = v0 c
          ∧ r.2.mem ((c.tc : Thread Cert.MixDaRefIdeal.nD Cert.MixDaRefIdeal.τ).loc Cert.MixDaRefIdeal.main_arg0) = m' ((c.tc : Thread Cert.MixDaRefIdeal.nD Cert.MixDaRefIdeal.τ).loc Cert.MixDaRefIdeal.main_arg0)
          ∧ r.2.mem ((c.tc : Thread Cert.MixDaRefIdeal.nD Cert.MixDaRefIdeal.τ).loc Cert.MixDaRefIdeal.main_arg1) = m' ((c.tc : Thread Cert.MixDaRefIdeal.nD Cert.MixDaRefIdeal.τ).loc Cert.MixDaRefIdeal.main_arg1))

def preserves_MixPg_MixPgIdeal : Prop :=
  True

def algebraic_MixPgIdeal_MixPgRefIdeal [hMixPgIdeal : Cert.MixPgIdeal.Facts] [hMixPgRefIdeal : Cert.MixPgRefIdeal.Facts] : Prop :=
  ∀ (m : (ℓ : Loc Cert.MixPgIdeal.nD Cert.MixPgIdeal.τ Cert.MixPgIdeal.sig) → Buf (Elt Ideal) ℓ) (g : Dev Cert.MixPgIdeal.nD → PrngReg)
    (m' : (ℓ : Loc Cert.MixPgRefIdeal.nD Cert.MixPgRefIdeal.τ Cert.MixPgRefIdeal.sig) → Buf (Elt Ideal) ℓ) (g' : Dev Cert.MixPgRefIdeal.nD → PrngReg), Pre_MixPgIdeal m →
    (∀ c : Dev Cert.MixPgIdeal.nD,
      m' ((c.tc : Thread Cert.MixPgRefIdeal.nD Cert.MixPgRefIdeal.τ).loc Cert.MixPgRefIdeal.main_arg0) = m ((c.tc : Thread Cert.MixPgIdeal.nD Cert.MixPgIdeal.τ).loc Cert.MixPgIdeal.main_arg0)
      ∧ m' ((c.tc : Thread Cert.MixPgRefIdeal.nD Cert.MixPgRefIdeal.τ).loc Cert.MixPgRefIdeal.main_arg1) = m ((c.tc : Thread Cert.MixPgIdeal.nD Cert.MixPgIdeal.τ).loc Cert.MixPgIdeal.main_arg1)) →
    ∃ (v0 : (c : Dev Cert.MixPgIdeal.nD) → Buf (Elt Ideal) ((c.tc : Thread Cert.MixPgIdeal.nD Cert.MixPgIdeal.τ).loc Cert.MixPgIdeal.main_v0)),
      θ_run (Cert.MixPgIdeal.defs (F := Ideal)) (onTc (τ := Cert.MixPgIdeal.τ) (Cert.MixPgIdeal.main (F := Ideal))) ⟨m, fun _ => 0, g⟩ (fun r => ∀ c : Dev Cert.MixPgIdeal.nD,
          r.2.mem ((c.tc : Thread Cert.MixPgIdeal.nD Cert.MixPgIdeal.τ).loc Cert.MixPgIdeal.main_v0) = v0 c
          ∧ r.2.mem ((c.tc : Thread Cert.MixPgIdeal.nD Cert.MixPgIdeal.τ).loc Cert.MixPgIdeal.main_arg0) = m ((c.tc : Thread Cert.MixPgIdeal.nD Cert.MixPgIdeal.τ).loc Cert.MixPgIdeal.main_arg0)
          ∧ r.2.mem ((c.tc : Thread Cert.MixPgIdeal.nD Cert.MixPgIdeal.τ).loc Cert.MixPgIdeal.main_arg1) = m ((c.tc : Thread Cert.MixPgIdeal.nD Cert.MixPgIdeal.τ).loc Cert.MixPgIdeal.main_arg1))
      ∧ θ_run (Cert.MixPgRefIdeal.defs (F := Ideal)) (onTc (τ := Cert.MixPgRefIdeal.τ) (Cert.MixPgRefIdeal.main (F := Ideal))) ⟨m', fun _ => 0, g'⟩ (fun r => ∀ c : Dev Cert.MixPgRefIdeal.nD,
          r.2.mem ((c.tc : Thread Cert.MixPgRefIdeal.nD Cert.MixPgRefIdeal.τ).loc Cert.MixPgRefIdeal.main_v3) = v0 c
          ∧ r.2.mem ((c.tc : Thread Cert.MixPgRefIdeal.nD Cert.MixPgRefIdeal.τ).loc Cert.MixPgRefIdeal.main_arg0) = m' ((c.tc : Thread Cert.MixPgRefIdeal.nD Cert.MixPgRefIdeal.τ).loc Cert.MixPgRefIdeal.main_arg0)
          ∧ r.2.mem ((c.tc : Thread Cert.MixPgRefIdeal.nD Cert.MixPgRefIdeal.τ).loc Cert.MixPgRefIdeal.main_arg1) = m' ((c.tc : Thread Cert.MixPgRefIdeal.nD Cert.MixPgRefIdeal.τ).loc Cert.MixPgRefIdeal.main_arg1))

def preserves_MixWb_MixWbIdeal : Prop :=
  True

def algebraic_MixWbIdeal_MixWbRefIdeal [hMixWbIdeal : Cert.MixWbIdeal.Facts] [hMixWbRefIdeal : Cert.MixWbRefIdeal.Facts] : Prop :=
  ∀ (m : (ℓ : Loc Cert.MixWbIdeal.nD Cert.MixWbIdeal.τ Cert.MixWbIdeal.sig) → Buf (Elt Ideal) ℓ) (g : Dev Cert.MixWbIdeal.nD → PrngReg)
    (m' : (ℓ : Loc Cert.MixWbRefIdeal.nD Cert.MixWbRefIdeal.τ Cert.MixWbRefIdeal.sig) → Buf (Elt Ideal) ℓ) (g' : Dev Cert.MixWbRefIdeal.nD → PrngReg), Pre_MixWbIdeal m →
    (∀ c : Dev Cert.MixWbIdeal.nD,
      m' ((c.tc : Thread Cert.MixWbRefIdeal.nD Cert.MixWbRefIdeal.τ).loc Cert.MixWbRefIdeal.main_arg0) = m ((c.tc : Thread Cert.MixWbIdeal.nD Cert.MixWbIdeal.τ).loc Cert.MixWbIdeal.main_arg0)
      ∧ m' ((c.tc : Thread Cert.MixWbRefIdeal.nD Cert.MixWbRefIdeal.τ).loc Cert.MixWbRefIdeal.main_arg1) = m ((c.tc : Thread Cert.MixWbIdeal.nD Cert.MixWbIdeal.τ).loc Cert.MixWbIdeal.main_arg1)) →
    ∃ (v0 : (c : Dev Cert.MixWbIdeal.nD) → Buf (Elt Ideal) ((c.tc : Thread Cert.MixWbIdeal.nD Cert.MixWbIdeal.τ).loc Cert.MixWbIdeal.main_v0)),
      θ_run (Cert.MixWbIdeal.defs (F := Ideal)) (onTc (τ := Cert.MixWbIdeal.τ) (Cert.MixWbIdeal.main (F := Ideal))) ⟨m, fun _ => 0, g⟩ (fun r => ∀ c : Dev Cert.MixWbIdeal.nD,
          r.2.mem ((c.tc : Thread Cert.MixWbIdeal.nD Cert.MixWbIdeal.τ).loc Cert.MixWbIdeal.main_v0) = v0 c
          ∧ r.2.mem ((c.tc : Thread Cert.MixWbIdeal.nD Cert.MixWbIdeal.τ).loc Cert.MixWbIdeal.main_arg0) = m ((c.tc : Thread Cert.MixWbIdeal.nD Cert.MixWbIdeal.τ).loc Cert.MixWbIdeal.main_arg0)
          ∧ r.2.mem ((c.tc : Thread Cert.MixWbIdeal.nD Cert.MixWbIdeal.τ).loc Cert.MixWbIdeal.main_arg1) = m ((c.tc : Thread Cert.MixWbIdeal.nD Cert.MixWbIdeal.τ).loc Cert.MixWbIdeal.main_arg1))
      ∧ θ_run (Cert.MixWbRefIdeal.defs (F := Ideal)) (onTc (τ := Cert.MixWbRefIdeal.τ) (Cert.MixWbRefIdeal.main (F := Ideal))) ⟨m', fun _ => 0, g'⟩ (fun r => ∀ c : Dev Cert.MixWbRefIdeal.nD,
          r.2.mem ((c.tc : Thread Cert.MixWbRefIdeal.nD Cert.MixWbRefIdeal.τ).loc Cert.MixWbRefIdeal.main_v3) = v0 c
          ∧ r.2.mem ((c.tc : Thread Cert.MixWbRefIdeal.nD Cert.MixWbRefIdeal.τ).loc Cert.MixWbRefIdeal.main_arg0) = m' ((c.tc : Thread Cert.MixWbRefIdeal.nD Cert.MixWbRefIdeal.τ).loc Cert.MixWbRefIdeal.main_arg0)
          ∧ r.2.mem ((c.tc : Thread Cert.MixWbRefIdeal.nD Cert.MixWbRefIdeal.τ).loc Cert.MixWbRefIdeal.main_arg1) = m' ((c.tc : Thread Cert.MixWbRefIdeal.nD Cert.MixWbRefIdeal.τ).loc Cert.MixWbRefIdeal.main_arg1))

def preserves_MixGate_MixGateIdeal : Prop :=
  True

def algebraic_MixGateIdeal_MixGateRefIdeal [hMixGateIdeal : Cert.MixGateIdeal.Facts] [hMixGateRefIdeal : Cert.MixGateRefIdeal.Facts] : Prop :=
  ∀ (m : (ℓ : Loc Cert.MixGateIdeal.nD Cert.MixGateIdeal.τ Cert.MixGateIdeal.sig) → Buf (Elt Ideal) ℓ) (g : Dev Cert.MixGateIdeal.nD → PrngReg)
    (m' : (ℓ : Loc Cert.MixGateRefIdeal.nD Cert.MixGateRefIdeal.τ Cert.MixGateRefIdeal.sig) → Buf (Elt Ideal) ℓ) (g' : Dev Cert.MixGateRefIdeal.nD → PrngReg), Pre_MixGateIdeal m →
    (∀ c : Dev Cert.MixGateIdeal.nD,
      m' ((c.tc : Thread Cert.MixGateRefIdeal.nD Cert.MixGateRefIdeal.τ).loc Cert.MixGateRefIdeal.main_arg0) = m ((c.tc : Thread Cert.MixGateIdeal.nD Cert.MixGateIdeal.τ).loc Cert.MixGateIdeal.main_arg0)
      ∧ m' ((c.tc : Thread Cert.MixGateRefIdeal.nD Cert.MixGateRefIdeal.τ).loc Cert.MixGateRefIdeal.main_arg1) = m ((c.tc : Thread Cert.MixGateIdeal.nD Cert.MixGateIdeal.τ).loc Cert.MixGateIdeal.main_arg1)
      ∧ m' ((c.tc : Thread Cert.MixGateRefIdeal.nD Cert.MixGateRefIdeal.τ).loc Cert.MixGateRefIdeal.main_arg2) = m ((c.tc : Thread Cert.MixGateIdeal.nD Cert.MixGateIdeal.τ).loc Cert.MixGateIdeal.main_arg2)) →
    ∃ (v0 : (c : Dev Cert.MixGateIdeal.nD) → Buf (Elt Ideal) ((c.tc : Thread Cert.MixGateIdeal.nD Cert.MixGateIdeal.τ).loc Cert.MixGateIdeal.main_v0)),
      θ_run (Cert.MixGateIdeal.defs (F := Ideal)) (onTc (τ := Cert.MixGateIdeal.τ) (Cert.MixGateIdeal.main (F := Ideal))) ⟨m, fun _ => 0, g⟩ (fun r => ∀ c : Dev Cert.MixGateIdeal.nD,
          r.2.mem ((c.tc : Thread Cert.MixGateIdeal.nD Cert.MixGateIdeal.τ).loc Cert.MixGateIdeal.main_v0) = v0 c
          ∧ r.2.mem ((c.tc : Thread Cert.MixGateIdeal.nD Cert.MixGateIdeal.τ).loc Cert.MixGateIdeal.main_arg0) = m ((c.tc : Thread Cert.MixGateIdeal.nD Cert.MixGateIdeal.τ).loc Cert.MixGateIdeal.main_arg0)
          ∧ r.2.mem ((c.tc : Thread Cert.MixGateIdeal.nD Cert.MixGateIdeal.τ).loc Cert.MixGateIdeal.main_arg1) = m ((c.tc : Thread Cert.MixGateIdeal.nD Cert.MixGateIdeal.τ).loc Cert.MixGateIdeal.main_arg1)
          ∧ r.2.mem ((c.tc : Thread Cert.MixGateIdeal.nD Cert.MixGateIdeal.τ).loc Cert.MixGateIdeal.main_arg2) = m ((c.tc : Thread Cert.MixGateIdeal.nD Cert.MixGateIdeal.τ).loc Cert.MixGateIdeal.main_arg2))
      ∧ θ_run (Cert.MixGateRefIdeal.defs (F := Ideal)) (onTc (τ := Cert.MixGateRefIdeal.τ) (Cert.MixGateRefIdeal.main (F := Ideal))) ⟨m', fun _ => 0, g'⟩ (fun r => ∀ c : Dev Cert.MixGateRefIdeal.nD,
          r.2.mem ((c.tc : Thread Cert.MixGateRefIdeal.nD Cert.MixGateRefIdeal.τ).loc Cert.MixGateRefIdeal.main_v14) = v0 c
          ∧ r.2.mem ((c.tc : Thread Cert.MixGateRefIdeal.nD Cert.MixGateRefIdeal.τ).loc Cert.MixGateRefIdeal.main_arg0) = m' ((c.tc : Thread Cert.MixGateRefIdeal.nD Cert.MixGateRefIdeal.τ).loc Cert.MixGateRefIdeal.main_arg0)
          ∧ r.2.mem ((c.tc : Thread Cert.MixGateRefIdeal.nD Cert.MixGateRefIdeal.τ).loc Cert.MixGateRefIdeal.main_arg1) = m' ((c.tc : Thread Cert.MixGateRefIdeal.nD Cert.MixGateRefIdeal.τ).loc Cert.MixGateRefIdeal.main_arg1)
          ∧ r.2.mem ((c.tc : Thread Cert.MixGateRefIdeal.nD Cert.MixGateRefIdeal.τ).loc Cert.MixGateRefIdeal.main_arg2) = m' ((c.tc : Thread Cert.MixGateRefIdeal.nD Cert.MixGateRefIdeal.τ).loc Cert.MixGateRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_v6) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v4) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixWaDx_MixWaDxIdeal : Prop :=
  True

def algebraic_MixWaDxIdeal_MixWaDxRefIdeal [hMixWaDxIdeal : Cert.MixWaDxIdeal.Facts] [hMixWaDxRefIdeal : Cert.MixWaDxRefIdeal.Facts] : Prop :=
  ∀ (m : (ℓ : Loc Cert.MixWaDxIdeal.nD Cert.MixWaDxIdeal.τ Cert.MixWaDxIdeal.sig) → Buf (Elt Ideal) ℓ) (g : Dev Cert.MixWaDxIdeal.nD → PrngReg)
    (m' : (ℓ : Loc Cert.MixWaDxRefIdeal.nD Cert.MixWaDxRefIdeal.τ Cert.MixWaDxRefIdeal.sig) → Buf (Elt Ideal) ℓ) (g' : Dev Cert.MixWaDxRefIdeal.nD → PrngReg), Pre_MixWaDxIdeal m →
    (∀ c : Dev Cert.MixWaDxIdeal.nD,
      m' ((c.tc : Thread Cert.MixWaDxRefIdeal.nD Cert.MixWaDxRefIdeal.τ).loc Cert.MixWaDxRefIdeal.main_arg0) = m ((c.tc : Thread Cert.MixWaDxIdeal.nD Cert.MixWaDxIdeal.τ).loc Cert.MixWaDxIdeal.main_arg0)
      ∧ m' ((c.tc : Thread Cert.MixWaDxRefIdeal.nD Cert.MixWaDxRefIdeal.τ).loc Cert.MixWaDxRefIdeal.main_arg1) = m ((c.tc : Thread Cert.MixWaDxIdeal.nD Cert.MixWaDxIdeal.τ).loc Cert.MixWaDxIdeal.main_arg1)) →
    ∃ (v0 : (c : Dev Cert.MixWaDxIdeal.nD) → Buf (Elt Ideal) ((c.tc : Thread Cert.MixWaDxIdeal.nD Cert.MixWaDxIdeal.τ).loc Cert.MixWaDxIdeal.main_v0)),
      θ_run (Cert.MixWaDxIdeal.defs (F := Ideal)) (onTc (τ := Cert.MixWaDxIdeal.τ) (Cert.MixWaDxIdeal.main (F := Ideal))) ⟨m, fun _ => 0, g⟩ (fun r => ∀ c : Dev Cert.MixWaDxIdeal.nD,
          r.2.mem ((c.tc : Thread Cert.MixWaDxIdeal.nD Cert.MixWaDxIdeal.τ).loc Cert.MixWaDxIdeal.main_v0) = v0 c
          ∧ r.2.mem ((c.tc : Thread Cert.MixWaDxIdeal.nD Cert.MixWaDxIdeal.τ).loc Cert.MixWaDxIdeal.main_arg0) = m ((c.tc : Thread Cert.MixWaDxIdeal.nD Cert.MixWaDxIdeal.τ).loc Cert.MixWaDxIdeal.main_arg0)
          ∧ r.2.mem ((c.tc : Thread Cert.MixWaDxIdeal.nD Cert.MixWaDxIdeal.τ).loc Cert.MixWaDxIdeal.main_arg1) = m ((c.tc : Thread Cert.MixWaDxIdeal.nD Cert.MixWaDxIdeal.τ).loc Cert.MixWaDxIdeal.main_arg1))
      ∧ θ_run (Cert.MixWaDxRefIdeal.defs (F := Ideal)) (onTc (τ := Cert.MixWaDxRefIdeal.τ) (Cert.MixWaDxRefIdeal.main (F := Ideal))) ⟨m', fun _ => 0, g'⟩ (fun r => ∀ c : Dev Cert.MixWaDxRefIdeal.nD,
          r.2.mem ((c.tc : Thread Cert.MixWaDxRefIdeal.nD Cert.MixWaDxRefIdeal.τ).loc Cert.MixWaDxRefIdeal.main_v3) = v0 c
          ∧ r.2.mem ((c.tc : Thread Cert.MixWaDxRefIdeal.nD Cert.MixWaDxRefIdeal.τ).loc Cert.MixWaDxRefIdeal.main_arg0) = m' ((c.tc : Thread Cert.MixWaDxRefIdeal.nD Cert.MixWaDxRefIdeal.τ).loc Cert.MixWaDxRefIdeal.main_arg0)
          ∧ r.2.mem ((c.tc : Thread Cert.MixWaDxRefIdeal.nD Cert.MixWaDxRefIdeal.τ).loc Cert.MixWaDxRefIdeal.main_arg1) = m' ((c.tc : Thread Cert.MixWaDxRefIdeal.nD Cert.MixWaDxRefIdeal.τ).loc Cert.MixWaDxRefIdeal.main_arg1))

def preserves_MixWbDx_MixWbDxIdeal : Prop :=
  True

def algebraic_MixWbDxIdeal_MixWbDxRefIdeal [hMixWbDxIdeal : Cert.MixWbDxIdeal.Facts] [hMixWbDxRefIdeal : Cert.MixWbDxRefIdeal.Facts] : Prop :=
  ∀ (m : (ℓ : Loc Cert.MixWbDxIdeal.nD Cert.MixWbDxIdeal.τ Cert.MixWbDxIdeal.sig) → Buf (Elt Ideal) ℓ) (g : Dev Cert.MixWbDxIdeal.nD → PrngReg)
    (m' : (ℓ : Loc Cert.MixWbDxRefIdeal.nD Cert.MixWbDxRefIdeal.τ Cert.MixWbDxRefIdeal.sig) → Buf (Elt Ideal) ℓ) (g' : Dev Cert.MixWbDxRefIdeal.nD → PrngReg), Pre_MixWbDxIdeal m →
    (∀ c : Dev Cert.MixWbDxIdeal.nD,
      m' ((c.tc : Thread Cert.MixWbDxRefIdeal.nD Cert.MixWbDxRefIdeal.τ).loc Cert.MixWbDxRefIdeal.main_arg0) = m ((c.tc : Thread Cert.MixWbDxIdeal.nD Cert.MixWbDxIdeal.τ).loc Cert.MixWbDxIdeal.main_arg0)
      ∧ m' ((c.tc : Thread Cert.MixWbDxRefIdeal.nD Cert.MixWbDxRefIdeal.τ).loc Cert.MixWbDxRefIdeal.main_arg1) = m ((c.tc : Thread Cert.MixWbDxIdeal.nD Cert.MixWbDxIdeal.τ).loc Cert.MixWbDxIdeal.main_arg1)) →
    ∃ (v0 : (c : Dev Cert.MixWbDxIdeal.nD) → Buf (Elt Ideal) ((c.tc : Thread Cert.MixWbDxIdeal.nD Cert.MixWbDxIdeal.τ).loc Cert.MixWbDxIdeal.main_v0)),
      θ_run (Cert.MixWbDxIdeal.defs (F := Ideal)) (onTc (τ := Cert.MixWbDxIdeal.τ) (Cert.MixWbDxIdeal.main (F := Ideal))) ⟨m, fun _ => 0, g⟩ (fun r => ∀ c : Dev Cert.MixWbDxIdeal.nD,
          r.2.mem ((c.tc : Thread Cert.MixWbDxIdeal.nD Cert.MixWbDxIdeal.τ).loc Cert.MixWbDxIdeal.main_v0) = v0 c
          ∧ r.2.mem ((c.tc : Thread Cert.MixWbDxIdeal.nD Cert.MixWbDxIdeal.τ).loc Cert.MixWbDxIdeal.main_arg0) = m ((c.tc : Thread Cert.MixWbDxIdeal.nD Cert.MixWbDxIdeal.τ).loc Cert.MixWbDxIdeal.main_arg0)
          ∧ r.2.mem ((c.tc : Thread Cert.MixWbDxIdeal.nD Cert.MixWbDxIdeal.τ).loc Cert.MixWbDxIdeal.main_arg1) = m ((c.tc : Thread Cert.MixWbDxIdeal.nD Cert.MixWbDxIdeal.τ).loc Cert.MixWbDxIdeal.main_arg1))
      ∧ θ_run (Cert.MixWbDxRefIdeal.defs (F := Ideal)) (onTc (τ := Cert.MixWbDxRefIdeal.τ) (Cert.MixWbDxRefIdeal.main (F := Ideal))) ⟨m', fun _ => 0, g'⟩ (fun r => ∀ c : Dev Cert.MixWbDxRefIdeal.nD,
          r.2.mem ((c.tc : Thread Cert.MixWbDxRefIdeal.nD Cert.MixWbDxRefIdeal.τ).loc Cert.MixWbDxRefIdeal.main_v4) = v0 c
          ∧ r.2.mem ((c.tc : Thread Cert.MixWbDxRefIdeal.nD Cert.MixWbDxRefIdeal.τ).loc Cert.MixWbDxRefIdeal.main_arg0) = m' ((c.tc : Thread Cert.MixWbDxRefIdeal.nD Cert.MixWbDxRefIdeal.τ).loc Cert.MixWbDxRefIdeal.main_arg0)
          ∧ r.2.mem ((c.tc : Thread Cert.MixWbDxRefIdeal.nD Cert.MixWbDxRefIdeal.τ).loc Cert.MixWbDxRefIdeal.main_arg1) = m' ((c.tc : Thread Cert.MixWbDxRefIdeal.nD Cert.MixWbDxRefIdeal.τ).loc Cert.MixWbDxRefIdeal.main_arg1))

def preserves_MixQkvDx_MixQkvDxIdeal : Prop :=
  True

def algebraic_MixQkvDxIdeal_MixQkvDxRefIdeal [hMixQkvDxIdeal : Cert.MixQkvDxIdeal.Facts] [hMixQkvDxRefIdeal : Cert.MixQkvDxRefIdeal.Facts] : Prop :=
  ∀ (m : (ℓ : Loc Cert.MixQkvDxIdeal.nD Cert.MixQkvDxIdeal.τ Cert.MixQkvDxIdeal.sig) → Buf (Elt Ideal) ℓ) (g : Dev Cert.MixQkvDxIdeal.nD → PrngReg)
    (m' : (ℓ : Loc Cert.MixQkvDxRefIdeal.nD Cert.MixQkvDxRefIdeal.τ Cert.MixQkvDxRefIdeal.sig) → Buf (Elt Ideal) ℓ) (g' : Dev Cert.MixQkvDxRefIdeal.nD → PrngReg), Pre_MixQkvDxIdeal m →
    (∀ c : Dev Cert.MixQkvDxIdeal.nD,
      m' ((c.tc : Thread Cert.MixQkvDxRefIdeal.nD Cert.MixQkvDxRefIdeal.τ).loc Cert.MixQkvDxRefIdeal.main_arg0) = m ((c.tc : Thread Cert.MixQkvDxIdeal.nD Cert.MixQkvDxIdeal.τ).loc Cert.MixQkvDxIdeal.main_arg0)
      ∧ m' ((c.tc : Thread Cert.MixQkvDxRefIdeal.nD Cert.MixQkvDxRefIdeal.τ).loc Cert.MixQkvDxRefIdeal.main_arg1) = m ((c.tc : Thread Cert.MixQkvDxIdeal.nD Cert.MixQkvDxIdeal.τ).loc Cert.MixQkvDxIdeal.main_arg1)) →
    ∃ (v0 : (c : Dev Cert.MixQkvDxIdeal.nD) → Buf (Elt Ideal) ((c.tc : Thread Cert.MixQkvDxIdeal.nD Cert.MixQkvDxIdeal.τ).loc Cert.MixQkvDxIdeal.main_v0)),
      θ_run (Cert.MixQkvDxIdeal.defs (F := Ideal)) (onTc (τ := Cert.MixQkvDxIdeal.τ) (Cert.MixQkvDxIdeal.main (F := Ideal))) ⟨m, fun _ => 0, g⟩ (fun r => ∀ c : Dev Cert.MixQkvDxIdeal.nD,
          r.2.mem ((c.tc : Thread Cert.MixQkvDxIdeal.nD Cert.MixQkvDxIdeal.τ).loc Cert.MixQkvDxIdeal.main_v0) = v0 c
          ∧ r.2.mem ((c.tc : Thread Cert.MixQkvDxIdeal.nD Cert.MixQkvDxIdeal.τ).loc Cert.MixQkvDxIdeal.main_arg0) = m ((c.tc : Thread Cert.MixQkvDxIdeal.nD Cert.MixQkvDxIdeal.τ).loc Cert.MixQkvDxIdeal.main_arg0)
          ∧ r.2.mem ((c.tc : Thread Cert.MixQkvDxIdeal.nD Cert.MixQkvDxIdeal.τ).loc Cert.MixQkvDxIdeal.main_arg1) = m ((c.tc : Thread Cert.MixQkvDxIdeal.nD Cert.MixQkvDxIdeal.τ).loc Cert.MixQkvDxIdeal.main_arg1))
      ∧ θ_run (Cert.MixQkvDxRefIdeal.defs (F := Ideal)) (onTc (τ := Cert.MixQkvDxRefIdeal.τ) (Cert.MixQkvDxRefIdeal.main (F := Ideal))) ⟨m', fun _ => 0, g'⟩ (fun r => ∀ c : Dev Cert.MixQkvDxRefIdeal.nD,
          r.2.mem ((c.tc : Thread Cert.MixQkvDxRefIdeal.nD Cert.MixQkvDxRefIdeal.τ).loc Cert.MixQkvDxRefIdeal.main_v3) = v0 c
          ∧ r.2.mem ((c.tc : Thread Cert.MixQkvDxRefIdeal.nD Cert.MixQkvDxRefIdeal.τ).loc Cert.MixQkvDxRefIdeal.main_arg0) = m' ((c.tc : Thread Cert.MixQkvDxRefIdeal.nD Cert.MixQkvDxRefIdeal.τ).loc Cert.MixQkvDxRefIdeal.main_arg0)
          ∧ r.2.mem ((c.tc : Thread Cert.MixQkvDxRefIdeal.nD Cert.MixQkvDxRefIdeal.τ).loc Cert.MixQkvDxRefIdeal.main_arg1) = m' ((c.tc : Thread Cert.MixQkvDxRefIdeal.nD Cert.MixQkvDxRefIdeal.τ).loc Cert.MixQkvDxRefIdeal.main_arg1))

def preserves_MixZDx_MixZDxIdeal : Prop :=
  True

def algebraic_MixZDxIdeal_MixZDxRefIdeal [hMixZDxIdeal : Cert.MixZDxIdeal.Facts] [hMixZDxRefIdeal : Cert.MixZDxRefIdeal.Facts] : Prop :=
  ∀ (m : (ℓ : Loc Cert.MixZDxIdeal.nD Cert.MixZDxIdeal.τ Cert.MixZDxIdeal.sig) → Buf (Elt Ideal) ℓ) (g : Dev Cert.MixZDxIdeal.nD → PrngReg)
    (m' : (ℓ : Loc Cert.MixZDxRefIdeal.nD Cert.MixZDxRefIdeal.τ Cert.MixZDxRefIdeal.sig) → Buf (Elt Ideal) ℓ) (g' : Dev Cert.MixZDxRefIdeal.nD → PrngReg), Pre_MixZDxIdeal m →
    (∀ c : Dev Cert.MixZDxIdeal.nD,
      m' ((c.tc : Thread Cert.MixZDxRefIdeal.nD Cert.MixZDxRefIdeal.τ).loc Cert.MixZDxRefIdeal.main_arg0) = m ((c.tc : Thread Cert.MixZDxIdeal.nD Cert.MixZDxIdeal.τ).loc Cert.MixZDxIdeal.main_arg0)
      ∧ m' ((c.tc : Thread Cert.MixZDxRefIdeal.nD Cert.MixZDxRefIdeal.τ).loc Cert.MixZDxRefIdeal.main_arg1) = m ((c.tc : Thread Cert.MixZDxIdeal.nD Cert.MixZDxIdeal.τ).loc Cert.MixZDxIdeal.main_arg1)
      ∧ m' ((c.tc : Thread Cert.MixZDxRefIdeal.nD Cert.MixZDxRefIdeal.τ).loc Cert.MixZDxRefIdeal.main_arg2) = m ((c.tc : Thread Cert.MixZDxIdeal.nD Cert.MixZDxIdeal.τ).loc Cert.MixZDxIdeal.main_arg2)) →
    ∃ (v0 : (c : Dev Cert.MixZDxIdeal.nD) → Buf (Elt Ideal) ((c.tc : Thread Cert.MixZDxIdeal.nD Cert.MixZDxIdeal.τ).loc Cert.MixZDxIdeal.main_v0)),
      θ_run (Cert.MixZDxIdeal.defs (F := Ideal)) (onTc (τ := Cert.MixZDxIdeal.τ) (Cert.MixZDxIdeal.main (F := Ideal))) ⟨m, fun _ => 0, g⟩ (fun r => ∀ c : Dev Cert.MixZDxIdeal.nD,
          r.2.mem ((c.tc : Thread Cert.MixZDxIdeal.nD Cert.MixZDxIdeal.τ).loc Cert.MixZDxIdeal.main_v0) = v0 c
          ∧ r.2.mem ((c.tc : Thread Cert.MixZDxIdeal.nD Cert.MixZDxIdeal.τ).loc Cert.MixZDxIdeal.main_arg0) = m ((c.tc : Thread Cert.MixZDxIdeal.nD Cert.MixZDxIdeal.τ).loc Cert.MixZDxIdeal.main_arg0)
          ∧ r.2.mem ((c.tc : Thread Cert.MixZDxIdeal.nD Cert.MixZDxIdeal.τ).loc Cert.MixZDxIdeal.main_arg1) = m ((c.tc : Thread Cert.MixZDxIdeal.nD Cert.MixZDxIdeal.τ).loc Cert.MixZDxIdeal.main_arg1)
          ∧ r.2.mem ((c.tc : Thread Cert.MixZDxIdeal.nD Cert.MixZDxIdeal.τ).loc Cert.MixZDxIdeal.main_arg2) = m ((c.tc : Thread Cert.MixZDxIdeal.nD Cert.MixZDxIdeal.τ).loc Cert.MixZDxIdeal.main_arg2))
      ∧ θ_run (Cert.MixZDxRefIdeal.defs (F := Ideal)) (onTc (τ := Cert.MixZDxRefIdeal.τ) (Cert.MixZDxRefIdeal.main (F := Ideal))) ⟨m', fun _ => 0, g'⟩ (fun r => ∀ c : Dev Cert.MixZDxRefIdeal.nD,
          r.2.mem ((c.tc : Thread Cert.MixZDxRefIdeal.nD Cert.MixZDxRefIdeal.τ).loc Cert.MixZDxRefIdeal.main_v4) = v0 c
          ∧ r.2.mem ((c.tc : Thread Cert.MixZDxRefIdeal.nD Cert.MixZDxRefIdeal.τ).loc Cert.MixZDxRefIdeal.main_arg0) = m' ((c.tc : Thread Cert.MixZDxRefIdeal.nD Cert.MixZDxRefIdeal.τ).loc Cert.MixZDxRefIdeal.main_arg0)
          ∧ r.2.mem ((c.tc : Thread Cert.MixZDxRefIdeal.nD Cert.MixZDxRefIdeal.τ).loc Cert.MixZDxRefIdeal.main_arg1) = m' ((c.tc : Thread Cert.MixZDxRefIdeal.nD Cert.MixZDxRefIdeal.τ).loc Cert.MixZDxRefIdeal.main_arg1)
          ∧ r.2.mem ((c.tc : Thread Cert.MixZDxRefIdeal.nD Cert.MixZDxRefIdeal.τ).loc Cert.MixZDxRefIdeal.main_arg2) = m' ((c.tc : Thread Cert.MixZDxRefIdeal.nD Cert.MixZDxRefIdeal.τ).loc Cert.MixZDxRefIdeal.main_arg2))

def preserves_MixBaDx_MixBaDxIdeal : Prop :=
  True

def algebraic_MixBaDxIdeal_MixBaDxRefIdeal [hMixBaDxIdeal : Cert.MixBaDxIdeal.Facts] [hMixBaDxRefIdeal : Cert.MixBaDxRefIdeal.Facts] : Prop :=
  ∀ (m : (ℓ : Loc Cert.MixBaDxIdeal.nD Cert.MixBaDxIdeal.τ Cert.MixBaDxIdeal.sig) → Buf (Elt Ideal) ℓ) (g : Dev Cert.MixBaDxIdeal.nD → PrngReg)
    (m' : (ℓ : Loc Cert.MixBaDxRefIdeal.nD Cert.MixBaDxRefIdeal.τ Cert.MixBaDxRefIdeal.sig) → Buf (Elt Ideal) ℓ) (g' : Dev Cert.MixBaDxRefIdeal.nD → PrngReg), Pre_MixBaDxIdeal m →
    (∀ c : Dev Cert.MixBaDxIdeal.nD,
      m' ((c.tc : Thread Cert.MixBaDxRefIdeal.nD Cert.MixBaDxRefIdeal.τ).loc Cert.MixBaDxRefIdeal.main_arg0) = m ((c.tc : Thread Cert.MixBaDxIdeal.nD Cert.MixBaDxIdeal.τ).loc Cert.MixBaDxIdeal.main_arg0)
      ∧ m' ((c.tc : Thread Cert.MixBaDxRefIdeal.nD Cert.MixBaDxRefIdeal.τ).loc Cert.MixBaDxRefIdeal.main_arg1) = m ((c.tc : Thread Cert.MixBaDxIdeal.nD Cert.MixBaDxIdeal.τ).loc Cert.MixBaDxIdeal.main_arg1)
      ∧ m' ((c.tc : Thread Cert.MixBaDxRefIdeal.nD Cert.MixBaDxRefIdeal.τ).loc Cert.MixBaDxRefIdeal.main_arg2) = m ((c.tc : Thread Cert.MixBaDxIdeal.nD Cert.MixBaDxIdeal.τ).loc Cert.MixBaDxIdeal.main_arg2)) →
    ∃ (v0 : (c : Dev Cert.MixBaDxIdeal.nD) → Buf (Elt Ideal) ((c.tc : Thread Cert.MixBaDxIdeal.nD Cert.MixBaDxIdeal.τ).loc Cert.MixBaDxIdeal.main_v0)),
      θ_run (Cert.MixBaDxIdeal.defs (F := Ideal)) (onTc (τ := Cert.MixBaDxIdeal.τ) (Cert.MixBaDxIdeal.main (F := Ideal))) ⟨m, fun _ => 0, g⟩ (fun r => ∀ c : Dev Cert.MixBaDxIdeal.nD,
          r.2.mem ((c.tc : Thread Cert.MixBaDxIdeal.nD Cert.MixBaDxIdeal.τ).loc Cert.MixBaDxIdeal.main_v0) = v0 c
          ∧ r.2.mem ((c.tc : Thread Cert.MixBaDxIdeal.nD Cert.MixBaDxIdeal.τ).loc Cert.MixBaDxIdeal.main_arg0) = m ((c.tc : Thread Cert.MixBaDxIdeal.nD Cert.MixBaDxIdeal.τ).loc Cert.MixBaDxIdeal.main_arg0)
          ∧ r.2.mem ((c.tc : Thread Cert.MixBaDxIdeal.nD Cert.MixBaDxIdeal.τ).loc Cert.MixBaDxIdeal.main_arg1) = m ((c.tc : Thread Cert.MixBaDxIdeal.nD Cert.MixBaDxIdeal.τ).loc Cert.MixBaDxIdeal.main_arg1)
          ∧ r.2.mem ((c.tc : Thread Cert.MixBaDxIdeal.nD Cert.MixBaDxIdeal.τ).loc Cert.MixBaDxIdeal.main_arg2) = m ((c.tc : Thread Cert.MixBaDxIdeal.nD Cert.MixBaDxIdeal.τ).loc Cert.MixBaDxIdeal.main_arg2))
      ∧ θ_run (Cert.MixBaDxRefIdeal.defs (F := Ideal)) (onTc (τ := Cert.MixBaDxRefIdeal.τ) (Cert.MixBaDxRefIdeal.main (F := Ideal))) ⟨m', fun _ => 0, g'⟩ (fun r => ∀ c : Dev Cert.MixBaDxRefIdeal.nD,
          r.2.mem ((c.tc : Thread Cert.MixBaDxRefIdeal.nD Cert.MixBaDxRefIdeal.τ).loc Cert.MixBaDxRefIdeal.main_v4) = v0 c
          ∧ r.2.mem ((c.tc : Thread Cert.MixBaDxRefIdeal.nD Cert.MixBaDxRefIdeal.τ).loc Cert.MixBaDxRefIdeal.main_arg0) = m' ((c.tc : Thread Cert.MixBaDxRefIdeal.nD Cert.MixBaDxRefIdeal.τ).loc Cert.MixBaDxRefIdeal.main_arg0)
          ∧ r.2.mem ((c.tc : Thread Cert.MixBaDxRefIdeal.nD Cert.MixBaDxRefIdeal.τ).loc Cert.MixBaDxRefIdeal.main_arg1) = m' ((c.tc : Thread Cert.MixBaDxRefIdeal.nD Cert.MixBaDxRefIdeal.τ).loc Cert.MixBaDxRefIdeal.main_arg1)
          ∧ r.2.mem ((c.tc : Thread Cert.MixBaDxRefIdeal.nD Cert.MixBaDxRefIdeal.τ).loc Cert.MixBaDxRefIdeal.main_arg2) = m' ((c.tc : Thread Cert.MixBaDxRefIdeal.nD Cert.MixBaDxRefIdeal.τ).loc Cert.MixBaDxRefIdeal.main_arg2))

def preserves_MixDaDx_MixDaDxIdeal : Prop :=
  True

def algebraic_MixDaDxIdeal_MixDaDxRefIdeal [hMixDaDxIdeal : Cert.MixDaDxIdeal.Facts] [hMixDaDxRefIdeal : Cert.MixDaDxRefIdeal.Facts] : Prop :=
  ∀ (m : (ℓ : Loc Cert.MixDaDxIdeal.nD Cert.MixDaDxIdeal.τ Cert.MixDaDxIdeal.sig) → Buf (Elt Ideal) ℓ) (g : Dev Cert.MixDaDxIdeal.nD → PrngReg)
    (m' : (ℓ : Loc Cert.MixDaDxRefIdeal.nD Cert.MixDaDxRefIdeal.τ Cert.MixDaDxRefIdeal.sig) → Buf (Elt Ideal) ℓ) (g' : Dev Cert.MixDaDxRefIdeal.nD → PrngReg), Pre_MixDaDxIdeal m →
    (∀ c : Dev Cert.MixDaDxIdeal.nD,
      m' ((c.tc : Thread Cert.MixDaDxRefIdeal.nD Cert.MixDaDxRefIdeal.τ).loc Cert.MixDaDxRefIdeal.main_arg0) = m ((c.tc : Thread Cert.MixDaDxIdeal.nD Cert.MixDaDxIdeal.τ).loc Cert.MixDaDxIdeal.main_arg0)
      ∧ m' ((c.tc : Thread Cert.MixDaDxRefIdeal.nD Cert.MixDaDxRefIdeal.τ).loc Cert.MixDaDxRefIdeal.main_arg1) = m ((c.tc : Thread Cert.MixDaDxIdeal.nD Cert.MixDaDxIdeal.τ).loc Cert.MixDaDxIdeal.main_arg1)
      ∧ m' ((c.tc : Thread Cert.MixDaDxRefIdeal.nD Cert.MixDaDxRefIdeal.τ).loc Cert.MixDaDxRefIdeal.main_arg2) = m ((c.tc : Thread Cert.MixDaDxIdeal.nD Cert.MixDaDxIdeal.τ).loc Cert.MixDaDxIdeal.main_arg2)) →
    ∃ (v0 : (c : Dev Cert.MixDaDxIdeal.nD) → Buf (Elt Ideal) ((c.tc : Thread Cert.MixDaDxIdeal.nD Cert.MixDaDxIdeal.τ).loc Cert.MixDaDxIdeal.main_v0)),
      θ_run (Cert.MixDaDxIdeal.defs (F := Ideal)) (onTc (τ := Cert.MixDaDxIdeal.τ) (Cert.MixDaDxIdeal.main (F := Ideal))) ⟨m, fun _ => 0, g⟩ (fun r => ∀ c : Dev Cert.MixDaDxIdeal.nD,
          r.2.mem ((c.tc : Thread Cert.MixDaDxIdeal.nD Cert.MixDaDxIdeal.τ).loc Cert.MixDaDxIdeal.main_v0) = v0 c
          ∧ r.2.mem ((c.tc : Thread Cert.MixDaDxIdeal.nD Cert.MixDaDxIdeal.τ).loc Cert.MixDaDxIdeal.main_arg0) = m ((c.tc : Thread Cert.MixDaDxIdeal.nD Cert.MixDaDxIdeal.τ).loc Cert.MixDaDxIdeal.main_arg0)
          ∧ r.2.mem ((c.tc : Thread Cert.MixDaDxIdeal.nD Cert.MixDaDxIdeal.τ).loc Cert.MixDaDxIdeal.main_arg1) = m ((c.tc : Thread Cert.MixDaDxIdeal.nD Cert.MixDaDxIdeal.τ).loc Cert.MixDaDxIdeal.main_arg1)
          ∧ r.2.mem ((c.tc : Thread Cert.MixDaDxIdeal.nD Cert.MixDaDxIdeal.τ).loc Cert.MixDaDxIdeal.main_arg2) = m ((c.tc : Thread Cert.MixDaDxIdeal.nD Cert.MixDaDxIdeal.τ).loc Cert.MixDaDxIdeal.main_arg2))
      ∧ θ_run (Cert.MixDaDxRefIdeal.defs (F := Ideal)) (onTc (τ := Cert.MixDaDxRefIdeal.τ) (Cert.MixDaDxRefIdeal.main (F := Ideal))) ⟨m', fun _ => 0, g'⟩ (fun r => ∀ c : Dev Cert.MixDaDxRefIdeal.nD,
          r.2.mem ((c.tc : Thread Cert.MixDaDxRefIdeal.nD Cert.MixDaDxRefIdeal.τ).loc Cert.MixDaDxRefIdeal.main_v4) = v0 c
          ∧ r.2.mem ((c.tc : Thread Cert.MixDaDxRefIdeal.nD Cert.MixDaDxRefIdeal.τ).loc Cert.MixDaDxRefIdeal.main_arg0) = m' ((c.tc : Thread Cert.MixDaDxRefIdeal.nD Cert.MixDaDxRefIdeal.τ).loc Cert.MixDaDxRefIdeal.main_arg0)
          ∧ r.2.mem ((c.tc : Thread Cert.MixDaDxRefIdeal.nD Cert.MixDaDxRefIdeal.τ).loc Cert.MixDaDxRefIdeal.main_arg1) = m' ((c.tc : Thread Cert.MixDaDxRefIdeal.nD Cert.MixDaDxRefIdeal.τ).loc Cert.MixDaDxRefIdeal.main_arg1)
          ∧ r.2.mem ((c.tc : Thread Cert.MixDaDxRefIdeal.nD Cert.MixDaDxRefIdeal.τ).loc Cert.MixDaDxRefIdeal.main_arg2) = m' ((c.tc : Thread Cert.MixDaDxRefIdeal.nD Cert.MixDaDxRefIdeal.τ).loc Cert.MixDaDxRefIdeal.main_arg2))

def preserves_MixPgDx_MixPgDxIdeal : Prop :=
  True

def algebraic_MixPgDxIdeal_MixPgDxRefIdeal [hMixPgDxIdeal : Cert.MixPgDxIdeal.Facts] [hMixPgDxRefIdeal : Cert.MixPgDxRefIdeal.Facts] : Prop :=
  ∀ (m : (ℓ : Loc Cert.MixPgDxIdeal.nD Cert.MixPgDxIdeal.τ Cert.MixPgDxIdeal.sig) → Buf (Elt Ideal) ℓ) (g : Dev Cert.MixPgDxIdeal.nD → PrngReg)
    (m' : (ℓ : Loc Cert.MixPgDxRefIdeal.nD Cert.MixPgDxRefIdeal.τ Cert.MixPgDxRefIdeal.sig) → Buf (Elt Ideal) ℓ) (g' : Dev Cert.MixPgDxRefIdeal.nD → PrngReg), Pre_MixPgDxIdeal m →
    (∀ c : Dev Cert.MixPgDxIdeal.nD,
      m' ((c.tc : Thread Cert.MixPgDxRefIdeal.nD Cert.MixPgDxRefIdeal.τ).loc Cert.MixPgDxRefIdeal.main_arg0) = m ((c.tc : Thread Cert.MixPgDxIdeal.nD Cert.MixPgDxIdeal.τ).loc Cert.MixPgDxIdeal.main_arg0)
      ∧ m' ((c.tc : Thread Cert.MixPgDxRefIdeal.nD Cert.MixPgDxRefIdeal.τ).loc Cert.MixPgDxRefIdeal.main_arg1) = m ((c.tc : Thread Cert.MixPgDxIdeal.nD Cert.MixPgDxIdeal.τ).loc Cert.MixPgDxIdeal.main_arg1)
      ∧ m' ((c.tc : Thread Cert.MixPgDxRefIdeal.nD Cert.MixPgDxRefIdeal.τ).loc Cert.MixPgDxRefIdeal.main_arg2) = m ((c.tc : Thread Cert.MixPgDxIdeal.nD Cert.MixPgDxIdeal.τ).loc Cert.MixPgDxIdeal.main_arg2)) →
    ∃ (v0 : (c : Dev Cert.MixPgDxIdeal.nD) → Buf (Elt Ideal) ((c.tc : Thread Cert.MixPgDxIdeal.nD Cert.MixPgDxIdeal.τ).loc Cert.MixPgDxIdeal.main_v0)),
      θ_run (Cert.MixPgDxIdeal.defs (F := Ideal)) (onTc (τ := Cert.MixPgDxIdeal.τ) (Cert.MixPgDxIdeal.main (F := Ideal))) ⟨m, fun _ => 0, g⟩ (fun r => ∀ c : Dev Cert.MixPgDxIdeal.nD,
          r.2.mem ((c.tc : Thread Cert.MixPgDxIdeal.nD Cert.MixPgDxIdeal.τ).loc Cert.MixPgDxIdeal.main_v0) = v0 c
          ∧ r.2.mem ((c.tc : Thread Cert.MixPgDxIdeal.nD Cert.MixPgDxIdeal.τ).loc Cert.MixPgDxIdeal.main_arg0) = m ((c.tc : Thread Cert.MixPgDxIdeal.nD Cert.MixPgDxIdeal.τ).loc Cert.MixPgDxIdeal.main_arg0)
          ∧ r.2.mem ((c.tc : Thread Cert.MixPgDxIdeal.nD Cert.MixPgDxIdeal.τ).loc Cert.MixPgDxIdeal.main_arg1) = m ((c.tc : Thread Cert.MixPgDxIdeal.nD Cert.MixPgDxIdeal.τ).loc Cert.MixPgDxIdeal.main_arg1)
          ∧ r.2.mem ((c.tc : Thread Cert.MixPgDxIdeal.nD Cert.MixPgDxIdeal.τ).loc Cert.MixPgDxIdeal.main_arg2) = m ((c.tc : Thread Cert.MixPgDxIdeal.nD Cert.MixPgDxIdeal.τ).loc Cert.MixPgDxIdeal.main_arg2))
      ∧ θ_run (Cert.MixPgDxRefIdeal.defs (F := Ideal)) (onTc (τ := Cert.MixPgDxRefIdeal.τ) (Cert.MixPgDxRefIdeal.main (F := Ideal))) ⟨m', fun _ => 0, g'⟩ (fun r => ∀ c : Dev Cert.MixPgDxRefIdeal.nD,
          r.2.mem ((c.tc : Thread Cert.MixPgDxRefIdeal.nD Cert.MixPgDxRefIdeal.τ).loc Cert.MixPgDxRefIdeal.main_v4) = v0 c
          ∧ r.2.mem ((c.tc : Thread Cert.MixPgDxRefIdeal.nD Cert.MixPgDxRefIdeal.τ).loc Cert.MixPgDxRefIdeal.main_arg0) = m' ((c.tc : Thread Cert.MixPgDxRefIdeal.nD Cert.MixPgDxRefIdeal.τ).loc Cert.MixPgDxRefIdeal.main_arg0)
          ∧ r.2.mem ((c.tc : Thread Cert.MixPgDxRefIdeal.nD Cert.MixPgDxRefIdeal.τ).loc Cert.MixPgDxRefIdeal.main_arg1) = m' ((c.tc : Thread Cert.MixPgDxRefIdeal.nD Cert.MixPgDxRefIdeal.τ).loc Cert.MixPgDxRefIdeal.main_arg1)
          ∧ r.2.mem ((c.tc : Thread Cert.MixPgDxRefIdeal.nD Cert.MixPgDxRefIdeal.τ).loc Cert.MixPgDxRefIdeal.main_arg2) = m' ((c.tc : Thread Cert.MixPgDxRefIdeal.nD Cert.MixPgDxRefIdeal.τ).loc Cert.MixPgDxRefIdeal.main_arg2))

def preserves_FfnGuDx_FfnGuDxIdeal : Prop :=
  True

def algebraic_FfnGuDxIdeal_FfnGuDxRefIdeal [hFfnGuDxIdeal : Cert.FfnGuDxIdeal.Facts] [hFfnGuDxRefIdeal : Cert.FfnGuDxRefIdeal.Facts] : Prop :=
  ∀ (m : (ℓ : Loc Cert.FfnGuDxIdeal.nD Cert.FfnGuDxIdeal.τ Cert.FfnGuDxIdeal.sig) → Buf (Elt Ideal) ℓ) (g : Dev Cert.FfnGuDxIdeal.nD → PrngReg)
    (m' : (ℓ : Loc Cert.FfnGuDxRefIdeal.nD Cert.FfnGuDxRefIdeal.τ Cert.FfnGuDxRefIdeal.sig) → Buf (Elt Ideal) ℓ) (g' : Dev Cert.FfnGuDxRefIdeal.nD → PrngReg), Pre_FfnGuDxIdeal m →
    (∀ c : Dev Cert.FfnGuDxIdeal.nD,
      m' ((c.tc : Thread Cert.FfnGuDxRefIdeal.nD Cert.FfnGuDxRefIdeal.τ).loc Cert.FfnGuDxRefIdeal.main_arg0) = m ((c.tc : Thread Cert.FfnGuDxIdeal.nD Cert.FfnGuDxIdeal.τ).loc Cert.FfnGuDxIdeal.main_arg0)
      ∧ m' ((c.tc : Thread Cert.FfnGuDxRefIdeal.nD Cert.FfnGuDxRefIdeal.τ).loc Cert.FfnGuDxRefIdeal.main_arg1) = m ((c.tc : Thread Cert.FfnGuDxIdeal.nD Cert.FfnGuDxIdeal.τ).loc Cert.FfnGuDxIdeal.main_arg1)) →
    ∃ (v0 : (c : Dev Cert.FfnGuDxIdeal.nD) → Buf (Elt Ideal) ((c.tc : Thread Cert.FfnGuDxIdeal.nD Cert.FfnGuDxIdeal.τ).loc Cert.FfnGuDxIdeal.main_v0)),
      θ_run (Cert.FfnGuDxIdeal.defs (F := Ideal)) (onTc (τ := Cert.FfnGuDxIdeal.τ) (Cert.FfnGuDxIdeal.main (F := Ideal))) ⟨m, fun _ => 0, g⟩ (fun r => ∀ c : Dev Cert.FfnGuDxIdeal.nD,
          r.2.mem ((c.tc : Thread Cert.FfnGuDxIdeal.nD Cert.FfnGuDxIdeal.τ).loc Cert.FfnGuDxIdeal.main_v0) = v0 c
          ∧ r.2.mem ((c.tc : Thread Cert.FfnGuDxIdeal.nD Cert.FfnGuDxIdeal.τ).loc Cert.FfnGuDxIdeal.main_arg0) = m ((c.tc : Thread Cert.FfnGuDxIdeal.nD Cert.FfnGuDxIdeal.τ).loc Cert.FfnGuDxIdeal.main_arg0)
          ∧ r.2.mem ((c.tc : Thread Cert.FfnGuDxIdeal.nD Cert.FfnGuDxIdeal.τ).loc Cert.FfnGuDxIdeal.main_arg1) = m ((c.tc : Thread Cert.FfnGuDxIdeal.nD Cert.FfnGuDxIdeal.τ).loc Cert.FfnGuDxIdeal.main_arg1))
      ∧ θ_run (Cert.FfnGuDxRefIdeal.defs (F := Ideal)) (onTc (τ := Cert.FfnGuDxRefIdeal.τ) (Cert.FfnGuDxRefIdeal.main (F := Ideal))) ⟨m', fun _ => 0, g'⟩ (fun r => ∀ c : Dev Cert.FfnGuDxRefIdeal.nD,
          r.2.mem ((c.tc : Thread Cert.FfnGuDxRefIdeal.nD Cert.FfnGuDxRefIdeal.τ).loc Cert.FfnGuDxRefIdeal.main_v3) = v0 c
          ∧ r.2.mem ((c.tc : Thread Cert.FfnGuDxRefIdeal.nD Cert.FfnGuDxRefIdeal.τ).loc Cert.FfnGuDxRefIdeal.main_arg0) = m' ((c.tc : Thread Cert.FfnGuDxRefIdeal.nD Cert.FfnGuDxRefIdeal.τ).loc Cert.FfnGuDxRefIdeal.main_arg0)
          ∧ r.2.mem ((c.tc : Thread Cert.FfnGuDxRefIdeal.nD Cert.FfnGuDxRefIdeal.τ).loc Cert.FfnGuDxRefIdeal.main_arg1) = m' ((c.tc : Thread Cert.FfnGuDxRefIdeal.nD Cert.FfnGuDxRefIdeal.τ).loc Cert.FfnGuDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v3) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnGuDw_FfnGuDwIdeal : Prop :=
  True

def algebraic_FfnGuDwIdeal_FfnGuDwRefIdeal [hFfnGuDwIdeal : Cert.FfnGuDwIdeal.Facts] [hFfnGuDwRefIdeal : Cert.FfnGuDwRefIdeal.Facts] : Prop :=
  ∀ (m : (ℓ : Loc Cert.FfnGuDwIdeal.nD Cert.FfnGuDwIdeal.τ Cert.FfnGuDwIdeal.sig) → Buf (Elt Ideal) ℓ) (g : Dev Cert.FfnGuDwIdeal.nD → PrngReg)
    (m' : (ℓ : Loc Cert.FfnGuDwRefIdeal.nD Cert.FfnGuDwRefIdeal.τ Cert.FfnGuDwRefIdeal.sig) → Buf (Elt Ideal) ℓ) (g' : Dev Cert.FfnGuDwRefIdeal.nD → PrngReg), Pre_FfnGuDwIdeal m →
    (∀ c : Dev Cert.FfnGuDwIdeal.nD,
      m' ((c.tc : Thread Cert.FfnGuDwRefIdeal.nD Cert.FfnGuDwRefIdeal.τ).loc Cert.FfnGuDwRefIdeal.main_arg0) = m ((c.tc : Thread Cert.FfnGuDwIdeal.nD Cert.FfnGuDwIdeal.τ).loc Cert.FfnGuDwIdeal.main_arg0)
      ∧ m' ((c.tc : Thread Cert.FfnGuDwRefIdeal.nD Cert.FfnGuDwRefIdeal.τ).loc Cert.FfnGuDwRefIdeal.main_arg1) = m ((c.tc : Thread Cert.FfnGuDwIdeal.nD Cert.FfnGuDwIdeal.τ).loc Cert.FfnGuDwIdeal.main_arg1)) →
    ∃ (v0 : (c : Dev Cert.FfnGuDwIdeal.nD) → Buf (Elt Ideal) ((c.tc : Thread Cert.FfnGuDwIdeal.nD Cert.FfnGuDwIdeal.τ).loc Cert.FfnGuDwIdeal.main_v0)),
      θ_run (Cert.FfnGuDwIdeal.defs (F := Ideal)) (onTc (τ := Cert.FfnGuDwIdeal.τ) (Cert.FfnGuDwIdeal.main (F := Ideal))) ⟨m, fun _ => 0, g⟩ (fun r => ∀ c : Dev Cert.FfnGuDwIdeal.nD,
          r.2.mem ((c.tc : Thread Cert.FfnGuDwIdeal.nD Cert.FfnGuDwIdeal.τ).loc Cert.FfnGuDwIdeal.main_v0) = v0 c
          ∧ r.2.mem ((c.tc : Thread Cert.FfnGuDwIdeal.nD Cert.FfnGuDwIdeal.τ).loc Cert.FfnGuDwIdeal.main_arg0) = m ((c.tc : Thread Cert.FfnGuDwIdeal.nD Cert.FfnGuDwIdeal.τ).loc Cert.FfnGuDwIdeal.main_arg0)
          ∧ r.2.mem ((c.tc : Thread Cert.FfnGuDwIdeal.nD Cert.FfnGuDwIdeal.τ).loc Cert.FfnGuDwIdeal.main_arg1) = m ((c.tc : Thread Cert.FfnGuDwIdeal.nD Cert.FfnGuDwIdeal.τ).loc Cert.FfnGuDwIdeal.main_arg1))
      ∧ θ_run (Cert.FfnGuDwRefIdeal.defs (F := Ideal)) (onTc (τ := Cert.FfnGuDwRefIdeal.τ) (Cert.FfnGuDwRefIdeal.main (F := Ideal))) ⟨m', fun _ => 0, g'⟩ (fun r => ∀ c : Dev Cert.FfnGuDwRefIdeal.nD,
          r.2.mem ((c.tc : Thread Cert.FfnGuDwRefIdeal.nD Cert.FfnGuDwRefIdeal.τ).loc Cert.FfnGuDwRefIdeal.main_v3) = v0 c
          ∧ r.2.mem ((c.tc : Thread Cert.FfnGuDwRefIdeal.nD Cert.FfnGuDwRefIdeal.τ).loc Cert.FfnGuDwRefIdeal.main_arg0) = m' ((c.tc : Thread Cert.FfnGuDwRefIdeal.nD Cert.FfnGuDwRefIdeal.τ).loc Cert.FfnGuDwRefIdeal.main_arg0)
          ∧ r.2.mem ((c.tc : Thread Cert.FfnGuDwRefIdeal.nD Cert.FfnGuDwRefIdeal.τ).loc Cert.FfnGuDwRefIdeal.main_arg1) = m' ((c.tc : Thread Cert.FfnGuDwRefIdeal.nD Cert.FfnGuDwRefIdeal.τ).loc Cert.FfnGuDwRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v3) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixWbDw_MixWbDwIdeal : Prop :=
  True

def algebraic_MixWbDwIdeal_MixWbDwRefIdeal [hMixWbDwIdeal : Cert.MixWbDwIdeal.Facts] [hMixWbDwRefIdeal : Cert.MixWbDwRefIdeal.Facts] : Prop :=
  ∀ (m : (ℓ : Loc Cert.MixWbDwIdeal.nD Cert.MixWbDwIdeal.τ Cert.MixWbDwIdeal.sig) → Buf (Elt Ideal) ℓ) (g : Dev Cert.MixWbDwIdeal.nD → PrngReg)
    (m' : (ℓ : Loc Cert.MixWbDwRefIdeal.nD Cert.MixWbDwRefIdeal.τ Cert.MixWbDwRefIdeal.sig) → Buf (Elt Ideal) ℓ) (g' : Dev Cert.MixWbDwRefIdeal.nD → PrngReg), Pre_MixWbDwIdeal m →
    (∀ c : Dev Cert.MixWbDwIdeal.nD,
      m' ((c.tc : Thread Cert.MixWbDwRefIdeal.nD Cert.MixWbDwRefIdeal.τ).loc Cert.MixWbDwRefIdeal.main_arg0) = m ((c.tc : Thread Cert.MixWbDwIdeal.nD Cert.MixWbDwIdeal.τ).loc Cert.MixWbDwIdeal.main_arg0)
      ∧ m' ((c.tc : Thread Cert.MixWbDwRefIdeal.nD Cert.MixWbDwRefIdeal.τ).loc Cert.MixWbDwRefIdeal.main_arg1) = m ((c.tc : Thread Cert.MixWbDwIdeal.nD Cert.MixWbDwIdeal.τ).loc Cert.MixWbDwIdeal.main_arg1)) →
    ∃ (v0 : (c : Dev Cert.MixWbDwIdeal.nD) → Buf (Elt Ideal) ((c.tc : Thread Cert.MixWbDwIdeal.nD Cert.MixWbDwIdeal.τ).loc Cert.MixWbDwIdeal.main_v0)),
      θ_run (Cert.MixWbDwIdeal.defs (F := Ideal)) (onTc (τ := Cert.MixWbDwIdeal.τ) (Cert.MixWbDwIdeal.main (F := Ideal))) ⟨m, fun _ => 0, g⟩ (fun r => ∀ c : Dev Cert.MixWbDwIdeal.nD,
          r.2.mem ((c.tc : Thread Cert.MixWbDwIdeal.nD Cert.MixWbDwIdeal.τ).loc Cert.MixWbDwIdeal.main_v0) = v0 c
          ∧ r.2.mem ((c.tc : Thread Cert.MixWbDwIdeal.nD Cert.MixWbDwIdeal.τ).loc Cert.MixWbDwIdeal.main_arg0) = m ((c.tc : Thread Cert.MixWbDwIdeal.nD Cert.MixWbDwIdeal.τ).loc Cert.MixWbDwIdeal.main_arg0)
          ∧ r.2.mem ((c.tc : Thread Cert.MixWbDwIdeal.nD Cert.MixWbDwIdeal.τ).loc Cert.MixWbDwIdeal.main_arg1) = m ((c.tc : Thread Cert.MixWbDwIdeal.nD Cert.MixWbDwIdeal.τ).loc Cert.MixWbDwIdeal.main_arg1))
      ∧ θ_run (Cert.MixWbDwRefIdeal.defs (F := Ideal)) (onTc (τ := Cert.MixWbDwRefIdeal.τ) (Cert.MixWbDwRefIdeal.main (F := Ideal))) ⟨m', fun _ => 0, g'⟩ (fun r => ∀ c : Dev Cert.MixWbDwRefIdeal.nD,
          r.2.mem ((c.tc : Thread Cert.MixWbDwRefIdeal.nD Cert.MixWbDwRefIdeal.τ).loc Cert.MixWbDwRefIdeal.main_v3) = v0 c
          ∧ r.2.mem ((c.tc : Thread Cert.MixWbDwRefIdeal.nD Cert.MixWbDwRefIdeal.τ).loc Cert.MixWbDwRefIdeal.main_arg0) = m' ((c.tc : Thread Cert.MixWbDwRefIdeal.nD Cert.MixWbDwRefIdeal.τ).loc Cert.MixWbDwRefIdeal.main_arg0)
          ∧ r.2.mem ((c.tc : Thread Cert.MixWbDwRefIdeal.nD Cert.MixWbDwRefIdeal.τ).loc Cert.MixWbDwRefIdeal.main_arg1) = m' ((c.tc : Thread Cert.MixWbDwRefIdeal.nD Cert.MixWbDwRefIdeal.τ).loc Cert.MixWbDwRefIdeal.main_arg1))

def preserves_MixQkvDw_MixQkvDwIdeal : Prop :=
  True

def algebraic_MixQkvDwIdeal_MixQkvDwRefIdeal [hMixQkvDwIdeal : Cert.MixQkvDwIdeal.Facts] [hMixQkvDwRefIdeal : Cert.MixQkvDwRefIdeal.Facts] : Prop :=
  ∀ (m : (ℓ : Loc Cert.MixQkvDwIdeal.nD Cert.MixQkvDwIdeal.τ Cert.MixQkvDwIdeal.sig) → Buf (Elt Ideal) ℓ) (g : Dev Cert.MixQkvDwIdeal.nD → PrngReg)
    (m' : (ℓ : Loc Cert.MixQkvDwRefIdeal.nD Cert.MixQkvDwRefIdeal.τ Cert.MixQkvDwRefIdeal.sig) → Buf (Elt Ideal) ℓ) (g' : Dev Cert.MixQkvDwRefIdeal.nD → PrngReg), Pre_MixQkvDwIdeal m →
    (∀ c : Dev Cert.MixQkvDwIdeal.nD,
      m' ((c.tc : Thread Cert.MixQkvDwRefIdeal.nD Cert.MixQkvDwRefIdeal.τ).loc Cert.MixQkvDwRefIdeal.main_arg0) = m ((c.tc : Thread Cert.MixQkvDwIdeal.nD Cert.MixQkvDwIdeal.τ).loc Cert.MixQkvDwIdeal.main_arg0)
      ∧ m' ((c.tc : Thread Cert.MixQkvDwRefIdeal.nD Cert.MixQkvDwRefIdeal.τ).loc Cert.MixQkvDwRefIdeal.main_arg1) = m ((c.tc : Thread Cert.MixQkvDwIdeal.nD Cert.MixQkvDwIdeal.τ).loc Cert.MixQkvDwIdeal.main_arg1)) →
    ∃ (v0 : (c : Dev Cert.MixQkvDwIdeal.nD) → Buf (Elt Ideal) ((c.tc : Thread Cert.MixQkvDwIdeal.nD Cert.MixQkvDwIdeal.τ).loc Cert.MixQkvDwIdeal.main_v0)),
      θ_run (Cert.MixQkvDwIdeal.defs (F := Ideal)) (onTc (τ := Cert.MixQkvDwIdeal.τ) (Cert.MixQkvDwIdeal.main (F := Ideal))) ⟨m, fun _ => 0, g⟩ (fun r => ∀ c : Dev Cert.MixQkvDwIdeal.nD,
          r.2.mem ((c.tc : Thread Cert.MixQkvDwIdeal.nD Cert.MixQkvDwIdeal.τ).loc Cert.MixQkvDwIdeal.main_v0) = v0 c
          ∧ r.2.mem ((c.tc : Thread Cert.MixQkvDwIdeal.nD Cert.MixQkvDwIdeal.τ).loc Cert.MixQkvDwIdeal.main_arg0) = m ((c.tc : Thread Cert.MixQkvDwIdeal.nD Cert.MixQkvDwIdeal.τ).loc Cert.MixQkvDwIdeal.main_arg0)
          ∧ r.2.mem ((c.tc : Thread Cert.MixQkvDwIdeal.nD Cert.MixQkvDwIdeal.τ).loc Cert.MixQkvDwIdeal.main_arg1) = m ((c.tc : Thread Cert.MixQkvDwIdeal.nD Cert.MixQkvDwIdeal.τ).loc Cert.MixQkvDwIdeal.main_arg1))
      ∧ θ_run (Cert.MixQkvDwRefIdeal.defs (F := Ideal)) (onTc (τ := Cert.MixQkvDwRefIdeal.τ) (Cert.MixQkvDwRefIdeal.main (F := Ideal))) ⟨m', fun _ => 0, g'⟩ (fun r => ∀ c : Dev Cert.MixQkvDwRefIdeal.nD,
          r.2.mem ((c.tc : Thread Cert.MixQkvDwRefIdeal.nD Cert.MixQkvDwRefIdeal.τ).loc Cert.MixQkvDwRefIdeal.main_v3) = v0 c
          ∧ r.2.mem ((c.tc : Thread Cert.MixQkvDwRefIdeal.nD Cert.MixQkvDwRefIdeal.τ).loc Cert.MixQkvDwRefIdeal.main_arg0) = m' ((c.tc : Thread Cert.MixQkvDwRefIdeal.nD Cert.MixQkvDwRefIdeal.τ).loc Cert.MixQkvDwRefIdeal.main_arg0)
          ∧ r.2.mem ((c.tc : Thread Cert.MixQkvDwRefIdeal.nD Cert.MixQkvDwRefIdeal.τ).loc Cert.MixQkvDwRefIdeal.main_arg1) = m' ((c.tc : Thread Cert.MixQkvDwRefIdeal.nD Cert.MixQkvDwRefIdeal.τ).loc Cert.MixQkvDwRefIdeal.main_arg1))

def preserves_MixBaDw_MixBaDwIdeal : Prop :=
  True

def algebraic_MixBaDwIdeal_MixBaDwRefIdeal [hMixBaDwIdeal : Cert.MixBaDwIdeal.Facts] [hMixBaDwRefIdeal : Cert.MixBaDwRefIdeal.Facts] : Prop :=
  ∀ (m : (ℓ : Loc Cert.MixBaDwIdeal.nD Cert.MixBaDwIdeal.τ Cert.MixBaDwIdeal.sig) → Buf (Elt Ideal) ℓ) (g : Dev Cert.MixBaDwIdeal.nD → PrngReg)
    (m' : (ℓ : Loc Cert.MixBaDwRefIdeal.nD Cert.MixBaDwRefIdeal.τ Cert.MixBaDwRefIdeal.sig) → Buf (Elt Ideal) ℓ) (g' : Dev Cert.MixBaDwRefIdeal.nD → PrngReg), Pre_MixBaDwIdeal m →
    (∀ c : Dev Cert.MixBaDwIdeal.nD,
      m' ((c.tc : Thread Cert.MixBaDwRefIdeal.nD Cert.MixBaDwRefIdeal.τ).loc Cert.MixBaDwRefIdeal.main_arg0) = m ((c.tc : Thread Cert.MixBaDwIdeal.nD Cert.MixBaDwIdeal.τ).loc Cert.MixBaDwIdeal.main_arg0)
      ∧ m' ((c.tc : Thread Cert.MixBaDwRefIdeal.nD Cert.MixBaDwRefIdeal.τ).loc Cert.MixBaDwRefIdeal.main_arg1) = m ((c.tc : Thread Cert.MixBaDwIdeal.nD Cert.MixBaDwIdeal.τ).loc Cert.MixBaDwIdeal.main_arg1)) →
    ∃ (v0 : (c : Dev Cert.MixBaDwIdeal.nD) → Buf (Elt Ideal) ((c.tc : Thread Cert.MixBaDwIdeal.nD Cert.MixBaDwIdeal.τ).loc Cert.MixBaDwIdeal.main_v0)),
      θ_run (Cert.MixBaDwIdeal.defs (F := Ideal)) (onTc (τ := Cert.MixBaDwIdeal.τ) (Cert.MixBaDwIdeal.main (F := Ideal))) ⟨m, fun _ => 0, g⟩ (fun r => ∀ c : Dev Cert.MixBaDwIdeal.nD,
          r.2.mem ((c.tc : Thread Cert.MixBaDwIdeal.nD Cert.MixBaDwIdeal.τ).loc Cert.MixBaDwIdeal.main_v0) = v0 c
          ∧ r.2.mem ((c.tc : Thread Cert.MixBaDwIdeal.nD Cert.MixBaDwIdeal.τ).loc Cert.MixBaDwIdeal.main_arg0) = m ((c.tc : Thread Cert.MixBaDwIdeal.nD Cert.MixBaDwIdeal.τ).loc Cert.MixBaDwIdeal.main_arg0)
          ∧ r.2.mem ((c.tc : Thread Cert.MixBaDwIdeal.nD Cert.MixBaDwIdeal.τ).loc Cert.MixBaDwIdeal.main_arg1) = m ((c.tc : Thread Cert.MixBaDwIdeal.nD Cert.MixBaDwIdeal.τ).loc Cert.MixBaDwIdeal.main_arg1))
      ∧ θ_run (Cert.MixBaDwRefIdeal.defs (F := Ideal)) (onTc (τ := Cert.MixBaDwRefIdeal.τ) (Cert.MixBaDwRefIdeal.main (F := Ideal))) ⟨m', fun _ => 0, g'⟩ (fun r => ∀ c : Dev Cert.MixBaDwRefIdeal.nD,
          r.2.mem ((c.tc : Thread Cert.MixBaDwRefIdeal.nD Cert.MixBaDwRefIdeal.τ).loc Cert.MixBaDwRefIdeal.main_v3) = v0 c
          ∧ r.2.mem ((c.tc : Thread Cert.MixBaDwRefIdeal.nD Cert.MixBaDwRefIdeal.τ).loc Cert.MixBaDwRefIdeal.main_arg0) = m' ((c.tc : Thread Cert.MixBaDwRefIdeal.nD Cert.MixBaDwRefIdeal.τ).loc Cert.MixBaDwRefIdeal.main_arg0)
          ∧ r.2.mem ((c.tc : Thread Cert.MixBaDwRefIdeal.nD Cert.MixBaDwRefIdeal.τ).loc Cert.MixBaDwRefIdeal.main_arg1) = m' ((c.tc : Thread Cert.MixBaDwRefIdeal.nD Cert.MixBaDwRefIdeal.τ).loc Cert.MixBaDwRefIdeal.main_arg1))

def preserves_MixDaDw_MixDaDwIdeal : Prop :=
  True

def algebraic_MixDaDwIdeal_MixDaDwRefIdeal [hMixDaDwIdeal : Cert.MixDaDwIdeal.Facts] [hMixDaDwRefIdeal : Cert.MixDaDwRefIdeal.Facts] : Prop :=
  ∀ (m : (ℓ : Loc Cert.MixDaDwIdeal.nD Cert.MixDaDwIdeal.τ Cert.MixDaDwIdeal.sig) → Buf (Elt Ideal) ℓ) (g : Dev Cert.MixDaDwIdeal.nD → PrngReg)
    (m' : (ℓ : Loc Cert.MixDaDwRefIdeal.nD Cert.MixDaDwRefIdeal.τ Cert.MixDaDwRefIdeal.sig) → Buf (Elt Ideal) ℓ) (g' : Dev Cert.MixDaDwRefIdeal.nD → PrngReg), Pre_MixDaDwIdeal m →
    (∀ c : Dev Cert.MixDaDwIdeal.nD,
      m' ((c.tc : Thread Cert.MixDaDwRefIdeal.nD Cert.MixDaDwRefIdeal.τ).loc Cert.MixDaDwRefIdeal.main_arg0) = m ((c.tc : Thread Cert.MixDaDwIdeal.nD Cert.MixDaDwIdeal.τ).loc Cert.MixDaDwIdeal.main_arg0)
      ∧ m' ((c.tc : Thread Cert.MixDaDwRefIdeal.nD Cert.MixDaDwRefIdeal.τ).loc Cert.MixDaDwRefIdeal.main_arg1) = m ((c.tc : Thread Cert.MixDaDwIdeal.nD Cert.MixDaDwIdeal.τ).loc Cert.MixDaDwIdeal.main_arg1)) →
    ∃ (v0 : (c : Dev Cert.MixDaDwIdeal.nD) → Buf (Elt Ideal) ((c.tc : Thread Cert.MixDaDwIdeal.nD Cert.MixDaDwIdeal.τ).loc Cert.MixDaDwIdeal.main_v0)),
      θ_run (Cert.MixDaDwIdeal.defs (F := Ideal)) (onTc (τ := Cert.MixDaDwIdeal.τ) (Cert.MixDaDwIdeal.main (F := Ideal))) ⟨m, fun _ => 0, g⟩ (fun r => ∀ c : Dev Cert.MixDaDwIdeal.nD,
          r.2.mem ((c.tc : Thread Cert.MixDaDwIdeal.nD Cert.MixDaDwIdeal.τ).loc Cert.MixDaDwIdeal.main_v0) = v0 c
          ∧ r.2.mem ((c.tc : Thread Cert.MixDaDwIdeal.nD Cert.MixDaDwIdeal.τ).loc Cert.MixDaDwIdeal.main_arg0) = m ((c.tc : Thread Cert.MixDaDwIdeal.nD Cert.MixDaDwIdeal.τ).loc Cert.MixDaDwIdeal.main_arg0)
          ∧ r.2.mem ((c.tc : Thread Cert.MixDaDwIdeal.nD Cert.MixDaDwIdeal.τ).loc Cert.MixDaDwIdeal.main_arg1) = m ((c.tc : Thread Cert.MixDaDwIdeal.nD Cert.MixDaDwIdeal.τ).loc Cert.MixDaDwIdeal.main_arg1))
      ∧ θ_run (Cert.MixDaDwRefIdeal.defs (F := Ideal)) (onTc (τ := Cert.MixDaDwRefIdeal.τ) (Cert.MixDaDwRefIdeal.main (F := Ideal))) ⟨m', fun _ => 0, g'⟩ (fun r => ∀ c : Dev Cert.MixDaDwRefIdeal.nD,
          r.2.mem ((c.tc : Thread Cert.MixDaDwRefIdeal.nD Cert.MixDaDwRefIdeal.τ).loc Cert.MixDaDwRefIdeal.main_v3) = v0 c
          ∧ r.2.mem ((c.tc : Thread Cert.MixDaDwRefIdeal.nD Cert.MixDaDwRefIdeal.τ).loc Cert.MixDaDwRefIdeal.main_arg0) = m' ((c.tc : Thread Cert.MixDaDwRefIdeal.nD Cert.MixDaDwRefIdeal.τ).loc Cert.MixDaDwRefIdeal.main_arg0)
          ∧ r.2.mem ((c.tc : Thread Cert.MixDaDwRefIdeal.nD Cert.MixDaDwRefIdeal.τ).loc Cert.MixDaDwRefIdeal.main_arg1) = m' ((c.tc : Thread Cert.MixDaDwRefIdeal.nD Cert.MixDaDwRefIdeal.τ).loc Cert.MixDaDwRefIdeal.main_arg1))

def preserves_MixPgDw_MixPgDwIdeal : Prop :=
  True

def algebraic_MixPgDwIdeal_MixPgDwRefIdeal [hMixPgDwIdeal : Cert.MixPgDwIdeal.Facts] [hMixPgDwRefIdeal : Cert.MixPgDwRefIdeal.Facts] : Prop :=
  ∀ (m : (ℓ : Loc Cert.MixPgDwIdeal.nD Cert.MixPgDwIdeal.τ Cert.MixPgDwIdeal.sig) → Buf (Elt Ideal) ℓ) (g : Dev Cert.MixPgDwIdeal.nD → PrngReg)
    (m' : (ℓ : Loc Cert.MixPgDwRefIdeal.nD Cert.MixPgDwRefIdeal.τ Cert.MixPgDwRefIdeal.sig) → Buf (Elt Ideal) ℓ) (g' : Dev Cert.MixPgDwRefIdeal.nD → PrngReg), Pre_MixPgDwIdeal m →
    (∀ c : Dev Cert.MixPgDwIdeal.nD,
      m' ((c.tc : Thread Cert.MixPgDwRefIdeal.nD Cert.MixPgDwRefIdeal.τ).loc Cert.MixPgDwRefIdeal.main_arg0) = m ((c.tc : Thread Cert.MixPgDwIdeal.nD Cert.MixPgDwIdeal.τ).loc Cert.MixPgDwIdeal.main_arg0)
      ∧ m' ((c.tc : Thread Cert.MixPgDwRefIdeal.nD Cert.MixPgDwRefIdeal.τ).loc Cert.MixPgDwRefIdeal.main_arg1) = m ((c.tc : Thread Cert.MixPgDwIdeal.nD Cert.MixPgDwIdeal.τ).loc Cert.MixPgDwIdeal.main_arg1)) →
    ∃ (v0 : (c : Dev Cert.MixPgDwIdeal.nD) → Buf (Elt Ideal) ((c.tc : Thread Cert.MixPgDwIdeal.nD Cert.MixPgDwIdeal.τ).loc Cert.MixPgDwIdeal.main_v0)),
      θ_run (Cert.MixPgDwIdeal.defs (F := Ideal)) (onTc (τ := Cert.MixPgDwIdeal.τ) (Cert.MixPgDwIdeal.main (F := Ideal))) ⟨m, fun _ => 0, g⟩ (fun r => ∀ c : Dev Cert.MixPgDwIdeal.nD,
          r.2.mem ((c.tc : Thread Cert.MixPgDwIdeal.nD Cert.MixPgDwIdeal.τ).loc Cert.MixPgDwIdeal.main_v0) = v0 c
          ∧ r.2.mem ((c.tc : Thread Cert.MixPgDwIdeal.nD Cert.MixPgDwIdeal.τ).loc Cert.MixPgDwIdeal.main_arg0) = m ((c.tc : Thread Cert.MixPgDwIdeal.nD Cert.MixPgDwIdeal.τ).loc Cert.MixPgDwIdeal.main_arg0)
          ∧ r.2.mem ((c.tc : Thread Cert.MixPgDwIdeal.nD Cert.MixPgDwIdeal.τ).loc Cert.MixPgDwIdeal.main_arg1) = m ((c.tc : Thread Cert.MixPgDwIdeal.nD Cert.MixPgDwIdeal.τ).loc Cert.MixPgDwIdeal.main_arg1))
      ∧ θ_run (Cert.MixPgDwRefIdeal.defs (F := Ideal)) (onTc (τ := Cert.MixPgDwRefIdeal.τ) (Cert.MixPgDwRefIdeal.main (F := Ideal))) ⟨m', fun _ => 0, g'⟩ (fun r => ∀ c : Dev Cert.MixPgDwRefIdeal.nD,
          r.2.mem ((c.tc : Thread Cert.MixPgDwRefIdeal.nD Cert.MixPgDwRefIdeal.τ).loc Cert.MixPgDwRefIdeal.main_v3) = v0 c
          ∧ r.2.mem ((c.tc : Thread Cert.MixPgDwRefIdeal.nD Cert.MixPgDwRefIdeal.τ).loc Cert.MixPgDwRefIdeal.main_arg0) = m' ((c.tc : Thread Cert.MixPgDwRefIdeal.nD Cert.MixPgDwRefIdeal.τ).loc Cert.MixPgDwRefIdeal.main_arg0)
          ∧ r.2.mem ((c.tc : Thread Cert.MixPgDwRefIdeal.nD Cert.MixPgDwRefIdeal.τ).loc Cert.MixPgDwRefIdeal.main_arg1) = m' ((c.tc : Thread Cert.MixPgDwRefIdeal.nD Cert.MixPgDwRefIdeal.τ).loc Cert.MixPgDwRefIdeal.main_arg1))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)
      ∧ m' ((c.tc : Thread Cert.InputGradRefIdeal.nD Cert.InputGradRefIdeal.τ).loc Cert.InputGradRefIdeal.main_arg4) = m ((c.tc : Thread Cert.InputGradIdeal.nD Cert.InputGradIdeal.τ).loc Cert.InputGradIdeal.main_arg4)
      ∧ m' ((c.tc : Thread Cert.InputGradRefIdeal.nD Cert.InputGradRefIdeal.τ).loc Cert.InputGradRefIdeal.main_arg5) = m ((c.tc : Thread Cert.InputGradIdeal.nD Cert.InputGradIdeal.τ).loc Cert.InputGradIdeal.main_arg5)) →
    ∃ (v0 : (c : Dev Cert.InputGradIdeal.nD) → Buf (Elt Ideal) ((c.tc : Thread Cert.InputGradIdeal.nD Cert.InputGradIdeal.τ).loc Cert.InputGradIdeal.main_v0_0)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4)
          ∧ r.2.mem ((c.tc : Thread Cert.InputGradIdeal.nD Cert.InputGradIdeal.τ).loc Cert.InputGradIdeal.main_arg5) = m ((c.tc : Thread Cert.InputGradIdeal.nD Cert.InputGradIdeal.τ).loc Cert.InputGradIdeal.main_arg5))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v39) = v0 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3)
          ∧ r.2.mem ((c.tc : Thread Cert.InputGradRefIdeal.nD Cert.InputGradRefIdeal.τ).loc Cert.InputGradRefIdeal.main_arg4) = m' ((c.tc : Thread Cert.InputGradRefIdeal.nD Cert.InputGradRefIdeal.τ).loc Cert.InputGradRefIdeal.main_arg4)
          ∧ r.2.mem ((c.tc : Thread Cert.InputGradRefIdeal.nD Cert.InputGradRefIdeal.τ).loc Cert.InputGradRefIdeal.main_arg5) = m' ((c.tc : Thread Cert.InputGradRefIdeal.nD Cert.InputGradRefIdeal.τ).loc Cert.InputGradRefIdeal.main_arg5))

def Claim : Prop :=
  ∃ (hKernel : Cert.Kernel.Facts) (hKernelIdeal : Cert.KernelIdeal.Facts) (hReferenceIdeal : Cert.ReferenceIdeal.Facts) (hReference : Cert.Reference.Facts) (hScatter : Cert.Scatter.Facts) (hScatterIdeal : Cert.ScatterIdeal.Facts) (hScatterRefIdeal : Cert.ScatterRefIdeal.Facts) (hScatterRef : Cert.ScatterRef.Facts) (hSwap : Cert.Swap.Facts) (hSwapIdeal : Cert.SwapIdeal.Facts) (hSwapRefIdeal : Cert.SwapRefIdeal.Facts) (hSwapRef : Cert.SwapRef.Facts) (hFinalSwap : Cert.FinalSwap.Facts) (hFinalSwapIdeal : Cert.FinalSwapIdeal.Facts) (hFinalSwapRefIdeal : Cert.FinalSwapRefIdeal.Facts) (hFinalSwapRef : Cert.FinalSwapRef.Facts) (hAdamAdaW : Cert.AdamAdaW.Facts) (hAdamAdaWIdeal : Cert.AdamAdaWIdeal.Facts) (hAdamAdaWRefIdeal : Cert.AdamAdaWRefIdeal.Facts) (hAdamAdaB : Cert.AdamAdaB.Facts) (hAdamAdaBIdeal : Cert.AdamAdaBIdeal.Facts) (hAdamAdaBRefIdeal : Cert.AdamAdaBRefIdeal.Facts) (hAdamLn : Cert.AdamLn.Facts) (hAdamLnIdeal : Cert.AdamLnIdeal.Facts) (hAdamLnRefIdeal : Cert.AdamLnRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamWIn : Cert.AdamWIn.Facts) (hAdamWInIdeal : Cert.AdamWInIdeal.Facts) (hAdamWInRefIdeal : Cert.AdamWInRefIdeal.Facts) (hAdamConv : Cert.AdamConv.Facts) (hAdamConvIdeal : Cert.AdamConvIdeal.Facts) (hAdamConvRefIdeal : Cert.AdamConvRefIdeal.Facts) (hAdamHeads : Cert.AdamHeads.Facts) (hAdamHeadsIdeal : Cert.AdamHeadsIdeal.Facts) (hAdamHeadsRefIdeal : Cert.AdamHeadsRefIdeal.Facts) (hAdamDn : Cert.AdamDn.Facts) (hAdamDnIdeal : Cert.AdamDnIdeal.Facts) (hAdamDnRefIdeal : Cert.AdamDnRefIdeal.Facts) (hAdamMix : Cert.AdamMix.Facts) (hAdamMixIdeal : Cert.AdamMixIdeal.Facts) (hAdamMixRefIdeal : Cert.AdamMixRefIdeal.Facts) (hAdamWb : Cert.AdamWb.Facts) (hAdamWbIdeal : Cert.AdamWbIdeal.Facts) (hAdamWbRefIdeal : Cert.AdamWbRefIdeal.Facts) (hAdamNorm : Cert.AdamNorm.Facts) (hAdamNormIdeal : Cert.AdamNormIdeal.Facts) (hAdamNormRefIdeal : Cert.AdamNormRefIdeal.Facts) (hPairSum : Cert.PairSum.Facts) (hPairSumIdeal : Cert.PairSumIdeal.Facts) (hPairSumRefIdeal : Cert.PairSumRefIdeal.Facts) (hChipSum : Cert.ChipSum.Facts) (hChipSumIdeal : Cert.ChipSumIdeal.Facts) (hChipSumRefIdeal : Cert.ChipSumRefIdeal.Facts) (hSmallSum : Cert.SmallSum.Facts) (hSmallSumIdeal : Cert.SmallSumIdeal.Facts) (hSmallSumRefIdeal : Cert.SmallSumRefIdeal.Facts) (hSmallGrads : Cert.SmallGrads.Facts) (hSmallGradsIdeal : Cert.SmallGradsIdeal.Facts) (hSmallGradsRefIdeal : Cert.SmallGradsRefIdeal.Facts) (hBigGrads : Cert.BigGrads.Facts) (hBigGradsIdeal : Cert.BigGradsIdeal.Facts) (hBigGradsRefIdeal : Cert.BigGradsRefIdeal.Facts) (hAdaBGrad : Cert.AdaBGrad.Facts) (hAdaBGradIdeal : Cert.AdaBGradIdeal.Facts) (hAdaBGradRefIdeal : Cert.AdaBGradRefIdeal.Facts) (hAdaWGrad : Cert.AdaWGrad.Facts) (hAdaWGradIdeal : Cert.AdaWGradIdeal.Facts) (hAdaWGradRefIdeal : Cert.AdaWGradRefIdeal.Facts) (hCSilu : Cert.CSilu.Facts) (hCSiluIdeal : Cert.CSiluIdeal.Facts) (hCSiluRefIdeal : Cert.CSiluRefIdeal.Facts) (hAdaFwd : Cert.AdaFwd.Facts) (hAdaFwdIdeal : Cert.AdaFwdIdeal.Facts) (hAdaFwdRefIdeal : Cert.AdaFwdRefIdeal.Facts) (hFfnNorm : Cert.FfnNorm.Facts) (hFfnNormIdeal : Cert.FfnNormIdeal.Facts) (hFfnNormRefIdeal : Cert.FfnNormRefIdeal.Facts) (hFfnGu : Cert.FfnGu.Facts) (hFfnGuIdeal : Cert.FfnGuIdeal.Facts) (hFfnGuRefIdeal : Cert.FfnGuRefIdeal.Facts) (hFfnAct : Cert.FfnAct.Facts) (hFfnActIdeal : Cert.FfnActIdeal.Facts) (hFfnActRefIdeal : Cert.FfnActRefIdeal.Facts) (hFfnDown : Cert.FfnDown.Facts) (hFfnDownIdeal : Cert.FfnDownIdeal.Facts) (hFfnDownRefIdeal : Cert.FfnDownRefIdeal.Facts) (hMixQkv : Cert.MixQkv.Facts) (hMixQkvIdeal : Cert.MixQkvIdeal.Facts) (hMixQkvRefIdeal : Cert.MixQkvRefIdeal.Facts) (hMixZ : Cert.MixZ.Facts) (hMixZIdeal : Cert.MixZIdeal.Facts) (hMixZRefIdeal : Cert.MixZRefIdeal.Facts) (hMixBa : Cert.MixBa.Facts) (hMixBaIdeal : Cert.MixBaIdeal.Facts) (hMixBaRefIdeal : Cert.MixBaRefIdeal.Facts) (hMixDa : Cert.MixDa.Facts) (hMixDaIdeal : Cert.MixDaIdeal.Facts) (hMixDaRefIdeal : Cert.MixDaRefIdeal.Facts) (hMixPg : Cert.MixPg.Facts) (hMixPgIdeal : Cert.MixPgIdeal.Facts) (hMixPgRefIdeal : Cert.MixPgRefIdeal.Facts) (hMixWb : Cert.MixWb.Facts) (hMixWbIdeal : Cert.MixWbIdeal.Facts) (hMixWbRefIdeal : Cert.MixWbRefIdeal.Facts) (hMixGate : Cert.MixGate.Facts) (hMixGateIdeal : Cert.MixGateIdeal.Facts) (hMixGateRefIdeal : Cert.MixGateRefIdeal.Facts) (hMixOut : Cert.MixOut.Facts) (hMixOutIdeal : Cert.MixOutIdeal.Facts) (hMixOutRefIdeal : Cert.MixOutRefIdeal.Facts) (hFfnDownDx : Cert.FfnDownDx.Facts) (hFfnDownDxIdeal : Cert.FfnDownDxIdeal.Facts) (hFfnDownDxRefIdeal : Cert.FfnDownDxRefIdeal.Facts) (hMixOutDx : Cert.MixOutDx.Facts) (hMixOutDxIdeal : Cert.MixOutDxIdeal.Facts) (hMixOutDxRefIdeal : Cert.MixOutDxRefIdeal.Facts) (hMixWaDx : Cert.MixWaDx.Facts) (hMixWaDxIdeal : Cert.MixWaDxIdeal.Facts) (hMixWaDxRefIdeal : Cert.MixWaDxRefIdeal.Facts) (hMixWbDx : Cert.MixWbDx.Facts) (hMixWbDxIdeal : Cert.MixWbDxIdeal.Facts) (hMixWbDxRefIdeal : Cert.MixWbDxRefIdeal.Facts) (hMixQkvDx : Cert.MixQkvDx.Facts) (hMixQkvDxIdeal : Cert.MixQkvDxIdeal.Facts) (hMixQkvDxRefIdeal : Cert.MixQkvDxRefIdeal.Facts) (hMixZDx : Cert.MixZDx.Facts) (hMixZDxIdeal : Cert.MixZDxIdeal.Facts) (hMixZDxRefIdeal : Cert.MixZDxRefIdeal.Facts) (hMixBaDx : Cert.MixBaDx.Facts) (hMixBaDxIdeal : Cert.MixBaDxIdeal.Facts) (hMixBaDxRefIdeal : Cert.MixBaDxRefIdeal.Facts) (hMixDaDx : Cert.MixDaDx.Facts) (hMixDaDxIdeal : Cert.MixDaDxIdeal.Facts) (hMixDaDxRefIdeal : Cert.MixDaDxRefIdeal.Facts) (hMixPgDx : Cert.MixPgDx.Facts) (hMixPgDxIdeal : Cert.MixPgDxIdeal.Facts) (hMixPgDxRefIdeal : Cert.MixPgDxRefIdeal.Facts) (hFfnGuDx : Cert.FfnGuDx.Facts) (hFfnGuDxIdeal : Cert.FfnGuDxIdeal.Facts) (hFfnGuDxRefIdeal : Cert.FfnGuDxRefIdeal.Facts) (hFfnDownDw : Cert.FfnDownDw.Facts) (hFfnDownDwIdeal : Cert.FfnDownDwIdeal.Facts) (hFfnDownDwRefIdeal : Cert.FfnDownDwRefIdeal.Facts) (hFfnGuDw : Cert.FfnGuDw.Facts) (hFfnGuDwIdeal : Cert.FfnGuDwIdeal.Facts) (hFfnGuDwRefIdeal : Cert.FfnGuDwRefIdeal.Facts) (hMixOutDw : Cert.MixOutDw.Facts) (hMixOutDwIdeal : Cert.MixOutDwIdeal.Facts) (hMixOutDwRefIdeal : Cert.MixOutDwRefIdeal.Facts) (hMixWbDw : Cert.MixWbDw.Facts) (hMixWbDwIdeal : Cert.MixWbDwIdeal.Facts) (hMixWbDwRefIdeal : Cert.MixWbDwRefIdeal.Facts) (hMixQkvDw : Cert.MixQkvDw.Facts) (hMixQkvDwIdeal : Cert.MixQkvDwIdeal.Facts) (hMixQkvDwRefIdeal : Cert.MixQkvDwRefIdeal.Facts) (hMixBaDw : Cert.MixBaDw.Facts) (hMixBaDwIdeal : Cert.MixBaDwIdeal.Facts) (hMixBaDwRefIdeal : Cert.MixBaDwRefIdeal.Facts) (hMixDaDw : Cert.MixDaDw.Facts) (hMixDaDwIdeal : Cert.MixDaDwIdeal.Facts) (hMixDaDwRefIdeal : Cert.MixDaDwRefIdeal.Facts) (hMixPgDw : Cert.MixPgDw.Facts) (hMixPgDwIdeal : Cert.MixPgDwIdeal.Facts) (hMixPgDwRefIdeal : Cert.MixPgDwRefIdeal.Facts) (hInputGrad : Cert.InputGrad.Facts) (hInputGradIdeal : Cert.InputGradIdeal.Facts) (hInputGradRefIdeal : Cert.InputGradRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_FinalSwap (hFinalSwap := hFinalSwap)
    ∧ quiescent_FinalSwapIdeal (hFinalSwapIdeal := hFinalSwapIdeal)
    ∧ quiescent_FinalSwapRefIdeal (hFinalSwapRefIdeal := hFinalSwapRefIdeal)
    ∧ quiescent_FinalSwapRef (hFinalSwapRef := hFinalSwapRef)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamHeads (hAdamHeads := hAdamHeads)
    ∧ quiescent_AdamHeadsIdeal (hAdamHeadsIdeal := hAdamHeadsIdeal)
    ∧ quiescent_AdamHeadsRefIdeal (hAdamHeadsRefIdeal := hAdamHeadsRefIdeal)
    ∧ quiescent_AdamDn (hAdamDn := hAdamDn)
    ∧ quiescent_AdamDnIdeal (hAdamDnIdeal := hAdamDnIdeal)
    ∧ quiescent_AdamDnRefIdeal (hAdamDnRefIdeal := hAdamDnRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamWb (hAdamWb := hAdamWb)
    ∧ quiescent_AdamWbIdeal (hAdamWbIdeal := hAdamWbIdeal)
    ∧ quiescent_AdamWbRefIdeal (hAdamWbRefIdeal := hAdamWbRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_SmallGrads (hSmallGrads := hSmallGrads)
    ∧ quiescent_SmallGradsIdeal (hSmallGradsIdeal := hSmallGradsIdeal)
    ∧ quiescent_SmallGradsRefIdeal (hSmallGradsRefIdeal := hSmallGradsRefIdeal)
    ∧ quiescent_BigGrads (hBigGrads := hBigGrads)
    ∧ quiescent_BigGradsIdeal (hBigGradsIdeal := hBigGradsIdeal)
    ∧ quiescent_BigGradsRefIdeal (hBigGradsRefIdeal := hBigGradsRefIdeal)
    ∧ quiescent_AdaBGrad (hAdaBGrad := hAdaBGrad)
    ∧ quiescent_AdaBGradIdeal (hAdaBGradIdeal := hAdaBGradIdeal)
    ∧ quiescent_AdaBGradRefIdeal (hAdaBGradRefIdeal := hAdaBGradRefIdeal)
    ∧ quiescent_AdaWGrad (hAdaWGrad := hAdaWGrad)
    ∧ quiescent_AdaWGradIdeal (hAdaWGradIdeal := hAdaWGradIdeal)
    ∧ quiescent_AdaWGradRefIdeal (hAdaWGradRefIdeal := hAdaWGradRefIdeal)
    ∧ quiescent_CSilu (hCSilu := hCSilu)
    ∧ quiescent_CSiluIdeal (hCSiluIdeal := hCSiluIdeal)
    ∧ quiescent_CSiluRefIdeal (hCSiluRefIdeal := hCSiluRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_FfnGu (hFfnGu := hFfnGu)
    ∧ quiescent_FfnGuIdeal (hFfnGuIdeal := hFfnGuIdeal)
    ∧ quiescent_FfnGuRefIdeal (hFfnGuRefIdeal := hFfnGuRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixQkv (hMixQkv := hMixQkv)
    ∧ quiescent_MixQkvIdeal (hMixQkvIdeal := hMixQkvIdeal)
    ∧ quiescent_MixQkvRefIdeal (hMixQkvRefIdeal := hMixQkvRefIdeal)
    ∧ quiescent_MixZ (hMixZ := hMixZ)
    ∧ quiescent_MixZIdeal (hMixZIdeal := hMixZIdeal)
    ∧ quiescent_MixZRefIdeal (hMixZRefIdeal := hMixZRefIdeal)
    ∧ quiescent_MixBa (hMixBa := hMixBa)
    ∧ quiescent_MixBaIdeal (hMixBaIdeal := hMixBaIdeal)
    ∧ quiescent_MixBaRefIdeal (hMixBaRefIdeal := hMixBaRefIdeal)
    ∧ quiescent_MixDa (hMixDa := hMixDa)
    ∧ quiescent_MixDaIdeal (hMixDaIdeal := hMixDaIdeal)
    ∧ quiescent_MixDaRefIdeal (hMixDaRefIdeal := hMixDaRefIdeal)
    ∧ quiescent_MixPg (hMixPg := hMixPg)
    ∧ quiescent_MixPgIdeal (hMixPgIdeal := hMixPgIdeal)
    ∧ quiescent_MixPgRefIdeal (hMixPgRefIdeal := hMixPgRefIdeal)
    ∧ quiescent_MixWb (hMixWb := hMixWb)
    ∧ quiescent_MixWbIdeal (hMixWbIdeal := hMixWbIdeal)
    ∧ quiescent_MixWbRefIdeal (hMixWbRefIdeal := hMixWbRefIdeal)
    ∧ quiescent_MixGate (hMixGate := hMixGate)
    ∧ quiescent_MixGateIdeal (hMixGateIdeal := hMixGateIdeal)
    ∧ quiescent_MixGateRefIdeal (hMixGateRefIdeal := hMixGateRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixWaDx (hMixWaDx := hMixWaDx)
    ∧ quiescent_MixWaDxIdeal (hMixWaDxIdeal := hMixWaDxIdeal)
    ∧ quiescent_MixWaDxRefIdeal (hMixWaDxRefIdeal := hMixWaDxRefIdeal)
    ∧ quiescent_MixWbDx (hMixWbDx := hMixWbDx)
    ∧ quiescent_MixWbDxIdeal (hMixWbDxIdeal := hMixWbDxIdeal)
    ∧ quiescent_MixWbDxRefIdeal (hMixWbDxRefIdeal := hMixWbDxRefIdeal)
    ∧ quiescent_MixQkvDx (hMixQkvDx := hMixQkvDx)
    ∧ quiescent_MixQkvDxIdeal (hMixQkvDxIdeal := hMixQkvDxIdeal)
    ∧ quiescent_MixQkvDxRefIdeal (hMixQkvDxRefIdeal := hMixQkvDxRefIdeal)
    ∧ quiescent_MixZDx (hMixZDx := hMixZDx)
    ∧ quiescent_MixZDxIdeal (hMixZDxIdeal := hMixZDxIdeal)
    ∧ quiescent_MixZDxRefIdeal (hMixZDxRefIdeal := hMixZDxRefIdeal)
    ∧ quiescent_MixBaDx (hMixBaDx := hMixBaDx)
    ∧ quiescent_MixBaDxIdeal (hMixBaDxIdeal := hMixBaDxIdeal)
    ∧ quiescent_MixBaDxRefIdeal (hMixBaDxRefIdeal := hMixBaDxRefIdeal)
    ∧ quiescent_MixDaDx (hMixDaDx := hMixDaDx)
    ∧ quiescent_MixDaDxIdeal (hMixDaDxIdeal := hMixDaDxIdeal)
    ∧ quiescent_MixDaDxRefIdeal (hMixDaDxRefIdeal := hMixDaDxRefIdeal)
    ∧ quiescent_MixPgDx (hMixPgDx := hMixPgDx)
    ∧ quiescent_MixPgDxIdeal (hMixPgDxIdeal := hMixPgDxIdeal)
    ∧ quiescent_MixPgDxRefIdeal (hMixPgDxRefIdeal := hMixPgDxRefIdeal)
    ∧ quiescent_FfnGuDx (hFfnGuDx := hFfnGuDx)
    ∧ quiescent_FfnGuDxIdeal (hFfnGuDxIdeal := hFfnGuDxIdeal)
    ∧ quiescent_FfnGuDxRefIdeal (hFfnGuDxRefIdeal := hFfnGuDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnGuDw (hFfnGuDw := hFfnGuDw)
    ∧ quiescent_FfnGuDwIdeal (hFfnGuDwIdeal := hFfnGuDwIdeal)
    ∧ quiescent_FfnGuDwRefIdeal (hFfnGuDwRefIdeal := hFfnGuDwRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixWbDw (hMixWbDw := hMixWbDw)
    ∧ quiescent_MixWbDwIdeal (hMixWbDwIdeal := hMixWbDwIdeal)
    ∧ quiescent_MixWbDwRefIdeal (hMixWbDwRefIdeal := hMixWbDwRefIdeal)
    ∧ quiescent_MixQkvDw (hMixQkvDw := hMixQkvDw)
    ∧ quiescent_MixQkvDwIdeal (hMixQkvDwIdeal := hMixQkvDwIdeal)
    ∧ quiescent_MixQkvDwRefIdeal (hMixQkvDwRefIdeal := hMixQkvDwRefIdeal)
    ∧ quiescent_MixBaDw (hMixBaDw := hMixBaDw)
    ∧ quiescent_MixBaDwIdeal (hMixBaDwIdeal := hMixBaDwIdeal)
    ∧ quiescent_MixBaDwRefIdeal (hMixBaDwRefIdeal := hMixBaDwRefIdeal)
    ∧ quiescent_MixDaDw (hMixDaDw := hMixDaDw)
    ∧ quiescent_MixDaDwIdeal (hMixDaDwIdeal := hMixDaDwIdeal)
    ∧ quiescent_MixDaDwRefIdeal (hMixDaDwRefIdeal := hMixDaDwRefIdeal)
    ∧ quiescent_MixPgDw (hMixPgDw := hMixPgDw)
    ∧ quiescent_MixPgDwIdeal (hMixPgDwIdeal := hMixPgDwIdeal)
    ∧ quiescent_MixPgDwRefIdeal (hMixPgDwRefIdeal := hMixPgDwRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_FinalSwap_FinalSwapIdeal
    ∧ algebraic_FinalSwapIdeal_FinalSwapRefIdeal (hFinalSwapIdeal := hFinalSwapIdeal) (hFinalSwapRefIdeal := hFinalSwapRefIdeal)
    ∧ bitexact_FinalSwap_FinalSwapRef (hFinalSwap := hFinalSwap) (hFinalSwapRef := hFinalSwapRef)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamHeads_AdamHeadsIdeal
    ∧ algebraic_AdamHeadsIdeal_AdamHeadsRefIdeal (hAdamHeadsIdeal := hAdamHeadsIdeal) (hAdamHeadsRefIdeal := hAdamHeadsRefIdeal)
    ∧ preserves_AdamDn_AdamDnIdeal
    ∧ algebraic_AdamDnIdeal_AdamDnRefIdeal (hAdamDnIdeal := hAdamDnIdeal) (hAdamDnRefIdeal := hAdamDnRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamWb_AdamWbIdeal
    ∧ algebraic_AdamWbIdeal_AdamWbRefIdeal (hAdamWbIdeal := hAdamWbIdeal) (hAdamWbRefIdeal := hAdamWbRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_PairSum_PairSumIdeal
    ∧ algebraic_PairSumIdeal_PairSumRefIdeal (hPairSumIdeal := hPairSumIdeal) (hPairSumRefIdeal := hPairSumRefIdeal)
    ∧ preserves_ChipSum_ChipSumIdeal
    ∧ algebraic_ChipSumIdeal_ChipSumRefIdeal (hChipSumIdeal := hChipSumIdeal) (hChipSumRefIdeal := hChipSumRefIdeal)
    ∧ preserves_SmallSum_SmallSumIdeal
    ∧ algebraic_SmallSumIdeal_SmallSumRefIdeal (hSmallSumIdeal := hSmallSumIdeal) (hSmallSumRefIdeal := hSmallSumRefIdeal)
    ∧ preserves_SmallGrads_SmallGradsIdeal
    ∧ algebraic_SmallGradsIdeal_SmallGradsRefIdeal (hSmallGradsIdeal := hSmallGradsIdeal) (hSmallGradsRefIdeal := hSmallGradsRefIdeal)
    ∧ preserves_BigGrads_BigGradsIdeal
    ∧ algebraic_BigGradsIdeal_BigGradsRefIdeal (hBigGradsIdeal := hBigGradsIdeal) (hBigGradsRefIdeal := hBigGradsRefIdeal)
    ∧ preserves_AdaBGrad_AdaBGradIdeal
    ∧ algebraic_AdaBGradIdeal_AdaBGradRefIdeal (hAdaBGradIdeal := hAdaBGradIdeal) (hAdaBGradRefIdeal := hAdaBGradRefIdeal)
    ∧ preserves_AdaWGrad_AdaWGradIdeal
    ∧ algebraic_AdaWGradIdeal_AdaWGradRefIdeal (hAdaWGradIdeal := hAdaWGradIdeal) (hAdaWGradRefIdeal := hAdaWGradRefIdeal)
    ∧ preserves_CSilu_CSiluIdeal
    ∧ algebraic_CSiluIdeal_CSiluRefIdeal (hCSiluIdeal := hCSiluIdeal) (hCSiluRefIdeal := hCSiluRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_FfnGu_FfnGuIdeal
    ∧ algebraic_FfnGuIdeal_FfnGuRefIdeal (hFfnGuIdeal := hFfnGuIdeal) (hFfnGuRefIdeal := hFfnGuRefIdeal)
    ∧ preserves_FfnAct_FfnActIdeal
    ∧ algebraic_FfnActIdeal_FfnActRefIdeal (hFfnActIdeal := hFfnActIdeal) (hFfnActRefIdeal := hFfnActRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixQkv_MixQkvIdeal
    ∧ algebraic_MixQkvIdeal_MixQkvRefIdeal (hMixQkvIdeal := hMixQkvIdeal) (hMixQkvRefIdeal := hMixQkvRefIdeal)
    ∧ preserves_MixZ_MixZIdeal
    ∧ algebraic_MixZIdeal_MixZRefIdeal (hMixZIdeal := hMixZIdeal) (hMixZRefIdeal := hMixZRefIdeal)
    ∧ preserves_MixBa_MixBaIdeal
    ∧ algebraic_MixBaIdeal_MixBaRefIdeal (hMixBaIdeal := hMixBaIdeal) (hMixBaRefIdeal := hMixBaRefIdeal)
    ∧ preserves_MixDa_MixDaIdeal
    ∧ algebraic_MixDaIdeal_MixDaRefIdeal (hMixDaIdeal := hMixDaIdeal) (hMixDaRefIdeal := hMixDaRefIdeal)
    ∧ preserves_MixPg_MixPgIdeal
    ∧ algebraic_MixPgIdeal_MixPgRefIdeal (hMixPgIdeal := hMixPgIdeal) (hMixPgRefIdeal := hMixPgRefIdeal)
    ∧ preserves_MixWb_MixWbIdeal
    ∧ algebraic_MixWbIdeal_MixWbRefIdeal (hMixWbIdeal := hMixWbIdeal) (hMixWbRefIdeal := hMixWbRefIdeal)
    ∧ preserves_MixGate_MixGateIdeal
    ∧ algebraic_MixGateIdeal_MixGateRefIdeal (hMixGateIdeal := hMixGateIdeal) (hMixGateRefIdeal := hMixGateRefIdeal)
    ∧ preserves_MixOut_MixOutIdeal
    ∧ algebraic_MixOutIdeal_MixOutRefIdeal (hMixOutIdeal := hMixOutIdeal) (hMixOutRefIdeal := hMixOutRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixWaDx_MixWaDxIdeal
    ∧ algebraic_MixWaDxIdeal_MixWaDxRefIdeal (hMixWaDxIdeal := hMixWaDxIdeal) (hMixWaDxRefIdeal := hMixWaDxRefIdeal)
    ∧ preserves_MixWbDx_MixWbDxIdeal
    ∧ algebraic_MixWbDxIdeal_MixWbDxRefIdeal (hMixWbDxIdeal := hMixWbDxIdeal) (hMixWbDxRefIdeal := hMixWbDxRefIdeal)
    ∧ preserves_MixQkvDx_MixQkvDxIdeal
    ∧ algebraic_MixQkvDxIdeal_MixQkvDxRefIdeal (hMixQkvDxIdeal := hMixQkvDxIdeal) (hMixQkvDxRefIdeal := hMixQkvDxRefIdeal)
    ∧ preserves_MixZDx_MixZDxIdeal
    ∧ algebraic_MixZDxIdeal_MixZDxRefIdeal (hMixZDxIdeal := hMixZDxIdeal) (hMixZDxRefIdeal := hMixZDxRefIdeal)
    ∧ preserves_MixBaDx_MixBaDxIdeal
    ∧ algebraic_MixBaDxIdeal_MixBaDxRefIdeal (hMixBaDxIdeal := hMixBaDxIdeal) (hMixBaDxRefIdeal := hMixBaDxRefIdeal)
    ∧ preserves_MixDaDx_MixDaDxIdeal
    ∧ algebraic_MixDaDxIdeal_MixDaDxRefIdeal (hMixDaDxIdeal := hMixDaDxIdeal) (hMixDaDxRefIdeal := hMixDaDxRefIdeal)
    ∧ preserves_MixPgDx_MixPgDxIdeal
    ∧ algebraic_MixPgDxIdeal_MixPgDxRefIdeal (hMixPgDxIdeal := hMixPgDxIdeal) (hMixPgDxRefIdeal := hMixPgDxRefIdeal)
    ∧ preserves_FfnGuDx_FfnGuDxIdeal
    ∧ algebraic_FfnGuDxIdeal_FfnGuDxRefIdeal (hFfnGuDxIdeal := hFfnGuDxIdeal) (hFfnGuDxRefIdeal := hFfnGuDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnGuDw_FfnGuDwIdeal
    ∧ algebraic_FfnGuDwIdeal_FfnGuDwRefIdeal (hFfnGuDwIdeal := hFfnGuDwIdeal) (hFfnGuDwRefIdeal := hFfnGuDwRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixWbDw_MixWbDwIdeal
    ∧ algebraic_MixWbDwIdeal_MixWbDwRefIdeal (hMixWbDwIdeal := hMixWbDwIdeal) (hMixWbDwRefIdeal := hMixWbDwRefIdeal)
    ∧ preserves_MixQkvDw_MixQkvDwIdeal
    ∧ algebraic_MixQkvDwIdeal_MixQkvDwRefIdeal (hMixQkvDwIdeal := hMixQkvDwIdeal) (hMixQkvDwRefIdeal := hMixQkvDwRefIdeal)
    ∧ preserves_MixBaDw_MixBaDwIdeal
    ∧ algebraic_MixBaDwIdeal_MixBaDwRefIdeal (hMixBaDwIdeal := hMixBaDwIdeal) (hMixBaDwRefIdeal := hMixBaDwRefIdeal)
    ∧ preserves_MixDaDw_MixDaDwIdeal
    ∧ algebraic_MixDaDwIdeal_MixDaDwRefIdeal (hMixDaDwIdeal := hMixDaDwIdeal) (hMixDaDwRefIdeal := hMixDaDwRefIdeal)
    ∧ preserves_MixPgDw_MixPgDwIdeal
    ∧ algebraic_MixPgDwIdeal_MixPgDwRefIdeal (hMixPgDwIdeal := hMixPgDwIdeal) (hMixPgDwRefIdeal := hMixPgDwRefIdeal)
    ∧ preserves_InputGrad_InputGradIdeal
    ∧ algebraic_InputGradIdeal_InputGradRefIdeal (hInputGradIdeal := hInputGradIdeal) (hInputGradRefIdeal := hInputGradRefIdeal)
-- ==== Kernel.lean ====
abbrev S14112x1024 : Shape := ⟨2, ![14112, 1024]⟩
abbrev S4x14112x1024 : Shape := ⟨3, ![4, 14112, 1024]⟩
abbrev S6 : Shape := ⟨1, ![6]⟩
abbrev S_ : Shape := ⟨0, ![]⟩
abbrev S1x14112x1024 : Shape := ⟨3, ![1, 14112, 1024]⟩
abbrev S1 : Shape := ⟨1, ![1]⟩
abbrev S1x7056x1024 : Shape := ⟨3, ![1, 7056, 1024]⟩
abbrev S7056x1024 : Shape := ⟨2, ![7056, 1024]⟩

abbrev nBuf : Space → Nat
  | .hbm => 2
  | .vmem => 0
  | .smem => 0
  | _ => 0

abbrev bufTy : (tb : Table) → Fin (tcTables nBuf tb) → BufTy
  | .hbm, ⟨0, _⟩ => ⟨S14112x1024, .bf16⟩
  | .hbm, ⟨1, _⟩ => ⟨S4x14112x1024, .bf16⟩
  | _, _ => ⟨S14112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  v21
def k0_mult2 (d0 : Dev nD) : BitVec 32 :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_11 v8
  let c7056_i32_12 : BitVec 32 := 7056#32
  let v24 : BitVec 32 := Scalar.muli v23 c7056_i32_12
  v24
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_13 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  let v22 : BitVec 32 := v21
  let c0_i32_20 : BitVec 32 := 0#32
  ![v10.toNat, v22.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  let v22 : BitVec 32 := v21
  let c0_i32_21 : BitVec 32 := 0#32
  ![v22.toNat, 0]
def k0_dev1 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_16 : BitVec 32 := 4#32
  let v28 : BitVec 32 := Scalar.muli v11 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_26 : BitVec 32 := 2#32
  let v43 : BitVec 32 := Scalar.muli v12 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_32 : BitVec 32 := 4#32
  let v54 : BitVec 32 := Scalar.muli v13 c4_i32_32
  let v55 : BitVec 32 := Scalar.addi c0_i32_33 v54
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_34 : BitVec 32 := 2#32
  let v56 : BitVec 32 := Scalar.muli v14 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  let v22 : BitVec 32 := v21
  let c0_i32_44 : BitVec 32 := 0#32
  ![v16.toNat, v22.toNat, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v80 : BitVec 32 := Scalar.muli v2 c4_i32_48
  let v81 : BitVec 32 := Scalar.addi c0_i32_49 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v82 : BitVec 32 := Scalar.muli v5 c2_i32_50
  let v83 : BitVec 32 := Scalar.addi v81 v82
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.subi c1_i32_46 v8
  let c1_i32_51 : BitVec 32 := 1#32
  let v84 : BitVec 32 := Scalar.muli v79 c1_i32_51
  let v85 : BitVec 32 := Scalar.addi v83 v84
  v85.toNat
def k0_off5 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v18 : BitVec 32 := Scalar.addi v17 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  let v22 : BitVec 32 := v21
  let c0_i32_60 : BitVec 32 := 0#32
  ![v18.toNat, v22.toNat, 0]
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v107 : BitVec 32 := Scalar.muli v2 c4_i32_65
  let v108 : BitVec 32 := Scalar.addi c0_i32_66 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v109 : BitVec 32 := Scalar.muli v5 c2_i32_67
  let v110 : BitVec 32 := Scalar.addi v108 v109
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v106 : BitVec 32 := Scalar.subi c1_i32_62 v8
  let c1_i32_68 : BitVec 32 := 1#32
  let v111 : BitVec 32 := Scalar.muli v106 c1_i32_68
  let v112 : BitVec 32 := Scalar.addi v110 v111
  v112.toNat
def k0_off6 (d0 : Dev nD) : Fin 3 → Nat :=
  let c2_i32_10 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v19 : BitVec 32 := Scalar.muli c2_i32_10 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v20 : BitVec 32 := Scalar.addi v19 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7056_i32 : BitVec 32 := 7056#32
  let v21 : BitVec 32 := Scalar.muli v8 c7056_i32
  let v22 : BitVec 32 := v21
  let c0_i32_77 : BitVec 32 := 0#32
  ![v20.toNat, v22.toNat, 0]
def k0_dev6 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v134 : BitVec 32 := Scalar.muli v2 c4_i32_81
  let v135 : BitVec 32 := Scalar.addi c0_i32_82 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v136 : BitVec 32 := Scalar.muli v5 c2_i32_83
  let v137 : BitVec 32 := Scalar.addi v135 v136
  let c1_i32_79 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v133 : BitVec 32 := Scalar.subi c1_i32_79 v8
  let c1_i32_84 : BitVec 32 := 1#32
  let v138 : BitVec 32 := Scalar.muli v133 c1_i32_84
  let v139 : BitVec 32 := Scalar.addi v137 v138
  v139.toNat
def k0_off7 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_11 v8
  let c7056_i32_12 : BitVec 32 := 7056#32
  let v24 : BitVec 32 := Scalar.muli v23 c7056_i32_12
  let v25 : BitVec 32 := v24
  let c0_i32_94 : BitVec 32 := 0#32
  ![v16.toNat, v25.toNat, 0]
def k0_off8 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v18 : BitVec 32 := Scalar.addi v17 v12
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_11 v8
  let c7056_i32_12 : BitVec 32 := 7056#32
  let v24 : BitVec 32 := Scalar.muli v23 c7056_i32_12
  let v25 : BitVec 32 := v24
  let c0_i32_103 : BitVec 32 := 0#32
  ![v18.toNat, v25.toNat, 0]
def k0_off9 (d0 : Dev nD) : Fin 3 → Nat :=
  let c2_i32_10 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v19 : BitVec 32 := Scalar.muli c2_i32_10 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v20 : BitVec 32 := Scalar.addi v19 v14
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_11 v8
  let c7056_i32_12 : BitVec 32 := 7056#32
  let v24 : BitVec 32 := Scalar.muli v23 c7056_i32_12
  let v25 : BitVec 32 := v24
  let c0_i32_112 : BitVec 32 := 0#32
  ![v20.toNat, v25.toNat, 0]
-- ==== Reference.lean ====
abbrev S56448x1024 : Shape := ⟨2, ![56448, 1024]⟩
abbrev S4x14112x1024 : Shape := ⟨3, ![4, 14112, 1024]⟩

abbrev nBuf : Space → Nat
  | .hbm => 2
  | .vmem => 0
  | .smem => 0
  | _ => 0

abbrev bufTy : (tb : Table) → Fin (tcTables nBuf tb) → BufTy
  | .hbm, ⟨0, _⟩ => ⟨S56448x1024, .bf16⟩
  | .hbm, ⟨1, _⟩ => ⟨S4x14112x1024, .bf16⟩
  | _, _ => ⟨S56448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter.lean ====
abbrev S4x7056x1024 : Shape := ⟨3, ![4, 7056, 1024]⟩
abbrev S3 : Shape := ⟨1, ![3]⟩
abbrev S_ : Shape := ⟨0, ![]⟩
abbrev S1x7056x1024 : Shape := ⟨3, ![1, 7056, 1024]⟩
abbrev S7056x1024 : Shape := ⟨2, ![7056, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x7056x1024, .bf16⟩
  | .hbm, ⟨1, _⟩ => ⟨S4x7056x1024, .bf16⟩
  | _, _ => ⟨S4x7056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_11 : BitVec 32 := 0#32
  ![v10.toNat, 0, 0]
def k0_off2 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_22 : BitVec 32 := 0#32
  let c0_i32_23 : BitVec 32 := 0#32
  ![v16.toNat, 0, 0]
def k0_dev1 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_16 : BitVec 32 := 4#32
  let v25 : BitVec 32 := Scalar.muli v11 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v18 : BitVec 32 := Scalar.addi v17 v12
  let c0_i32_32 : BitVec 32 := 0#32
  let c0_i32_33 : BitVec 32 := 0#32
  ![v18.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_28 : BitVec 32 := 2#32
  let v41 : BitVec 32 := Scalar.muli v12 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_10 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v19 : BitVec 32 := Scalar.muli c2_i32_10 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v20 : BitVec 32 := Scalar.addi v19 v14
  let c0_i32_42 : BitVec 32 := 0#32
  let c0_i32_43 : BitVec 32 := 0#32
  ![v20.toNat, 0, 0]
def k0_dev3 (d0 : Dev nD) : Nat :=
  let c0_i32_37 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_36 : BitVec 32 := 4#32
  let v53 : BitVec 32 := Scalar.muli v13 c4_i32_36
  let v54 : BitVec 32 := Scalar.addi c0_i32_37 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_38 : BitVec 32 := 2#32
  let v55 : BitVec 32 := Scalar.muli v14 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ScatterRef.lean ====
abbrev S16x14112x1024 : Shape := ⟨3, ![16, 14112, 1024]⟩
abbrev S4x4x14112x1024 : Shape := ⟨4, ![4, 4, 14112, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x14112x1024, .bf16⟩
  | .hbm, ⟨1, _⟩ => ⟨S4x4x14112x1024, .bf16⟩
  | .hbm, ⟨2, _⟩ => ⟨S4x4x14112x1024, .bf16⟩
  | .hbm, ⟨3, _⟩ => ⟨S16x14112x1024, .bf16⟩
  | _, _ => ⟨S16x14112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Swap.lean ====
abbrev S4x7056x1024 : Shape := ⟨3, ![4, 7056, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x7056x1024, .bf16⟩
  | .hbm, ⟨1, _⟩ => ⟨S4x7056x1024, .bf16⟩
  | _, _ => ⟨S4x7056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
-- ==== SwapRef.lean ====
abbrev S16x14112x1024 : Shape := ⟨3, ![16, 14112, 1024]⟩
abbrev S16x7056x1024 : Shape := ⟨3, ![16, 7056, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x14112x1024, .bf16⟩
  | .hbm, ⟨1, _⟩ => ⟨S16x7056x1024, .bf16⟩
  | .hbm, ⟨2, _⟩ => ⟨S16x7056x1024, .bf16⟩
  | .hbm, ⟨3, _⟩ => ⟨S16x14112x1024, .bf16⟩
  | _, _ => ⟨S16x14112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== FinalSwap.lean ====
abbrev S7056x1024 : Shape := ⟨2, ![7056, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S7056x1024, .f32⟩
  | .hbm, ⟨1, _⟩ => ⟨S7056x1024, .f32⟩
  | _, _ => ⟨S7056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
-- ==== FinalSwapRef.lean ====
abbrev S56448x1024 : Shape := ⟨2, ![56448, 1024]⟩
abbrev S4x2x7056x1024 : Shape := ⟨4, ![4, 2, 7056, 1024]⟩

abbrev nBuf : Space → Nat
  | .hbm => 4
  | .vmem => 0
  | .smem => 0
  | _ => 0

abbrev bufTy : (tb : Table) → Fin (tcTables nBuf tb) → BufTy
  | .hbm, ⟨0, _⟩ => ⟨S56448x1024, .f32⟩
  | .hbm, ⟨1, _⟩ => ⟨S4x2x7056x1024, .f32⟩
  | .hbm, ⟨2, _⟩ => ⟨S4x2x7056x1024, .f32⟩
  | .hbm, ⟨3, _⟩ => ⟨S56448x1024, .f32⟩
  | _, _ => ⟨S56448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== AdamAdaW.lean ====
abbrev S2048x2304 : Shape := ⟨2, ![2048, 2304]⟩
abbrev S256x2304 : Shape := ⟨2, ![256, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S2048x2304 : Shape := ⟨2, ![2048, 2304]⟩
abbrev S256x2304 : Shape := ⟨2, ![256, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaB.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLn.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutIdeal.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S2048x2116 : Shape := ⟨2, ![2048, 2116]⟩
abbrev S256x2116 : Shape := ⟨2, ![256, 2116]⟩

abbrev nBuf : Space → Nat
  | .hbm => 7
  | .vmem => 14
  | .smem => 0
  | _ => 0

abbrev bufTy : (tb : Table) → Fin (tcTables nBuf tb) → BufTy
  | .hbm, ⟨0, _⟩ => ⟨S2048x2116, .f32⟩
  | .hbm, ⟨1, _⟩ => ⟨S2048x2116, .f32⟩
  | .hbm, ⟨2, _⟩ => ⟨S2048x2116, .f32⟩
  | .hbm, ⟨3, _⟩ => ⟨S2048x2116, .f32⟩
  | .hbm, ⟨4, _⟩ => ⟨S2048x2116, .f32⟩
  | .hbm, ⟨5, _⟩ => ⟨S2048x2116, .f32⟩
  | .hbm, ⟨6, _⟩ => ⟨S2048x2116, .f32⟩
  | .local _ .vmem, ⟨0, _⟩ => ⟨S256x2116, .f32⟩
  | .local _ .vmem, ⟨1, _⟩ => ⟨S256x2116, .f32⟩
  | .local _ .vmem, ⟨2, _⟩ => ⟨S256x2116, .f32⟩
  | .local _ .vmem, ⟨3, _⟩ => ⟨S256x2116, .f32⟩
  | .local _ .vmem, ⟨4, _⟩ => ⟨S256x2116, .f32⟩
  | .local _ .vmem, ⟨5, _⟩ => ⟨S256x2116, .f32⟩
  | .local _ .vmem, ⟨6, _⟩ => ⟨S256x2116, .f32⟩
  | .local _ .vmem, ⟨7, _⟩ => ⟨S256x2116, .f32⟩
  | .local _ .vmem, ⟨8, _⟩ => ⟨S256x2116, .f32⟩
  | .local _ .vmem, ⟨9, _⟩ => ⟨S256x2116, .f32⟩
  | .local _ .vmem, ⟨10, _⟩ => ⟨S256x2116, .f32⟩
  | .local _ .vmem, ⟨11, _⟩ => ⟨S256x2116, .f32⟩
  | .local _ .vmem, ⟨12, _⟩ => ⟨S256x2116, .f32⟩
  | .local _ .vmem, ⟨13, _⟩ => ⟨S256x2116, .f32⟩
  | _, _ => ⟨S2048x2116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2116 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2116 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2116 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2116 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2116 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2116 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S2048x2116 : Shape := ⟨2, ![2048, 2116]⟩
abbrev S256x2116 : Shape := ⟨2, ![256, 2116]⟩

abbrev nBuf : Space → Nat
  | .hbm => 7
  | .vmem => 14
  | .smem => 0
  | _ => 0

abbrev bufTy : (tb : Table) → Fin (tcTables nBuf tb) → BufTy
  | .hbm, ⟨0, _⟩ => ⟨S2048x2116, .f32⟩
  | .hbm, ⟨1, _⟩ => ⟨S2048x2116, .f32⟩
  | .hbm, ⟨2, _⟩ => ⟨S2048x2116, .f32⟩
  | .hbm, ⟨3, _⟩ => ⟨S2048x2116, .f32⟩
  | .hbm, ⟨4, _⟩ => ⟨S2048x2116, .f32⟩
  | .hbm, ⟨5, _⟩ => ⟨S2048x2116, .f32⟩
  | .hbm, ⟨6, _⟩ => ⟨S2048x2116, .f32⟩
  | .local _ .vmem, ⟨0, _⟩ => ⟨S256x2116, .f32⟩
  | .local _ .vmem, ⟨1, _⟩ => ⟨S256x2116, .f32⟩
  | .local _ .vmem, ⟨2, _⟩ => ⟨S256x2116, .f32⟩
  | .local _ .vmem, ⟨3, _⟩ => ⟨S256x2116, .f32⟩
  | .local _ .vmem, ⟨4, _⟩ => ⟨S256x2116, .f32⟩
  | .local _ .vmem, ⟨5, _⟩ => ⟨S256x2116, .f32⟩
  | .local _ .vmem, ⟨6, _⟩ => ⟨S256x2116, .f32⟩
  | .local _ .vmem, ⟨7, _⟩ => ⟨S256x2116, .f32⟩
  | .local _ .vmem, ⟨8, _⟩ => ⟨S256x2116, .f32⟩
  | .local _ .vmem, ⟨9, _⟩ => ⟨S256x2116, .f32⟩
  | .local _ .vmem, ⟨10, _⟩ => ⟨S256x2116, .f32⟩
  | .local _ .vmem, ⟨11, _⟩ => ⟨S256x2116, .f32⟩
  | .local _ .vmem, ⟨12, _⟩ => ⟨S256x2116, .f32⟩
  | .local _ .vmem, ⟨13, _⟩ => ⟨S256x2116, .f32⟩
  | _, _ => ⟨S2048x2116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2116 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2116 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2116 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2116 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2116 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2116 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S2048x2116 : Shape := ⟨2, ![2048, 2116]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2116, .f32⟩
  | .hbm, ⟨1, _⟩ => ⟨S2048x2116, .f32⟩
  | .hbm, ⟨2, _⟩ => ⟨S2048x2116, .f32⟩
  | .hbm, ⟨3, _⟩ => ⟨S2048x2116, .f32⟩
  | .hbm, ⟨4, _⟩ => ⟨S_, .f32⟩
  | .hbm, ⟨5, _⟩ => ⟨S2048x2116, .f32⟩
  | .hbm, ⟨6, _⟩ => ⟨S2048x2116, .f32⟩
  | .hbm, ⟨7, _⟩ => ⟨S_, .f32⟩
  | .hbm, ⟨8, _⟩ => ⟨S2048x2116, .f32⟩
  | .hbm, ⟨9, _⟩ => ⟨S2048x2116, .f32⟩
  | .hbm, ⟨10, _⟩ => ⟨S2048x2116, .f32⟩
  | .hbm, ⟨11, _⟩ => ⟨S_, .f32⟩
  | .hbm, ⟨12, _⟩ => ⟨S2048x2116, .f32⟩
  | .hbm, ⟨13, _⟩ => ⟨S2048x2116, .f32⟩
  | .hbm, ⟨14, _⟩ => ⟨S2048x2116, .f32⟩
  | .hbm, ⟨15, _⟩ => ⟨S_, .f32⟩
  | .hbm, ⟨16, _⟩ => ⟨S2048x2116, .f32⟩
  | .hbm, ⟨17, _⟩ => ⟨S2048x2116, .f32⟩
  | .hbm, ⟨18, _⟩ => ⟨S2048x2116, .f32⟩
  | .hbm, ⟨19, _⟩ => ⟨S_, .f32⟩
  | .hbm, ⟨20, _⟩ => ⟨S2048x2116, .f32⟩
  | .hbm, ⟨21, _⟩ => ⟨S2048x2116, .f32⟩
  | .hbm, ⟨22, _⟩ => ⟨S_, .f32⟩
  | .hbm, ⟨23, _⟩ => ⟨S2048x2116, .f32⟩
  | .hbm, ⟨24, _⟩ => ⟨S2048x2116, .f32⟩
  | .hbm, ⟨25, _⟩ => ⟨S2048x2116, .f32⟩
  | .hbm, ⟨26, _⟩ => ⟨S_, .f32⟩
  | .hbm, ⟨27, _⟩ => ⟨S2048x2116, .f32⟩
  | .hbm, ⟨28, _⟩ => ⟨S2048x2116, .f32⟩
  | .hbm, ⟨29, _⟩ => ⟨S2048x2116, .f32⟩
  | .hbm, ⟨30, _⟩ => ⟨S_, .f32⟩
  | .hbm, ⟨31, _⟩ => ⟨S2048x2116, .f32⟩
  | .hbm, ⟨32, _⟩ => ⟨S2048x2116, .f32⟩
  | .hbm, ⟨33, _⟩ => ⟨S2048x2116, .f32⟩
  | .hbm, ⟨34, _⟩ => ⟨S_, .f32⟩
  | .hbm, ⟨35, _⟩ => ⟨S2048x2116, .f32⟩
  | .hbm, ⟨36, _⟩ => ⟨S2048x2116, .f32⟩
  | _, _ => ⟨S2048x2116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHeads.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadsIdeal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadsRefIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDn.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDnIdeal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDnRefIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWb.lean ====
abbrev S1536x256 : Shape := ⟨2, ![1536, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWbIdeal.lean ====
abbrev S1536x256 : Shape := ⟨2, ![1536, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWbRefIdeal.lean ====
abbrev S1536x256 : Shape := ⟨2, ![1536, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S_, .f32⟩
  | .hbm, ⟨5, _⟩ => ⟨S1536x256, .f32⟩
  | .hbm, ⟨6, _⟩ => ⟨S1536x256, .f32⟩
  | .hbm, ⟨7, _⟩ => ⟨S_, .f32⟩
  | .hbm, ⟨8, _⟩ => ⟨S1536x256, .f32⟩
  | .hbm, ⟨9, _⟩ => ⟨S1536x256, .f32⟩
  | .hbm, ⟨10, _⟩ => ⟨S1536x256, .f32⟩
  | .hbm, ⟨11, _⟩ => ⟨S_, .f32⟩
  | .hbm, ⟨12, _⟩ => ⟨S1536x256, .f32⟩
  | .hbm, ⟨13, _⟩ => ⟨S1536x256, .f32⟩
  | .hbm, ⟨14, _⟩ => ⟨S1536x256, .f32⟩
  | .hbm, ⟨15, _⟩ => ⟨S_, .f32⟩
  | .hbm, ⟨16, _⟩ => ⟨S1536x256, .f32⟩
  | .hbm, ⟨17, _⟩ => ⟨S1536x256, .f32⟩
  | .hbm, ⟨18, _⟩ => ⟨S1536x256, .f32⟩
  | .hbm, ⟨19, _⟩ => ⟨S_, .f32⟩
  | .hbm, ⟨20, _⟩ => ⟨S1536x256, .f32⟩
  | .hbm, ⟨21, _⟩ => ⟨S1536x256, .f32⟩
  | .hbm, ⟨22, _⟩ => ⟨S_, .f32⟩
  | .hbm, ⟨23, _⟩ => ⟨S1536x256, .f32⟩
  | .hbm, ⟨24, _⟩ => ⟨S1536x256, .f32⟩
  | .hbm, ⟨25, _⟩ => ⟨S1536x256, .f32⟩
  | .hbm, ⟨26, _⟩ => ⟨S_, .f32⟩
  | .hbm, ⟨27, _⟩ => ⟨S1536x256, .f32⟩
  | .hbm, ⟨28, _⟩ => ⟨S1536x256, .f32⟩
  | .hbm, ⟨29, _⟩ => ⟨S1536x256, .f32⟩
  | .hbm, ⟨30, _⟩ => ⟨S_, .f32⟩
  | .hbm, ⟨31, _⟩ => ⟨S1536x256, .f32⟩
  | .hbm, ⟨32, _⟩ => ⟨S1536x256, .f32⟩
  | .hbm, ⟨33, _⟩ => ⟨S1536x256, .f32⟩
  | .hbm, ⟨34, _⟩ => ⟨S_, .f32⟩
  | .hbm, ⟨35, _⟩ => ⟨S1536x256, .f32⟩
  | .hbm, ⟨36, _⟩ => ⟨S1536x256, .f32⟩
  | _, _ => ⟨S1536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairSum.lean ====
abbrev S4x7056x1024 : Shape := ⟨3, ![4, 7056, 1024]⟩
abbrev S4x336x1024 : Shape := ⟨3, ![4, 336, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x7056x1024, .bf16⟩
  | .hbm, ⟨1, _⟩ => ⟨S4x7056x1024, .bf16⟩
  | .hbm, ⟨2, _⟩ => ⟨S4x7056x1024, .bf16⟩
  | .local _ .vmem, ⟨0, _⟩ => ⟨S4x336x1024, .bf16⟩
  | .local _ .vmem, ⟨1, _⟩ => ⟨S4x336x1024, .bf16⟩
  | .local _ .vmem, ⟨2, _⟩ => ⟨S4x336x1024, .bf16⟩
  | .local _ .vmem, ⟨3, _⟩ => ⟨S4x336x1024, .bf16⟩
  | .local _ .vmem, ⟨4, _⟩ => ⟨S4x336x1024, .bf16⟩
  | .local _ .vmem, ⟨5, _⟩ => ⟨S4x336x1024, .bf16⟩
  | _, _ => ⟨S4x7056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x336x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x336x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x336x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumRefIdeal.lean ====
abbrev S4x7056x1024 : Shape := ⟨3, ![4, 7056, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x7056x1024, .bf16⟩
  | .hbm, ⟨1, _⟩ => ⟨S4x7056x1024, .bf16⟩
  | .hbm, ⟨2, _⟩ => ⟨S4x7056x1024, .f32⟩
  | .hbm, ⟨3, _⟩ => ⟨S4x7056x1024, .f32⟩
  | .hbm, ⟨4, _⟩ => ⟨S4x7056x1024, .f32⟩
  | .hbm, ⟨5, _⟩ => ⟨S4x7056x1024, .bf16⟩
  | _, _ => ⟨S4x7056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipSum.lean ====
abbrev S4x7056x1024 : Shape := ⟨3, ![4, 7056, 1024]⟩
abbrev S7056x1024 : Shape := ⟨2, ![7056, 1024]⟩
abbrev S4x336x1024 : Shape := ⟨3, ![4, 336, 1024]⟩
abbrev S336x1024 : Shape := ⟨2, ![336, 1024]⟩
abbrev S1x336x1024 : Shape := ⟨3, ![1, 336, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x7056x1024, .bf16⟩
  | .hbm, ⟨1, _⟩ => ⟨S7056x1024, .f32⟩
  | .local _ .vmem, ⟨0, _⟩ => ⟨S4x336x1024, .bf16⟩
  | .local _ .vmem, ⟨1, _⟩ => ⟨S4x336x1024, .bf16⟩
  | .local _ .vmem, ⟨2, _⟩ => ⟨S336x1024, .f32⟩
  | .local _ .vmem, ⟨3, _⟩ => ⟨S336x1024, .f32⟩
  | _, _ => ⟨S4x7056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x336x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumRefIdeal.lean ====
abbrev S4x7056x1024 : Shape := ⟨3, ![4, 7056, 1024]⟩
abbrev S_ : Shape := ⟨0, ![]⟩
abbrev S7056x1024 : Shape := ⟨2, ![7056, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x7056x1024, .bf16⟩
  | .hbm, ⟨1, _⟩ => ⟨S4x7056x1024, .f32⟩
  | .hbm, ⟨2, _⟩ => ⟨S_, .f32⟩
  | .hbm, ⟨3, _⟩ => ⟨S7056x1024, .f32⟩
  | _, _ => ⟨S4x7056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SmallSum.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumRefIdeal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallGrads.lean ====
abbrev S8 : Shape := ⟨1, ![8]⟩
abbrev S8x1024 : Shape := ⟨2, ![8, 1024]⟩
abbrev S8x2x1024 : Shape := ⟨3, ![8, 2, 1024]⟩
abbrev S8x2x8 : Shape := ⟨3, ![8, 2, 8]⟩
abbrev S8x2x128 : Shape := ⟨3, ![8, 2, 128]⟩
abbrev S8x2x4x3072 : Shape := ⟨4, ![8, 2, 4, 3072]⟩
abbrev S8x1 : Shape := ⟨2, ![8, 1]⟩
abbrev S8x1x1024 : Shape := ⟨3, ![8, 1, 1024]⟩
abbrev S8x1x8 : Shape := ⟨3, ![8, 1, 8]⟩
abbrev S8x8 : Shape := ⟨2, ![8, 8]⟩
abbrev S8x1x128 : Shape := ⟨3, ![8, 1, 128]⟩
abbrev S8x128 : Shape := ⟨2, ![8, 128]⟩
abbrev S8x1x4x3072 : Shape := ⟨4, ![8, 1, 4, 3072]⟩
abbrev S8x4x3072 : Shape := ⟨3, ![8, 4, 3072]⟩
abbrev S8x12288 : Shape := ⟨2, ![8, 12288]⟩
abbrev S8x32033 : Shape := ⟨2, ![8, 32033]⟩
abbrev S_ : Shape := ⟨0, ![]⟩
abbrev S8x32768 : Shape := ⟨2, ![8, 32768]⟩
abbrev S8x256x128 : Shape := ⟨3, ![8, 256, 128]⟩
abbrev S256x128 : Shape := ⟨2, ![256, 128]⟩
abbrev S1x256x128 : Shape := ⟨3, ![1, 256, 128]⟩
abbrev S32768 : Shape := ⟨1, ![32768]⟩
abbrev S1024 : Shape := ⟨1, ![1024]⟩
abbrev S1x1024 : Shape := ⟨2, ![1, 1024]⟩
abbrev S2x1024 : Shape := ⟨2, ![2, 1024]⟩
abbrev S1x8 : Shape := ⟨2, ![1, 8]⟩
abbrev S2x8 : Shape := ⟨2, ![2, 8]⟩
abbrev S128 : Shape := ⟨1, ![128]⟩
abbrev S1x128 : Shape := ⟨2, ![1, 128]⟩
abbrev S2x128 : Shape := ⟨2, ![2, 128]⟩
abbrev S12288 : Shape := ⟨1, ![12288]⟩
abbrev S4x3072 : Shape := ⟨2, ![4, 3072]⟩
abbrev S1x4x3072 : Shape := ⟨3, ![1, 4, 3072]⟩
abbrev S2x4x3072 : Shape := ⟨3, ![2, 4, 3072]⟩
abbrev S2x4x768 : Shape := ⟨3, ![2, 4, 768]⟩
abbrev S1 : Shape := ⟨1, ![1]⟩

abbrev nBuf : Space → Nat
  | .hbm => 91
  | .vmem => 2
  | .smem => 0
  | _ => 0

abbrev bufTy : (tb : Table) → Fin (tcTables nBuf tb) → BufTy
  | .hbm, ⟨0, _⟩ => ⟨S8, .f32⟩
  | .hbm, ⟨1, _⟩ => ⟨S8x1024, .f32⟩
  | .hbm, ⟨2, _⟩ => ⟨S8x2x1024, .f32⟩
  | .hbm, ⟨3, _⟩ => ⟨S8x2x1024, .f32⟩
  | .hbm, ⟨4, _⟩ => ⟨S8x2x1024, .f32⟩
  | .hbm, ⟨5, _⟩ => ⟨S8x2x8, .f32⟩
  | .hbm, ⟨6, _⟩ => ⟨S8x2x8, .f32⟩
  | .hbm, ⟨7, _⟩ => ⟨S8x2x128, .f32⟩
  | .hbm, ⟨8, _⟩ => ⟨S8x2x4x3072, .f32⟩
  | .hbm, ⟨9, _⟩ => ⟨S8x1, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1024, .f32⟩
  | .hbm, ⟨16, _⟩ => ⟨S8x1x8, .f32⟩
  | .hbm, ⟨17, _⟩ => ⟨S8x8, .f32⟩
  | .hbm, ⟨18, _⟩ => ⟨S8x1x8, .f32⟩
  | .hbm, ⟨19, _⟩ => ⟨S8x8, .f32⟩
  | .hbm, ⟨20, _⟩ => ⟨S8x1x128, .f32⟩
  | .hbm, ⟨21, _⟩ => ⟨S8x128, .f32⟩
  | .hbm, ⟨22, _⟩ => ⟨S8x1x4x3072, .f32⟩
  | .hbm, ⟨23, _⟩ => ⟨S8x4x3072, .f32⟩
  | .hbm, ⟨24, _⟩ => ⟨S8x12288, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x1024, .f32⟩
  | .hbm, ⟨29, _⟩ => ⟨S8x1x1024, .f32⟩
  | .hbm, ⟨30, _⟩ => ⟨S8x1024, .f32⟩
  | .hbm, ⟨31, _⟩ => ⟨S8x1x8, .f32⟩
  | .hbm, ⟨32, _⟩ => ⟨S8x8, .f32⟩
  | .hbm, ⟨33, _⟩ => ⟨S8x1x8, .f32⟩
  | .hbm, ⟨34, _⟩ => ⟨S8x8, .f32⟩
  | .hbm, ⟨35, _⟩ => ⟨S8x1x128, .f32⟩
  | .hbm, ⟨36, _⟩ => ⟨S8x128, .f32⟩
  | .hbm, ⟨37, _⟩ => ⟨S8x1x4x3072, .f32⟩
  | .hbm, ⟨38, _⟩ => ⟨S8x4x3072, .f32⟩
  | .hbm, ⟨39, _⟩ => ⟨S8x12288, .f32⟩
  | .hbm, ⟨40, _⟩ => ⟨S8x32033, .f32⟩
  | .hbm, ⟨41, _⟩ => ⟨S_, .i32⟩
  | .hbm, ⟨42, _⟩ => ⟨S_, .f32⟩
  | .hbm, ⟨43, _⟩ => ⟨S8x32768, .f32⟩
  | .hbm, ⟨44, _⟩ => ⟨S8x256x128, .f32⟩
  | .hbm, ⟨45, _⟩ => ⟨S256x128, .f32⟩
  | .hbm, ⟨46, _⟩ => ⟨S32768, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S2x1024, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S1x1024, .f32⟩
  | .hbm, ⟨61, _⟩ => ⟨S2x1024, .f32⟩
  | .hbm, ⟨62, _⟩ => ⟨S8, .f32⟩
  | .hbm, ⟨63, _⟩ => ⟨S8, .f32⟩
  | .hbm, ⟨64, _⟩ => ⟨S1x8, .f32⟩
  | .hbm, ⟨65, _⟩ => ⟨S1x8, .f32⟩
  | .hbm, ⟨66, _⟩ => ⟨S2x8, .f32⟩
  | .hbm, ⟨67, _⟩ => ⟨S8, .f32⟩
  | .hbm, ⟨68, _⟩ => ⟨S8, .f32⟩
  | .hbm, ⟨69, _⟩ => ⟨S1x8, .f32⟩
  | .hbm, ⟨70, _⟩ => ⟨S1x8, .f32⟩
  | .hbm, ⟨71, _⟩ => ⟨S2x8, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S2x128, .f32⟩
  | .hbm, ⟨77, _⟩ => ⟨S12288, .f32⟩
  | .hbm, ⟨78, _⟩ => ⟨S4x3072, .f32⟩
  | .hbm, ⟨79, _⟩ => ⟨S12288, .f32⟩
  | .hbm, ⟨80, _⟩ => ⟨S4x3072, .f32⟩
  | .hbm, ⟨81, _⟩ => ⟨S1x4x3072, .f32⟩
  | .hbm, ⟨82, _⟩ => ⟨S1x4x3072, .f32⟩
  | .hbm, ⟨83, _⟩ => ⟨S2x4x3072, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S2x4x768, .f32⟩
  | .hbm, ⟨88, _⟩ => ⟨S1, .f32⟩
  | .hbm, ⟨89, _⟩ => ⟨S_, .f32⟩
  | .hbm, ⟨90, _⟩ => ⟨S1024, .f32⟩
  | .local _ .vmem, ⟨0, _⟩ => ⟨S8x256x128, .f32⟩
  | .local _ .vmem, ⟨1, _⟩ => ⟨S256x128, .f32⟩
  | _, _ => ⟨S8, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_call0_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_c_0 : Ref sig .tc := ⟨.hbm, 84, rfl⟩
abbrev main_c_1 : Ref sig .tc := ⟨.hbm, 85, rfl⟩
abbrev main_c_2 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallGradsRefIdeal.lean ====
abbrev S8 : Shape := ⟨1, ![8]⟩
abbrev S8x1024 : Shape := ⟨2, ![8, 1024]⟩
abbrev S8x2x1024 : Shape := ⟨3, ![8, 2, 1024]⟩
abbrev S8x2x8 : Shape := ⟨3, ![8, 2, 8]⟩
abbrev S8x2x128 : Shape := ⟨3, ![8, 2, 128]⟩
abbrev S8x2x4x3072 : Shape := ⟨4, ![8, 2, 4, 3072]⟩
abbrev S_ : Shape := ⟨0, ![]⟩
abbrev S1024 : Shape := ⟨1, ![1024]⟩
abbrev S2x1024 : Shape := ⟨2, ![2, 1024]⟩
abbrev S2x8 : Shape := ⟨2, ![2, 8]⟩
abbrev S2x128 : Shape := ⟨2, ![2, 128]⟩
abbrev S8x2x4x768 : Shape := ⟨4, ![8, 2, 4, 768]⟩
abbrev S2x4x768 : Shape := ⟨3, ![2, 4, 768]⟩

abbrev nBuf : Space → Nat
  | .hbm => 28
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x1024, .f32⟩
  | .hbm, ⟨2, _⟩ => ⟨S8x2x1024, .f32⟩
  | .hbm, ⟨3, _⟩ => ⟨S8x2x1024, .f32⟩
  | .hbm, ⟨4, _⟩ => ⟨S8x2x1024, .f32⟩
  | .hbm, ⟨5, _⟩ => ⟨S8x2x8, .f32⟩
  | .hbm, ⟨6, _⟩ => ⟨S8x2x8, .f32⟩
  | .hbm, ⟨7, _⟩ => ⟨S8x2x128, .f32⟩
  | .hbm, ⟨8, _⟩ => ⟨S8x2x4x3072, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S_, .f32⟩
  | .hbm, ⟨20, _⟩ => ⟨S2x8, .f32⟩
  | .hbm, ⟨21, _⟩ => ⟨S_, .f32⟩
  | .hbm, ⟨22, _⟩ => ⟨S2x8, .f32⟩
  | .hbm, ⟨23, _⟩ => ⟨S_, .f32⟩
  | .hbm, ⟨24, _⟩ => ⟨S2x128, .f32⟩
  | .hbm, ⟨25, _⟩ => ⟨S8x2x4x768, .f32⟩
  | .hbm, ⟨26, _⟩ => ⟨S_, .f32⟩
  | .hbm, ⟨27, _⟩ => ⟨S2x4x768, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_cst_6 : Ref sig .tc := ⟨.hbm, 23, rfl⟩
abbrev main_v7 : Ref sig .tc := ⟨.hbm, 24, rfl⟩
abbrev main_v8 : Ref sig .tc := ⟨.hbm, 25, rfl⟩
abbrev main_cst_7 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== BigGrads.lean ====
abbrev S4x2x1024x704 : Shape := ⟨4, ![4, 2, 1024, 704]⟩
abbrev S4x2x704x1024 : Shape := ⟨4, ![4, 2, 704, 1024]⟩
abbrev S4x2x1024x2116 : Shape := ⟨4, ![4, 2, 1024, 2116]⟩
abbrev S4x2x256x1024 : Shape := ⟨4, ![4, 2, 256, 1024]⟩
abbrev S4x2x768x256 : Shape := ⟨4, ![4, 2, 768, 256]⟩
abbrev S4x1x1024x704 : Shape := ⟨4, ![4, 1, 1024, 704]⟩
abbrev S4x1024x704 : Shape := ⟨3, ![4, 1024, 704]⟩
abbrev S4x704x1024 : Shape := ⟨3, ![4, 704, 1024]⟩
abbrev S4x1x704x1024 : Shape := ⟨4, ![4, 1, 704, 1024]⟩
abbrev S4x1x1024x2116 : Shape := ⟨4, ![4, 1, 1024, 2116]⟩
abbrev S4x1024x2116 : Shape := ⟨3, ![4, 1024, 2116]⟩
abbrev S4x2116x1024 : Shape := ⟨3, ![4, 2116, 1024]⟩
abbrev S4x1x256x1024 : Shape := ⟨4, ![4, 1, 256, 1024]⟩
abbrev S4x256x1024 : Shape := ⟨3, ![4, 256, 1024]⟩
abbrev S4x1x768x256 : Shape := ⟨4, ![4, 1, 768, 256]⟩
abbrev S4x768x256 : Shape := ⟨3, ![4, 768, 256]⟩
abbrev S4x192x1024 : Shape := ⟨3, ![4, 192, 1024]⟩
abbrev S_ : Shape := ⟨0, ![]⟩
abbrev S4x24x1024 : Shape := ⟨3, ![4, 24, 1024]⟩
abbrev S4x11720x1024 : Shape := ⟨3, ![4, 11720, 1024]⟩
abbrev S4x2392x1024 : Shape := ⟨3, ![4, 2392, 1024]⟩
abbrev S4x14112x1024 : Shape := ⟨3, ![4, 14112, 1024]⟩
abbrev S4x2x7056x1024 : Shape := ⟨4, ![4, 2, 7056, 1024]⟩
abbrev S4x1x7056x1024 : Shape := ⟨4, ![4, 1, 7056, 1024]⟩
abbrev S4x7056x1024 : Shape := ⟨3, ![4, 7056, 1024]⟩
abbrev S7056x1024 : Shape := ⟨2, ![7056, 1024]⟩
abbrev S4x336x1024 : Shape := ⟨3, ![4, 336, 1024]⟩
abbrev S336x1024 : Shape := ⟨2, ![336, 1024]⟩
abbrev S1x336x1024 : Shape := ⟨3, ![1, 336, 1024]⟩
abbrev S14112x1024 : Shape := ⟨2, ![14112, 1024]⟩
abbrev S704x1024 : Shape := ⟨2, ![704, 1024]⟩
abbrev S1024x704 : Shape := ⟨2, ![1024, 704]⟩
abbrev S2116x1024 : Shape := ⟨2, ![2116, 1024]⟩
abbrev S1024x2116 : Shape := ⟨2, ![1024, 2116]⟩
abbrev S256x1024 : Shape := ⟨2, ![256, 1024]⟩
abbrev S192x1024 : Shape := ⟨2, ![192, 1024]⟩
abbrev S768x256 : Shape := ⟨2, ![768, 256]⟩
abbrev S1x1024x704 : Shape := ⟨3, ![1, 1024, 704]⟩
abbrev S2x1024x704 : Shape := ⟨3, ![2, 1024, 704]⟩
abbrev S1x704x1024 : Shape := ⟨3, ![1, 704, 1024]⟩
abbrev S2x704x1024 : Shape := ⟨3, ![2, 704, 1024]⟩
abbrev S1x1024x2116 : Shape := ⟨3, ![1, 1024, 2116]⟩
abbrev S2x1024x2116 : Shape := ⟨3, ![2, 1024, 2116]⟩
abbrev S1x256x1024 : Shape := ⟨3, ![1, 256, 1024]⟩
abbrev S2x256x1024 : Shape := ⟨3, ![2, 256, 1024]⟩
abbrev S1x768x256 : Shape := ⟨3, ![1, 768, 256]⟩
abbrev S2x768x256 : Shape := ⟨3, ![2, 768, 256]⟩

abbrev nBuf : Space → Nat
  | .hbm => 137
  | .vmem => 8
  | .smem => 0
  | _ => 0

abbrev hbmTy0_0 (i : Nat) : BufTy := match i % 128 with
  | 0 => ⟨S4x2x1024x704, .bf16⟩
  | 1 => ⟨S4x2x1024x704, .bf16⟩
  | 2 => ⟨S4x2x704x1024, .bf16⟩
  | 3 => ⟨S4x2x1024x2116, .bf16⟩
  | 4 => ⟨S4x2x256x1024, .bf16⟩
  | 5 => ⟨S4x2x768x256, .bf16⟩
  | 6 => ⟨S4x2x256x1024, .bf16⟩
  | 7 => ⟨S4x2x1024x704, .bf16⟩
  | 8 => ⟨S4x2x1024x704, .bf16⟩
  | 9 => ⟨S4x2x704x1024, .bf16⟩
  | 10 => ⟨S4x1x1024x704, .bf16⟩
  | 11 => ⟨S4x1024x704, .bf16⟩
  | 12 => ⟨S4x704x1024, .bf16⟩
  | 13 => ⟨S4x1x1024x704, .bf16⟩
  | 14 => ⟨S4x1024x704, .bf16⟩
  | 15 => ⟨S4x704x1024, .bf16⟩
  | 16 => ⟨S4x1x704x1024, .bf16⟩
  | 17 => ⟨S4x704x1024, .bf16⟩
  | 18 => ⟨S4x1x1024x2116, .bf16⟩
  | 19 => ⟨S4x1024x2116, .bf16⟩
  | 20 => ⟨S4x2116x1024, .bf16⟩
  | 21 => ⟨S4x1x256x1024, .bf16⟩
  | 22 => ⟨S4x256x1024, .bf16⟩
  | 23 => ⟨S4x1x768x256, .bf16⟩
  | 24 => ⟨S4x768x256, .bf16⟩
  | 25 => ⟨S4x192x1024, .bf16⟩
  | 26 => ⟨S4x1x256x1024, .bf16⟩
  | 27 => ⟨S4x256x1024, .bf16⟩
  | 28 => ⟨S4x1x1024x704, .bf16⟩
  | 29 => ⟨S4x1024x704, .bf16⟩
  | 30 => ⟨S4x704x1024, .bf16⟩
  | 31 => ⟨S4x1x1024x704, .bf16⟩
  | 32 => ⟨S4x1024x704, .bf16⟩
  | 33 => ⟨S4x704x1024, .bf16⟩
  | 34 => ⟨S4x1x704x1024, .bf16⟩
  | 35 => ⟨S4x704x1024, .bf16⟩
  | 36 => ⟨S4x1x1024x704, .bf16⟩
  | 37 => ⟨S4x1024x704, .bf16⟩
  | 38 => ⟨S4x704x1024, .bf16⟩
  | 39 => ⟨S4x1x1024x704, .bf16⟩
  | 40 => ⟨S4x1024x704, .bf16⟩
  | 41 => ⟨S4x704x1024, .bf16⟩
  | 42 => ⟨S4x1x704x1024, .bf16⟩
  | 43 => ⟨S4x704x1024, .bf16⟩
  | 44 => ⟨S4x1x1024x2116, .bf16⟩
  | 45 => ⟨S4x1024x2116, .bf16⟩
  | 46 => ⟨S4x2116x1024, .bf16⟩
  | 47 => ⟨S4x1x256x1024, .bf16⟩
  | 48 => ⟨S4x256x1024, .bf16⟩
  | 49 => ⟨S4x1x768x256, .bf16⟩
  | 50 => ⟨S4x768x256, .bf16⟩
  | 51 => ⟨S4x192x1024, .bf16⟩
  | 52 => ⟨S4x1x256x1024, .bf16⟩
  | 53 => ⟨S4x256x1024, .bf16⟩
  | 54 => ⟨S4x1x1024x704, .bf16⟩
  | 55 => ⟨S4x1024x704, .bf16⟩
  | 56 => ⟨S4x704x1024, .bf16⟩
  | 57 => ⟨S4x1x1024x704, .bf16⟩
  | 58 => ⟨S4x1024x704, .bf16⟩
  | 59 => ⟨S4x704x1024, .bf16⟩
  | 60 => ⟨S4x1x704x1024, .bf16⟩
  | 61 => ⟨S4x704x1024, .bf16⟩
  | 62 => ⟨S_, .bf16⟩
  | 63 => ⟨S4x24x1024, .bf16⟩
  | 64 => ⟨S4x11720x1024, .bf16⟩
  | 65 => ⟨S4x2392x1024, .bf16⟩
  | 66 => ⟨S4x14112x1024, .bf16⟩
  | 67 => ⟨S4x2x7056x1024, .bf16⟩
  | 68 => ⟨S4x1x7056x1024, .bf16⟩
  | 69 => ⟨S4x7056x1024, .bf16⟩
  | 70 => ⟨S7056x1024, .f32⟩
  | 71 => ⟨S4x1x7056x1024, .bf16⟩
  | 72 => ⟨S4x7056x1024, .bf16⟩
  | 73 => ⟨S7056x1024, .f32⟩
  | 74 => ⟨S14112x1024, .f32⟩
  | 75 => ⟨S704x1024, .f32⟩
  | 76 => ⟨S1024x704, .f32⟩
  | 77 => ⟨S704x1024, .f32⟩
  | 78 => ⟨S1024x704, .f32⟩
  | 79 => ⟨S704x1024, .f32⟩
  | 80 => ⟨S2116x1024, .f32⟩
  | 81 => ⟨S1024x2116, .f32⟩
  | 82 => ⟨S256x1024, .f32⟩
  | 83 => ⟨S192x1024, .f32⟩
  | 84 => ⟨S768x256, .f32⟩
  | 85 => ⟨S256x1024, .f32⟩
  | 86 => ⟨S704x1024, .f32⟩
  | 87 => ⟨S1024x704, .f32⟩
  | 88 => ⟨S704x1024, .f32⟩
  | 89 => ⟨S1024x704, .f32⟩
  | 90 => ⟨S704x1024, .f32⟩
  | 91 => ⟨S704x1024, .f32⟩
  | 92 => ⟨S1024x704, .f32⟩
  | 93 => ⟨S704x1024, .f32⟩
  | 94 => ⟨S1024x704, .f32⟩
  | 95 => ⟨S704x1024, .f32⟩
  | 96 => ⟨S2116x1024, .f32⟩
  | 97 => ⟨S1024x2116, .f32⟩
  | 98 => ⟨S256x1024, .f32⟩
  | 99 => ⟨S192x1024, .f32⟩
  | 100 => ⟨S768x256, .f32⟩
  | 101 => ⟨S256x1024, .f32⟩
  | 102 => ⟨S704x1024, .f32⟩
  | 103 => ⟨S1024x704, .f32⟩
  | 104 => ⟨S704x1024, .f32⟩
  | 105 => ⟨S1024x704, .f32⟩
  | 106 => ⟨S704x1024, .f32⟩
  | 107 => ⟨S1x1024x704, .f32⟩
  | 108 => ⟨S1x1024x704, .f32⟩
  | 109 => ⟨S2x1024x704, .f32⟩
  | 110 => ⟨S1x1024x704, .f32⟩
  | 111 => ⟨S1x1024x704, .f32⟩
  | 112 => ⟨S2x1024x704, .f32⟩
  | 113 => ⟨S1x704x1024, .f32⟩
  | 114 => ⟨S1x704x1024, .f32⟩
  | 115 => ⟨S2x704x1024, .f32⟩
  | 116 => ⟨S1x1024x2116, .f32⟩
  | 117 => ⟨S1x1024x2116, .f32⟩
  | 118 => ⟨S2x1024x2116, .f32⟩
  | 119 => ⟨S1x256x1024, .f32⟩
  | 120 => ⟨S1x256x1024, .f32⟩
  | 121 => ⟨S2x256x1024, .f32⟩
  | 122 => ⟨S1x768x256, .f32⟩
  | 123 => ⟨S1x768x256, .f32⟩
  | 124 => ⟨S2x768x256, .f32⟩
  | 125 => ⟨S1x256x1024, .f32⟩
  | 126 => ⟨S1x256x1024, .f32⟩
  | 127 => ⟨S2x256x1024, .f32⟩
  | _ => ⟨S4x2x1024x704, .bf16⟩

abbrev hbmTy0_1 (i : Nat) : BufTy := match i % 128 with
  | 0 => ⟨S1x1024x704, .f32⟩
  | 1 => ⟨S1x1024x704, .f32⟩
  | 2 => ⟨S2x1024x704, .f32⟩
  | 3 => ⟨S1x1024x704, .f32⟩
  | 4 => ⟨S1x1024x704, .f32⟩
  | 5 => ⟨S2x1024x704, .f32⟩
  | 6 => ⟨S1x704x1024, .f32⟩
  | 7 => ⟨S1x704x1024, .f32⟩
  | 8 => ⟨S2x704x1024, .f32⟩
  | _ => ⟨S4x2x1024x704, .bf16⟩

abbrev hbmTy (i : Nat) : BufTy := match i / 128 with
  | 0 => hbmTy0_0 i
  | 1 => hbmTy0_1 i
  | _ => ⟨S4x2x1024x704, .bf16⟩

abbrev bufTy : (tb : Table) → Fin (tcTables nBuf tb) → BufTy
  | .hbm, ⟨i, _⟩ => hbmTy i
  | .local _ .vmem, ⟨0, _⟩ => ⟨S4x336x1024, .bf16⟩
  | .local _ .vmem, ⟨1, _⟩ => ⟨S4x336x1024, .bf16⟩
  | .local _ .vmem, ⟨2, _⟩ => ⟨S336x1024, .f32⟩
  | .local _ .vmem, ⟨3, _⟩ => ⟨S336x1024, .f32⟩
  | .local _ .vmem, ⟨4, _⟩ => ⟨S4x336x1024, .bf16⟩
  | .local _ .vmem, ⟨5, _⟩ => ⟨S4x336x1024, .bf16⟩
  | .local _ .vmem, ⟨6, _⟩ => ⟨S336x1024, .f32⟩
  | .local _ .vmem, ⟨7, _⟩ => ⟨S336x1024, .f32⟩
  | _, _ => ⟨S4x2x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x336x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![21], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x336x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S336x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== BigGradsRefIdeal.lean ====
abbrev S4x2x1024x704 : Shape := ⟨4, ![4, 2, 1024, 704]⟩
abbrev S4x2x704x1024 : Shape := ⟨4, ![4, 2, 704, 1024]⟩
abbrev S4x2x1024x2116 : Shape := ⟨4, ![4, 2, 1024, 2116]⟩
abbrev S4x2x256x1024 : Shape := ⟨4, ![4, 2, 256, 1024]⟩
abbrev S4x2x768x256 : Shape := ⟨4, ![4, 2, 768, 256]⟩
abbrev S_ : Shape := ⟨0, ![]⟩
abbrev S2x1024x704 : Shape := ⟨3, ![2, 1024, 704]⟩
abbrev S2x704x1024 : Shape := ⟨3, ![2, 704, 1024]⟩
abbrev S2x1024x2116 : Shape := ⟨3, ![2, 1024, 2116]⟩
abbrev S2x256x1024 : Shape := ⟨3, ![2, 256, 1024]⟩
abbrev S2x768x256 : Shape := ⟨3, ![2, 768, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1024x704, .bf16⟩
  | .hbm, ⟨1, _⟩ => ⟨S4x2x1024x704, .bf16⟩
  | .hbm, ⟨2, _⟩ => ⟨S4x2x704x1024, .bf16⟩
  | .hbm, ⟨3, _⟩ => ⟨S4x2x1024x2116, .bf16⟩
  | .hbm, ⟨4, _⟩ => ⟨S4x2x256x1024, .bf16⟩
  | .hbm, ⟨5, _⟩ => ⟨S4x2x768x256, .bf16⟩
  | .hbm, ⟨6, _⟩ => ⟨S4x2x256x1024, .bf16⟩
  | .hbm, ⟨7, _⟩ => ⟨S4x2x1024x704, .bf16⟩
  | .hbm, ⟨8, _⟩ => ⟨S4x2x1024x704, .bf16⟩
  | .hbm, ⟨9, _⟩ => ⟨S4x2x704x1024, .bf16⟩
  | .hbm, ⟨10, _⟩ => ⟨S4x2x1024x704, .f32⟩
  | .hbm, ⟨11, _⟩ => ⟨S_, .f32⟩
  | .hbm, ⟨12, _⟩ => ⟨S2x1024x704, .f32⟩
  | .hbm, ⟨13, _⟩ => ⟨S4x2x1024x704, .f32⟩
  | .hbm, ⟨14, _⟩ => ⟨S_, .f32⟩
  | .hbm, ⟨15, _⟩ => ⟨S2x1024x704, .f32⟩
  | .hbm, ⟨16, _⟩ => ⟨S4x2x704x1024, .f32⟩
  | .hbm, ⟨17, _⟩ => ⟨S_, .f32⟩
  | .hbm, ⟨18, _⟩ => ⟨S2x704x1024, .f32⟩
  | .hbm, ⟨19, _⟩ => ⟨S4x2x1024x2116, .f32⟩
  | .hbm, ⟨20, _⟩ => ⟨S_, .f32⟩
  | .hbm, ⟨21, _⟩ => ⟨S2x1024x2116, .f32⟩
  | .hbm, ⟨22, _⟩ => ⟨S4x2x256x1024, .f32⟩
  | .hbm, ⟨23, _⟩ => ⟨S_, .f32⟩
  | .hbm, ⟨24, _⟩ => ⟨S2x256x1024, .f32⟩
  | .hbm, ⟨25, _⟩ => ⟨S4x2x768x256, .f32⟩
  | .hbm, ⟨26, _⟩ => ⟨S_, .f32⟩
  | .hbm, ⟨27, _⟩ => ⟨S2x768x256, .f32⟩
  | .hbm, ⟨28, _⟩ => ⟨S4x2x256x1024, .f32⟩
  | .hbm, ⟨29, _⟩ => ⟨S_, .f32⟩
  | .hbm, ⟨30, _⟩ => ⟨S2x256x1024, .f32⟩
  | .hbm, ⟨31, _⟩ => ⟨S4x2x1024x704, .f32⟩
  | .hbm, ⟨32, _⟩ => ⟨S_, .f32⟩
  | .hbm, ⟨33, _⟩ => ⟨S2x1024x704, .f32⟩
  | .hbm, ⟨34, _⟩ => ⟨S4x2x1024x704, .f32⟩
  | .hbm, ⟨35, _⟩ => ⟨S_, .f32⟩
  | .hbm, ⟨36, _⟩ => ⟨S2x1024x704, .f32⟩
  | .hbm, ⟨37, _⟩ => ⟨S4x2x704x1024, .f32⟩
  | .hbm, ⟨38, _⟩ => ⟨S_, .f32⟩
  | .hbm, ⟨39, _⟩ => ⟨S2x704x1024, .f32⟩
  | _, _ => ⟨S4x2x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_cst_7 : Ref sig .tc := ⟨.hbm, 35, rfl⟩
abbrev main_v17 : Ref sig .tc := ⟨.hbm, 36, rfl⟩
abbrev main_v18 : Ref sig .tc := ⟨.hbm, 37, rfl⟩
abbrev main_cst_8 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== AdaBGrad.lean ====
abbrev S8x9216 : Shape := ⟨2, ![8, 9216]⟩
abbrev S1x9216 : Shape := ⟨2, ![1, 9216]⟩
abbrev S9216 : Shape := ⟨1, ![9216]⟩

abbrev nBuf : Space → Nat
  | .hbm => 2
  | .vmem => 2
  | .smem => 0
  | _ => 0

abbrev bufTy : (tb : Table) → Fin (tcTables nBuf tb) → BufTy
  | .hbm, ⟨0, _⟩ => ⟨S8x9216, .f32⟩
  | .hbm, ⟨1, _⟩ => ⟨S1x9216, .f32⟩
  | .local _ .vmem, ⟨0, _⟩ => ⟨S8x9216, .f32⟩
  | .local _ .vmem, ⟨1, _⟩ => ⟨S1x9216, .f32⟩
  | _, _ => ⟨S8x9216, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== AdaBGradRefIdeal.lean ====
abbrev S8x9216 : Shape := ⟨2, ![8, 9216]⟩
abbrev S_ : Shape := ⟨0, ![]⟩
abbrev S9216 : Shape := ⟨1, ![9216]⟩
abbrev S1x9216 : Shape := ⟨2, ![1, 9216]⟩

abbrev nBuf : Space → Nat
  | .hbm => 4
  | .vmem => 0
  | .smem => 0
  | _ => 0

abbrev bufTy : (tb : Table) → Fin (tcTables nBuf tb) → BufTy
  | .hbm, ⟨0, _⟩ => ⟨S8x9216, .f32⟩
  | .hbm, ⟨1, _⟩ => ⟨S_, .f32⟩
  | .hbm, ⟨2, _⟩ => ⟨S9216, .f32⟩
  | .hbm, ⟨3, _⟩ => ⟨S1x9216, .f32⟩
  | _, _ => ⟨S8x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdaWGrad.lean ====
abbrev S8x1024 : Shape := ⟨2, ![8, 1024]⟩
abbrev S8x2304 : Shape := ⟨2, ![8, 2304]⟩
abbrev S_ : Shape := ⟨0, ![]⟩
abbrev S16x1024 : Shape := ⟨2, ![16, 1024]⟩
abbrev S16x2304 : Shape := ⟨2, ![16, 2304]⟩
abbrev S1024x2304 : Shape := ⟨2, ![1024, 2304]⟩
abbrev S16x384 : Shape := ⟨2, ![16, 384]⟩
abbrev S1024x384 : Shape := ⟨2, ![1024, 384]⟩

abbrev nBuf : Space → Nat
  | .hbm => 11
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S_, .i32⟩
  | .hbm, ⟨3, _⟩ => ⟨S_, .f32⟩
  | .hbm, ⟨4, _⟩ => ⟨S16x1024, .f32⟩
  | .hbm, ⟨5, _⟩ => ⟨S16x1024, .bf16⟩
  | .hbm, ⟨6, _⟩ => ⟨S_, .i32⟩
  | .hbm, ⟨7, _⟩ => ⟨S_, .f32⟩
  | .hbm, ⟨8, _⟩ => ⟨S16x2304, .f32⟩
  | .hbm, ⟨9, _⟩ => ⟨S16x2304, .bf16⟩
  | .hbm, ⟨10, _⟩ => ⟨S1024x2304, .f32⟩
  | .local _ .vmem, ⟨0, _⟩ => ⟨S16x1024, .bf16⟩
  | .local _ .vmem, ⟨1, _⟩ => ⟨S16x384, .bf16⟩
  | .local _ .vmem, ⟨2, _⟩ => ⟨S16x384, .bf16⟩
  | .local _ .vmem, ⟨3, _⟩ => ⟨S1024x384, .f32⟩
  | .local _ .vmem, ⟨4, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaWGradRefIdeal.lean ====
abbrev S8x1024 : Shape := ⟨2, ![8, 1024]⟩
abbrev S8x2304 : Shape := ⟨2, ![8, 2304]⟩
abbrev S1024x8 : Shape := ⟨2, ![1024, 8]⟩
abbrev S1024x2304 : Shape := ⟨2, ![1024, 2304]⟩

abbrev nBuf : Space → Nat
  | .hbm => 4
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x8, .f32⟩
  | .hbm, ⟨3, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CSilu.lean ====
abbrev S8x1024 : Shape := ⟨2, ![8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .local _ .vmem, ⟨0, _⟩ => ⟨S8x1024, .f32⟩
  | .local _ .vmem, ⟨1, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CSiluRefIdeal.lean ====
abbrev S8x1024 : Shape := ⟨2, ![8, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== AdaFwd.lean ====
abbrev S16x1024 : Shape := ⟨2, ![16, 1024]⟩
abbrev S1024x2304 : Shape := ⟨2, ![1024, 2304]⟩
abbrev S1x2304 : Shape := ⟨2, ![1, 2304]⟩
abbrev S16x2304 : Shape := ⟨2, ![16, 2304]⟩
abbrev S1024x384 : Shape := ⟨2, ![1024, 384]⟩
abbrev S1x384 : Shape := ⟨2, ![1, 384]⟩
abbrev S16x384 : Shape := ⟨2, ![16, 384]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x2304, .f32⟩
  | .hbm, ⟨3, _⟩ => ⟨S16x1024, .bf16⟩
  | .hbm, ⟨4, _⟩ => ⟨S1024x2304, .bf16⟩
  | .hbm, ⟨5, _⟩ => ⟨S16x2304, .f32⟩
  | .local _ .vmem, ⟨0, _⟩ => ⟨S16x1024, .bf16⟩
  | .local _ .vmem, ⟨1, _⟩ => ⟨S1024x384, .bf16⟩
  | .local _ .vmem, ⟨2, _⟩ => ⟨S1024x384, .bf16⟩
  | .local _ .vmem, ⟨3, _⟩ => ⟨S1x384, .f32⟩
  | .local _ .vmem, ⟨4, _⟩ => ⟨S1x384, .f32⟩
  | .local _ .vmem, ⟨5, _⟩ => ⟨S16x384, .f32⟩
  | .local _ .vmem, ⟨6, _⟩ => ⟨S16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaFwdRefIdeal.lean ====
abbrev S16x1024 : Shape := ⟨2, ![16, 1024]⟩
abbrev S1024x2304 : Shape := ⟨2, ![1024, 2304]⟩
abbrev S1x2304 : Shape := ⟨2, ![1, 2304]⟩
abbrev S16x2304 : Shape := ⟨2, ![16, 2304]⟩

abbrev nBuf : Space → Nat
  | .hbm => 6
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x2304, .f32⟩
  | .hbm, ⟨3, _⟩ => ⟨S16x2304, .f32⟩
  | .hbm, ⟨4, _⟩ => ⟨S16x2304, .f32⟩
  | .hbm, ⟨5, _⟩ => ⟨S16x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnNorm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnGu.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuIdeal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnAct.lean ====
abbrev S4096x5632 : Shape := ⟨2, ![4096, 5632]⟩
abbrev S4096x2816 : Shape := ⟨2, ![4096, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnActRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MixQkv.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixZ.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixZIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixZRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixBa.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBaIdeal.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBaRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDa.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaIdeal.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaRefIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixPg.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixPgIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixPgRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixWb.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S768x512 : Shape := ⟨2, ![768, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S768x512, .bf16⟩
  | .local _ .vmem, ⟨3, _⟩ => ⟨S768x512, .bf16⟩
  | .local _ .vmem, ⟨4, _⟩ => ⟨S1024x512, .bf16⟩
  | .local _ .vmem, ⟨5, _⟩ => ⟨S1024x512, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWbRefIdeal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x768, .f32⟩
  | .hbm, ⟨3, _⟩ => ⟨S768x1024, .f32⟩
  | .hbm, ⟨4, _⟩ => ⟨S4096x1024, .f32⟩
  | .hbm, ⟨5, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixGate.lean ====
abbrev S4096x2048 : Shape := ⟨2, ![4096, 2048]⟩
abbrev S4096x1024 : Shape := ⟨2, ![4096, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixGateRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxIdeal.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOutDx.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixWaDx.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWaDxIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWaDxRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixWbDx.lean ====
abbrev S4096x1024 : Shape := ⟨2, ![4096, 1024]⟩
abbrev S768x1024 : Shape := ⟨2, ![768, 1024]⟩
abbrev S4096x768 : Shape := ⟨2, ![4096, 768]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .bf16⟩
  | .local _ .vmem, ⟨5, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWbDxIdeal.lean ====
abbrev S4096x1024 : Shape := ⟨2, ![4096, 1024]⟩
abbrev S768x1024 : Shape := ⟨2, ![768, 1024]⟩
abbrev S4096x768 : Shape := ⟨2, ![4096, 768]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .bf16⟩
  | .local _ .vmem, ⟨5, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWbDxRefIdeal.lean ====
abbrev S4096x1024 : Shape := ⟨2, ![4096, 1024]⟩
abbrev S768x1024 : Shape := ⟨2, ![768, 1024]⟩
abbrev S1024x768 : Shape := ⟨2, ![1024, 768]⟩
abbrev S4096x768 : Shape := ⟨2, ![4096, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x1024, .f32⟩
  | .hbm, ⟨3, _⟩ => ⟨S768x1024, .f32⟩
  | .hbm, ⟨4, _⟩ => ⟨S1024x768, .f32⟩
  | .hbm, ⟨5, _⟩ => ⟨S4096x768, .f32⟩
  | .hbm, ⟨6, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixQkvDx.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvDxIdeal.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvDxRefIdeal.lean ====
abbrev S4096x3072 : Shape := ⟨2, ![4096, 3072]⟩
abbrev S1024x3072 : Shape := ⟨2, ![1024, 3072]⟩
abbrev S3072x1024 : Shape := ⟨2, ![3072, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x3072, .f32⟩
  | .hbm, ⟨3, _⟩ => ⟨S1024x3072, .f32⟩
  | .hbm, ⟨4, _⟩ => ⟨S3072x1024, .f32⟩
  | .hbm, ⟨5, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixZDx.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixZDxIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixZDxRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixBaDx.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixBaDxIdeal.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixBaDxRefIdeal.lean ====
abbrev S4096x128 : Shape := ⟨2, ![4096, 128]⟩
abbrev S1024x128 : Shape := ⟨2, ![1024, 128]⟩
abbrev S4096x1024 : Shape := ⟨2, ![4096, 1024]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x128, .f32⟩
  | .hbm, ⟨4, _⟩ => ⟨S1024x128, .f32⟩
  | .hbm, ⟨5, _⟩ => ⟨S128x1024, .f32⟩
  | .hbm, ⟨6, _⟩ => ⟨S4096x1024, .f32⟩
  | .hbm, ⟨7, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDaDx.lean ====
abbrev S4096x2304 : Shape := ⟨2, ![4096, 2304]⟩
abbrev S1024x2304 : Shape := ⟨2, ![1024, 2304]⟩
abbrev S4096x1024 : Shape := ⟨2, ![4096, 1024]⟩
abbrev S512x2304 : Shape := ⟨2, ![512, 2304]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S512x2304, .bf16⟩
  | .local _ .vmem, ⟨3, _⟩ => ⟨S512x2304, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixDaDxIdeal.lean ====
abbrev S4096x2304 : Shape := ⟨2, ![4096, 2304]⟩
abbrev S1024x2304 : Shape := ⟨2, ![1024, 2304]⟩
abbrev S4096x1024 : Shape := ⟨2, ![4096, 1024]⟩
abbrev S512x2304 : Shape := ⟨2, ![512, 2304]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S512x2304, .bf16⟩
  | .local _ .vmem, ⟨3, _⟩ => ⟨S512x2304, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixDaDxRefIdeal.lean ====
abbrev S4096x2304 : Shape := ⟨2, ![4096, 2304]⟩
abbrev S1024x2304 : Shape := ⟨2, ![1024, 2304]⟩
abbrev S4096x1024 : Shape := ⟨2, ![4096, 1024]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x2304, .f32⟩
  | .hbm, ⟨4, _⟩ => ⟨S1024x2304, .f32⟩
  | .hbm, ⟨5, _⟩ => ⟨S2304x1024, .f32⟩
  | .hbm, ⟨6, _⟩ => ⟨S4096x1024, .f32⟩
  | .hbm, ⟨7, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixPgDx.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixPgDxRefIdeal.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x2048, .f32⟩
  | .hbm, ⟨4, _⟩ => ⟨S1024x2048, .f32⟩
  | .hbm, ⟨5, _⟩ => ⟨S2048x1024, .f32⟩
  | .hbm, ⟨6, _⟩ => ⟨S4096x1024, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnGuDx.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuDxRefIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwIdeal.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnGuDw.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuDwIdeal.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuDwRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOutDw.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixWbDw.lean ====
abbrev S4096x768 : Shape := ⟨2, ![4096, 768]⟩
abbrev S4096x1024 : Shape := ⟨2, ![4096, 1024]⟩
abbrev S768x1024 : Shape := ⟨2, ![768, 1024]⟩
abbrev S1024x768 : Shape := ⟨2, ![1024, 768]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWbDwIdeal.lean ====
abbrev S4096x768 : Shape := ⟨2, ![4096, 768]⟩
abbrev S4096x1024 : Shape := ⟨2, ![4096, 1024]⟩
abbrev S768x1024 : Shape := ⟨2, ![768, 1024]⟩
abbrev S1024x768 : Shape := ⟨2, ![1024, 768]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWbDwRefIdeal.lean ====
abbrev S4096x768 : Shape := ⟨2, ![4096, 768]⟩
abbrev S4096x1024 : Shape := ⟨2, ![4096, 1024]⟩
abbrev S768x4096 : Shape := ⟨2, ![768, 4096]⟩
abbrev S768x1024 : Shape := ⟨2, ![768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S4096x768, .f32⟩
  | .hbm, ⟨3, _⟩ => ⟨S768x4096, .f32⟩
  | .hbm, ⟨4, _⟩ => ⟨S4096x1024, .f32⟩
  | .hbm, ⟨5, _⟩ => ⟨S768x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixQkvDw.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvDwIdeal.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvDwRefIdeal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S1024x4096, .f32⟩
  | .hbm, ⟨4, _⟩ => ⟨S4096x3072, .f32⟩
  | .hbm, ⟨5, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixBaDw.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixBaDwIdeal.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixBaDwRefIdeal.lean ====
abbrev S4096x1024 : Shape := ⟨2, ![4096, 1024]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x1024, .f32⟩
  | .hbm, ⟨3, _⟩ => ⟨S1024x4096, .f32⟩
  | .hbm, ⟨4, _⟩ => ⟨S4096x128, .f32⟩
  | .hbm, ⟨5, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixDaDw.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaDwIdeal.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaDwRefIdeal.lean ====
abbrev S4096x1024 : Shape := ⟨2, ![4096, 1024]⟩
abbrev S4096x2304 : Shape := ⟨2, ![4096, 2304]⟩
abbrev S1024x4096 : Shape := ⟨2, ![1024, 4096]⟩
abbrev S1024x2304 : Shape := ⟨2, ![1024, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S4096x1024, .f32⟩
  | .hbm, ⟨3, _⟩ => ⟨S1024x4096, .f32⟩
  | .hbm, ⟨4, _⟩ => ⟨S4096x2304, .f32⟩
  | .hbm, ⟨5, _⟩ => ⟨S1024x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixPgDw.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixPgDwRefIdeal.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S1024x4096, .f32⟩
  | .hbm, ⟨4, _⟩ => ⟨S4096x2048, .f32⟩
  | .hbm, ⟨5, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InputGrad.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InputGradRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Talk.lean ====
/-
# Kernels whose devices write straight into each other's buffers

A kernel of this file has no window and no grid: every core runs one body over buffers that lie in the machine's
main memory from the start, and the devices exchange data by remote copies without any signal beforehand. The
protocol is a `Plan`: finitely many semaphores per device, each waited for once; for each the units it collects,
the device that pays it, whether that device is another one, and what the payment hands over. From a plan this
file derives the schedule of the rounds library, the ghost state and its dealing to the devices, the launch of
the whole machine (all buffers of all devices are at hand when they are dealt, so that a device may start out
owning parts of another device's buffers), and one rule per step a body takes: a remote copy, a local copy, a
wait.
-/
module

public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation cellOf)

variable {nD : ℕ} {τ : Topo} {sig : RefSig} {Val : EltTy → Type}

/-- The user ghost state: the pipelines' rounds beside the plan's own. -/
abbrev UU (nD : ℕ) (τ : Topo) (sig : RefSig) : Type := UR sig nD τ × UR sig nD τ

local notation "𝕄" => MT nD τ sig Unit Val ℕ (UU nD τ sig) ℕ

variable (nD τ sig Val) in
/-- Where the pipelines' rounds live. -/
abbrev EP : Emb (UR sig nD τ) (MT nD τ sig Unit Val ℕ (UU nD τ sig) ℕ) := embL
variable (nD τ sig Val) in
/-- Where the plan's rounds live. -/
abbrev ER : Emb (UR sig nD τ) (MT nD τ sig Unit Val ℕ (UU nD τ sig) ℕ) := embR

variable (nD τ sig Val) in
/-- A protocol of `k` semaphores per device, each waited for once. -/
structure Plan (k : ℕ) where
  /-- the semaphores, -/
  sem : Fin k → SemLoc sig
  sem_inj : Function.Injective sem
  /-- the units each collects, -/
  amt : Fin k → ℕ
  amt_pos : ∀ i, 0 < amt i
  /-- the device whose semaphore `i` device `c` pays, -/
  who : Fin k → Equiv.Perm (Dev nD)
  /-- whether semaphore `i` is paid by the engine of another device, -/
  far : Fin k → Bool
  /-- the place of semaphore `i` in the order of the waits, -/
  lvl : Fin k → ℕ
  /-- what the payment hands to the device that waits. -/
  pay : Dev nD → Fin k → sProp 𝕄
  pay_storable : ∀ c i, BI.Storable (upEmb : UEmb _ 𝕄) (pay c i)

namespace Plan

variable {k : ℕ} (D : Plan nD τ sig Val k)

/-- Semaphore `i` of device `c`. -/
abbrev cell (c : Dev nD) (i : Fin k) : GSem nD τ sig := ((c.tc : Thread nD τ), D.sem i)

/-! ## The schedule -/

open Classical in
/-- One duty per semaphore of the plan, in round 0. -/
def sched : Rounds.Schedule (GSem nD τ sig) Unit 𝕄 where
  duties g r := if r = 0 ∧ g.1.2 = .tc ∧ ∃ i, D.sem i = g.2 then {()} else ∅
  unitless _ := False
  amount g _ _ := if h : ∃ i, D.sem i = g.2 then D.amt h.choose else 1
  payload g _ _ := if h : ∃ i, D.sem i = g.2 then D.pay g.1.1 h.choose else iprop(emp)
  amount_pos g _ _ _ := by
    split
    · exact D.amt_pos _
    · exact Nat.one_pos

instance sched_storable (g : GSem nD τ sig) (r : ℕ) (d : Unit) : BI.Storable (upEmb : UEmb _ 𝕄) (D.sched.payload g r d) := by
  classical
  unfold sched
  dsimp only
  split
  · exact D.pay_storable _ _
  · infer_instance

theorem slot (i : Fin k) (h : ∃ j, D.sem j = D.sem i) : h.choose = i := D.sem_inj h.choose_spec

theorem duties_cell (c : Dev nD) (i : Fin k) : D.sched.duties (D.cell c i) 0 = {()} := by
  unfold sched; exact if_pos ⟨rfl, rfl, i, rfl⟩
theorem duties_later (g : GSem nD τ sig) : ∀ r, 1 ≤ r → D.sched.duties g r = ∅ :=
  fun r hr => by unfold sched; exact if_neg fun h => by omega
theorem amount_cell (c : Dev nD) (i : Fin k) (u : Unit) : D.sched.amount (D.cell c i) 0 u = D.amt i := by
  have h : ∃ j, D.sem j = D.sem i := ⟨i, rfl⟩
  unfold sched; exact (dif_pos h).trans (congrArg D.amt (D.slot i h))
theorem payload_cell (c : Dev nD) (i : Fin k) (u : Unit) : D.sched.payload (D.cell c i) 0 u = D.pay c i := by
  have h : ∃ j, D.sem j = D.sem i := ⟨i, rfl⟩
  unfold sched; exact (dif_pos h).trans (congrArg (D.pay c) (D.slot i h))
theorem expect_cell (c : Dev nD) (i : Fin k) : D.sched.expect (D.cell c i) 0 = D.amt i := by
  unfold Schedule.expect Schedule.amountOf; rw [duties_cell, Finset.sum_singleton, amount_cell]
theorem rest_cell (c : Dev nD) (i : Fin k) :
    bigSep (D.sched.duties (D.cell c i) 0 \ ∅) (fun u => D.sched.payload (D.cell c i) 0 u) = D.pay c i := by
  rw [Finset.sdiff_empty, duties_cell, bigSep_singleton, payload_cell]

/-! ## Levels, and what a device owes -/

/-- Every cell of the core has one index. -/
def L (g : GSem nD τ sig) : Finset Unit := if g.1.2 = .tc then {()} else ∅
open Classical in
/-- The place of a cell in the order of the waits. -/
def lv (g : GSem nD τ sig) (_ : Unit) : ℕ := if h : ∃ i, D.sem i = g.2 then D.lvl h.choose else 0

theorem L_of_ne (g : GSem nD τ sig) (h : g.1.2 ≠ .tc) : L g = ∅ := if_neg h
theorem L_tc (c : Dev nD) (sm : SemLoc sig) : L (((c.tc : Thread nD τ), sm) : GSem nD τ sig) = {()} := if_pos rfl
theorem lv_cell (c : Dev nD) (i : Fin k) (u : Unit) : D.lv (D.cell c i) u = D.lvl i := by
  have h : ∃ j, D.sem j = D.sem i := ⟨i, rfl⟩
  unfold lv; exact (dif_pos h).trans (congrArg D.lvl (D.slot i h))

/-- The payments another device waits for. -/
abbrev fars : Finset (Fin k) := Finset.univ.filter fun i => D.far i = true

/-- What device `c` owes before it has made any of them. -/
def owe (c : Dev nD) : CellTallies nD τ sig Unit := ∑ i ∈ D.fars, tallyAt (D.cell (D.who i c) i) () (D.amt i)

/-! ## What a device holds -/

/-- All cells' invariants, and that each is at its round 0: what every device knows. -/
def records (K : Dev nD × Fin k → ℕ) : sProp 𝕄 :=
  iprop((bigSep Finset.univ fun ci : Dev nD × Fin k => cellInv (ER nD τ sig Val) D.sched (K ci) (D.cell ci.1 ci.2))
    ∗ (bigSep Finset.univ fun ci : Dev nD × Fin k => reached (ER nD τ sig Val) (D.cell ci.1 ci.2) 0)
    ∗ levAts L D.lv)

instance records_persistent (K : Dev nD × Fin k → ℕ) : BI.Persistent (D.records K) := by unfold records; infer_instance

theorem inv_at (K : Dev nD × Fin k → ℕ) (c : Dev nD) (i : Fin k) :
    D.records K ⊢ cellInv (ER nD τ sig Val) D.sched (K (c, i)) (D.cell c i) := by
  unfold records
  exact sep_elim_left.trans (bigSep_elim (Φ := fun ci : Dev nD × Fin k => (cellInv (ER nD τ sig Val) D.sched (K ci) (D.cell ci.1 ci.2) : sProp 𝕄)) (Finset.mem_univ (c, i)))
theorem reached_at (K : Dev nD × Fin k → ℕ) (c : Dev nD) (i : Fin k) :
    D.records K ⊢ reached (ER nD τ sig Val) (D.cell c i) 0 := by
  unfold records
  exact sep_elim_right.trans (sep_elim_left.trans
    (bigSep_elim (Φ := fun ci : Dev nD × Fin k => (reached (ER nD τ sig Val) (D.cell ci.1 ci.2) 0 : sProp 𝕄)) (Finset.mem_univ (c, i))))
theorem levs_at (K : Dev nD × Fin k → ℕ) : D.records K ⊢ levAts L D.lv := by
  unfold records
  iintro ⟨-, -, HL⟩
  iexact HL

/-- Its position at its own semaphore `i`. -/
abbrev at0 (c : Dev nD) (i : Fin k) : sProp 𝕄 := atPos (ER nD τ sig Val) (D.cell c i) 0 ∅ 0
/-- The right to pay semaphore `i` of the device it pays. -/
abbrev tok (c : Dev nD) (i : Fin k) : sProp 𝕄 := dutyTok (ER nD τ sig Val) (D.cell (D.who i c) i) 0 ()
/-- The promise that its own semaphore `i` gets paid. -/
abbrev crd (c : Dev nD) (i : Fin k) : sProp 𝕄 := cred (tallyAt (D.cell c i) () (D.amt i))

/-- What a device starts with beside the records. -/
def kit (c : Dev nD) : sProp 𝕄 :=
  iprop((bigSep Finset.univ fun i => D.at0 c i) ∗ (bigSep Finset.univ fun i => D.tok c i) ∗ bigSep D.fars fun i => D.crd c i)

/-! ## The steps -/

section Steps

variable {Λ : Labels} {defs : Defs nD τ sig Val Λ} (𝒱 : Variants) (K : Dev nD × Fin k → ℕ)
variable {α : Type} {sp sp' : Space} {s : Shape} {e : EltTy}

/-- A remote copy onto `dst` of device `n`, paying semaphore `j` there and the source semaphore `i` here. -/
theorem step_send (c n : Dev nD) (i j : Fin k) (hi : D.who i c = c) (hj : D.who j c = n)
    {src : Memref sig .tc sp s e} {dst : Memref sig (Dev.tc n : Thread nD τ).2.kind sp' s e} {hsc : dst.view.ref.isScScratch = false}
    {sS sem : SemLoc sig} (hS : sS = D.sem i) (hR : sem = D.sem j)
    {hsrc : src.view.WordExact} {hdst : dst.view.WordExact} {hsem : DmaTarget.Typed sp sem (.remote (Dev.tc n : Thread nD τ) dst sS hsc)}
    {kont : PUnit → Prog (TpuEff nD τ sig Val Λ .tc) α} {Q : α → sProp 𝕄} {q : PosShare TreeShare}
    {fs : Buf Val (src.view.loc (c.tc : Thread nD τ))} {fd : Buf Val (dst.view.loc (n.tc : Thread nD τ))}
    (hN : dst.view.amount (D.sem j) = D.amt j) (hM : D.amt i = D.amt j)
    {O₀ : CellTallies nD τ sig Unit} (O : CellTallies nD τ sig Unit) (hO : O₀ = O + tallyAt (D.cell n j) () (D.amt j)) {W : Waits sig Unit}
    (hpay₁ : (src.view.loc (c.tc : Thread nD τ) ↦[src.view.set]{q} fs) ⊢ D.pay c i)
    (hpay₂ : (dst.view.loc (n.tc : Thread nD τ) ↦[dst.view.set]{fullShare} (dst.view.write Val fd (src.view.read Val fs) Finset.univ)) ⊢ D.pay n j)
    (hr : τ.routes (c.tc : Thread nD τ) (n.tc : Thread nD τ) = true) :
    iprop(D.records K ∗ (src.view.loc (c.tc : Thread nD τ) ↦[src.view.set]{q} fs) ∗ (dst.view.loc (n.tc : Thread nD τ) ↦[dst.view.set]{fullShare} fd)
        ∗ owes (c.tc : Thread nD τ) O₀ W ∗ D.tok c i ∗ D.tok c j)
      ⊢ iprop(((D.crd c i ∗ owes (c.tc : Thread nD τ) O W) -∗ wp frame (wpE defs 𝒱 (c.tc : Thread nD τ) none) Set.univ (kont ⟨⟩) Q)
          -∗ wp frame (wpE defs 𝒱 (c.tc : Thread nD τ) none) Set.univ
              (.op (.enqueueDma src (.remote (Dev.tc n : Thread nD τ) dst sS hsc) sem hsrc hdst hsem) kont) Q) := by
  subst hS hR
  have h := Rounds.wp_send_pointsTo (defs := defs) (Γ := .empty) (α := α) (Q := Q) 𝒱 (ER nD τ sig Val) D.sched (c.tc : Thread nD τ) none (κ₁ := K (c, i)) (κ₂ := K (n, j))
    (c' := (n.tc : Thread nD τ)) (src := src) (dst := dst) (hsc := hsc) (sS := D.sem i) (sem := D.sem j) (hsrc := hsrc) (hdst := hdst) (hsem := hsem) (k := kont)
    (r₁ := 0) (r₂ := 0) (d₁ := ()) (d₂ := ()) (q := q) (fs := fs) (fd := fd)
    (by rw [D.duties_cell c i]; exact Finset.mem_singleton_self _) (by rw [D.duties_cell n j]; exact Finset.mem_singleton_self _)
    () () (D.amt j) hN ((D.amount_cell c i ()).trans hM) (D.amount_cell n j ()) O hO (W := W)
    (hpay₁.trans (Entails.of_eq (D.payload_cell c i ()).symm)) (hpay₂.trans (Entails.of_eq (D.payload_cell n j ()).symm)) (Es := Set.univ) hr
  rw [← hM] at h
  refine BIBase.Entails.trans ?_ h
  unfold tok
  rw [hi, hj]
  iintro ⟨#HR, Hs, Hd, HO, Ht, Hu⟩
  isplitr; · iapply (D.inv_at K c i); iexact HR
  isplitr; · iapply (D.inv_at K n j); iexact HR
  isplitl [Hs]; · iexact Hs
  isplitl [Hd]; · iexact Hd
  isplitl [HO]; · iexact HO
  isplitl [Ht]; · iexact Ht
  isplitr; · iapply (D.reached_at K c i); iexact HR
  isplitl [Hu]; · iexact Hu
  iapply (D.reached_at K n j); iexact HR

/-- A copy within the device, paying its semaphore `i`. -/
theorem step_copy (c : Dev nD) (i : Fin k) (hi : D.who i c = c)
    {src : Memref sig (c.tc : Thread nD τ).2.kind sp s e} {dst : Memref sig (c.tc : Thread nD τ).2.kind sp' s e} {sem : SemLoc sig} (hS : sem = D.sem i)
    {hsrc : src.view.WordExact} {hdst : dst.view.WordExact} {hsem : DmaTarget.Typed (nD := nD) sp sem (.here dst)}
    {kont : PUnit → Prog (TpuEff nD τ sig Val Λ .tc) α} {Q : α → sProp 𝕄} {q : PosShare TreeShare}
    {fs : Buf Val (src.view.loc (c.tc : Thread nD τ))} {fd : Buf Val (dst.view.loc (c.tc : Thread nD τ))}
    (hN : dst.view.amount (D.sem i) = D.amt i)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ D.pay c i) :
    iprop(D.records K ∗ (src.view.loc (c.tc : Thread nD τ) ↦[src.view.set]{q} fs) ∗ (dst.view.loc (c.tc : Thread nD τ) ↦[dst.view.set]{fullShare} fd)
        ∗ D.tok c i)
      ⊢ iprop((D.crd c i -∗ wp frame (wpE defs 𝒱 (c.tc : Thread nD τ) none) Set.univ (kont ⟨⟩) Q)
          -∗ wp frame (wpE defs 𝒱 (c.tc : Thread nD τ) none) Set.univ (.op (.enqueueDma src (.here dst) sem hsrc hdst hsem) kont) Q) := by
  subst hS
  refine BIBase.Entails.trans ?_ (Rounds.wp_copy_pointsTo (defs := defs) (Γ := .empty) (α := α) (Q := Q) 𝒱 (ER nD τ sig Val) D.sched (c.tc : Thread nD τ) none (κ := K (c, i))
    (src := src) (dst := dst) (hsrc := hsrc) (hdst := hdst) (hsem := hsem) (k := kont) (r := 0) (d := ()) (q := q) (fs := fs) (fd := fd)
    (by rw [D.duties_cell c i]; exact Finset.mem_singleton_self _) () (D.amt i) hN (D.amount_cell c i ())
    (hpay.trans (Entails.of_eq (D.payload_cell c i ()).symm)) (Es := Set.univ))
  unfold tok
  rw [hi]
  iintro ⟨#HR, Hs, Hd, Ht⟩
  isplitr; · iapply (D.inv_at K c i); iexact HR
  isplitl [Hs]; · iexact Hs
  isplitl [Hd]; · iexact Hd
  isplitl [Ht]; · iexact Ht
  iapply (D.reached_at K c i); iexact HR

/-- A wait for semaphore `i`: what it hands over, and the counter back at zero. -/
theorem step_wait (c : Dev nD) (i : Fin k) {w : TpuEff nD τ sig Val Λ .tc PUnit} {n : ℕ} (hn : n = D.amt i) {sm : SemLoc sig} (hS : sm = D.sem i)
    (hw : ∀ P : PUnit → sProp 𝕄, wpE defs 𝒱 (c.tc : Thread nD τ) none Set.univ w P = waitSpec (c.tc : Thread nD τ) Set.univ sm n P)
    {kont : PUnit → Prog (TpuEff nD τ sig Val Λ .tc) α} {Q : α → sProp 𝕄} {O : CellTallies nD τ sig Unit} {W : Waits sig Unit}
    (hO : ∀ g u, 0 < O g u → ∃ (d : Dev nD) (j : Fin k), g = D.cell d j ∧ D.lvl i < D.lvl j) :
    iprop(D.records K ∗ D.crd c i ∗ owes (c.tc : Thread nD τ) O W ∗ D.at0 c i)
      ⊢ iprop(((D.pay c i ∗ semVal (D.cell c i) 0 ∗ ∃ W, owes (c.tc : Thread nD τ) O W)
            -∗ wp frame (wpE defs 𝒱 (c.tc : Thread nD τ) none) Set.univ (kont ⟨⟩) Q)
          -∗ wp frame (wpE defs 𝒱 (c.tc : Thread nD τ) none) Set.univ (.op w kont) Q) := by
  subst hS hn
  have h := Rounds.wp_wait_rest_token (defs := defs) (Γ := .empty) (Q := Q) 𝒱 (ER nD τ sig Val) D.sched (c.tc : Thread nD τ) none (κ := K (c, i)) hw
    (Set.mem_univ _) (k := kont) () (O := O) (W := W) (R := 0) (m := 0) (T := ∅) (by rw [D.expect_cell c i, Nat.zero_add])
  have hmay : (levAts L D.lv : sProp 𝕄) ⊢ MayWait (c.tc : Thread nD τ) (D.sem i) () O :=
    Pipeline.mayWait_of_levAts (by rw [L_tc]; exact Finset.mem_singleton_self _) fun g u hg => by
      obtain ⟨d, j, rfl, hlt⟩ := hO g u hg
      refine ⟨by rw [L_tc]; exact Finset.mem_singleton_self _, ?_⟩
      rw [D.lv_cell c i, D.lv_cell d j]; exact hlt
  have hz := Rounds.cell_close (ER nD τ sig Val) D.sched (g := D.cell c i) (κ := K (c, i)) (Es := Set.univ) (Set.mem_univ _) (fun h => h) (R := 1)
    (D.duties_later _)
  iintro ⟨#HR, Hc, HO, Hat⟩ Hk
  iapply h $$ [Hc HO Hat]
  · isplitr; · iapply (D.inv_at K c i); iexact HR
    isplitl [Hc]; · iexact Hc
    isplitl [HO]; · iexact HO
    isplitr; · iapply hmay; iapply (D.levs_at K); iexact HR
    iexact Hat
  iintro ⟨HO, Hat, -, Hpay⟩
  ihave Hp := (Entails.of_eq (D.rest_cell c i)) $$ Hpay
  iapply (fupd_wp frame (wpE defs 𝒱 (c.tc : Thread nD τ) none) Set.univ _ _)
  imod hz $$ [Hat] with Hv
  · isplitr; · iapply (D.inv_at K c i); iexact HR
    iexact Hat
  imodintro
  iapply Hk
  isplitl [Hp]; · iexact Hp
  isplitl [Hv]; · iexact Hv
  iexists _; iexact HO

/-- The wait of a copy, `step_wait` at the copy's own statement. -/
theorem step_waitDma (c : Dev nD) (i : Fin k) {sp sp' : Space} {s s' : Shape} {e e' : EltTy} {sem : DmaSem sig}
    {src : Memref sig .tc sp' s' e'} {κ' : Kind} {dst : Memref sig κ' sp s e} {hsrc : src.view.WordExact} {hdst : dst.view.WordExact}
    (hn : dst.view.dmaCredit = D.amt i) (hS : SemLoc.dma sem = D.sem i)
    {kont : PUnit → Prog (TpuEff nD τ sig Val Λ .tc) α} {Q : α → sProp 𝕄} {O : CellTallies nD τ sig Unit} {W : Waits sig Unit}
    (hO : ∀ g u, 0 < O g u → ∃ (d : Dev nD) (j : Fin k), g = D.cell d j ∧ D.lvl i < D.lvl j) :
    iprop(D.records K ∗ D.crd c i ∗ owes (c.tc : Thread nD τ) O W ∗ D.at0 c i)
      ⊢ iprop(((D.pay c i ∗ semVal (D.cell c i) 0 ∗ ∃ W, owes (c.tc : Thread nD τ) O W)
            -∗ wp frame (wpE defs 𝒱 (c.tc : Thread nD τ) none) Set.univ (kont ⟨⟩) Q)
          -∗ wp frame (wpE defs 𝒱 (c.tc : Thread nD τ) none) Set.univ (.op (.waitDma2 sem src dst hsrc hdst) kont) Q) :=
  D.step_wait 𝒱 K c i hn hS (wpE_waitDma2_eq 𝒱 (c.tc : Thread nD τ) none Set.univ) hO

end Steps

end Plan

end Cert.Talk

end
-- ==== Proof.TalkLaunch.lean ====
/-
# The launch of a talking kernel

From a `Plan`, a dealing of all devices' buffers, and the body's run on one device, the run of the whole machine:
every execution ends, each device's final memory is as the body leaves it, and every counter is back at zero.
-/
module

public import proofs.«01_k».proof.Proof.Talk
public import Idealize.ShloMosaic.Lib.Pipeline.RegionArrays
public import Idealize.ShloMosaic.Lib.Pipeline.Kit
public import Idealize.ShloMosaic.Lib.Quiescent

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation cellOf)

variable {nD : ℕ} {τ : Topo} {sig : RefSig} {Val : EltTy → Type}

local notation "𝕄" => MT nD τ sig Unit Val ℕ (UU nD τ sig) ℕ

namespace Plan

variable {k : ℕ} (D : Plan nD τ sig Val k)

/-! ## The ghost state -/

abbrev cellU (ci : Dev nD × Fin k) : GSem nD τ sig := D.cell ci.1 ci.2

theorem cellU_injective : Function.Injective D.cellU := by
  rintro ⟨c, i⟩ ⟨c', i'⟩ h
  have h1 : c = c' := congrArg (fun g : GSem nD τ sig => g.1.1) h
  have h2 : i = i' := D.sem_inj (congrArg Prod.snd h)
  rw [h1, h2]

def cellSet : Finset (GSem nD τ sig) := Finset.univ.map ⟨D.cellU, D.cellU_injective⟩
def tokSet : Finset (GSem nD τ sig × ℕ × Unit) :=
  Finset.univ.map ⟨fun ci : Dev nD × Fin k => (D.cellU ci, 0, ()), fun _ _ h => D.cellU_injective (congrArg Prod.fst h)⟩

/-- What a device brings to the making of the invariants, its counters apart. -/
def seed (c : Dev nD) : sProp 𝕄 :=
  iprop((bigSep Finset.univ fun i : Fin k => roundState (ER nD τ sig Val) D.sched (D.cell c i) 0)
    ∗ (bigSep Finset.univ fun i : Fin k => D.at0 c i)
    ∗ (bigSep Finset.univ fun i : Fin k => reached (ER nD τ sig Val) (D.cell c i) 0)
    ∗ bigSep Finset.univ fun i : Fin k => dutyTok (ER nD τ sig Val) (D.cell c i) 0 ())

theorem seed_intro : BI.own ((ER nD τ sig Val) (initOf D.cellSet D.tokSet)) ⊢ (|==> bigSep Finset.univ D.seed : sProp 𝕄) := by
  have hX (Φ : GSem nD τ sig → sProp 𝕄) :
      bigSep D.cellSet Φ = bigSep Finset.univ fun c : Dev nD => bigSep Finset.univ fun i : Fin k => Φ (D.cell c i) := by
    unfold cellSet; rw [bigSep_map, bigSep_univ_prod]; rfl
  have hT : bigSep D.tokSet (fun x => (dutyTok (ER nD τ sig Val) x.1 x.2.1 x.2.2 : sProp 𝕄))
      = bigSep Finset.univ fun c : Dev nD => bigSep Finset.univ fun i : Fin k => dutyTok (ER nD τ sig Val) (D.cell c i) 0 () := by
    unfold tokSet; rw [bigSep_map, bigSep_univ_prod]; rfl
  iintro HX
  imod (Rounds.fund (ER nD τ sig Val) D.sched D.cellSet D.tokSet) $$ HX with ⟨Hst, Hr, Hat, Htok⟩
  imodintro
  ihave Hst' := (Entails.of_eq (hX fun g => roundState (ER nD τ sig Val) D.sched g 0)) $$ Hst
  ihave Hat' := (Entails.of_eq (hX fun g => atPos (ER nD τ sig Val) g 0 ∅ 0)) $$ Hat
  ihave Hr' := (Entails.of_eq (hX fun g => reached (ER nD τ sig Val) g 0)) $$ Hr
  ihave Htok' := (Entails.of_eq hT) $$ Htok
  unfold seed; simp only [bigSep_sep']
  isplitl [Hst']; · iexact Hst'
  isplitl [Hat']; · iexact Hat'
  isplitl [Hr']; · iexact Hr'
  iexact Htok'

/-- The tokens dealt to the devices that pay. -/
theorem toks_dealt :
    (bigSep Finset.univ fun c : Dev nD => bigSep Finset.univ fun i : Fin k => (dutyTok (ER nD τ sig Val) (D.cell c i) 0 () : sProp 𝕄))
      ⊢ bigSep Finset.univ fun c : Dev nD => bigSep Finset.univ fun i : Fin k => D.tok c i := by
  rw [← bigSep_univ_prod (fun ci : Dev nD × Fin k => (dutyTok (ER nD τ sig Val) (D.cell ci.1 ci.2) 0 () : sProp 𝕄)),
    ← bigSep_univ_prod (fun ci : Dev nD × Fin k => (D.tok ci.1 ci.2 : sProp 𝕄))]
  let f : Dev nD × Fin k ≃ Dev nD × Fin k :=
    ⟨fun ci => (D.who ci.2 ci.1, ci.2), fun ci => ((D.who ci.2).symm ci.1, ci.2), fun ci => by simp, fun ci => by simp⟩
  rw [bigSep_univ_equiv f (fun ci : Dev nD × Fin k => (dutyTok (ER nD τ sig Val) (D.cell ci.1 ci.2) 0 () : sProp 𝕄))]
  exact BI.Entails.refl _

theorem core_alloc (c : Dev nD) :
    iprop(Pipeline.ownSems0 (Ix := Unit) (Name := ℕ) (U := UU nD τ sig) (Lvl := ℕ) (Val := Val) (τ := τ) D.sem c ∗ D.seed c)
      ⊢ |={Set.univ}=> iprop((bigSep Finset.univ fun i => iprop(∃ κ : ℕ, cellInv (ER nD τ sig Val) D.sched κ (D.cell c i)))
          ∗ (bigSep Finset.univ fun i : Fin k => D.at0 c i)
          ∗ (bigSep Finset.univ fun i : Fin k => reached (ER nD τ sig Val) (D.cell c i) 0)
          ∗ bigSep Finset.univ fun i : Fin k => dutyTok (ER nD τ sig Val) (D.cell c i) 0 ()) := by
  unfold seed
  iintro ⟨Hv, Hst, Hrest⟩
  imod (show iprop((bigSep Finset.univ fun i : Fin k => semVal (D.cell c i) 0)
        ∗ bigSep Finset.univ fun i : Fin k => roundState (ER nD τ sig Val) D.sched (D.cell c i) 0)
      ⊢ (|={Set.univ}=> bigSep Finset.univ fun i => iprop(∃ κ : ℕ, cellInv (ER nD τ sig Val) D.sched κ (D.cell c i)) : sProp 𝕄) from by
        rw [← bigSep_sep']
        exact (bigSep_mono fun i _ => (Rounds.body_intro (ER nD τ sig Val) D.sched (D.cell c i)).trans inv_alloc).trans (bigSep_fupd _ _))
      $$ [Hv Hst] with Hinv
  · isplitl [Hv]; · iapply (Entails.of_eq (show Pipeline.ownSems0 (Ix := Unit) (Name := ℕ) (U := UU nD τ sig) (Lvl := ℕ) (Val := Val) (τ := τ) D.sem c
          = bigSep Finset.univ fun i : Fin k => (semVal (D.cell c i) 0 : sProp 𝕄) from rfl)); iexact Hv
    iexact Hst
  imodintro
  isplitl [Hinv]; · iexact Hinv
  iexact Hrest

/-- All devices' invariants made, the records known to all, the tokens with those who pay. -/
theorem glob :
    iprop((bigSep Finset.univ fun c => Pipeline.ownSems0 (Ix := Unit) (Name := ℕ) (U := UU nD τ sig) (Lvl := ℕ) (Val := Val) (τ := τ) D.sem c)
        ∗ (bigSep Finset.univ D.seed) ∗ levAts L D.lv)
      ⊢ |={Set.univ}=> iprop((∃ K, D.records K) ∗ (bigSep Finset.univ fun c => bigSep Finset.univ fun i : Fin k => D.at0 c i)
          ∗ bigSep Finset.univ fun c : Dev nD => bigSep Finset.univ fun i : Fin k => D.tok c i) := by
  have hreg : (bigSep Finset.univ fun c : Dev nD => iprop((bigSep Finset.univ fun i => iprop(∃ κ : ℕ, cellInv (ER nD τ sig Val) D.sched κ (D.cell c i)))
          ∗ (bigSep Finset.univ fun i : Fin k => D.at0 c i)
          ∗ (bigSep Finset.univ fun i : Fin k => reached (ER nD τ sig Val) (D.cell c i) 0)
          ∗ bigSep Finset.univ fun i : Fin k => dutyTok (ER nD τ sig Val) (D.cell c i) 0 ()) : sProp 𝕄)
      ⊢ iprop((bigSep Finset.univ fun ci : Dev nD × Fin k => iprop(∃ κ : ℕ, cellInv (ER nD τ sig Val) D.sched κ (D.cell ci.1 ci.2)))
          ∗ (bigSep Finset.univ fun c => bigSep Finset.univ fun i : Fin k => D.at0 c i)
          ∗ (bigSep Finset.univ fun ci : Dev nD × Fin k => reached (ER nD τ sig Val) (D.cell ci.1 ci.2) 0)
          ∗ bigSep Finset.univ fun c => bigSep Finset.univ fun i : Fin k => dutyTok (ER nD τ sig Val) (D.cell c i) 0 ()) := by
    simp only [bigSep_sep', bigSep_univ_prod]
    exact BI.Entails.refl _
  have hal : (bigSep Finset.univ fun c : Dev nD => iprop(Pipeline.ownSems0 (Ix := Unit) (Name := ℕ) (U := UU nD τ sig) (Lvl := ℕ) (Val := Val) (τ := τ) D.sem c ∗ D.seed c))
      ⊢ |={Set.univ}=> _ := (bigSep_mono (s := Finset.univ) fun (c : Dev nD) _ => D.core_alloc c).trans (bigSep_fupd _ _)
  iintro ⟨Hs, Hg, #HL⟩
  imod hal $$ [Hs Hg] with H
  · rw [bigSep_sep']; isplitl [Hs] <;> iassumption
  ihave H' := hreg $$ H
  icases H' with ⟨HI, Hat, #HR, Htok⟩
  ihave HK := (BI.bigSep_exists_pi Finset.univ (fun (ci : Dev nD × Fin k) (κ : ℕ) => (cellInv (ER nD τ sig Val) D.sched κ (D.cell ci.1 ci.2) : sProp 𝕄))) $$ HI
  icases HK with ⟨%K, #HI⟩
  ihave Htk := D.toks_dealt $$ Htok
  imodintro
  isplitr
  · iexists K
    unfold records
    isplitr; · iexact HI
    isplitr; · iexact HR
    iexact HL
  isplitl [Hat]; · iexact Hat
  iexact Htk

/-- The launch's credits for what the others pay. -/
theorem creds (c : Dev nD) : (Pipeline.launchCred D.owe c : sProp 𝕄) ⊢ bigSep D.fars fun i => D.crd c i := by
  rw [show D.owe = fun d => ∑ i ∈ D.fars, tallyAt (D.cell (D.who i d) i) () (D.amt i) from rfl,
    Pipeline.launchCred_sum D.fars (fun i d => tallyAt (D.cell (D.who i d) i) () (D.amt i)) c]
  exact bigSep_mono fun i _ => Pipeline.launchCred_tallyAt (D.sem i) (D.who i) (D.who i).symm (D.who i).apply_symm_apply (D.who i).symm_apply_apply
    () (D.amt i) c

/-! ## The machine's run -/

section Run

variable {Λ₀ : Labels} (cfgs : Fin 1 → Cfg sig Λ₀) [hW : IsEmpty (Fin (cfgs 0).W)]

/-- The one call's proof data: no window; before the body what the launch dealt, after it what it leaves. -/
def dats (held done : Dev nD → sProp 𝕄) (p : Fin 1) (c : Dev nD) : Dat τ Val Unit ℕ (UU nD τ sig) ℕ (cfgs p) c where
  A w := (hW.false (Fin.fin_one_eq_zero p ▸ w)).elim
  after w := (hW.false (Fin.fin_one_eq_zero p ▸ w)).elim
  Φ t := if t.val = 0 then iprop((∃ K, D.records K ∗ D.kit c) ∗ held c)
    else iprop(done c ∗ bigSep Finset.univ fun i => semVal (D.cell c i) 0)
  q _ := fullShare
  owed t := if t.val = 0 then D.owe c else 0

local notation "cst" => fun p : Fin 1 => Cfg.toPCfg (Val := Val) (cfgs p)
local notation "adm" => fun p : Fin 1 => Cfg.toPCfg_adm (Val := Val) (cfgs p)

theorem dats_pre (held done : Dev nD → sProp 𝕄) (p : Fin 1) (c : Dev nD) (t : Fin ((cfgs p).N + 1)) (ht : t.val = 0) : (D.dats cfgs held done p c).Φ t = iprop((∃ K, D.records K ∗ D.kit c) ∗ held c) := by
  simp only [dats, ht, if_true]
theorem dats_post (held done : Dev nD → sProp 𝕄) (p : Fin 1) (c : Dev nD) (t : Fin ((cfgs p).N + 1)) (ht : t.val ≠ 0) : (D.dats cfgs held done p c).Φ t = iprop(done c ∗ bigSep Finset.univ fun i => semVal (D.cell c i) 0) := by
  simp only [dats, ht, if_false]
theorem dats_owe (held done : Dev nD → sProp 𝕄) (p : Fin 1) (c : Dev nD) (t : Fin ((cfgs p).N + 1)) (ht : t.val = 0) : (D.dats cfgs held done p c).owed t = D.owe c := by
  simp only [dats, ht, if_true]
theorem dats_owe0 (held done : Dev nD → sProp 𝕄) (p : Fin 1) (c : Dev nD) (t : Fin ((cfgs p).N + 1)) (ht : t.val ≠ 0) : (D.dats cfgs held done p c).owed t = 0 := by
  simp only [dats, ht, if_false]

/-- The body's run as the region asks for it. -/
theorem obligation (held done : Dev nD → sProp 𝕄) (hN : (cfgs 0).N = 1) (defs₀ : Defs nD τ sig Val Λ₀) (𝒱₀ : Variants) (c : Dev nD)
    (hbody : ∀ (t : Fin (cfgs 0).N) K W, iprop(D.records K ∗ D.kit c ∗ held c ∗ owes (c.tc : Thread nD τ) (D.owe c) W)
      ⊢ wp frame (wpE defs₀ 𝒱₀ (c.tc : Thread nD τ) none) Set.univ (defs₀ .tc (cfgs 0).body ((cfgs 0).bodyArgs t ((cfgs 0).slots t))) fun _ =>
          iprop(done c ∗ (bigSep Finset.univ fun i => semVal (D.cell c i) 0) ∗ ∃ W, owes (c.tc : Thread nD τ) 0 W)) :
    BodyObligation (D.dats cfgs held done 0 c) defs₀ 𝒱₀ () Set.univ := fun t => by
  have ht : t.val = 0 := by have := t.isLt; omega
  have hs : t.succ.val ≠ 0 := by rw [Fin.val_succ]; omega
  unfold Dat.owesAt Pipeline.owesWithin
  rw [D.dats_pre cfgs held done 0 c t.castSucc ht, D.dats_post cfgs held done 0 c t.succ hs,
    D.dats_owe cfgs held done 0 c t.castSucc ht, D.dats_owe0 cfgs held done 0 c t.succ hs]
  refine BIBase.Entails.trans ?_ (wp_mono frame (wpE defs₀ 𝒱₀ (c.tc : Thread nD τ) none) Set.univ (Q := fun _ =>
    iprop(done c ∗ (bigSep Finset.univ fun i => semVal (D.cell c i) 0) ∗ ∃ W, owes (c.tc : Thread nD τ) 0 W)) fun _ => ?_)
  · iintro ⟨⟨⟨%K, #HK, Hkit⟩, Hh⟩, ⟨%W, -, HO⟩, -⟩
    iapply (hbody t K W)
    isplitr; · iexact HK
    isplitl [Hkit]; · iexact Hkit
    isplitl [Hh] <;> iassumption
  · rw [show (Finset.univ : Finset (Fin (cfgs 0).W)) = ∅ from Finset.univ_eq_empty, BI.bigSep_empty]
    iintro ⟨Hd, Hs, ⟨%W, HO⟩⟩
    isplitl [Hd Hs]; · isplitl [Hd] <;> iassumption
    isplitl [HO]
    · iexists W; isplitr; · ipureintro; exact fun _ _ => Or.inl trivial
      iexact HO
    iempintro

variable [∀ e, Nonempty (Val e)]

theorem run (h : Pipeline.LaunchFacts (nD := nD) (τ := τ) cfgs 0) (ho : Pipeline.OwnSemFacts (cfgs 0).spec D.sem) (hN : (cfgs 0).N = 1)
    (hscr : ∀ c : Dev nD, (Pipeline.scopedRest (Ix := Unit) (Name := ℕ) (U := UU nD τ sig) (Lvl := ℕ) (Val := Val) (cfgs 0).spec c : sProp 𝕄) = BI.emp)
    (defs₀ : Defs nD τ sig Val Λ₀) (𝒱₀ : Variants) (m : (ℓ : Loc nD τ sig) → Buf Val ℓ) (ρ : Dev nD → PrngReg)
    (main : Dev nD → Prog (TpuEff nD τ sig Val (Pipeline.Sig Λ₀ (Fin 1) fun p => (cst p).Adm) .tc) PUnit)
    (hmain : ∀ c, main c = .op (.customCall (Pipeline.entry 0) ()) fun _ => .ret ⟨⟩)
    (held done : Dev nD → sProp 𝕄)
    (hsplit : (bigSep Finset.univ fun c : Dev nD => (Pipeline.unscopedRest (cfgs 0).spec c fun b => m ((c.tc : Thread nD τ).loc b) : sProp 𝕄))
      ⊢ bigSep Finset.univ held)
    (hbody : ∀ c (t : Fin (cfgs 0).N) K W, iprop(D.records K ∗ D.kit c ∗ held c ∗ owes (c.tc : Thread nD τ) (D.owe c) W)
      ⊢ wp frame (wpE defs₀ 𝒱₀ (c.tc : Thread nD τ) none) Set.univ (defs₀ .tc (cfgs 0).body ((cfgs 0).bodyArgs t ((cfgs 0).slots t))) fun _ =>
          iprop(done c ∗ (bigSep Finset.univ fun i => semVal (D.cell c i) 0) ∗ ∃ W, owes (c.tc : Thread nD τ) 0 W))
    (QY : Dev nD → MemSt nD τ sig Val → Prop)
    (hread : ∀ c (s' : Phys nD τ sig Val), iprop(done c ∗ SI s') ⊢ |={Set.univ}=> iprop(⌜QY c s'.mem⌝ ∗ SI s')) :
    θ_run (Pipeline.defs (fun p => cst p) defs₀) (onTc main) ⟨m, fun _ => 0, ρ⟩ fun r =>
      (∀ c, QY c r.2) ∧ ∀ g' : GSem nD τ sig, (g'.1.2 ≠ .tc ∨ g'.2.isScoped .tc = true) → r.2.sem g' = 0 := by
  classical
  have hinj : Function.Injective (cellOf (nD := nD) (τ := τ) cfgs) := h.cellOf_inj
  have hss := fun c : Dev nD => Pipeline.scopedSems0_split cfgs hinj 0 h.win.to₀ ho (Ix := Unit) (Val := Val) (Name := ℕ) (U := UU nD τ sig) (Lvl := ℕ) c
  have hsb := fun c : Dev nD => Pipeline.scopedBufs_split cfgs 0 h.win.stage_scoped h.win.stage_inj h.stage_whole
    (nD := nD) (τ := τ) (Ix := Unit) (Val := Val) (Name := ℕ) (U := UU nD τ sig) (Lvl := ℕ) c
  let dat := D.dats cfgs held done
  let idle : Dev nD → sProp 𝕄 := fun c => Pipeline.idleSems0 cfgs hinj 0 ho c
  let pre : Dev nD → sProp 𝕄 := fun c => iprop(scopedBufs (c.tc : Thread nD τ) ∗ Pipeline.cellsSems0 cfgs 0 c ∗ idle c
    ∗ owes (c.tc : Thread nD τ) (D.owe c) ∅ ∗ Pipeline.cellsGhost cfgs (EP nD τ sig Val) 0 c ∗ Pipeline.toksInit cfgs (EP nD τ sig Val) 0 c
    ∗ (∃ K, D.records K) ∗ D.kit c ∗ held c)
  let fin : Dev nD → sProp 𝕄 := fun c => iprop(done c ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu _ _ _ _
    (reflect_intro_fupd_tc_sems (X := Unit) (Variants.lift 𝒱₀) (Pipeline.owing D.owe) 0 (noBookings fun _ => le_rfl) (Pipeline.owing_of_ne D.owe)
      (initOf (Pipeline.cells cfgs hinj) (Pipeline.launchToks cfgs hinj), initOf D.cellSet D.tokSet) (fun _ => pre) (fun _ => fin)
      (fun _ => iprop(emp)) Set.univ ?_ (fun _ c => ?_) fun _ => ?_))
  · -- the launch: the holdings regrouped, the levels assigned, the tokens and invariants made and dealt
    have hcore1 (c : Dev nD) :
        coreInit (Ix := Unit) (Name := ℕ) (U := UU nD τ sig) (Lvl := ℕ) (Pipeline.owing D.owe) 0 (⟨m, fun _ => 0, ρ⟩ : MemSt nD τ sig Val) (c.tc : Thread nD τ)
          ⊢ iprop((scopedBufs (c.tc : Thread nD τ) ∗ Pipeline.cellsSems0 cfgs 0 c ∗ idle c)
              ∗ Pipeline.ownSems0 D.sem c ∗ (Pipeline.unscopedRest (cfgs 0).spec c fun b => m ((c.tc : Thread nD τ).loc b))
              ∗ owes (c.tc : Thread nD τ) (D.owe c) ∅ ∗ levels0 c ∗ bigSep D.fars fun i => D.crd c i) :=
      (Pipeline.coreInit_boundary_owing D.owe m ρ c).trans (by
        unfold boundary
        rw [hss c, Pipeline.unscopedBufs_split cfgs 0 h.win.arr_unscoped h.win.arr_inj c]
        iintro ⟨⟨Hsc, ⟨⟨Hcells, Hos⟩, Hidle⟩, -⟩, ⟨-, Hub⟩, -, HL, Hlv, -, Hcr⟩
        isplitl [Hsc Hcells Hidle]
        · isplitl [Hsc]; · iexact Hsc
          isplitl [Hcells] <;> iassumption
        isplitl [Hos]; · iexact Hos
        isplitl [Hub]; · iexact Hub
        isplitl [HL]; · iexact HL
        isplitl [Hlv]; · iexact Hlv
        iapply (D.creds c); iexact Hcr)
    have hcores : (bigSep Finset.univ fun d : Dev nD =>
          coreInit (Ix := Unit) (Name := ℕ) (U := UU nD τ sig) (Lvl := ℕ) (Pipeline.owing D.owe) 0 (⟨m, fun _ => 0, ρ⟩ : MemSt nD τ sig Val) (d.tc : Thread nD τ))
        ⊢ iprop(((bigSep Finset.univ fun c : Dev nD => scopedBufs (c.tc : Thread nD τ)) ∗ (bigSep Finset.univ fun c : Dev nD => Pipeline.cellsSems0 cfgs 0 c)
              ∗ (bigSep Finset.univ idle))
            ∗ (bigSep Finset.univ fun c : Dev nD => Pipeline.ownSems0 (Ix := Unit) (Name := ℕ) (U := UU nD τ sig) (Lvl := ℕ) (Val := Val) (τ := τ) D.sem c)
            ∗ (bigSep Finset.univ fun c : Dev nD => Pipeline.unscopedRest (cfgs 0).spec c fun b => m ((c.tc : Thread nD τ).loc b))
            ∗ (bigSep Finset.univ fun c : Dev nD => owes (c.tc : Thread nD τ) (D.owe c) ∅)
            ∗ (bigSep Finset.univ fun c : Dev nD => levels0 (Ix := Unit) (Val := Val) (Name := ℕ) (U := UU nD τ sig) (Lvl := ℕ) (τ := τ) (sig := sig) c)
            ∗ (bigSep Finset.univ fun c : Dev nD => bigSep D.fars fun i => D.crd c i) : sProp 𝕄) := by
      refine (bigSep_mono fun c _ => hcore1 c).trans ?_
      simp only [bigSep_sep']
      exact BI.Entails.refl _
    have hlev : (bigSep Finset.univ fun c : Dev nD => levels0 (Ix := Unit) (Val := Val) (Name := ℕ) (U := UU nD τ sig) (Lvl := ℕ) (τ := τ) (sig := sig) c)
        ⊢ (|==> levAts L D.lv : sProp 𝕄) := by
      refine (bigSep_mono fun c _ => lev_assign_cells (c.tc : Thread nD τ) L D.lv).trans <| (BI.bigSep_bupd _ _).trans <| BI.bupd_mono ?_
      have hsc : (bigSep Finset.univ fun d : Dev nD => bigSep (Finset.univ.erase Proc.tc) fun p => (coreLevAts ((d, p) : Thread nD τ) L D.lv : sProp 𝕄)) = BI.emp := by
        rw [bigSep_congr (Ψ := fun _ : Dev nD => (BI.emp : sProp 𝕄)) fun d _ =>
          (bigSep_congr (Ψ := fun _ : Proc τ => (BI.emp : sProp 𝕄)) fun p hp => by
            unfold coreLevAts
            rw [bigSep_congr (Ψ := fun _ : SemLoc sig => (BI.emp : sProp 𝕄)) fun sm _ => by
              rw [L_of_ne (((d, p) : Thread nD τ), sm) (Finset.ne_of_mem_erase hp), BI.bigSep_empty], BI.bigSep_emp_const]).trans
          (BI.bigSep_emp_const _), BI.bigSep_emp_const]
      rw [show (levAts L D.lv : sProp 𝕄) = bigSep Finset.univ fun c : Thread nD τ => coreLevAts c L D.lv
          from (bigSep_univ_prod fun g : GSem nD τ sig => bigSep (L g) fun ι => levAt g ι (D.lv g ι)),
        bigSep_threads (fun c : Thread nD τ => coreLevAts c L D.lv), hsc, bigSep_sep']
      have hend (A B : sProp 𝕄) : iprop(A ∗ B) ⊢ iprop(B ∗ emp) := by
        iintro ⟨-, H⟩
        isplitl [H]; · iexact H
        iempintro
      exact hend _ _
    have hpick (Φ : Fin 1 → Dev nD → sProp 𝕄) :
        (bigSep Finset.univ fun c : Dev nD => bigSep Finset.univ fun p => Φ p c) ⊢ bigSep Finset.univ fun c : Dev nD => Φ 0 c :=
      bigSep_mono fun c _ => BI.bigSep_elim (Finset.mem_univ 0)
    have hown : (ownU (initOf (Pipeline.cells cfgs hinj) (Pipeline.launchToks cfgs hinj), initOf D.cellSet D.tokSet) : sProp 𝕄)
        ⊢ iprop(BI.own ((EP nD τ sig Val) (initOf (Pipeline.cells cfgs hinj) (Pipeline.launchToks cfgs hinj)))
          ∗ BI.own ((ER nD τ sig Val) (initOf D.cellSet D.tokSet))) := ownU_pair _ _
    iintro ⟨Hcores, Hu⟩
    ihave Hc := hcores $$ Hcores
    icases Hc with ⟨⟨Hsc, Hcells, Hidle⟩, Hos, Hub, HL, Hlv, Hcr⟩
    imod hlev $$ Hlv with Hla
    ihave Hu' := hown $$ Hu
    icases Hu' with ⟨HP, HG⟩
    imod (Pipeline.fund_ghost cfgs (EP nD τ sig Val) hinj) $$ HP with ⟨Hg, Ht⟩
    imod D.seed_intro $$ HG with HG
    imod D.glob $$ [Hos HG Hla] with ⟨#HK, Hat, Htok⟩
    · isplitl [Hos]; · iexact Hos
      isplitl [HG] <;> iassumption
    ihave Hheld := hsplit $$ Hub
    imodintro
    iexists ()
    isplitr []
    · simp only [pre, kit, bigSep_sep']
      isplitl [Hsc]; · iexact Hsc
      isplitl [Hcells]; · iexact Hcells
      isplitl [Hidle]; · iexact Hidle
      isplitl [HL]; · iexact HL
      isplitl [Hg]
      · iapply (hpick fun p c => Pipeline.cellsGhost cfgs (EP nD τ sig Val) p c)
        iexact Hg
      isplitl [Ht]
      · iapply (hpick fun p c => Pipeline.toksInit cfgs (EP nD τ sig Val) p c)
        iexact Ht
      isplitr; · iapply (BI.bigSep_intro_persistent (S := Finset.univ) fun (c : Dev nD) _ => (BI.Entails.refl (iprop(∃ K, D.records K) : sProp 𝕄))); iexact HK
      isplitr [Hheld]
      · isplitl [Hat]; · iexact Hat
        isplitl [Htok] <;> iassumption
      iexact Hheld
    · iempintro
  · -- one device's run of the region
    have hlast : (Fin.last (cfgs 0).N).val ≠ 0 := by rw [Fin.val_last, hN]; decide
    have hin (q : Fin 0 → PosShare TreeShare) (V : (cst 0).pre.Contents Val) :
        iprop(((∃ K, D.records K ∗ D.kit c) ∗ held c) ∗ Pipeline.prefHeld (cst 0).pre c q V ∗ Pipeline.scopedRest (cfgs 0).spec c)
          ⊢ (D.dats cfgs held done 0 c).Φ 0 := by
      rw [D.dats_pre cfgs held done 0 c 0 rfl]
      iintro ⟨H, -, -⟩; iexact H
    have hout : iprop((D.dats cfgs held done 0 c).Φ (Fin.last (cfgs 0).N) ∗ Pipeline.cellsSems0 cfgs 0 c ∗ Dat.staging (cfgs 0) c ∗ idle c)
        ⊢ iprop(done c ∗ scopedSems0 (c.tc : Thread nD τ) ∗ scopedBufs (c.tc : Thread nD τ)) := by
      rw [D.dats_post cfgs held done 0 c _ hlast, hss c, hsb c, hscr c]
      iintro ⟨⟨Hd, Hos⟩, Hcells, Hst, Hidle⟩
      isplitl [Hd]; · iexact Hd
      isplitl [Hcells Hos Hidle]
      · isplitl [Hcells Hos]
        · isplitl [Hcells]; · iexact Hcells
          iapply (Entails.of_eq (show (bigSep Finset.univ fun i : Fin k => (semVal (D.cell c i) 0 : sProp 𝕄))
            = Pipeline.ownSems0 (Ix := Unit) (Name := ℕ) (U := UU nD τ sig) (Lvl := ℕ) (Val := Val) (τ := τ) D.sem c from rfl)); iexact Hos
        iexact Hidle
      isplitl [Hst]; · iexact Hst
      iempintro
    simp only [pre]
    rw [hmain c]
    iintro ⟨Hsc, Hcells, Hidle, HL, Hg, Ht, HK, Hkit, Hheld⟩
    iapply (fupd_wp frame (wpE (Pipeline.defs (fun p => cst p) defs₀) (Variants.lift 𝒱₀) (c.tc : Thread nD τ) none) Set.univ _ _)
    imod (Pipeline.cellsInit_alloc cfgs (D.dats cfgs held done) (EP nD τ sig Val) hinj 0 c) $$ [Hcells Hg] with ⟨%κ, -, Hinit⟩
    · isplitl [Hcells] <;> iassumption
    imodintro
    iapply (Pipeline.wp_customCall_entry_frame (fun p => cst p) (fun p => adm p) (D.dats cfgs held done) () (EP nD τ sig Val) κ hinj 0 defs₀ 𝒱₀
        (fun k => nomatch k) c Set.univ (fun _ _ => Set.mem_univ _) (D.obligation cfgs held done hN defs₀ 𝒱₀ c (hbody c)).loose h.block_pos none
        (fun u h => nomatch h) (X := iprop((∃ K, D.records K ∗ D.kit c) ∗ held c)) (Y := done c) (R := Pipeline.scopedRest (cfgs 0).spec c) (I := idle c)
        (Entails.of_eq (hsb c)) (hin _ _) hout (k := fun _ => .ret ⟨⟩) (Q := fun _ => post (liftTc fin BI.emp) (c.tc : Thread nD τ))) $$ [HL Hinit Ht Hidle Hsc HK Hkit Hheld]
    · isplitl [HL Hinit Ht]
      · unfold Pipeline.EntryPre Pipeline.PerCore.EntryPre Dat.owesAt Pipeline.owesWithin
        isplitr
        · iapply (Entails.of_eq (show (BI.emp : sProp 𝕄) = (D.dats cfgs held done 0 c).arrays ((D.dats cfgs held done 0 c).arrAt · 0) from by
            unfold Dat.arrays; rw [show (Finset.univ : Finset (Fin (cfgs 0).W)) = ∅ from Finset.univ_eq_empty, BI.bigSep_empty]))
          iempintro
        isplitl [HL]
        · iexists ∅; isplitr; · ipureintro; rw [Finset.coe_empty]; exact Set.empty_subset _
          iapply (Entails.of_eq (congrArg (fun O => owes (c.tc : Thread nD τ) O ∅) (D.dats_owe cfgs held done 0 c 0 rfl).symm)); iexact HL
        isplitr
        · iapply (Pipeline.cellsWaits_intro cfgs (D.dats cfgs held done) () 0 c (R := iprop(⌜True⌝)) fun w => (hW.false w).elim); ipureintro; trivial
        isplitl [Hinit] <;> iassumption
      isplitr
      · iapply (Entails.of_eq (Pipeline.prefHeld_of_none (cst 0).pre rfl c (fun k => nomatch k) _).symm); iempintro
      isplitl [HK Hkit Hheld]
      · isplitr [Hheld]
        · icases HK with ⟨%K, HK⟩
          iexists K; isplitl [HK] <;> iassumption
        iexact Hheld
      isplitl [Hidle] <;> iassumption
    iintro ⟨Hpost, Hd, Hss, -⟩
    rw [wp_ret]; imodintro
    unfold post; simp only [liftTc_tc, fin]
    isplitr [Hpost]
    · isplitl [Hd] <;> iassumption
    unfold Pipeline.EntryPost Pipeline.PerCore.EntryPost Dat.owesAt Pipeline.owesWithin
    icases Hpost with ⟨-, ⟨%W, -, HW⟩⟩
    iexists W
    iapply (Entails.of_eq (congrArg (fun O => owes (c.tc : Thread nD τ) O W) (D.dats_owe0 cfgs held done 0 c _ hlast))); iexact HW
  · -- the final memory read
    have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨Hd, Hss⟩, HSI⟩
      ihave %hz := (tcScoped_read_pers c s') $$ [Hss HSI]
      · isplitl [Hss] <;> iassumption
      imod (hread c s') $$ [Hd HSI] with ⟨%hy, HSI⟩
      · isplitl [Hd] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Run

end Plan

end Cert.Talk

end
-- ==== Proof.GatherParts.lean ====
/-
# The parts of the gather's arrays

The result is four slabs, one per chip, each in two halves, one per core. A device writes its own slab from its whole
argument, its half of a slab of another chip from a half of its argument, and passes such a half on to its sibling. Here:
which elements each of those views reaches, and what a copy through each leaves.
-/
module

public import proofs.«01_k».proof.Proof.TalkLaunch
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal

open Idealize.ShloMosaic
open Idealize.ShloMosaic.TcCoe
open Cert.KernelIdeal.Gen

variable {F : FTy → Type} [FloatOps F]

/-! ## Devices -/

/-- The chips a device sends to: one step along the first axis, along the second, along both. -/
def peer : Fin 3 → Equiv.Perm (Dev nD)
  | 0 => ⟨fun d => ⟨k0_dev1 d, k0_dev1_lt d⟩, fun d => ⟨k0_dev1 d, k0_dev1_lt d⟩, by decide +kernel, by decide +kernel⟩
  | 1 => ⟨fun d => ⟨k0_dev2 d, k0_dev2_lt d⟩, fun d => ⟨k0_dev2 d, k0_dev2_lt d⟩, by decide +kernel, by decide +kernel⟩
  | 2 => ⟨fun d => ⟨k0_dev3 d, k0_dev3_lt d⟩, fun d => ⟨k0_dev3 d, k0_dev3_lt d⟩, by decide +kernel, by decide +kernel⟩

/-- The other core of the chip, as each of the three passes names it. -/
def sib : Fin 3 → Equiv.Perm (Dev nD)
  | 0 => ⟨fun d => ⟨k0_dev4 d, k0_dev4_lt d⟩, fun d => ⟨k0_dev4 d, k0_dev4_lt d⟩, by decide +kernel, by decide +kernel⟩
  | 1 => ⟨fun d => ⟨k0_dev5 d, k0_dev5_lt d⟩, fun d => ⟨k0_dev5 d, k0_dev5_lt d⟩, by decide +kernel, by decide +kernel⟩
  | 2 => ⟨fun d => ⟨k0_dev6 d, k0_dev6_lt d⟩, fun d => ⟨k0_dev6 d, k0_dev6_lt d⟩, by decide +kernel, by decide +kernel⟩

/-- The slab of a device's own chip, and those of the three others. -/
def pos (c : Dev nD) : Fin 4 → Fin 4
  | 0 => ⟨k0_off1 c 0, by revert c; decide +kernel⟩
  | 1 => ⟨k0_off4 c 0, by revert c; decide +kernel⟩
  | 2 => ⟨k0_off5 c 0, by revert c; decide +kernel⟩
  | 3 => ⟨k0_off6 c 0, by revert c; decide +kernel⟩

/-- The half a device fetches, and the one its sibling fetches. -/
def mine (c : Dev nD) : Fin 2 := ⟨c.val % 2, by omega⟩
def theirs (c : Dev nD) : Fin 2 := ⟨1 - c.val % 2, by omega⟩

/-- The device of chip `k` and core `h`. -/
def home (k : Fin 4) (h : Fin 2) : Dev nD := ⟨2 * k.val + h.val, by have := k.isLt; have := h.isLt; show _ < 8; omega⟩

theorem pos_inj (c : Dev nD) : Function.Injective (pos c) := by revert c; decide +kernel
theorem pos_surj (c : Dev nD) : ∀ k : Fin 4, ∃ t, pos c t = k := by revert c; decide +kernel
theorem pos_peer (c : Dev nD) (t : Fin 3) : pos (peer t c) t.succ = pos c 0 := by revert c t; decide +kernel
theorem pos_peer_ne (c : Dev nD) (t : Fin 3) : pos c 0 ≠ pos (peer t c) 0 := by revert c t; decide +kernel
theorem pos_sib (c : Dev nD) (t : Fin 3) (s : Fin 4) : pos (sib t c) s = pos c s := by revert c t s; decide +kernel
theorem pos_own (c : Dev nD) (t : Fin 3) : pos c t.succ ≠ pos c 0 := by revert c t; decide +kernel
theorem mine_peer (c : Dev nD) (t : Fin 3) : mine (peer t c) = mine c := by revert c t; decide +kernel
theorem theirs_sib (c : Dev nD) (t : Fin 3) : theirs (sib t c) = mine c := by revert c t; decide +kernel
theorem mine_ne (c : Dev nD) : mine c ≠ theirs c := by revert c; decide +kernel
theorem mine_or (c : Dev nD) (h : Fin 2) : h = mine c ∨ h = theirs c := by revert c h; decide +kernel
theorem home_self (c : Dev nD) : home (pos c 0) (mine c) = c := by revert c; decide +kernel

/-! ## Elements -/

abbrev SI4 : Type := S4x14112x1024.Idx
abbrev SI2 : Type := S14112x1024.Idx

/-- The slab an element of the result lies in, and the half. -/
abbrev at0 (i : SI4) : Fin 4 := i 0
abbrev at1 (i : SI4) : Fin 14112 := i 1
def half (i : SI4) : Fin 2 := ⟨(at1 i).val / 7056, by have := (at1 i).isLt; omega⟩
/-- The half an element of the argument lies in. -/
def half2 (x : SI2) : Fin 2 := ⟨(show Fin 14112 from x 0).val / 7056, by have := (show Fin 14112 from x 0).isLt; omega⟩

/-- The elements of slab `k`, of its half `h`, and of half `h` of the argument. -/
def row (k : Fin 4) : Finset SI4 := Finset.univ.filter fun i => at0 i = k
def piece (k : Fin 4) (h : Fin 2) : Finset SI4 := Finset.univ.filter fun i => at0 i = k ∧ half i = h
def part (h : Fin 2) : Finset SI2 := Finset.univ.filter fun x => half2 x = h

theorem mem_row {k : Fin 4} {i : SI4} : i ∈ row k ↔ at0 i = k := by simp [row]
theorem mem_piece {k : Fin 4} {h : Fin 2} {i : SI4} : i ∈ piece k h ↔ at0 i = k ∧ half i = h := by simp [piece]
theorem mem_part {h : Fin 2} {x : SI2} : x ∈ part h ↔ half2 x = h := by simp [part]

/-- The element of the argument at the same place of its slab. -/
def inner (i : SI4) : SI2 := fun a => i a.succ

/-! ## Views -/

abbrev inM : Memref sig .tc .hbm S14112x1024 .bf16 := Memref.whole main_arg0
abbrev outM : Memref sig .tc .hbm S4x14112x1024 .bf16 := Memref.whole main_v1

/-- A slab of the result, half a slab, and half the argument, as the kernel names them. -/
abbrev slabV (off : Fin 3 → Nat) (h : ∀ a, off a + S1x14112x1024.size a ≤ S4x14112x1024.size a) : Memref sig .tc .hbm S14112x1024 .bf16 :=
  (outM.slice (Rect.unit (s := S4x14112x1024) off S1x14112x1024.size h) (fun _ => rfl)).squeeze S14112x1024 squeezes_S1x14112x1024_S14112x1024
abbrev pieceV (off : Fin 3 → Nat) (h : ∀ a, off a + S1x7056x1024.size a ≤ S4x14112x1024.size a) : Memref sig .tc .hbm S7056x1024 .bf16 :=
  (outM.slice (Rect.unit (s := S4x14112x1024) off S1x7056x1024.size h) (fun _ => rfl)).squeeze S7056x1024 squeezes_S1x7056x1024_S7056x1024
abbrev partV (off : Fin 2 → Nat) (h : ∀ a, off a + S7056x1024.size a ≤ S14112x1024.size a) : Memref sig .tc .hbm S7056x1024 .bf16 :=
  inM.slice (Rect.unit (s := S14112x1024) off S7056x1024.size h) (fun _ => rfl)

section Slab
variable {off : Fin 3 → Nat} (h : ∀ a, off a + S1x14112x1024.size a ≤ S4x14112x1024.size a) {k : Fin 4}
    (ho : off 0 = k.val ∧ off 1 = 0 ∧ off 2 = 0)
include ho

theorem set_slab : (slabV off h).view.set = row k := by
  obtain ⟨h0, h1, h2⟩ := ho
  refine (View.set_reshape _ _).trans ((View.set_slice_whole main_v1 _).trans (Finset.ext fun i => ?_))
  show i ∈ (Rect.unit (s := S4x14112x1024) off S1x14112x1024.size h).set ↔ i ∈ row k
  rw [Rect.mem_set_unit, mem_row]
  constructor
  · intro H
    have H0 : off 0 ≤ (at0 i).val ∧ (at0 i).val < off 0 + 1 := H 0
    exact Fin.ext (by omega)
  · intro e a
    have i1 : (i 1).val < 14112 := (i 1).isLt
    have i2 : (i 2).val < 1024 := (i 2).isLt
    match a with
    | ⟨0, _⟩ => subst e; exact ⟨by show off 0 ≤ (at0 i).val; omega, by show (at0 i).val < off 0 + 1; omega⟩
    | ⟨1, _⟩ => exact ⟨by show off 1 ≤ (i 1).val; omega, by show (i 1).val < off 1 + 14112; omega⟩
    | ⟨2, _⟩ => exact ⟨by show off 2 ≤ (i 2).val; omega, by show (i 2).val < off 2 + 1024; omega⟩

end Slab

section Piece
variable {off : Fin 3 → Nat} (h : ∀ a, off a + S1x7056x1024.size a ≤ S4x14112x1024.size a) {k : Fin 4} {p : Fin 2}
    (ho : off 0 = k.val ∧ off 1 = 7056 * p.val ∧ off 2 = 0)
include ho

theorem set_piece : (pieceV off h).view.set = piece k p := by
  obtain ⟨h0, h1, h2⟩ := ho
  refine (View.set_reshape _ _).trans ((View.set_slice_whole main_v1 _).trans (Finset.ext fun i => ?_))
  show i ∈ (Rect.unit (s := S4x14112x1024) off S1x7056x1024.size h).set ↔ i ∈ piece k p
  rw [Rect.mem_set_unit, mem_piece]
  have i1 := (at1 i).isLt
  have i2 : (i 2).val < 1024 := (i 2).isLt
  constructor
  · intro H
    have H0 : off 0 ≤ (at0 i).val ∧ (at0 i).val < off 0 + 1 := H 0
    have H1 : off 1 ≤ (at1 i).val ∧ (at1 i).val < off 1 + 7056 := H 1
    exact ⟨Fin.ext (by omega), Fin.ext (by show (at1 i).val / 7056 = p.val; omega)⟩
  · rintro ⟨e, e'⟩ a
    have e1 : (at1 i).val / 7056 = p.val := congrArg Fin.val e'
    match a with
    | ⟨0, _⟩ => subst e; exact ⟨by show off 0 ≤ (at0 i).val; omega, by show (at0 i).val < off 0 + 1; omega⟩
    | ⟨1, _⟩ => exact ⟨by show off 1 ≤ (at1 i).val; omega, by show (at1 i).val < off 1 + 7056; omega⟩
    | ⟨2, _⟩ => exact ⟨by show off 2 ≤ (i 2).val; omega, by show (i 2).val < off 2 + 1024; omega⟩

end Piece

section Part
variable {off : Fin 2 → Nat} (h : ∀ a, off a + S7056x1024.size a ≤ S14112x1024.size a) {p : Fin 2}
    (ho : off 0 = 7056 * p.val ∧ off 1 = 0)
include ho

theorem set_part : (partV off h).view.set = part p := by
  obtain ⟨h0, h1⟩ := ho
  refine (View.set_slice_whole main_arg0 _).trans (Finset.ext fun x => ?_)
  show x ∈ (Rect.unit (s := S14112x1024) off S7056x1024.size h).set ↔ x ∈ part p
  rw [Rect.mem_set_unit, mem_part]
  have x1 : (x 1).val < 1024 := (x 1).isLt
  constructor
  · intro H
    have H0 : off 0 ≤ (x 0).val ∧ (x 0).val < off 0 + 7056 := H 0
    exact Fin.ext (by show (x 0).val / 7056 = p.val; omega)
  · intro e a
    have e1 : (x 0).val / 7056 = p.val := congrArg Fin.val e
    match a with
    | ⟨0, _⟩ => exact ⟨by show off 0 ≤ (x 0).val; omega, by show (x 0).val < off 0 + 7056; omega⟩
    | ⟨1, _⟩ => exact ⟨by show off 1 ≤ (x 1).val; omega, by show (x 1).val < off 1 + 1024; omega⟩

end Part

theorem emb_slab (off : Fin 3 → Nat) (h : ∀ a, off a + S1x14112x1024.size a ≤ S4x14112x1024.size a) (x : SI2) (a : Fin 3) :
    ((Rect.unit (s := S4x14112x1024) off S1x14112x1024.size h).emb
      (Shape.reshapeEquiv (s := S1x14112x1024) (s' := S14112x1024) squeezes_S1x14112x1024_S14112x1024.numel_eq x) a : ℕ)
      = off a + (![0, (x 0).val, (x 1).val] : Fin 3 → ℕ) a := by
  rw [Rect.emb_apply]
  have e : Shape.reshapeEquiv (s := S1x14112x1024) (s' := S14112x1024) squeezes_S1x14112x1024_S14112x1024.numel_eq x
      = Fin.cons ⟨0, Nat.one_pos⟩ x := Shape.reshapeEquiv_cons_one _ x
  rw [e]
  match a with
  | ⟨0, _⟩ => rfl
  | ⟨1, _⟩ => show off 1 + 1 * (x 0).val = off 1 + (x 0).val; omega
  | ⟨2, _⟩ => show off 2 + 1 * (x 1).val = off 2 + (x 1).val; omega

theorem emb_piece (off : Fin 3 → Nat) (h : ∀ a, off a + S1x7056x1024.size a ≤ S4x14112x1024.size a) (x : S7056x1024.Idx) (a : Fin 3) :
    ((Rect.unit (s := S4x14112x1024) off S1x7056x1024.size h).emb
      (Shape.reshapeEquiv (s := S1x7056x1024) (s' := S7056x1024) squeezes_S1x7056x1024_S7056x1024.numel_eq x) a : ℕ)
      = off a + (![0, (x 0).val, (x 1).val] : Fin 3 → ℕ) a := by
  rw [Rect.emb_apply]
  have e : Shape.reshapeEquiv (s := S1x7056x1024) (s' := S7056x1024) squeezes_S1x7056x1024_S7056x1024.numel_eq x
      = Fin.cons ⟨0, Nat.one_pos⟩ x := Shape.reshapeEquiv_cons_one _ x
  rw [e]
  match a with
  | ⟨0, _⟩ => rfl
  | ⟨1, _⟩ => show off 1 + 1 * (x 0).val = off 1 + (x 0).val; omega
  | ⟨2, _⟩ => show off 2 + 1 * (x 1).val = off 2 + (x 1).val; omega

theorem emb_part (off : Fin 2 → Nat) (h : ∀ a, off a + S7056x1024.size a ≤ S14112x1024.size a) (x : S7056x1024.Idx) (a : Fin 2) :
    ((Rect.unit (s := S14112x1024) off S7056x1024.size h).emb x a : ℕ) = off a + (x a).val := by
  rw [Rect.emb_apply]
  show off a + 1 * (x a).val = off a + (x a).val
  omega

/-! ## Copies -/

/-- The whole argument copied onto a slab. -/
theorem copied_slab {off : Fin 3 → Nat} (h : ∀ a, off a + S1x14112x1024.size a ≤ S4x14112x1024.size a) (h1 : off 1 = 0) (h2 : off 2 = 0)
    (fs : SI2 → Elt F .bf16) (fd : SI4 → Elt F .bf16) (i : SI4) (hi : i ∈ (slabV off h).view.set) :
    (slabV off h).view.write (Elt F) fd (inM.view.read (Elt F) fs) Finset.univ i = fs (inner i) := by
  obtain ⟨x, -, rfl⟩ := Finset.mem_map.1 hi
  refine (View.write_emb_of_mem (Val := Elt F) (v := (slabV off h).view) fd _ (Finset.mem_univ x)).trans ?_
  rw [View.read_apply]
  show fs x = fs _
  congr 1
  funext a
  refine Fin.ext ?_
  match a with
  | ⟨0, _⟩ => exact (show (x 0).val = off 1 + (x 0).val by omega).trans (emb_slab off h x 1).symm
  | ⟨1, _⟩ => exact (show (x 1).val = off 2 + (x 1).val by omega).trans (emb_slab off h x 2).symm

/-- A half of the argument copied onto half a slab. -/
theorem copied_part {off : Fin 2 → Nat} {off' : Fin 3 → Nat} (h : ∀ a, off a + S7056x1024.size a ≤ S14112x1024.size a)
    (h' : ∀ a, off' a + S1x7056x1024.size a ≤ S4x14112x1024.size a) (h1 : off' 1 = off 0) (h2 : off' 2 = off 1)
    (fs : SI2 → Elt F .bf16) (fd : SI4 → Elt F .bf16) (i : SI4) (hi : i ∈ (pieceV off' h').view.set) :
    (pieceV off' h').view.write (Elt F) fd ((partV off h).view.read (Elt F) fs) Finset.univ i = fs (inner i) := by
  obtain ⟨x, -, rfl⟩ := Finset.mem_map.1 hi
  refine (View.write_emb_of_mem (Val := Elt F) (v := (pieceV off' h').view) fd _ (Finset.mem_univ x)).trans ?_
  rw [View.read_apply]
  show fs _ = fs _
  congr 1
  funext a
  refine Fin.ext ?_
  refine (emb_part off h x a).trans ?_
  match a with
  | ⟨0, _⟩ => exact (show off 0 + (x 0).val = off' 1 + (x 0).val by omega).trans (emb_piece off' h' x 1).symm
  | ⟨1, _⟩ => exact (show off 1 + (x 1).val = off' 2 + (x 1).val by omega).trans (emb_piece off' h' x 2).symm

/-- Half a slab copied onto the same half of the same slab of another device. -/
theorem copied_piece {off : Fin 3 → Nat} (h : ∀ a, off a + S1x7056x1024.size a ≤ S4x14112x1024.size a)
    (fs fd : SI4 → Elt F .bf16) (i : SI4) (hi : i ∈ (pieceV off h).view.set) :
    (pieceV off h).view.write (Elt F) fd ((pieceV off h).view.read (Elt F) fs) Finset.univ i = fs i := by
  obtain ⟨x, -, rfl⟩ := Finset.mem_map.1 hi
  refine (View.write_emb_of_mem (Val := Elt F) (v := (pieceV off h).view) fd _ (Finset.mem_univ x)).trans ?_
  rw [View.read_apply]
  rfl

end Cert.KernelIdeal

end
-- ==== Proof.GatherPlan.lean ====
/-
# The gather of the weights

Each device copies its whole argument onto the slab of its own chip and sends its half of it to the three other chips
(same core), onto its half of the slab of this chip there. As each of the three halves from the other chips arrives, it is
passed on to the sibling core; then the device waits for the sibling's three, for its own six to have left, and for the
local copy: thirteen semaphores, one round each. The wait for a half from another chip stands below the passes still
owed to the sibling. The run is over any floats, with the contents it ends at.
-/
module

public import proofs.«01_k».proof.Proof.GatherParts

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Talk

variable {F : FTy → Type} [FloatOps F]

local notation "𝕄" => MT nD τ sig Unit (Elt F) ℕ (UU nD τ sig) ℕ

/-! ## The plan -/

/-- The semaphores: three halves sent left, three passed on left, three halves arrived, three passed on arrived, the local
copy done. -/
def sems : Fin 13 → SemLoc sig := ![.dma ⟨0, by decide⟩, .dma ⟨1, by decide⟩, .dma ⟨2, by decide⟩, .dma ⟨3, by decide⟩, .dma ⟨4, by decide⟩,
  .dma ⟨5, by decide⟩, .dma ⟨6, by decide⟩, .dma ⟨7, by decide⟩, .dma ⟨8, by decide⟩, .dma ⟨9, by decide⟩, .dma ⟨10, by decide⟩,
  .dma ⟨11, by decide⟩, .dma ⟨12, by decide⟩]

theorem sem_0 : SemLoc.dma ((cc0_scratch0.slice (Rect.unit (s := S6) ![0] S1.size inb_S6_S1_0)).squeeze S_ squeezes_S1_S_).sem = sems 0 := by decide +kernel
theorem sem_1 : SemLoc.dma ((cc0_scratch0.slice (Rect.unit (s := S6) ![1] S1.size inb_S6_S1_1)).squeeze S_ squeezes_S1_S_).sem = sems 1 := by decide +kernel
theorem sem_2 : SemLoc.dma ((cc0_scratch0.slice (Rect.unit (s := S6) ![2] S1.size inb_S6_S1_2)).squeeze S_ squeezes_S1_S_).sem = sems 2 := by decide +kernel
theorem sem_3 : SemLoc.dma ((cc0_scratch0.slice (Rect.unit (s := S6) ![3] S1.size inb_S6_S1_3)).squeeze S_ squeezes_S1_S_).sem = sems 3 := by decide +kernel
theorem sem_4 : SemLoc.dma ((cc0_scratch0.slice (Rect.unit (s := S6) ![4] S1.size inb_S6_S1_4)).squeeze S_ squeezes_S1_S_).sem = sems 4 := by decide +kernel
theorem sem_5 : SemLoc.dma ((cc0_scratch0.slice (Rect.unit (s := S6) ![5] S1.size inb_S6_S1_5)).squeeze S_ squeezes_S1_S_).sem = sems 5 := by decide +kernel
theorem sem_6 : SemLoc.dma ((cc0_scratch1.slice (Rect.unit (s := S6) ![0] S1.size inb_S6_S1_0)).squeeze S_ squeezes_S1_S_).sem = sems 6 := by decide +kernel
theorem sem_7 : SemLoc.dma ((cc0_scratch1.slice (Rect.unit (s := S6) ![1] S1.size inb_S6_S1_1)).squeeze S_ squeezes_S1_S_).sem = sems 7 := by decide +kernel
theorem sem_8 : SemLoc.dma ((cc0_scratch1.slice (Rect.unit (s := S6) ![2] S1.size inb_S6_S1_2)).squeeze S_ squeezes_S1_S_).sem = sems 8 := by decide +kernel
theorem sem_9 : SemLoc.dma ((cc0_scratch1.slice (Rect.unit (s := S6) ![3] S1.size inb_S6_S1_3)).squeeze S_ squeezes_S1_S_).sem = sems 9 := by decide +kernel
theorem sem_10 : SemLoc.dma ((cc0_scratch1.slice (Rect.unit (s := S6) ![4] S1.size inb_S6_S1_4)).squeeze S_ squeezes_S1_S_).sem = sems 10 := by decide +kernel
theorem sem_11 : SemLoc.dma ((cc0_scratch1.slice (Rect.unit (s := S6) ![5] S1.size inb_S6_S1_5)).squeeze S_ squeezes_S1_S_).sem = sems 11 := by decide +kernel
theorem sem_12 : SemLoc.dma cc0_scratch2.sem = sems 12 := by decide +kernel

variable (m : (ℓ : Loc nD τ sig) → Buf (Elt F) ℓ)

/-- A device's argument at the launch. -/
abbrev arg (c : Dev nD) : SI2 → Elt F .bf16 := m ((c.tc : Thread nD τ).loc main_arg0)
/-- A device's result at the launch. -/
abbrev old (c : Dev nD) : SI4 → Elt F .bf16 := m ((c.tc : Thread nD τ).loc main_v1)
/-- Whose argument an element of a device's result is from: its own in its own slab, elsewhere that of the slab's chip on
the half's core. -/
def src (c : Dev nD) (i : SI4) : Dev nD := if at0 i = pos c 0 then c else home (at0 i) (half i)
/-- What a device ends with. -/
def got (c : Dev nD) : SI4 → Elt F .bf16 := fun i => arg m (src c i) (inner i)

/-- A device's whole argument, half of it, and a slab and half a slab of its result. -/
abbrev inAll (c : Dev nD) (q : PosShare TreeShare) (f : SI2 → Elt F .bf16) : sProp 𝕄 := iprop(((c.tc : Thread nD τ).loc main_arg0) ↦{q} f)
abbrev inPart (c : Dev nD) (p : Fin 2) (q : PosShare TreeShare) (f : SI2 → Elt F .bf16) : sProp 𝕄 := iprop(((c.tc : Thread nD τ).loc main_arg0) ↦[part p]{q} f)
abbrev outRow (c : Dev nD) (k : Fin 4) (f : SI4 → Elt F .bf16) : sProp 𝕄 := iprop(((c.tc : Thread nD τ).loc main_v1) ↦[row k]{fullShare} f)
abbrev outPiece (c : Dev nD) (k : Fin 4) (p : Fin 2) (f : SI4 → Elt F .bf16) : sProp 𝕄 := iprop(((c.tc : Thread nD τ).loc main_v1) ↦[piece k p]{fullShare} f)

/-- What a whole slab counts, and half a slab. -/
abbrev amtSlab : ℕ := (slabV (k0_off1 0) (k0_off1_inb 0)).view.dmaCredit
abbrev amtPiece : ℕ := (pieceV (k0_off2 0) (k0_off2_inb 0)).view.dmaCredit

def plan : Plan nD τ sig (Elt F) 13 where
  sem := sems
  sem_inj := by decide
  amt := ![amtPiece, amtPiece, amtPiece, amtPiece, amtPiece, amtPiece, amtPiece, amtPiece, amtPiece, amtPiece, amtPiece, amtPiece, amtSlab]
  amt_pos i := by
    fin_cases i
    iterate 12 exact View.dmaCredit_pos (pieceV (k0_off2 0) (k0_off2_inb 0)).view (by decide)
    exact View.dmaCredit_pos (slabV (k0_off1 0) (k0_off1_inb 0)).view (by decide)
  who := ![Equiv.refl _, Equiv.refl _, Equiv.refl _, Equiv.refl _, Equiv.refl _, Equiv.refl _, peer 0, peer 1, peer 2, sib 0, sib 1, sib 2, Equiv.refl _]
  far := ![false, false, false, false, false, false, true, true, true, true, true, true, false]
  lvl := ![0, 0, 0, 0, 0, 0, 1, 1, 1, 2, 2, 2, 0]
  pay c := ![inPart c (mine c) fullShare.right.left (arg m c), inPart c (mine c) fullShare.right.right.left (arg m c),
    inPart c (mine c) fullShare.right.right.right (arg m c),
    outPiece c (pos c 1) (mine c) (got m c), outPiece c (pos c 2) (mine c) (got m c), outPiece c (pos c 3) (mine c) (got m c),
    outPiece c (pos c 1) (mine c) (got m c), outPiece c (pos c 2) (mine c) (got m c), outPiece c (pos c 3) (mine c) (got m c),
    outPiece c (pos c 1) (theirs c) (got m c), outPiece c (pos c 2) (theirs c) (got m c), outPiece c (pos c 3) (theirs c) (got m c),
    iprop(outRow c (pos c 0) (got m c) ∗ inAll c fullShare.left (arg m c))]
  pay_storable c i := by
    fin_cases i
    iterate 12 exact inferInstanceAs (BI.Storable _ (pointsTo _ _ _ _))
    exact inferInstanceAs (BI.Storable _ iprop(pointsTo _ _ _ _ ∗ pointsTo _ _ _ _))

/-- What a device holds at the launch: its argument, its own slab of its result, its half of that slab on the three chips it
sends to, and its half of the three other slabs on its sibling. -/
def held (c : Dev nD) : sProp 𝕄 :=
  iprop(inAll c fullShare (arg m c) ∗ outRow c (pos c 0) (old m c)
    ∗ (outPiece (peer 0 c) (pos c 0) (mine c) (old m (peer 0 c)) ∗ outPiece (sib 0 c) (pos c 1) (mine c) (old m (sib 0 c)))
    ∗ (outPiece (peer 1 c) (pos c 0) (mine c) (old m (peer 1 c)) ∗ outPiece (sib 1 c) (pos c 2) (mine c) (old m (sib 1 c)))
    ∗ outPiece (peer 2 c) (pos c 0) (mine c) (old m (peer 2 c)) ∗ outPiece (sib 2 c) (pos c 3) (mine c) (old m (sib 2 c)))
/-- What it holds at the end: its argument as before and its result gathered. -/
def done (c : Dev nD) : sProp 𝕄 :=
  iprop(inAll c fullShare (arg m c) ∗ ((c.tc : Thread nD τ).loc main_v1) ↦{fullShare} got m c)

theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-! ## Cutting the arrays -/

theorem rows_cover (c : Dev nD) : (Finset.univ : Finset SI4) = Finset.univ.biUnion fun t : Fin 4 => row (pos c t) := by
  ext i
  obtain ⟨t, ht⟩ := pos_surj c (at0 i)
  simp only [Finset.mem_univ, Finset.mem_biUnion, true_and, true_iff]
  exact ⟨t, mem_row.2 ht.symm⟩

theorem rows_apart (c : Dev nD) : ∀ t ∈ (Finset.univ : Finset (Fin 4)), ∀ t' ∈ (Finset.univ : Finset (Fin 4)), t ≠ t' → Disjoint (row (pos c t)) (row (pos c t')) :=
  fun t _ t' _ h => Finset.disjoint_left.2 fun i hi hi' => h (pos_inj c ((mem_row.1 hi).symm.trans (mem_row.1 hi')))

theorem row_halves (c : Dev nD) (k : Fin 4) : row k = piece k (mine c) ∪ piece k (theirs c) := by
  ext i
  rw [Finset.mem_union, mem_row, mem_piece, mem_piece]
  constructor
  · intro h
    rcases mine_or c (half i) with e | e
    · exact Or.inl ⟨h, e⟩
    · exact Or.inr ⟨h, e⟩
  · rintro (h | h) <;> exact h.1

theorem halves_apart (c : Dev nD) (k : Fin 4) : Disjoint (piece k (mine c)) (piece k (theirs c)) :=
  Finset.disjoint_left.2 fun i hi hi' => mine_ne c ((mem_piece.1 hi).2.symm.trans (mem_piece.1 hi').2)

theorem part_halves (c : Dev nD) : (Finset.univ : Finset SI2) = part (mine c) ∪ part (theirs c) := by
  ext x
  rw [Finset.mem_union, mem_part, mem_part]
  exact ⟨fun _ => mine_or c (half2 x), fun _ => Finset.mem_univ _⟩

theorem parts_apart (c : Dev nD) : Disjoint (part (mine c)) (part (theirs c)) :=
  Finset.disjoint_left.2 fun i hi hi' => mine_ne c ((mem_part.1 hi).symm.trans (mem_part.1 hi'))

theorem row_cut (c d : Dev nD) (k : Fin 4) (f : SI4 → Elt F .bf16) : (outRow d k f : sProp 𝕄) ⊣⊢ iprop(outPiece d k (mine c) f ∗ outPiece d k (theirs c) f) := by
  have e : (outRow d k f : sProp 𝕄) = iprop(((d.tc : Thread nD τ).loc main_v1) ↦[piece k (mine c) ∪ piece k (theirs c)]{fullShare} f) :=
    congrArg (fun S => (pointsTo ((d.tc : Thread nD τ).loc main_v1) S fullShare f : sProp 𝕄)) (row_halves c k)
  rw [e]
  exact pointsTo_union (halves_apart c k)

theorem in_cut (c : Dev nD) (q : PosShare TreeShare) (f : SI2 → Elt F .bf16) : (inAll c q f : sProp 𝕄) ⊣⊢ iprop(inPart c (mine c) q f ∗ inPart c (theirs c) q f) := by
  have e : (inAll c q f : sProp 𝕄) = iprop(((c.tc : Thread nD τ).loc main_arg0) ↦[part (mine c) ∪ part (theirs c)]{q} f) :=
    congrArg (fun S => (pointsTo ((c.tc : Thread nD τ).loc main_arg0) S q f : sProp 𝕄)) (part_halves c)
  rw [e]
  exact pointsTo_union (parts_apart c)

theorem rows_cut (c : Dev nD) (f : SI4 → Elt F .bf16) : (((c.tc : Thread nD τ).loc main_v1) ↦{fullShare} f : sProp 𝕄)
    = iprop(outRow c (pos c 0) f ∗ outRow c (pos c 1) f ∗ outRow c (pos c 2) f ∗ outRow c (pos c 3) f) := by
  refine Eq.trans ?_ (bigSep_4 fun t => outRow c (pos c t) f)
  refine Eq.trans ?_ (pointsTo_biUnion (ℓ := (c.tc : Thread nD τ).loc main_v1) (q := fullShare) (f := f) Finset.univ (fun t => row (pos c t)) (rows_apart c))
  exact congrArg (fun S => (pointsTo ((c.tc : Thread nD τ).loc main_v1) S fullShare f : sProp 𝕄)) (rows_cover c)

/-- The result in its seven parts. -/
theorem out_cut (c : Dev nD) (f : SI4 → Elt F .bf16) : (((c.tc : Thread nD τ).loc main_v1) ↦{fullShare} f : sProp 𝕄)
    ⊣⊢ iprop(outRow c (pos c 0) f ∗ (outPiece c (pos c 1) (mine c) f ∗ outPiece c (pos c 1) (theirs c) f)
      ∗ (outPiece c (pos c 2) (mine c) f ∗ outPiece c (pos c 2) (theirs c) f) ∗ outPiece c (pos c 3) (mine c) f ∗ outPiece c (pos c 3) (theirs c) f) := by
  rw [rows_cut]
  exact ⟨BIClass.sep_mono (BI.Entails.refl _) (BIClass.sep_mono (row_cut c c _ f).1 (BIClass.sep_mono (row_cut c c _ f).1 (row_cut c c _ f).1)),
    BIClass.sep_mono (BI.Entails.refl _) (BIClass.sep_mono (row_cut c c _ f).2 (BIClass.sep_mono (row_cut c c _ f).2 (row_cut c c _ f).2))⟩

/-- The argument: one share of it whole, three of the half that is sent, one of the half that is not. -/
theorem shares (c : Dev nD) (f : SI2 → Elt F .bf16) : (inAll c fullShare f : sProp 𝕄)
    ⊣⊢ iprop(inAll c fullShare.left f ∗ (inPart c (mine c) fullShare.right.left f ∗ inPart c (mine c) fullShare.right.right.left f
      ∗ inPart c (mine c) fullShare.right.right.right f) ∗ inPart c (theirs c) fullShare.right f) := by
  have a := pointsTo_share (Val := Elt F) (ℓ := (c.tc : Thread nD τ).loc main_arg0) (I := Finset.univ) (f := f) (Ix := Unit) (Name := ℕ) (U := UU nD τ sig) (Lvl := ℕ)
    (PosShare.mem_left_op_right fullShare)
  have b := in_cut c fullShare.right f
  have d := pointsTo_share (Val := Elt F) (ℓ := (c.tc : Thread nD τ).loc main_arg0) (I := part (mine c)) (f := f) (Ix := Unit) (Name := ℕ) (U := UU nD τ sig) (Lvl := ℕ)
    (PosShare.mem_left_op_right fullShare.right)
  have e := pointsTo_share (Val := Elt F) (ℓ := (c.tc : Thread nD τ).loc main_arg0) (I := part (mine c)) (f := f) (Ix := Unit) (Name := ℕ) (U := UU nD τ sig) (Lvl := ℕ)
    (PosShare.mem_left_op_right fullShare.right.right)
  constructor
  · refine a.1.trans (BIClass.sep_mono (BI.Entails.refl _) (b.1.trans (BIClass.sep_mono (d.1.trans (BIClass.sep_mono (BI.Entails.refl _) e.1)) (BI.Entails.refl _))))
  · iintro ⟨Hl, ⟨H1, H2, H3⟩, H⟩
    iapply a.2
    isplitl [Hl]; · iexact Hl
    iapply b.2
    isplitr [H]
    · iapply d.2
      isplitl [H1]; · iexact H1
      iapply e.2
      isplitl [H2]; · iexact H2
      iexact H3
    · iexact H

theorem moved (t : Fin 3) : (bigSep Finset.univ fun c : Dev nD => outPiece c (pos c t.succ) (mine c) (old m c) : sProp 𝕄)
    = bigSep Finset.univ fun c : Dev nD => outPiece (peer t c) (pos c 0) (mine c) (old m (peer t c)) := by
  rw [bigSep_univ_equiv (peer t) fun c : Dev nD => (outPiece c (pos c t.succ) (mine c) (old m c) : sProp 𝕄)]
  exact bigSep_congr fun c _ => by rw [pos_peer, mine_peer]

theorem passed (t : Fin 3) : (bigSep Finset.univ fun c : Dev nD => outPiece c (pos c t.succ) (theirs c) (old m c) : sProp 𝕄)
    = bigSep Finset.univ fun c : Dev nD => outPiece (sib t c) (pos c t.succ) (mine c) (old m (sib t c)) := by
  rw [bigSep_univ_equiv (sib t) fun c : Dev nD => (outPiece c (pos c t.succ) (theirs c) (old m c) : sProp 𝕄)]
  exact bigSep_congr fun c _ => by rw [pos_sib, theirs_sib]

theorem split : (bigSep Finset.univ fun c : Dev nD => (Pipeline.unscopedRest cfg0.spec c fun b => m ((c.tc : Thread nD τ).loc b) : sProp 𝕄))
    ⊢ bigSep Finset.univ (held m) := by
  rw [bigSep_congr fun c _ => unscopedRest0_eq c fun b => m ((c.tc : Thread nD τ).loc b)]
  refine (bigSep_mono fun c _ => show _ ⊢ _ from BIClass.sep_mono (BI.Entails.refl _) (out_cut c (old m c)).1).trans ?_
  unfold held
  simp only [bigSep_sep']
  refine sep_mono (BI.Entails.refl _) (sep_mono (BI.Entails.refl _) (sep_mono (sep_mono ?_ ?_) (sep_mono (sep_mono ?_ ?_) (sep_mono ?_ ?_))))
  · exact Entails.of_eq (moved m 0)
  · exact Entails.of_eq (passed m 0)
  · exact Entails.of_eq (moved m 1)
  · exact Entails.of_eq (passed m 1)
  · exact Entails.of_eq (moved m 2)
  · exact Entails.of_eq (passed m 2)

/-! ## What is owed -/

theorem fars_eq : (Finset.univ.filter fun i => (plan m).far i = true) = {(6 : Fin 13), 7, 8, 9, 10, 11} := by
  show (Finset.univ.filter fun i => (![false, false, false, false, false, false, true, true, true, true, true, true, false] : Fin 13 → Bool) i = true) = {(6 : Fin 13), 7, 8, 9, 10, 11}
  decide

/-- What a device owes at semaphore `j` of the device it sends to. -/
abbrev due (c : Dev nD) (j : Fin 13) : CellTallies nD τ sig Unit := tallyAt ((plan m).cell ((plan m).who j c) j) () ((plan m).amt j)

theorem owe_eq (c : Dev nD) : (plan m).owe c = ((((0 + due m c 11) + due m c 10) + due m c 9) + due m c 8) + due m c 7 + due m c 6 := by
  unfold Plan.owe Plan.fars
  rw [fars_eq, Finset.sum_insert (by decide), Finset.sum_insert (by decide), Finset.sum_insert (by decide), Finset.sum_insert (by decide),
    Finset.sum_insert (by decide), Finset.sum_singleton]
  unfold due
  generalize tallyAt _ _ _ = a6
  generalize tallyAt _ _ _ = a7
  generalize tallyAt _ _ _ = a8
  generalize tallyAt _ _ _ = a9
  generalize tallyAt _ _ _ = a10
  generalize tallyAt _ _ _ = a11
  rw [zero_add, add_comm a10 a11, add_comm a9, add_comm a8, add_comm a7, add_comm a6]

theorem due_at (c : Dev nD) (j : Fin 13) (g : GSem nD τ sig) (u : Unit) (h : 0 < due m c j g u) : g = (plan m).cell ((plan m).who j c) j := by
  by_contra hg
  exact absurd h (by rw [due, tallyAt_ne_cell hg]; exact Nat.lt_irrefl 0)

/-- The passes owed while a half is waited for are above it. -/
theorem above (c : Dev nD) (i : Fin 13) (hi : (plan m).lvl i < 2) (O : CellTallies nD τ sig Unit)
    (hO : ∀ g u, 0 < O g u → ∃ (d : Dev nD) (j : Fin 13), g = (plan m).cell d j ∧ (plan m).lvl i < (plan m).lvl j) (j : Fin 13) (hj : (plan m).lvl j = 2) :
    ∀ g u, 0 < (O + due m c j) g u → ∃ (d : Dev nD) (j : Fin 13), g = (plan m).cell d j ∧ (plan m).lvl i < (plan m).lvl j := by
  intro g u h
  rcases Nat.pos_of_ne_zero h.ne' |> fun h' => (Nat.add_pos_iff_pos_or_pos (m := O g u) (n := due m c j g u)).1 h' with h | h
  · exact hO g u h
  · exact ⟨_, j, due_at m c j g u h, by rw [hj]; exact hi⟩

theorem kit_split (c : Dev nD) : (plan m).kit c
    ⊢ iprop(((plan m).at0 c 0 ∗ (plan m).at0 c 1 ∗ (plan m).at0 c 2 ∗ (plan m).at0 c 3 ∗ (plan m).at0 c 4 ∗ (plan m).at0 c 5 ∗ (plan m).at0 c 6 ∗ (plan m).at0 c 7 ∗ (plan m).at0 c 8 ∗ (plan m).at0 c 9 ∗ (plan m).at0 c 10 ∗ (plan m).at0 c 11 ∗ (plan m).at0 c 12)
      ∗ ((plan m).tok c 0 ∗ (plan m).tok c 1 ∗ (plan m).tok c 2 ∗ (plan m).tok c 3 ∗ (plan m).tok c 4 ∗ (plan m).tok c 5 ∗ (plan m).tok c 6 ∗ (plan m).tok c 7 ∗ (plan m).tok c 8 ∗ (plan m).tok c 9 ∗ (plan m).tok c 10 ∗ (plan m).tok c 11 ∗ (plan m).tok c 12)
      ∗ (plan m).crd c 6 ∗ (plan m).crd c 7 ∗ (plan m).crd c 8 ∗ (plan m).crd c 9 ∗ (plan m).crd c 10 ∗ (plan m).crd c 11) := by
  unfold Plan.kit Plan.fars
  rw [fars_eq, bigSep_insert (by decide), bigSep_insert (by decide), bigSep_insert (by decide), bigSep_insert (by decide), bigSep_insert (by decide),
    bigSep_singleton, bigSep_13, bigSep_13]
  exact BI.Entails.refl _

theorem vals_join (c : Dev nD) : iprop(semVal ((plan m).cell c 0) 0 ∗ semVal ((plan m).cell c 1) 0 ∗ semVal ((plan m).cell c 2) 0 ∗ semVal ((plan m).cell c 3) 0 ∗ semVal ((plan m).cell c 4) 0 ∗ semVal ((plan m).cell c 5) 0 ∗ semVal ((plan m).cell c 6) 0 ∗ semVal ((plan m).cell c 7) 0 ∗ semVal ((plan m).cell c 8) 0 ∗ semVal ((plan m).cell c 9) 0 ∗ semVal ((plan m).cell c 10) 0 ∗ semVal ((plan m).cell c 11) 0 ∗ semVal ((plan m).cell c 12) 0)
    ⊢ (bigSep Finset.univ fun i => semVal ((plan m).cell c i) 0 : sProp 𝕄) := by
  rw [bigSep_13]

theorem pay_0 (c : Dev nD) : (plan m).pay c 0 = inPart c (mine c) fullShare.right.left (arg m c) := rfl
theorem pay_1 (c : Dev nD) : (plan m).pay c 1 = inPart c (mine c) fullShare.right.right.left (arg m c) := rfl
theorem pay_2 (c : Dev nD) : (plan m).pay c 2 = inPart c (mine c) fullShare.right.right.right (arg m c) := rfl
theorem pay_3 (c : Dev nD) : (plan m).pay c 3 = outPiece c (pos c 1) (mine c) (got m c) := rfl
theorem pay_4 (c : Dev nD) : (plan m).pay c 4 = outPiece c (pos c 2) (mine c) (got m c) := rfl
theorem pay_5 (c : Dev nD) : (plan m).pay c 5 = outPiece c (pos c 3) (mine c) (got m c) := rfl
theorem pay_6 (c : Dev nD) : (plan m).pay c 6 = outPiece c (pos c 1) (mine c) (got m c) := rfl
theorem pay_7 (c : Dev nD) : (plan m).pay c 7 = outPiece c (pos c 2) (mine c) (got m c) := rfl
theorem pay_8 (c : Dev nD) : (plan m).pay c 8 = outPiece c (pos c 3) (mine c) (got m c) := rfl
theorem pay_9 (c : Dev nD) : (plan m).pay c 9 = outPiece c (pos c 1) (theirs c) (got m c) := rfl
theorem pay_10 (c : Dev nD) : (plan m).pay c 10 = outPiece c (pos c 2) (theirs c) (got m c) := rfl
theorem pay_11 (c : Dev nD) : (plan m).pay c 11 = outPiece c (pos c 3) (theirs c) (got m c) := rfl
theorem pay_12 (c : Dev nD) : (plan m).pay c 12 = iprop(outRow c (pos c 0) (got m c) ∗ inAll c fullShare.left (arg m c)) := rfl

/-! ## The pieces as the kernel's views name them -/

theorem slab_eq {off : Fin 3 → Nat} (h : ∀ a, off a + S1x14112x1024.size a ≤ S4x14112x1024.size a) {k : Fin 4}
    (ho : off 0 = k.val ∧ off 1 = 0 ∧ off 2 = 0) (c : Dev nD) (f : SI4 → Elt F .bf16) :
    (((slabV off h).view.loc (c.tc : Thread nD τ)) ↦[(slabV off h).view.set]{fullShare} f : sProp 𝕄) = outRow c k f :=
  congrArg (fun S => (pointsTo ((c.tc : Thread nD τ).loc main_v1) S fullShare f : sProp 𝕄)) (set_slab h ho)

theorem piece_eq {off : Fin 3 → Nat} (h : ∀ a, off a + S1x7056x1024.size a ≤ S4x14112x1024.size a) {k : Fin 4} {p : Fin 2}
    (ho : off 0 = k.val ∧ off 1 = 7056 * p.val ∧ off 2 = 0) (c : Dev nD) (f : SI4 → Elt F .bf16) :
    (((pieceV off h).view.loc (c.tc : Thread nD τ)) ↦[(pieceV off h).view.set]{fullShare} f : sProp 𝕄) = outPiece c k p f :=
  congrArg (fun S => (pointsTo ((c.tc : Thread nD τ).loc main_v1) S fullShare f : sProp 𝕄)) (set_piece h ho)

theorem part_eq {off : Fin 2 → Nat} (h : ∀ a, off a + S7056x1024.size a ≤ S14112x1024.size a) {p : Fin 2}
    (ho : off 0 = 7056 * p.val ∧ off 1 = 0) (c : Dev nD) (q : PosShare TreeShare) (f : SI2 → Elt F .bf16) :
    (((partV off h).view.loc (c.tc : Thread nD τ)) ↦[(partV off h).view.set]{q} f : sProp 𝕄) = inPart c p q f :=
  congrArg (fun S => (pointsTo ((c.tc : Thread nD τ).loc main_arg0) S q f : sProp 𝕄)) (set_part h ho)

theorem all_eq (c : Dev nD) (q : PosShare TreeShare) (f : SI2 → Elt F .bf16) :
    ((inM.view.loc (c.tc : Thread nD τ)) ↦[inM.view.set]{q} f : sProp 𝕄) = inAll c q f :=
  congrArg (fun S => (pointsTo ((c.tc : Thread nD τ).loc main_arg0) S q f : sProp 𝕄)) (View.set_whole main_arg0)

/-- What the local copy leaves. -/
theorem own_eq {off : Fin 3 → Nat} (h : ∀ a, off a + S1x14112x1024.size a ≤ S4x14112x1024.size a) (c : Dev nD)
    (ho : off 0 = (pos c 0).val ∧ off 1 = 0 ∧ off 2 = 0) (fd : SI4 → Elt F .bf16) :
    (((slabV off h).view.loc (c.tc : Thread nD τ)) ↦[(slabV off h).view.set]{fullShare}
      ((slabV off h).view.write (Elt F) fd (inM.view.read (Elt F) (arg m c)) Finset.univ) : sProp 𝕄) = outRow c (pos c 0) (got m c) := by
  refine Eq.trans (pointsTo_congr fun i hi => ?_) (slab_eq h ho c (got m c))
  refine (copied_slab h ho.2.1 ho.2.2 (arg m c) fd i hi).trans ?_
  have e : at0 i = pos c 0 := mem_row.1 ((Finset.ext_iff.1 (set_slab h ho) i).1 hi)
  unfold got src
  rw [if_pos e]

/-- What a half sent to another chip leaves there. -/
theorem sent_eq (t : Fin 3) {off : Fin 2 → Nat} {off' : Fin 3 → Nat} (h : ∀ a, off a + S7056x1024.size a ≤ S14112x1024.size a)
    (h' : ∀ a, off' a + S1x7056x1024.size a ≤ S4x14112x1024.size a) (c : Dev nD) (ho : off 0 = 7056 * (mine c).val ∧ off 1 = 0)
    (ho' : off' 0 = (pos c 0).val ∧ off' 1 = 7056 * (mine c).val ∧ off' 2 = 0) (fd : SI4 → Elt F .bf16) :
    (((pieceV off' h').view.loc ((peer t c).tc : Thread nD τ)) ↦[(pieceV off' h').view.set]{fullShare}
      ((pieceV off' h').view.write (Elt F) fd ((partV off h).view.read (Elt F) (arg m c)) Finset.univ) : sProp 𝕄)
      = outPiece (peer t c) (pos (peer t c) t.succ) (mine (peer t c)) (got m (peer t c)) := by
  rw [pos_peer, mine_peer]
  refine Eq.trans (pointsTo_congr fun i hi => ?_) (piece_eq h' ho' (peer t c) (got m (peer t c)))
  refine (copied_part h h' (ho'.2.1.trans ho.1.symm) (ho'.2.2.trans ho.2.symm) (arg m c) fd i hi).trans ?_
  have e : at0 i = pos c 0 ∧ half i = mine c := mem_piece.1 ((Finset.ext_iff.1 (set_piece h' ho') i).1 hi)
  unfold got src
  rw [if_neg (by rw [e.1]; exact pos_peer_ne c t), e.1, e.2, home_self]

/-- What a half passed on to the sibling leaves there. -/
theorem passed_eq (t : Fin 3) {off : Fin 3 → Nat} (h : ∀ a, off a + S1x7056x1024.size a ≤ S4x14112x1024.size a) (c : Dev nD)
    (ho : off 0 = (pos c t.succ).val ∧ off 1 = 7056 * (mine c).val ∧ off 2 = 0) (fd : SI4 → Elt F .bf16) :
    (((pieceV off h).view.loc ((sib t c).tc : Thread nD τ)) ↦[(pieceV off h).view.set]{fullShare}
      ((pieceV off h).view.write (Elt F) fd ((pieceV off h).view.read (Elt F) (got m c)) Finset.univ) : sProp 𝕄)
      = outPiece (sib t c) (pos (sib t c) t.succ) (theirs (sib t c)) (got m (sib t c)) := by
  rw [pos_sib, theirs_sib]
  refine Eq.trans (pointsTo_congr fun i hi => ?_) (piece_eq h ho (sib t c) (got m (sib t c)))
  refine (copied_piece h (got m c) fd i hi).trans ?_
  have e : at0 i = pos c t.succ ∧ half i = mine c := mem_piece.1 ((Finset.ext_iff.1 (set_piece h ho) i).1 hi)
  unfold got src
  rw [if_neg (by rw [e.1]; exact pos_own c t), if_neg (by rw [e.1, pos_sib]; exact pos_own c t)]

theorem o1 (c : Dev nD) : k0_off1 c 0 = (pos c 0).val ∧ k0_off1 c 1 = 0 ∧ k0_off1 c 2 = 0 := by revert c; decide +kernel
theorem o2 (c : Dev nD) : k0_off2 c 0 = (pos c 0).val ∧ k0_off2 c 1 = 7056 * (mine c).val ∧ k0_off2 c 2 = 0 := by revert c; decide +kernel
theorem o3 (c : Dev nD) : k0_off3 c 0 = 7056 * (mine c).val ∧ k0_off3 c 1 = 0 := by revert c; decide +kernel
theorem o4 (c : Dev nD) : k0_off4 c 0 = (pos c 1).val ∧ k0_off4 c 1 = 7056 * (mine c).val ∧ k0_off4 c 2 = 0 := by revert c; decide +kernel
theorem o5 (c : Dev nD) : k0_off5 c 0 = (pos c 2).val ∧ k0_off5 c 1 = 7056 * (mine c).val ∧ k0_off5 c 2 = 0 := by revert c; decide +kernel
theorem o6 (c : Dev nD) : k0_off6 c 0 = (pos c 3).val ∧ k0_off6 c 1 = 7056 * (mine c).val ∧ k0_off6 c 2 = 0 := by revert c; decide +kernel

end Cert.KernelIdeal

end
-- ==== Proof.GatherRun.lean ====
/-
# The run of the gather

The kernel's body at one symbolic device, through the steps of the plan, and the whole launch.
-/
module

public import proofs.«01_k».proof.Proof.GatherPlan

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Talk

variable {F : FTy → Type} [FloatOps F]

local notation "𝕄" => MT nD τ sig Unit (Elt F) ℕ (UU nD τ sig) ℕ

variable (m : (ℓ : Loc nD τ sig) → Buf (Elt F) ℓ)

theorem body (c : Dev nD) (t : Fin cfg0.N) (K : Dev nD × Fin 13 → ℕ) (W : Waits sig Unit) :
    iprop((plan m).records K ∗ (plan m).kit c ∗ held m c ∗ owes (c.tc : Thread nD τ) ((plan m).owe c) W)
      ⊢ wp frame (wpE defs₀ Variants.none (c.tc : Thread nD τ) none) Set.univ (defs₀ (F := F) .tc cfg0.body (cfg0.bodyArgs t (cfg0.slots t))) fun _ =>
          iprop(done m c ∗ (bigSep Finset.univ fun i => semVal ((plan m).cell c i) 0) ∗ ∃ W, owes (c.tc : Thread nD τ) 0 W) := by
  show _ ⊢ wp frame (wpE defs₀ Variants.none (c.tc : Thread nD τ) none) Set.univ (cc0_ag_weights (F := F) (Memref.whole main_arg0) (Memref.isWhole_whole _)
    (Memref.whole main_v1) (Memref.isWhole_whole _) cc0_scratch0 cc0_scratch1 cc0_scratch2) _
  rw [cc0_ag_weights_eq_skeleton]
  unfold cc0_ag_weights_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.bind_lift, Prog.bind_op, Prog.bind_ret, Prog.bind_assoc, Prog.pure_eq_ret, wp_deviceId]
  unfold held
  iintro ⟨#HR, Hkit, ⟨Hx, Hy, ⟨Hd0, Hs0⟩, ⟨Hd1, Hs1⟩, Hd2, Hs2⟩, HO⟩
  ihave Hx := (shares c (arg m c)).1 $$ Hx
  icases Hx with ⟨Hxl, ⟨Hx0, Hx1, Hx2⟩, Hxr⟩
  ihave Hk := (kit_split m c) $$ Hkit
  icases Hk with ⟨⟨Ha0, Ha1, Ha2, Ha3, Ha4, Ha5, Ha6, Ha7, Ha8, Ha9, Ha10, Ha11, Ha12⟩, ⟨Ht0, Ht1, Ht2, Ht3, Ht4, Ht5, Ht6, Ht7, Ht8, Ht9, Ht10, Ht11, Ht12⟩, Hc6, Hc7, Hc8, Hc9, Hc10, Hc11⟩
  iapply ((plan m).step_copy Variants.none K c 12 rfl sem_12 rfl (q := fullShare.left) (fs := arg m c) (fd := old m c) ?_) $$ [Hxl Hy Ht12]
  · exact BIClass.sep_mono (Entails.of_eq (own_eq m _ c (o1 c) _)) (Entails.of_eq (all_eq c _ _))
  · isplitr; · iexact HR
    isplitl [Hxl]; · iapply (Entails.of_eq (all_eq c _ _).symm); iexact Hxl
    isplitl [Hy]; · iapply (Entails.of_eq (slab_eq _ (o1 c) c _).symm); iexact Hy
    iexact Ht12
  iintro Hc12
  iapply ((plan m).step_send Variants.none K c (peer 0 c) 0 6 rfl rfl sem_0 sem_6 rfl rfl (q := fullShare.right.left)
      (fs := arg m c) (fd := old m (peer 0 c)) (((((0 + due m c 11) + due m c 10) + due m c 9) + due m c 8) + due m c 7) (owe_eq m c) ?_ ?_ (Topo.routes_tc _ _)) $$ [Hx0 Hd0 HO Ht0 Ht6]
  · exact Entails.of_eq (part_eq _ (o3 c) c _ _)
  · exact Entails.of_eq (sent_eq m 0 _ _ c (o3 c) (o2 c) _)
  · isplitr; · iexact HR
    isplitl [Hx0]; · iapply (Entails.of_eq (part_eq _ (o3 c) c _ _).symm); iexact Hx0
    isplitl [Hd0]; · iapply (Entails.of_eq (piece_eq _ (o2 c) (peer 0 c) _).symm); iexact Hd0
    isplitl [HO]; · iexact HO
    isplitl [Ht0] <;> iassumption
  iintro ⟨Hc0, HO⟩
  iapply ((plan m).step_send Variants.none K c (peer 1 c) 1 7 rfl rfl sem_1 sem_7 rfl rfl (q := fullShare.right.right.left)
      (fs := arg m c) (fd := old m (peer 1 c)) ((((0 + due m c 11) + due m c 10) + due m c 9) + due m c 8) rfl ?_ ?_ (Topo.routes_tc _ _)) $$ [Hx1 Hd1 HO Ht1 Ht7]
  · exact Entails.of_eq (part_eq _ (o3 c) c _ _)
  · exact Entails.of_eq (sent_eq m 1 _ _ c (o3 c) (o2 c) _)
  · isplitr; · iexact HR
    isplitl [Hx1]; · iapply (Entails.of_eq (part_eq _ (o3 c) c _ _).symm); iexact Hx1
    isplitl [Hd1]; · iapply (Entails.of_eq (piece_eq _ (o2 c) (peer 1 c) _).symm); iexact Hd1
    isplitl [HO]; · iexact HO
    isplitl [Ht1] <;> iassumption
  iintro ⟨Hc1, HO⟩
  iapply ((plan m).step_send Variants.none K c (peer 2 c) 2 8 rfl rfl sem_2 sem_8 rfl rfl (q := fullShare.right.right.right)
      (fs := arg m c) (fd := old m (peer 2 c)) (((0 + due m c 11) + due m c 10) + due m c 9) rfl ?_ ?_ (Topo.routes_tc _ _)) $$ [Hx2 Hd2 HO Ht2 Ht8]
  · exact Entails.of_eq (part_eq _ (o3 c) c _ _)
  · exact Entails.of_eq (sent_eq m 2 _ _ c (o3 c) (o2 c) _)
  · isplitr; · iexact HR
    isplitl [Hx2]; · iapply (Entails.of_eq (part_eq _ (o3 c) c _ _).symm); iexact Hx2
    isplitl [Hd2]; · iapply (Entails.of_eq (piece_eq _ (o2 c) (peer 2 c) _).symm); iexact Hd2
    isplitl [HO]; · iexact HO
    isplitl [Ht2] <;> iassumption
  iintro ⟨Hc2, HO⟩
  iapply ((plan m).step_waitDma Variants.none K c 6 ?_ sem_6 (O := (((0 + due m c 11) + due m c 10) + due m c 9)) (above m c 6 (Nat.lt_succ_self 1) ((0 + due m c 11) + due m c 10) (above m c 6 (Nat.lt_succ_self 1) (0 + due m c 11) (above m c 6 (Nat.lt_succ_self 1) 0 (fun g u h => absurd h (Nat.lt_irrefl 0)) 11 rfl) 10 rfl) 9 rfl)) $$ [Hc6 HO Ha6]
  · rfl
  · isplitr; · iexact HR
    isplitl [Hc6]; · iexact Hc6
    isplitl [HO] <;> iassumption
  iintro ⟨Hy0, Hv6, ⟨%W6, HO⟩⟩
  ihave Hy0 := (Entails.of_eq (pay_6 m c)) $$ Hy0
  iapply ((plan m).step_send Variants.none K c (sib 0 c) 3 9 rfl rfl sem_3 sem_9 rfl rfl (q := fullShare)
      (fs := got m c) (fd := old m (sib 0 c)) ((0 + due m c 11) + due m c 10) rfl ?_ ?_ (Topo.routes_tc _ _)) $$ [Hy0 Hs0 HO Ht3 Ht9]
  · exact Entails.of_eq (piece_eq _ (o4 c) c _)
  · exact Entails.of_eq (passed_eq m 0 _ c (o4 c) _)
  · isplitr; · iexact HR
    isplitl [Hy0]; · iapply (Entails.of_eq (piece_eq _ (o4 c) c _).symm); iexact Hy0
    isplitl [Hs0]; · iapply (Entails.of_eq (piece_eq _ (o4 c) (sib 0 c) _).symm); iexact Hs0
    isplitl [HO]; · iexact HO
    isplitl [Ht3] <;> iassumption
  iintro ⟨Hc3, HO⟩
  iapply ((plan m).step_waitDma Variants.none K c 7 ?_ sem_7 (O := ((0 + due m c 11) + due m c 10)) (above m c 7 (Nat.lt_succ_self 1) (0 + due m c 11) (above m c 7 (Nat.lt_succ_self 1) 0 (fun g u h => absurd h (Nat.lt_irrefl 0)) 11 rfl) 10 rfl)) $$ [Hc7 HO Ha7]
  · rfl
  · isplitr; · iexact HR
    isplitl [Hc7]; · iexact Hc7
    isplitl [HO] <;> iassumption
  iintro ⟨Hy1, Hv7, ⟨%W7, HO⟩⟩
  ihave Hy1 := (Entails.of_eq (pay_7 m c)) $$ Hy1
  iapply ((plan m).step_send Variants.none K c (sib 1 c) 4 10 rfl rfl sem_4 sem_10 rfl rfl (q := fullShare)
      (fs := got m c) (fd := old m (sib 1 c)) (0 + due m c 11) rfl ?_ ?_ (Topo.routes_tc _ _)) $$ [Hy1 Hs1 HO Ht4 Ht10]
  · exact Entails.of_eq (piece_eq _ (o5 c) c _)
  · exact Entails.of_eq (passed_eq m 1 _ c (o5 c) _)
  · isplitr; · iexact HR
    isplitl [Hy1]; · iapply (Entails.of_eq (piece_eq _ (o5 c) c _).symm); iexact Hy1
    isplitl [Hs1]; · iapply (Entails.of_eq (piece_eq _ (o5 c) (sib 1 c) _).symm); iexact Hs1
    isplitl [HO]; · iexact HO
    isplitl [Ht4] <;> iassumption
  iintro ⟨Hc4, HO⟩
  iapply ((plan m).step_waitDma Variants.none K c 8 ?_ sem_8 (O := (0 + due m c 11)) (above m c 8 (Nat.lt_succ_self 1) 0 (fun g u h => absurd h (Nat.lt_irrefl 0)) 11 rfl)) $$ [Hc8 HO Ha8]
  · rfl
  · isplitr; · iexact HR
    isplitl [Hc8]; · iexact Hc8
    isplitl [HO] <;> iassumption
  iintro ⟨Hy2, Hv8, ⟨%W8, HO⟩⟩
  ihave Hy2 := (Entails.of_eq (pay_8 m c)) $$ Hy2
  iapply ((plan m).step_send Variants.none K c (sib 2 c) 5 11 rfl rfl sem_5 sem_11 rfl rfl (q := fullShare)
      (fs := got m c) (fd := old m (sib 2 c)) 0 rfl ?_ ?_ (Topo.routes_tc _ _)) $$ [Hy2 Hs2 HO Ht5 Ht11]
  · exact Entails.of_eq (piece_eq _ (o6 c) c _)
  · exact Entails.of_eq (passed_eq m 2 _ c (o6 c) _)
  · isplitr; · iexact HR
    isplitl [Hy2]; · iapply (Entails.of_eq (piece_eq _ (o6 c) c _).symm); iexact Hy2
    isplitl [Hs2]; · iapply (Entails.of_eq (piece_eq _ (o6 c) (sib 2 c) _).symm); iexact Hs2
    isplitl [HO]; · iexact HO
    isplitl [Ht5] <;> iassumption
  iintro ⟨Hc5, HO⟩
  iapply ((plan m).step_waitDma Variants.none K c 9 ?_ sem_9 (O := 0) (fun g u h => absurd h (Nat.lt_irrefl 0))) $$ [Hc9 HO Ha9]
  · rfl
  · isplitr; · iexact HR
    isplitl [Hc9]; · iexact Hc9
    isplitl [HO] <;> iassumption
  iintro ⟨Hz0, Hv9, ⟨%W9, HO⟩⟩
  iapply ((plan m).step_waitDma Variants.none K c 10 ?_ sem_10 (O := 0) (fun g u h => absurd h (Nat.lt_irrefl 0))) $$ [Hc10 HO Ha10]
  · rfl
  · isplitr; · iexact HR
    isplitl [Hc10]; · iexact Hc10
    isplitl [HO] <;> iassumption
  iintro ⟨Hz1, Hv10, ⟨%W10, HO⟩⟩
  iapply ((plan m).step_waitDma Variants.none K c 11 ?_ sem_11 (O := 0) (fun g u h => absurd h (Nat.lt_irrefl 0))) $$ [Hc11 HO Ha11]
  · rfl
  · isplitr; · iexact HR
    isplitl [Hc11]; · iexact Hc11
    isplitl [HO] <;> iassumption
  iintro ⟨Hz2, Hv11, ⟨%W11, HO⟩⟩
  iapply ((plan m).step_waitDma Variants.none K c 0 ?_ sem_0 (O := 0) (fun g u h => absurd h (Nat.lt_irrefl 0))) $$ [Hc0 HO Ha0]
  · rfl
  · isplitr; · iexact HR
    isplitl [Hc0]; · iexact Hc0
    isplitl [HO] <;> iassumption
  iintro ⟨Hx0, Hv0, ⟨%W0, HO⟩⟩
  iapply ((plan m).step_waitDma Variants.none K c 1 ?_ sem_1 (O := 0) (fun g u h => absurd h (Nat.lt_irrefl 0))) $$ [Hc1 HO Ha1]
  · rfl
  · isplitr; · iexact HR
    isplitl [Hc1]; · iexact Hc1
    isplitl [HO] <;> iassumption
  iintro ⟨Hx1, Hv1, ⟨%W1, HO⟩⟩
  iapply ((plan m).step_waitDma Variants.none K c 2 ?_ sem_2 (O := 0) (fun g u h => absurd h (Nat.lt_irrefl 0))) $$ [Hc2 HO Ha2]
  · rfl
  · isplitr; · iexact HR
    isplitl [Hc2]; · iexact Hc2
    isplitl [HO] <;> iassumption
  iintro ⟨Hx2, Hv2, ⟨%W2, HO⟩⟩
  iapply ((plan m).step_waitDma Variants.none K c 3 ?_ sem_3 (O := 0) (fun g u h => absurd h (Nat.lt_irrefl 0))) $$ [Hc3 HO Ha3]
  · rfl
  · isplitr; · iexact HR
    isplitl [Hc3]; · iexact Hc3
    isplitl [HO] <;> iassumption
  iintro ⟨Hy0, Hv3, ⟨%W3, HO⟩⟩
  iapply ((plan m).step_waitDma Variants.none K c 4 ?_ sem_4 (O := 0) (fun g u h => absurd h (Nat.lt_irrefl 0))) $$ [Hc4 HO Ha4]
  · rfl
  · isplitr; · iexact HR
    isplitl [Hc4]; · iexact Hc4
    isplitl [HO] <;> iassumption
  iintro ⟨Hy1, Hv4, ⟨%W4, HO⟩⟩
  iapply ((plan m).step_waitDma Variants.none K c 5 ?_ sem_5 (O := 0) (fun g u h => absurd h (Nat.lt_irrefl 0))) $$ [Hc5 HO Ha5]
  · rfl
  · isplitr; · iexact HR
    isplitl [Hc5]; · iexact Hc5
    isplitl [HO] <;> iassumption
  iintro ⟨Hy2, Hv5, ⟨%W5, HO⟩⟩
  iapply ((plan m).step_waitDma Variants.none K c 12 ?_ sem_12 (O := 0) (fun g u h => absurd h (Nat.lt_irrefl 0))) $$ [Hc12 HO Ha12]
  · rfl
  · isplitr; · iexact HR
    isplitl [Hc12]; · iexact Hc12
    isplitl [HO] <;> iassumption
  iintro ⟨Hxy, Hv12, ⟨%W12, HO⟩⟩
  rw [wp_ret]
  imodintro
  ihave Hxy := (Entails.of_eq (pay_12 m c)) $$ Hxy
  icases Hxy with ⟨Hy, Hxl⟩
  unfold done
  isplitl [Hxl Hxr Hx0 Hx1 Hx2 Hy Hy0 Hy1 Hy2 Hz0 Hz1 Hz2]
  · isplitl [Hxl Hxr Hx0 Hx1 Hx2]
    · iapply (shares c (arg m c)).2
      isplitl [Hxl]; · iexact Hxl
      isplitr [Hxr]
      · isplitl [Hx0]; · iapply (Entails.of_eq (pay_0 m c)); iexact Hx0
        isplitl [Hx1]; · iapply (Entails.of_eq (pay_1 m c)); iexact Hx1
        iapply (Entails.of_eq (pay_2 m c)); iexact Hx2
      · iexact Hxr
    iapply (out_cut c (got m c)).2
    isplitl [Hy]; · iexact Hy
    isplitl [Hy0 Hz0]
    · isplitl [Hy0]; · iapply (Entails.of_eq (pay_3 m c)); iexact Hy0
      iapply (Entails.of_eq (pay_9 m c)); iexact Hz0
    isplitl [Hy1 Hz1]
    · isplitl [Hy1]; · iapply (Entails.of_eq (pay_4 m c)); iexact Hy1
      iapply (Entails.of_eq (pay_10 m c)); iexact Hz1
    isplitl [Hy2]; · iapply (Entails.of_eq (pay_5 m c)); iexact Hy2
    iapply (Entails.of_eq (pay_11 m c)); iexact Hz2
  isplitl [Hv0 Hv1 Hv2 Hv3 Hv4 Hv5 Hv6 Hv7 Hv8 Hv9 Hv10 Hv11 Hv12]
  · iapply (vals_join m c)
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11] <;> iassumption
  iexists _; iexact HO

theorem owns : Pipeline.OwnSemFacts cfg0.spec (plan m).sem := by
  show Pipeline.OwnSemFacts cfg0.spec sems
  decide

/-- The whole run: every argument as before, every result at what the devices sent, every counter back at zero. -/
theorem run_main (ρ : Dev nD → PrngReg) :
    θ_run (defs (F := F)) (onTc (τ := τ) (main (F := F))) ⟨m, fun _ => 0, ρ⟩ fun r => (∀ c : Dev nD,
      r.2.mem ((c.tc : Thread nD τ).loc main_v1) = got m c ∧ r.2.mem ((c.tc : Thread nD τ).loc main_arg0) = m ((c.tc : Thread nD τ).loc main_arg0))
      ∧ r.2.sem = fun _ => 0 := by
  haveI : IsEmpty (Fin (cfgs 0).W) := inferInstanceAs (IsEmpty (Fin 0))
  refine (θ_run _ _ _).mono (fun r h => ⟨h.1, ?_⟩) ((plan m).run cfgs Gen.launch0 (owns m) Gen.N_0 scopedRest0_eq defs₀ Variants.none m ρ main
    (fun _ => rfl) (held m) (done m) (split m) (body m)
    (fun c s => s.mem ((c.tc : Thread nD τ).loc main_v1) = got m c ∧ s.mem ((c.tc : Thread nD τ).loc main_arg0) = m ((c.tc : Thread nD τ).loc main_arg0)) ?_)
  · exact sem_eq_zero_of_scoped (by decide) h.2
  · intro c s'
    unfold done
    iintro ⟨⟨Hx, Hy⟩, HSI⟩
    icombine HSI Hx gives %hx
    icombine HSI Hy gives %hy
    imodintro
    isplitr
    · ipureintro; exact ⟨funext fun i => hy i (Finset.mem_univ i), funext fun i => hx i (Finset.mem_univ i)⟩
    iexact HSI

end Cert.KernelIdeal

end
-- ==== Proof.GatherValue.lean ====
/-
# The gather against the whole array

The mesh cuts the argument's rows between the chips, so slab `k` of every device's result is the rows of chip `k`: the
whole array, viewed as four slabs.
-/
module

public import proofs.«01_k».proof.Proof.GatherRun
public import proofs.«01_k».proof.Proof.Gen.ReferenceIdeal.Run
public import Idealize.ShloMosaic.Lib.Pipeline.Value
public import Idealize.ShloMosaic.Lib.Layout

@[expose] public section

noncomputable section

namespace Cert.KernelIdeal

open Idealize.ShloMosaic
open Idealize.ShloMosaic.TcCoe

/-- Where a device's block of the whole array lies. -/
abbrev at2 (c : Dev nD) : (b : Fin 2) → Fin (Layout.cutSize [2, 2, 2] (![[0, 1], []] b)) :=
  Layout.meshBlock [2, 2, 2] ![[0, 1], []] c

abbrev GB : Shape := ⟨2, ![14112, 1024]⟩
abbrev GW : Shape := ⟨2, ![56448, 1024]⟩
abbrev GS : Shape := ⟨3, ![4, 14112, 1024]⟩

theorem cuts : Layout.TilesN GB GW fun b : Fin 2 => Layout.cutSize [2, 2, 2] (![[0, 1], []] b) := by decide

theorem chip_home (k : Fin 4) (h : Fin 2) : (at2 (home k h) 0).val = k.val := by revert k h; decide +kernel
theorem chip_pos (c : Dev nD) : (at2 c 0).val = (pos c 0).val := by revert c; decide +kernel
theorem col_zero (c : Dev nD) : (at2 c 1).val = 0 := by revert c; decide +kernel

/-- The rows of slab `k` come from chip `k`. -/
theorem chip_src (c : Dev nD) (i : SI4) : (at2 (src c i) 0).val = (at0 i).val := by
  unfold src
  split
  · next e => rw [chip_pos, e]
  · exact chip_home _ _

theorem gather_blocks {α : Type} (x : GW.Idx → α) (h : GW.ShapeCasts GS) (c : Dev nD) :
    (fun i : SI4 => Layout.blockN GB GW (at2 (src c i)) x cuts (inner i)) = shapeCast GS x h := by
  funext i
  rw [Layout.blockN_apply]
  have e0 := chip_src c i
  have e1 := col_zero (src c i)
  have b0 : (cuts.idx (at2 (src c i)) (inner i) 0).val = (at2 (src c i) 0).val * 14112 + (i 1).val := rfl
  have b1 : (cuts.idx (at2 (src c i)) (inner i) 1).val = (at2 (src c i) 1).val * 1024 + (i 2).val := rfl
  generalize cuts.idx (at2 (src c i)) (inner i) = j at *
  symm
  refine shapeCast_apply x h i j ?_
  rw [Shape.rowMajor_val_two, Shape.rowMajor_val_three]
  show (j 0).val * 1024 + (j 1).val = ((at0 i).val * 14112 + (i 1).val) * 1024 + (i 2).val
  omega

end Cert.KernelIdeal

end
-- ==== Proof.GatherClaims.lean ====
/-
# The claims of the gather

Both frames from the one run; the reference's frames from its generated run; the two value claims from one lemma over
any floats.
-/
module

public import proofs.«01_k».proof.Defs
public import proofs.«01_k».proof.Proof.GatherValue
public import proofs.«01_k».proof.Proof.Gen.Kernel
public import proofs.«01_k».proof.Proof.Gen.Reference
public import proofs.«01_k».proof.Proof.Gen.ReferenceIdeal.Run
public import Idealize.ShloMosaic.Lib.Quiescent

@[expose] public section

noncomputable section

namespace Cert.GatherClaims

open Idealize.ShloMosaic Idealize.ShloMosaic.TcCoe Idealize.SL.Sem
open Cert.KernelIdeal (src inner gather_blocks run_main)

theorem frame_ideal : Cert.quiescent_KernelIdeal (hKernelIdeal := Cert.KernelIdeal.Gen.facts) := fun m ρ _ =>
  (θ_run _ _ _).mono (fun _ h => ⟨fun c => (h.1 c).2, h.2⟩) (run_main (F := Ideal) m ρ)

theorem frame : Cert.quiescent_Kernel (hKernel := Cert.Kernel.Gen.facts) := fun m ρ _ =>
  (θ_run Cert.KernelIdeal.defs _ _).mono (fun _ h => ⟨fun c => (h.1 c).2, h.2⟩) (run_main (F := Bits) m ρ)

theorem frame_ref_ideal : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

theorem frame_ref : Cert.quiescent_Reference (hReference := Cert.Reference.Gen.facts) := fun m ρ _ =>
  (θ_run Cert.ReferenceIdeal.defs _ _).mono (fun r h => ⟨fun c => (h c).2, sem_eq_zero_of_no_sems rfl r.2⟩)
    (Cert.ReferenceIdeal.Value.run (F := Bits) m ρ)

theorem value : Cert.algebraic_KernelIdeal_ReferenceIdeal (hKernelIdeal := Cert.KernelIdeal.Gen.facts) (hReferenceIdeal := Cert.ReferenceIdeal.Gen.facts) :=
  fun m ρ m' ρ' _ hm => ⟨_,
    (θ_run _ _ _).mono (fun r h c => ⟨(h.1 c).1.trans ((funext fun i => congrFun (hm (src c i)) (inner i)).trans (gather_blocks _ _ c)), (h.1 c).2⟩)
      (run_main (F := Ideal) m ρ),
    (θ_run _ _ _).mono (fun r h => h 0) (Cert.ReferenceIdeal.Value.run (F := Ideal) m' ρ')⟩

theorem bits : Cert.bitexact_Kernel_Reference (hKernel := Cert.Kernel.Gen.facts) (hReference := Cert.Reference.Gen.facts) :=
  fun m ρ m' ρ' _ hm => ⟨_,
    (θ_run Cert.KernelIdeal.defs _ _).mono (fun r h c => ⟨(h.1 c).1.trans ((funext fun i => congrFun (hm (src c i)) (inner i)).trans (gather_blocks _ _ c)), (h.1 c).2⟩)
      (run_main (F := Bits) m ρ),
    (θ_run Cert.ReferenceIdeal.defs _ _).mono (fun r h => h 0) (Cert.ReferenceIdeal.Value.run (F := Bits) m' ρ')⟩

end Cert.GatherClaims

end
-- ==== Proof.ScatterRun.lean ====
/-
# The exchange of slabs between the chips

Each device copies its own slab of its argument onto its own slab of its result, sends each of the three other slabs to
the chip that slab is for (same core), onto the slab there that stands for the sender, and waits for the three copies to
arrive, for its own three to have left, and for the local one: seven semaphores, one round each. The run is over any
floats, with the contents it ends at.
-/
module

public import proofs.«01_k».proof.Proof.TalkLaunch
public import proofs.«01_k».proof.Proof.Gen.ScatterIdeal
public import proofs.«01_k».proof.Proof.Gen.ScatterIdeal.Skeleton
public import proofs.«01_k».proof.Proof.Gen.ScatterIdeal.Launch

@[expose] public section

noncomputable section

namespace Cert.ScatterIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ScatterIdeal.Gen Cert.Talk

variable {F : FTy → Type} [FloatOps F]

local notation "𝕄" => MT nD τ sig Unit (Elt F) ℕ (UU nD τ sig) ℕ

/-! ## Where things lie -/

/-- The chips a device talks to: one step along the first axis, along the second, along both. -/
def peer : Fin 3 → Equiv.Perm (Dev nD)
  | 0 => ⟨fun d => ⟨k0_dev1 d, k0_dev1_lt d⟩, fun d => ⟨k0_dev1 d, k0_dev1_lt d⟩, by decide +kernel, by decide +kernel⟩
  | 1 => ⟨fun d => ⟨k0_dev2 d, k0_dev2_lt d⟩, fun d => ⟨k0_dev2 d, k0_dev2_lt d⟩, by decide +kernel, by decide +kernel⟩
  | 2 => ⟨fun d => ⟨k0_dev3 d, k0_dev3_lt d⟩, fun d => ⟨k0_dev3 d, k0_dev3_lt d⟩, by decide +kernel, by decide +kernel⟩

theorem peer_peer (t : Fin 3) (c : Dev nD) : peer t (peer t c) = c := by revert t c; decide +kernel

/-- The slab of a device's own chip, and those of the three others. -/
def pos (c : Dev nD) : Fin 4 → Fin 4
  | 0 => ⟨k0_off1 c 0, by revert c; decide +kernel⟩
  | 1 => ⟨k0_off2 c 0, by revert c; decide +kernel⟩
  | 2 => ⟨k0_off3 c 0, by revert c; decide +kernel⟩
  | 3 => ⟨k0_off4 c 0, by revert c; decide +kernel⟩

theorem pos_inj (c : Dev nD) : Function.Injective (pos c) := by revert c; decide +kernel
theorem pos_surj (c : Dev nD) : ∀ k : Fin 4, ∃ t, pos c t = k := by revert c; decide +kernel
theorem pos_peer (c : Dev nD) (t : Fin 3) : pos (peer t c) t.succ = pos c 0 := by revert c t; decide +kernel
theorem pos_peer' (c : Dev nD) (t : Fin 3) : pos (peer t c) 0 = pos c t.succ := by revert c t; decide +kernel

/-- The device of chip `k` on the core of `c`. -/
def home (c : Dev nD) (k : Fin 4) : Dev nD := ⟨2 * k.val + c.val % 2, by have := k.isLt; show _ < 8; omega⟩

theorem home_self (c : Dev nD) : home c (pos c 0) = c := by revert c; decide +kernel
theorem home_peer (c : Dev nD) (t : Fin 3) : home c (pos c t.succ) = peer t c := by revert c t; decide +kernel

abbrev SI4 : Type := S4x7056x1024.Idx

/-- The slab an element lies in. -/
abbrev at0 (i : SI4) : Fin 4 := i 0

/-- The elements of slab `k`. -/
def row (k : Fin 4) : Finset SI4 := Finset.univ.filter fun i => at0 i = k

theorem mem_row {k : Fin 4} {i : SI4} : i ∈ row k ↔ at0 i = k := by simp [row]

/-- The same element of slab `k`. -/
def onRow (k : Fin 4) (i : SI4) : SI4 := Function.update i 0 k

/-- A slab of one of the two arrays, as the kernel names it. -/
abbrev slab (b : Ref sig .tc) (off : Fin 3 → Nat) (h : ∀ a, off a + S1x7056x1024.size a ≤ S4x7056x1024.size a)
    (M : Memref sig .tc .hbm S4x7056x1024 .bf16) : Memref sig .tc .hbm S7056x1024 .bf16 :=
  (M.slice (Rect.unit (s := S4x7056x1024) off S1x7056x1024.size h) (fun _ => rfl)).squeeze S7056x1024 squeezes_S1x7056x1024_S7056x1024

abbrev inM : Memref sig .tc .hbm S4x7056x1024 .bf16 := Memref.whole main_arg0
abbrev outM : Memref sig .tc .hbm S4x7056x1024 .bf16 := Memref.whole main_v1

section Geometry
variable {off : Fin 3 → Nat} (h : ∀ a, off a + S1x7056x1024.size a ≤ S4x7056x1024.size a) {k : Fin 4}
    (h0 : off 0 = k.val) (h1 : off 1 = 0) (h2 : off 2 = 0)

include h0 h1 h2 in
theorem mem_unit (i : SI4) : i ∈ (Rect.unit (s := S4x7056x1024) off S1x7056x1024.size h).set ↔ i ∈ row k := by
  rw [Rect.mem_set_unit, mem_row]
  constructor
  · intro H
    have H0 : off 0 ≤ (at0 i).val ∧ (at0 i).val < off 0 + 1 := H 0
    exact Fin.ext (by omega)
  · intro e a
    have i1 : (i 1).val < 7056 := (i 1).isLt
    have i2 : (i 2).val < 1024 := (i 2).isLt
    match a with
    | ⟨0, _⟩ => subst e; exact ⟨by show off 0 ≤ (at0 i).val; omega, by show (at0 i).val < off 0 + 1; omega⟩
    | ⟨1, _⟩ => exact ⟨by show off 1 ≤ (i 1).val; omega, by show (i 1).val < off 1 + 7056; omega⟩
    | ⟨2, _⟩ => exact ⟨by show off 2 ≤ (i 2).val; omega, by show (i 2).val < off 2 + 1024; omega⟩

include h0 h1 h2 in
theorem set_in : (slab main_arg0 off h inM).view.set = row k := by
  exact (View.set_reshape _ _).trans ((View.set_slice_whole main_arg0 _).trans (Finset.ext fun i => mem_unit h h0 h1 h2 i))

include h0 h1 h2 in
theorem set_out : (slab main_v1 off h outM).view.set = row k := by
  exact (View.set_reshape _ _).trans ((View.set_slice_whole main_v1 _).trans (Finset.ext fun i => mem_unit h h0 h1 h2 i))

end Geometry

theorem emb_val (b : Ref sig .tc) (off : Fin 3 → Nat) (h : ∀ a, off a + S1x7056x1024.size a ≤ S4x7056x1024.size a) (x : S7056x1024.Idx) (a : Fin 3) :
    ((Rect.unit (s := S4x7056x1024) off S1x7056x1024.size h).emb (Shape.reshapeEquiv (s := S1x7056x1024) (s' := S7056x1024) squeezes_S1x7056x1024_S7056x1024.numel_eq x) a : ℕ)
      = off a + (![0, (x 0).val, (x 1).val] : Fin 3 → ℕ) a := by
  rw [Rect.emb_apply]
  have e : Shape.reshapeEquiv (s := S1x7056x1024) (s' := S7056x1024) squeezes_S1x7056x1024_S7056x1024.numel_eq x = Fin.cons ⟨0, Nat.one_pos⟩ x := Shape.reshapeEquiv_cons_one _ x
  rw [e]
  match a with
  | ⟨0, _⟩ => rfl
  | ⟨1, _⟩ => show off 1 + 1 * (x 0).val = off 1 + (x 0).val; omega
  | ⟨2, _⟩ => show off 2 + 1 * (x 1).val = off 2 + (x 1).val; omega

/-- A slab copied onto a slab: each element is that of the same place in the source's slab. -/
theorem copied {off off' : Fin 3 → Nat} (h : ∀ a, off a + S1x7056x1024.size a ≤ S4x7056x1024.size a)
    (h' : ∀ a, off' a + S1x7056x1024.size a ≤ S4x7056x1024.size a) {k : Fin 4} (h0 : off 0 = k.val) (h1 : off 1 = 0) (h2 : off 2 = 0)
    (h1' : off' 1 = 0) (h2' : off' 2 = 0)
    (fs fd : SI4 → Elt F .bf16) (i : SI4) (hi : i ∈ (slab main_v1 off' h' outM).view.set) :
    (slab main_v1 off' h' outM).view.write (Elt F) fd ((slab main_arg0 off h inM).view.read (Elt F) fs) Finset.univ i = fs (onRow k i) := by
  obtain ⟨x, -, rfl⟩ := Finset.mem_map.1 hi
  refine (View.write_emb_of_mem (Val := Elt F) (v := (slab main_v1 off' h' outM).view) fd _ (Finset.mem_univ x)).trans ?_
  rw [View.read_apply]
  show fs _ = fs _
  congr 1
  funext a
  refine Fin.ext ?_
  refine (emb_val main_arg0 off h x a).trans ?_
  match a with
  | ⟨0, _⟩ => show off 0 + 0 = k.val; omega
  | ⟨1, _⟩ => exact (show off 1 + (x 0).val = off' 1 + (x 0).val by omega).trans (emb_val main_v1 off' h' x 1).symm
  | ⟨2, _⟩ => exact (show off 2 + (x 1).val = off' 2 + (x 1).val by omega).trans (emb_val main_v1 off' h' x 2).symm

/-! ## The plan -/

/-- The semaphores: the three copies left, the three arrived, the local copy done. -/
def sems : Fin 7 → SemLoc sig := ![.dma ⟨0, by decide⟩, .dma ⟨1, by decide⟩, .dma ⟨2, by decide⟩, .dma ⟨3, by decide⟩, .dma ⟨4, by decide⟩,
  .dma ⟨5, by decide⟩, .dma ⟨6, by decide⟩]

variable (m : (ℓ : Loc nD τ sig) → Buf (Elt F) ℓ)

/-- A device's argument at the launch. -/
abbrev arg (c : Dev nD) : SI4 → Elt F .bf16 := m ((c.tc : Thread nD τ).loc main_arg0)
/-- A device's result at the launch. -/
abbrev old (c : Dev nD) : SI4 → Elt F .bf16 := m ((c.tc : Thread nD τ).loc main_v1)
/-- What a device ends with: in slab `k`, what chip `k` had for this device's chip. -/
def got (c : Dev nD) : SI4 → Elt F .bf16 := fun i => arg m (home c (at0 i)) (onRow (pos c 0) i)

/-- Slab `k` of a device's argument. -/
abbrev inRow (c : Dev nD) (k : Fin 4) (f : SI4 → Elt F .bf16) : sProp 𝕄 := iprop(((c.tc : Thread nD τ).loc main_arg0) ↦[row k]{fullShare} f)
/-- Slab `k` of a device's result. -/
abbrev outRow (c : Dev nD) (k : Fin 4) (f : SI4 → Elt F .bf16) : sProp 𝕄 := iprop(((c.tc : Thread nD τ).loc main_v1) ↦[row k]{fullShare} f)

def plan : Plan nD τ sig (Elt F) 7 where
  sem := sems
  sem_inj := by decide
  amt _ := (slab main_v1 (k0_off1 0) (k0_off1_inb 0) outM).view.dmaCredit
  amt_pos _ := View.dmaCredit_pos _ (by decide)
  who := ![Equiv.refl _, Equiv.refl _, Equiv.refl _, peer 0, peer 1, peer 2, Equiv.refl _]
  far := ![false, false, false, true, true, true, false]
  lvl _ := 0
  pay c := ![inRow c (pos c 1) (arg m c), inRow c (pos c 2) (arg m c), inRow c (pos c 3) (arg m c),
    outRow c (pos c 1) (got m c), outRow c (pos c 2) (got m c), outRow c (pos c 3) (got m c),
    iprop(outRow c (pos c 0) (got m c) ∗ inRow c (pos c 0) (arg m c))]
  pay_storable c i := by
    fin_cases i
    iterate 6 exact inferInstanceAs (BI.Storable _ (pointsTo _ _ _ _))
    exact inferInstanceAs (BI.Storable _ iprop(pointsTo _ _ _ _ ∗ pointsTo _ _ _ _))

/-- What a device holds at the launch: its argument, its own slab of its result, and that of the three chips it sends to. -/
def held (c : Dev nD) : sProp 𝕄 :=
  iprop((((c.tc : Thread nD τ).loc main_arg0) ↦{fullShare} arg m c) ∗ outRow c (pos c 0) (old m c)
    ∗ outRow (peer 0 c) (pos c 0) (old m (peer 0 c)) ∗ outRow (peer 1 c) (pos c 0) (old m (peer 1 c)) ∗ outRow (peer 2 c) (pos c 0) (old m (peer 2 c)))
/-- What it holds at the end: its argument as before and its result at what the chips sent. -/
def done (c : Dev nD) : sProp 𝕄 :=
  iprop((((c.tc : Thread nD τ).loc main_arg0) ↦{fullShare} arg m c) ∗ ((c.tc : Thread nD τ).loc main_v1) ↦{fullShare} got m c)

theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rows_cover (c : Dev nD) : (Finset.univ : Finset SI4) = Finset.univ.biUnion fun t : Fin 4 => row (pos c t) := by
  ext i
  obtain ⟨t, ht⟩ := pos_surj c (at0 i)
  simp only [Finset.mem_univ, Finset.mem_biUnion, true_and, true_iff]
  exact ⟨t, mem_row.2 ht.symm⟩

theorem rows_apart (c : Dev nD) : ∀ t ∈ (Finset.univ : Finset (Fin 4)), ∀ t' ∈ (Finset.univ : Finset (Fin 4)), t ≠ t' → Disjoint (row (pos c t)) (row (pos c t')) :=
  fun t _ t' _ h => Finset.disjoint_left.2 fun i hi hi' => h (pos_inj c ((mem_row.1 hi).symm.trans (mem_row.1 hi')))

theorem in_cut (c : Dev nD) (f : SI4 → Elt F .bf16) : (((c.tc : Thread nD τ).loc main_arg0) ↦{fullShare} f : sProp 𝕄)
    = iprop(inRow c (pos c 0) f ∗ inRow c (pos c 1) f ∗ inRow c (pos c 2) f ∗ inRow c (pos c 3) f) := by
  refine Eq.trans ?_ (bigSep_4 fun t => inRow c (pos c t) f)
  refine Eq.trans ?_ (pointsTo_biUnion (ℓ := (c.tc : Thread nD τ).loc main_arg0) (q := fullShare) (f := f) Finset.univ (fun t => row (pos c t)) (rows_apart c))
  exact congrArg (fun S => (pointsTo ((c.tc : Thread nD τ).loc main_arg0) S fullShare f : sProp 𝕄)) (rows_cover c)

theorem out_cut (c : Dev nD) (f : SI4 → Elt F .bf16) : (((c.tc : Thread nD τ).loc main_v1) ↦{fullShare} f : sProp 𝕄)
    = iprop(outRow c (pos c 0) f ∗ outRow c (pos c 1) f ∗ outRow c (pos c 2) f ∗ outRow c (pos c 3) f) := by
  refine Eq.trans ?_ (bigSep_4 fun t => outRow c (pos c t) f)
  refine Eq.trans ?_ (pointsTo_biUnion (ℓ := (c.tc : Thread nD τ).loc main_v1) (q := fullShare) (f := f) Finset.univ (fun t => row (pos c t)) (rows_apart c))
  exact congrArg (fun S => (pointsTo ((c.tc : Thread nD τ).loc main_v1) S fullShare f : sProp 𝕄)) (rows_cover c)

theorem moved (t : Fin 3) : (bigSep Finset.univ fun c : Dev nD => outRow c (pos c t.succ) (old m c) : sProp 𝕄)
    = bigSep Finset.univ fun c : Dev nD => outRow (peer t c) (pos c 0) (old m (peer t c)) := by
  rw [bigSep_univ_equiv (peer t) fun c : Dev nD => (outRow c (pos c t.succ) (old m c) : sProp 𝕄)]
  exact bigSep_congr fun c _ => by rw [pos_peer]

theorem split : (bigSep Finset.univ fun c : Dev nD => (Pipeline.unscopedRest cfg0.spec c fun b => m ((c.tc : Thread nD τ).loc b) : sProp 𝕄))
    ⊢ bigSep Finset.univ (held m) := by
  rw [bigSep_congr fun c _ => unscopedRest0_eq c fun b => m ((c.tc : Thread nD τ).loc b)]
  unfold held
  rw [bigSep_congr fun c _ => congrArg (fun P => iprop((((c.tc : Thread nD τ).loc main_arg0) ↦{fullShare} arg m c) ∗ P)) (out_cut c (old m c))]
  simp only [bigSep_sep']
  refine sep_mono (BI.Entails.refl _) (sep_mono (BI.Entails.refl _) (sep_mono ?_ (sep_mono ?_ ?_)))
  · exact Entails.of_eq (moved m 0)
  · exact Entails.of_eq (moved m 1)
  · exact Entails.of_eq (moved m 2)

theorem fars_eq : (Finset.univ.filter fun i => (plan m).far i = true) = {(3 : Fin 7), 4, 5} := by
  show (Finset.univ.filter fun i => (![false, false, false, true, true, true, false] : Fin 7 → Bool) i = true) = {(3 : Fin 7), 4, 5}
  decide

/-- What is owed once the copies below `t` are sent. -/
abbrev owed (c : Dev nD) (t : Fin 3) : CellTallies nD τ sig Unit :=
  match t with
  | 0 => tallyAt ((plan m).cell (peer 2 c) 5) () ((plan m).amt 5) + tallyAt ((plan m).cell (peer 1 c) 4) () ((plan m).amt 4)
  | 1 => tallyAt ((plan m).cell (peer 2 c) 5) () ((plan m).amt 5)
  | 2 => 0

theorem owe_eq (c : Dev nD) : (plan m).owe c = owed m c 0 + tallyAt ((plan m).cell (peer 0 c) 3) () ((plan m).amt 3) := by
  unfold Plan.owe Plan.fars
  rw [fars_eq, Finset.sum_insert (by decide), Finset.sum_insert (by decide), Finset.sum_singleton, add_comm]
  show _ = (tallyAt ((plan m).cell (peer 2 c) 5) () ((plan m).amt 5) + tallyAt ((plan m).cell (peer 1 c) 4) () ((plan m).amt 4)) + _
  rw [add_comm (tallyAt ((plan m).cell (peer 2 c) 5) () ((plan m).amt 5))]; rfl

theorem kit_split (c : Dev nD) : (plan m).kit c
    ⊢ iprop(((plan m).at0 c 0 ∗ (plan m).at0 c 1 ∗ (plan m).at0 c 2 ∗ (plan m).at0 c 3 ∗ (plan m).at0 c 4 ∗ (plan m).at0 c 5 ∗ (plan m).at0 c 6)
      ∗ ((plan m).tok c 0 ∗ (plan m).tok c 1 ∗ (plan m).tok c 2 ∗ (plan m).tok c 3 ∗ (plan m).tok c 4 ∗ (plan m).tok c 5 ∗ (plan m).tok c 6)
      ∗ (plan m).crd c 3 ∗ (plan m).crd c 4 ∗ (plan m).crd c 5) := by
  unfold Plan.kit Plan.fars
  rw [fars_eq, bigSep_insert (by decide), bigSep_insert (by decide), bigSep_singleton, bigSep_7, bigSep_7]
  exact BI.Entails.refl _

theorem vals_join (c : Dev nD) : iprop(semVal ((plan m).cell c 0) 0 ∗ semVal ((plan m).cell c 1) 0 ∗ semVal ((plan m).cell c 2) 0
      ∗ semVal ((plan m).cell c 3) 0 ∗ semVal ((plan m).cell c 4) 0 ∗ semVal ((plan m).cell c 5) 0 ∗ semVal ((plan m).cell c 6) 0)
    ⊢ (bigSep Finset.univ fun i => semVal ((plan m).cell c i) 0 : sProp 𝕄) := by
  rw [bigSep_7]

theorem pay_0 (c : Dev nD) : (plan m).pay c 0 = inRow c (pos c 1) (arg m c) := rfl
theorem pay_1 (c : Dev nD) : (plan m).pay c 1 = inRow c (pos c 2) (arg m c) := rfl
theorem pay_2 (c : Dev nD) : (plan m).pay c 2 = inRow c (pos c 3) (arg m c) := rfl
theorem pay_3 (c : Dev nD) : (plan m).pay c 3 = outRow c (pos c 1) (got m c) := rfl
theorem pay_4 (c : Dev nD) : (plan m).pay c 4 = outRow c (pos c 2) (got m c) := rfl
theorem pay_5 (c : Dev nD) : (plan m).pay c 5 = outRow c (pos c 3) (got m c) := rfl
theorem pay_6 (c : Dev nD) : (plan m).pay c 6 = iprop(outRow c (pos c 0) (got m c) ∗ inRow c (pos c 0) (arg m c)) := rfl

section Pieces
variable {off off' : Fin 3 → Nat} (h : ∀ a, off a + S1x7056x1024.size a ≤ S4x7056x1024.size a)
    (h' : ∀ a, off' a + S1x7056x1024.size a ≤ S4x7056x1024.size a) {k k' : Fin 4}
    (h0 : off 0 = k.val) (h1 : off 1 = 0) (h2 : off 2 = 0) (h0' : off' 0 = k'.val) (h1' : off' 1 = 0) (h2' : off' 2 = 0)

include h0 h1 h2 in
theorem in_eq (c : Dev nD) (f : SI4 → Elt F .bf16) :
    (((slab main_arg0 off h inM).view.loc (c.tc : Thread nD τ)) ↦[(slab main_arg0 off h inM).view.set]{fullShare} f : sProp 𝕄) = inRow c k f :=
  congrArg (fun S => (pointsTo ((c.tc : Thread nD τ).loc main_arg0) S fullShare f : sProp 𝕄)) (set_in h h0 h1 h2)

include h0 h1 h2 in
theorem out_eq (c : Dev nD) (f : SI4 → Elt F .bf16) :
    (((slab main_v1 off h outM).view.loc (c.tc : Thread nD τ)) ↦[(slab main_v1 off h outM).view.set]{fullShare} f : sProp 𝕄) = outRow c k f :=
  congrArg (fun S => (pointsTo ((c.tc : Thread nD τ).loc main_v1) S fullShare f : sProp 𝕄)) (set_out h h0 h1 h2)

include h0 h1 h2 h0' h1' h2' in
/-- What a copy leaves on the slab it was sent to. -/
theorem sent_eq (c : Dev nD) (fs fd g : SI4 → Elt F .bf16) (hg : ∀ i, at0 i = k' → fs (onRow k i) = g i) :
    (((slab main_v1 off' h' outM).view.loc (c.tc : Thread nD τ)) ↦[(slab main_v1 off' h' outM).view.set]{fullShare}
      ((slab main_v1 off' h' outM).view.write (Elt F) fd ((slab main_arg0 off h inM).view.read (Elt F) fs) Finset.univ) : sProp 𝕄) = outRow c k' g := by
  refine Eq.trans ?_ (out_eq h' h0' h1' h2' c g)
  exact pointsTo_congr fun i hi => (copied h h' h0 h1 h2 h1' h2' fs fd i hi).trans
    (hg i (mem_row.1 ((Finset.ext_iff.1 (set_out h' h0' h1' h2') i).1 hi)))

end Pieces

theorem got_own (c : Dev nD) (i : SI4) (hi : at0 i = pos c 0) : arg m c (onRow (pos c 0) i) = got m c i := by
  unfold got; rw [hi, home_self]

theorem got_far (t : Fin 3) (c : Dev nD) (i : SI4) (hi : at0 i = pos c 0) : arg m c (onRow (pos c t.succ) i) = got m (peer t c) i := by
  unfold got; rw [hi, pos_peer', ← pos_peer c t, home_peer, peer_peer]

theorem o1 (c : Dev nD) : k0_off1 c 1 = 0 ∧ k0_off1 c 2 = 0 := by rw [k0_off1_eq]; exact ⟨rfl, rfl⟩
theorem o2 (c : Dev nD) : k0_off2 c 1 = 0 ∧ k0_off2 c 2 = 0 := by rw [k0_off2_eq]; exact ⟨rfl, rfl⟩
theorem o3 (c : Dev nD) : k0_off3 c 1 = 0 ∧ k0_off3 c 2 = 0 := by rw [k0_off3_eq]; exact ⟨rfl, rfl⟩
theorem o4 (c : Dev nD) : k0_off4 c 1 = 0 ∧ k0_off4 c 2 = 0 := by rw [k0_off4_eq]; exact ⟨rfl, rfl⟩

theorem sem_0 : SemLoc.dma ((cc0_scratch0.slice (Rect.unit (s := S3) ![0] S1.size inb_S3_S1_0)).squeeze S_ squeezes_S1_S_).sem = sems 0 := by decide +kernel
theorem sem_1 : SemLoc.dma ((cc0_scratch0.slice (Rect.unit (s := S3) ![1] S1.size inb_S3_S1_1)).squeeze S_ squeezes_S1_S_).sem = sems 1 := by decide +kernel
theorem sem_2 : SemLoc.dma ((cc0_scratch0.slice (Rect.unit (s := S3) ![2] S1.size inb_S3_S1_2)).squeeze S_ squeezes_S1_S_).sem = sems 2 := by decide +kernel
theorem sem_3 : SemLoc.dma ((cc0_scratch1.slice (Rect.unit (s := S3) ![0] S1.size inb_S3_S1_0)).squeeze S_ squeezes_S1_S_).sem = sems 3 := by decide +kernel
theorem sem_4 : SemLoc.dma ((cc0_scratch1.slice (Rect.unit (s := S3) ![1] S1.size inb_S3_S1_1)).squeeze S_ squeezes_S1_S_).sem = sems 4 := by decide +kernel
theorem sem_5 : SemLoc.dma ((cc0_scratch1.slice (Rect.unit (s := S3) ![2] S1.size inb_S3_S1_2)).squeeze S_ squeezes_S1_S_).sem = sems 5 := by decide +kernel
theorem sem_6 : SemLoc.dma cc0_scratch2.sem = sems 6 := by decide +kernel

theorem body (c : Dev nD) (t : Fin cfg0.N) (K : Dev nD × Fin 7 → ℕ) (W : Waits sig Unit) :
    iprop((plan m).records K ∗ (plan m).kit c ∗ held m c ∗ owes (c.tc : Thread nD τ) ((plan m).owe c) W)
      ⊢ wp frame (wpE defs₀ Variants.none (c.tc : Thread nD τ) none) Set.univ (defs₀ (F := F) .tc cfg0.body (cfg0.bodyArgs t (cfg0.slots t))) fun _ =>
          iprop(done m c ∗ (bigSep Finset.univ fun i => semVal ((plan m).cell c i) 0) ∗ ∃ W, owes (c.tc : Thread nD τ) 0 W) := by
  show _ ⊢ wp frame (wpE defs₀ Variants.none (c.tc : Thread nD τ) none) Set.univ (cc0_rs_chip_scatter (F := F) (Memref.whole main_arg0) (Memref.isWhole_whole _)
    (Memref.whole main_v1) (Memref.isWhole_whole _) cc0_scratch0 cc0_scratch1 cc0_scratch2) _
  rw [cc0_rs_chip_scatter_eq_skeleton]
  unfold cc0_rs_chip_scatter_skel
  rw [k0_part1_eq_skeleton, k0_part2_eq_skeleton, k0_part3_eq_skeleton, k0_part4_eq_skeleton]
  unfold k0_part1_skel k0_part2_skel k0_part3_skel k0_part4_skel
  simp only [Prog.bind_lift, Prog.bind_op, Prog.bind_ret, Prog.bind_assoc, Prog.pure_eq_ret, wp_deviceId]
  unfold held
  rw [in_cut]
  iintro ⟨#HR, Hkit, ⟨⟨Hx0, Hx1, Hx2, Hx3⟩, Hy, Hd0, Hd1, Hd2⟩, HO⟩
  ihave Hk := (kit_split m c) $$ Hkit
  icases Hk with ⟨⟨Ha0, Ha1, Ha2, Ha3, Ha4, Ha5, Ha6⟩, ⟨Ht0, Ht1, Ht2, Ht3, Ht4, Ht5, Ht6⟩, Hc3, Hc4, Hc5⟩
  iapply ((plan m).step_copy Variants.none K c 6 rfl sem_6 rfl (q := fullShare) (fs := arg m c) (fd := old m c) ?_) $$ [Hx0 Hy Ht6]
  · refine BIClass.sep_mono (Entails.of_eq (sent_eq (k := pos c 0) (k' := pos c 0) _ _ rfl (o1 c).1 (o1 c).2 rfl (o1 c).1 (o1 c).2 c _ _ _ (got_own m c)))
      (Entails.of_eq (in_eq (k := pos c 0) _ rfl (o1 c).1 (o1 c).2 c _))
  · isplitr; · iexact HR
    isplitl [Hx0]; · iapply (Entails.of_eq (in_eq (k := pos c 0) _ rfl (o1 c).1 (o1 c).2 c _).symm); iexact Hx0
    isplitl [Hy]; · iapply (Entails.of_eq (out_eq (k := pos c 0) _ rfl (o1 c).1 (o1 c).2 c _).symm); iexact Hy
    iexact Ht6
  iintro Hc6
  iapply ((plan m).step_send Variants.none K c (peer 0 c) 0 3 rfl rfl sem_0 sem_3 rfl rfl (q := fullShare)
      (fs := arg m c) (fd := old m (peer 0 c)) (owed m c 0) (owe_eq m c) ?_ ?_ (Topo.routes_tc _ _)) $$ [Hx1 Hd0 HO Ht0 Ht3]
  · exact Entails.of_eq (in_eq (k := pos c 1) _ rfl (o2 c).1 (o2 c).2 c _)
  · refine Entails.of_eq ((sent_eq (k := pos c 1) (k' := pos c 0) _ _ rfl (o2 c).1 (o2 c).2 rfl (o1 c).1 (o1 c).2 (peer 0 c) _ _ _ (got_far m 0 c)).trans ?_)
    exact congrArg (fun k => outRow (peer 0 c) k (got m (peer 0 c))) (pos_peer c 0).symm
  · isplitr; · iexact HR
    isplitl [Hx1]; · iapply (Entails.of_eq (in_eq (k := pos c 1) _ rfl (o2 c).1 (o2 c).2 c _).symm); iexact Hx1
    isplitl [Hd0]; · iapply (Entails.of_eq (out_eq (k := pos c 0) _ rfl (o1 c).1 (o1 c).2 (peer 0 c) _).symm); iexact Hd0
    isplitl [HO]; · iexact HO
    isplitl [Ht0] <;> iassumption
  iintro ⟨Hc0, HO⟩
  iapply ((plan m).step_send Variants.none K c (peer 1 c) 1 4 rfl rfl sem_1 sem_4 rfl rfl (q := fullShare)
      (fs := arg m c) (fd := old m (peer 1 c)) (owed m c 1) rfl ?_ ?_ (Topo.routes_tc _ _)) $$ [Hx2 Hd1 HO Ht1 Ht4]
  · exact Entails.of_eq (in_eq (k := pos c 2) _ rfl (o3 c).1 (o3 c).2 c _)
  · refine Entails.of_eq ((sent_eq (k := pos c 2) (k' := pos c 0) _ _ rfl (o3 c).1 (o3 c).2 rfl (o1 c).1 (o1 c).2 (peer 1 c) _ _ _ (got_far m 1 c)).trans ?_)
    exact congrArg (fun k => outRow (peer 1 c) k (got m (peer 1 c))) (pos_peer c 1).symm
  · isplitr; · iexact HR
    isplitl [Hx2]; · iapply (Entails.of_eq (in_eq (k := pos c 2) _ rfl (o3 c).1 (o3 c).2 c _).symm); iexact Hx2
    isplitl [Hd1]; · iapply (Entails.of_eq (out_eq (k := pos c 0) _ rfl (o1 c).1 (o1 c).2 (peer 1 c) _).symm); iexact Hd1
    isplitl [HO]; · iexact HO
    isplitl [Ht1] <;> iassumption
  iintro ⟨Hc1, HO⟩
  iapply ((plan m).step_send Variants.none K c (peer 2 c) 2 5 rfl rfl sem_2 sem_5 rfl rfl (q := fullShare)
      (fs := arg m c) (fd := old m (peer 2 c)) (owed m c 2) (zero_add _).symm ?_ ?_ (Topo.routes_tc _ _)) $$ [Hx3 Hd2 HO Ht2 Ht5]
  · exact Entails.of_eq (in_eq (k := pos c 3) _ rfl (o4 c).1 (o4 c).2 c _)
  · refine Entails.of_eq ((sent_eq (k := pos c 3) (k' := pos c 0) _ _ rfl (o4 c).1 (o4 c).2 rfl (o1 c).1 (o1 c).2 (peer 2 c) _ _ _ (got_far m 2 c)).trans ?_)
    exact congrArg (fun k => outRow (peer 2 c) k (got m (peer 2 c))) (pos_peer c 2).symm
  · isplitr; · iexact HR
    isplitl [Hx3]; · iapply (Entails.of_eq (in_eq (k := pos c 3) _ rfl (o4 c).1 (o4 c).2 c _).symm); iexact Hx3
    isplitl [Hd2]; · iapply (Entails.of_eq (out_eq (k := pos c 0) _ rfl (o1 c).1 (o1 c).2 (peer 2 c) _).symm); iexact Hd2
    isplitl [HO]; · iexact HO
    isplitl [Ht2] <;> iassumption
  iintro ⟨Hc2, HO⟩
  iapply ((plan m).step_waitDma Variants.none K c 3 ?_ sem_3 (O := 0) (fun g u h => absurd h (Nat.lt_irrefl 0))) $$ [Hc3 HO Ha3]
  · rfl
  · isplitr; · iexact HR
    isplitl [Hc3]; · iexact Hc3
    isplitl [HO] <;> iassumption
  iintro ⟨Hy1, Hv3, ⟨%W3, HO⟩⟩
  iapply ((plan m).step_waitDma Variants.none K c 4 ?_ sem_4 (O := 0) (fun g u h => absurd h (Nat.lt_irrefl 0))) $$ [Hc4 HO Ha4]
  · rfl
  · isplitr; · iexact HR
    isplitl [Hc4]; · iexact Hc4
    isplitl [HO] <;> iassumption
  iintro ⟨Hy2, Hv4, ⟨%W4, HO⟩⟩
  iapply ((plan m).step_waitDma Variants.none K c 5 ?_ sem_5 (O := 0) (fun g u h => absurd h (Nat.lt_irrefl 0))) $$ [Hc5 HO Ha5]
  · rfl
  · isplitr; · iexact HR
    isplitl [Hc5]; · iexact Hc5
    isplitl [HO] <;> iassumption
  iintro ⟨Hy3, Hv5, ⟨%W5, HO⟩⟩
  iapply ((plan m).step_waitDma Variants.none K c 0 ?_ sem_0 (O := 0) (fun g u h => absurd h (Nat.lt_irrefl 0))) $$ [Hc0 HO Ha0]
  · rfl
  · isplitr; · iexact HR
    isplitl [Hc0]; · iexact Hc0
    isplitl [HO] <;> iassumption
  iintro ⟨Hx1, Hv0, ⟨%W0, HO⟩⟩
  iapply ((plan m).step_waitDma Variants.none K c 1 ?_ sem_1 (O := 0) (fun g u h => absurd h (Nat.lt_irrefl 0))) $$ [Hc1 HO Ha1]
  · rfl
  · isplitr; · iexact HR
    isplitl [Hc1]; · iexact Hc1
    isplitl [HO] <;> iassumption
  iintro ⟨Hx2, Hv1, ⟨%W1, HO⟩⟩
  iapply ((plan m).step_waitDma Variants.none K c 2 ?_ sem_2 (O := 0) (fun g u h => absurd h (Nat.lt_irrefl 0))) $$ [Hc2 HO Ha2]
  · rfl
  · isplitr; · iexact HR
    isplitl [Hc2]; · iexact Hc2
    isplitl [HO] <;> iassumption
  iintro ⟨Hx3, Hv2, ⟨%W2, HO⟩⟩
  iapply ((plan m).step_waitDma Variants.none K c 6 ?_ sem_6 (O := 0) (fun g u h => absurd h (Nat.lt_irrefl 0))) $$ [Hc6 HO Ha6]
  · rfl
  · isplitr; · iexact HR
    isplitl [Hc6]; · iexact Hc6
    isplitl [HO] <;> iassumption
  iintro ⟨Hxy, Hv6, ⟨%W6, HO⟩⟩
  rw [wp_ret]
  imodintro
  ihave Hxy := (Entails.of_eq (pay_6 m c)) $$ Hxy
  icases Hxy with ⟨Hy0, Hx0⟩
  unfold done
  isplitl [Hx0 Hx1 Hx2 Hx3 Hy0 Hy1 Hy2 Hy3]
  · rw [in_cut, out_cut]
    isplitl [Hx0 Hx1 Hx2 Hx3]
    · isplitl [Hx0]; · iexact Hx0
      isplitl [Hx1]; · iapply (Entails.of_eq (pay_0 m c)); iexact Hx1
      isplitl [Hx2]; · iapply (Entails.of_eq (pay_1 m c)); iexact Hx2
      iapply (Entails.of_eq (pay_2 m c)); iexact Hx3
    isplitl [Hy0]; · iexact Hy0
    isplitl [Hy1]; · iapply (Entails.of_eq (pay_3 m c)); iexact Hy1
    isplitl [Hy2]; · iapply (Entails.of_eq (pay_4 m c)); iexact Hy2
    iapply (Entails.of_eq (pay_5 m c)); iexact Hy3
  isplitl [Hv0 Hv1 Hv2 Hv3 Hv4 Hv5 Hv6]
  · iapply (vals_join m c)
    isplitl [Hv0]; · iexact Hv0
    isplitl [Hv1]; · iexact Hv1
    isplitl [Hv2]; · iexact Hv2
    isplitl [Hv3]; · iexact Hv3
    isplitl [Hv4]; · iexact Hv4
    isplitl [Hv5] <;> iassumption
  iexists _; iexact HO

theorem owns : Pipeline.OwnSemFacts cfg0.spec (plan m).sem := by
  show Pipeline.OwnSemFacts cfg0.spec sems
  decide

/-- The whole run: every argument as before, every result at what the chips sent, every counter back at zero. -/
theorem run_main (ρ : Dev nD → PrngReg) :
    θ_run (defs (F := F)) (onTc (τ := τ) (main (F := F))) ⟨m, fun _ => 0, ρ⟩ fun r => (∀ c : Dev nD,
      r.2.mem ((c.tc : Thread nD τ).loc main_v1) = got m c ∧ r.2.mem ((c.tc : Thread nD τ).loc main_arg0) = m ((c.tc : Thread nD τ).loc main_arg0))
      ∧ r.2.sem = fun _ => 0 := by
  haveI : IsEmpty (Fin (cfgs 0).W) := inferInstanceAs (IsEmpty (Fin 0))
  refine (θ_run _ _ _).mono (fun r h => ⟨h.1, ?_⟩) ((plan m).run cfgs Gen.launch0 (owns m) Gen.N_0 scopedRest0_eq defs₀ Variants.none m ρ main
    (fun _ => rfl) (held m) (done m) (split m) (body m)
    (fun c s => s.mem ((c.tc : Thread nD τ).loc main_v1) = got m c ∧ s.mem ((c.tc : Thread nD τ).loc main_arg0) = m ((c.tc : Thread nD τ).loc main_arg0)) ?_)
  · exact sem_eq_zero_of_scoped (by decide) h.2
  · intro c s'
    unfold done
    iintro ⟨⟨Hx, Hy⟩, HSI⟩
    icombine HSI Hx gives %hx
    icombine HSI Hy gives %hy
    imodintro
    isplitr
    · ipureintro; exact ⟨funext fun i => hy i (Finset.mem_univ i), funext fun i => hx i (Finset.mem_univ i)⟩
    iexact HSI

end Cert.ScatterIdeal

end
-- ==== Proof.SwapRun.lean ====
/-
# The swap between the two cores of a chip

Each device copies its whole array onto its sibling's result and waits for its own copy to have left and for the
sibling's to have arrived: two semaphores, one round each. The run is over any floats, with the contents it ends at.
-/
module

public import proofs.«01_k».proof.Proof.TalkLaunch
public import proofs.«01_k».proof.Proof.Gen.SwapIdeal
public import proofs.«01_k».proof.Proof.Gen.SwapIdeal.Skeleton
public import proofs.«01_k».proof.Proof.Gen.SwapIdeal.Launch

@[expose] public section

noncomputable section

namespace Cert.SwapIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.SwapIdeal.Gen Cert.Talk

variable {F : FTy → Type} [FloatOps F]

local notation "𝕄" => MT nD τ sig Unit (Elt F) ℕ (UU nD τ sig) ℕ

/-- The other core of the device's chip. -/
def sib : Equiv.Perm (Dev nD) :=
  ⟨fun d => ⟨k0_dev1 d, k0_dev1_lt d⟩, fun d => ⟨k0_dev1 d, k0_dev1_lt d⟩, by decide +kernel, by decide +kernel⟩

/-- The semaphores: the copy left, the sibling's copy arrived. -/
def sems : Fin 2 → SemLoc sig := ![.dma cc0_scratch0.sem, .dma cc0_scratch1.sem]

variable (m : (ℓ : Loc nD τ sig) → Buf (Elt F) ℓ)

/-- What a device is sent. -/
abbrev got (c : Dev nD) : Buf (Elt F) ((c.tc : Thread nD τ).loc main_v1) := m (((sib c).tc : Thread nD τ).loc main_arg0)

def plan : Plan nD τ sig (Elt F) 2 where
  sem := sems
  sem_inj := by decide
  amt _ := (Memref.whole main_v1 : Memref sig .tc .hbm S4x7056x1024 .bf16).view.dmaCredit
  amt_pos _ := View.dmaCredit_pos _ (by decide)
  who := ![Equiv.refl _, sib]
  far := ![false, true]
  lvl _ := 0
  pay c := ![iprop(((c.tc : Thread nD τ).loc main_arg0) ↦{fullShare} m ((c.tc : Thread nD τ).loc main_arg0)),
    iprop(((c.tc : Thread nD τ).loc main_v1) ↦{fullShare} got m c)]
  pay_storable c i := by fin_cases i <;> exact inferInstanceAs (BI.Storable _ (pointsTo _ _ _ _))

/-- What a device holds at the launch: its argument and its sibling's result. -/
def held (c : Dev nD) : sProp 𝕄 :=
  iprop((((c.tc : Thread nD τ).loc main_arg0) ↦{fullShare} m ((c.tc : Thread nD τ).loc main_arg0))
    ∗ (((sib c).tc : Thread nD τ).loc main_v1) ↦{fullShare} m (((sib c).tc : Thread nD τ).loc main_v1))
/-- What it holds at the end: its argument as before and its result at what the sibling sent. -/
def done (c : Dev nD) : sProp 𝕄 :=
  iprop((((c.tc : Thread nD τ).loc main_arg0) ↦{fullShare} m ((c.tc : Thread nD τ).loc main_arg0))
    ∗ ((c.tc : Thread nD τ).loc main_v1) ↦{fullShare} got m c)

theorem credit_arg : (Memref.whole main_arg0 : Memref sig .tc .hbm S4x7056x1024 .bf16).view.dmaCredit
    = (Memref.whole main_v1 : Memref sig .tc .hbm S4x7056x1024 .bf16).view.dmaCredit := by
  show RefSig.tileCredit _ _ = RefSig.tileCredit _ _
  rfl

theorem fars_eq : (Finset.univ.filter fun i => (plan m).far i = true) = {(1 : Fin 2)} := by
  show (Finset.univ.filter fun i => (![false, true] : Fin 2 → Bool) i = true) = {(1 : Fin 2)}
  decide

theorem owe_eq (c : Dev nD) : (plan m).owe c = tallyAt ((plan m).cell (sib c) 1) () ((plan m).amt 1) := by
  unfold Plan.owe Plan.fars
  rw [fars_eq, Finset.sum_singleton]; rfl

theorem kit_split (c : Dev nD) : (plan m).kit c
    ⊢ iprop(((plan m).at0 c 0 ∗ (plan m).at0 c 1) ∗ ((plan m).tok c 0 ∗ (plan m).tok c 1) ∗ (plan m).crd c 1) := by
  unfold Plan.kit Plan.fars
  rw [fars_eq, bigSep_singleton]
  simp only [BI.bigSep_fin_two]
  exact BI.Entails.refl _

theorem vals_join (c : Dev nD) : iprop(semVal ((plan m).cell c 0) 0 ∗ semVal ((plan m).cell c 1) 0)
    ⊢ (bigSep Finset.univ fun i => semVal ((plan m).cell c i) 0 : sProp 𝕄) := by
  rw [BI.bigSep_fin_two]; exact BI.Entails.refl _

theorem pay_0 (c : Dev nD) : (plan m).pay c 0 = iprop(((c.tc : Thread nD τ).loc main_arg0) ↦{fullShare} m ((c.tc : Thread nD τ).loc main_arg0)) := rfl
theorem pay_1 (c : Dev nD) : (plan m).pay c 1 = iprop(((c.tc : Thread nD τ).loc main_v1) ↦{fullShare} got m c) := rfl

theorem split : (bigSep Finset.univ fun c : Dev nD => (Pipeline.unscopedRest cfg0.spec c fun b => m ((c.tc : Thread nD τ).loc b) : sProp 𝕄))
    ⊢ bigSep Finset.univ (held m) := by
  rw [bigSep_congr fun c _ => unscopedRest0_eq c fun b => m ((c.tc : Thread nD τ).loc b)]
  unfold held
  simp only [bigSep_sep']
  refine sep_mono (BI.Entails.refl _) (Entails.of_eq ?_)
  exact bigSep_univ_equiv sib fun c : Dev nD => (((c.tc : Thread nD τ).loc main_v1) ↦{fullShare} m ((c.tc : Thread nD τ).loc main_v1) : sProp 𝕄)

theorem body (c : Dev nD) (t : Fin cfg0.N) (K : Dev nD × Fin 2 → ℕ) (W : Waits sig Unit) :
    iprop((plan m).records K ∗ (plan m).kit c ∗ held m c ∗ owes (c.tc : Thread nD τ) ((plan m).owe c) W)
      ⊢ wp frame (wpE defs₀ Variants.none (c.tc : Thread nD τ) none) Set.univ (defs₀ (F := F) .tc cfg0.body (cfg0.bodyArgs t (cfg0.slots t))) fun _ =>
          iprop(done m c ∗ (bigSep Finset.univ fun i => semVal ((plan m).cell c i) 0) ∗ ∃ W, owes (c.tc : Thread nD τ) 0 W) := by
  show _ ⊢ wp frame (wpE defs₀ Variants.none (c.tc : Thread nD τ) none) Set.univ (cc0_rs_pair_swap (F := F) (Memref.whole main_arg0) (Memref.isWhole_whole _)
    (Memref.whole main_v1) (Memref.isWhole_whole _) cc0_scratch0 cc0_scratch1) _
  rw [cc0_rs_pair_swap_eq_skeleton]
  unfold cc0_rs_pair_swap_skel
  simp only [Prog.bind_lift, wp_deviceId]
  unfold held
  iintro ⟨#HR, Hkit, ⟨Hx, Hy⟩, HO⟩
  ihave Hk := (kit_split m c) $$ Hkit
  icases Hk with ⟨⟨Ha0, Ha1⟩, ⟨Ht0, Ht1⟩, Hc1⟩
  iapply ((plan m).step_send Variants.none K c (sib c) 0 1 rfl rfl rfl rfl rfl rfl (q := fullShare)
      (fs := m ((c.tc : Thread nD τ).loc main_arg0)) (fd := m (((sib c).tc : Thread nD τ).loc main_v1)) 0
      ((owe_eq m c).trans (zero_add _).symm) ?_ ?_ (Topo.routes_tc _ _)) $$ [Hx Hy HO Ht0 Ht1]
  · simp only [Memref.view_whole, View.set_whole]; first | done | exact BI.Entails.refl _
  · simp only [Memref.view_whole, View.set_whole, View.read_whole, View.write_whole_univ]
    show _ ⊢ iprop((((sib c).tc : Thread nD τ).loc main_v1) ↦{fullShare} got m (sib c))
    have h : sib (sib c) = c := by revert c; decide +kernel
    unfold got; rw [h]
  · isplitr; · iexact HR
    isplitl [Hx]; · simp only [Memref.view_whole, View.set_whole]; iexact Hx
    isplitl [Hy]; · simp only [Memref.view_whole, View.set_whole]; iexact Hy
    isplitl [HO]; · iexact HO
    isplitl [Ht0] <;> iassumption
  iintro ⟨Hc0, HO⟩
  iapply ((plan m).step_waitDma Variants.none K c 0 ?_ rfl (O := 0) (fun g u h => absurd h (Nat.lt_irrefl 0)))
    $$ [Hc0 HO Ha0]
  · exact credit_arg
  · isplitr; · iexact HR
    isplitl [Hc0]; · iexact Hc0
    isplitl [HO] <;> iassumption
  iintro ⟨Hx, Hv0, ⟨%W1, HO⟩⟩
  iapply ((plan m).step_waitDma Variants.none K c 1 ?_ rfl (O := 0) (fun g u h => absurd h (Nat.lt_irrefl 0)))
    $$ [Hc1 HO Ha1]
  · rfl
  · isplitr; · iexact HR
    isplitl [Hc1]; · iexact Hc1
    isplitl [HO] <;> iassumption
  iintro ⟨Hy, Hv1, HO⟩
  rw [wp_pure]
  imodintro
  unfold done
  isplitl [Hx Hy]
  · isplitl [Hx]; · iapply (Entails.of_eq (pay_0 m c)); iexact Hx
    iapply (Entails.of_eq (pay_1 m c)); iexact Hy
  isplitl [Hv0 Hv1]
  · iapply (vals_join m c); isplitl [Hv0] <;> iassumption
  iexact HO

theorem owns : Pipeline.OwnSemFacts cfg0.spec (plan m).sem := by
  show Pipeline.OwnSemFacts cfg0.spec sems
  decide

/-- The whole run: every argument as before, every result at what the sibling sent, every counter back at zero. -/
theorem run_main (ρ : Dev nD → PrngReg) :
    θ_run (defs (F := F)) (onTc (τ := τ) (main (F := F))) ⟨m, fun _ => 0, ρ⟩ fun r => (∀ c : Dev nD,
      r.2.mem ((c.tc : Thread nD τ).loc main_v1) = got m c ∧ r.2.mem ((c.tc : Thread nD τ).loc main_arg0) = m ((c.tc : Thread nD τ).loc main_arg0))
      ∧ r.2.sem = fun _ => 0 := by
  haveI : IsEmpty (Fin (cfgs 0).W) := inferInstanceAs (IsEmpty (Fin 0))
  refine (θ_run _ _ _).mono (fun r h => ⟨h.1, ?_⟩) ((plan m).run cfgs Gen.launch0 (owns m) Gen.N_0 scopedRest0_eq defs₀ Variants.none m ρ main
    (fun _ => rfl) (held m) (done m) (split m) (body m)
    (fun c s => s.mem ((c.tc : Thread nD τ).loc main_v1) = got m c ∧ s.mem ((c.tc : Thread nD τ).loc main_arg0) = m ((c.tc : Thread nD τ).loc main_arg0)) ?_)
  · exact sem_eq_zero_of_scoped (by decide) h.2
  · intro c s'
    unfold done
    iintro ⟨⟨Hx, Hy⟩, HSI⟩
    icombine HSI Hx gives %hx
    icombine HSI Hy gives %hy
    imodintro
    isplitr
    · ipureintro; exact ⟨funext fun i => hy i (Finset.mem_univ i), funext fun i => hx i (Finset.mem_univ i)⟩
    iexact HSI

end Cert.SwapIdeal

end
-- ==== Proof.SwapValue.lean ====
/-
# The swap against the whole array with its halves exchanged

The reference exchanges the two halves of the second axis of the whole array. The mesh cuts that axis between the two
cores of a chip, so a device's block of the exchanged array is its sibling's block of the array.
-/
module

public import proofs.«01_k».proof.Proof.SwapRun
public import proofs.«01_k».proof.Proof.Gen.SwapRefIdeal.Run
public import proofs.«01_k».proof.Proof.Gen.ScatterRefIdeal.Run
public import proofs.«01_k».proof.Proof.Gen.ReferenceIdeal.Run
public import Idealize.ShloMosaic.Lib.Pipeline.Value
public import Idealize.ShloMosaic.Lib.Layout

@[expose] public section

noncomputable section

namespace Cert.SwapIdeal

open Idealize.ShloMosaic
open Idealize.ShloMosaic.TcCoe

/-- Where a device's block of the whole array lies. -/
abbrev at3 (c : Dev nD) : (b : Fin 3) → Fin (Layout.cutSize [2, 2, 2] (![[0, 1], [2], []] b)) :=
  Layout.meshBlock [2, 2, 2] ![[0, 1], [2], []] c

theorem at3_chip (c : Dev nD) : (at3 (sib c) 0).val = (at3 c 0).val := by revert c; decide +kernel
theorem at3_core (c : Dev nD) : (at3 (sib c) 1).val + (at3 c 1).val = 1 := by revert c; decide +kernel
theorem at3_col (c : Dev nD) : (at3 c 2).val = 0 := by revert c; decide +kernel

abbrev SB : Shape := ⟨3, ![4, 7056, 1024]⟩
abbrev SW : Shape := ⟨3, ![16, 14112, 1024]⟩
abbrev SH : Shape := ⟨3, ![16, 7056, 1024]⟩

theorem tiles : Layout.TilesN SB SW fun b : Fin 3 => Layout.cutSize [2, 2, 2] (![[0, 1], [2], []] b) := by decide

theorem idx0 (c : Dev nD) (i : SB.Idx) : (tiles.idx (at3 c) i 0).val = (at3 c 0).val * 4 + (i 0).val := rfl
theorem idx1 (c : Dev nD) (i : SB.Idx) : (tiles.idx (at3 c) i 1).val = (at3 c 1).val * 7056 + (i 1).val := rfl
theorem idx2 (c : Dev nD) (i : SB.Idx) : (tiles.idx (at3 c) i 2).val = (at3 c 2).val * 1024 + (i 2).val := rfl

theorem swap_blocks {α : Type} (x : SW.Idx → α) (h₁ : SW.Slices ![0, 7056, 0] SH) (h₀ : SW.Slices ![0, 0, 0] SH)
    (hc : Shape.Concatenates [SH, SH] SW 1) (c : Dev nD) :
    Layout.blockN SB SW (at3 (sib c)) x tiles
      = Layout.blockN SB SW (at3 c) (concatenate SW 1 [⟨SH, extractStridedSlice SH ![0, 7056, 0] x h₁⟩,
          ⟨SH, extractStridedSlice SH ![0, 0, 0] x h₀⟩] hc) tiles := by
  funext i
  rw [Layout.blockN_apply, Layout.blockN_apply]
  have e0 := at3_chip c
  have e1 := at3_core c
  have e2 := at3_col c
  have e2' := at3_col (sib c)
  have a0 := idx0 c i; have a1 := idx1 c i; have a2 := idx2 c i
  have b0 := idx0 (sib c) i; have b1 := idx1 (sib c) i; have b2 := idx2 (sib c) i
  have i1 : (i 1).val < 7056 := (i 1).isLt
  have j0 : (tiles.idx (at3 c) i 0).val < 16 := (tiles.idx (at3 c) i 0).isLt
  have j2 : (tiles.idx (at3 c) i 2).val < 1024 := (tiles.idx (at3 c) i 2).isLt
  generalize tiles.idx (at3 c) i = j at *
  generalize tiles.idx (at3 (sib c)) i = j' at *
  let k : SH.Idx := Fin.cons ⟨(j 0).val, j0⟩ (Fin.cons ⟨(i 1).val, i1⟩ (Fin.cons ⟨(j 2).val, j2⟩ finZeroElim))
  by_cases hz : (at3 c 1).val = 0
  · symm
    refine (concatenate_pair_apply_left (t := SW) (s₁ := SH) (s₂ := SH) 1 _ _ hc j rfl k ?_).trans
      (extractStridedSlice_apply _ x h₁ k j' ?_)
    · intro b
      match b with
      | ⟨0, _⟩ => rfl
      | ⟨1, _⟩ => show (i 1).val = (j 1).val; omega
      | ⟨2, _⟩ => rfl
    · intro b
      match b with
      | ⟨0, _⟩ => show (j' 0).val = 0 + (j 0).val; omega
      | ⟨1, _⟩ => show (j' 1).val = 7056 + (i 1).val; omega
      | ⟨2, _⟩ => show (j' 2).val = 0 + (j 2).val; omega
  · symm
    refine (concatenate_pair_apply_right (t := SW) (s₁ := SH) (s₂ := SH) 1 _ _ hc j rfl rfl k ?_ ?_).trans
      (extractStridedSlice_apply _ x h₀ k j' ?_)
    · intro b hb
      match b with
      | ⟨0, _⟩ => rfl
      | ⟨1, _⟩ => exact absurd rfl hb
      | ⟨2, _⟩ => rfl
    · show (i 1).val + 7056 = (j 1).val; omega
    · intro b
      match b with
      | ⟨0, _⟩ => show (j' 0).val = 0 + (j 0).val; omega
      | ⟨1, _⟩ => show (j' 1).val = 0 + (i 1).val; omega
      | ⟨2, _⟩ => show (j' 2).val = 0 + (j 2).val; omega

end Cert.SwapIdeal

end
-- ==== Proof.ScatterValue.lean ====
/-
# The exchange of slabs against the transposition of the chips' axis

The reference views the whole array as slabs numbered by pairs (the chip that holds it, the chip it is for), exchanges the
two numbers and views it as before. The mesh cuts the first number between the chips, so slab `k` of a device's block of
the result is the slab for this chip of the block of chip `k`.
-/
module

public import proofs.«01_k».proof.Proof.ScatterRun
public import proofs.«01_k».proof.Proof.SwapValue

@[expose] public section

noncomputable section

namespace Cert.ScatterIdeal

open Idealize.ShloMosaic
open Idealize.ShloMosaic.TcCoe
open Cert.SwapIdeal (SB SW at3 tiles idx0 idx1 idx2)

abbrev SP : Shape := ⟨4, ![4, 4, 14112, 1024]⟩

theorem chip_home (c : Dev nD) (k : Fin 4) : (at3 (home c k) 0).val = k.val := by revert c k; decide +kernel
theorem core_home (c : Dev nD) (k : Fin 4) : (at3 (home c k) 1).val = (at3 c 1).val := by revert c k; decide +kernel
theorem chip_pos (c : Dev nD) : (at3 c 0).val = (pos c 0).val := by revert c; decide +kernel
theorem col_zero (c : Dev nD) : (at3 c 2).val = 0 := by revert c; decide +kernel

theorem scatter_blocks {α : Type} (x : SW.Idx → α) (h₁ : SW.ShapeCasts SP) (h₂ : SP.Transposes [1, 0, 2, 3] SP) (h₃ : SP.ShapeCasts SW) (c : Dev nD) :
    (fun i : SI4 => Layout.blockN SB SW (at3 (home c (at0 i))) x tiles (onRow (pos c 0) i))
      = Layout.blockN SB SW (at3 c) (shapeCast SW (transpose SP [1, 0, 2, 3] (shapeCast SP x h₁) h₂) h₃) tiles := by
  funext i
  rw [Layout.blockN_apply, Layout.blockN_apply]
  have e0 := chip_home c (at0 i)
  have e1 := core_home c (at0 i)
  have e2 := col_zero c
  have e2' := col_zero (home c (at0 i))
  have e3 := chip_pos c
  have a0 := idx0 c i; have a1 := idx1 c i; have a2 := idx2 c i
  have b0 : (tiles.idx (at3 (home c (at0 i))) (onRow (pos c 0) i) 0).val = (at3 (home c (at0 i)) 0).val * 4 + (pos c 0).val := rfl
  have b1 : (tiles.idx (at3 (home c (at0 i))) (onRow (pos c 0) i) 1).val = (at3 (home c (at0 i)) 1).val * 7056 + (i 1).val := rfl
  have b2 : (tiles.idx (at3 (home c (at0 i))) (onRow (pos c 0) i) 2).val = (at3 (home c (at0 i)) 2).val * 1024 + (i 2).val := rfl
  have a0' : (tiles.idx (at3 c) i 0).val = (at3 c 0).val * 4 + (at0 i).val := a0
  have j1 : (tiles.idx (at3 c) i 1).val < 14112 := (tiles.idx (at3 c) i 1).isLt
  have j2 : (tiles.idx (at3 c) i 2).val < 1024 := (tiles.idx (at3 c) i 2).isLt
  generalize tiles.idx (at3 c) i = j at *
  generalize tiles.idx (at3 (home c (at0 i))) (onRow (pos c 0) i) = j' at *
  let k : SP.Idx := Fin.cons (pos c 0) (Fin.cons (at0 i) (Fin.cons ⟨(j 1).val, j1⟩ (Fin.cons ⟨(j 2).val, j2⟩ finZeroElim)))
  let k' : SP.Idx := Fin.cons (at0 i) (Fin.cons (pos c 0) (Fin.cons ⟨(j 1).val, j1⟩ (Fin.cons ⟨(j 2).val, j2⟩ finZeroElim)))
  symm
  refine (shapeCast_apply _ h₃ j k ?_).trans ((transpose_apply _ _ h₂ k k' ?_).trans (shapeCast_apply x h₁ k' j' ?_))
  · rw [Shape.rowMajor_val_three, Shape.rowMajor_val_four]
    show (((pos c 0).val * 4 + (at0 i).val) * 14112 + (j 1).val) * 1024 + (j 2).val = ((j 0).val * 14112 + (j 1).val) * 1024 + (j 2).val
    omega
  · intro b
    match b with
    | ⟨0, _⟩ => rfl
    | ⟨1, _⟩ => rfl
    | ⟨2, _⟩ => rfl
    | ⟨3, _⟩ => rfl
  · rw [Shape.rowMajor_val_three, Shape.rowMajor_val_four]
    show ((j' 0).val * 14112 + (j' 1).val) * 1024 + (j' 2).val = (((at0 i).val * 4 + (pos c 0).val) * 14112 + (j 1).val) * 1024 + (j 2).val
    omega

end Cert.ScatterIdeal

end
-- ==== Proof.ScatterClaims.lean ====
/-
# The claims of the chips' exchange

Both frames from the one run; the reference's frames from its generated run; the two value claims from one lemma over
any floats.
-/
module

public import proofs.«01_k».proof.Defs
public import proofs.«01_k».proof.Proof.ScatterValue
public import proofs.«01_k».proof.Proof.Gen.Scatter
public import proofs.«01_k».proof.Proof.Gen.ScatterRef
public import Idealize.ShloMosaic.Lib.Quiescent

@[expose] public section

noncomputable section

namespace Cert.ScatterClaims

open Idealize.ShloMosaic Idealize.ShloMosaic.TcCoe Idealize.SL.Sem

theorem frame_ideal : Cert.quiescent_ScatterIdeal (hScatterIdeal := Cert.ScatterIdeal.Gen.facts) := fun m ρ _ =>
  (θ_run _ _ _).mono (fun _ h => ⟨fun c => (h.1 c).2, h.2⟩) (Cert.ScatterIdeal.run_main (F := Ideal) m ρ)

theorem frame : Cert.quiescent_Scatter (hScatter := Cert.Scatter.Gen.facts) := fun m ρ _ =>
  (θ_run Cert.ScatterIdeal.defs _ _).mono (fun _ h => ⟨fun c => (h.1 c).2, h.2⟩) (Cert.ScatterIdeal.run_main (F := Bits) m ρ)

theorem frame_ref_ideal : Cert.quiescent_ScatterRefIdeal (hScatterRefIdeal := Cert.ScatterRefIdeal.Gen.facts) := fun m ρ _ =>
  (θ_run _ _ _).mono (fun r h => ⟨fun c => (h c).2, sem_eq_zero_of_no_sems rfl r.2⟩) (Cert.ScatterRefIdeal.Value.run (F := Ideal) m ρ)

theorem frame_ref : Cert.quiescent_ScatterRef (hScatterRef := Cert.ScatterRef.Gen.facts) := fun m ρ _ =>
  (θ_run Cert.ScatterRefIdeal.defs _ _).mono (fun r h => ⟨fun c => (h c).2, sem_eq_zero_of_no_sems rfl r.2⟩)
    (Cert.ScatterRefIdeal.Value.run (F := Bits) m ρ)

theorem value : Cert.algebraic_ScatterIdeal_ScatterRefIdeal (hScatterIdeal := Cert.ScatterIdeal.Gen.facts) (hScatterRefIdeal := Cert.ScatterRefIdeal.Gen.facts) :=
  fun m ρ m' ρ' _ hm => ⟨_,
    (θ_run _ _ _).mono (fun r h c => ⟨(h.1 c).1.trans ((funext fun i => congrFun (hm (Cert.ScatterIdeal.home c (Cert.ScatterIdeal.at0 i)))
      (Cert.ScatterIdeal.onRow (Cert.ScatterIdeal.pos c 0) i)).trans (Cert.ScatterIdeal.scatter_blocks _ _ _ _ c)), (h.1 c).2⟩)
      (Cert.ScatterIdeal.run_main (F := Ideal) m ρ),
    (θ_run _ _ _).mono (fun r h => h 0) (Cert.ScatterRefIdeal.Value.run (F := Ideal) m' ρ')⟩

theorem bits : Cert.bitexact_Scatter_ScatterRef (hScatter := Cert.Scatter.Gen.facts) (hScatterRef := Cert.ScatterRef.Gen.facts) :=
  fun m ρ m' ρ' _ hm => ⟨_,
    (θ_run Cert.ScatterIdeal.defs _ _).mono (fun r h c => ⟨(h.1 c).1.trans ((funext fun i => congrFun (hm (Cert.ScatterIdeal.home c (Cert.ScatterIdeal.at0 i)))
      (Cert.ScatterIdeal.onRow (Cert.ScatterIdeal.pos c 0) i)).trans (Cert.ScatterIdeal.scatter_blocks _ _ _ _ c)), (h.1 c).2⟩)
      (Cert.ScatterIdeal.run_main (F := Bits) m ρ),
    (θ_run Cert.ScatterRefIdeal.defs _ _).mono (fun r h => h 0) (Cert.ScatterRefIdeal.Value.run (F := Bits) m' ρ')⟩

end Cert.ScatterClaims

end
-- ==== Proof.SwapClaims.lean ====
/-
# The swap's claims

Both frames from the one run; the reference's frames from its generated run; the two value claims from one lemma over
any floats.
-/
module

public import proofs.«01_k».proof.Defs
public import proofs.«01_k».proof.Proof.SwapValue
public import proofs.«01_k».proof.Proof.Gen.Swap
public import proofs.«01_k».proof.Proof.Gen.SwapRef
public import Idealize.ShloMosaic.Lib.Quiescent

@[expose] public section

noncomputable section

namespace Cert.SwapClaims

open Idealize.ShloMosaic Idealize.ShloMosaic.TcCoe Idealize.SL.Sem

theorem frame_ideal : Cert.quiescent_SwapIdeal (hSwapIdeal := Cert.SwapIdeal.Gen.facts) := fun m ρ _ =>
  (θ_run _ _ _).mono (fun _ h => ⟨fun c => (h.1 c).2, h.2⟩) (Cert.SwapIdeal.run_main (F := Ideal) m ρ)

theorem frame : Cert.quiescent_Swap (hSwap := Cert.Swap.Gen.facts) := fun m ρ _ =>
  (θ_run Cert.SwapIdeal.defs _ _).mono (fun _ h => ⟨fun c => (h.1 c).2, h.2⟩) (Cert.SwapIdeal.run_main (F := Bits) m ρ)

theorem frame_ref_ideal : Cert.quiescent_SwapRefIdeal (hSwapRefIdeal := Cert.SwapRefIdeal.Gen.facts) := fun m ρ _ =>
  (θ_run _ _ _).mono (fun r h => ⟨fun c => (h c).2, sem_eq_zero_of_no_sems rfl r.2⟩) (Cert.SwapRefIdeal.Value.run (F := Ideal) m ρ)

theorem frame_ref : Cert.quiescent_SwapRef (hSwapRef := Cert.SwapRef.Gen.facts) := fun m ρ _ =>
  (θ_run Cert.SwapRefIdeal.defs _ _).mono (fun r h => ⟨fun c => (h c).2, sem_eq_zero_of_no_sems rfl r.2⟩)
    (Cert.SwapRefIdeal.Value.run (F := Bits) m ρ)

theorem value : Cert.algebraic_SwapIdeal_SwapRefIdeal (hSwapIdeal := Cert.SwapIdeal.Gen.facts) (hSwapRefIdeal := Cert.SwapRefIdeal.Gen.facts) :=
  fun m ρ m' ρ' _ hm => ⟨_,
    (θ_run _ _ _).mono (fun r h c => ⟨((h.1 c).1.trans (hm (Cert.SwapIdeal.sib c))).trans (Cert.SwapIdeal.swap_blocks _ _ _ _ c), (h.1 c).2⟩)
      (Cert.SwapIdeal.run_main (F := Ideal) m ρ),
    (θ_run _ _ _).mono (fun r h => h 0) (Cert.SwapRefIdeal.Value.run (F := Ideal) m' ρ')⟩

theorem bits : Cert.bitexact_Swap_SwapRef (hSwap := Cert.Swap.Gen.facts) (hSwapRef := Cert.SwapRef.Gen.facts) :=
  fun m ρ m' ρ' _ hm => ⟨_,
    (θ_run Cert.SwapIdeal.defs _ _).mono (fun r h c => ⟨((h.1 c).1.trans (hm (Cert.SwapIdeal.sib c))).trans (Cert.SwapIdeal.swap_blocks _ _ _ _ c), (h.1 c).2⟩)
      (Cert.SwapIdeal.run_main (F := Bits) m ρ),
    (θ_run Cert.SwapRefIdeal.defs _ _).mono (fun r h => h 0) (Cert.SwapRefIdeal.Value.run (F := Bits) m' ρ')⟩

end Cert.SwapClaims

end
-- ==== Proof.FinalRun.lean ====
/-
# The last swap between the two cores of a chip

Each device copies its whole sum onto its sibling's result and waits for its own copy to have left and for the
sibling's to have arrived: two semaphores, one round each. The run is over any floats, with the contents it ends at.
-/
module

public import proofs.«01_k».proof.Proof.TalkLaunch
public import proofs.«01_k».proof.Proof.Gen.FinalSwapIdeal
public import proofs.«01_k».proof.Proof.Gen.FinalSwapIdeal.Skeleton
public import proofs.«01_k».proof.Proof.Gen.FinalSwapIdeal.Launch

@[expose] public section

noncomputable section

namespace Cert.FinalSwapIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.FinalSwapIdeal.Gen Cert.Talk

variable {F : FTy → Type} [FloatOps F]

local notation "𝕄" => MT nD τ sig Unit (Elt F) ℕ (UU nD τ sig) ℕ

/-- The other core of the device's chip. -/
def sib : Equiv.Perm (Dev nD) :=
  ⟨fun d => ⟨k0_dev1 d, k0_dev1_lt d⟩, fun d => ⟨k0_dev1 d, k0_dev1_lt d⟩, by decide +kernel, by decide +kernel⟩

/-- The semaphores: the copy left, the sibling's copy arrived. -/
def sems : Fin 2 → SemLoc sig := ![.dma cc0_scratch0.sem, .dma cc0_scratch1.sem]

variable (m : (ℓ : Loc nD τ sig) → Buf (Elt F) ℓ)

/-- What a device is sent. -/
abbrev got (c : Dev nD) : Buf (Elt F) ((c.tc : Thread nD τ).loc main_v1) := m (((sib c).tc : Thread nD τ).loc main_arg0)

def plan : Plan nD τ sig (Elt F) 2 where
  sem := sems
  sem_inj := by decide
  amt _ := (Memref.whole main_v1 : Memref sig .tc .hbm S7056x1024 .f32).view.dmaCredit
  amt_pos _ := View.dmaCredit_pos _ (by decide)
  who := ![Equiv.refl _, sib]
  far := ![false, true]
  lvl _ := 0
  pay c := ![iprop(((c.tc : Thread nD τ).loc main_arg0) ↦{fullShare} m ((c.tc : Thread nD τ).loc main_arg0)),
    iprop(((c.tc : Thread nD τ).loc main_v1) ↦{fullShare} got m c)]
  pay_storable c i := by fin_cases i <;> exact inferInstanceAs (BI.Storable _ (pointsTo _ _ _ _))

/-- What a device holds at the launch: its argument and its sibling's result. -/
def held (c : Dev nD) : sProp 𝕄 :=
  iprop((((c.tc : Thread nD τ).loc main_arg0) ↦{fullShare} m ((c.tc : Thread nD τ).loc main_arg0))
    ∗ (((sib c).tc : Thread nD τ).loc main_v1) ↦{fullShare} m (((sib c).tc : Thread nD τ).loc main_v1))
/-- What it holds at the end: its argument as before and its result at what the sibling sent. -/
def done (c : Dev nD) : sProp 𝕄 :=
  iprop((((c.tc : Thread nD τ).loc main_arg0) ↦{fullShare} m ((c.tc : Thread nD τ).loc main_arg0))
    ∗ ((c.tc : Thread nD τ).loc main_v1) ↦{fullShare} got m c)

theorem credit_arg : (Memref.whole main_arg0 : Memref sig .tc .hbm S7056x1024 .f32).view.dmaCredit
    = (Memref.whole main_v1 : Memref sig .tc .hbm S7056x1024 .f32).view.dmaCredit := by
  show RefSig.tileCredit _ _ = RefSig.tileCredit _ _
  rfl

theorem fars_eq : (Finset.univ.filter fun i => (plan m).far i = true) = {(1 : Fin 2)} := by
  show (Finset.univ.filter fun i => (![false, true] : Fin 2 → Bool) i = true) = {(1 : Fin 2)}
  decide

theorem owe_eq (c : Dev nD) : (plan m).owe c = tallyAt ((plan m).cell (sib c) 1) () ((plan m).amt 1) := by
  unfold Plan.owe Plan.fars
  rw [fars_eq, Finset.sum_singleton]; rfl

theorem kit_split (c : Dev nD) : (plan m).kit c
    ⊢ iprop(((plan m).at0 c 0 ∗ (plan m).at0 c 1) ∗ ((plan m).tok c 0 ∗ (plan m).tok c 1) ∗ (plan m).crd c 1) := by
  unfold Plan.kit Plan.fars
  rw [fars_eq, bigSep_singleton]
  simp only [BI.bigSep_fin_two]
  exact BI.Entails.refl _

theorem vals_join (c : Dev nD) : iprop(semVal ((plan m).cell c 0) 0 ∗ semVal ((plan m).cell c 1) 0)
    ⊢ (bigSep Finset.univ fun i => semVal ((plan m).cell c i) 0 : sProp 𝕄) := by
  rw [BI.bigSep_fin_two]; exact BI.Entails.refl _

theorem pay_0 (c : Dev nD) : (plan m).pay c 0 = iprop(((c.tc : Thread nD τ).loc main_arg0) ↦{fullShare} m ((c.tc : Thread nD τ).loc main_arg0)) := rfl
theorem pay_1 (c : Dev nD) : (plan m).pay c 1 = iprop(((c.tc : Thread nD τ).loc main_v1) ↦{fullShare} got m c) := rfl

theorem split : (bigSep Finset.univ fun c : Dev nD => (Pipeline.unscopedRest cfg0.spec c fun b => m ((c.tc : Thread nD τ).loc b) : sProp 𝕄))
    ⊢ bigSep Finset.univ (held m) := by
  rw [bigSep_congr fun c _ => unscopedRest0_eq c fun b => m ((c.tc : Thread nD τ).loc b)]
  unfold held
  simp only [bigSep_sep']
  refine sep_mono (BI.Entails.refl _) (Entails.of_eq ?_)
  exact bigSep_univ_equiv sib fun c : Dev nD => (((c.tc : Thread nD τ).loc main_v1) ↦{fullShare} m ((c.tc : Thread nD τ).loc main_v1) : sProp 𝕄)

theorem body (c : Dev nD) (t : Fin cfg0.N) (K : Dev nD × Fin 2 → ℕ) (W : Waits sig Unit) :
    iprop((plan m).records K ∗ (plan m).kit c ∗ held m c ∗ owes (c.tc : Thread nD τ) ((plan m).owe c) W)
      ⊢ wp frame (wpE defs₀ Variants.none (c.tc : Thread nD τ) none) Set.univ (defs₀ (F := F) .tc cfg0.body (cfg0.bodyArgs t (cfg0.slots t))) fun _ =>
          iprop(done m c ∗ (bigSep Finset.univ fun i => semVal ((plan m).cell c i) 0) ∗ ∃ W, owes (c.tc : Thread nD τ) 0 W) := by
  show _ ⊢ wp frame (wpE defs₀ Variants.none (c.tc : Thread nD τ) none) Set.univ (cc0_rs_final_swap (F := F) (Memref.whole main_arg0) (Memref.isWhole_whole _)
    (Memref.whole main_v1) (Memref.isWhole_whole _) cc0_scratch0 cc0_scratch1) _
  rw [cc0_rs_final_swap_eq_skeleton]
  unfold cc0_rs_final_swap_skel
  simp only [Prog.bind_lift, wp_deviceId]
  unfold held
  iintro ⟨#HR, Hkit, ⟨Hx, Hy⟩, HO⟩
  ihave Hk := (kit_split m c) $$ Hkit
  icases Hk with ⟨⟨Ha0, Ha1⟩, ⟨Ht0, Ht1⟩, Hc1⟩
  iapply ((plan m).step_send Variants.none K c (sib c) 0 1 rfl rfl rfl rfl rfl rfl (q := fullShare)
      (fs := m ((c.tc : Thread nD τ).loc main_arg0)) (fd := m (((sib c).tc : Thread nD τ).loc main_v1)) 0
      ((owe_eq m c).trans (zero_add _).symm) ?_ ?_ (Topo.routes_tc _ _)) $$ [Hx Hy HO Ht0 Ht1]
  · simp only [Memref.view_whole, View.set_whole]; first | done | exact BI.Entails.refl _
  · simp only [Memref.view_whole, View.set_whole, View.read_whole, View.write_whole_univ]
    show _ ⊢ iprop((((sib c).tc : Thread nD τ).loc main_v1) ↦{fullShare} got m (sib c))
    have h : sib (sib c) = c := by revert c; decide +kernel
    unfold got; rw [h]
  · isplitr; · iexact HR
    isplitl [Hx]; · simp only [Memref.view_whole, View.set_whole]; iexact Hx
    isplitl [Hy]; · simp only [Memref.view_whole, View.set_whole]; iexact Hy
    isplitl [HO]; · iexact HO
    isplitl [Ht0] <;> iassumption
  iintro ⟨Hc0, HO⟩
  iapply ((plan m).step_waitDma Variants.none K c 0 ?_ rfl (O := 0) (fun g u h => absurd h (Nat.lt_irrefl 0)))
    $$ [Hc0 HO Ha0]
  · exact credit_arg
  · isplitr; · iexact HR
    isplitl [Hc0]; · iexact Hc0
    isplitl [HO] <;> iassumption
  iintro ⟨Hx, Hv0, ⟨%W1, HO⟩⟩
  iapply ((plan m).step_waitDma Variants.none K c 1 ?_ rfl (O := 0) (fun g u h => absurd h (Nat.lt_irrefl 0)))
    $$ [Hc1 HO Ha1]
  · rfl
  · isplitr; · iexact HR
    isplitl [Hc1]; · iexact Hc1
    isplitl [HO] <;> iassumption
  iintro ⟨Hy, Hv1, HO⟩
  rw [wp_pure]
  imodintro
  unfold done
  isplitl [Hx Hy]
  · isplitl [Hx]; · iapply (Entails.of_eq (pay_0 m c)); iexact Hx
    iapply (Entails.of_eq (pay_1 m c)); iexact Hy
  isplitl [Hv0 Hv1]
  · iapply (vals_join m c); isplitl [Hv0] <;> iassumption
  iexact HO

theorem owns : Pipeline.OwnSemFacts cfg0.spec (plan m).sem := by
  show Pipeline.OwnSemFacts cfg0.spec sems
  decide

/-- The whole run: every argument as before, every result at what the sibling sent, every counter back at zero. -/
theorem run_main (ρ : Dev nD → PrngReg) :
    θ_run (defs (F := F)) (onTc (τ := τ) (main (F := F))) ⟨m, fun _ => 0, ρ⟩ fun r => (∀ c : Dev nD,
      r.2.mem ((c.tc : Thread nD τ).loc main_v1) = got m c ∧ r.2.mem ((c.tc : Thread nD τ).loc main_arg0) = m ((c.tc : Thread nD τ).loc main_arg0))
      ∧ r.2.sem = fun _ => 0 := by
  haveI : IsEmpty (Fin (cfgs 0).W) := inferInstanceAs (IsEmpty (Fin 0))
  refine (θ_run _ _ _).mono (fun r h => ⟨h.1, ?_⟩) ((plan m).run cfgs Gen.launch0 (owns m) Gen.N_0 scopedRest0_eq defs₀ Variants.none m ρ main
    (fun _ => rfl) (held m) (done m) (split m) (body m)
    (fun c s => s.mem ((c.tc : Thread nD τ).loc main_v1) = got m c ∧ s.mem ((c.tc : Thread nD τ).loc main_arg0) = m ((c.tc : Thread nD τ).loc main_arg0)) ?_)
  · exact sem_eq_zero_of_scoped (by decide) h.2
  · intro c s'
    unfold done
    iintro ⟨⟨Hx, Hy⟩, HSI⟩
    icombine HSI Hx gives %hx
    icombine HSI Hy gives %hy
    imodintro
    isplitr
    · ipureintro; exact ⟨funext fun i => hy i (Finset.mem_univ i), funext fun i => hx i (Finset.mem_univ i)⟩
    iexact HSI

end Cert.FinalSwapIdeal

end
-- ==== Proof.FinalValue.lean ====
/-
# The last swap against the whole array with its halves exchanged

The rows of the whole array are one block for each device, the two cores of a chip side by side. The reference folds the
rows into chip, core and row, turns the core axis round, and unfolds. A device's block of the result is therefore its
sibling's block of the argument.
-/
module

public import proofs.«01_k».proof.Proof.FinalRun
public import proofs.«01_k».proof.Proof.Gen.FinalSwapRefIdeal.Run
public import Idealize.ShloMosaic.Lib.Pipeline.Value
public import Idealize.ShloMosaic.Lib.Pointwise
public import Idealize.ShloMosaic.Lib.Layout

@[expose] public section

noncomputable section

namespace Cert.FinalSwapIdeal

open Idealize.ShloMosaic
open Idealize.ShloMosaic.TcCoe

abbrev FB : Shape := ⟨2, ![7056, 1024]⟩
abbrev FW : Shape := ⟨2, ![56448, 1024]⟩
abbrev FF : Shape := ⟨4, ![4, 2, 7056, 1024]⟩

/-- Two devices of one chip differ by one, the first core's number even. -/
theorem sib_chip (c : Dev nD) : (sib c).val / 2 = c.val / 2 := by revert c; decide +kernel
theorem sib_core (c : Dev nD) : (sib c).val % 2 + c.val % 2 = 1 := by revert c; decide +kernel

theorem tiles : Layout.Tiles FB FW 0 8 := by decide

theorem idx0 (c : Fin 8) (i : FB.Idx) : (tiles.idx c i 0).val = c.val * 7056 + (i 0).val := rfl
theorem idx1 (c : Fin 8) (i : FB.Idx) : (tiles.idx c i 1).val = (i 1).val := rfl

theorem final_blocks {α : Type} (x : FW.Idx → α) (h₁ : FW.ShapeCasts FF) (h₂ : FF.ShapeCasts FW) (c : Dev nD) :
    Layout.block FB FW 0 8 (sib c) x tiles
      = Layout.block FB FW 0 8 c (shapeCast FW (Host.reverse (s := FF) [1] (shapeCast FF x h₁)) h₂) tiles := by
  funext i
  rw [Layout.block_apply, Layout.block_apply]
  have e0 := sib_chip c
  have e1 := sib_core c
  have a0 := idx0 c i; have a1 := idx1 c i
  have b0 := idx0 (sib c) i; have b1 := idx1 (sib c) i
  have i0 : (i 0).val < 7056 := (i 0).isLt
  have i1 : (i 1).val < 1024 := (i 1).isLt
  have hc : c.val < 8 := c.isLt
  generalize tiles.idx c i = j at *
  generalize tiles.idx (sib c) i = j' at *
  let k : FF.Idx := Fin.cons (⟨c.val / 2, by omega⟩ : Fin 4) (Fin.cons (⟨c.val % 2, by omega⟩ : Fin 2) (Fin.cons ⟨(i 0).val, i0⟩ (Fin.cons ⟨(i 1).val, i1⟩ finZeroElim)))
  let k' : FF.Idx := Fin.cons (⟨c.val / 2, by omega⟩ : Fin 4) (Fin.cons (⟨(sib c).val % 2, by omega⟩ : Fin 2) (Fin.cons ⟨(i 0).val, i0⟩ (Fin.cons ⟨(i 1).val, i1⟩ finZeroElim)))
  have turn : Host.reverse (s := FF) [1] (shapeCast FF x h₁) k = shapeCast FF x h₁ k' := by
    rw [Host.reverse_apply]
    refine congrArg _ (funext fun b => Fin.ext ?_)
    match b with
    | ⟨0, _⟩ => rfl
    | ⟨1, _⟩ => show 2 - (c.val % 2 + 1) = (sib c).val % 2; omega
    | ⟨2, _⟩ => rfl
    | ⟨3, _⟩ => rfl
  symm
  refine (shapeCast_apply _ h₂ j k ?_).trans (turn.trans (shapeCast_apply x h₁ k' j' ?_))
  · rw [Shape.rowMajor_val_four, Shape.rowMajor_val_two]
    show ((c.val / 2 * 2 + c.val % 2) * 7056 + (i 0).val) * 1024 + (i 1).val = (j 0).val * 1024 + (j 1).val
    omega
  · rw [Shape.rowMajor_val_four, Shape.rowMajor_val_two]
    show (j' 0).val * 1024 + (j' 1).val = ((c.val / 2 * 2 + (sib c).val % 2) * 7056 + (i 0).val) * 1024 + (i 1).val
    omega

end Cert.FinalSwapIdeal

end
-- ==== Proof.FinalClaims.lean ====
/-
# The last swap's claims

Both frames from the one run; the reference's frames from its generated run; the two value claims from one lemma over
any floats.
-/
module

public import proofs.«01_k».proof.Defs
public import proofs.«01_k».proof.Proof.FinalValue
public import proofs.«01_k».proof.Proof.Gen.FinalSwap
public import proofs.«01_k».proof.Proof.Gen.FinalSwapRef
public import Idealize.ShloMosaic.Lib.Quiescent

@[expose] public section

noncomputable section

namespace Cert.FinalClaims

open Idealize.ShloMosaic Idealize.ShloMosaic.TcCoe Idealize.SL.Sem

theorem frame_ideal : Cert.quiescent_FinalSwapIdeal (hFinalSwapIdeal := Cert.FinalSwapIdeal.Gen.facts) := fun m ρ _ =>
  (θ_run _ _ _).mono (fun _ h => ⟨fun c => (h.1 c).2, h.2⟩) (Cert.FinalSwapIdeal.run_main (F := Ideal) m ρ)

theorem frame : Cert.quiescent_FinalSwap (hFinalSwap := Cert.FinalSwap.Gen.facts) := fun m ρ _ =>
  (θ_run Cert.FinalSwapIdeal.defs _ _).mono (fun _ h => ⟨fun c => (h.1 c).2, h.2⟩) (Cert.FinalSwapIdeal.run_main (F := Bits) m ρ)

theorem frame_ref_ideal : Cert.quiescent_FinalSwapRefIdeal (hFinalSwapRefIdeal := Cert.FinalSwapRefIdeal.Gen.facts) := fun m ρ _ =>
  (θ_run _ _ _).mono (fun r h => ⟨fun c => (h c).2, sem_eq_zero_of_no_sems rfl r.2⟩) (Cert.FinalSwapRefIdeal.Value.run (F := Ideal) m ρ)

theorem frame_ref : Cert.quiescent_FinalSwapRef (hFinalSwapRef := Cert.FinalSwapRef.Gen.facts) := fun m ρ _ =>
  (θ_run Cert.FinalSwapRefIdeal.defs _ _).mono (fun r h => ⟨fun c => (h c).2, sem_eq_zero_of_no_sems rfl r.2⟩)
    (Cert.FinalSwapRefIdeal.Value.run (F := Bits) m ρ)

theorem value : Cert.algebraic_FinalSwapIdeal_FinalSwapRefIdeal (hFinalSwapIdeal := Cert.FinalSwapIdeal.Gen.facts) (hFinalSwapRefIdeal := Cert.FinalSwapRefIdeal.Gen.facts) :=
  fun m ρ m' ρ' _ hm => ⟨_,
    (θ_run _ _ _).mono (fun r h c => ⟨((h.1 c).1.trans (hm (Cert.FinalSwapIdeal.sib c))).trans (Cert.FinalSwapIdeal.final_blocks _ _ _ c), (h.1 c).2⟩)
      (Cert.FinalSwapIdeal.run_main (F := Ideal) m ρ),
    (θ_run _ _ _).mono (fun r h => h 0) (Cert.FinalSwapRefIdeal.Value.run (F := Ideal) m' ρ')⟩

theorem bits : Cert.bitexact_FinalSwap_FinalSwapRef (hFinalSwap := Cert.FinalSwap.Gen.facts) (hFinalSwapRef := Cert.FinalSwapRef.Gen.facts) :=
  fun m ρ m' ρ' _ hm => ⟨_,
    (θ_run Cert.FinalSwapIdeal.defs _ _).mono (fun r h c => ⟨((h.1 c).1.trans (hm (Cert.FinalSwapIdeal.sib c))).trans (Cert.FinalSwapIdeal.final_blocks _ _ _ c), (h.1 c).2⟩)
      (Cert.FinalSwapIdeal.run_main (F := Bits) m ρ),
    (θ_run Cert.FinalSwapRefIdeal.defs _ _).mono (fun r h => h 0) (Cert.FinalSwapRefIdeal.Value.run (F := Bits) m' ρ')⟩

end Cert.FinalClaims

end
-- ==== Proof.AdamValue.lean ====
/-
# One step of the update, entry by entry

The kernel's block computes the three results of an entry from that entry's weight, gradient, mean and square. The
reference computes them of whole arrays, each constant spread over the array. Over the extended reals, whatever the shape,
the two are the same function of the entries.
-/
module

public import Idealize.ShloMosaic.PureOps.Ideal
public import Idealize.ShloMosaic.PureOps.Vector
public import Idealize.ShloMosaic.Lib.StableHlo.Run

@[expose] public section

noncomputable section

namespace Cert.AdamValue

open Idealize.ShloMosaic

/-- A whole array over the extended reals. -/
abbrev Arr (S : Shape) : Type := FVec Ideal S .f32
abbrev Unit₀ : Shape := ⟨0, ![]⟩

variable {S : Shape} (b : Unit₀.BroadcastsInDim S ![])

/-- A constant spread over a whole array, and the constant. -/
abbrev all (k : BitVec 32) : Arr S := broadcastInDim S ![] b (constant (F := Ideal) Unit₀ .f32 k)
abbrev one (k : BitVec 32) : Ideal .f32 := Scalar.ofBits (F := Ideal) .f32 k

/-- The new mean: nine tenths of the old and a tenth of the gradient. -/
theorem mean_eq {g m g' m' : Arr S} (hg : g' = g) (hm : m' = m) :
    addf (mulf (all b 0x3F666666#32) m') (mulf (all b 0x3DCCCCCD#32) g')
      = fun i => FloatOps.addf (FloatOps.mulf (one 0x3F666666#32) (m i)) (FloatOps.mulf (one 0x3DCCCCCD#32) (g i)) := by
  subst hg hm; rfl

/-- The new mean square. -/
theorem square_eq {g v g' v' : Arr S} (hg : g' = g) (hv : v' = v) :
    addf (mulf (all b 0x3F7FBE77#32) v') (mulf (all b 0x3A83126F#32) (mulf g' g'))
      = fun i => FloatOps.addf (FloatOps.mulf (one 0x3F7FBE77#32) (v i)) (FloatOps.mulf (one 0x3A83126F#32) (FloatOps.mulf (g i) (g i))) := by
  subst hg hv; rfl

/-- The change of the weight: the corrected mean over the root of the corrected square, and the decay. -/
theorem delta_eq {w g m v w' g' m' v' : Arr S} (hw : w' = w) (hg : g' = g) (hm : m' = m) (hv : v' = v) :
    mulf (all b 0xBA83126F#32) (addf (Host.divf (Host.divf (addf (mulf (all b 0x3F666666#32) m') (mulf (all b 0x3DCCCCCD#32) g')) (all b 0x3F26BD02#32))
        (addf (Host.sqrt (Host.divf (addf (mulf (all b 0x3F7FBE77#32) v') (mulf (all b 0x3A83126F#32) (mulf g' g'))) (all b 0x3C231ACC#32))) (all b 0x322BCC77#32)))
        (mulf (all b 0x3C23D70A#32) w'))
      = fun i => FloatOps.mulf (one 0xBA83126F#32) (FloatOps.addf
          (FloatOps.divf (FloatOps.divf (FloatOps.addf (FloatOps.mulf (one 0x3F666666#32) (m i)) (FloatOps.mulf (one 0x3DCCCCCD#32) (g i))) (one 0x3F26BD02#32))
            (FloatOps.addf (FloatOps.sqrt (FloatOps.divf (FloatOps.addf (FloatOps.mulf (one 0x3F7FBE77#32) (v i))
              (FloatOps.mulf (one 0x3A83126F#32) (FloatOps.mulf (g i) (g i)))) (one 0x3C231ACC#32))) (one 0x322BCC77#32)))
          (FloatOps.mulf (one 0x3C23D70A#32) (w i))) := by
  subst hw hg hm hv; rfl

end Cert.AdamValue

end
-- ==== Proof.AdamClaims.lean ====
/-
# The updates' claims

Each shape's program has its generated run, which gives every result as a function of the entries; the reference's run
gives the whole arrays' terms. What the two say of one entry is the same by the three equations of the update.
-/
module

public import proofs.«01_k».proof.Defs
public import proofs.«01_k».proof.Proof.AdamValue
public import proofs.«01_k».proof.Proof.Gen.AdamAdaWIdeal.Value
public import proofs.«01_k».proof.Proof.Gen.AdamAdaWRefIdeal.Run
public import proofs.«01_k».proof.Proof.Gen.AdamAdaW.Frame
public import proofs.«01_k».proof.Proof.Gen.AdamAdaBIdeal.Value
public import proofs.«01_k».proof.Proof.Gen.AdamAdaBRefIdeal.Run
public import proofs.«01_k».proof.Proof.Gen.AdamAdaB.Frame
public import proofs.«01_k».proof.Proof.Gen.AdamLnIdeal.Value
public import proofs.«01_k».proof.Proof.Gen.AdamLnRefIdeal.Run
public import proofs.«01_k».proof.Proof.Gen.AdamLn.Frame
public import proofs.«01_k».proof.Proof.Gen.AdamFfnInIdeal.Value
public import proofs.«01_k».proof.Proof.Gen.AdamFfnInRefIdeal.Run
public import proofs.«01_k».proof.Proof.Gen.AdamFfnIn.Frame
public import proofs.«01_k».proof.Proof.Gen.AdamFfnOutIdeal.Value
public import proofs.«01_k».proof.Proof.Gen.AdamFfnOutRefIdeal.Run
public import proofs.«01_k».proof.Proof.Gen.AdamFfnOut.Frame
public import proofs.«01_k».proof.Proof.Gen.AdamWInIdeal.Value
public import proofs.«01_k».proof.Proof.Gen.AdamWInRefIdeal.Run
public import proofs.«01_k».proof.Proof.Gen.AdamWIn.Frame
public import proofs.«01_k».proof.Proof.Gen.AdamConvIdeal.Value
public import proofs.«01_k».proof.Proof.Gen.AdamConvRefIdeal.Run
public import proofs.«01_k».proof.Proof.Gen.AdamConv.Frame
public import proofs.«01_k».proof.Proof.Gen.AdamHeadsIdeal.Value
public import proofs.«01_k».proof.Proof.Gen.AdamHeadsRefIdeal.Run
public import proofs.«01_k».proof.Proof.Gen.AdamHeads.Frame
public import proofs.«01_k».proof.Proof.Gen.AdamDnIdeal.Value
public import proofs.«01_k».proof.Proof.Gen.AdamDnRefIdeal.Run
public import proofs.«01_k».proof.Proof.Gen.AdamDn.Frame
public import proofs.«01_k».proof.Proof.Gen.AdamMixIdeal.Value
public import proofs.«01_k».proof.Proof.Gen.AdamMixRefIdeal.Run
public import proofs.«01_k».proof.Proof.Gen.AdamMix.Frame
public import proofs.«01_k».proof.Proof.Gen.AdamWbIdeal.Value
public import proofs.«01_k».proof.Proof.Gen.AdamWbRefIdeal.Run
public import proofs.«01_k».proof.Proof.Gen.AdamWb.Frame
public import proofs.«01_k».proof.Proof.Gen.AdamNormIdeal.Value
public import proofs.«01_k».proof.Proof.Gen.AdamNormRefIdeal.Run
public import proofs.«01_k».proof.Proof.Gen.AdamNorm.Frame
public import Idealize.ShloMosaic.Lib.Quiescent

@[expose] public section

noncomputable section

namespace Cert.AdamClaims

open Idealize.ShloMosaic Idealize.ShloMosaic.TcCoe Idealize.SL.Sem Cert.AdamValue

namespace AdamAdaW

theorem frame_ideal : Cert.quiescent_AdamAdaWIdeal (hAdamAdaWIdeal := Cert.AdamAdaWIdeal.Gen.facts) := fun m ρ _ => Cert.AdamAdaWIdeal.Gen.frame (F := Ideal) m ρ

theorem frame : Cert.quiescent_AdamAdaW (hAdamAdaW := Cert.AdamAdaW.Gen.facts) := fun m ρ _ => Cert.AdamAdaW.Gen.frame (F := Bits) m ρ

theorem frame_ref_ideal : Cert.quiescent_AdamAdaWRefIdeal (hAdamAdaWRefIdeal := Cert.AdamAdaWRefIdeal.Gen.facts) := fun m ρ _ =>
  (θ_run _ _ _).mono (fun r h => ⟨fun c => (h c).2.2.2, sem_eq_zero_of_no_sems rfl r.2⟩) (Cert.AdamAdaWRefIdeal.Value.run (F := Ideal) m ρ)

theorem value : Cert.algebraic_AdamAdaWIdeal_AdamAdaWRefIdeal (hAdamAdaWIdeal := Cert.AdamAdaWIdeal.Gen.facts) (hAdamAdaWRefIdeal := Cert.AdamAdaWRefIdeal.Gen.facts) :=
  fun m ρ m' ρ' _ hm => ⟨_, _, _, Cert.AdamAdaWIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamAdaWRefIdeal.Value.run (F := Ideal) m' ρ')⟩

end AdamAdaW

namespace AdamAdaB

theorem frame_ideal : Cert.quiescent_AdamAdaBIdeal (hAdamAdaBIdeal := Cert.AdamAdaBIdeal.Gen.facts) := fun m ρ _ => Cert.AdamAdaBIdeal.Gen.frame (F := Ideal) m ρ

theorem frame : Cert.quiescent_AdamAdaB (hAdamAdaB := Cert.AdamAdaB.Gen.facts) := fun m ρ _ => Cert.AdamAdaB.Gen.frame (F := Bits) m ρ

theorem frame_ref_ideal : Cert.quiescent_AdamAdaBRefIdeal (hAdamAdaBRefIdeal := Cert.AdamAdaBRefIdeal.Gen.facts) := fun m ρ _ =>
  (θ_run _ _ _).mono (fun r h => ⟨fun c => (h c).2.2.2, sem_eq_zero_of_no_sems rfl r.2⟩) (Cert.AdamAdaBRefIdeal.Value.run (F := Ideal) m ρ)

theorem value : Cert.algebraic_AdamAdaBIdeal_AdamAdaBRefIdeal (hAdamAdaBIdeal := Cert.AdamAdaBIdeal.Gen.facts) (hAdamAdaBRefIdeal := Cert.AdamAdaBRefIdeal.Gen.facts) :=
  fun m ρ m' ρ' _ hm => ⟨_, _, _, Cert.AdamAdaBIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamAdaBRefIdeal.Value.run (F := Ideal) m' ρ')⟩

end AdamAdaB

namespace AdamLn

theorem frame_ideal : Cert.quiescent_AdamLnIdeal (hAdamLnIdeal := Cert.AdamLnIdeal.Gen.facts) := fun m ρ _ => Cert.AdamLnIdeal.Gen.frame (F := Ideal) m ρ

theorem frame : Cert.quiescent_AdamLn (hAdamLn := Cert.AdamLn.Gen.facts) := fun m ρ _ => Cert.AdamLn.Gen.frame (F := Bits) m ρ

theorem frame_ref_ideal : Cert.quiescent_AdamLnRefIdeal (hAdamLnRefIdeal := Cert.AdamLnRefIdeal.Gen.facts) := fun m ρ _ =>
  (θ_run _ _ _).mono (fun r h => ⟨fun c => (h c).2.2.2, sem_eq_zero_of_no_sems rfl r.2⟩) (Cert.AdamLnRefIdeal.Value.run (F := Ideal) m ρ)

theorem value : Cert.algebraic_AdamLnIdeal_AdamLnRefIdeal (hAdamLnIdeal := Cert.AdamLnIdeal.Gen.facts) (hAdamLnRefIdeal := Cert.AdamLnRefIdeal.Gen.facts) :=
  fun m ρ m' ρ' _ hm => ⟨_, _, _, Cert.AdamLnIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamLnRefIdeal.Value.run (F := Ideal) m' ρ')⟩

end AdamLn

namespace AdamFfnIn

theorem frame_ideal : Cert.quiescent_AdamFfnInIdeal (hAdamFfnInIdeal := Cert.AdamFfnInIdeal.Gen.facts) := fun m ρ _ => Cert.AdamFfnInIdeal.Gen.frame (F := Ideal) m ρ

theorem frame : Cert.quiescent_AdamFfnIn (hAdamFfnIn := Cert.AdamFfnIn.Gen.facts) := fun m ρ _ => Cert.AdamFfnIn.Gen.frame (F := Bits) m ρ

theorem frame_ref_ideal : Cert.quiescent_AdamFfnInRefIdeal (hAdamFfnInRefIdeal := Cert.AdamFfnInRefIdeal.Gen.facts) := fun m ρ _ =>
  (θ_run _ _ _).mono (fun r h => ⟨fun c => (h c).2.2.2, sem_eq_zero_of_no_sems rfl r.2⟩) (Cert.AdamFfnInRefIdeal.Value.run (F := Ideal) m ρ)

theorem value : Cert.algebraic_AdamFfnInIdeal_AdamFfnInRefIdeal (hAdamFfnInIdeal := Cert.AdamFfnInIdeal.Gen.facts) (hAdamFfnInRefIdeal := Cert.AdamFfnInRefIdeal.Gen.facts) :=
  fun m ρ m' ρ' _ hm => ⟨_, _, _, Cert.AdamFfnInIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamFfnInRefIdeal.Value.run (F := Ideal) m' ρ')⟩

end AdamFfnIn

namespace AdamFfnOut

theorem frame_ideal : Cert.quiescent_AdamFfnOutIdeal (hAdamFfnOutIdeal := Cert.AdamFfnOutIdeal.Gen.facts) := fun m ρ _ => Cert.AdamFfnOutIdeal.Gen.frame (F := Ideal) m ρ

theorem frame : Cert.quiescent_AdamFfnOut (hAdamFfnOut := Cert.AdamFfnOut.Gen.facts) := fun m ρ _ => Cert.AdamFfnOut.Gen.frame (F := Bits) m ρ

theorem frame_ref_ideal : Cert.quiescent_AdamFfnOutRefIdeal (hAdamFfnOutRefIdeal := Cert.AdamFfnOutRefIdeal.Gen.facts) := fun m ρ _ =>
  (θ_run _ _ _).mono (fun r h => ⟨fun c => (h c).2.2.2, sem_eq_zero_of_no_sems rfl r.2⟩) (Cert.AdamFfnOutRefIdeal.Value.run (F := Ideal) m ρ)

theorem value : Cert.algebraic_AdamFfnOutIdeal_AdamFfnOutRefIdeal (hAdamFfnOutIdeal := Cert.AdamFfnOutIdeal.Gen.facts) (hAdamFfnOutRefIdeal := Cert.AdamFfnOutRefIdeal.Gen.facts) :=
  fun m ρ m' ρ' _ hm => ⟨_, _, _, Cert.AdamFfnOutIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamFfnOutRefIdeal.Value.run (F := Ideal) m' ρ')⟩

end AdamFfnOut

namespace AdamWIn

theorem frame_ideal : Cert.quiescent_AdamWInIdeal (hAdamWInIdeal := Cert.AdamWInIdeal.Gen.facts) := fun m ρ _ => Cert.AdamWInIdeal.Gen.frame (F := Ideal) m ρ

theorem frame : Cert.quiescent_AdamWIn (hAdamWIn := Cert.AdamWIn.Gen.facts) := fun m ρ _ => Cert.AdamWIn.Gen.frame (F := Bits) m ρ

theorem frame_ref_ideal : Cert.quiescent_AdamWInRefIdeal (hAdamWInRefIdeal := Cert.AdamWInRefIdeal.Gen.facts) := fun m ρ _ =>
  (θ_run _ _ _).mono (fun r h => ⟨fun c => (h c).2.2.2, sem_eq_zero_of_no_sems rfl r.2⟩) (Cert.AdamWInRefIdeal.Value.run (F := Ideal) m ρ)

theorem value : Cert.algebraic_AdamWInIdeal_AdamWInRefIdeal (hAdamWInIdeal := Cert.AdamWInIdeal.Gen.facts) (hAdamWInRefIdeal := Cert.AdamWInRefIdeal.Gen.facts) :=
  fun m ρ m' ρ' _ hm => ⟨_, _, _, Cert.AdamWInIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamWInRefIdeal.Value.run (F := Ideal) m' ρ')⟩

end AdamWIn

namespace AdamConv

theorem frame_ideal : Cert.quiescent_AdamConvIdeal (hAdamConvIdeal := Cert.AdamConvIdeal.Gen.facts) := fun m ρ _ => Cert.AdamConvIdeal.Gen.frame (F := Ideal) m ρ

theorem frame : Cert.quiescent_AdamConv (hAdamConv := Cert.AdamConv.Gen.facts) := fun m ρ _ => Cert.AdamConv.Gen.frame (F := Bits) m ρ

theorem frame_ref_ideal : Cert.quiescent_AdamConvRefIdeal (hAdamConvRefIdeal := Cert.AdamConvRefIdeal.Gen.facts) := fun m ρ _ =>
  (θ_run _ _ _).mono (fun r h => ⟨fun c => (h c).2.2.2, sem_eq_zero_of_no_sems rfl r.2⟩) (Cert.AdamConvRefIdeal.Value.run (F := Ideal) m ρ)

theorem value : Cert.algebraic_AdamConvIdeal_AdamConvRefIdeal (hAdamConvIdeal := Cert.AdamConvIdeal.Gen.facts) (hAdamConvRefIdeal := Cert.AdamConvRefIdeal.Gen.facts) :=
  fun m ρ m' ρ' _ hm => ⟨_, _, _, Cert.AdamConvIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamConvRefIdeal.Value.run (F := Ideal) m' ρ')⟩

end AdamConv

namespace AdamHeads

theorem frame_ideal : Cert.quiescent_AdamHeadsIdeal (hAdamHeadsIdeal := Cert.AdamHeadsIdeal.Gen.facts) := fun m ρ _ => Cert.AdamHeadsIdeal.Gen.frame (F := Ideal) m ρ

theorem frame : Cert.quiescent_AdamHeads (hAdamHeads := Cert.AdamHeads.Gen.facts) := fun m ρ _ => Cert.AdamHeads.Gen.frame (F := Bits) m ρ

theorem frame_ref_ideal : Cert.quiescent_AdamHeadsRefIdeal (hAdamHeadsRefIdeal := Cert.AdamHeadsRefIdeal.Gen.facts) := fun m ρ _ =>
  (θ_run _ _ _).mono (fun r h => ⟨fun c => (h c).2.2.2, sem_eq_zero_of_no_sems rfl r.2⟩) (Cert.AdamHeadsRefIdeal.Value.run (F := Ideal) m ρ)

theorem value : Cert.algebraic_AdamHeadsIdeal_AdamHeadsRefIdeal (hAdamHeadsIdeal := Cert.AdamHeadsIdeal.Gen.facts) (hAdamHeadsRefIdeal := Cert.AdamHeadsRefIdeal.Gen.facts) :=
  fun m ρ m' ρ' _ hm => ⟨_, _, _, Cert.AdamHeadsIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamHeadsRefIdeal.Value.run (F := Ideal) m' ρ')⟩

end AdamHeads

namespace AdamDn

theorem frame_ideal : Cert.quiescent_AdamDnIdeal (hAdamDnIdeal := Cert.AdamDnIdeal.Gen.facts) := fun m ρ _ => Cert.AdamDnIdeal.Gen.frame (F := Ideal) m ρ

theorem frame : Cert.quiescent_AdamDn (hAdamDn := Cert.AdamDn.Gen.facts) := fun m ρ _ => Cert.AdamDn.Gen.frame (F := Bits) m ρ

theorem frame_ref_ideal : Cert.quiescent_AdamDnRefIdeal (hAdamDnRefIdeal := Cert.AdamDnRefIdeal.Gen.facts) := fun m ρ _ =>
  (θ_run _ _ _).mono (fun r h => ⟨fun c => (h c).2.2.2, sem_eq_zero_of_no_sems rfl r.2⟩) (Cert.AdamDnRefIdeal.Value.run (F := Ideal) m ρ)

theorem value : Cert.algebraic_AdamDnIdeal_AdamDnRefIdeal (hAdamDnIdeal := Cert.AdamDnIdeal.Gen.facts) (hAdamDnRefIdeal := Cert.AdamDnRefIdeal.Gen.facts) :=
  fun m ρ m' ρ' _ hm => ⟨_, _, _, Cert.AdamDnIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamDnRefIdeal.Value.run (F := Ideal) m' ρ')⟩

end AdamDn

namespace AdamMix

theorem frame_ideal : Cert.quiescent_AdamMixIdeal (hAdamMixIdeal := Cert.AdamMixIdeal.Gen.facts) := fun m ρ _ => Cert.AdamMixIdeal.Gen.frame (F := Ideal) m ρ

theorem frame : Cert.quiescent_AdamMix (hAdamMix := Cert.AdamMix.Gen.facts) := fun m ρ _ => Cert.AdamMix.Gen.frame (F := Bits) m ρ

theorem frame_ref_ideal : Cert.quiescent_AdamMixRefIdeal (hAdamMixRefIdeal := Cert.AdamMixRefIdeal.Gen.facts) := fun m ρ _ =>
  (θ_run _ _ _).mono (fun r h => ⟨fun c => (h c).2.2.2, sem_eq_zero_of_no_sems rfl r.2⟩) (Cert.AdamMixRefIdeal.Value.run (F := Ideal) m ρ)

theorem value : Cert.algebraic_AdamMixIdeal_AdamMixRefIdeal (hAdamMixIdeal := Cert.AdamMixIdeal.Gen.facts) (hAdamMixRefIdeal := Cert.AdamMixRefIdeal.Gen.facts) :=
  fun m ρ m' ρ' _ hm => ⟨_, _, _, Cert.AdamMixIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamMixRefIdeal.Value.run (F := Ideal) m' ρ')⟩

end AdamMix

namespace AdamWb

theorem frame_ideal : Cert.quiescent_AdamWbIdeal (hAdamWbIdeal := Cert.AdamWbIdeal.Gen.facts) := fun m ρ _ => Cert.AdamWbIdeal.Gen.frame (F := Ideal) m ρ

theorem frame : Cert.quiescent_AdamWb (hAdamWb := Cert.AdamWb.Gen.facts) := fun m ρ _ => Cert.AdamWb.Gen.frame (F := Bits) m ρ

theorem frame_ref_ideal : Cert.quiescent_AdamWbRefIdeal (hAdamWbRefIdeal := Cert.AdamWbRefIdeal.Gen.facts) := fun m ρ _ =>
  (θ_run _ _ _).mono (fun r h => ⟨fun c => (h c).2.2.2, sem_eq_zero_of_no_sems rfl r.2⟩) (Cert.AdamWbRefIdeal.Value.run (F := Ideal) m ρ)

theorem value : Cert.algebraic_AdamWbIdeal_AdamWbRefIdeal (hAdamWbIdeal := Cert.AdamWbIdeal.Gen.facts) (hAdamWbRefIdeal := Cert.AdamWbRefIdeal.Gen.facts) :=
  fun m ρ m' ρ' _ hm => ⟨_, _, _, Cert.AdamWbIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamWbRefIdeal.Value.run (F := Ideal) m' ρ')⟩

end AdamWb

namespace AdamNorm

theorem frame_ideal : Cert.quiescent_AdamNormIdeal (hAdamNormIdeal := Cert.AdamNormIdeal.Gen.facts) := fun m ρ _ => Cert.AdamNormIdeal.Gen.frame (F := Ideal) m ρ

theorem frame : Cert.quiescent_AdamNorm (hAdamNorm := Cert.AdamNorm.Gen.facts) := fun m ρ _ => Cert.AdamNorm.Gen.frame (F := Bits) m ρ

theorem frame_ref_ideal : Cert.quiescent_AdamNormRefIdeal (hAdamNormRefIdeal := Cert.AdamNormRefIdeal.Gen.facts) := fun m ρ _ =>
  (θ_run _ _ _).mono (fun r h => ⟨fun c => (h c).2.2.2, sem_eq_zero_of_no_sems rfl r.2⟩) (Cert.AdamNormRefIdeal.Value.run (F := Ideal) m ρ)

theorem value : Cert.algebraic_AdamNormIdeal_AdamNormRefIdeal (hAdamNormIdeal := Cert.AdamNormIdeal.Gen.facts) (hAdamNormRefIdeal := Cert.AdamNormRefIdeal.Gen.facts) :=
  fun m ρ m' ρ' _ hm => ⟨_, _, _, Cert.AdamNormIdeal.Value.run (F := Ideal) m ρ, (θ_run _ _ _).mono
    (fun r h c => let ⟨hw, hg, hm, hv⟩ := hm c; let ⟨d, a, s, k⟩ := h c
      ⟨d.trans (delta_eq _ hw hg hm hv), a.trans (mean_eq _ hg hm), s.trans (square_eq _ hg hv), k⟩)
    (Cert.AdamNormRefIdeal.Value.run (F := Ideal) m' ρ')⟩

end AdamNorm

end Cert.AdamClaims

end
-- ==== Proof.SumValue.lean ====
/-
# The sums, entry by entry

The sums of slabs take four or eight slabs one after the other; the reference's sum over the leading axis is the same
sum. The gradients of the modulation's weights are a product over the batch, the batch filled up with rows of zeros
before it; the gradients of its offset are a sum over the batch.
-/
module

public import proofs.«01_k».proof.Defs
public import proofs.«01_k».proof.Proof.Gen.PairSumIdeal.Value
public import proofs.«01_k».proof.Proof.Gen.ChipSumIdeal.Value
public import proofs.«01_k».proof.Proof.Gen.SmallSumIdeal.Value
public import proofs.«01_k».proof.Proof.Gen.AdaBGradIdeal.Value
public import proofs.«01_k».proof.Proof.Gen.AdaWGradIdeal.Value
public import Idealize.ShloMosaic.Lib.Pipeline.ValueKit
public import Idealize.ShloMosaic.Lib.Pointwise
public import Idealize.ShloMosaic.Lib.KernelVsHost
public import Idealize.ShloMosaic.PureOps.Ideal

@[expose] public section

noncomputable section

open Idealize.ShloMosaic Idealize.ShloMosaic.TcCoe Idealize.SL.Sem
open Idealize.ShloMosaic.Pipeline (Dat)

namespace Cert.SumValue

/-- The sum over the leading of three axes. -/
def slabs {n r w : ℕ} (x : FVec Ideal ⟨3, ![n, r, w]⟩ .f32) : FVec Ideal ⟨2, ![r, w]⟩ .f32 :=
  fun j => ∑ k : Fin n, (x (ix3 k (j 0) (j 1)) : EReal)

/-- The sum over the leading of two axes. -/
def rows {n w : ℕ} (x : FVec Ideal ⟨2, ![n, w]⟩ .f32) : FVec Ideal ⟨1, ![w]⟩ .f32 :=
  fun j => ∑ k : Fin n, (x (ix2 k (j 0)) : EReal)

/-- The product of two arrays over their leading axes. -/
def outer {n r w : ℕ} (x : FVec Ideal ⟨2, ![n, r]⟩ .f32) (y : FVec Ideal ⟨2, ![n, w]⟩ .f32) : FVec Ideal ⟨2, ![r, w]⟩ .f32 :=
  fun j => ∑ k : Fin n, (x (ix2 k (j 0)) : EReal) * (y (ix2 k (j 1)) : EReal)

/-- The reference's sum over the leading axis of three starts at zero. -/
theorem host_slabs {n r w : ℕ} {u : Shape} (x : FVec Ideal ⟨3, ![n, r, w]⟩ .f32)
    (h : (⟨3, ![n, r, w]⟩ : Shape).ReducesTo [0] ⟨2, ![r, w]⟩) (hu : 0 < u.numel) :
    Host.reduceAdd x (constant (F := Ideal) u .f32 0x00000000#32) h hu = slabs x := by
  funext j
  refine (Ideal.hostReduceAdd_r3_a0 h x _ j).trans ?_
  have z : (constant (F := Ideal) u .f32 0x00000000#32 (Shape.Idx.first hu) : EReal) = 0 := Ideal.ofBits_zero_f32
  rw [z, zero_add]
  rfl

/-- The reference's sum over the leading axis of two starts at zero. -/
theorem host_rows {n w : ℕ} {u : Shape} (x : FVec Ideal ⟨2, ![n, w]⟩ .f32)
    (h : (⟨2, ![n, w]⟩ : Shape).ReducesTo [0] ⟨1, ![w]⟩) (hu : 0 < u.numel) :
    Host.reduceAdd x (constant (F := Ideal) u .f32 0x00000000#32) h hu = rows x := by
  funext j
  refine (Ideal.hostReduceAdd_r2_a0 h x _ j).trans ?_
  have z : (constant (F := Ideal) u .f32 0x00000000#32 (Shape.Idx.first hu) : EReal) = 0 := Ideal.ofBits_zero_f32
  rw [z, zero_add]
  rfl

end Cert.SumValue

namespace Cert.SmallSumIdeal.RefValue

open Cert.SmallSumIdeal Cert.SmallSumIdeal.Gen Cert.SmallSumIdeal.Value

/-- Eight slabs added one after the other are the sum over the eight. -/
theorem sum_eq (x : FVec Ideal S8x256x128 .f32) : G1 (F := Ideal) x = Cert.SumValue.slabs x := by
  funext y
  refine (piece1_0 (F := Ideal) _ _ _ _ _ _ _ _ y).trans ?_
  refine Eq.trans ?_ (Fin.sum_univ_eight (fun k : Fin 8 => (x (ix3 k (y 0) (y 1)) : EReal))).symm
  have e (k : Fin 8) (j : S8x256x128.Idx) (h0 : (j 0).val = k.val) (h1 : (j 1).val = (y 0).val) (h2 : (j 2).val = (y 1).val) :
      (x j : EReal) = x (ix3 k (y 0) (y 1)) := congrArg x (funext fun a => Fin.ext (match a with | 0 => h0 | 1 => h1 | 2 => h2))
  refine congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q)
      (congrArg₂ (fun p q : EReal => p + q) ?_ ?_) ?_) ?_) ?_) ?_) ?_) ?_
  all_goals exact e _ _ rfl (by show 0 + 1 * (0 + 1 * _) = _; omega) (by show 0 + 1 * (0 + 1 * _) = _; omega)

end Cert.SmallSumIdeal.RefValue

namespace Cert.ChipSumIdeal.RefValue

open Cert.ChipSumIdeal Cert.ChipSumIdeal.Gen Cert.ChipSumIdeal.Value

variable (m : (ℓ : Loc nD τ sig) → Buf (Elt Ideal) ℓ)

/-- Where the blocks of a point lie. -/
theorem idx : ∀ t : Fin cfg0.N, win0_0.index t = ![0, t.val, 0] ∧ win0_1.index t = ![t.val, 0] :=
  (by decide +kernel : ∀ t : Fin grid0.N, _)

/-- Four slabs added one after the other are the sum over the four. -/
theorem final (c : Dev nD) : (dats m 0 c).arrAt 1 cfg0.N
    = Cert.SumValue.slabs (extf (F := Ideal) .f32 (m ((c : Thread nD τ).loc main_arg0)) bitsLt_bf16_f32) := by
  refine (dats m 0 c).arrAt_eq_of_covers 1 _ (by decide +kernel) fun t hf y => ?_
  blk_simp
  rw [after0_1]
  unfold out0_1
  refine (canon1_eq (F := Ideal) _ _ _ _ y).trans ?_
  refine Eq.trans ?_ (Fin.sum_univ_four _).symm
  refine congrArg₂ (fun p q : EReal => p + q) (congrArg₂ (fun p q : EReal => p + q)
    (congrArg₂ (fun p q : EReal => p + q) ?_ ?_) ?_) ?_
  · show (View.ld (iblk m c 0 t) r0_0 (ix1_0 y) : EReal) = (m ((c : Thread nD τ).loc main_arg0) _ : EReal)
    blk_ext! [iblk, V, idx t]
  · show (View.ld (iblk m c 0 t) r0_1 (ix1_1 y) : EReal) = (m ((c : Thread nD τ).loc main_arg0) _ : EReal)
    blk_ext! [iblk, V, idx t]
  · show (View.ld (iblk m c 0 t) r0_2 (ix1_2 y) : EReal) = (m ((c : Thread nD τ).loc main_arg0) _ : EReal)
    blk_ext! [iblk, V, idx t]
  · show (View.ld (iblk m c 0 t) r0_3 (ix1_3 y) : EReal) = (m ((c : Thread nD τ).loc main_arg0) _ : EReal)
    blk_ext! [iblk, V, idx t]

end Cert.ChipSumIdeal.RefValue

namespace Cert.AdaBGradIdeal.RefValue

open Cert.AdaBGradIdeal Cert.AdaBGradIdeal.Gen Cert.AdaBGradIdeal.Value

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

theorem iblk0 (c : Dev nD) : iblk m c 0 t0_0 = m ((c : Thread nD τ).loc main_arg0) := by
  blk_ext! [iblk, V, idx t0_0]

theorem final (c : Dev nD) : (dats m 0 c).arrAt 1 cfg0.N
    = fun j => Cert.SumValue.rows (m ((c : Thread nD τ).loc main_arg0)) (ix1 (j 1)) := by
  refine (dats m 0 c).arrAt_eq_of_after_last 1 t0_0 (by decide +kernel) _ fun j => ?_
  blk_simp
  rw [after0_1]
  unfold outsAt0
  frame_out
  rw [iblk0]
  unfold k0_pay2 k0_pay1
  simp only [pointwise]
  exact zero_add (M := EReal) _

end Cert.AdaBGradIdeal.RefValue

namespace Cert.AdaWGradIdeal.RefValue

open Cert.AdaWGradIdeal Cert.AdaWGradIdeal.Gen Cert.AdaWGradIdeal.Value

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- An array with eight rows of zeros below its own eight. -/
def filled {w : ℕ} (x : FVec Ideal ⟨2, ![8, w]⟩ .f32) : FVec Ideal ⟨2, ![16, w]⟩ .bf16 :=
  fun j => if h : (j 0).val < 8 then (x (ix2 ⟨(j 0).val, h⟩ (j 1)) : EReal) else (0 : EReal)

/-- Filling up with zeros, and rounding to the narrow format, which is nothing here. -/
theorem filled_eq {w : ℕ} (x : FVec Ideal ⟨2, ![8, w]⟩ .f32) (hp : (⟨2, ![8, w]⟩ : Shape).Pads ![0, 0] ![8, 0] ![0, 0] ⟨2, ![16, w]⟩)
    {u : Shape} (hu : 0 < u.numel) (z : FVec Ideal u .f32) (hz : (z (Shape.Idx.first hu) : EReal) = 0) :
    truncf .bf16 (pad ⟨2, ![16, w]⟩ ![0, 0] ![8, 0] ![0, 0] x z hp hu) bitsLt_bf16_f32 = filled x := by
  funext j
  show (pad ⟨2, ![16, w]⟩ ![0, 0] ![8, 0] ![0, 0] x z hp hu j : EReal) = _
  unfold filled
  split
  · rename_i h
    exact pad_apply_of_inside _ _ _ x z hp hu j (ix2 ⟨(j 0).val, h⟩ (j 1)) fun a => by
      match a with
      | ⟨0, _⟩ => show (j 0).val = 0 + (j 0).val * (0 + 1); omega
      | ⟨1, _⟩ => show (j 1).val = 0 + (j 1).val * (0 + 1); omega
  · rename_i h
    refine (pad_apply_of_not_inside _ _ _ x z hp hu j ⟨0, Nat.zero_lt_two⟩ fun ha => h ?_).trans hz
    have := ha.2.2
    change ((j 0).val - 0) / (0 + 1) < 8 at this
    omega

theorem V_left (c : Dev nD) : V m c main_v1 = filled (m ((c : Thread nD τ).loc main_arg0)) := by
  refine Eq.trans (b := truncf .bf16 (pad S16x1024 ![0, 0] ![8, 0] ![0, 0] (m ((c : Thread nD τ).loc main_arg0)) (sitofp .f32 (constantI S_ 32 0#32)) pads_S8x1024_S16x1024_080_000 h_S_) bitsLt_bf16_f32) ?_ (filled_eq _ _ _ _ ?_)
  · after_results; rfl
  · show (((0#32 : BitVec 32).toInt : ℝ) : EReal) = 0
    simp

theorem V_right (c : Dev nD) : V m c main_v3 = filled (m ((c : Thread nD τ).loc main_arg1)) := by
  refine Eq.trans (b := truncf .bf16 (pad S16x2304 ![0, 0] ![8, 0] ![0, 0] (m ((c : Thread nD τ).loc main_arg1)) (sitofp .f32 (constantI S_ 32 0#32)) pads_S8x2304_S16x2304_080_000 h_S_) bitsLt_bf16_f32) ?_ (filled_eq _ _ _ _ ?_)
  · after_results; rfl
  · show (((0#32 : BitVec 32).toInt : ℝ) : EReal) = 0
    simp

/-- The eight rows of zeros add nothing to the product. -/
theorem outer_filled {r w : ℕ} (x : FVec Ideal ⟨2, ![8, r]⟩ .f32) (y : FVec Ideal ⟨2, ![8, w]⟩ .f32) (a : Fin r) (b : Fin w) :
    ∑ k : Fin 16, (filled x (ix2 k a) : EReal) * (filled y (ix2 k b) : EReal) = ∑ k : Fin 8, (x (ix2 k a) : EReal) * (y (ix2 k b) : EReal) := by
  refine (Fin.sum_univ_add (a := 8) (b := 8) (M := EReal) (fun k : Fin 16 => (filled x (ix2 k a) : EReal) * (filled y (ix2 k b) : EReal))).trans ?_
  refine (congrArg₂ (fun p q : EReal => p + q) (Finset.sum_congr rfl fun k _ => ?_) (Finset.sum_eq_zero fun k _ => ?_)).trans (add_zero _)
  · exact congrArg₂ (fun p q : EReal => p * q) (dif_pos k.isLt) (dif_pos k.isLt)
  · have h : ¬(Fin.natAdd 8 k : Fin 16).val < 8 := by simp
    exact (congrArg (fun p : EReal => p * _) (dif_neg h)).trans (zero_mul _)

theorem final (c : Dev nD) : (dats m 0 c).arrAt 2 cfg0.N
    = Cert.SumValue.outer (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans ?_
  refine Eq.trans ?_ (outer_filled (m ((c : Thread nD τ).loc main_arg0)) (m ((c : Thread nD τ).loc main_arg1)) _ _)
  refine Finset.sum_congr rfl fun k _ => congrArg₂ (fun p q : EReal => p * q) ?_ ?_
  · rw [← V_left]
    blk_ext! [iblk, idx t]
  · rw [← V_right]
    blk_ext! [iblk, idx t]

end Cert.AdaWGradIdeal.RefValue

end
-- ==== Proof.SumClaims.lean ====
/-
# The claims of the sums and of the modulation's gradients

Each program has its generated run; the reference's run gives its sum or product as one term of the whole arrays. Each is
read entry by entry, and the two are the same function of the entries.
-/
module

public import proofs.«01_k».proof.Defs
public import proofs.«01_k».proof.Proof.SumValue
public import proofs.«01_k».proof.Proof.Gen.PairSumRefIdeal.Run
public import proofs.«01_k».proof.Proof.Gen.PairSum.Frame
public import proofs.«01_k».proof.Proof.Gen.ChipSumRefIdeal.Run
public import proofs.«01_k».proof.Proof.Gen.ChipSum.Frame
public import proofs.«01_k».proof.Proof.Gen.SmallSumRefIdeal.Run
public import proofs.«01_k».proof.Proof.Gen.SmallSum.Frame
public import proofs.«01_k».proof.Proof.Gen.AdaBGradRefIdeal.Run
public import proofs.«01_k».proof.Proof.Gen.AdaBGrad.Frame
public import proofs.«01_k».proof.Proof.Gen.AdaWGradRefIdeal.Run
public import proofs.«01_k».proof.Proof.Gen.AdaWGrad.Frame
public import Idealize.ShloMosaic.Lib.Quiescent

@[expose] public section

noncomputable section

namespace Cert.SumClaims

open Idealize.ShloMosaic Idealize.ShloMosaic.TcCoe Idealize.SL.Sem Cert.SumValue

namespace PairSum

theorem frame_ideal : Cert.quiescent_PairSumIdeal (hPairSumIdeal := Cert.PairSumIdeal.Gen.facts) := fun m ρ _ => Cert.PairSumIdeal.Gen.frame (F := Ideal) m ρ

theorem frame : Cert.quiescent_PairSum (hPairSum := Cert.PairSum.Gen.facts) := fun m ρ _ => Cert.PairSum.Gen.frame (F := Bits) m ρ

theorem frame_ref_ideal : Cert.quiescent_PairSumRefIdeal (hPairSumRefIdeal := Cert.PairSumRefIdeal.Gen.facts) := fun m ρ _ =>
  (θ_run _ _ _).mono (fun r h => ⟨fun c => (h c).2, sem_eq_zero_of_no_sems rfl r.2⟩) (Cert.PairSumRefIdeal.Value.run (F := Ideal) m ρ)

/-- Both add the two halves in the wide format and round. -/
theorem pair_eq {a b a' b' : FVec Ideal Cert.PairSumIdeal.S4x7056x1024 .bf16} (ha : a' = a) (hb : b' = b) :
    truncf (F := Ideal) .bf16 (addf (extf .f32 a' Cert.PairSumRefIdeal.Facts₀.bitsLt_bf16_f32) (extf .f32 b' Cert.PairSumRefIdeal.Facts₀.bitsLt_bf16_f32)) Cert.PairSumRefIdeal.Facts₀.bitsLt_bf16_f32
      = Cert.PairSumIdeal.Value.G2 (F := Ideal) a b := by
  subst ha hb; rfl

theorem value : Cert.algebraic_PairSumIdeal_PairSumRefIdeal (hPairSumIdeal := Cert.PairSumIdeal.Gen.facts) (hPairSumRefIdeal := Cert.PairSumRefIdeal.Gen.facts) :=
  fun m ρ m' ρ' _ hm => ⟨_, Cert.PairSumIdeal.Value.run (F := Ideal) m ρ, (θ_run _ _ _).mono
    (fun r h c => let ⟨ha, hb⟩ := hm c; let ⟨d, k⟩ := h c
      ⟨d.trans (pair_eq ha hb), k⟩)
    (Cert.PairSumRefIdeal.Value.run (F := Ideal) m' ρ')⟩

end PairSum

namespace ChipSum

theorem frame_ideal : Cert.quiescent_ChipSumIdeal (hChipSumIdeal := Cert.ChipSumIdeal.Gen.facts) := fun m ρ _ => Cert.ChipSumIdeal.Gen.frame (F := Ideal) m ρ

theorem frame : Cert.quiescent_ChipSum (hChipSum := Cert.ChipSum.Gen.facts) := fun m ρ _ => Cert.ChipSum.Gen.frame (F := Bits) m ρ

theorem frame_ref_ideal : Cert.quiescent_ChipSumRefIdeal (hChipSumRefIdeal := Cert.ChipSumRefIdeal.Gen.facts) := fun m ρ _ =>
  (θ_run _ _ _).mono (fun r h => ⟨fun c => (h c).2, sem_eq_zero_of_no_sems rfl r.2⟩) (Cert.ChipSumRefIdeal.Value.run (F := Ideal) m ρ)

/-- The reference's sum of the four slabs. -/
theorem chip_eq {a a' : FVec Ideal Cert.ChipSumIdeal.S4x7056x1024 .bf16} (ha : a' = a) :
    Host.reduceAdd (extf (F := Ideal) .f32 a' Cert.ChipSumRefIdeal.Facts₀.bitsLt_bf16_f32) (constant Cert.ChipSumRefIdeal.S_ .f32 0x00000000#32)
        Cert.ChipSumRefIdeal.Facts₀.reducesTo_S4x7056x1024_S7056x1024_d0 Cert.ChipSumRefIdeal.Facts₀.h_S_
      = slabs (extf (F := Ideal) .f32 a Cert.ChipSumIdeal.Facts₀.bitsLt_bf16_f32) := by
  subst ha; exact host_slabs _ _ _

theorem value : Cert.algebraic_ChipSumIdeal_ChipSumRefIdeal (hChipSumIdeal := Cert.ChipSumIdeal.Gen.facts) (hChipSumRefIdeal := Cert.ChipSumRefIdeal.Gen.facts) :=
  fun m ρ m' ρ' _ hm => ⟨_, Cert.ChipSumIdeal.Value.run_blocks (F := Ideal) m ρ, (θ_run _ _ _).mono
    (fun r h c => let ⟨d, k⟩ := h c
      ⟨d.trans ((chip_eq (hm c)).trans (Cert.ChipSumIdeal.RefValue.final m c).symm), k⟩)
    (Cert.ChipSumRefIdeal.Value.run (F := Ideal) m' ρ')⟩

end ChipSum

namespace SmallSum

theorem frame_ideal : Cert.quiescent_SmallSumIdeal (hSmallSumIdeal := Cert.SmallSumIdeal.Gen.facts) := fun m ρ _ => Cert.SmallSumIdeal.Gen.frame (F := Ideal) m ρ

theorem frame : Cert.quiescent_SmallSum (hSmallSum := Cert.SmallSum.Gen.facts) := fun m ρ _ => Cert.SmallSum.Gen.frame (F := Bits) m ρ

theorem frame_ref_ideal : Cert.quiescent_SmallSumRefIdeal (hSmallSumRefIdeal := Cert.SmallSumRefIdeal.Gen.facts) := fun m ρ _ =>
  (θ_run _ _ _).mono (fun r h => ⟨fun c => (h c).2, sem_eq_zero_of_no_sems rfl r.2⟩) (Cert.SmallSumRefIdeal.Value.run (F := Ideal) m ρ)

/-- The reference's sum of the eight slabs. -/
theorem small_eq {a a' : FVec Ideal Cert.SmallSumIdeal.S8x256x128 .f32} (ha : a' = a) :
    Host.reduceAdd a' (constant Cert.SmallSumRefIdeal.S_ .f32 0x00000000#32)
        Cert.SmallSumRefIdeal.Facts₀.reducesTo_S8x256x128_S256x128_d0 Cert.SmallSumRefIdeal.Facts₀.h_S_
      = slabs a := by
  subst ha; exact host_slabs _ _ _

theorem value : Cert.algebraic_SmallSumIdeal_SmallSumRefIdeal (hSmallSumIdeal := Cert.SmallSumIdeal.Gen.facts) (hSmallSumRefIdeal := Cert.SmallSumRefIdeal.Gen.facts) :=
  fun m ρ m' ρ' _ hm => ⟨_, Cert.SmallSumIdeal.Value.run (F := Ideal) m ρ, (θ_run _ _ _).mono
    (fun r h c => let ⟨d, k⟩ := h c
      ⟨d.trans ((small_eq (hm c)).trans (Cert.SmallSumIdeal.RefValue.sum_eq _).symm), k⟩)
    (Cert.SmallSumRefIdeal.Value.run (F := Ideal) m' ρ')⟩

end SmallSum

namespace AdaBGrad

theorem frame_ideal : Cert.quiescent_AdaBGradIdeal (hAdaBGradIdeal := Cert.AdaBGradIdeal.Gen.facts) := fun m ρ _ => Cert.AdaBGradIdeal.Gen.frame (F := Ideal) m ρ

theorem frame : Cert.quiescent_AdaBGrad (hAdaBGrad := Cert.AdaBGrad.Gen.facts) := fun m ρ _ => Cert.AdaBGrad.Gen.frame (F := Bits) m ρ

theorem frame_ref_ideal : Cert.quiescent_AdaBGradRefIdeal (hAdaBGradRefIdeal := Cert.AdaBGradRefIdeal.Gen.facts) := fun m ρ _ =>
  (θ_run _ _ _).mono (fun r h => ⟨fun c => (h c).2, sem_eq_zero_of_no_sems rfl r.2⟩) (Cert.AdaBGradRefIdeal.Value.run (F := Ideal) m ρ)

/-- The reference's sum over the batch, as one row. -/
theorem offset_eq {a a' : FVec Ideal Cert.AdaBGradIdeal.S8x9216 .f32} (ha : a' = a) :
    broadcastInDim Cert.AdaBGradRefIdeal.S1x9216 ![1] Cert.AdaBGradRefIdeal.Facts₀.bcast_S9216_S1x9216_1
        (Host.reduceAdd a' (constant Cert.AdaBGradRefIdeal.S_ .f32 0x00000000#32)
          Cert.AdaBGradRefIdeal.Facts₀.reducesTo_S8x9216_S9216_d0 Cert.AdaBGradRefIdeal.Facts₀.h_S_)
      = fun j => rows a (ix1 (j 1)) := by
  subst ha
  rw [host_rows]
  funext j
  simp only [pointwise]
  rfl

theorem value : Cert.algebraic_AdaBGradIdeal_AdaBGradRefIdeal (hAdaBGradIdeal := Cert.AdaBGradIdeal.Gen.facts) (hAdaBGradRefIdeal := Cert.AdaBGradRefIdeal.Gen.facts) :=
  fun m ρ m' ρ' _ hm => ⟨_, Cert.AdaBGradIdeal.Value.run_blocks (F := Ideal) m ρ, (θ_run _ _ _).mono
    (fun r h c => let ⟨d, k⟩ := h c
      ⟨d.trans ((offset_eq (hm c)).trans (Cert.AdaBGradIdeal.RefValue.final m c).symm), k⟩)
    (Cert.AdaBGradRefIdeal.Value.run (F := Ideal) m' ρ')⟩

end AdaBGrad

namespace AdaWGrad

theorem frame_ideal : Cert.quiescent_AdaWGradIdeal (hAdaWGradIdeal := Cert.AdaWGradIdeal.Gen.facts) := fun m ρ _ => Cert.AdaWGradIdeal.Gen.frame (F := Ideal) m ρ

theorem frame : Cert.quiescent_AdaWGrad (hAdaWGrad := Cert.AdaWGrad.Gen.facts) := fun m ρ _ => Cert.AdaWGrad.Gen.frame (F := Bits) m ρ

theorem frame_ref_ideal : Cert.quiescent_AdaWGradRefIdeal (hAdaWGradRefIdeal := Cert.AdaWGradRefIdeal.Gen.facts) := fun m ρ _ =>
  (θ_run _ _ _).mono (fun r h => ⟨fun c => (h c).2, sem_eq_zero_of_no_sems rfl r.2⟩) (Cert.AdaWGradRefIdeal.Value.run (F := Ideal) m ρ)

/-- The reference's product over the batch. -/
theorem weight_eq {a a' : FVec Ideal Cert.AdaWGradIdeal.S8x1024 .f32} {b b' : FVec Ideal Cert.AdaWGradIdeal.S8x2304 .f32} (ha : a' = a) (hb : b' = b) :
    Host.dotGeneral Cert.AdaWGradRefIdeal.dot_S1024x8_S8x2304_S1024x2304_1_0_0_1_n_n none
        (transpose Cert.AdaWGradRefIdeal.S1024x8 [1, 0] a' Cert.AdaWGradRefIdeal.Facts₀.transposes_S8x1024_S1024x8_1_0) b'
      = outer a b := by
  subst ha hb
  funext j
  simp only [pointwise]
  exact zero_add (M := EReal) _

theorem value : Cert.algebraic_AdaWGradIdeal_AdaWGradRefIdeal (hAdaWGradIdeal := Cert.AdaWGradIdeal.Gen.facts) (hAdaWGradRefIdeal := Cert.AdaWGradRefIdeal.Gen.facts) :=
  fun m ρ m' ρ' _ hm => ⟨_, Cert.AdaWGradIdeal.Value.run_blocks (F := Ideal) m ρ, (θ_run _ _ _).mono
    (fun r h c => let ⟨ha, hb⟩ := hm c; let ⟨d, k⟩ := h c
      ⟨d.trans ((weight_eq ha hb).trans (Cert.AdaWGradIdeal.RefValue.final m c).symm), k⟩)
    (Cert.AdaWGradRefIdeal.Value.run (F := Ideal) m' ρ')⟩

end AdaWGrad

end Cert.SumClaims

end
-- ==== Proof.SmallValue.lean ====
/-
# The small gradients, packed, summed and unpacked
-/
module

public import proofs.«01_k».proof.Defs
public import proofs.«01_k».proof.Proof.SumValue
public import proofs.«01_k».proof.Proof.Gen.SmallGradsIdeal.Frame
public import Idealize.ShloMosaic.Lib.Pipeline.ValueKit
public import Idealize.ShloMosaic.Lib.Pipeline.Value
public import Idealize.ShloMosaic.Lib.Pointwise
public import Idealize.ShloMosaic.Lib.KernelVsHost
public import Idealize.ShloMosaic.Lib.DynamicIndex
public import Idealize.ShloMosaic.PureOps.Ideal

@[expose] public section

noncomputable section

open Idealize.ShloMosaic Idealize.ShloMosaic.TcCoe Idealize.SL.Sem
open Idealize.ShloMosaic.Pipeline (Dat)

namespace Cert.SmallValue

/-- The part of one layer, cut out of both layers' gradients. -/
theorem layer {n : ℕ} (x : (⟨3, ![8, 2, n]⟩ : Shape).Idx → EReal) (l : Fin 2)
    (hs : (⟨3, ![8, 2, n]⟩ : Shape).Slices ![0, l.val, 0] ⟨3, ![8, 1, n]⟩)
    (hc : (⟨3, ![8, 1, n]⟩ : Shape).ShapeCasts ⟨2, ![8, n]⟩) (d : Fin 8) (q : Fin n) :
    shapeCast ⟨2, ![8, n]⟩ (extractStridedSlice ⟨3, ![8, 1, n]⟩ ![0, l.val, 0] x hs) hc (ix2 d q) = x (ix3 d l q) := by
  refine (shapeCast_apply _ hc (ix2 d q) (ix3 d (0 : Fin 1) q) ?_).trans (extractStridedSlice_apply _ x hs _ _ fun a => ?_)
  · rw [Shape.rowMajor_val_three, Shape.rowMajor_val_two]
    show (d.val * 1 + 0) * n + q.val = d.val * n + q.val
    rw [Nat.mul_one, Nat.add_zero]
  · match a with
    | ⟨0, _⟩ => exact (Nat.zero_add _).symm
    | ⟨1, _⟩ => rfl
    | ⟨2, _⟩ => exact (Nat.zero_add _).symm

/-- Two cuts of a row, one on the other, are the sums over the devices when each cut is. -/
theorem stacked {n N o0 o1 : ℕ} (t : (⟨1, ![N]⟩ : Shape).Idx → EReal) (x : FVec Ideal ⟨3, ![8, 2, n]⟩ .f32)
    (h0 : (⟨1, ![N]⟩ : Shape).Slices ![o0] ⟨1, ![n]⟩) (h1 : (⟨1, ![N]⟩ : Shape).Slices ![o1] ⟨1, ![n]⟩)
    (hb : (⟨1, ![n]⟩ : Shape).BroadcastsInDim ⟨2, ![1, n]⟩ ![1])
    (hc : Shape.Concatenates [⟨2, ![1, n]⟩, ⟨2, ![1, n]⟩] ⟨2, ![2, n]⟩ 0)
    (e0 : ∀ (p : Fin N) (q : Fin n), p.val = o0 + q.val → t (ix1 p) = ∑ d : Fin 8, (x (ix3 d 0 q) : EReal))
    (e1 : ∀ (p : Fin N) (q : Fin n), p.val = o1 + q.val → t (ix1 p) = ∑ d : Fin 8, (x (ix3 d 1 q) : EReal)) :
    concatenate ⟨2, ![2, n]⟩ 0 [⟨⟨2, ![1, n]⟩, broadcastInDim ⟨2, ![1, n]⟩ ![1] hb (extractStridedSlice ⟨1, ![n]⟩ ![o0] t h0)⟩,
      ⟨⟨2, ![1, n]⟩, broadcastInDim ⟨2, ![1, n]⟩ ![1] hb (extractStridedSlice ⟨1, ![n]⟩ ![o1] t h1)⟩] hc = Cert.SumValue.slabs x := by
  have cut (o : ℕ) (h : (⟨1, ![N]⟩ : Shape).Slices ![o] ⟨1, ![n]⟩) (q : Fin n) (p : Fin N) (hp : p.val = o + q.val) :
      broadcastInDim ⟨2, ![1, n]⟩ ![1] hb (extractStridedSlice ⟨1, ![n]⟩ ![o] t h) (ix2 (0 : Fin 1) q) = t (ix1 p) := by
    refine (broadcastInDim_apply ![1] hb _ _ (ix1 q) fun a => ?_).trans (extractStridedSlice_apply _ t h _ _ fun a => ?_)
    · match a with
      | ⟨0, _⟩ =>
        show q.val = if n = 1 then 0 else q.val
        have := q.isLt
        split <;> omega
    · match a with
      | ⟨0, _⟩ => exact hp
  have b0 : o0 + n ≤ N := h0.2 0
  have b1 : o1 + n ≤ N := h1.2 0
  funext j
  have hq : (j 1).val < n := (j 1).isLt
  have hl : (j 0).val < 2 := (j 0).isLt
  rcases (by omega : (j 0).val = 0 ∨ (j 0).val = 1) with h | h
  · refine (concatenate_pair_apply_left 0 _ _ hc j rfl (ix2 (0 : Fin 1) (j 1)) (fun b => ?_)).trans ?_
    · match b with
      | ⟨0, _⟩ => exact h.symm
      | ⟨1, _⟩ => rfl
    · refine (cut o0 h0 (j 1) ⟨o0 + (j 1).val, by omega⟩ rfl).trans ((e0 _ (j 1) rfl).trans ?_)
      have : (j 0) = (0 : Fin 2) := Fin.ext h
      unfold Cert.SumValue.slabs
      rw [this]
  · refine (concatenate_pair_apply_right 0 _ _ hc j rfl rfl (ix2 (0 : Fin 1) (j 1)) (fun b hb => ?_) ?_).trans ?_
    · match b with
      | ⟨0, _⟩ => exact absurd rfl hb
      | ⟨1, _⟩ => rfl
    · exact h.symm
    · refine (cut o1 h1 (j 1) ⟨o1 + (j 1).val, by omega⟩ rfl).trans ((e1 _ (j 1) rfl).trans ?_)
      have : (j 0) = (1 : Fin 2) := Fin.ext h
      unfold Cert.SumValue.slabs
      rw [this]

end Cert.SmallValue

namespace Cert.SmallGradsIdeal.RefValue

open Cert.SmallGradsIdeal Cert.SmallGradsIdeal.Gen

variable (m : (ℓ : Loc nD τ sig) → Buf (Elt Ideal) ℓ)

/-- The one block of the packed parts is all of them. -/
theorem iblk0 (c : Dev nD) (t : Fin cfg0.N) : iblk m c 0 t = V m c main_v33 := by
  have e : win0_0.index t = ![0, 0, 0] := (by decide +kernel : ∀ t : Fin grid0.N, win0_0.index t = ![0, 0, 0]) t
  blk_ext! [iblk, V, e]

/-- The region leaves the sum over the devices. -/
theorem final (c : Dev nD) : (dats m 0 c).arrAt 1 cfg0.N = Cert.SumValue.slabs (V m c main_v33) := by
  refine (dats m 0 c).arrAt_eq_of_covers 1 _ (by decide +kernel) fun t hf y => ?_
  have e : win0_1.index t = ![0, 0] := (by decide +kernel : ∀ t : Fin grid0.N, win0_1.index t = ![0, 0]) t
  blk_simp
  rw [after0_1, iblk0]
  have h : Gen.out0_1 (V m c main_v33) = Cert.SumValue.slabs (V m c main_v33) :=
    (Cert.SmallSumIdeal.Value.out1_eq (F := Ideal) (V m c main_v33)).trans (Cert.SmallSumIdeal.RefValue.sum_eq (V m c main_v33))
  rw [h]
  blk_ext! [e]

/-- The sum unrolled. -/
def flat (t : FVec Ideal S256x128 .f32) : FVec Ideal S32768 .f32 := shapeCast S32768 t shapeCasts_S256x128_S32768

theorem tail_loss (W : Valuation τ sig (Elt Ideal)) :
    StableHlo.after (List.flatten [hostOps1]) W (Proc.devRef .tc main_v75)
      = shapeCast S_ (extractStridedSlice S1 ![0] (flat (W (Proc.devRef .tc main_v34))) slices_S32768_S1_0) shapeCasts_S1_S_ := rfl

theorem tail_norm (W : Valuation τ sig (Elt Ideal)) :
    StableHlo.after (List.flatten [hostOps1]) W (Proc.devRef .tc main_v76)
      = extractStridedSlice S1024 ![1] (flat (W (Proc.devRef .tc main_v34))) slices_S32768_S1024_1 := rfl

/-- Two cuts of 1024 entries of the unrolled sum, one on the other. -/
def stack1024 (t : FVec Ideal S256x128 .f32) (o0 o1 : ℕ) (h0 : S32768.Slices ![o0] S1024) (h1 : S32768.Slices ![o1] S1024) : FVec Ideal S2x1024 .f32 :=
  concatenate S2x1024 0 [⟨S1x1024, broadcastInDim S1x1024 ![1] bcast_S1024_S1x1024_1 (extractStridedSlice S1024 ![o0] (flat t) h0)⟩,
    ⟨S1x1024, broadcastInDim S1x1024 ![1] bcast_S1024_S1x1024_1 (extractStridedSlice S1024 ![o1] (flat t) h1)⟩] concatenates_S1x1024_S1x1024_S2x1024_d0

/-- Two cuts of 8 entries of the unrolled sum, one on the other. -/
def stack8 (t : FVec Ideal S256x128 .f32) (o0 o1 : ℕ) (h0 : S32768.Slices ![o0] S8) (h1 : S32768.Slices ![o1] S8) : FVec Ideal S2x8 .f32 :=
  concatenate S2x8 0 [⟨S1x8, broadcastInDim S1x8 ![1] bcast_S8_S1x8_1 (extractStridedSlice S8 ![o0] (flat t) h0)⟩,
    ⟨S1x8, broadcastInDim S1x8 ![1] bcast_S8_S1x8_1 (extractStridedSlice S8 ![o1] (flat t) h1)⟩] concatenates_S1x8_S1x8_S2x8_d0

/-- Two cuts of 128 entries of the unrolled sum, one on the other. -/
def stack128 (t : FVec Ideal S256x128 .f32) (o0 o1 : ℕ) (h0 : S32768.Slices ![o0] S128) (h1 : S32768.Slices ![o1] S128) : FVec Ideal S2x128 .f32 :=
  concatenate S2x128 0 [⟨S1x128, broadcastInDim S1x128 ![1] bcast_S128_S1x128_1 (extractStridedSlice S128 ![o0] (flat t) h0)⟩,
    ⟨S1x128, broadcastInDim S1x128 ![1] bcast_S128_S1x128_1 (extractStridedSlice S128 ![o1] (flat t) h1)⟩] concatenates_S1x128_S1x128_S2x128_d0

theorem tail_ln_ffn1 (W : Valuation τ sig (Elt Ideal)) : StableHlo.after (List.flatten [hostOps1]) W (Proc.devRef .tc main_v40)
    = stack1024 (W (Proc.devRef .tc main_v34)) 1025 16529 slices_S32768_S1024_1025 slices_S32768_S1024_16529 := rfl

theorem tail_ln_mix (W : Valuation τ sig (Elt Ideal)) : StableHlo.after (List.flatten [hostOps1]) W (Proc.devRef .tc main_v45)
    = stack1024 (W (Proc.devRef .tc main_v34)) 2049 17553 slices_S32768_S1024_2049 slices_S32768_S1024_17553 := rfl

theorem tail_ln_ffn2 (W : Valuation τ sig (Elt Ideal)) : StableHlo.after (List.flatten [hostOps1]) W (Proc.devRef .tc main_v50)
    = stack1024 (W (Proc.devRef .tc main_v34)) 3073 18577 slices_S32768_S1024_3073 slices_S32768_S1024_18577 := rfl

theorem tail_a_log (W : Valuation τ sig (Elt Ideal)) : StableHlo.after (List.flatten [hostOps1]) W (Proc.devRef .tc main_v55)
    = stack8 (W (Proc.devRef .tc main_v34)) 4097 19601 slices_S32768_S8_4097 slices_S32768_S8_19601 := rfl

theorem tail_dt_bias (W : Valuation τ sig (Elt Ideal)) : StableHlo.after (List.flatten [hostOps1]) W (Proc.devRef .tc main_v60)
    = stack8 (W (Proc.devRef .tc main_v34)) 4105 19609 slices_S32768_S8_4105 slices_S32768_S8_19609 := rfl

theorem tail_dn_norm (W : Valuation τ sig (Elt Ideal)) : StableHlo.after (List.flatten [hostOps1]) W (Proc.devRef .tc main_v65)
    = stack128 (W (Proc.devRef .tc main_v34)) 4113 19617 slices_S32768_S128_4113 slices_S32768_S128_19617 := rfl

/-- One layer's columns of the convolution, cut out of the unrolled sum. -/
def convRow (t : FVec Ideal S32768 .f32) (o : ℕ) (h : S32768.Slices ![o] S12288) : FVec Ideal S1x4x3072 .f32 :=
  broadcastInDim S1x4x3072 ![1, 2] bcast_S4x3072_S1x4x3072_1_2 (shapeCast S4x3072 (extractStridedSlice S12288 ![o] t h) shapeCasts_S12288_S4x3072)

/-- Lines run one after the other. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The last lines cut the device's columns, which start at the first. -/
theorem tail_cut (W : Valuation τ sig (Elt Ideal)) (h : S2x4x3072.Slices ![0, 0, 0] S2x4x768) :
    StableHlo.after ((hostOps1 (F := Ideal)).drop 38) W (Proc.devRef .tc main_v73)
      = extractStridedSlice S2x4x768 ![0, 0, 0] (W (Proc.devRef .tc main_v72)) h := by
  simp only [hostOps1, List.drop_succ_cons, List.drop_zero]
  after_results_simp
  refine Host.dynamicSlice_eq_extractStridedSlice (s := S2x4x3072) S2x4x768 _ _ ![0, 0, 0] _ h fun k => ?_
  match k with
  | ⟨0, _⟩ => rfl
  | ⟨1, _⟩ => rfl
  | ⟨2, _⟩ => rfl

theorem tail_stack (W : Valuation τ sig (Elt Ideal)) :
    StableHlo.after ((hostOps1 (F := Ideal)).take 38) W (Proc.devRef .tc main_v72)
      = concatenate S2x4x3072 0 [⟨S1x4x3072, convRow (flat (W (Proc.devRef .tc main_v34))) 4241 slices_S32768_S12288_4241⟩,
          ⟨S1x4x3072, convRow (flat (W (Proc.devRef .tc main_v34))) 19745 slices_S32768_S12288_19745⟩] concatenates_S1x4x3072_S1x4x3072_S2x4x3072_d0 := rfl

theorem tail_conv (W : Valuation τ sig (Elt Ideal)) (h : S2x4x3072.Slices ![0, 0, 0] S2x4x768) :
    StableHlo.after (List.flatten [hostOps1]) W (Proc.devRef .tc main_v73)
      = extractStridedSlice S2x4x768 ![0, 0, 0] (concatenate S2x4x3072 0 [⟨S1x4x3072, convRow (flat (W (Proc.devRef .tc main_v34))) 4241 slices_S32768_S12288_4241⟩,
          ⟨S1x4x3072, convRow (flat (W (Proc.devRef .tc main_v34))) 19745 slices_S32768_S12288_19745⟩] concatenates_S1x4x3072_S1x4x3072_S2x4x3072_d0) h := by
  have e : List.flatten [hostOps1 (F := Ideal)] = hostOps1.take 38 ++ hostOps1.drop 38 :=
    (List.append_nil _).trans (List.take_append_drop 38 _).symm
  rw [e, after_append, tail_cut _ h, tail_stack]

/-- What one device packs, for the eight of them: the loss, the gradient of the last norm, and the seven gradients of each layer. -/
def pieces (c : Dev nD) : List ((s : Shape) × (s.Idx → EReal)) :=
  [⟨S8x1, shapeCast S8x1 (m ((c : Thread nD τ).loc main_arg0)) shapeCasts_S8_S8x1⟩,
    ⟨S8x1024, m ((c : Thread nD τ).loc main_arg1)⟩,
    ⟨S8x1024, shapeCast S8x1024 (extractStridedSlice S8x1x1024 ![0, 0, 0] (m ((c : Thread nD τ).loc main_arg2)) slices_S8x2x1024_S8x1x1024_0_0_0) shapeCasts_S8x1x1024_S8x1024⟩,
    ⟨S8x1024, shapeCast S8x1024 (extractStridedSlice S8x1x1024 ![0, 0, 0] (m ((c : Thread nD τ).loc main_arg3)) slices_S8x2x1024_S8x1x1024_0_0_0) shapeCasts_S8x1x1024_S8x1024⟩,
    ⟨S8x1024, shapeCast S8x1024 (extractStridedSlice S8x1x1024 ![0, 0, 0] (m ((c : Thread nD τ).loc main_arg4)) slices_S8x2x1024_S8x1x1024_0_0_0) shapeCasts_S8x1x1024_S8x1024⟩,
    ⟨S8x8, shapeCast S8x8 (extractStridedSlice S8x1x8 ![0, 0, 0] (m ((c : Thread nD τ).loc main_arg5)) slices_S8x2x8_S8x1x8_0_0_0) shapeCasts_S8x1x8_S8x8⟩,
    ⟨S8x8, shapeCast S8x8 (extractStridedSlice S8x1x8 ![0, 0, 0] (m ((c : Thread nD τ).loc main_arg6)) slices_S8x2x8_S8x1x8_0_0_0) shapeCasts_S8x1x8_S8x8⟩,
    ⟨S8x128, shapeCast S8x128 (extractStridedSlice S8x1x128 ![0, 0, 0] (m ((c : Thread nD τ).loc main_arg7)) slices_S8x2x128_S8x1x128_0_0_0) shapeCasts_S8x1x128_S8x128⟩,
    ⟨S8x12288, shapeCast S8x12288 (shapeCast S8x4x3072 (extractStridedSlice S8x1x4x3072 ![0, 0, 0, 0] (m ((c : Thread nD τ).loc main_arg8)) slices_S8x2x4x3072_S8x1x4x3072_0_0_0_0) shapeCasts_S8x1x4x3072_S8x4x3072) shapeCasts_S8x4x3072_S8x12288⟩,
    ⟨S8x1024, shapeCast S8x1024 (extractStridedSlice S8x1x1024 ![0, 1, 0] (m ((c : Thread nD τ).loc main_arg2)) slices_S8x2x1024_S8x1x1024_0_1_0) shapeCasts_S8x1x1024_S8x1024⟩,
    ⟨S8x1024, shapeCast S8x1024 (extractStridedSlice S8x1x1024 ![0, 1, 0] (m ((c : Thread nD τ).loc main_arg3)) slices_S8x2x1024_S8x1x1024_0_1_0) shapeCasts_S8x1x1024_S8x1024⟩,
    ⟨S8x1024, shapeCast S8x1024 (extractStridedSlice S8x1x1024 ![0, 1, 0] (m ((c : Thread nD τ).loc main_arg4)) slices_S8x2x1024_S8x1x1024_0_1_0) shapeCasts_S8x1x1024_S8x1024⟩,
    ⟨S8x8, shapeCast S8x8 (extractStridedSlice S8x1x8 ![0, 1, 0] (m ((c : Thread nD τ).loc main_arg5)) slices_S8x2x8_S8x1x8_0_1_0) shapeCasts_S8x1x8_S8x8⟩,
    ⟨S8x8, shapeCast S8x8 (extractStridedSlice S8x1x8 ![0, 1, 0] (m ((c : Thread nD τ).loc main_arg6)) slices_S8x2x8_S8x1x8_0_1_0) shapeCasts_S8x1x8_S8x8⟩,
    ⟨S8x128, shapeCast S8x128 (extractStridedSlice S8x1x128 ![0, 1, 0] (m ((c : Thread nD τ).loc main_arg7)) slices_S8x2x128_S8x1x128_0_1_0) shapeCasts_S8x1x128_S8x128⟩,
    ⟨S8x12288, shapeCast S8x12288 (shapeCast S8x4x3072 (extractStridedSlice S8x1x4x3072 ![0, 1, 0, 0] (m ((c : Thread nD τ).loc main_arg8)) slices_S8x2x4x3072_S8x1x4x3072_0_1_0_0) shapeCasts_S8x1x4x3072_S8x4x3072) shapeCasts_S8x4x3072_S8x12288⟩]

/-- The shapes of the packed pieces. -/
def shapes : List Shape :=
  [S8x1, S8x1024, S8x1024, S8x1024, S8x1024, S8x8, S8x8, S8x128, S8x12288, S8x1024, S8x1024, S8x1024, S8x8, S8x8, S8x128, S8x12288]

/-- How many columns a piece takes. -/
def wide (s : Shape) : ℕ := if h : s.rank = 2 then s.size ((1 : Fin 2).cast h.symm) else 0

/-- How many columns the pieces before the `k`-th take. -/
def before (k : ℕ) : ℕ := ((shapes.take k).map wide).sum

/-- The packed parts, before the filling. -/
def packed (c : Dev nD) : FVec Ideal S8x32033 .f32 :=
  concatenate S8x32033 1 (pieces m c) concatenates_S8x1_S8x1024_S8x1024_S8x1024_S8x1024_S8x8_S8x8_S8x128_S8x12288_S8x1024_S8x1024_S8x1024_S8x8_S8x8_S8x128_S8x12288_S8x32033_d1

theorem V_packed (c : Dev nD) : V m c main_v33
    = shapeCast S8x256x128 (pad S8x32768 ![0, 0] ![0, 735] ![0, 0] (packed m c) (sitofp (F := Ideal) .f32 (constantI S_ 32 0#32)) pads_S8x32033_S8x32768_000_07350 h_S_) shapeCasts_S8x32768_S8x256x128 := rfl

/-- An entry of the unrolled sum, before the filling, is the sum over the devices of what they packed there. -/
theorem total (c : Dev nD) (p : Fin 32768) (q : Fin 32033) (hp : p.val = q.val) :
    flat (Cert.SumValue.slabs (V m c main_v33)) (ix1 p) = ∑ d : Fin 8, (packed m c (ix2 d q) : EReal) := by
  have h1 : p.val / 128 < 256 := by omega
  have h2 : p.val % 128 < 128 := by omega
  refine (shapeCast_apply _ _ (ix1 p) (ix2 (⟨p.val / 128, h1⟩ : Fin 256) (⟨p.val % 128, h2⟩ : Fin 128)) ?_).trans ?_
  · rw [Shape.rowMajor_val_two, Shape.rowMajor_val_one]
    show p.val / 128 * 128 + p.val % 128 = p.val
    omega
  refine Finset.sum_congr rfl fun d _ => ?_
  rw [V_packed]
  refine (shapeCast_apply _ _ _ (ix2 d p) ?_).trans (pad_apply_of_inside _ _ _ _ _ _ _ _ _ fun a => ?_)
  · rw [Shape.rowMajor_val_three, Shape.rowMajor_val_two]
    show d.val * 32768 + p.val = (d.val * 256 + p.val / 128) * 128 + p.val % 128
    omega
  · match a with
    | ⟨0, _⟩ => show d.val = 0 + d.val * 1; omega
    | ⟨1, _⟩ => show p.val = 0 + q.val * 1; omega

/-- The same, for one of the packed pieces. -/
theorem total_piece (c : Dev nD) (k : ℕ) (hk : k < (pieces m c).length) {n : ℕ} (x : (⟨2, ![8, n]⟩ : Shape).Idx → EReal)
    (hx : (pieces m c)[k] = ⟨⟨2, ![8, n]⟩, x⟩) (off : ℕ)
    (ho : before k = off)
    (hn : off + n ≤ 32033) (p : Fin 32768) (q : Fin n) (hp : p.val = off + q.val) :
    flat (Cert.SumValue.slabs (V m c main_v33)) (ix1 p) = ∑ d : Fin 8, (x (ix2 d q) : EReal) := by
  have hq := q.isLt
  refine (total m c p ⟨off + q.val, by omega⟩ hp).trans (Finset.sum_congr rfl fun d _ => ?_)
  refine concatenate_apply_piece 1 (pieces m c) _ (ix2 d (⟨off + q.val, by omega⟩ : Fin 32033)) k hk _ x hx rfl off ((congrArg (fun l : List Shape => (l.map wide).sum) (by rw [List.map_take]; rfl)).trans ho) (ix2 d q) (fun b hb => ?_) rfl
  match b with
  | ⟨0, _⟩ => rfl
  | ⟨1, _⟩ => exact absurd rfl hb

/-- What is left of a layer's gradient, entry by entry. -/
theorem layered (c : Dev nD) (k : ℕ) (hk : k < (pieces m c).length) {n : ℕ} (x : (⟨3, ![8, 2, n]⟩ : Shape).Idx → EReal) (l : Fin 2)
    (hs : (⟨3, ![8, 2, n]⟩ : Shape).Slices ![0, l.val, 0] ⟨3, ![8, 1, n]⟩)
    (hc : (⟨3, ![8, 1, n]⟩ : Shape).ShapeCasts ⟨2, ![8, n]⟩)
    (hx : (pieces m c)[k] = ⟨⟨2, ![8, n]⟩, shapeCast ⟨2, ![8, n]⟩ (extractStridedSlice ⟨3, ![8, 1, n]⟩ ![0, l.val, 0] x hs) hc⟩) (off : ℕ)
    (ho : before k = off)
    (hn : off + n ≤ 32033) (p : Fin 32768) (q : Fin n) (hp : p.val = off + q.val) :
    flat (Cert.SumValue.slabs (V m c main_v33)) (ix1 p) = ∑ d : Fin 8, (x (ix3 d l q) : EReal) :=
  (total_piece m c k hk _ hx off ho hn p q hp).trans (Finset.sum_congr rfl fun d _ => Cert.SmallValue.layer x l hs hc d q)

/-- What is left of a layer's gradient of the convolution, entry by entry. -/
theorem layered_conv (c : Dev nD) (k : ℕ) (hk : k < (pieces m c).length) (x : FVec Ideal S8x2x4x3072 .f32) (l : Fin 2)
    (hs : S8x2x4x3072.Slices ![0, l.val, 0, 0] S8x1x4x3072)
    (hx : (pieces m c)[k] = ⟨S8x12288, shapeCast S8x12288 (shapeCast S8x4x3072 (extractStridedSlice S8x1x4x3072 ![0, l.val, 0, 0] x hs)
      shapeCasts_S8x1x4x3072_S8x4x3072) shapeCasts_S8x4x3072_S8x12288⟩) (off : ℕ)
    (ho : before k = off)
    (hn : off + 12288 ≤ 32033) (h : S32768.Slices ![off] S12288) (a : Fin 4) (b : Fin 3072) :
    convRow (flat (Cert.SumValue.slabs (V m c main_v33))) off h (ix3 (0 : Fin 1) a b) = ∑ d : Fin 8, (x (ix4 d l a b) : EReal) := by
  have ha := a.isLt
  have hb := b.isLt
  refine (broadcastInDim_apply (s := S4x3072) ![1, 2] _ _ _ (ix2 a b) fun i => ?_).trans ((shapeCast_apply _ _ _
    (ix1 (⟨a.val * 3072 + b.val, by omega⟩ : Fin 12288)) ?_).trans ((extractStridedSlice_apply _ _ h _
      (ix1 (⟨off + (a.val * 3072 + b.val), by omega⟩ : Fin 32768)) fun i => ?_).trans
        ((total_piece m c k hk _ hx off ho hn _ (⟨a.val * 3072 + b.val, by omega⟩ : Fin 12288) rfl).trans
          (Finset.sum_congr rfl fun d _ => ?_))))
  · match i with
    | ⟨0, _⟩ => rfl
    | ⟨1, _⟩ => rfl
  · rw [Shape.rowMajor_val_two, Shape.rowMajor_val_one]
    rfl
  · match i with
    | ⟨0, _⟩ => rfl
  · refine (shapeCast_apply _ _ _ (ix3 d a b) ?_).trans ((shapeCast_apply _ _ _ (ix4 d (0 : Fin 1) a b) ?_).trans
      (extractStridedSlice_apply _ x hs _ _ fun i => ?_))
    · rw [Shape.rowMajor_val_three, Shape.rowMajor_val_two]
      show (d.val * 4 + a.val) * 3072 + b.val = d.val * 12288 + (a.val * 3072 + b.val)
      omega
    · rw [Shape.rowMajor_val_three, Shape.rowMajor_val_four]
      show ((d.val * 1 + 0) * 4 + a.val) * 3072 + b.val = (d.val * 4 + a.val) * 3072 + b.val
      omega
    · match i with
      | ⟨0, _⟩ => exact (Nat.zero_add _).symm
      | ⟨1, _⟩ => rfl
      | ⟨2, _⟩ => exact (Nat.zero_add _).symm
      | ⟨3, _⟩ => exact (Nat.zero_add _).symm

/-- What a buffer holds after the lines that follow the region. -/
theorem left (c : Dev nD) (f : Valuation τ sig (Elt Ideal) → FVec Ideal S256x128 .f32 → Prop)
    (h : ∀ W : Valuation τ sig (Elt Ideal), f W (W (Proc.devRef .tc main_v34))) :
    f (Pipeline.withArrays (cfgs 0).spec c (V0 m c) fun w => (dats m 0 c).arrAt w (cfgs 0).N) (Cert.SumValue.slabs (V m c main_v33)) := by
  have e : (Pipeline.withArrays (cfgs 0).spec c (V0 m c) fun w => (dats m 0 c).arrAt w (cfgs 0).N) (Proc.devRef .tc main_v34)
      = Cert.SumValue.slabs (V m c main_v33) :=
    (Pipeline.withArrays_arr _ launch0.win.arr_inj c (V0 m c) _ 1).trans (final m c)
  have := h (Pipeline.withArrays (cfgs 0).spec c (V0 m c) fun w => (dats m 0 c).arrAt w (cfgs 0).N)
  rwa [e] at this

/-- What the program leaves in a buffer. -/
abbrev out (c : Dev nD) (b : Ref sig .tc) := Pipeline.afterTail₀ cfgs (dats m) 0 (V0 m) [hostOps1] c b

/-- The sum over the devices of one number each. -/
def numbers (x : FVec Ideal S8 .f32) : FVec Ideal S_ .f32 := fun _ => ∑ d : Fin 8, (x (ix1 d) : EReal)

theorem loss_eq (c : Dev nD) : out m c main_v75 = numbers (m ((c : Thread nD τ).loc main_arg0)) := by
  refine (left m c (fun W t => StableHlo.after (List.flatten [hostOps1]) W (Proc.devRef .tc main_v75)
      = shapeCast S_ (extractStridedSlice S1 ![0] (flat t) slices_S32768_S1_0) shapeCasts_S1_S_) tail_loss).trans ?_
  funext j
  refine (shapeCast_apply _ _ _ (ix1 (0 : Fin 1)) ?_).trans ((extractStridedSlice_apply _ _ _ _ (ix1 (0 : Fin 32768)) fun i => ?_).trans
    ((total_piece m c 0 (Nat.succ_pos _) _ rfl 0 (by decide +kernel) (by decide) 0 (0 : Fin 1) rfl).trans (Finset.sum_congr rfl fun d _ => shapeCast_apply _ _ _ (ix1 d) ?_)))
  · rw [Shape.rowMajor_val_one]
    rfl
  · match i with
    | ⟨0, _⟩ => rfl
  · rw [Shape.rowMajor_val_one, Shape.rowMajor_val_two]
    show d.val = d.val * 1 + 0
    omega

theorem norm_eq (c : Dev nD) : out m c main_v76 = Cert.SumValue.rows (m ((c : Thread nD τ).loc main_arg1)) := by
  refine (left m c (fun W t => StableHlo.after (List.flatten [hostOps1]) W (Proc.devRef .tc main_v76)
      = extractStridedSlice S1024 ![1] (flat t) slices_S32768_S1024_1) tail_norm).trans ?_
  funext j
  have hj : (j 0).val < 1024 := (j 0).isLt
  refine (extractStridedSlice_apply _ _ _ _ (ix1 (⟨1 + (j 0).val, by omega⟩ : Fin 32768)) fun i => ?_).trans
    (total_piece m c 1 (by exact (by decide : 1 < 16)) _ rfl 1 (by decide +kernel) (by decide) _ (j 0) rfl)
  match i with
  | ⟨0, _⟩ => rfl

theorem ln_ffn1_eq (c : Dev nD) : out m c main_v40 = Cert.SumValue.slabs (m ((c : Thread nD τ).loc main_arg2)) :=
  (left m c (fun W t => StableHlo.after (List.flatten [hostOps1]) W (Proc.devRef .tc main_v40) = stack1024 t 1025 16529 slices_S32768_S1024_1025 slices_S32768_S1024_16529) tail_ln_ffn1).trans
    (Cert.SmallValue.stacked _ _ _ _ _ _ (layered m c 2 (by exact (by decide : 2 < 16)) _ 0 _ _ rfl 1025 (by decide +kernel) (by decide))
      (layered m c 9 (by exact (by decide : 9 < 16)) _ 1 _ _ rfl 16529 (by decide +kernel) (by decide)))

theorem ln_mix_eq (c : Dev nD) : out m c main_v45 = Cert.SumValue.slabs (m ((c : Thread nD τ).loc main_arg3)) :=
  (left m c (fun W t => StableHlo.after (List.flatten [hostOps1]) W (Proc.devRef .tc main_v45) = stack1024 t 2049 17553 slices_S32768_S1024_2049 slices_S32768_S1024_17553) tail_ln_mix).trans
    (Cert.SmallValue.stacked _ _ _ _ _ _ (layered m c 3 (by exact (by decide : 3 < 16)) _ 0 _ _ rfl 2049 (by decide +kernel) (by decide))
      (layered m c 10 (by exact (by decide : 10 < 16)) _ 1 _ _ rfl 17553 (by decide +kernel) (by decide)))

theorem ln_ffn2_eq (c : Dev nD) : out m c main_v50 = Cert.SumValue.slabs (m ((c : Thread nD τ).loc main_arg4)) :=
  (left m c (fun W t => StableHlo.after (List.flatten [hostOps1]) W (Proc.devRef .tc main_v50) = stack1024 t 3073 18577 slices_S32768_S1024_3073 slices_S32768_S1024_18577) tail_ln_ffn2).trans
    (Cert.SmallValue.stacked _ _ _ _ _ _ (layered m c 4 (by exact (by decide : 4 < 16)) _ 0 _ _ rfl 3073 (by decide +kernel) (by decide))
      (layered m c 11 (by exact (by decide : 11 < 16)) _ 1 _ _ rfl 18577 (by decide +kernel) (by decide)))

theorem a_log_eq (c : Dev nD) : out m c main_v55 = Cert.SumValue.slabs (m ((c : Thread nD τ).loc main_arg5)) :=
  (left m c (fun W t => StableHlo.after (List.flatten [hostOps1]) W (Proc.devRef .tc main_v55) = stack8 t 4097 19601 slices_S32768_S8_4097 slices_S32768_S8_19601) tail_a_log).trans
    (Cert.SmallValue.stacked _ _ _ _ _ _ (layered m c 5 (by exact (by decide : 5 < 16)) _ 0 _ _ rfl 4097 (by decide +kernel) (by decide))
      (layered m c 12 (by exact (by decide : 12 < 16)) _ 1 _ _ rfl 19601 (by decide +kernel) (by decide)))

theorem dt_bias_eq (c : Dev nD) : out m c main_v60 = Cert.SumValue.slabs (m ((c : Thread nD τ).loc main_arg6)) :=
  (left m c (fun W t => StableHlo.after (List.flatten [hostOps1]) W (Proc.devRef .tc main_v60) = stack8 t 4105 19609 slices_S32768_S8_4105 slices_S32768_S8_19609) tail_dt_bias).trans
    (Cert.SmallValue.stacked _ _ _ _ _ _ (layered m c 6 (by exact (by decide : 6 < 16)) _ 0 _ _ rfl 4105 (by decide +kernel) (by decide))
      (layered m c 13 (by exact (by decide : 13 < 16)) _ 1 _ _ rfl 19609 (by decide +kernel) (by decide)))

theorem dn_norm_eq (c : Dev nD) : out m c main_v65 = Cert.SumValue.slabs (m ((c : Thread nD τ).loc main_arg7)) :=
  (left m c (fun W t => StableHlo.after (List.flatten [hostOps1]) W (Proc.devRef .tc main_v65) = stack128 t 4113 19617 slices_S32768_S128_4113 slices_S32768_S128_19617) tail_dn_norm).trans
    (Cert.SmallValue.stacked _ _ _ _ _ _ (layered m c 7 (by exact (by decide : 7 < 16)) _ 0 _ _ rfl 4113 (by decide +kernel) (by decide))
      (layered m c 14 (by exact (by decide : 14 < 16)) _ 1 _ _ rfl 19617 (by decide +kernel) (by decide)))

/-- The sums over the devices of the first columns of the convolution's gradients. -/
def convSum (x : FVec Ideal S8x2x4x3072 .f32) : FVec Ideal S2x4x768 .f32 :=
  fun j => ∑ d : Fin 8, (x (ix4 d (j 0) (j 1) (Fin.castLE (m := 3072) (by decide) (j 2 : Fin 768))) : EReal)

theorem conv_eq (c : Dev nD) : out m c main_v73 = convSum (m ((c : Thread nD τ).loc main_arg8)) := by
  have h : S2x4x3072.Slices ![0, 0, 0] S2x4x768 := by decide
  refine (left m c (fun W t => StableHlo.after (List.flatten [hostOps1]) W (Proc.devRef .tc main_v73)
      = extractStridedSlice S2x4x768 ![0, 0, 0] (concatenate S2x4x3072 0 [⟨S1x4x3072, convRow (flat t) 4241 slices_S32768_S12288_4241⟩,
          ⟨S1x4x3072, convRow (flat t) 19745 slices_S32768_S12288_19745⟩] concatenates_S1x4x3072_S1x4x3072_S2x4x3072_d0) h)
    fun W => tail_conv W h).trans ?_
  funext j
  have hl : (j 0).val < 2 := (j 0).isLt
  refine (extractStridedSlice_apply _ _ h j (ix3 (j 0 : Fin 2) (j 1 : Fin 4) (Fin.castLE (m := 3072) (by decide) (j 2 : Fin 768))) fun i => ?_).trans ?_
  · match i with
    | ⟨0, _⟩ => exact (Nat.zero_add _).symm
    | ⟨1, _⟩ => exact (Nat.zero_add _).symm
    | ⟨2, _⟩ => exact (Nat.zero_add _).symm
  rcases (by omega : (j 0).val = 0 ∨ (j 0).val = 1) with e | e
  · refine (concatenate_pair_apply_left (t := S2x4x3072) (s₁ := S1x4x3072) (s₂ := S1x4x3072) 0 _ _ _ _ rfl (ix3 (0 : Fin 1) (j 1 : Fin 4) (Fin.castLE (m := 3072) (by decide) (j 2 : Fin 768))) (fun b => ?_)).trans
      ((layered_conv m c 8 (by exact (by decide : 8 < 16)) _ 0 _ rfl 4241 (by decide +kernel) (by decide) _ _ _).trans ?_)
    · match b with
      | ⟨0, _⟩ => exact e.symm
      | ⟨1, _⟩ => rfl
      | ⟨2, _⟩ => rfl
    · have : j 0 = (0 : Fin 2) := Fin.ext e
      unfold convSum
      rw [this]
  · refine (concatenate_pair_apply_right (t := S2x4x3072) (s₁ := S1x4x3072) (s₂ := S1x4x3072) 0 _ _ _ _ rfl rfl (ix3 (0 : Fin 1) (j 1 : Fin 4) (Fin.castLE (m := 3072) (by decide) (j 2 : Fin 768))) (fun b hb => ?_) ?_).trans
      ((layered_conv m c 15 (by exact (by decide : 15 < 16)) _ 1 _ rfl 19745 (by decide +kernel) (by decide) _ _ _).trans ?_)
    · match b with
      | ⟨0, _⟩ => exact absurd rfl hb
      | ⟨1, _⟩ => rfl
      | ⟨2, _⟩ => rfl
    · exact e.symm
    · have : j 0 = (1 : Fin 2) := Fin.ext e
      unfold convSum
      rw [this]

end Cert.SmallGradsIdeal.RefValue

end
-- ==== Proof.SmallClaims.lean ====
/-
# The claims of the small gradients

The packed parts of the eight devices are summed by one call and unpacked again. The reference sums each gradient over
its leading axis.
-/
module

public import proofs.«01_k».proof.Defs
public import proofs.«01_k».proof.Proof.SmallValue
public import proofs.«01_k».proof.Proof.Gen.SmallGradsRefIdeal.Run
public import proofs.«01_k».proof.Proof.Gen.SmallGrads.Frame
public import Idealize.ShloMosaic.Lib.Quiescent

@[expose] public section

noncomputable section

open Idealize.ShloMosaic Idealize.ShloMosaic.TcCoe Idealize.SL.Sem

namespace Cert.SmallGradsIdeal.RefValue

open Cert.SmallGradsIdeal Cert.SmallGradsIdeal.Gen

/-- The run, with every result a sum over the devices of one argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v75) = numbers (m ((c : Thread nD τ).loc main_arg0))
      ∧ r.2.mem ((c : Thread nD τ).loc main_v76) = Cert.SumValue.rows (m ((c : Thread nD τ).loc main_arg1))
      ∧ r.2.mem ((c : Thread nD τ).loc main_v40) = Cert.SumValue.slabs (m ((c : Thread nD τ).loc main_arg2))
      ∧ r.2.mem ((c : Thread nD τ).loc main_v45) = Cert.SumValue.slabs (m ((c : Thread nD τ).loc main_arg3))
      ∧ r.2.mem ((c : Thread nD τ).loc main_v50) = Cert.SumValue.slabs (m ((c : Thread nD τ).loc main_arg4))
      ∧ r.2.mem ((c : Thread nD τ).loc main_v55) = Cert.SumValue.slabs (m ((c : Thread nD τ).loc main_arg5))
      ∧ r.2.mem ((c : Thread nD τ).loc main_v60) = Cert.SumValue.slabs (m ((c : Thread nD τ).loc main_arg6))
      ∧ r.2.mem ((c : Thread nD τ).loc main_v65) = Cert.SumValue.slabs (m ((c : Thread nD τ).loc main_arg7))
      ∧ r.2.mem ((c : Thread nD τ).loc main_v73) = convSum (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).2 main_v75 (Pipeline.mem_restRefs_of main_v75 (by decide) (by decide))).trans (loss_eq m c),
      ((h c).2 main_v76 (Pipeline.mem_restRefs_of main_v76 (by decide) (by decide))).trans (norm_eq m c),
      ((h c).2 main_v40 (Pipeline.mem_restRefs_of main_v40 (by decide) (by decide))).trans (ln_ffn1_eq m c),
      ((h c).2 main_v45 (Pipeline.mem_restRefs_of main_v45 (by decide) (by decide))).trans (ln_mix_eq m c),
      ((h c).2 main_v50 (Pipeline.mem_restRefs_of main_v50 (by decide) (by decide))).trans (ln_ffn2_eq m c),
      ((h c).2 main_v55 (Pipeline.mem_restRefs_of main_v55 (by decide) (by decide))).trans (a_log_eq m c),
      ((h c).2 main_v60 (Pipeline.mem_restRefs_of main_v60 (by decide) (by decide))).trans (dt_bias_eq m c),
      ((h c).2 main_v65 (Pipeline.mem_restRefs_of main_v65 (by decide) (by decide))).trans (dn_norm_eq m c),
      ((h c).2 main_v73 (Pipeline.mem_restRefs_of main_v73 (by decide) (by decide))).trans (conv_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main (F := Ideal) m ρ)

/-- The reference's sum of numbers starts at zero. -/
theorem numbers_eq (x : FVec Ideal Cert.SmallGradsRefIdeal.S8 .f32) :
    Host.reduceAdd x (constant (F := Ideal) Cert.SmallGradsRefIdeal.S_ .f32 0x00000000#32) Cert.SmallGradsRefIdeal.Facts₀.reducesTo_S8_S_d0 Cert.SmallGradsRefIdeal.Facts₀.h_S_ = numbers x := by
  funext j
  refine (Ideal.hostReduceAdd_r1_a0 _ x _ j).trans ?_
  have z : (constant (F := Ideal) Cert.SmallGradsRefIdeal.S_ .f32 0x00000000#32 (Shape.Idx.first Cert.SmallGradsRefIdeal.Facts₀.h_S_) : EReal) = 0 := Ideal.ofBits_zero_f32
  rw [z, zero_add]
  rfl

/-- The reference cuts the first columns of the convolution before it sums. -/
theorem conv_ref (x : FVec Ideal Cert.SmallGradsRefIdeal.S8x2x4x3072 .f32) :
    Host.reduceAdd (extractStridedSlice Cert.SmallGradsRefIdeal.S8x2x4x768 ![0, 0, 0, 0] x Cert.SmallGradsRefIdeal.Facts₀.slices_S8x2x4x3072_S8x2x4x768_0_0_0_0)
        (constant (F := Ideal) Cert.SmallGradsRefIdeal.S_ .f32 0x00000000#32) Cert.SmallGradsRefIdeal.Facts₀.reducesTo_S8x2x4x768_S2x4x768_d0 Cert.SmallGradsRefIdeal.Facts₀.h_S_ = convSum x := by
  funext j
  refine (Ideal.hostReduceAdd_r4_a0 _ _ _ j).trans ?_
  have z : (constant (F := Ideal) Cert.SmallGradsRefIdeal.S_ .f32 0x00000000#32 (Shape.Idx.first Cert.SmallGradsRefIdeal.Facts₀.h_S_) : EReal) = 0 := Ideal.ofBits_zero_f32
  rw [z, zero_add]
  refine Finset.sum_congr rfl fun d _ => extractStridedSlice_apply _ x _ _ _ fun i => ?_
  match i with
  | ⟨0, _⟩ => exact (Nat.zero_add _).symm
  | ⟨1, _⟩ => exact (Nat.zero_add _).symm
  | ⟨2, _⟩ => exact (Nat.zero_add _).symm
  | ⟨3, _⟩ => exact (Nat.zero_add _).symm

end Cert.SmallGradsIdeal.RefValue

namespace Cert.SmallClaims.SmallGrads

open Cert.SumValue Cert.SmallGradsIdeal.RefValue

theorem frame_ideal : Cert.quiescent_SmallGradsIdeal (hSmallGradsIdeal := Cert.SmallGradsIdeal.Gen.facts) := fun m ρ _ => Cert.SmallGradsIdeal.Gen.frame (F := Ideal) m ρ

theorem frame : Cert.quiescent_SmallGrads (hSmallGrads := Cert.SmallGrads.Gen.facts) := fun m ρ _ => Cert.SmallGrads.Gen.frame (F := Bits) m ρ

theorem frame_ref_ideal : Cert.quiescent_SmallGradsRefIdeal (hSmallGradsRefIdeal := Cert.SmallGradsRefIdeal.Gen.facts) := fun m ρ _ =>
  (θ_run _ _ _).mono (fun r h => ⟨fun c => let ⟨_, _, _, _, _, _, _, _, _, k⟩ := h c; k, sem_eq_zero_of_no_sems rfl r.2⟩) (Cert.SmallGradsRefIdeal.Value.run (F := Ideal) m ρ)

theorem value : Cert.algebraic_SmallGradsIdeal_SmallGradsRefIdeal (hSmallGradsIdeal := Cert.SmallGradsIdeal.Gen.facts) (hSmallGradsRefIdeal := Cert.SmallGradsRefIdeal.Gen.facts) :=
  fun m ρ m' ρ' _ hm => ⟨_, _, _, _, _, _, _, _, _, Cert.SmallGradsIdeal.RefValue.run m ρ, (θ_run _ _ _).mono
    (fun r h c => let ⟨a0, a1, a2, a3, a4, a5, a6, a7, a8⟩ := hm c; let ⟨d0, d1, d2, d3, d4, d5, d6, d7, d8, k⟩ := h c
      ⟨d0.trans ((numbers_eq _).trans (congrArg numbers a0)), d1.trans ((host_rows _ _ _).trans (congrArg rows a1)),
        d2.trans ((host_slabs _ _ _).trans (congrArg slabs a2)),
        d3.trans ((host_slabs _ _ _).trans (congrArg slabs a3)),
        d4.trans ((host_slabs _ _ _).trans (congrArg slabs a4)),
        d5.trans ((host_slabs _ _ _).trans (congrArg slabs a5)),
        d6.trans ((host_slabs _ _ _).trans (congrArg slabs a6)),
        d7.trans ((host_slabs _ _ _).trans (congrArg slabs a7)),
        d8.trans ((conv_ref _).trans (congrArg convSum a8)), k⟩)
    (Cert.SmallGradsRefIdeal.Value.run (F := Ideal) m' ρ')⟩

end Cert.SmallClaims.SmallGrads

end
-- ==== Proof.BigRun.lean ====
/-
# The run of the two sums of the big gradients

The program sums the packed gradients in two calls, with host operations before, between and after them. Every buffer that
outlives the calls ends with what these five stretches leave in it, one after the other.
-/
module

public import proofs.«01_k».proof.Defs
public import proofs.«01_k».proof.Proof.Gen.BigGradsIdeal.Frame

@[expose] public section

noncomputable section

namespace Cert.BigGradsIdeal.Run

open Cert.BigGradsIdeal Cert.BigGradsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends with the contents that the last stretch leaves. -/
theorem run : θ_run defs (onTc (τ := τ) (main (F := F))) ⟨m, fun _ => 0, ρ⟩ fun r => ∀ (c : Dev nD) (b : Ref sig .tc),
    ¬ (Proc.devRef .tc b : DevRef τ sig).isScoped → r.2.mem ((c.tc : Thread nD τ).loc b) = W5 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.BigGradsIdeal.Run

end
-- ==== Proof.BigValue.lean ====
/-
# The big gradients, packed, summed over the chips and unpacked
-/
module

public import proofs.«01_k».proof.Defs
public import proofs.«01_k».proof.Proof.SumValue
public import proofs.«01_k».proof.Proof.BigRun
public import Idealize.ShloMosaic.Lib.Pipeline.ValueKit
public import Idealize.ShloMosaic.Lib.Pipeline.Value
public import Idealize.ShloMosaic.Lib.Pointwise
public import Idealize.ShloMosaic.Lib.KernelVsHost
public import Idealize.ShloMosaic.PureOps.Ideal

@[expose] public section

noncomputable section

open Idealize.ShloMosaic Idealize.ShloMosaic.TcCoe Idealize.SL.Sem
open Idealize.ShloMosaic.Pipeline (Dat)

namespace Cert.BigValue

/-- The gradients of two layers, one on the other. -/
def stack {r w : ℕ} (x y : FVec Ideal ⟨2, ![r, w]⟩ .f32) (hb : (⟨2, ![r, w]⟩ : Shape).BroadcastsInDim ⟨3, ![1, r, w]⟩ ![1, 2])
    (hc : Shape.Concatenates [⟨3, ![1, r, w]⟩, ⟨3, ![1, r, w]⟩] ⟨3, ![2, r, w]⟩ 0) : FVec Ideal ⟨3, ![2, r, w]⟩ .f32 :=
  concatenate ⟨3, ![2, r, w]⟩ 0 [⟨⟨3, ![1, r, w]⟩, broadcastInDim ⟨3, ![1, r, w]⟩ ![1, 2] hb x⟩,
    ⟨⟨3, ![1, r, w]⟩, broadcastInDim ⟨3, ![1, r, w]⟩ ![1, 2] hb y⟩] hc

/-- The sum over the four chips. -/
def sums {r w : ℕ} (x : FVec Ideal ⟨4, ![4, 2, r, w]⟩ .bf16) : FVec Ideal ⟨3, ![2, r, w]⟩ .f32 :=
  fun j => ∑ d : Fin 4, (x (ix4 d (j 0) (j 1) (j 2)) : EReal)

/-- Two layers, one on the other, are the sums over the chips when each layer is. -/
theorem stack_eq {r w : ℕ} (y0 y1 : FVec Ideal ⟨2, ![r, w]⟩ .f32) (hb : (⟨2, ![r, w]⟩ : Shape).BroadcastsInDim ⟨3, ![1, r, w]⟩ ![1, 2])
    (hc : Shape.Concatenates [⟨3, ![1, r, w]⟩, ⟨3, ![1, r, w]⟩] ⟨3, ![2, r, w]⟩ 0) (x : FVec Ideal ⟨4, ![4, 2, r, w]⟩ .bf16)
    (e0 : ∀ (a : Fin r) (b : Fin w), y0 (ix2 a b) = ∑ d : Fin 4, (x (ix4 d 0 a b) : EReal))
    (e1 : ∀ (a : Fin r) (b : Fin w), y1 (ix2 a b) = ∑ d : Fin 4, (x (ix4 d 1 a b) : EReal)) : stack y0 y1 hb hc = sums x := by
  have lay (y : FVec Ideal ⟨2, ![r, w]⟩ .f32) (a : Fin r) (b : Fin w) :
      broadcastInDim ⟨3, ![1, r, w]⟩ ![1, 2] hb y (ix3 (0 : Fin 1) a b) = y (ix2 a b) := by
    refine broadcastInDim_apply ![1, 2] hb _ _ (ix2 a b) fun i => ?_
    have := a.isLt
    have := b.isLt
    match i with
    | ⟨0, _⟩ =>
      show a.val = if r = 1 then 0 else a.val
      split <;> omega
    | ⟨1, _⟩ =>
      show b.val = if w = 1 then 0 else b.val
      split <;> omega
  funext j
  have hl : (j 0).val < 2 := (j 0).isLt
  unfold stack
  rcases (by omega : (j 0).val = 0 ∨ (j 0).val = 1) with h | h
  · refine (concatenate_pair_apply_left 0 _ _ hc j rfl (ix3 (0 : Fin 1) (j 1) (j 2)) (fun b => ?_)).trans ?_
    · match b with
      | ⟨0, _⟩ => exact h.symm
      | ⟨1, _⟩ => rfl
      | ⟨2, _⟩ => rfl
    · refine (lay y0 (j 1) (j 2)).trans ((e0 (j 1) (j 2)).trans ?_)
      have : (j 0) = (0 : Fin 2) := Fin.ext h
      unfold sums
      rw [this]
  · refine (concatenate_pair_apply_right 0 _ _ hc j rfl rfl (ix3 (0 : Fin 1) (j 1) (j 2)) (fun b hb => ?_) ?_).trans ?_
    · match b with
      | ⟨0, _⟩ => exact absurd rfl hb
      | ⟨1, _⟩ => rfl
      | ⟨2, _⟩ => rfl
    · exact h.symm
    · refine (lay y1 (j 1) (j 2)).trans ((e1 (j 1) (j 2)).trans ?_)
      have : (j 0) = (1 : Fin 2) := Fin.ext h
      unfold sums
      rw [this]

/-- A piece that is packed as it is. -/
theorem plain {n w : ℕ} (x : (⟨4, ![4, 2, n, w]⟩ : Shape).Idx → EReal) (l : Fin 2)
    (hs : (⟨4, ![4, 2, n, w]⟩ : Shape).Slices ![0, l.val, 0, 0] ⟨4, ![4, 1, n, w]⟩)
    (hc : (⟨4, ![4, 1, n, w]⟩ : Shape).ShapeCasts ⟨3, ![4, n, w]⟩) (d : Fin 4) (q : Fin n) (b : Fin w) :
    shapeCast ⟨3, ![4, n, w]⟩ (extractStridedSlice ⟨4, ![4, 1, n, w]⟩ ![0, l.val, 0, 0] x hs) hc (ix3 d q b) = x (ix4 d l q b) := by
  refine (shapeCast_apply _ hc (ix3 d q b) (ix4 d (0 : Fin 1) q b) ?_).trans (extractStridedSlice_apply _ x hs _ _ fun i => ?_)
  · rw [Shape.rowMajor_val_three, Shape.rowMajor_val_four]
    show ((d.val * 1 + 0) * n + q.val) * w + b.val = (d.val * n + q.val) * w + b.val
    rw [Nat.mul_one, Nat.add_zero]
  · match i with
    | ⟨0, _⟩ => exact (Nat.zero_add _).symm
    | ⟨1, _⟩ => rfl
    | ⟨2, _⟩ => exact (Nat.zero_add _).symm
    | ⟨3, _⟩ => exact (Nat.zero_add _).symm

/-- A piece that is laid in other rows to be packed. -/
theorem relaid {n r w : ℕ} (x : (⟨4, ![4, 2, r, w]⟩ : Shape).Idx → EReal) (l : Fin 2)
    (hs : (⟨4, ![4, 2, r, w]⟩ : Shape).Slices ![0, l.val, 0, 0] ⟨4, ![4, 1, r, w]⟩)
    (hc : (⟨4, ![4, 1, r, w]⟩ : Shape).ShapeCasts ⟨3, ![4, r, w]⟩) (hc' : (⟨3, ![4, r, w]⟩ : Shape).ShapeCasts ⟨3, ![4, n, 1024]⟩)
    (hn : n * 1024 = r * w) (d : Fin 4) (q : Fin n) (k : Fin 1024) (a : Fin r) (b : Fin w) (e : q.val * 1024 + k.val = a.val * w + b.val) :
    shapeCast ⟨3, ![4, n, 1024]⟩ (shapeCast ⟨3, ![4, r, w]⟩ (extractStridedSlice ⟨4, ![4, 1, r, w]⟩ ![0, l.val, 0, 0] x hs) hc) hc' (ix3 d q k)
      = x (ix4 d l a b) := by
  refine (shapeCast_apply _ hc' (ix3 d q k) (ix3 d a b) ?_).trans (plain x l hs hc d a b)
  rw [Shape.rowMajor_val_three, Shape.rowMajor_val_three]
  show (d.val * r + a.val) * w + b.val = (d.val * n + q.val) * 1024 + k.val
  have : d.val * r * w = d.val * n * 1024 := by rw [Nat.mul_assoc, Nat.mul_assoc, hn]
  rw [Nat.add_mul, Nat.add_mul]
  omega

end Cert.BigValue

namespace Cert.BigGradsIdeal.RefValue

open Cert.BigGradsIdeal Cert.BigGradsIdeal.Gen

/-- The sum over the chips of one core's half of the rows. -/
def chips (x : FVec Ideal S4x7056x1024 .bf16) : FVec Ideal S7056x1024 .f32 := fun j => ∑ d : Fin 4, (x (ix3 d (j 0) (j 1)) : EReal)

section Regions

variable (V : (c : Dev nD) → (b : Ref sig .tc) → Buf (Elt Ideal) ((c : Thread nD τ).loc b))

theorem idx0 : ∀ t : Fin cfg0.N, win0_0.index t = ![0, t.val, 0] ∧ win0_1.index t = ![t.val, 0] :=
  (by decide +kernel : ∀ t : Fin grid0.N, _)

theorem idx1 : ∀ t : Fin cfg1.N, win1_0.index t = ![0, t.val, 0] ∧ win1_1.index t = ![t.val, 0] :=
  (by decide +kernel : ∀ t : Fin grid1.N, _)

/-- A block of the first call's argument is 336 rows of each of the four slabs. -/
theorem read0 (c : Dev nD) (t : Fin cfg0.N) (z : S4x336x1024.Idx) (j : S4x7056x1024.Idx) (h0 : (j 0).val = (z 0).val)
    (h1 : (j 1).val = t.val * 336 + (z 1).val) (h2 : (j 2).val = (z 2).val) :
    iblk0 V c 0 t z = V c main_v58 j := by
  refine congrArg (V c main_v58) (?_ : ((cfg0.win 0).blk t).view.emb z = j)
  blk_ext [idx0 t]
  all_goals omega

/-- The first call leaves the sum of the first half. -/
theorem final0 (c : Dev nD) : (dat0 V c).arrAt 1 cfg0.N = chips (V c main_v58) := by
  refine (dat0 V c).arrAt_eq_of_covers 1 _ (by decide +kernel) fun t hf y => ?_
  have b0 : (((cfg0.win 1).blk t).view.emb y 0).val = t.val * 336 + (y 0).val := by blk_simp [idx0 t]
  have b1 : (((cfg0.win 1).blk t).view.emb y 1).val = (y 1).val := by blk_simp [idx0 t]
  blk_simp
  rw [after0_1]
  unfold Gen.out0_1
  refine (Cert.ChipSumIdeal.Value.canon1_eq (F := Ideal) _ _ _ _ y).trans ?_
  refine Eq.trans ?_ (Fin.sum_univ_four _).symm
  refine congrArg₂ (fun p q : EReal => p + q) (congrArg₂ (fun p q : EReal => p + q)
    (congrArg₂ (fun p q : EReal => p + q) ?_ ?_) ?_) ?_
  · exact read0 V c t (r0_0.idx (Cert.ChipSumIdeal.Value.ix1_0 y)) _ rfl (b0.trans (by show _ = t.val * 336 + (0 + 1 * (y 0).val); omega)) (b1.trans (by show _ = 0 + 1 * (y 1).val; omega))
  · exact read0 V c t (r0_1.idx (Cert.ChipSumIdeal.Value.ix1_1 y)) _ rfl (b0.trans (by show _ = t.val * 336 + (0 + 1 * (y 0).val); omega)) (b1.trans (by show _ = 0 + 1 * (y 1).val; omega))
  · exact read0 V c t (r0_2.idx (Cert.ChipSumIdeal.Value.ix1_2 y)) _ rfl (b0.trans (by show _ = t.val * 336 + (0 + 1 * (y 0).val); omega)) (b1.trans (by show _ = 0 + 1 * (y 1).val; omega))
  · exact read0 V c t (r0_3.idx (Cert.ChipSumIdeal.Value.ix1_3 y)) _ rfl (b0.trans (by show _ = t.val * 336 + (0 + 1 * (y 0).val); omega)) (b1.trans (by show _ = 0 + 1 * (y 1).val; omega))

/-- A block of the second call's argument is 336 rows of each of the four slabs. -/
theorem read1 (c : Dev nD) (t : Fin cfg1.N) (z : S4x336x1024.Idx) (j : S4x7056x1024.Idx) (h0 : (j 0).val = (z 0).val)
    (h1 : (j 1).val = t.val * 336 + (z 1).val) (h2 : (j 2).val = (z 2).val) :
    iblk1 V c 0 t z = V c main_v61 j := by
  refine congrArg (V c main_v61) (?_ : ((cfg1.win 0).blk t).view.emb z = j)
  blk_ext [idx1 t]
  all_goals omega

/-- The second call leaves the sum of the second half. -/
theorem final1 (c : Dev nD) : (dat1 V c).arrAt 1 cfg1.N = chips (V c main_v61) := by
  refine (dat1 V c).arrAt_eq_of_covers 1 _ (by decide +kernel) fun t hf y => ?_
  have b0 : (((cfg1.win 1).blk t).view.emb y 0).val = t.val * 336 + (y 0).val := by blk_simp [idx1 t]
  have b1 : (((cfg1.win 1).blk t).view.emb y 1).val = (y 1).val := by blk_simp [idx1 t]
  blk_simp
  rw [after1_1]
  unfold Gen.out1_1
  refine (Cert.ChipSumIdeal.Value.canon1_eq (F := Ideal) _ _ _ _ y).trans ?_
  refine Eq.trans ?_ (Fin.sum_univ_four _).symm
  refine congrArg₂ (fun p q : EReal => p + q) (congrArg₂ (fun p q : EReal => p + q)
    (congrArg₂ (fun p q : EReal => p + q) ?_ ?_) ?_) ?_
  · exact read1 V c t (r1_0.idx (Cert.ChipSumIdeal.Value.ix1_0 y)) _ rfl (b0.trans (by show _ = t.val * 336 + (0 + 1 * (y 0).val); omega)) (b1.trans (by show _ = 0 + 1 * (y 1).val; omega))
  · exact read1 V c t (r1_1.idx (Cert.ChipSumIdeal.Value.ix1_1 y)) _ rfl (b0.trans (by show _ = t.val * 336 + (0 + 1 * (y 0).val); omega)) (b1.trans (by show _ = 0 + 1 * (y 1).val; omega))
  · exact read1 V c t (r1_2.idx (Cert.ChipSumIdeal.Value.ix1_2 y)) _ rfl (b0.trans (by show _ = t.val * 336 + (0 + 1 * (y 0).val); omega)) (b1.trans (by show _ = 0 + 1 * (y 1).val; omega))
  · exact read1 V c t (r1_3.idx (Cert.ChipSumIdeal.Value.ix1_3 y)) _ rfl (b0.trans (by show _ = t.val * 336 + (0 + 1 * (y 0).val); omega)) (b1.trans (by show _ = 0 + 1 * (y 1).val; omega))

end Regions

end Cert.BigGradsIdeal.RefValue

end
-- ==== Proof.BigLines.lean ====
/-
# The host lines around the two sums of the big gradients

Before the first call the pieces of both layers are laid one under the other, and the rows are cut into halves. After the
second call the two sums are joined, cut again, and each weight's two layers laid one on the other.
-/
module

public import proofs.«01_k».proof.Proof.BigValue
public import Idealize.ShloMosaic.Lib.Pipeline.Regions

@[expose] public section

noncomputable section

open Idealize.ShloMosaic Idealize.ShloMosaic.TcCoe Idealize.SL.Sem

namespace Cert.BigGradsIdeal.RefValue

open Cert.BigGradsIdeal Cert.BigGradsIdeal.Gen

/-- The first sixteen pieces that one device packs, for the four chips: the ten weights of a layer, and six of the next. -/
def early (W : Valuation τ sig (Elt Ideal)) : List ((s : Shape) × (s.Idx → EReal)) :=
  [⟨S4x704x1024, shapeCast S4x704x1024 (shapeCast S4x1024x704 (extractStridedSlice S4x1x1024x704 ![0, 0, 0, 0] (W (Proc.devRef .tc main_arg0)) slices_S4x2x1024x704_S4x1x1024x704_0_0_0_0) shapeCasts_S4x1x1024x704_S4x1024x704) shapeCasts_S4x1024x704_S4x704x1024⟩,
    ⟨S4x704x1024, shapeCast S4x704x1024 (shapeCast S4x1024x704 (extractStridedSlice S4x1x1024x704 ![0, 0, 0, 0] (W (Proc.devRef .tc main_arg1)) slices_S4x2x1024x704_S4x1x1024x704_0_0_0_0) shapeCasts_S4x1x1024x704_S4x1024x704) shapeCasts_S4x1024x704_S4x704x1024⟩,
    ⟨S4x704x1024, shapeCast S4x704x1024 (extractStridedSlice S4x1x704x1024 ![0, 0, 0, 0] (W (Proc.devRef .tc main_arg2)) slices_S4x2x704x1024_S4x1x704x1024_0_0_0_0) shapeCasts_S4x1x704x1024_S4x704x1024⟩,
    ⟨S4x2116x1024, shapeCast S4x2116x1024 (shapeCast S4x1024x2116 (extractStridedSlice S4x1x1024x2116 ![0, 0, 0, 0] (W (Proc.devRef .tc main_arg3)) slices_S4x2x1024x2116_S4x1x1024x2116_0_0_0_0) shapeCasts_S4x1x1024x2116_S4x1024x2116) shapeCasts_S4x1024x2116_S4x2116x1024⟩,
    ⟨S4x256x1024, shapeCast S4x256x1024 (extractStridedSlice S4x1x256x1024 ![0, 0, 0, 0] (W (Proc.devRef .tc main_arg4)) slices_S4x2x256x1024_S4x1x256x1024_0_0_0_0) shapeCasts_S4x1x256x1024_S4x256x1024⟩,
    ⟨S4x192x1024, shapeCast S4x192x1024 (shapeCast S4x768x256 (extractStridedSlice S4x1x768x256 ![0, 0, 0, 0] (W (Proc.devRef .tc main_arg5)) slices_S4x2x768x256_S4x1x768x256_0_0_0_0) shapeCasts_S4x1x768x256_S4x768x256) shapeCasts_S4x768x256_S4x192x1024⟩,
    ⟨S4x256x1024, shapeCast S4x256x1024 (extractStridedSlice S4x1x256x1024 ![0, 0, 0, 0] (W (Proc.devRef .tc main_arg6)) slices_S4x2x256x1024_S4x1x256x1024_0_0_0_0) shapeCasts_S4x1x256x1024_S4x256x1024⟩,
    ⟨S4x704x1024, shapeCast S4x704x1024 (shapeCast S4x1024x704 (extractStridedSlice S4x1x1024x704 ![0, 0, 0, 0] (W (Proc.devRef .tc main_arg7)) slices_S4x2x1024x704_S4x1x1024x704_0_0_0_0) shapeCasts_S4x1x1024x704_S4x1024x704) shapeCasts_S4x1024x704_S4x704x1024⟩,
    ⟨S4x704x1024, shapeCast S4x704x1024 (shapeCast S4x1024x704 (extractStridedSlice S4x1x1024x704 ![0, 0, 0, 0] (W (Proc.devRef .tc main_arg8)) slices_S4x2x1024x704_S4x1x1024x704_0_0_0_0) shapeCasts_S4x1x1024x704_S4x1024x704) shapeCasts_S4x1024x704_S4x704x1024⟩,
    ⟨S4x704x1024, shapeCast S4x704x1024 (extractStridedSlice S4x1x704x1024 ![0, 0, 0, 0] (W (Proc.devRef .tc main_arg9)) slices_S4x2x704x1024_S4x1x704x1024_0_0_0_0) shapeCasts_S4x1x704x1024_S4x704x1024⟩,
    ⟨S4x704x1024, shapeCast S4x704x1024 (shapeCast S4x1024x704 (extractStridedSlice S4x1x1024x704 ![0, 1, 0, 0] (W (Proc.devRef .tc main_arg0)) slices_S4x2x1024x704_S4x1x1024x704_0_1_0_0) shapeCasts_S4x1x1024x704_S4x1024x704) shapeCasts_S4x1024x704_S4x704x1024⟩,
    ⟨S4x704x1024, shapeCast S4x704x1024 (shapeCast S4x1024x704 (extractStridedSlice S4x1x1024x704 ![0, 1, 0, 0] (W (Proc.devRef .tc main_arg1)) slices_S4x2x1024x704_S4x1x1024x704_0_1_0_0) shapeCasts_S4x1x1024x704_S4x1024x704) shapeCasts_S4x1024x704_S4x704x1024⟩,
    ⟨S4x704x1024, shapeCast S4x704x1024 (extractStridedSlice S4x1x704x1024 ![0, 1, 0, 0] (W (Proc.devRef .tc main_arg2)) slices_S4x2x704x1024_S4x1x704x1024_0_1_0_0) shapeCasts_S4x1x704x1024_S4x704x1024⟩,
    ⟨S4x2116x1024, shapeCast S4x2116x1024 (shapeCast S4x1024x2116 (extractStridedSlice S4x1x1024x2116 ![0, 1, 0, 0] (W (Proc.devRef .tc main_arg3)) slices_S4x2x1024x2116_S4x1x1024x2116_0_1_0_0) shapeCasts_S4x1x1024x2116_S4x1024x2116) shapeCasts_S4x1024x2116_S4x2116x1024⟩,
    ⟨S4x256x1024, shapeCast S4x256x1024 (extractStridedSlice S4x1x256x1024 ![0, 1, 0, 0] (W (Proc.devRef .tc main_arg4)) slices_S4x2x256x1024_S4x1x256x1024_0_1_0_0) shapeCasts_S4x1x256x1024_S4x256x1024⟩,
    ⟨S4x192x1024, shapeCast S4x192x1024 (shapeCast S4x768x256 (extractStridedSlice S4x1x768x256 ![0, 1, 0, 0] (W (Proc.devRef .tc main_arg5)) slices_S4x2x768x256_S4x1x768x256_0_1_0_0) shapeCasts_S4x1x768x256_S4x768x256) shapeCasts_S4x768x256_S4x192x1024⟩]

/-- The last four pieces, and the filling. -/
def late (W : Valuation τ sig (Elt Ideal)) : List ((s : Shape) × (s.Idx → EReal)) :=
  [⟨S4x256x1024, shapeCast S4x256x1024 (extractStridedSlice S4x1x256x1024 ![0, 1, 0, 0] (W (Proc.devRef .tc main_arg6)) slices_S4x2x256x1024_S4x1x256x1024_0_1_0_0) shapeCasts_S4x1x256x1024_S4x256x1024⟩,
    ⟨S4x704x1024, shapeCast S4x704x1024 (shapeCast S4x1024x704 (extractStridedSlice S4x1x1024x704 ![0, 1, 0, 0] (W (Proc.devRef .tc main_arg7)) slices_S4x2x1024x704_S4x1x1024x704_0_1_0_0) shapeCasts_S4x1x1024x704_S4x1024x704) shapeCasts_S4x1024x704_S4x704x1024⟩,
    ⟨S4x704x1024, shapeCast S4x704x1024 (shapeCast S4x1024x704 (extractStridedSlice S4x1x1024x704 ![0, 1, 0, 0] (W (Proc.devRef .tc main_arg8)) slices_S4x2x1024x704_S4x1x1024x704_0_1_0_0) shapeCasts_S4x1x1024x704_S4x1024x704) shapeCasts_S4x1024x704_S4x704x1024⟩,
    ⟨S4x704x1024, shapeCast S4x704x1024 (extractStridedSlice S4x1x704x1024 ![0, 1, 0, 0] (W (Proc.devRef .tc main_arg9)) slices_S4x2x704x1024_S4x1x704x1024_0_1_0_0) shapeCasts_S4x1x704x1024_S4x704x1024⟩,
    ⟨S4x24x1024, broadcastInDim S4x24x1024 ![] bcast_S_S4x24x1024 (constant (F := Ideal) S_ .bf16 0x0000#16)⟩]

/-- The packed pieces of the four chips. -/
def packed (W : Valuation τ sig (Elt Ideal)) : FVec Ideal S4x14112x1024 .bf16 :=
  concatenate S4x14112x1024 1 [⟨S4x11720x1024, concatenate S4x11720x1024 1 (early W) concatenates_S4x704x1024_S4x704x1024_S4x704x1024_S4x2116x1024_S4x256x1024_S4x192x1024_S4x256x1024_S4x704x1024_S4x704x1024_S4x704x1024_S4x704x1024_S4x704x1024_S4x704x1024_S4x2116x1024_S4x256x1024_S4x192x1024_S4x11720x1024_d1⟩,
    ⟨S4x2392x1024, concatenate S4x2392x1024 1 (late W) concatenates_S4x256x1024_S4x704x1024_S4x704x1024_S4x704x1024_S4x24x1024_S4x2392x1024_d1⟩] concatenates_S4x11720x1024_S4x2392x1024_S4x14112x1024_d1

theorem lines_packed (W : Valuation τ sig (Elt Ideal)) : StableHlo.after hostOps0 W (Proc.devRef .tc main_v56)
    = shapeCast S4x2x7056x1024 (packed W) shapeCasts_S4x14112x1024_S4x2x7056x1024 := by
  after_results_simp
  all_goals rfl

theorem lines_first (W : Valuation τ sig (Elt Ideal)) : StableHlo.after hostOps0 W (Proc.devRef .tc main_v58)
    = shapeCast S4x7056x1024 (extractStridedSlice S4x1x7056x1024 ![0, 0, 0, 0]
        (shapeCast S4x2x7056x1024 (packed W) shapeCasts_S4x14112x1024_S4x2x7056x1024) slices_S4x2x7056x1024_S4x1x7056x1024_0_0_0_0)
      shapeCasts_S4x1x7056x1024_S4x7056x1024 := by
  after_results_simp
  all_goals rfl

theorem lines_second (W : Valuation τ sig (Elt Ideal)) : StableHlo.after hostOps1 W (Proc.devRef .tc main_v61)
    = shapeCast S4x7056x1024 (extractStridedSlice S4x1x7056x1024 ![0, 1, 0, 0]
        (W (Proc.devRef .tc main_v56)) slices_S4x2x7056x1024_S4x1x7056x1024_0_1_0_0)
      shapeCasts_S4x1x7056x1024_S4x7056x1024 := by
  after_results_simp
  all_goals rfl

/-- The two halves, one under the other. -/
def joined (x y : FVec Ideal S7056x1024 .f32) : FVec Ideal S14112x1024 .f32 :=
  concatenate S14112x1024 0 [⟨S7056x1024, x⟩, ⟨S7056x1024, y⟩] concatenates_S7056x1024_S7056x1024_S14112x1024_d0

theorem lines_ffn1_wg (W : Valuation τ sig (Elt Ideal)) : StableHlo.after hostOps2 W (Proc.devRef .tc main_v98)
    = Cert.BigValue.stack (shapeCast S1024x704 (extractStridedSlice S704x1024 ![0, 0] (joined (W (Proc.devRef .tc main_v59)) (W (Proc.devRef .tc main_v62))) slices_S14112x1024_S704x1024_0_0) shapeCasts_S704x1024_S1024x704)
      (shapeCast S1024x704 (extractStridedSlice S704x1024 ![7044, 0] (joined (W (Proc.devRef .tc main_v59)) (W (Proc.devRef .tc main_v62))) slices_S14112x1024_S704x1024_7044_0) shapeCasts_S704x1024_S1024x704)
      bcast_S1024x704_S1x1024x704_1_2 concatenates_S1x1024x704_S1x1024x704_S2x1024x704_d0 := by
  after_results_simp
  all_goals rfl

theorem lines_ffn1_wu (W : Valuation τ sig (Elt Ideal)) : StableHlo.after hostOps2 W (Proc.devRef .tc main_v101)
    = Cert.BigValue.stack (shapeCast S1024x704 (extractStridedSlice S704x1024 ![704, 0] (joined (W (Proc.devRef .tc main_v59)) (W (Proc.devRef .tc main_v62))) slices_S14112x1024_S704x1024_704_0) shapeCasts_S704x1024_S1024x704)
      (shapeCast S1024x704 (extractStridedSlice S704x1024 ![7748, 0] (joined (W (Proc.devRef .tc main_v59)) (W (Proc.devRef .tc main_v62))) slices_S14112x1024_S704x1024_7748_0) shapeCasts_S704x1024_S1024x704)
      bcast_S1024x704_S1x1024x704_1_2 concatenates_S1x1024x704_S1x1024x704_S2x1024x704_d0 := by
  after_results_simp
  all_goals rfl

theorem lines_ffn1_wd (W : Valuation τ sig (Elt Ideal)) : StableHlo.after hostOps2 W (Proc.devRef .tc main_v104)
    = Cert.BigValue.stack (extractStridedSlice S704x1024 ![1408, 0] (joined (W (Proc.devRef .tc main_v59)) (W (Proc.devRef .tc main_v62))) slices_S14112x1024_S704x1024_1408_0)
      (extractStridedSlice S704x1024 ![8452, 0] (joined (W (Proc.devRef .tc main_v59)) (W (Proc.devRef .tc main_v62))) slices_S14112x1024_S704x1024_8452_0)
      bcast_S704x1024_S1x704x1024_1_2 concatenates_S1x704x1024_S1x704x1024_S2x704x1024_d0 := by
  after_results_simp
  all_goals rfl

theorem lines_w_in (W : Valuation τ sig (Elt Ideal)) : StableHlo.after hostOps2 W (Proc.devRef .tc main_v107)
    = Cert.BigValue.stack (shapeCast S1024x2116 (extractStridedSlice S2116x1024 ![2112, 0] (joined (W (Proc.devRef .tc main_v59)) (W (Proc.devRef .tc main_v62))) slices_S14112x1024_S2116x1024_2112_0) shapeCasts_S2116x1024_S1024x2116)
      (shapeCast S1024x2116 (extractStridedSlice S2116x1024 ![9156, 0] (joined (W (Proc.devRef .tc main_v59)) (W (Proc.devRef .tc main_v62))) slices_S14112x1024_S2116x1024_9156_0) shapeCasts_S2116x1024_S1024x2116)
      bcast_S1024x2116_S1x1024x2116_1_2 concatenates_S1x1024x2116_S1x1024x2116_S2x1024x2116_d0 := by
  after_results_simp
  all_goals rfl

theorem lines_w_a (W : Valuation τ sig (Elt Ideal)) : StableHlo.after hostOps2 W (Proc.devRef .tc main_v110)
    = Cert.BigValue.stack (extractStridedSlice S256x1024 ![4228, 0] (joined (W (Proc.devRef .tc main_v59)) (W (Proc.devRef .tc main_v62))) slices_S14112x1024_S256x1024_4228_0)
      (extractStridedSlice S256x1024 ![11272, 0] (joined (W (Proc.devRef .tc main_v59)) (W (Proc.devRef .tc main_v62))) slices_S14112x1024_S256x1024_11272_0)
      bcast_S256x1024_S1x256x1024_1_2 concatenates_S1x256x1024_S1x256x1024_S2x256x1024_d0 := by
  after_results_simp
  all_goals rfl

theorem lines_w_b (W : Valuation τ sig (Elt Ideal)) : StableHlo.after hostOps2 W (Proc.devRef .tc main_v113)
    = Cert.BigValue.stack (shapeCast S768x256 (extractStridedSlice S192x1024 ![4484, 0] (joined (W (Proc.devRef .tc main_v59)) (W (Proc.devRef .tc main_v62))) slices_S14112x1024_S192x1024_4484_0) shapeCasts_S192x1024_S768x256)
      (shapeCast S768x256 (extractStridedSlice S192x1024 ![11528, 0] (joined (W (Proc.devRef .tc main_v59)) (W (Proc.devRef .tc main_v62))) slices_S14112x1024_S192x1024_11528_0) shapeCasts_S192x1024_S768x256)
      bcast_S768x256_S1x768x256_1_2 concatenates_S1x768x256_S1x768x256_S2x768x256_d0 := by
  after_results_simp
  all_goals rfl

theorem lines_w_o (W : Valuation τ sig (Elt Ideal)) : StableHlo.after hostOps2 W (Proc.devRef .tc main_v116)
    = Cert.BigValue.stack (extractStridedSlice S256x1024 ![4676, 0] (joined (W (Proc.devRef .tc main_v59)) (W (Proc.devRef .tc main_v62))) slices_S14112x1024_S256x1024_4676_0)
      (extractStridedSlice S256x1024 ![11720, 0] (joined (W (Proc.devRef .tc main_v59)) (W (Proc.devRef .tc main_v62))) slices_S14112x1024_S256x1024_11720_0)
      bcast_S256x1024_S1x256x1024_1_2 concatenates_S1x256x1024_S1x256x1024_S2x256x1024_d0 := by
  after_results_simp
  all_goals rfl

theorem lines_ffn2_wg (W : Valuation τ sig (Elt Ideal)) : StableHlo.after hostOps2 W (Proc.devRef .tc main_v119)
    = Cert.BigValue.stack (shapeCast S1024x704 (extractStridedSlice S704x1024 ![4932, 0] (joined (W (Proc.devRef .tc main_v59)) (W (Proc.devRef .tc main_v62))) slices_S14112x1024_S704x1024_4932_0) shapeCasts_S704x1024_S1024x704)
      (shapeCast S1024x704 (extractStridedSlice S704x1024 ![11976, 0] (joined (W (Proc.devRef .tc main_v59)) (W (Proc.devRef .tc main_v62))) slices_S14112x1024_S704x1024_11976_0) shapeCasts_S704x1024_S1024x704)
      bcast_S1024x704_S1x1024x704_1_2 concatenates_S1x1024x704_S1x1024x704_S2x1024x704_d0 := by
  after_results_simp
  all_goals rfl

theorem lines_ffn2_wu (W : Valuation τ sig (Elt Ideal)) : StableHlo.after hostOps2 W (Proc.devRef .tc main_v122)
    = Cert.BigValue.stack (shapeCast S1024x704 (extractStridedSlice S704x1024 ![5636, 0] (joined (W (Proc.devRef .tc main_v59)) (W (Proc.devRef .tc main_v62))) slices_S14112x1024_S704x1024_5636_0) shapeCasts_S704x1024_S1024x704)
      (shapeCast S1024x704 (extractStridedSlice S704x1024 ![12680, 0] (joined (W (Proc.devRef .tc main_v59)) (W (Proc.devRef .tc main_v62))) slices_S14112x1024_S704x1024_12680_0) shapeCasts_S704x1024_S1024x704)
      bcast_S1024x704_S1x1024x704_1_2 concatenates_S1x1024x704_S1x1024x704_S2x1024x704_d0 := by
  after_results_simp
  all_goals rfl

theorem lines_ffn2_wd (W : Valuation τ sig (Elt Ideal)) : StableHlo.after hostOps2 W (Proc.devRef .tc main_v125)
    = Cert.BigValue.stack (extractStridedSlice S704x1024 ![6340, 0] (joined (W (Proc.devRef .tc main_v59)) (W (Proc.devRef .tc main_v62))) slices_S14112x1024_S704x1024_6340_0)
      (extractStridedSlice S704x1024 ![13384, 0] (joined (W (Proc.devRef .tc main_v59)) (W (Proc.devRef .tc main_v62))) slices_S14112x1024_S704x1024_13384_0)
      bcast_S704x1024_S1x704x1024_1_2 concatenates_S1x704x1024_S1x704x1024_S2x704x1024_d0 := by
  after_results_simp
  all_goals rfl

end Cert.BigGradsIdeal.RefValue

end
-- ==== Proof.BigSums.lean ====
/-
# The sums of the big gradients

A row of the joined sums is the sum over the chips of what they packed there. Each weight's two layers are therefore the
sums over the chips of that weight's gradients.
-/
module

public import proofs.«01_k».proof.Proof.BigLines

@[expose] public section

noncomputable section

open Idealize.ShloMosaic Idealize.ShloMosaic.TcCoe Idealize.SL.Sem

namespace Cert.BigGradsIdeal.RefValue

open Cert.BigGradsIdeal Cert.BigGradsIdeal.Gen

/-- From row `o` on, the sums are those of one packed piece over the chips. -/
def Lies (t : FVec Ideal S14112x1024 .f32) (o : ℕ) {n : ℕ} (x : (⟨3, ![4, n, 1024]⟩ : Shape).Idx → EReal) : Prop :=
  ∀ (p : Fin 14112) (q : Fin n) (k : Fin 1024), p.val = o + q.val → t (ix2 p k) = ∑ d : Fin 4, (x (ix3 d q k) : EReal)

/-- A layer's gradient that was packed as it is. -/
theorem kept {t : FVec Ideal S14112x1024 .f32} {o n : ℕ} (x : (⟨4, ![4, 2, n, 1024]⟩ : Shape).Idx → EReal) (l : Fin 2)
    (hs : (⟨4, ![4, 2, n, 1024]⟩ : Shape).Slices ![0, l.val, 0, 0] ⟨4, ![4, 1, n, 1024]⟩)
    (hc : (⟨4, ![4, 1, n, 1024]⟩ : Shape).ShapeCasts ⟨3, ![4, n, 1024]⟩) (ho : o + n ≤ 14112)
    (h : Lies t o (shapeCast ⟨3, ![4, n, 1024]⟩ (extractStridedSlice ⟨4, ![4, 1, n, 1024]⟩ ![0, l.val, 0, 0] x hs) hc))
    (hl : S14112x1024.Slices ![o, 0] ⟨2, ![n, 1024]⟩) (a : Fin n) (b : Fin 1024) :
    extractStridedSlice ⟨2, ![n, 1024]⟩ ![o, 0] t hl (ix2 a b) = ∑ d : Fin 4, (x (ix4 d l a b) : EReal) := by
  have := a.isLt
  refine (extractStridedSlice_apply _ t hl _ (ix2 (⟨o + a.val, by omega⟩ : Fin 14112) b) fun i => ?_).trans
    ((h _ a b rfl).trans (Finset.sum_congr rfl fun d _ => Cert.BigValue.plain x l hs hc d a b))
  match i with
  | ⟨0, _⟩ => rfl
  | ⟨1, _⟩ => exact (Nat.zero_add _).symm

/-- A layer's gradient that was laid in other rows to be packed. -/
theorem turned {t : FVec Ideal S14112x1024 .f32} {o n r w : ℕ} (x : (⟨4, ![4, 2, r, w]⟩ : Shape).Idx → EReal) (l : Fin 2)
    (hs : (⟨4, ![4, 2, r, w]⟩ : Shape).Slices ![0, l.val, 0, 0] ⟨4, ![4, 1, r, w]⟩)
    (hc : (⟨4, ![4, 1, r, w]⟩ : Shape).ShapeCasts ⟨3, ![4, r, w]⟩) (hc' : (⟨3, ![4, r, w]⟩ : Shape).ShapeCasts ⟨3, ![4, n, 1024]⟩)
    (ho : o + n ≤ 14112) (hn : n * 1024 = r * w)
    (h : Lies t o (shapeCast ⟨3, ![4, n, 1024]⟩ (shapeCast ⟨3, ![4, r, w]⟩
      (extractStridedSlice ⟨4, ![4, 1, r, w]⟩ ![0, l.val, 0, 0] x hs) hc) hc'))
    (hl : S14112x1024.Slices ![o, 0] ⟨2, ![n, 1024]⟩) (hr : (⟨2, ![n, 1024]⟩ : Shape).ShapeCasts ⟨2, ![r, w]⟩) (a : Fin r) (b : Fin w) :
    shapeCast ⟨2, ![r, w]⟩ (extractStridedSlice ⟨2, ![n, 1024]⟩ ![o, 0] t hl) hr (ix2 a b)
      = ∑ d : Fin 4, (x (ix4 d l a b) : EReal) := by
  have hb := b.isLt
  have ha : a.val * w + w ≤ r * w := by
    rw [← Nat.succ_mul]
    exact Nat.mul_le_mul_right _ a.isLt
  have hq : (a.val * w + b.val) / 1024 < n := by omega
  have hk : (a.val * w + b.val) % 1024 < 1024 := by omega
  have e : (a.val * w + b.val) / 1024 * 1024 + (a.val * w + b.val) % 1024 = a.val * w + b.val := by omega
  refine (shapeCast_apply _ hr _ (ix2 (⟨(a.val * w + b.val) / 1024, hq⟩ : Fin n) (⟨(a.val * w + b.val) % 1024, hk⟩ : Fin 1024)) ?_).trans
    ((extractStridedSlice_apply _ t hl _ (ix2 (⟨o + (a.val * w + b.val) / 1024, by omega⟩ : Fin 14112)
      (⟨(a.val * w + b.val) % 1024, hk⟩ : Fin 1024)) fun i => ?_).trans
        ((h _ ⟨_, hq⟩ ⟨_, hk⟩ rfl).trans (Finset.sum_congr rfl fun d _ => Cert.BigValue.relaid x l hs hc hc' hn d _ _ a b e)))
  · rw [Shape.rowMajor_val_two, Shape.rowMajor_val_two]
    exact e
  · match i with
    | ⟨0, _⟩ => rfl
    | ⟨1, _⟩ => exact (Nat.zero_add _).symm

/-- One core's half of the packed rows. -/
theorem half (x : S4x14112x1024.Idx → EReal) (l : Fin 2) (hs : S4x2x7056x1024.Slices ![0, l.val, 0, 0] S4x1x7056x1024)
    (d : Fin 4) (r : Fin 7056) (k : Fin 1024) (p : Fin 14112) (hp : p.val = l.val * 7056 + r.val) :
    shapeCast S4x7056x1024 (extractStridedSlice S4x1x7056x1024 ![0, l.val, 0, 0]
        (shapeCast S4x2x7056x1024 x shapeCasts_S4x14112x1024_S4x2x7056x1024) hs)
      shapeCasts_S4x1x7056x1024_S4x7056x1024 (ix3 d r k) = x (ix3 d p k) := by
  refine (Cert.BigValue.plain _ l hs _ d r k).trans (shapeCast_apply _ _ _ (ix3 d p k) ?_)
  rw [Shape.rowMajor_val_three, Shape.rowMajor_val_four]
  show (d.val * 14112 + p.val) * 1024 + k.val = ((d.val * 2 + l.val) * 7056 + r.val) * 1024 + k.val
  omega

variable (m : (ℓ : Loc nD τ sig) → Buf (Elt Ideal) ℓ) (ρ : Dev nD → PrngReg)

/-- What the first call leaves stays until the last lines. -/
theorem first_sum (c : Dev nD) : W4 m ρ c (Proc.devRef .tc main_v59) = chips (W1 m ρ c (Proc.devRef .tc main_v58)) :=
  (W4_of_ne m ρ c main_v59 (by decide)).trans ((W3_of m ρ c main_v59 (by decide)).trans
    ((W2_arr m ρ c 1).trans (final0 (V1 m ρ) c)))

/-- The second call reads the packed parts as the first lines left them. -/
theorem second_sum (c : Dev nD) : W4 m ρ c (Proc.devRef .tc main_v62) = chips (W3 m ρ c (Proc.devRef .tc main_v61)) :=
  (W4_arr m ρ c 1).trans (final1 (V3 m ρ) c)

/-- A row of a half's sum is the sum over the chips of a packed row. -/
theorem chips_half {x : FVec Ideal S4x7056x1024 .bf16} {y : FVec Ideal S4x14112x1024 .bf16} (r : Fin 7056) (p : Fin 14112) (k : Fin 1024)
    (h : ∀ d : Fin 4, x (ix3 d r k) = y (ix3 d p k)) : chips x (ix2 r k) = ∑ d : Fin 4, (y (ix3 d p k) : EReal) :=
  Finset.sum_congr rfl fun d _ => h d

/-- The joined sums. -/
def whole (c : Dev nD) : FVec Ideal S14112x1024 .f32 :=
  joined (W4 m ρ c (Proc.devRef .tc main_v59)) (W4 m ρ c (Proc.devRef .tc main_v62))

/-- A row of the joined sums is the sum over the chips of what they packed there. -/
theorem total (c : Dev nD) (p : Fin 14112) (k : Fin 1024) :
    whole m ρ c (ix2 p k) = ∑ d : Fin 4, (packed (W0 m ρ c) (ix3 d p k) : EReal) := by
  have hp := p.isLt
  unfold whole joined
  by_cases h : p.val < 7056
  · refine (concatenate_pair_apply_left (s₁ := S7056x1024) (s₂ := S7056x1024) 0 _ _ _ (ix2 p k) rfl (ix2 (⟨p.val, h⟩ : Fin 7056) k) (fun b => ?_)).trans ?_
    · match b with
      | ⟨0, _⟩ => rfl
      | ⟨1, _⟩ => rfl
    · refine (congrFun (first_sum m ρ c) _).trans (chips_half _ p k fun d => ?_)
      exact (congrFun (lines_first (W0 m ρ c)) _).trans (half (packed (W0 m ρ c)) 0 _ d _ k p (by show p.val = 0 * 7056 + p.val; omega))
  · refine (concatenate_pair_apply_right (s₁ := S7056x1024) (s₂ := S7056x1024) 0 _ _ _ (ix2 p k) rfl rfl (ix2 (⟨p.val - 7056, by omega⟩ : Fin 7056) k) (fun b hb => ?_) ?_).trans ?_
    · match b with
      | ⟨0, _⟩ => exact absurd rfl hb
      | ⟨1, _⟩ => rfl
    · show (p.val - 7056) + 7056 = p.val
      omega
    · refine (congrFun (second_sum m ρ c) _).trans (chips_half _ p k fun d => ?_)
      refine (congrFun (lines_second (W2 m ρ c)) _).trans ?_
      rw [show W2 m ρ c (Proc.devRef .tc main_v56) = _ from (W2_of m ρ c main_v56 (by decide)).trans (lines_packed (W0 m ρ c))]
      exact half (packed (W0 m ρ c)) 1 _ d _ k p (by show p.val = 1 * 7056 + (p.val - 7056); omega)

/-- How many rows a piece takes. -/
def tall (s : Shape) : ℕ := if h : s.rank = 3 then s.size ((1 : Fin 3).cast h.symm) else 0

/-- The shapes of the first sixteen pieces. -/
def shapes : List Shape :=
  [S4x704x1024, S4x704x1024, S4x704x1024, S4x2116x1024, S4x256x1024, S4x192x1024, S4x256x1024, S4x704x1024, S4x704x1024, S4x704x1024,
    S4x704x1024, S4x704x1024, S4x704x1024, S4x2116x1024, S4x256x1024, S4x192x1024]

/-- The shapes of the last pieces. -/
def shapes' : List Shape := [S4x256x1024, S4x704x1024, S4x704x1024, S4x704x1024, S4x24x1024]

/-- How many rows the pieces before the `k`-th take. -/
def before (l : List Shape) (k : ℕ) : ℕ := ((l.take k).map tall).sum

/-- Where one of the first sixteen pieces lies. -/
theorem lies_early (c : Dev nD) (k : ℕ) (hk : k < (early (W0 m ρ c)).length) {n : ℕ} (x : (⟨3, ![4, n, 1024]⟩ : Shape).Idx → EReal)
    (hx : (early (W0 m ρ c))[k] = ⟨⟨3, ![4, n, 1024]⟩, x⟩) (o : ℕ) (ho : before shapes k = o) (hn : o + n ≤ 11720) :
    Lies (whole m ρ c) o x := by
  intro p q w hp
  have hq := q.isLt
  refine (total m ρ c p w).trans (Finset.sum_congr rfl fun d _ => ?_)
  unfold packed
  refine (concatenate_pair_apply_left (s₁ := S4x11720x1024) (s₂ := S4x2392x1024) 1 _ _ _ (ix3 d p w) rfl (ix3 d (⟨p.val, by omega⟩ : Fin 11720) w) (fun b => ?_)).trans
    (concatenate_apply_piece (t := S4x11720x1024) 1 (early (W0 m ρ c)) _ _ k hk _ x hx rfl o
      ((congrArg (fun l : List Shape => (l.map tall).sum) (by rw [List.map_take]; rfl)).trans ho) (ix3 d q w) (fun b hb => ?_) ?_)
  · match b with
    | ⟨0, _⟩ => rfl
    | ⟨1, _⟩ => rfl
    | ⟨2, _⟩ => rfl
  · match b with
    | ⟨0, _⟩ => rfl
    | ⟨1, _⟩ => exact absurd rfl hb
    | ⟨2, _⟩ => rfl
  · exact hp.symm

/-- Where one of the last pieces lies. -/
theorem lies_late (c : Dev nD) (k : ℕ) (hk : k < (late (W0 m ρ c)).length) {n : ℕ} (x : (⟨3, ![4, n, 1024]⟩ : Shape).Idx → EReal)
    (hx : (late (W0 m ρ c))[k] = ⟨⟨3, ![4, n, 1024]⟩, x⟩) (o : ℕ) (ho : 11720 + before shapes' k = o) (hn : o + n ≤ 14112) :
    Lies (whole m ρ c) o x := by
  intro p q w hp
  have hq := q.isLt
  refine (total m ρ c p w).trans (Finset.sum_congr rfl fun d _ => ?_)
  unfold packed
  refine (concatenate_pair_apply_right (s₁ := S4x11720x1024) (s₂ := S4x2392x1024) 1 _ _ _ (ix3 d p w) rfl rfl (ix3 d (⟨p.val - 11720, by omega⟩ : Fin 2392) w) (fun b hb => ?_) ?_).trans
    (concatenate_apply_piece (t := S4x2392x1024) 1 (late (W0 m ρ c)) _ _ k hk _ x hx rfl (before shapes' k)
      (congrArg (fun l : List Shape => (l.map tall).sum) (by rw [List.map_take]; rfl)) (ix3 d q w) (fun b hb => ?_) ?_)
  · match b with
    | ⟨0, _⟩ => rfl
    | ⟨1, _⟩ => exact absurd rfl hb
    | ⟨2, _⟩ => rfl
  · show (p.val - 11720) + 11720 = p.val
    omega
  · match b with
    | ⟨0, _⟩ => rfl
    | ⟨1, _⟩ => exact absurd rfl hb
    | ⟨2, _⟩ => rfl
  · show before shapes' k + q.val = p.val - 11720
    omega

theorem ffn1_wg_eq (c : Dev nD) : W5 m ρ c (Proc.devRef .tc main_v98) = Cert.BigValue.sums (m ((c : Thread nD τ).loc main_arg0)) :=
  (lines_ffn1_wg (W4 m ρ c)).trans (Cert.BigValue.stack_eq _ _ _ _ _
    (turned _ 0 _ _ _ (by decide) (by decide) (lies_early m ρ c 0 (by show 0 < 16; decide) _ rfl 0 (by decide +kernel) (by decide)) _ _)
    (turned _ 1 _ _ _ (by decide) (by decide) (lies_early m ρ c 10 (by show 10 < 16; decide) _ rfl 7044 (by decide +kernel) (by decide)) _ _))

theorem ffn1_wu_eq (c : Dev nD) : W5 m ρ c (Proc.devRef .tc main_v101) = Cert.BigValue.sums (m ((c : Thread nD τ).loc main_arg1)) :=
  (lines_ffn1_wu (W4 m ρ c)).trans (Cert.BigValue.stack_eq _ _ _ _ _
    (turned _ 0 _ _ _ (by decide) (by decide) (lies_early m ρ c 1 (by show 1 < 16; decide) _ rfl 704 (by decide +kernel) (by decide)) _ _)
    (turned _ 1 _ _ _ (by decide) (by decide) (lies_early m ρ c 11 (by show 11 < 16; decide) _ rfl 7748 (by decide +kernel) (by decide)) _ _))

theorem ffn1_wd_eq (c : Dev nD) : W5 m ρ c (Proc.devRef .tc main_v104) = Cert.BigValue.sums (m ((c : Thread nD τ).loc main_arg2)) :=
  (lines_ffn1_wd (W4 m ρ c)).trans (Cert.BigValue.stack_eq _ _ _ _ _
    (kept _ 0 _ _ (by decide) (lies_early m ρ c 2 (by show 2 < 16; decide) _ rfl 1408 (by decide +kernel) (by decide)) _)
    (kept _ 1 _ _ (by decide) (lies_early m ρ c 12 (by show 12 < 16; decide) _ rfl 8452 (by decide +kernel) (by decide)) _))

theorem w_in_eq (c : Dev nD) : W5 m ρ c (Proc.devRef .tc main_v107) = Cert.BigValue.sums (m ((c : Thread nD τ).loc main_arg3)) :=
  (lines_w_in (W4 m ρ c)).trans (Cert.BigValue.stack_eq _ _ _ _ _
    (turned _ 0 _ _ _ (by decide) (by decide) (lies_early m ρ c 3 (by show 3 < 16; decide) _ rfl 2112 (by decide +kernel) (by decide)) _ _)
    (turned _ 1 _ _ _ (by decide) (by decide) (lies_early m ρ c 13 (by show 13 < 16; decide) _ rfl 9156 (by decide +kernel) (by decide)) _ _))

theorem w_a_eq (c : Dev nD) : W5 m ρ c (Proc.devRef .tc main_v110) = Cert.BigValue.sums (m ((c : Thread nD τ).loc main_arg4)) :=
  (lines_w_a (W4 m ρ c)).trans (Cert.BigValue.stack_eq _ _ _ _ _
    (kept _ 0 _ _ (by decide) (lies_early m ρ c 4 (by show 4 < 16; decide) _ rfl 4228 (by decide +kernel) (by decide)) _)
    (kept _ 1 _ _ (by decide) (lies_early m ρ c 14 (by show 14 < 16; decide) _ rfl 11272 (by decide +kernel) (by decide)) _))

theorem w_b_eq (c : Dev nD) : W5 m ρ c (Proc.devRef .tc main_v113) = Cert.BigValue.sums (m ((c : Thread nD τ).loc main_arg5)) :=
  (lines_w_b (W4 m ρ c)).trans (Cert.BigValue.stack_eq _ _ _ _ _
    (turned _ 0 _ _ _ (by decide) (by decide) (lies_early m ρ c 5 (by show 5 < 16; decide) _ rfl 4484 (by decide +kernel) (by decide)) _ _)
    (turned _ 1 _ _ _ (by decide) (by decide) (lies_early m ρ c 15 (by show 15 < 16; decide) _ rfl 11528 (by decide +kernel) (by decide)) _ _))

theorem w_o_eq (c : Dev nD) : W5 m ρ c (Proc.devRef .tc main_v116) = Cert.BigValue.sums (m ((c : Thread nD τ).loc main_arg6)) :=
  (lines_w_o (W4 m ρ c)).trans (Cert.BigValue.stack_eq _ _ _ _ _
    (kept _ 0 _ _ (by decide) (lies_early m ρ c 6 (by show 6 < 16; decide) _ rfl 4676 (by decide +kernel) (by decide)) _)
    (kept _ 1 _ _ (by decide) (lies_late m ρ c 0 (by show 0 < 5; decide) _ rfl 11720 (by decide +kernel) (by decide)) _))

theorem ffn2_wg_eq (c : Dev nD) : W5 m ρ c (Proc.devRef .tc main_v119) = Cert.BigValue.sums (m ((c : Thread nD τ).loc main_arg7)) :=
  (lines_ffn2_wg (W4 m ρ c)).trans (Cert.BigValue.stack_eq _ _ _ _ _
    (turned _ 0 _ _ _ (by decide) (by decide) (lies_early m ρ c 7 (by show 7 < 16; decide) _ rfl 4932 (by decide +kernel) (by decide)) _ _)
    (turned _ 1 _ _ _ (by decide) (by decide) (lies_late m ρ c 1 (by show 1 < 5; decide) _ rfl 11976 (by decide +kernel) (by decide)) _ _))

theorem ffn2_wu_eq (c : Dev nD) : W5 m ρ c (Proc.devRef .tc main_v122) = Cert.BigValue.sums (m ((c : Thread nD τ).loc main_arg8)) :=
  (lines_ffn2_wu (W4 m ρ c)).trans (Cert.BigValue.stack_eq _ _ _ _ _
    (turned _ 0 _ _ _ (by decide) (by decide) (lies_early m ρ c 8 (by show 8 < 16; decide) _ rfl 5636 (by decide +kernel) (by decide)) _ _)
    (turned _ 1 _ _ _ (by decide) (by decide) (lies_late m ρ c 2 (by show 2 < 5; decide) _ rfl 12680 (by decide +kernel) (by decide)) _ _))

theorem ffn2_wd_eq (c : Dev nD) : W5 m ρ c (Proc.devRef .tc main_v125) = Cert.BigValue.sums (m ((c : Thread nD τ).loc main_arg9)) :=
  (lines_ffn2_wd (W4 m ρ c)).trans (Cert.BigValue.stack_eq _ _ _ _ _
    (kept _ 0 _ _ (by decide) (lies_early m ρ c 9 (by show 9 < 16; decide) _ rfl 6340 (by decide +kernel) (by decide)) _)
    (kept _ 1 _ _ (by decide) (lies_late m ρ c 3 (by show 3 < 5; decide) _ rfl 13384 (by decide +kernel) (by decide)) _))

end Cert.BigGradsIdeal.RefValue

end
-- ==== Proof.BigClaims.lean ====
/-
# The claims of the big gradients

The packed parts of the four chips are summed by two calls and unpacked again. The reference sums each gradient over its
leading axis.
-/
module

public import proofs.«01_k».proof.Defs
public import proofs.«01_k».proof.Proof.BigSums
public import proofs.«01_k».proof.Proof.Gen.BigGradsRefIdeal.Run
public import proofs.«01_k».proof.Proof.Gen.BigGrads.Frame
public import Idealize.ShloMosaic.Lib.Quiescent

@[expose] public section

noncomputable section

open Idealize.ShloMosaic Idealize.ShloMosaic.TcCoe Idealize.SL.Sem

namespace Cert.BigValue

/-- The reference widens each gradient, and its sum starts at zero. -/
theorem host_sums {r w : ℕ} {u : Shape} (x : FVec Ideal ⟨4, ![4, 2, r, w]⟩ .bf16) (hw : FTy.bf16.bits < FTy.f32.bits)
    (h : (⟨4, ![4, 2, r, w]⟩ : Shape).ReducesTo [0] ⟨3, ![2, r, w]⟩) (hu : 0 < u.numel) :
    Host.reduceAdd (extf .f32 x hw) (constant (F := Ideal) u .f32 0x00000000#32) h hu = sums x := by
  funext j
  refine (Ideal.hostReduceAdd_r4_a0 h _ _ j).trans ?_
  have z : (constant (F := Ideal) u .f32 0x00000000#32 (Shape.Idx.first hu) : EReal) = 0 := Ideal.ofBits_zero_f32
  rw [z, zero_add]
  rfl

end Cert.BigValue

namespace Cert.BigGradsIdeal.RefValue

open Cert.BigGradsIdeal Cert.BigGradsIdeal.Gen

/-- The run, with every result a sum over the chips of one argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v98) = Cert.BigValue.sums (m ((c : Thread nD τ).loc main_arg0))
      ∧ r.2.mem ((c : Thread nD τ).loc main_v101) = Cert.BigValue.sums (m ((c : Thread nD τ).loc main_arg1))
      ∧ r.2.mem ((c : Thread nD τ).loc main_v104) = Cert.BigValue.sums (m ((c : Thread nD τ).loc main_arg2))
      ∧ r.2.mem ((c : Thread nD τ).loc main_v107) = Cert.BigValue.sums (m ((c : Thread nD τ).loc main_arg3))
      ∧ r.2.mem ((c : Thread nD τ).loc main_v110) = Cert.BigValue.sums (m ((c : Thread nD τ).loc main_arg4))
      ∧ r.2.mem ((c : Thread nD τ).loc main_v113) = Cert.BigValue.sums (m ((c : Thread nD τ).loc main_arg5))
      ∧ r.2.mem ((c : Thread nD τ).loc main_v116) = Cert.BigValue.sums (m ((c : Thread nD τ).loc main_arg6))
      ∧ r.2.mem ((c : Thread nD τ).loc main_v119) = Cert.BigValue.sums (m ((c : Thread nD τ).loc main_arg7))
      ∧ r.2.mem ((c : Thread nD τ).loc main_v122) = Cert.BigValue.sums (m ((c : Thread nD τ).loc main_arg8))
      ∧ r.2.mem ((c : Thread nD τ).loc main_v125) = Cert.BigValue.sums (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c main_v98 (by decide)).trans (ffn1_wg_eq m ρ c),
      (h c main_v101 (by decide)).trans (ffn1_wu_eq m ρ c),
      (h c main_v104 (by decide)).trans (ffn1_wd_eq m ρ c),
      (h c main_v107 (by decide)).trans (w_in_eq m ρ c),
      (h c main_v110 (by decide)).trans (w_a_eq m ρ c),
      (h c main_v113 (by decide)).trans (w_b_eq m ρ c),
      (h c main_v116 (by decide)).trans (w_o_eq m ρ c),
      (h c main_v119 (by decide)).trans (ffn2_wg_eq m ρ c),
      (h c main_v122 (by decide)).trans (ffn2_wu_eq m ρ c),
      (h c main_v125 (by decide)).trans (ffn2_wd_eq m ρ c),
      (h c main_arg0 (by decide)).trans (W5_main_arg0 m ρ c),
      (h c main_arg1 (by decide)).trans (W5_main_arg1 m ρ c),
      (h c main_arg2 (by decide)).trans (W5_main_arg2 m ρ c),
      (h c main_arg3 (by decide)).trans (W5_main_arg3 m ρ c),
      (h c main_arg4 (by decide)).trans (W5_main_arg4 m ρ c),
      (h c main_arg5 (by decide)).trans (W5_main_arg5 m ρ c),
      (h c main_arg6 (by decide)).trans (W5_main_arg6 m ρ c),
      (h c main_arg7 (by decide)).trans (W5_main_arg7 m ρ c),
      (h c main_arg8 (by decide)).trans (W5_main_arg8 m ρ c),
      (h c main_arg9 (by decide)).trans (W5_main_arg9 m ρ c)⟩)
    (Cert.BigGradsIdeal.Run.run (F := Ideal) m ρ)

end Cert.BigGradsIdeal.RefValue

namespace Cert.BigClaims.BigGrads

open Cert.BigValue Cert.BigGradsIdeal.RefValue

theorem frame_ideal : Cert.quiescent_BigGradsIdeal (hBigGradsIdeal := Cert.BigGradsIdeal.Gen.facts) := fun m ρ _ => Cert.BigGradsIdeal.Gen.frame (F := Ideal) m ρ

theorem frame : Cert.quiescent_BigGrads (hBigGrads := Cert.BigGrads.Gen.facts) := fun m ρ _ => Cert.BigGrads.Gen.frame (F := Bits) m ρ

theorem frame_ref_ideal : Cert.quiescent_BigGradsRefIdeal (hBigGradsRefIdeal := Cert.BigGradsRefIdeal.Gen.facts) := fun m ρ _ =>
  (θ_run _ _ _).mono (fun r h => ⟨fun c => let ⟨_, _, _, _, _, _, _, _, _, _, k⟩ := h c; k, sem_eq_zero_of_no_sems rfl r.2⟩) (Cert.BigGradsRefIdeal.Value.run (F := Ideal) m ρ)

theorem value : Cert.algebraic_BigGradsIdeal_BigGradsRefIdeal (hBigGradsIdeal := Cert.BigGradsIdeal.Gen.facts) (hBigGradsRefIdeal := Cert.BigGradsRefIdeal.Gen.facts) :=
  fun m ρ m' ρ' _ hm => ⟨_, _, _, _, _, _, _, _, _, _, Cert.BigGradsIdeal.RefValue.run m ρ, (θ_run _ _ _).mono
    (fun r h c => let ⟨a0, a1, a2, a3, a4, a5, a6, a7, a8, a9⟩ := hm c; let ⟨d0, d1, d2, d3, d4, d5, d6, d7, d8, d9, k⟩ := h c
      ⟨d0.trans ((host_sums _ _ _ _).trans (congrArg sums a0)),
        d1.trans ((host_sums _ _ _ _).trans (congrArg sums a1)),
        d2.trans ((host_sums _ _ _ _).trans (congrArg sums a2)),
        d3.trans ((host_sums _ _ _ _).trans (congrArg sums a3)),
        d4.trans ((host_sums _ _ _ _).trans (congrArg sums a4)),
        d5.trans ((host_sums _ _ _ _).trans (congrArg sums a5)),
        d6.trans ((host_sums _ _ _ _).trans (congrArg sums a6)),
        d7.trans ((host_sums _ _ _ _).trans (congrArg sums a7)),
        d8.trans ((host_sums _ _ _ _).trans (congrArg sums a8)),
        d9.trans ((host_sums _ _ _ _).trans (congrArg sums a9)), k⟩)
    (Cert.BigGradsRefIdeal.Value.run (F := Ideal) m' ρ')⟩

end Cert.BigClaims.BigGrads

end
-- ==== Proof.ModelValue.lean ====
/-
# The norm and the gradient of the input, row by row

A point of the grid takes a block of rows. Each entry is a formula of its row and of the rows of weights and modulation
given whole to every point; the reference's entry is the same formula.
-/
module

public import proofs.«01_k».proof.Defs
public import proofs.«01_k».proof.Proof.Gen.FfnNormIdeal.Value
public import proofs.«01_k».proof.Proof.Gen.InputGradIdeal.Value
public import proofs.«01_k».proof.Proof.Gen.InputGradRefIdeal.Run
public import Idealize.ShloMosaic.Lib.Pipeline.ValueKit
public import Idealize.ShloMosaic.Lib.Pointwise
public import Idealize.ShloMosaic.Lib.KernelVsHost
public import Idealize.ShloMosaic.PureOps.Ideal

@[expose] public section

noncomputable section

open Idealize.ShloMosaic Idealize.ShloMosaic.TcCoe Idealize.SL.Sem
open Idealize.ShloMosaic.Pipeline (Dat)

namespace Cert.ModelValue

/-- The mean of the squares of a row of 1024 entries, and the small number added to it. -/
def meanSq (x : Fin 1024 → EReal) : EReal :=
  Ideal.div (∑ k, x k * x k) (Ideal.ofBits .f32 0x44800000#32) + Ideal.ofBits .f32 0x358637BD#32

/-- One entry of a row's normalization and modulation: the row `x`, the weights `g`, the offset `b`, the scale `s`. -/
def norm (x g b s : Fin 1024 → EReal) (q : Fin 1024) : EReal :=
  x q * Ideal.rsqrt (meanSq x) * g q * ((1 : EReal) + s q) + b q

/-- The same at every entry of an array. -/
def norms {n : ℕ} (x : FVec Ideal ⟨2, ![n, 1024]⟩ .f32) (g b s : FVec Ideal ⟨2, ![1, 1024]⟩ .f32) : FVec Ideal ⟨2, ![n, 1024]⟩ .bf16 :=
  fun j => norm (fun k => x (ix2 (j 0) k)) (fun k => g (ix2 0 k)) (fun k => b (ix2 0 k)) (fun k => s (ix2 0 k)) (j 1)

/-- The gradient at one entry of a row's normalization and modulation: the row `x`, the gradient `d` of what comes out,
    the weights `g`, the scale `s`, and the gradient `e` that goes past. -/
def normGrad (x d g s : Fin 1024 → EReal) (e : EReal) (q : Fin 1024) : EReal :=
  have b : Fin 1024 → EReal := fun k => d k * ((1 : EReal) + s k) * g k
  have u : EReal := ∑ _k : Fin 1, Ideal.div ((∑ k, x k * b k)
    * (Ideal.ofBits .f32 0xBF000000#32 * Ideal.div (Ideal.rsqrt (meanSq x)) (meanSq x))) (Ideal.ofBits .f32 0x44800000#32)
  e + (b q * Ideal.rsqrt (meanSq x) + x q * u + u * x q)

/-- The same at every entry of an array. -/
def normGrads {n : ℕ} (h d e : FVec Ideal ⟨2, ![n, 1024]⟩ .f32) (g s : FVec Ideal ⟨2, ![1, 1024]⟩ .f32) : FVec Ideal ⟨2, ![n, 1024]⟩ .f32 :=
  fun j => normGrad (fun k => h (ix2 (j 0) k)) (fun k => d (ix2 (j 0) k)) (fun k => g (ix2 0 k)) (fun k => s (ix2 0 k)) (e j) (j 1)

end Cert.ModelValue

namespace Cert.FfnNormIdeal.RefValue

open Cert.FfnNormIdeal Cert.FfnNormIdeal.Gen Cert.FfnNormIdeal.Value Cert.ModelValue

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What a point computes of its blocks. -/
theorem point (x : FVec Ideal S256x1024 .f32) (g b s : FVec Ideal S1x1024 .f32) : k0_pay1 (F := Ideal) x g b s = norms x g b s := by
  funext j
  obtain ⟨p, q, rfl⟩ : ∃ (p : Fin 256) (q : Fin 1024), j = ix2 p q := ⟨j 0, j 1, eq_ix2 j⟩
  unfold k0_pay1
  simp only [pointwise]
  rfl

theorem final (c : Dev nD) : (dats m 0 c).arrAt 4 cfg0.N
    = norms (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = norms (iblk m c 0 t) (iblk m c 1 t) (iblk m c 2 t) (iblk m c 3 t) := by
    rw [← point]
    frame_out
  rw [e]
  refine congr (congr (congr (congr (congrArg norm (funext fun k => ?_)) (funext fun k => ?_)) (funext fun k => ?_)) (funext fun k => ?_)) ?_
  case refine_5 => exact Fin.ext (win0_4.rect_emb_val_of_index_zero t 1 (by rw [(idx t).2.2.2.2]; rfl) y).symm
  all_goals blk_ext! [iblk, V, idx t]

end Cert.FfnNormIdeal.RefValue

namespace Cert.InputGradIdeal.RefValue

open Cert.InputGradIdeal Cert.InputGradIdeal.Gen Cert.InputGradIdeal.Value Cert.ModelValue

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- What a point computes of its blocks. -/
theorem point (h d e : FVec Ideal S256x1024 .f32) (g s : FVec Ideal S1x1024 .f32) :
    k0_pay1 (F := Ideal) h e (k0_pay10 h) (k0_pay18 h d g s) (k0_pay19 h d g s) = normGrads h d e g s := by
  funext j
  obtain ⟨a, b, rfl⟩ : ∃ (a : Fin 256) (b : Fin 1024), j = ix2 a b := ⟨j 0, j 1, eq_ix2 j⟩
  unfold k0_pay1 k0_pay19 k0_pay18 k0_pay17 k0_pay15 k0_pay12 k0_pay10 k0_pay9 k0_pay8
  simp only [pointwise]
  rfl

theorem final (c : Dev nD) : (dats m 0 c).arrAt 6 cfg0.N
    = normGrads (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 6 _ (by decide +kernel) fun t hf y => ?_
  blk_simp
  rw [after0_6]
  have e : (outsAt0 m c t.val t.isLt).1 = normGrads (iblk m c 0 t) (iblk m c 1 t) (iblk m c 2 t) (iblk m c 3 t) (iblk m c 5 t) := by
    rw [← point]
    by_cases h0 : t.val % 16 = 0
    · rw [outsAt0_A m c t h0]
      frame_out
    · rw [outsAt0_B m c t h0]
      frame_out
  rw [e]
  refine congr (congr (congr (congr (congr (congrArg normGrad (funext fun k => ?_)) (funext fun k => ?_)) (funext fun k => ?_))
    (funext fun k => ?_)) ?_) ?_
  case refine_6 => exact Fin.ext (win0_6.rect_emb_val_of_index_zero t 1 (by rw [(idx t).2.2.2.2.2.2]; rfl) y).symm
  all_goals blk_ext! [iblk, V, idx t]

end Cert.InputGradIdeal.RefValue

namespace Cert.InputGradRefIdeal.RefValue

open Cert.InputGradRefIdeal Cert.InputGradRefIdeal.Gen Cert.InputGradRefIdeal.Value Cert.ModelValue

variable (m : (ℓ : Loc nD τ sig) → Buf (Elt Ideal) ℓ)

theorem res (c : Dev nD) : res_out0 m c
    = normGrads (m ((c : Thread nD τ).loc main_arg0)) (m ((c : Thread nD τ).loc main_arg1)) (m ((c : Thread nD τ).loc main_arg2))
        (m ((c : Thread nD τ).loc main_arg3)) (m ((c : Thread nD τ).loc main_arg5)) := by
  funext j
  obtain ⟨a, b, rfl⟩ : ∃ (a : Fin 4096) (b : Fin 1024), j = ix2 a b := ⟨j 0, j 1, eq_ix2 j⟩
  unfold res_out0 res_main_v39
  simp only [pointwise, zero_add (M := EReal)]
  rfl

end Cert.InputGradRefIdeal.RefValue

end
-- ==== Proof.ProductValue.lean ====
/-
# The products, entry by entry

The projections of the feed-forward layer and of the mixers, and the modulation: a point of the grid multiplies a block of
rows by a block of columns over the whole inner axis, so that every entry is the sum over that axis.
-/
module

public import proofs.«01_k».proof.Defs
public import proofs.«01_k».proof.Proof.Gen.FfnGuIdeal.Value
public import proofs.«01_k».proof.Proof.Gen.MixQkvIdeal.Value
public import proofs.«01_k».proof.Proof.Gen.MixZIdeal.Value
public import proofs.«01_k».proof.Proof.Gen.MixBaIdeal.Value
public import proofs.«01_k».proof.Proof.Gen.MixDaIdeal.Value
public import proofs.«01_k».proof.Proof.Gen.MixPgIdeal.Value
public import proofs.«01_k».proof.Proof.Gen.MixWbIdeal.Value
public import proofs.«01_k».proof.Proof.Gen.FfnDownIdeal.Value
public import proofs.«01_k».proof.Proof.Gen.MixOutIdeal.Value
public import proofs.«01_k».proof.Proof.Gen.AdaFwdIdeal.Value
public import Idealize.ShloMosaic.Lib.Pipeline.ValueKit
public import Idealize.ShloMosaic.Lib.Pointwise
public import Idealize.ShloMosaic.Lib.KernelVsHost
public import Idealize.ShloMosaic.PureOps.Ideal

@[expose] public section

noncomputable section

open Idealize.ShloMosaic Idealize.ShloMosaic.TcCoe Idealize.SL.Sem
open Idealize.ShloMosaic.Pipeline (Dat)

namespace Cert.ProductValue

/-- The product of two arrays. -/
def prod {n k w : ℕ} (χ : FTy) (x : FVec Ideal ⟨2, ![n, k]⟩ .bf16) (y : FVec Ideal ⟨2, ![k, w]⟩ .bf16) : FVec Ideal ⟨2, ![n, w]⟩ χ :=
  fun j => ∑ q : Fin k, (x (ix2 (j 0) q) : EReal) * (y (ix2 q (j 1)) : EReal)

/-- Sums over the inner axis are the same when the entries are. -/
theorem prod_congr {k : ℕ} {a b a' b' : Fin k → EReal} (ha : ∀ q, a q = a' q) (hb : ∀ q, b q = b' q) :
    ∑ q, a q * b q = ∑ q, a' q * b' q :=
  Finset.sum_congr rfl fun q _ => congrArg₂ (fun x y : EReal => x * y) (ha q) (hb q)

/-- The product, times a row of factors, added to an array. -/
def gated {n k w : ℕ} (x : FVec Ideal ⟨2, ![n, k]⟩ .bf16) (y : FVec Ideal ⟨2, ![k, w]⟩ .bf16) (h : FVec Ideal ⟨2, ![n, w]⟩ .f32) (g : FVec Ideal ⟨2, ![1, w]⟩ .f32) :
    FVec Ideal ⟨2, ![n, w]⟩ .f32 :=
  fun j => (h j : EReal) + (g (ix2 0 (j 1)) : EReal) * (prod .f32 x y j : EReal)

/-- The product, a row added to each of its rows. -/
def offset {n k w : ℕ} (x : FVec Ideal ⟨2, ![n, k]⟩ .bf16) (y : FVec Ideal ⟨2, ![k, w]⟩ .bf16) (b : FVec Ideal ⟨2, ![1, w]⟩ .f32) : FVec Ideal ⟨2, ![n, w]⟩ .f32 :=
  fun j => (prod .f32 x y j : EReal) + (b (ix2 0 (j 1)) : EReal)

end Cert.ProductValue

namespace Cert.FfnGuIdeal.RefValue

open Cert.FfnGuIdeal Cert.FfnGuIdeal.Gen Cert.FfnGuIdeal.Value Cert.ProductValue

variable (m : (ℓ : Loc nD τ sig) → Buf (Elt Ideal) ℓ)

theorem idx : ∀ t : Fin cfg0.N, win0_0.index t = ![t.val / 11, 0] ∧ win0_1.index t = ![0, t.val % 11] ∧ win0_2.index t = ![t.val / 11, t.val % 11] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.FfnGuIdeal.RefValue

namespace Cert.MixQkvIdeal.RefValue

open Cert.MixQkvIdeal Cert.MixQkvIdeal.Gen Cert.MixQkvIdeal.Value Cert.ProductValue

variable (m : (ℓ : Loc nD τ sig) → Buf (Elt Ideal) ℓ)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixQkvIdeal.RefValue

namespace Cert.MixZIdeal.RefValue

open Cert.MixZIdeal Cert.MixZIdeal.Gen Cert.MixZIdeal.Value Cert.ProductValue

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixZIdeal.RefValue

namespace Cert.MixBaIdeal.RefValue

open Cert.MixBaIdeal Cert.MixBaIdeal.Gen Cert.MixBaIdeal.Value Cert.ProductValue

variable (m : (ℓ : Loc nD τ sig) → Buf (Elt Ideal) ℓ)

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem final (c : Dev nD) : (dats m 0 c).arrAt 2 cfg0.N
    = prod .f32 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixBaIdeal.RefValue

namespace Cert.MixDaIdeal.RefValue

open Cert.MixDaIdeal Cert.MixDaIdeal.Gen Cert.MixDaIdeal.Value Cert.ProductValue

variable (m : (ℓ : Loc nD τ sig) → Buf (Elt Ideal) ℓ)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixDaIdeal.RefValue

namespace Cert.MixPgIdeal.RefValue

open Cert.MixPgIdeal Cert.MixPgIdeal.Gen Cert.MixPgIdeal.Value Cert.ProductValue

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixPgIdeal.RefValue

namespace Cert.MixWbIdeal.RefValue

open Cert.MixWbIdeal Cert.MixWbIdeal.Gen Cert.MixWbIdeal.Value Cert.ProductValue

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem final (c : Dev nD) : (dats m 0 c).arrAt 2 cfg0.N
    = prod .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixWbIdeal.RefValue

namespace Cert.FfnDownIdeal.RefValue

open Cert.FfnDownIdeal Cert.FfnDownIdeal.Gen Cert.FfnDownIdeal.Value Cert.ProductValue

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] :=
  (by decide +kernel : ∀ t : Fin grid0.N, _)

/-- The first result: the product, scaled, added to what goes past it. -/
theorem final_sum (c : Dev nD) : (dats m 0 c).arrAt 4 cfg0.N
    = gated (m ((c : Thread nD τ).loc main_arg0)) (m ((c : Thread nD τ).loc main_arg1)) (m ((c : Thread nD τ).loc main_arg2)) (fun i => (Ideal.ofBits .f32 0x3F000000#32 : EReal) * (m ((c : Thread nD τ).loc main_arg3) i : EReal)) := by
  refine (dats m 0 c).arrAt_eq_of_covers 4 _ (by decide +kernel) fun t hf y => ?_
  blk_simp
  rw [after0_4]
  frame_out
  unfold k0_pay2 k0_pay1
  simp only [pointwise]
  refine congrArg₂ (fun a b : EReal => a + b) ?_ (congrArg₂ (fun a b : EReal => a * b) (congrArg (fun a : EReal => _ * a) ?_)
    ((zero_add (M := EReal) _).trans (prod_congr (fun q => ?_) fun q => ?_)))
  all_goals blk_ext! [iblk, V, idx t]
  rfl

/-- The second result: the product itself. -/
theorem final_prod (c : Dev nD) : (dats m 0 c).arrAt 5 cfg0.N
    = prod .bf16 (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold k0_pay3 k0_pay1
  simp only [pointwise]
  refine (zero_add (M := EReal) _).trans (prod_congr (fun q => ?_) fun q => ?_)
  all_goals blk_ext! [iblk, V, idx t]

end Cert.FfnDownIdeal.RefValue

namespace Cert.MixOutIdeal.RefValue

open Cert.MixOutIdeal Cert.MixOutIdeal.Gen Cert.MixOutIdeal.Value Cert.ProductValue

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] :=
  (by decide +kernel : ∀ t : Fin grid0.N, _)

/-- The first result: the product, scaled, added to what goes past it. -/
theorem final_sum (c : Dev nD) : (dats m 0 c).arrAt 4 cfg0.N
    = gated (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold k0_pay2 k0_pay1
  simp only [pointwise]
  refine congrArg₂ (fun a b : EReal => a + b) ?_ (congrArg₂ (fun a b : EReal => a * b) ?_
    ((zero_add (M := EReal) _).trans (prod_congr (fun q => ?_) fun q => ?_)))
  all_goals blk_ext! [iblk, V, idx t]
  rfl

/-- The second result: the product itself. -/
theorem final_prod (c : Dev nD) : (dats m 0 c).arrAt 5 cfg0.N
    = prod .bf16 (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold k0_pay3 k0_pay1
  simp only [pointwise]
  refine (zero_add (M := EReal) _).trans (prod_congr (fun q => ?_) fun q => ?_)
  all_goals blk_ext! [iblk, V, idx t]

end Cert.MixOutIdeal.RefValue

namespace Cert.AdaFwdIdeal.RefValue

open Cert.AdaFwdIdeal Cert.AdaFwdIdeal.Gen Cert.AdaFwdIdeal.Value Cert.ProductValue

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- Rounding the activations to the narrow format is nothing here. -/
theorem V_left (c : Dev nD) : V m c main_v0 = m ((c : Thread nD τ).loc main_arg0) := rfl

/-- Nor is rounding the weights. -/
theorem V_right (c : Dev nD) : V m c main_v1 = m ((c : Thread nD τ).loc main_arg1) := rfl

theorem final (c : Dev nD) : (dats m 0 c).arrAt 3 cfg0.N
    = offset (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1
  simp only [pointwise]
  refine congrArg₂ (fun a b : EReal => a + b) ((zero_add (M := EReal) _).trans (prod_congr (fun q => ?_) fun q => ?_)) ?_
  · refine Eq.trans ?_ (congrFun (V_left m c) _)
    blk_ext! [iblk, idx t]
  · refine Eq.trans ?_ (congrFun (V_right m c) _)
    blk_ext! [iblk, idx t]
  · blk_ext! [iblk, V, idx t]
    rfl

end Cert.AdaFwdIdeal.RefValue
-- ==== Proof.ModelClaims.lean ====
/-
# The claims of the model's own calls

The norm, the feed-forward layer, the projections of the mixers, their gates, the modulation and the gradient of the input.
Each program has its generated run; the reference's run gives its result as one term of the whole arrays. Read entry by
entry, the two are the same function of the entries.
-/
module

public import proofs.«01_k».proof.Defs
public import proofs.«01_k».proof.Proof.ModelValue
public import proofs.«01_k».proof.Proof.ProductValue
public import proofs.«01_k».proof.Proof.Gen.CSiluIdeal.Value
public import proofs.«01_k».proof.Proof.Gen.CSiluRefIdeal.Run
public import proofs.«01_k».proof.Proof.Gen.CSilu.Frame
public import proofs.«01_k».proof.Proof.Gen.AdaFwdRefIdeal.Run
public import proofs.«01_k».proof.Proof.Gen.AdaFwd.Frame
public import proofs.«01_k».proof.Proof.Gen.FfnNormRefIdeal.Run
public import proofs.«01_k».proof.Proof.Gen.FfnNorm.Frame
public import proofs.«01_k».proof.Proof.Gen.FfnGuRefIdeal.Run
public import proofs.«01_k».proof.Proof.Gen.FfnGu.Frame
public import proofs.«01_k».proof.Proof.Gen.FfnActIdeal.Value
public import proofs.«01_k».proof.Proof.Gen.FfnActRefIdeal.Run
public import proofs.«01_k».proof.Proof.Gen.FfnAct.Frame
public import proofs.«01_k».proof.Proof.Gen.FfnDownRefIdeal.Run
public import proofs.«01_k».proof.Proof.Gen.FfnDown.Frame
public import proofs.«01_k».proof.Proof.Gen.MixQkvRefIdeal.Run
public import proofs.«01_k».proof.Proof.Gen.MixQkv.Frame
public import proofs.«01_k».proof.Proof.Gen.MixZRefIdeal.Run
public import proofs.«01_k».proof.Proof.Gen.MixZ.Frame
public import proofs.«01_k».proof.Proof.Gen.MixBaRefIdeal.Run
public import proofs.«01_k».proof.Proof.Gen.MixBa.Frame
public import proofs.«01_k».proof.Proof.Gen.MixDaRefIdeal.Run
public import proofs.«01_k».proof.Proof.Gen.MixDa.Frame
public import proofs.«01_k».proof.Proof.Gen.MixPgRefIdeal.Run
public import proofs.«01_k».proof.Proof.Gen.MixPg.Frame
public import proofs.«01_k».proof.Proof.Gen.MixWbRefIdeal.Run
public import proofs.«01_k».proof.Proof.Gen.MixWb.Frame
public import proofs.«01_k».proof.Proof.Gen.MixGateIdeal.Value
public import proofs.«01_k».proof.Proof.Gen.MixGateRefIdeal.Run
public import proofs.«01_k».proof.Proof.Gen.MixGate.Frame
public import proofs.«01_k».proof.Proof.Gen.MixOutRefIdeal.Run
public import proofs.«01_k».proof.Proof.Gen.MixOut.Frame
public import proofs.«01_k».proof.Proof.Gen.InputGradRefIdeal.Run
public import proofs.«01_k».proof.Proof.Gen.InputGrad.Frame
public import Idealize.ShloMosaic.Lib.Quiescent

@[expose] public section

noncomputable section

namespace Cert.ModelClaims

open Idealize.ShloMosaic Idealize.ShloMosaic.TcCoe Idealize.SL.Sem Cert.ModelValue Cert.ProductValue

namespace CSilu

theorem frame_ideal : Cert.quiescent_CSiluIdeal (hCSiluIdeal := Cert.CSiluIdeal.Gen.facts) := fun m ρ _ => Cert.CSiluIdeal.Gen.frame (F := Ideal) m ρ

theorem frame : Cert.quiescent_CSilu (hCSilu := Cert.CSilu.Gen.facts) := fun m ρ _ => Cert.CSilu.Gen.frame (F := Bits) m ρ

theorem frame_ref_ideal : Cert.quiescent_CSiluRefIdeal (hCSiluRefIdeal := Cert.CSiluRefIdeal.Gen.facts) := fun m ρ _ =>
  (θ_run _ _ _).mono (fun r h => ⟨fun c => (h c).2, sem_eq_zero_of_no_sems rfl r.2⟩) (Cert.CSiluRefIdeal.Value.run (F := Ideal) m ρ)

theorem value : Cert.algebraic_CSiluIdeal_CSiluRefIdeal (hCSiluIdeal := Cert.CSiluIdeal.Gen.facts) (hCSiluRefIdeal := Cert.CSiluRefIdeal.Gen.facts) :=
  fun m ρ m' ρ' _ hm => ⟨_, Cert.CSiluIdeal.Value.run (F := Ideal) m ρ, (θ_run _ _ _).mono
    (fun r h c => let ⟨d, k⟩ := h c
      ⟨d.trans (by
        rw [hm c]
        funext j
        simp only [pointwise]
        rfl), k⟩)
    (Cert.CSiluRefIdeal.Value.run (F := Ideal) m' ρ')⟩

end CSilu

namespace AdaFwd

theorem frame_ideal : Cert.quiescent_AdaFwdIdeal (hAdaFwdIdeal := Cert.AdaFwdIdeal.Gen.facts) := fun m ρ _ => Cert.AdaFwdIdeal.Gen.frame (F := Ideal) m ρ

theorem frame : Cert.quiescent_AdaFwd (hAdaFwd := Cert.AdaFwd.Gen.facts) := fun m ρ _ => Cert.AdaFwd.Gen.frame (F := Bits) m ρ

theorem frame_ref_ideal : Cert.quiescent_AdaFwdRefIdeal (hAdaFwdRefIdeal := Cert.AdaFwdRefIdeal.Gen.facts) := fun m ρ _ =>
  (θ_run _ _ _).mono (fun r h => ⟨fun c => (h c).2, sem_eq_zero_of_no_sems rfl r.2⟩) (Cert.AdaFwdRefIdeal.Value.run (F := Ideal) m ρ)

theorem value : Cert.algebraic_AdaFwdIdeal_AdaFwdRefIdeal (hAdaFwdIdeal := Cert.AdaFwdIdeal.Gen.facts) (hAdaFwdRefIdeal := Cert.AdaFwdRefIdeal.Gen.facts) :=
  fun m ρ m' ρ' _ hm => ⟨_, Cert.AdaFwdIdeal.Value.run_blocks (F := Ideal) m ρ, (θ_run _ _ _).mono
    (fun r h c => let ⟨d, k⟩ := h c
      ⟨d.trans (Eq.trans (by
        rw [(hm c).1, (hm c).2.1, (hm c).2.2]
        funext j
        simp only [pointwise]
        exact congrArg (fun a : EReal => a + _) (zero_add (M := EReal) _)) (Cert.AdaFwdIdeal.RefValue.final m c).symm), k⟩)
    (Cert.AdaFwdRefIdeal.Value.run (F := Ideal) m' ρ')⟩

end AdaFwd

namespace FfnNorm

theorem frame_ideal : Cert.quiescent_FfnNormIdeal (hFfnNormIdeal := Cert.FfnNormIdeal.Gen.facts) := fun m ρ _ => Cert.FfnNormIdeal.Gen.frame (F := Ideal) m ρ

theorem frame : Cert.quiescent_FfnNorm (hFfnNorm := Cert.FfnNorm.Gen.facts) := fun m ρ _ => Cert.FfnNorm.Gen.frame (F := Bits) m ρ

theorem frame_ref_ideal : Cert.quiescent_FfnNormRefIdeal (hFfnNormRefIdeal := Cert.FfnNormRefIdeal.Gen.facts) := fun m ρ _ =>
  (θ_run _ _ _).mono (fun r h => ⟨fun c => (h c).2, sem_eq_zero_of_no_sems rfl r.2⟩) (Cert.FfnNormRefIdeal.Value.run (F := Ideal) m ρ)

theorem value : Cert.algebraic_FfnNormIdeal_FfnNormRefIdeal (hFfnNormIdeal := Cert.FfnNormIdeal.Gen.facts) (hFfnNormRefIdeal := Cert.FfnNormRefIdeal.Gen.facts) :=
  fun m ρ m' ρ' _ hm => ⟨_, Cert.FfnNormIdeal.Value.run_blocks (F := Ideal) m ρ, (θ_run _ _ _).mono
    (fun r h c => let ⟨d, k⟩ := h c
      ⟨d.trans (Eq.trans (by
        rw [(hm c).1, (hm c).2.1, (hm c).2.2.1, (hm c).2.2.2]
        funext j
        obtain ⟨a, b, rfl⟩ : ∃ (a : Fin 4096) (b : Fin 1024), j = ix2 a b := ⟨j 0, j 1, eq_ix2 j⟩
        simp only [pointwise, zero_add (M := EReal)]
        rfl) (Cert.FfnNormIdeal.RefValue.final m c).symm), k⟩)
    (Cert.FfnNormRefIdeal.Value.run (F := Ideal) m' ρ')⟩

end FfnNorm

namespace FfnGu

theorem frame_ideal : Cert.quiescent_FfnGuIdeal (hFfnGuIdeal := Cert.FfnGuIdeal.Gen.facts) := fun m ρ _ => Cert.FfnGuIdeal.Gen.frame (F := Ideal) m ρ

theorem frame : Cert.quiescent_FfnGu (hFfnGu := Cert.FfnGu.Gen.facts) := fun m ρ _ => Cert.FfnGu.Gen.frame (F := Bits) m ρ

theorem frame_ref_ideal : Cert.quiescent_FfnGuRefIdeal (hFfnGuRefIdeal := Cert.FfnGuRefIdeal.Gen.facts) := fun m ρ _ =>
  (θ_run _ _ _).mono (fun r h => ⟨fun c => (h c).2, sem_eq_zero_of_no_sems rfl r.2⟩) (Cert.FfnGuRefIdeal.Value.run (F := Ideal) m ρ)

theorem value : Cert.algebraic_FfnGuIdeal_FfnGuRefIdeal (hFfnGuIdeal := Cert.FfnGuIdeal.Gen.facts) (hFfnGuRefIdeal := Cert.FfnGuRefIdeal.Gen.facts) :=
  fun m ρ m' ρ' _ hm => ⟨_, Cert.FfnGuIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.FfnGuIdeal.RefValue.final m c).symm), k⟩)
    (Cert.FfnGuRefIdeal.Value.run (F := Ideal) m' ρ')⟩

end FfnGu

namespace FfnAct

theorem frame_ideal : Cert.quiescent_FfnActIdeal (hFfnActIdeal := Cert.FfnActIdeal.Gen.facts) := fun m ρ _ => Cert.FfnActIdeal.Gen.frame (F := Ideal) m ρ

theorem frame : Cert.quiescent_FfnAct (hFfnAct := Cert.FfnAct.Gen.facts) := fun m ρ _ => Cert.FfnAct.Gen.frame (F := Bits) m ρ

theorem frame_ref_ideal : Cert.quiescent_FfnActRefIdeal (hFfnActRefIdeal := Cert.FfnActRefIdeal.Gen.facts) := fun m ρ _ =>
  (θ_run _ _ _).mono (fun r h => ⟨fun c => (h c).2, sem_eq_zero_of_no_sems rfl r.2⟩) (Cert.FfnActRefIdeal.Value.run (F := Ideal) m ρ)

theorem value : Cert.algebraic_FfnActIdeal_FfnActRefIdeal (hFfnActIdeal := Cert.FfnActIdeal.Gen.facts) (hFfnActRefIdeal := Cert.FfnActRefIdeal.Gen.facts) :=
  fun m ρ m' ρ' _ hm => ⟨_, Cert.FfnActIdeal.Value.run (F := Ideal) m ρ, (θ_run _ _ _).mono
    (fun r h c => let ⟨d, k⟩ := h c
      ⟨d.trans (by
        rw [hm c]
        funext j
        simp only [pointwise]
        have e {i i' : Cert.FfnActIdeal.S4096x5632.Idx} (h0 : (i 0).val = (i' 0).val) (h1 : (i 1).val = (i' 1).val) : i = i' :=
          funext fun a => Fin.ext (match a with | ⟨0, _⟩ => h0 | ⟨1, _⟩ => h1)
        refine congrArg₂ (fun x y : EReal => x * Ideal.logistic x * y) (congrArg _ (e ?_ ?_)) (congrArg _ (e ?_ ?_))
        all_goals exact Nat.add_comm _ _), k⟩)
    (Cert.FfnActRefIdeal.Value.run (F := Ideal) m' ρ')⟩

end FfnAct

namespace FfnDown

theorem frame_ideal : Cert.quiescent_FfnDownIdeal (hFfnDownIdeal := Cert.FfnDownIdeal.Gen.facts) := fun m ρ _ => Cert.FfnDownIdeal.Gen.frame (F := Ideal) m ρ

theorem frame : Cert.quiescent_FfnDown (hFfnDown := Cert.FfnDown.Gen.facts) := fun m ρ _ => Cert.FfnDown.Gen.frame (F := Bits) m ρ

theorem frame_ref_ideal : Cert.quiescent_FfnDownRefIdeal (hFfnDownRefIdeal := Cert.FfnDownRefIdeal.Gen.facts) := fun m ρ _ =>
  (θ_run _ _ _).mono (fun r h => ⟨fun c => (h c).2.2, sem_eq_zero_of_no_sems rfl r.2⟩) (Cert.FfnDownRefIdeal.Value.run (F := Ideal) m ρ)

theorem value : Cert.algebraic_FfnDownIdeal_FfnDownRefIdeal (hFfnDownIdeal := Cert.FfnDownIdeal.Gen.facts) (hFfnDownRefIdeal := Cert.FfnDownRefIdeal.Gen.facts) :=
  fun m ρ m' ρ' _ hm => ⟨_, _, Cert.FfnDownIdeal.Value.run_blocks (F := Ideal) m ρ, (θ_run _ _ _).mono
    (fun r h c => let ⟨d, e, k⟩ := h c
      ⟨d.trans (Eq.trans (by
        rw [(hm c).1, (hm c).2.1, (hm c).2.2.1, (hm c).2.2.2]
        funext j
        simp only [pointwise]
        exact congrArg (fun a : EReal => _ + _ * a) (zero_add (M := EReal) _)) (Cert.FfnDownIdeal.RefValue.final_sum m c).symm),
      e.trans (Eq.trans (by
        rw [(hm c).1, (hm c).2.1]
        funext j
        simp only [pointwise]
        exact zero_add (M := EReal) _) (Cert.FfnDownIdeal.RefValue.final_prod m c).symm), k⟩)
    (Cert.FfnDownRefIdeal.Value.run (F := Ideal) m' ρ')⟩

end FfnDown

namespace MixQkv

theorem frame_ideal : Cert.quiescent_MixQkvIdeal (hMixQkvIdeal := Cert.MixQkvIdeal.Gen.facts) := fun m ρ _ => Cert.MixQkvIdeal.Gen.frame (F := Ideal) m ρ

theorem frame : Cert.quiescent_MixQkv (hMixQkv := Cert.MixQkv.Gen.facts) := fun m ρ _ => Cert.MixQkv.Gen.frame (F := Bits) m ρ

theorem frame_ref_ideal : Cert.quiescent_MixQkvRefIdeal (hMixQkvRefIdeal := Cert.MixQkvRefIdeal.Gen.facts) := fun m ρ _ =>
  (θ_run _ _ _).mono (fun r h => ⟨fun c => (h c).2, sem_eq_zero_of_no_sems rfl r.2⟩) (Cert.MixQkvRefIdeal.Value.run (F := Ideal) m ρ)

theorem value : Cert.algebraic_MixQkvIdeal_MixQkvRefIdeal (hMixQkvIdeal := Cert.MixQkvIdeal.Gen.facts) (hMixQkvRefIdeal := Cert.MixQkvRefIdeal.Gen.facts) :=
  fun m ρ m' ρ' _ hm => ⟨_, Cert.MixQkvIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixQkvIdeal.RefValue.final m c).symm), k⟩)
    (Cert.MixQkvRefIdeal.Value.run (F := Ideal) m' ρ')⟩

end MixQkv

namespace MixZ

theorem frame_ideal : Cert.quiescent_MixZIdeal (hMixZIdeal := Cert.MixZIdeal.Gen.facts) := fun m ρ _ => Cert.MixZIdeal.Gen.frame (F := Ideal) m ρ

theorem frame : Cert.quiescent_MixZ (hMixZ := Cert.MixZ.Gen.facts) := fun m ρ _ => Cert.MixZ.Gen.frame (F := Bits) m ρ

theorem frame_ref_ideal : Cert.quiescent_MixZRefIdeal (hMixZRefIdeal := Cert.MixZRefIdeal.Gen.facts) := fun m ρ _ =>
  (θ_run _ _ _).mono (fun r h => ⟨fun c => (h c).2, sem_eq_zero_of_no_sems rfl r.2⟩) (Cert.MixZRefIdeal.Value.run (F := Ideal) m ρ)

theorem value : Cert.algebraic_MixZIdeal_MixZRefIdeal (hMixZIdeal := Cert.MixZIdeal.Gen.facts) (hMixZRefIdeal := Cert.MixZRefIdeal.Gen.facts) :=
  fun m ρ m' ρ' _ hm => ⟨_, Cert.MixZIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixZIdeal.RefValue.final m c).symm), k⟩)
    (Cert.MixZRefIdeal.Value.run (F := Ideal) m' ρ')⟩

end MixZ

namespace MixBa

theorem frame_ideal : Cert.quiescent_MixBaIdeal (hMixBaIdeal := Cert.MixBaIdeal.Gen.facts) := fun m ρ _ => Cert.MixBaIdeal.Gen.frame (F := Ideal) m ρ

theorem frame : Cert.quiescent_MixBa (hMixBa := Cert.MixBa.Gen.facts) := fun m ρ _ => Cert.MixBa.Gen.frame (F := Bits) m ρ

theorem frame_ref_ideal : Cert.quiescent_MixBaRefIdeal (hMixBaRefIdeal := Cert.MixBaRefIdeal.Gen.facts) := fun m ρ _ =>
  (θ_run _ _ _).mono (fun r h => ⟨fun c => (h c).2, sem_eq_zero_of_no_sems rfl r.2⟩) (Cert.MixBaRefIdeal.Value.run (F := Ideal) m ρ)

theorem value : Cert.algebraic_MixBaIdeal_MixBaRefIdeal (hMixBaIdeal := Cert.MixBaIdeal.Gen.facts) (hMixBaRefIdeal := Cert.MixBaRefIdeal.Gen.facts) :=
  fun m ρ m' ρ' _ hm => ⟨_, Cert.MixBaIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixBaIdeal.RefValue.final m c).symm), k⟩)
    (Cert.MixBaRefIdeal.Value.run (F := Ideal) m' ρ')⟩

end MixBa

namespace MixDa

theorem frame_ideal : Cert.quiescent_MixDaIdeal (hMixDaIdeal := Cert.MixDaIdeal.Gen.facts) := fun m ρ _ => Cert.MixDaIdeal.Gen.frame (F := Ideal) m ρ

theorem frame : Cert.quiescent_MixDa (hMixDa := Cert.MixDa.Gen.facts) := fun m ρ _ => Cert.MixDa.Gen.frame (F := Bits) m ρ

theorem frame_ref_ideal : Cert.quiescent_MixDaRefIdeal (hMixDaRefIdeal := Cert.MixDaRefIdeal.Gen.facts) := fun m ρ _ =>
  (θ_run _ _ _).mono (fun r h => ⟨fun c => (h c).2, sem_eq_zero_of_no_sems rfl r.2⟩) (Cert.MixDaRefIdeal.Value.run (F := Ideal) m ρ)

theorem value : Cert.algebraic_MixDaIdeal_MixDaRefIdeal (hMixDaIdeal := Cert.MixDaIdeal.Gen.facts) (hMixDaRefIdeal := Cert.MixDaRefIdeal.Gen.facts) :=
  fun m ρ m' ρ' _ hm => ⟨_, Cert.MixDaIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixDaIdeal.RefValue.final m c).symm), k⟩)
    (Cert.MixDaRefIdeal.Value.run (F := Ideal) m' ρ')⟩

end MixDa

namespace MixPg

theorem frame_ideal : Cert.quiescent_MixPgIdeal (hMixPgIdeal := Cert.MixPgIdeal.Gen.facts) := fun m ρ _ => Cert.MixPgIdeal.Gen.frame (F := Ideal) m ρ

theorem frame : Cert.quiescent_MixPg (hMixPg := Cert.MixPg.Gen.facts) := fun m ρ _ => Cert.MixPg.Gen.frame (F := Bits) m ρ

theorem frame_ref_ideal : Cert.quiescent_MixPgRefIdeal (hMixPgRefIdeal := Cert.MixPgRefIdeal.Gen.facts) := fun m ρ _ =>
  (θ_run _ _ _).mono (fun r h => ⟨fun c => (h c).2, sem_eq_zero_of_no_sems rfl r.2⟩) (Cert.MixPgRefIdeal.Value.run (F := Ideal) m ρ)

theorem value : Cert.algebraic_MixPgIdeal_MixPgRefIdeal (hMixPgIdeal := Cert.MixPgIdeal.Gen.facts) (hMixPgRefIdeal := Cert.MixPgRefIdeal.Gen.facts) :=
  fun m ρ m' ρ' _ hm => ⟨_, Cert.MixPgIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixPgIdeal.RefValue.final m c).symm), k⟩)
    (Cert.MixPgRefIdeal.Value.run (F := Ideal) m' ρ')⟩

end MixPg

namespace MixWb

theorem frame_ideal : Cert.quiescent_MixWbIdeal (hMixWbIdeal := Cert.MixWbIdeal.Gen.facts) := fun m ρ _ => Cert.MixWbIdeal.Gen.frame (F := Ideal) m ρ

theorem frame : Cert.quiescent_MixWb (hMixWb := Cert.MixWb.Gen.facts) := fun m ρ _ => Cert.MixWb.Gen.frame (F := Bits) m ρ

theorem frame_ref_ideal : Cert.quiescent_MixWbRefIdeal (hMixWbRefIdeal := Cert.MixWbRefIdeal.Gen.facts) := fun m ρ _ =>
  (θ_run _ _ _).mono (fun r h => ⟨fun c => (h c).2, sem_eq_zero_of_no_sems rfl r.2⟩) (Cert.MixWbRefIdeal.Value.run (F := Ideal) m ρ)

theorem value : Cert.algebraic_MixWbIdeal_MixWbRefIdeal (hMixWbIdeal := Cert.MixWbIdeal.Gen.facts) (hMixWbRefIdeal := Cert.MixWbRefIdeal.Gen.facts) :=
  fun m ρ m' ρ' _ hm => ⟨_, Cert.MixWbIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixWbIdeal.RefValue.final m c).symm), k⟩)
    (Cert.MixWbRefIdeal.Value.run (F := Ideal) m' ρ')⟩

end MixWb

namespace MixGate

theorem frame_ideal : Cert.quiescent_MixGateIdeal (hMixGateIdeal := Cert.MixGateIdeal.Gen.facts) := fun m ρ _ => Cert.MixGateIdeal.Gen.frame (F := Ideal) m ρ

theorem frame : Cert.quiescent_MixGate (hMixGate := Cert.MixGate.Gen.facts) := fun m ρ _ => Cert.MixGate.Gen.frame (F := Bits) m ρ

theorem frame_ref_ideal : Cert.quiescent_MixGateRefIdeal (hMixGateRefIdeal := Cert.MixGateRefIdeal.Gen.facts) := fun m ρ _ =>
  (θ_run _ _ _).mono (fun r h => ⟨fun c => (h c).2, sem_eq_zero_of_no_sems rfl r.2⟩) (Cert.MixGateRefIdeal.Value.run (F := Ideal) m ρ)

theorem value : Cert.algebraic_MixGateIdeal_MixGateRefIdeal (hMixGateIdeal := Cert.MixGateIdeal.Gen.facts) (hMixGateRefIdeal := Cert.MixGateRefIdeal.Gen.facts) :=
  fun m ρ m' ρ' _ hm => ⟨_, Cert.MixGateIdeal.Value.run (F := Ideal) m ρ, (θ_run _ _ _).mono
    (fun r h c => let ⟨d, k⟩ := h c
      ⟨d.trans (by
        rw [(hm c).1, (hm c).2.1, (hm c).2.2]
        funext j
        simp only [pointwise]
        have e {i i' : Cert.MixGateIdeal.S4096x2048.Idx} (h0 : (i 0).val = (i' 0).val) (h1 : (i 1).val = (i' 1).val) : i = i' :=
          funext fun a => Fin.ext (match a with | ⟨0, _⟩ => h0 | ⟨1, _⟩ => h1)
        refine congrArg₂ (fun x y : EReal => Ideal.logistic x * _ + Ideal.logistic y * _) (congrArg _ (e ?_ ?_)) (congrArg _ (e ?_ ?_))
        all_goals exact Nat.add_comm _ _), k⟩)
    (Cert.MixGateRefIdeal.Value.run (F := Ideal) m' ρ')⟩

end MixGate

namespace MixOut

theorem frame_ideal : Cert.quiescent_MixOutIdeal (hMixOutIdeal := Cert.MixOutIdeal.Gen.facts) := fun m ρ _ => Cert.MixOutIdeal.Gen.frame (F := Ideal) m ρ

theorem frame : Cert.quiescent_MixOut (hMixOut := Cert.MixOut.Gen.facts) := fun m ρ _ => Cert.MixOut.Gen.frame (F := Bits) m ρ

theorem frame_ref_ideal : Cert.quiescent_MixOutRefIdeal (hMixOutRefIdeal := Cert.MixOutRefIdeal.Gen.facts) := fun m ρ _ =>
  (θ_run _ _ _).mono (fun r h => ⟨fun c => (h c).2.2, sem_eq_zero_of_no_sems rfl r.2⟩) (Cert.MixOutRefIdeal.Value.run (F := Ideal) m ρ)

theorem value : Cert.algebraic_MixOutIdeal_MixOutRefIdeal (hMixOutIdeal := Cert.MixOutIdeal.Gen.facts) (hMixOutRefIdeal := Cert.MixOutRefIdeal.Gen.facts) :=
  fun m ρ m' ρ' _ hm => ⟨_, _, Cert.MixOutIdeal.Value.run_blocks (F := Ideal) m ρ, (θ_run _ _ _).mono
    (fun r h c => let ⟨d, e, k⟩ := h c
      ⟨d.trans (Eq.trans (by
        rw [(hm c).1, (hm c).2.1, (hm c).2.2.1, (hm c).2.2.2]
        funext j
        simp only [pointwise]
        exact congrArg (fun a : EReal => _ + _ * a) (zero_add (M := EReal) _)) (Cert.MixOutIdeal.RefValue.final_sum m c).symm),
      e.trans (Eq.trans (by
        rw [(hm c).1, (hm c).2.1]
        funext j
        simp only [pointwise]
        exact zero_add (M := EReal) _) (Cert.MixOutIdeal.RefValue.final_prod m c).symm), k⟩)
    (Cert.MixOutRefIdeal.Value.run (F := Ideal) m' ρ')⟩

end MixOut

namespace InputGrad

theorem frame_ideal : Cert.quiescent_InputGradIdeal (hInputGradIdeal := Cert.InputGradIdeal.Gen.facts) := fun m ρ _ => Cert.InputGradIdeal.Gen.frame (F := Ideal) m ρ

theorem frame : Cert.quiescent_InputGrad (hInputGrad := Cert.InputGrad.Gen.facts) := fun m ρ _ => Cert.InputGrad.Gen.frame (F := Bits) m ρ

theorem frame_ref_ideal : Cert.quiescent_InputGradRefIdeal (hInputGradRefIdeal := Cert.InputGradRefIdeal.Gen.facts) := fun m ρ _ =>
  (θ_run _ _ _).mono (fun r h => ⟨fun c => (h c).2, sem_eq_zero_of_no_sems rfl r.2⟩) (Cert.InputGradRefIdeal.Value.run (F := Ideal) m ρ)

theorem value : Cert.algebraic_InputGradIdeal_InputGradRefIdeal (hInputGradIdeal := Cert.InputGradIdeal.Gen.facts) (hInputGradRefIdeal := Cert.InputGradRefIdeal.Gen.facts) :=
  fun m ρ m' ρ' _ hm => ⟨_, (θ_run _ _ _).mono (fun r h c => ⟨(h c).1, (h c).2.2.2.2⟩) (Cert.InputGradIdeal.Value.run_blocks (F := Ideal) m ρ), (θ_run _ _ _).mono
    (fun r h c => let ⟨d, k⟩ := h c
      ⟨d.trans (Eq.trans (by
        show Cert.InputGradRefIdeal.Value.res_out0 m' c = _
        rw [Cert.InputGradRefIdeal.RefValue.res, (hm c).1, (hm c).2.1, (hm c).2.2.1, (hm c).2.2.2.1, (hm c).2.2.2.2.2]) (Cert.InputGradIdeal.RefValue.final m c).symm), k⟩)
    (Cert.InputGradRefIdeal.Value.run (F := Ideal) m' ρ')⟩

end InputGrad

end Cert.ModelClaims

end
-- ==== Proof.BackValue.lean ====
/-
# The products of the backward pass, entry by entry

What a projection's output weighs, times the transposed weights: a point of the grid multiplies a block of rows by a block
of the weights' rows over the whole inner axis, so that every entry is the sum over that axis.
-/
module

public import proofs.«01_k».proof.Defs
public import proofs.«01_k».proof.Proof.ProductValue
public import proofs.«01_k».proof.Proof.Gen.FfnDownDxIdeal.Value
public import proofs.«01_k».proof.Proof.Gen.MixOutDxIdeal.Value
public import proofs.«01_k».proof.Proof.Gen.MixWaDxIdeal.Value
public import proofs.«01_k».proof.Proof.Gen.MixWbDxIdeal.Value
public import proofs.«01_k».proof.Proof.Gen.MixQkvDxIdeal.Value
public import proofs.«01_k».proof.Proof.Gen.MixZDxIdeal.Value
public import proofs.«01_k».proof.Proof.Gen.MixBaDxIdeal.Value
public import proofs.«01_k».proof.Proof.Gen.MixDaDxIdeal.Value
public import proofs.«01_k».proof.Proof.Gen.MixPgDxIdeal.Value

@[expose] public section

noncomputable section

open Idealize.ShloMosaic Idealize.ShloMosaic.TcCoe Idealize.SL.Sem
open Idealize.ShloMosaic.Pipeline (Dat)

namespace Cert.BackValue

/-- The product with the second array transposed. -/
def back {n k w : ℕ} (χ : FTy) (x : FVec Ideal ⟨2, ![n, k]⟩ .bf16) (y : FVec Ideal ⟨2, ![w, k]⟩ .bf16) : FVec Ideal ⟨2, ![n, w]⟩ χ :=
  fun j => ∑ q : Fin k, (x (ix2 (j 0) q) : EReal) * (y (ix2 (j 1) q) : EReal)

/-- The same, added to what the later projections gave. -/
def added {n k w : ℕ} (x : FVec Ideal ⟨2, ![n, k]⟩ .bf16) (y : FVec Ideal ⟨2, ![w, k]⟩ .bf16) (h : FVec Ideal ⟨2, ![n, w]⟩ .f32) : FVec Ideal ⟨2, ![n, w]⟩ .f32 :=
  fun j => (h j : EReal) + (back .f32 x y j : EReal)

end Cert.BackValue

namespace Cert.FfnDownDxIdeal.RefValue

open Cert.FfnDownDxIdeal Cert.FfnDownDxIdeal.Gen Cert.FfnDownDxIdeal.Value Cert.ProductValue Cert.BackValue

variable (m : (ℓ : Loc nD τ sig) → Buf (Elt Ideal) ℓ)

theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

theorem final (c : Dev nD) : (dats m 0 c).arrAt 2 cfg0.N
    = back .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.FfnDownDxIdeal.RefValue

namespace Cert.MixOutDxIdeal.RefValue

open Cert.MixOutDxIdeal Cert.MixOutDxIdeal.Gen Cert.MixOutDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (c : Dev nD) : (dats m 0 c).arrAt 2 cfg0.N
    = back .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixOutDxIdeal.RefValue

namespace Cert.MixWaDxIdeal.RefValue

open Cert.MixWaDxIdeal Cert.MixWaDxIdeal.Gen Cert.MixWaDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (c : Dev nD) : (dats m 0 c).arrAt 2 cfg0.N
    = back .f32 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixWaDxIdeal.RefValue

namespace Cert.MixWbDxIdeal.RefValue

open Cert.MixWbDxIdeal Cert.MixWbDxIdeal.Gen Cert.MixWbDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (c : Dev nD) : (dats m 0 c).arrAt 2 cfg0.N
    = back .bf16 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixWbDxIdeal.RefValue

namespace Cert.MixQkvDxIdeal.RefValue

open Cert.MixQkvDxIdeal Cert.MixQkvDxIdeal.Gen Cert.MixQkvDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (c : Dev nD) : (dats m 0 c).arrAt 2 cfg0.N
    = back .f32 (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  simp only [pointwise]
  refine (zero_add (M := EReal) _).trans (prod_congr (fun q => ?_) fun q => ?_)
  all_goals blk_ext! [iblk, V, idx t]

end Cert.MixQkvDxIdeal.RefValue

namespace Cert.MixZDxIdeal.RefValue

open Cert.MixZDxIdeal Cert.MixZDxIdeal.Gen Cert.MixZDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1
  simp only [pointwise]
  refine (add_comm (G := EReal) _ _).trans (congrArg₂ (fun a b : EReal => a + b) ?_
    ((zero_add (M := EReal) _).trans (prod_congr (fun q => ?_) fun q => ?_)))
  all_goals blk_ext! [iblk, V, idx t]

end Cert.MixZDxIdeal.RefValue

namespace Cert.MixBaDxIdeal.RefValue

open Cert.MixBaDxIdeal Cert.MixBaDxIdeal.Gen Cert.MixBaDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1
  simp only [pointwise]
  refine (add_comm (G := EReal) _ _).trans (congrArg₂ (fun a b : EReal => a + b) ?_
    ((zero_add (M := EReal) _).trans (prod_congr (fun q => ?_) fun q => ?_)))
  all_goals blk_ext! [iblk, V, idx t]

end Cert.MixBaDxIdeal.RefValue

namespace Cert.MixDaDxIdeal.RefValue

open Cert.MixDaDxIdeal Cert.MixDaDxIdeal.Gen Cert.MixDaDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1
  simp only [pointwise]
  refine (add_comm (G := EReal) _ _).trans (congrArg₂ (fun a b : EReal => a + b) ?_
    ((zero_add (M := EReal) _).trans (prod_congr (fun q => ?_) fun q => ?_)))
  all_goals blk_ext! [iblk, V, idx t]

end Cert.MixDaDxIdeal.RefValue

namespace Cert.MixPgDxIdeal.RefValue

open Cert.MixPgDxIdeal Cert.MixPgDxIdeal.Gen Cert.MixPgDxIdeal.Value Cert.ProductValue Cert.BackValue

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1
  simp only [pointwise]
  refine (add_comm (G := EReal) _ _).trans (congrArg₂ (fun a b : EReal => a + b) ?_
    ((zero_add (M := EReal) _).trans (prod_congr (fun q => ?_) fun q => ?_)))
  all_goals blk_ext! [iblk, V, idx t]

end Cert.MixPgDxIdeal.RefValue

end
-- ==== Proof.BackClaims.lean ====
/-
# The claims of the backward pass's products
-/
module

public import proofs.«01_k».proof.Defs
public import proofs.«01_k».proof.Proof.BackValue
public import proofs.«01_k».proof.Proof.Gen.FfnDownDxRefIdeal.Run
public import proofs.«01_k».proof.Proof.Gen.FfnDownDx.Frame
public import proofs.«01_k».proof.Proof.Gen.MixOutDxRefIdeal.Run
public import proofs.«01_k».proof.Proof.Gen.MixOutDx.Frame
public import proofs.«01_k».proof.Proof.Gen.MixWaDxRefIdeal.Run
public import proofs.«01_k».proof.Proof.Gen.MixWaDx.Frame
public import proofs.«01_k».proof.Proof.Gen.MixWbDxRefIdeal.Run
public import proofs.«01_k».proof.Proof.Gen.MixWbDx.Frame
public import proofs.«01_k».proof.Proof.Gen.MixQkvDxRefIdeal.Run
public import proofs.«01_k».proof.Proof.Gen.MixQkvDx.Frame
public import proofs.«01_k».proof.Proof.Gen.MixZDxRefIdeal.Run
public import proofs.«01_k».proof.Proof.Gen.MixZDx.Frame
public import proofs.«01_k».proof.Proof.Gen.MixBaDxRefIdeal.Run
public import proofs.«01_k».proof.Proof.Gen.MixBaDx.Frame
public import proofs.«01_k».proof.Proof.Gen.MixDaDxRefIdeal.Run
public import proofs.«01_k».proof.Proof.Gen.MixDaDx.Frame
public import proofs.«01_k».proof.Proof.Gen.MixPgDxRefIdeal.Run
public import proofs.«01_k».proof.Proof.Gen.MixPgDx.Frame
public import Idealize.ShloMosaic.Lib.Quiescent

@[expose] public section

noncomputable section

namespace Cert.BackClaims

open Idealize.ShloMosaic Idealize.ShloMosaic.TcCoe Idealize.SL.Sem

namespace FfnDownDx

theorem frame_ideal : Cert.quiescent_FfnDownDxIdeal (hFfnDownDxIdeal := Cert.FfnDownDxIdeal.Gen.facts) := fun m ρ _ => Cert.FfnDownDxIdeal.Gen.frame (F := Ideal) m ρ

theorem frame : Cert.quiescent_FfnDownDx (hFfnDownDx := Cert.FfnDownDx.Gen.facts) := fun m ρ _ => Cert.FfnDownDx.Gen.frame (F := Bits) m ρ

theorem frame_ref_ideal : Cert.quiescent_FfnDownDxRefIdeal (hFfnDownDxRefIdeal := Cert.FfnDownDxRefIdeal.Gen.facts) := fun m ρ _ =>
  (θ_run _ _ _).mono (fun r h => ⟨fun c => (h c).2, sem_eq_zero_of_no_sems rfl r.2⟩) (Cert.FfnDownDxRefIdeal.Value.run (F := Ideal) m ρ)

theorem value : Cert.algebraic_FfnDownDxIdeal_FfnDownDxRefIdeal (hFfnDownDxIdeal := Cert.FfnDownDxIdeal.Gen.facts) (hFfnDownDxRefIdeal := Cert.FfnDownDxRefIdeal.Gen.facts) :=
  fun m ρ m' ρ' _ hm => ⟨_, Cert.FfnDownDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.FfnDownDxIdeal.RefValue.final m c).symm), k⟩)
    (Cert.FfnDownDxRefIdeal.Value.run (F := Ideal) m' ρ')⟩

end FfnDownDx

namespace MixOutDx

theorem frame_ideal : Cert.quiescent_MixOutDxIdeal (hMixOutDxIdeal := Cert.MixOutDxIdeal.Gen.facts) := fun m ρ _ => Cert.MixOutDxIdeal.Gen.frame (F := Ideal) m ρ

theorem frame : Cert.quiescent_MixOutDx (hMixOutDx := Cert.MixOutDx.Gen.facts) := fun m ρ _ => Cert.MixOutDx.Gen.frame (F := Bits) m ρ

theorem frame_ref_ideal : Cert.quiescent_MixOutDxRefIdeal (hMixOutDxRefIdeal := Cert.MixOutDxRefIdeal.Gen.facts) := fun m ρ _ =>
  (θ_run _ _ _).mono (fun r h => ⟨fun c => (h c).2, sem_eq_zero_of_no_sems rfl r.2⟩) (Cert.MixOutDxRefIdeal.Value.run (F := Ideal) m ρ)

theorem value : Cert.algebraic_MixOutDxIdeal_MixOutDxRefIdeal (hMixOutDxIdeal := Cert.MixOutDxIdeal.Gen.facts) (hMixOutDxRefIdeal := Cert.MixOutDxRefIdeal.Gen.facts) :=
  fun m ρ m' ρ' _ hm => ⟨_, Cert.MixOutDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixOutDxIdeal.RefValue.final m c).symm), k⟩)
    (Cert.MixOutDxRefIdeal.Value.run (F := Ideal) m' ρ')⟩

end MixOutDx

namespace MixWaDx

theorem frame_ideal : Cert.quiescent_MixWaDxIdeal (hMixWaDxIdeal := Cert.MixWaDxIdeal.Gen.facts) := fun m ρ _ => Cert.MixWaDxIdeal.Gen.frame (F := Ideal) m ρ

theorem frame : Cert.quiescent_MixWaDx (hMixWaDx := Cert.MixWaDx.Gen.facts) := fun m ρ _ => Cert.MixWaDx.Gen.frame (F := Bits) m ρ

theorem frame_ref_ideal : Cert.quiescent_MixWaDxRefIdeal (hMixWaDxRefIdeal := Cert.MixWaDxRefIdeal.Gen.facts) := fun m ρ _ =>
  (θ_run _ _ _).mono (fun r h => ⟨fun c => (h c).2, sem_eq_zero_of_no_sems rfl r.2⟩) (Cert.MixWaDxRefIdeal.Value.run (F := Ideal) m ρ)

theorem value : Cert.algebraic_MixWaDxIdeal_MixWaDxRefIdeal (hMixWaDxIdeal := Cert.MixWaDxIdeal.Gen.facts) (hMixWaDxRefIdeal := Cert.MixWaDxRefIdeal.Gen.facts) :=
  fun m ρ m' ρ' _ hm => ⟨_, Cert.MixWaDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixWaDxIdeal.RefValue.final m c).symm), k⟩)
    (Cert.MixWaDxRefIdeal.Value.run (F := Ideal) m' ρ')⟩

end MixWaDx

namespace MixWbDx

theorem frame_ideal : Cert.quiescent_MixWbDxIdeal (hMixWbDxIdeal := Cert.MixWbDxIdeal.Gen.facts) := fun m ρ _ => Cert.MixWbDxIdeal.Gen.frame (F := Ideal) m ρ

theorem frame : Cert.quiescent_MixWbDx (hMixWbDx := Cert.MixWbDx.Gen.facts) := fun m ρ _ => Cert.MixWbDx.Gen.frame (F := Bits) m ρ

theorem frame_ref_ideal : Cert.quiescent_MixWbDxRefIdeal (hMixWbDxRefIdeal := Cert.MixWbDxRefIdeal.Gen.facts) := fun m ρ _ =>
  (θ_run _ _ _).mono (fun r h => ⟨fun c => (h c).2, sem_eq_zero_of_no_sems rfl r.2⟩) (Cert.MixWbDxRefIdeal.Value.run (F := Ideal) m ρ)

theorem value : Cert.algebraic_MixWbDxIdeal_MixWbDxRefIdeal (hMixWbDxIdeal := Cert.MixWbDxIdeal.Gen.facts) (hMixWbDxRefIdeal := Cert.MixWbDxRefIdeal.Gen.facts) :=
  fun m ρ m' ρ' _ hm => ⟨_, Cert.MixWbDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixWbDxIdeal.RefValue.final m c).symm), k⟩)
    (Cert.MixWbDxRefIdeal.Value.run (F := Ideal) m' ρ')⟩

end MixWbDx

namespace MixQkvDx

theorem frame_ideal : Cert.quiescent_MixQkvDxIdeal (hMixQkvDxIdeal := Cert.MixQkvDxIdeal.Gen.facts) := fun m ρ _ => Cert.MixQkvDxIdeal.Gen.frame (F := Ideal) m ρ

theorem frame : Cert.quiescent_MixQkvDx (hMixQkvDx := Cert.MixQkvDx.Gen.facts) := fun m ρ _ => Cert.MixQkvDx.Gen.frame (F := Bits) m ρ

theorem frame_ref_ideal : Cert.quiescent_MixQkvDxRefIdeal (hMixQkvDxRefIdeal := Cert.MixQkvDxRefIdeal.Gen.facts) := fun m ρ _ =>
  (θ_run _ _ _).mono (fun r h => ⟨fun c => (h c).2, sem_eq_zero_of_no_sems rfl r.2⟩) (Cert.MixQkvDxRefIdeal.Value.run (F := Ideal) m ρ)

theorem value : Cert.algebraic_MixQkvDxIdeal_MixQkvDxRefIdeal (hMixQkvDxIdeal := Cert.MixQkvDxIdeal.Gen.facts) (hMixQkvDxRefIdeal := Cert.MixQkvDxRefIdeal.Gen.facts) :=
  fun m ρ m' ρ' _ hm => ⟨_, Cert.MixQkvDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixQkvDxIdeal.RefValue.final m c).symm), k⟩)
    (Cert.MixQkvDxRefIdeal.Value.run (F := Ideal) m' ρ')⟩

end MixQkvDx

namespace MixZDx

theorem frame_ideal : Cert.quiescent_MixZDxIdeal (hMixZDxIdeal := Cert.MixZDxIdeal.Gen.facts) := fun m ρ _ => Cert.MixZDxIdeal.Gen.frame (F := Ideal) m ρ

theorem frame : Cert.quiescent_MixZDx (hMixZDx := Cert.MixZDx.Gen.facts) := fun m ρ _ => Cert.MixZDx.Gen.frame (F := Bits) m ρ

theorem frame_ref_ideal : Cert.quiescent_MixZDxRefIdeal (hMixZDxRefIdeal := Cert.MixZDxRefIdeal.Gen.facts) := fun m ρ _ =>
  (θ_run _ _ _).mono (fun r h => ⟨fun c => (h c).2, sem_eq_zero_of_no_sems rfl r.2⟩) (Cert.MixZDxRefIdeal.Value.run (F := Ideal) m ρ)

theorem value : Cert.algebraic_MixZDxIdeal_MixZDxRefIdeal (hMixZDxIdeal := Cert.MixZDxIdeal.Gen.facts) (hMixZDxRefIdeal := Cert.MixZDxRefIdeal.Gen.facts) :=
  fun m ρ m' ρ' _ hm => ⟨_, Cert.MixZDxIdeal.Value.run_blocks (F := Ideal) m ρ, (θ_run _ _ _).mono
    (fun r h c => let ⟨d, k⟩ := h c
      ⟨d.trans (Eq.trans (by
        rw [(hm c).1, (hm c).2.1, (hm c).2.2]
        funext j
        simp only [pointwise]
        exact congrArg (fun a : EReal => _ + a) (zero_add (M := EReal) _)) (Cert.MixZDxIdeal.RefValue.final m c).symm), k⟩)
    (Cert.MixZDxRefIdeal.Value.run (F := Ideal) m' ρ')⟩

end MixZDx

namespace MixBaDx

theorem frame_ideal : Cert.quiescent_MixBaDxIdeal (hMixBaDxIdeal := Cert.MixBaDxIdeal.Gen.facts) := fun m ρ _ => Cert.MixBaDxIdeal.Gen.frame (F := Ideal) m ρ

theorem frame : Cert.quiescent_MixBaDx (hMixBaDx := Cert.MixBaDx.Gen.facts) := fun m ρ _ => Cert.MixBaDx.Gen.frame (F := Bits) m ρ

theorem frame_ref_ideal : Cert.quiescent_MixBaDxRefIdeal (hMixBaDxRefIdeal := Cert.MixBaDxRefIdeal.Gen.facts) := fun m ρ _ =>
  (θ_run _ _ _).mono (fun r h => ⟨fun c => (h c).2, sem_eq_zero_of_no_sems rfl r.2⟩) (Cert.MixBaDxRefIdeal.Value.run (F := Ideal) m ρ)

theorem value : Cert.algebraic_MixBaDxIdeal_MixBaDxRefIdeal (hMixBaDxIdeal := Cert.MixBaDxIdeal.Gen.facts) (hMixBaDxRefIdeal := Cert.MixBaDxRefIdeal.Gen.facts) :=
  fun m ρ m' ρ' _ hm => ⟨_, Cert.MixBaDxIdeal.Value.run_blocks (F := Ideal) m ρ, (θ_run _ _ _).mono
    (fun r h c => let ⟨d, k⟩ := h c
      ⟨d.trans (Eq.trans (by
        rw [(hm c).1, (hm c).2.1, (hm c).2.2]
        funext j
        simp only [pointwise]
        exact congrArg (fun a : EReal => _ + a) (zero_add (M := EReal) _)) (Cert.MixBaDxIdeal.RefValue.final m c).symm), k⟩)
    (Cert.MixBaDxRefIdeal.Value.run (F := Ideal) m' ρ')⟩

end MixBaDx

namespace MixDaDx

theorem frame_ideal : Cert.quiescent_MixDaDxIdeal (hMixDaDxIdeal := Cert.MixDaDxIdeal.Gen.facts) := fun m ρ _ => Cert.MixDaDxIdeal.Gen.frame (F := Ideal) m ρ

theorem frame : Cert.quiescent_MixDaDx (hMixDaDx := Cert.MixDaDx.Gen.facts) := fun m ρ _ => Cert.MixDaDx.Gen.frame (F := Bits) m ρ

theorem frame_ref_ideal : Cert.quiescent_MixDaDxRefIdeal (hMixDaDxRefIdeal := Cert.MixDaDxRefIdeal.Gen.facts) := fun m ρ _ =>
  (θ_run _ _ _).mono (fun r h => ⟨fun c => (h c).2, sem_eq_zero_of_no_sems rfl r.2⟩) (Cert.MixDaDxRefIdeal.Value.run (F := Ideal) m ρ)

theorem value : Cert.algebraic_MixDaDxIdeal_MixDaDxRefIdeal (hMixDaDxIdeal := Cert.MixDaDxIdeal.Gen.facts) (hMixDaDxRefIdeal := Cert.MixDaDxRefIdeal.Gen.facts) :=
  fun m ρ m' ρ' _ hm => ⟨_, Cert.MixDaDxIdeal.Value.run_blocks (F := Ideal) m ρ, (θ_run _ _ _).mono
    (fun r h c => let ⟨d, k⟩ := h c
      ⟨d.trans (Eq.trans (by
        rw [(hm c).1, (hm c).2.1, (hm c).2.2]
        funext j
        simp only [pointwise]
        exact congrArg (fun a : EReal => _ + a) (zero_add (M := EReal) _)) (Cert.MixDaDxIdeal.RefValue.final m c).symm), k⟩)
    (Cert.MixDaDxRefIdeal.Value.run (F := Ideal) m' ρ')⟩

end MixDaDx

namespace MixPgDx

theorem frame_ideal : Cert.quiescent_MixPgDxIdeal (hMixPgDxIdeal := Cert.MixPgDxIdeal.Gen.facts) := fun m ρ _ => Cert.MixPgDxIdeal.Gen.frame (F := Ideal) m ρ

theorem frame : Cert.quiescent_MixPgDx (hMixPgDx := Cert.MixPgDx.Gen.facts) := fun m ρ _ => Cert.MixPgDx.Gen.frame (F := Bits) m ρ

theorem frame_ref_ideal : Cert.quiescent_MixPgDxRefIdeal (hMixPgDxRefIdeal := Cert.MixPgDxRefIdeal.Gen.facts) := fun m ρ _ =>
  (θ_run _ _ _).mono (fun r h => ⟨fun c => (h c).2, sem_eq_zero_of_no_sems rfl r.2⟩) (Cert.MixPgDxRefIdeal.Value.run (F := Ideal) m ρ)

theorem value : Cert.algebraic_MixPgDxIdeal_MixPgDxRefIdeal (hMixPgDxIdeal := Cert.MixPgDxIdeal.Gen.facts) (hMixPgDxRefIdeal := Cert.MixPgDxRefIdeal.Gen.facts) :=
  fun m ρ m' ρ' _ hm => ⟨_, Cert.MixPgDxIdeal.Value.run_blocks (F := Ideal) m ρ, (θ_run _ _ _).mono
    (fun r h c => let ⟨d, k⟩ := h c
      ⟨d.trans (Eq.trans (by
        rw [(hm c).1, (hm c).2.1, (hm c).2.2]
        funext j
        simp only [pointwise]
        exact congrArg (fun a : EReal => _ + a) (zero_add (M := EReal) _)) (Cert.MixPgDxIdeal.RefValue.final m c).symm), k⟩)
    (Cert.MixPgDxRefIdeal.Value.run (F := Ideal) m' ρ')⟩

end MixPgDx

end Cert.BackClaims

end
-- ==== Proof.WeightValue.lean ====
/-
# The gradients of the projections, entry by entry

What a projection took, transposed, times the gradient of what it gave. The grid walks the sequence in four parts: the
first sets an array kept between the points, the others add to it, and the last writes it out. So every entry is the sum
of four sums, which is the sum over the whole sequence. Last, the one product with transposed weights that walks its inner
axis the same way, in two parts.
-/
module

public import proofs.«01_k».proof.Defs
public import proofs.«01_k».proof.Proof.ProductValue
public import Idealize.ShloMosaic.Lib.Pipeline.ReadBack
public import proofs.«01_k».proof.Proof.BackValue
public import proofs.«01_k».proof.Proof.Gen.FfnDownDwIdeal.Value
public import proofs.«01_k».proof.Proof.Gen.FfnGuDwIdeal.Value
public import proofs.«01_k».proof.Proof.Gen.MixOutDwIdeal.Value
public import proofs.«01_k».proof.Proof.Gen.MixWbDwIdeal.Value
public import proofs.«01_k».proof.Proof.Gen.MixQkvDwIdeal.Value
public import proofs.«01_k».proof.Proof.Gen.MixBaDwIdeal.Value
public import proofs.«01_k».proof.Proof.Gen.MixDaDwIdeal.Value
public import proofs.«01_k».proof.Proof.Gen.MixPgDwIdeal.Value
public import proofs.«01_k».proof.Proof.Gen.FfnGuDxIdeal.Value

@[expose] public section

noncomputable section

open Idealize.ShloMosaic Idealize.ShloMosaic.TcCoe Idealize.SL.Sem
open Idealize.ShloMosaic.Pipeline (Dat)

namespace Cert.WeightValue

/-- The product with the first array transposed. -/
def weights {n k w : ℕ} (x : FVec Ideal ⟨2, ![k, n]⟩ .bf16) (y : FVec Ideal ⟨2, ![k, w]⟩ .bf16) : FVec Ideal ⟨2, ![n, w]⟩ .f32 :=
  fun j => ∑ q : Fin k, (x (ix2 q (j 0)) : EReal) * (y (ix2 q (j 1)) : EReal)

/-- The factors of a sum may be replaced by equal ones. -/
theorem mul_congr {a b a' b' : EReal} (ha : a = a') (hb : b = b') : a * b = a' * b' := by rw [ha, hb]

end Cert.WeightValue

namespace Cert.FfnDownDwIdeal.RefValue

open Cert.FfnDownDwIdeal Cert.FfnDownDwIdeal.Gen Cert.FfnDownDwIdeal.Value Cert.WeightValue

variable (m : (ℓ : Loc nD τ sig) → Buf (Elt Ideal) ℓ)

theorem idx : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- What a point adds: the sum over its part of the sequence. -/
def part (c : Dev nD) (t : Fin cfg0.N) : FVec Ideal ⟨2, ![1408, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1408, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.FfnDownDwIdeal.RefValue

namespace Cert.FfnGuDwIdeal.RefValue

open Cert.FfnGuDwIdeal Cert.FfnGuDwIdeal.Gen Cert.FfnGuDwIdeal.Value Cert.WeightValue

variable (m : (ℓ : Loc nD τ sig) → Buf (Elt Ideal) ℓ)

theorem idx : ∀ t : Fin cfg0.N, win0_0.index t = ![t.val % 4, t.val / 4 / 11] ∧ win0_1.index t = ![t.val % 4, t.val / 4 % 11]
    ∧ win0_2.index t = ![t.val / 4 / 11, t.val / 4 % 11] :=
  (by decide +kernel : ∀ t : Fin grid0.N, _)

/-- What a point adds: the sum over its part of the sequence. -/
def part (c : Dev nD) (t : Fin cfg0.N) : FVec Ideal ⟨2, ![1024, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.FfnGuDwIdeal.RefValue

namespace Cert.MixOutDwIdeal.RefValue

open Cert.MixOutDwIdeal Cert.MixOutDwIdeal.Gen Cert.MixOutDwIdeal.Value Cert.WeightValue

variable (m : (ℓ : Loc nD τ sig) → Buf (Elt Ideal) ℓ)

theorem idx : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- What a point adds: the sum over its part of the sequence. -/
def part (c : Dev nD) (t : Fin cfg0.N) : FVec Ideal ⟨2, ![1024, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixOutDwIdeal.RefValue

namespace Cert.MixWbDwIdeal.RefValue

open Cert.MixWbDwIdeal Cert.MixWbDwIdeal.Gen Cert.MixWbDwIdeal.Value Cert.WeightValue

variable (m : (ℓ : Loc nD τ sig) → Buf (Elt Ideal) ℓ)

theorem idx : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- What a point adds: the sum over its part of the sequence. -/
def part (c : Dev nD) (t : Fin cfg0.N) : FVec Ideal ⟨2, ![768, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![768, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixWbDwIdeal.RefValue

namespace Cert.MixQkvDwIdeal.RefValue

open Cert.MixQkvDwIdeal Cert.MixQkvDwIdeal.Gen Cert.MixQkvDwIdeal.Value Cert.WeightValue

variable (m : (ℓ : Loc nD τ sig) → Buf (Elt Ideal) ℓ)

theorem idx : ∀ t : Fin cfg0.N, win0_0.index t = ![t.val % 4, t.val / 4 / 6] ∧ win0_1.index t = ![t.val % 4, t.val / 4 % 6]
    ∧ win0_2.index t = ![t.val / 4 / 6, t.val / 4 % 6] :=
  (by decide +kernel : ∀ t : Fin grid0.N, _)

/-- What a point adds: the sum over its part of the sequence. -/
def part (c : Dev nD) (t : Fin cfg0.N) : FVec Ideal ⟨2, ![1024, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixQkvDwIdeal.RefValue

namespace Cert.MixBaDwIdeal.RefValue

open Cert.MixBaDwIdeal Cert.MixBaDwIdeal.Gen Cert.MixBaDwIdeal.Value Cert.WeightValue

variable (m : (ℓ : Loc nD τ sig) → Buf (Elt Ideal) ℓ)

theorem idx : ∀ t : Fin cfg0.N, win0_0.index t = ![t.val % 4, t.val / 4 / 1] ∧ win0_1.index t = ![t.val % 4, t.val / 4 % 1]
    ∧ win0_2.index t = ![t.val / 4 / 1, t.val / 4 % 1] :=
  (by decide +kernel : ∀ t : Fin grid0.N, _)

/-- What a point adds: the sum over its part of the sequence. -/
def part (c : Dev nD) (t : Fin cfg0.N) : FVec Ideal ⟨2, ![1024, 128]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 128]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · have hN := t.isLt.trans_eq N_0
    rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixBaDwIdeal.RefValue

namespace Cert.MixDaDwIdeal.RefValue

open Cert.MixDaDwIdeal Cert.MixDaDwIdeal.Gen Cert.MixDaDwIdeal.Value Cert.WeightValue

variable (m : (ℓ : Loc nD τ sig) → Buf (Elt Ideal) ℓ)

theorem idx : ∀ t : Fin cfg0.N, win0_0.index t = ![t.val % 4, t.val / 4 / 6] ∧ win0_1.index t = ![t.val % 4, t.val / 4 % 6]
    ∧ win0_2.index t = ![t.val / 4 / 6, t.val / 4 % 6] :=
  (by decide +kernel : ∀ t : Fin grid0.N, _)

/-- What a point adds: the sum over its part of the sequence. -/
def part (c : Dev nD) (t : Fin cfg0.N) : FVec Ideal ⟨2, ![1024, 384]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 384]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixDaDwIdeal.RefValue

namespace Cert.MixPgDwIdeal.RefValue

open Cert.MixPgDwIdeal Cert.MixPgDwIdeal.Gen Cert.MixPgDwIdeal.Value Cert.WeightValue

variable (m : (ℓ : Loc nD τ sig) → Buf (Elt Ideal) ℓ)

theorem idx : ∀ t : Fin cfg0.N, win0_0.index t = ![t.val % 4, t.val / 4 / 4] ∧ win0_1.index t = ![t.val % 4, t.val / 4 % 4]
    ∧ win0_2.index t = ![t.val / 4 / 4, t.val / 4 % 4] :=
  (by decide +kernel : ∀ t : Fin grid0.N, _)

/-- What a point adds: the sum over its part of the sequence. -/
def part (c : Dev nD) (t : Fin cfg0.N) : FVec Ideal ⟨2, ![1024, 512]⟩ .f32 :=
  weights (k := 1024) (iblk m c 0 t) (iblk m c 1 t)

/-- The last point of a run writes out what it leaves in the kept array. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_out

/-- What the kept array holds at the end of a run. -/
theorem kept (c : Dev nD) (t : Fin cfg0.N) (h : t.val % 4 = 4 - 1) (j : Shape.Idx ⟨2, ![1024, 512]⟩) :
    ((outsAt0 m c t.val t.isLt).2 j : EReal) = 0 + ∑ s : Fin 4, part m c ⟨4 * (t.val / 4) + s.val, Pipeline.run_point_lt_of_flush t h s⟩ j := by
  refine Pipeline.eq_sum_fin_of_reset_step_apply_of_flush (M := EReal) (fun n h => (outsAt0 m c n h).2) 4 (fun _ => 0) (part m c) (fun t h j => ?_) (fun t h j => ?_) t h j
  · rw [outsAt0_A m c t h (by omega) (by omega)]
    dsimp only
    frame_out
    unfold k0_pay2 k0_pay1
    simp only [pointwise]
    rfl
  · by_cases h2 : t.val % 4 = 3
    · rw [outsAt0_C m c t h (by omega) h2]
      dsimp only
      frame_out
      rw [read_unread_whole]
      unfold k0_pay3 k0_pay1
      simp only [pointwise]
      exact congrArg (HAdd.hAdd (α := EReal) _) (zero_add (M := EReal) _)
    · rw [outsAt0_B m c t h (by omega) h2]
      dsimp only
      frame_out
      rw [read_unread_whole]
      unfold k0_pay3 k0_pay1
      simp only [pointwise]
      exact congrArg (HAdd.hAdd (α := EReal) _) (zero_add (M := EReal) _)

theorem final (c : Dev nD) : (dats m 0 c).arrAt 2 cfg0.N
    = weights (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨4 * (t.val / 4) + s.val, Pipeline.run_point_lt_of_flush t h s⟩]

end Cert.MixPgDwIdeal.RefValue

namespace Cert.FfnGuDxIdeal.RefValue

open Cert.FfnGuDxIdeal Cert.FfnGuDxIdeal.Gen Cert.FfnGuDxIdeal.Value Cert.WeightValue Cert.BackValue

variable (m : (ℓ : Loc nD τ sig) → Buf (Elt Ideal) ℓ)

theorem idx : ∀ t : Fin cfg0.N, win0_0.index t = ![t.val / 2 / 2, t.val % 2] ∧ win0_1.index t = ![t.val / 2 % 2, t.val % 2]
    ∧ win0_2.index t = ![t.val / 2 / 2, t.val / 2 % 2] :=
  (by decide +kernel : ∀ t : Fin grid0.N, _)

/-- What a point adds: the sum over its half of the inner axis. -/
def part (c : Dev nD) (t : Fin cfg0.N) : FVec Ideal ⟨2, ![1024, 512]⟩ .f32 :=
  back .f32 (k := 2816) (iblk m c 0 t) (iblk m c 1 t)

/-- The last point of a run writes out what it leaves in the kept array. -/
theorem written (c : Dev nD) (t : Fin cfg0.N) (h : t.val % 2 = 1) : (outsAt0 m c t.val t.isLt).1 = (outsAt0 m c t.val t.isLt).2 := by
  rw [outsAt0_B m c t (by omega) (by omega) h]
  dsimp only
  frame_out

/-- What the kept array holds at the end of a run. -/
theorem kept (c : Dev nD) (t : Fin cfg0.N) (h : t.val % 2 = 2 - 1) (j : Shape.Idx ⟨2, ![1024, 512]⟩) :
    ((outsAt0 m c t.val t.isLt).2 j : EReal) = 0 + ∑ s : Fin 2, part m c ⟨2 * (t.val / 2) + s.val, Pipeline.run_point_lt_of_flush t h s⟩ j := by
  refine Pipeline.eq_sum_fin_of_reset_step_apply_of_flush (M := EReal) (fun n h => (outsAt0 m c n h).2) 2 (fun _ => 0) (part m c) (fun t h j => ?_) (fun t h j => ?_) t h j
  · rw [outsAt0_A m c t h (by omega) (by omega)]
    dsimp only
    frame_out
    unfold k0_pay2 k0_pay1
    simp only [pointwise]
    rfl
  · rw [outsAt0_B m c t h (by omega) (by omega)]
    dsimp only
    frame_out
    rw [read_unread_whole]
    unfold k0_pay3 k0_pay1
    simp only [pointwise]
    exact congrArg (HAdd.hAdd (α := EReal) _) (zero_add (M := EReal) _)

theorem final (c : Dev nD) : (dats m 0 c).arrAt 2 cfg0.N
    = back .f32 (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h, kept m c t h]
  refine (zero_add (M := EReal) _).trans (Fin.sum_mul_add_congr (fun s q hl => mul_congr ?_ ?_))
  all_goals blk_ext! [iblk, V, idx t, idx ⟨2 * (t.val / 2) + s.val, Pipeline.run_point_lt_of_flush t h s⟩]

end Cert.FfnGuDxIdeal.RefValue

end
-- ==== Proof.WeightClaims.lean ====
/-
# The claims of the gradients of the projections
-/
module

public import proofs.«01_k».proof.Defs
public import proofs.«01_k».proof.Proof.WeightValue
public import proofs.«01_k».proof.Proof.Gen.FfnDownDwRefIdeal.Run
public import proofs.«01_k».proof.Proof.Gen.FfnDownDw.Frame
public import proofs.«01_k».proof.Proof.Gen.FfnGuDwRefIdeal.Run
public import proofs.«01_k».proof.Proof.Gen.FfnGuDw.Frame
public import proofs.«01_k».proof.Proof.Gen.MixOutDwRefIdeal.Run
public import proofs.«01_k».proof.Proof.Gen.MixOutDw.Frame
public import proofs.«01_k».proof.Proof.Gen.MixWbDwRefIdeal.Run
public import proofs.«01_k».proof.Proof.Gen.MixWbDw.Frame
public import proofs.«01_k».proof.Proof.Gen.MixQkvDwRefIdeal.Run
public import proofs.«01_k».proof.Proof.Gen.MixQkvDw.Frame
public import proofs.«01_k».proof.Proof.Gen.MixBaDwRefIdeal.Run
public import proofs.«01_k».proof.Proof.Gen.MixBaDw.Frame
public import proofs.«01_k».proof.Proof.Gen.MixDaDwRefIdeal.Run
public import proofs.«01_k».proof.Proof.Gen.MixDaDw.Frame
public import proofs.«01_k».proof.Proof.Gen.MixPgDwRefIdeal.Run
public import proofs.«01_k».proof.Proof.Gen.MixPgDw.Frame
public import proofs.«01_k».proof.Proof.Gen.FfnGuDxRefIdeal.Run
public import proofs.«01_k».proof.Proof.Gen.FfnGuDx.Frame
public import Idealize.ShloMosaic.Lib.Quiescent

@[expose] public section

noncomputable section

namespace Cert.WeightClaims

open Idealize.ShloMosaic Idealize.ShloMosaic.TcCoe Idealize.SL.Sem

namespace FfnDownDw

theorem frame_ideal : Cert.quiescent_FfnDownDwIdeal (hFfnDownDwIdeal := Cert.FfnDownDwIdeal.Gen.facts) := fun m ρ _ => Cert.FfnDownDwIdeal.Gen.frame (F := Ideal) m ρ

theorem frame : Cert.quiescent_FfnDownDw (hFfnDownDw := Cert.FfnDownDw.Gen.facts) := fun m ρ _ => Cert.FfnDownDw.Gen.frame (F := Bits) m ρ

theorem frame_ref_ideal : Cert.quiescent_FfnDownDwRefIdeal (hFfnDownDwRefIdeal := Cert.FfnDownDwRefIdeal.Gen.facts) := fun m ρ _ =>
  (θ_run _ _ _).mono (fun r h => ⟨fun c => (h c).2, sem_eq_zero_of_no_sems rfl r.2⟩) (Cert.FfnDownDwRefIdeal.Value.run (F := Ideal) m ρ)

theorem value : Cert.algebraic_FfnDownDwIdeal_FfnDownDwRefIdeal (hFfnDownDwIdeal := Cert.FfnDownDwIdeal.Gen.facts) (hFfnDownDwRefIdeal := Cert.FfnDownDwRefIdeal.Gen.facts) :=
  fun m ρ m' ρ' _ hm => ⟨_, Cert.FfnDownDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.FfnDownDwIdeal.RefValue.final m c).symm), k⟩)
    (Cert.FfnDownDwRefIdeal.Value.run (F := Ideal) m' ρ')⟩

end FfnDownDw

namespace FfnGuDw

theorem frame_ideal : Cert.quiescent_FfnGuDwIdeal (hFfnGuDwIdeal := Cert.FfnGuDwIdeal.Gen.facts) := fun m ρ _ => Cert.FfnGuDwIdeal.Gen.frame (F := Ideal) m ρ

theorem frame : Cert.quiescent_FfnGuDw (hFfnGuDw := Cert.FfnGuDw.Gen.facts) := fun m ρ _ => Cert.FfnGuDw.Gen.frame (F := Bits) m ρ

theorem frame_ref_ideal : Cert.quiescent_FfnGuDwRefIdeal (hFfnGuDwRefIdeal := Cert.FfnGuDwRefIdeal.Gen.facts) := fun m ρ _ =>
  (θ_run _ _ _).mono (fun r h => ⟨fun c => (h c).2, sem_eq_zero_of_no_sems rfl r.2⟩) (Cert.FfnGuDwRefIdeal.Value.run (F := Ideal) m ρ)

theorem value : Cert.algebraic_FfnGuDwIdeal_FfnGuDwRefIdeal (hFfnGuDwIdeal := Cert.FfnGuDwIdeal.Gen.facts) (hFfnGuDwRefIdeal := Cert.FfnGuDwRefIdeal.Gen.facts) :=
  fun m ρ m' ρ' _ hm => ⟨_, Cert.FfnGuDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.FfnGuDwIdeal.RefValue.final m c).symm), k⟩)
    (Cert.FfnGuDwRefIdeal.Value.run (F := Ideal) m' ρ')⟩

end FfnGuDw

namespace MixOutDw

theorem frame_ideal : Cert.quiescent_MixOutDwIdeal (hMixOutDwIdeal := Cert.MixOutDwIdeal.Gen.facts) := fun m ρ _ => Cert.MixOutDwIdeal.Gen.frame (F := Ideal) m ρ

theorem frame : Cert.quiescent_MixOutDw (hMixOutDw := Cert.MixOutDw.Gen.facts) := fun m ρ _ => Cert.MixOutDw.Gen.frame (F := Bits) m ρ

theorem frame_ref_ideal : Cert.quiescent_MixOutDwRefIdeal (hMixOutDwRefIdeal := Cert.MixOutDwRefIdeal.Gen.facts) := fun m ρ _ =>
  (θ_run _ _ _).mono (fun r h => ⟨fun c => (h c).2, sem_eq_zero_of_no_sems rfl r.2⟩) (Cert.MixOutDwRefIdeal.Value.run (F := Ideal) m ρ)

theorem value : Cert.algebraic_MixOutDwIdeal_MixOutDwRefIdeal (hMixOutDwIdeal := Cert.MixOutDwIdeal.Gen.facts) (hMixOutDwRefIdeal := Cert.MixOutDwRefIdeal.Gen.facts) :=
  fun m ρ m' ρ' _ hm => ⟨_, Cert.MixOutDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixOutDwIdeal.RefValue.final m c).symm), k⟩)
    (Cert.MixOutDwRefIdeal.Value.run (F := Ideal) m' ρ')⟩

end MixOutDw

namespace MixWbDw

theorem frame_ideal : Cert.quiescent_MixWbDwIdeal (hMixWbDwIdeal := Cert.MixWbDwIdeal.Gen.facts) := fun m ρ _ => Cert.MixWbDwIdeal.Gen.frame (F := Ideal) m ρ

theorem frame : Cert.quiescent_MixWbDw (hMixWbDw := Cert.MixWbDw.Gen.facts) := fun m ρ _ => Cert.MixWbDw.Gen.frame (F := Bits) m ρ

theorem frame_ref_ideal : Cert.quiescent_MixWbDwRefIdeal (hMixWbDwRefIdeal := Cert.MixWbDwRefIdeal.Gen.facts) := fun m ρ _ =>
  (θ_run _ _ _).mono (fun r h => ⟨fun c => (h c).2, sem_eq_zero_of_no_sems rfl r.2⟩) (Cert.MixWbDwRefIdeal.Value.run (F := Ideal) m ρ)

theorem value : Cert.algebraic_MixWbDwIdeal_MixWbDwRefIdeal (hMixWbDwIdeal := Cert.MixWbDwIdeal.Gen.facts) (hMixWbDwRefIdeal := Cert.MixWbDwRefIdeal.Gen.facts) :=
  fun m ρ m' ρ' _ hm => ⟨_, Cert.MixWbDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixWbDwIdeal.RefValue.final m c).symm), k⟩)
    (Cert.MixWbDwRefIdeal.Value.run (F := Ideal) m' ρ')⟩

end MixWbDw

namespace MixQkvDw

theorem frame_ideal : Cert.quiescent_MixQkvDwIdeal (hMixQkvDwIdeal := Cert.MixQkvDwIdeal.Gen.facts) := fun m ρ _ => Cert.MixQkvDwIdeal.Gen.frame (F := Ideal) m ρ

theorem frame : Cert.quiescent_MixQkvDw (hMixQkvDw := Cert.MixQkvDw.Gen.facts) := fun m ρ _ => Cert.MixQkvDw.Gen.frame (F := Bits) m ρ

theorem frame_ref_ideal : Cert.quiescent_MixQkvDwRefIdeal (hMixQkvDwRefIdeal := Cert.MixQkvDwRefIdeal.Gen.facts) := fun m ρ _ =>
  (θ_run _ _ _).mono (fun r h => ⟨fun c => (h c).2, sem_eq_zero_of_no_sems rfl r.2⟩) (Cert.MixQkvDwRefIdeal.Value.run (F := Ideal) m ρ)

theorem value : Cert.algebraic_MixQkvDwIdeal_MixQkvDwRefIdeal (hMixQkvDwIdeal := Cert.MixQkvDwIdeal.Gen.facts) (hMixQkvDwRefIdeal := Cert.MixQkvDwRefIdeal.Gen.facts) :=
  fun m ρ m' ρ' _ hm => ⟨_, Cert.MixQkvDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixQkvDwIdeal.RefValue.final m c).symm), k⟩)
    (Cert.MixQkvDwRefIdeal.Value.run (F := Ideal) m' ρ')⟩

end MixQkvDw

namespace MixBaDw

theorem frame_ideal : Cert.quiescent_MixBaDwIdeal (hMixBaDwIdeal := Cert.MixBaDwIdeal.Gen.facts) := fun m ρ _ => Cert.MixBaDwIdeal.Gen.frame (F := Ideal) m ρ

theorem frame : Cert.quiescent_MixBaDw (hMixBaDw := Cert.MixBaDw.Gen.facts) := fun m ρ _ => Cert.MixBaDw.Gen.frame (F := Bits) m ρ

theorem frame_ref_ideal : Cert.quiescent_MixBaDwRefIdeal (hMixBaDwRefIdeal := Cert.MixBaDwRefIdeal.Gen.facts) := fun m ρ _ =>
  (θ_run _ _ _).mono (fun r h => ⟨fun c => (h c).2, sem_eq_zero_of_no_sems rfl r.2⟩) (Cert.MixBaDwRefIdeal.Value.run (F := Ideal) m ρ)

theorem value : Cert.algebraic_MixBaDwIdeal_MixBaDwRefIdeal (hMixBaDwIdeal := Cert.MixBaDwIdeal.Gen.facts) (hMixBaDwRefIdeal := Cert.MixBaDwRefIdeal.Gen.facts) :=
  fun m ρ m' ρ' _ hm => ⟨_, Cert.MixBaDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixBaDwIdeal.RefValue.final m c).symm), k⟩)
    (Cert.MixBaDwRefIdeal.Value.run (F := Ideal) m' ρ')⟩

end MixBaDw

namespace MixDaDw

theorem frame_ideal : Cert.quiescent_MixDaDwIdeal (hMixDaDwIdeal := Cert.MixDaDwIdeal.Gen.facts) := fun m ρ _ => Cert.MixDaDwIdeal.Gen.frame (F := Ideal) m ρ

theorem frame : Cert.quiescent_MixDaDw (hMixDaDw := Cert.MixDaDw.Gen.facts) := fun m ρ _ => Cert.MixDaDw.Gen.frame (F := Bits) m ρ

theorem frame_ref_ideal : Cert.quiescent_MixDaDwRefIdeal (hMixDaDwRefIdeal := Cert.MixDaDwRefIdeal.Gen.facts) := fun m ρ _ =>
  (θ_run _ _ _).mono (fun r h => ⟨fun c => (h c).2, sem_eq_zero_of_no_sems rfl r.2⟩) (Cert.MixDaDwRefIdeal.Value.run (F := Ideal) m ρ)

theorem value : Cert.algebraic_MixDaDwIdeal_MixDaDwRefIdeal (hMixDaDwIdeal := Cert.MixDaDwIdeal.Gen.facts) (hMixDaDwRefIdeal := Cert.MixDaDwRefIdeal.Gen.facts) :=
  fun m ρ m' ρ' _ hm => ⟨_, Cert.MixDaDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixDaDwIdeal.RefValue.final m c).symm), k⟩)
    (Cert.MixDaDwRefIdeal.Value.run (F := Ideal) m' ρ')⟩

end MixDaDw

namespace MixPgDw

theorem frame_ideal : Cert.quiescent_MixPgDwIdeal (hMixPgDwIdeal := Cert.MixPgDwIdeal.Gen.facts) := fun m ρ _ => Cert.MixPgDwIdeal.Gen.frame (F := Ideal) m ρ

theorem frame : Cert.quiescent_MixPgDw (hMixPgDw := Cert.MixPgDw.Gen.facts) := fun m ρ _ => Cert.MixPgDw.Gen.frame (F := Bits) m ρ

theorem frame_ref_ideal : Cert.quiescent_MixPgDwRefIdeal (hMixPgDwRefIdeal := Cert.MixPgDwRefIdeal.Gen.facts) := fun m ρ _ =>
  (θ_run _ _ _).mono (fun r h => ⟨fun c => (h c).2, sem_eq_zero_of_no_sems rfl r.2⟩) (Cert.MixPgDwRefIdeal.Value.run (F := Ideal) m ρ)

theorem value : Cert.algebraic_MixPgDwIdeal_MixPgDwRefIdeal (hMixPgDwIdeal := Cert.MixPgDwIdeal.Gen.facts) (hMixPgDwRefIdeal := Cert.MixPgDwRefIdeal.Gen.facts) :=
  fun m ρ m' ρ' _ hm => ⟨_, Cert.MixPgDwIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.MixPgDwIdeal.RefValue.final m c).symm), k⟩)
    (Cert.MixPgDwRefIdeal.Value.run (F := Ideal) m' ρ')⟩

end MixPgDw

namespace FfnGuDx

theorem frame_ideal : Cert.quiescent_FfnGuDxIdeal (hFfnGuDxIdeal := Cert.FfnGuDxIdeal.Gen.facts) := fun m ρ _ => Cert.FfnGuDxIdeal.Gen.frame (F := Ideal) m ρ

theorem frame : Cert.quiescent_FfnGuDx (hFfnGuDx := Cert.FfnGuDx.Gen.facts) := fun m ρ _ => Cert.FfnGuDx.Gen.frame (F := Bits) m ρ

theorem frame_ref_ideal : Cert.quiescent_FfnGuDxRefIdeal (hFfnGuDxRefIdeal := Cert.FfnGuDxRefIdeal.Gen.facts) := fun m ρ _ =>
  (θ_run _ _ _).mono (fun r h => ⟨fun c => (h c).2, sem_eq_zero_of_no_sems rfl r.2⟩) (Cert.FfnGuDxRefIdeal.Value.run (F := Ideal) m ρ)

theorem value : Cert.algebraic_FfnGuDxIdeal_FfnGuDxRefIdeal (hFfnGuDxIdeal := Cert.FfnGuDxIdeal.Gen.facts) (hFfnGuDxRefIdeal := Cert.FfnGuDxRefIdeal.Gen.facts) :=
  fun m ρ m' ρ' _ hm => ⟨_, Cert.FfnGuDxIdeal.Value.run_blocks (F := Ideal) m ρ, (θ_run _ _ _).mono
    (fun r h c => let ⟨d, k⟩ := h c
      ⟨d.trans (Eq.trans (by
        rw [(hm c).1, (hm c).2]
        funext j
        simp only [pointwise]
        exact zero_add (M := EReal) _) (Cert.FfnGuDxIdeal.RefValue.final m c).symm), k⟩)
    (Cert.FfnGuDxRefIdeal.Value.run (F := Ideal) m' ρ')⟩

end FfnGuDx

end Cert.WeightClaims

end
-- ==== Proof.lean ====
/-
# The claims, assembled

Every claim is proved in the module of its call: the gather, the exchanges of the reduce-scatter, the sums, the updates
and the model's own calls.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.GatherClaims
public import proofs.«01_k».proof.Proof.Gen.Scatter
public import proofs.«01_k».proof.Proof.Gen.ScatterIdeal
public import proofs.«01_k».proof.Proof.Gen.ScatterRefIdeal
public import proofs.«01_k».proof.Proof.Gen.ScatterRef
public import proofs.«01_k».proof.Proof.ScatterClaims
public import proofs.«01_k».proof.Proof.Gen.Swap
public import proofs.«01_k».proof.Proof.Gen.SwapIdeal
public import proofs.«01_k».proof.Proof.Gen.SwapRefIdeal
public import proofs.«01_k».proof.Proof.Gen.SwapRef
public import proofs.«01_k».proof.Proof.SwapClaims
public import proofs.«01_k».proof.Proof.Gen.FinalSwap
public import proofs.«01_k».proof.Proof.Gen.FinalSwapIdeal
public import proofs.«01_k».proof.Proof.Gen.FinalSwapRefIdeal
public import proofs.«01_k».proof.Proof.Gen.FinalSwapRef
public import proofs.«01_k».proof.Proof.FinalClaims
public import proofs.«01_k».proof.Proof.Gen.AdamAdaW
public import proofs.«01_k».proof.Proof.Gen.AdamAdaWIdeal
public import proofs.«01_k».proof.Proof.Gen.AdamAdaWRefIdeal
public import proofs.«01_k».proof.Proof.AdamClaims
public import proofs.«01_k».proof.Proof.Gen.AdamAdaB
public import proofs.«01_k».proof.Proof.Gen.AdamAdaBIdeal
public import proofs.«01_k».proof.Proof.Gen.AdamAdaBRefIdeal
public import proofs.«01_k».proof.Proof.Gen.AdamLn
public import proofs.«01_k».proof.Proof.Gen.AdamLnIdeal
public import proofs.«01_k».proof.Proof.Gen.AdamLnRefIdeal
public import proofs.«01_k».proof.Proof.Gen.AdamFfnIn
public import proofs.«01_k».proof.Proof.Gen.AdamFfnInIdeal
public import proofs.«01_k».proof.Proof.Gen.AdamFfnInRefIdeal
public import proofs.«01_k».proof.Proof.Gen.AdamFfnOut
public import proofs.«01_k».proof.Proof.Gen.AdamFfnOutIdeal
public import proofs.«01_k».proof.Proof.Gen.AdamFfnOutRefIdeal
public import proofs.«01_k».proof.Proof.Gen.AdamWIn
public import proofs.«01_k».proof.Proof.Gen.AdamWInIdeal
public import proofs.«01_k».proof.Proof.Gen.AdamWInRefIdeal
public import proofs.«01_k».proof.Proof.Gen.AdamConv
public import proofs.«01_k».proof.Proof.Gen.AdamConvIdeal
public import proofs.«01_k».proof.Proof.Gen.AdamConvRefIdeal
public import proofs.«01_k».proof.Proof.Gen.AdamHeads
public import proofs.«01_k».proof.Proof.Gen.AdamHeadsIdeal
public import proofs.«01_k».proof.Proof.Gen.AdamHeadsRefIdeal
public import proofs.«01_k».proof.Proof.Gen.AdamDn
public import proofs.«01_k».proof.Proof.Gen.AdamDnIdeal
public import proofs.«01_k».proof.Proof.Gen.AdamDnRefIdeal
public import proofs.«01_k».proof.Proof.Gen.AdamMix
public import proofs.«01_k».proof.Proof.Gen.AdamMixIdeal
public import proofs.«01_k».proof.Proof.Gen.AdamMixRefIdeal
public import proofs.«01_k».proof.Proof.Gen.AdamWb
public import proofs.«01_k».proof.Proof.Gen.AdamWbIdeal
public import proofs.«01_k».proof.Proof.Gen.AdamWbRefIdeal
public import proofs.«01_k».proof.Proof.Gen.AdamNorm
public import proofs.«01_k».proof.Proof.Gen.AdamNormIdeal
public import proofs.«01_k».proof.Proof.Gen.AdamNormRefIdeal
public import proofs.«01_k».proof.Proof.Gen.PairSum
public import proofs.«01_k».proof.Proof.Gen.PairSumIdeal
public import proofs.«01_k».proof.Proof.Gen.PairSumRefIdeal
public import proofs.«01_k».proof.Proof.SumClaims
public import proofs.«01_k».proof.Proof.Gen.ChipSum
public import proofs.«01_k».proof.Proof.Gen.ChipSumIdeal
public import proofs.«01_k».proof.Proof.Gen.ChipSumRefIdeal
public import proofs.«01_k».proof.Proof.Gen.SmallSum
public import proofs.«01_k».proof.Proof.Gen.SmallSumIdeal
public import proofs.«01_k».proof.Proof.Gen.SmallSumRefIdeal
public import proofs.«01_k».proof.Proof.Gen.SmallGrads
public import proofs.«01_k».proof.Proof.Gen.SmallGradsIdeal
public import proofs.«01_k».proof.Proof.Gen.SmallGradsRefIdeal
public import proofs.«01_k».proof.Proof.SmallClaims
public import proofs.«01_k».proof.Proof.Gen.BigGrads
public import proofs.«01_k».proof.Proof.Gen.BigGradsIdeal
public import proofs.«01_k».proof.Proof.Gen.BigGradsRefIdeal
public import proofs.«01_k».proof.Proof.BigClaims
public import proofs.«01_k».proof.Proof.Gen.AdaBGrad
public import proofs.«01_k».proof.Proof.Gen.AdaBGradIdeal
public import proofs.«01_k».proof.Proof.Gen.AdaBGradRefIdeal
public import proofs.«01_k».proof.Proof.Gen.AdaWGrad
public import proofs.«01_k».proof.Proof.Gen.AdaWGradIdeal
public import proofs.«01_k».proof.Proof.Gen.AdaWGradRefIdeal
public import proofs.«01_k».proof.Proof.Gen.CSilu
public import proofs.«01_k».proof.Proof.Gen.CSiluIdeal
public import proofs.«01_k».proof.Proof.Gen.CSiluRefIdeal
public import proofs.«01_k».proof.Proof.ModelClaims
public import proofs.«01_k».proof.Proof.Gen.AdaFwd
public import proofs.«01_k».proof.Proof.Gen.AdaFwdIdeal
public import proofs.«01_k».proof.Proof.Gen.AdaFwdRefIdeal
public import proofs.«01_k».proof.Proof.Gen.FfnNorm
public import proofs.«01_k».proof.Proof.Gen.FfnNormIdeal
public import proofs.«01_k».proof.Proof.Gen.FfnNormRefIdeal
public import proofs.«01_k».proof.Proof.Gen.FfnGu
public import proofs.«01_k».proof.Proof.Gen.FfnGuIdeal
public import proofs.«01_k».proof.Proof.Gen.FfnGuRefIdeal
public import proofs.«01_k».proof.Proof.Gen.FfnAct
public import proofs.«01_k».proof.Proof.Gen.FfnActIdeal
public import proofs.«01_k».proof.Proof.Gen.FfnActRefIdeal
public import proofs.«01_k».proof.Proof.Gen.FfnDown
public import proofs.«01_k».proof.Proof.Gen.FfnDownIdeal
public import proofs.«01_k».proof.Proof.Gen.FfnDownRefIdeal
public import proofs.«01_k».proof.Proof.Gen.MixQkv
public import proofs.«01_k».proof.Proof.Gen.MixQkvIdeal
public import proofs.«01_k».proof.Proof.Gen.MixQkvRefIdeal
public import proofs.«01_k».proof.Proof.Gen.MixZ
public import proofs.«01_k».proof.Proof.Gen.MixZIdeal
public import proofs.«01_k».proof.Proof.Gen.MixZRefIdeal
public import proofs.«01_k».proof.Proof.Gen.MixBa
public import proofs.«01_k».proof.Proof.Gen.MixBaIdeal
public import proofs.«01_k».proof.Proof.Gen.MixBaRefIdeal
public import proofs.«01_k».proof.Proof.Gen.MixDa
public import proofs.«01_k».proof.Proof.Gen.MixDaIdeal
public import proofs.«01_k».proof.Proof.Gen.MixDaRefIdeal
public import proofs.«01_k».proof.Proof.Gen.MixPg
public import proofs.«01_k».proof.Proof.Gen.MixPgIdeal
public import proofs.«01_k».proof.Proof.Gen.MixPgRefIdeal
public import proofs.«01_k».proof.Proof.Gen.MixWb
public import proofs.«01_k».proof.Proof.Gen.MixWbIdeal
public import proofs.«01_k».proof.Proof.Gen.MixWbRefIdeal
public import proofs.«01_k».proof.Proof.Gen.MixGate
public import proofs.«01_k».proof.Proof.Gen.MixGateIdeal
public import proofs.«01_k».proof.Proof.Gen.MixGateRefIdeal
public import proofs.«01_k».proof.Proof.Gen.MixOut
public import proofs.«01_k».proof.Proof.Gen.MixOutIdeal
public import proofs.«01_k».proof.Proof.Gen.MixOutRefIdeal
public import proofs.«01_k».proof.Proof.Gen.FfnDownDx
public import proofs.«01_k».proof.Proof.Gen.FfnDownDxIdeal
public import proofs.«01_k».proof.Proof.Gen.FfnDownDxRefIdeal
public import proofs.«01_k».proof.Proof.BackClaims
public import proofs.«01_k».proof.Proof.Gen.MixOutDx
public import proofs.«01_k».proof.Proof.Gen.MixOutDxIdeal
public import proofs.«01_k».proof.Proof.Gen.MixOutDxRefIdeal
public import proofs.«01_k».proof.Proof.Gen.MixWaDx
public import proofs.«01_k».proof.Proof.Gen.MixWaDxIdeal
public import proofs.«01_k».proof.Proof.Gen.MixWaDxRefIdeal
public import proofs.«01_k».proof.Proof.Gen.MixWbDx
public import proofs.«01_k».proof.Proof.Gen.MixWbDxIdeal
public import proofs.«01_k».proof.Proof.Gen.MixWbDxRefIdeal
public import proofs.«01_k».proof.Proof.Gen.MixQkvDx
public import proofs.«01_k».proof.Proof.Gen.MixQkvDxIdeal
public import proofs.«01_k».proof.Proof.Gen.MixQkvDxRefIdeal
public import proofs.«01_k».proof.Proof.Gen.MixZDx
public import proofs.«01_k».proof.Proof.Gen.MixZDxIdeal
public import proofs.«01_k».proof.Proof.Gen.MixZDxRefIdeal
public import proofs.«01_k».proof.Proof.Gen.MixBaDx
public import proofs.«01_k».proof.Proof.Gen.MixBaDxIdeal
public import proofs.«01_k».proof.Proof.Gen.MixBaDxRefIdeal
public import proofs.«01_k».proof.Proof.Gen.MixDaDx
public import proofs.«01_k».proof.Proof.Gen.MixDaDxIdeal
public import proofs.«01_k».proof.Proof.Gen.MixDaDxRefIdeal
public import proofs.«01_k».proof.Proof.Gen.MixPgDx
public import proofs.«01_k».proof.Proof.Gen.MixPgDxIdeal
public import proofs.«01_k».proof.Proof.Gen.MixPgDxRefIdeal
public import proofs.«01_k».proof.Proof.Gen.FfnGuDx
public import proofs.«01_k».proof.Proof.Gen.FfnGuDxIdeal
public import proofs.«01_k».proof.Proof.Gen.FfnGuDxRefIdeal
public import proofs.«01_k».proof.Proof.WeightClaims
public import proofs.«01_k».proof.Proof.Gen.FfnDownDw
public import proofs.«01_k».proof.Proof.Gen.FfnDownDwIdeal
public import proofs.«01_k».proof.Proof.Gen.FfnDownDwRefIdeal
public import proofs.«01_k».proof.Proof.Gen.FfnGuDw
public import proofs.«01_k».proof.Proof.Gen.FfnGuDwIdeal
public import proofs.«01_k».proof.Proof.Gen.FfnGuDwRefIdeal
public import proofs.«01_k».proof.Proof.Gen.MixOutDw
public import proofs.«01_k».proof.Proof.Gen.MixOutDwIdeal
public import proofs.«01_k».proof.Proof.Gen.MixOutDwRefIdeal
public import proofs.«01_k».proof.Proof.Gen.MixWbDw
public import proofs.«01_k».proof.Proof.Gen.MixWbDwIdeal
public import proofs.«01_k».proof.Proof.Gen.MixWbDwRefIdeal
public import proofs.«01_k».proof.Proof.Gen.MixQkvDw
public import proofs.«01_k».proof.Proof.Gen.MixQkvDwIdeal
public import proofs.«01_k».proof.Proof.Gen.MixQkvDwRefIdeal
public import proofs.«01_k».proof.Proof.Gen.MixBaDw
public import proofs.«01_k».proof.Proof.Gen.MixBaDwIdeal
public import proofs.«01_k».proof.Proof.Gen.MixBaDwRefIdeal
public import proofs.«01_k».proof.Proof.Gen.MixDaDw
public import proofs.«01_k».proof.Proof.Gen.MixDaDwIdeal
public import proofs.«01_k».proof.Proof.Gen.MixDaDwRefIdeal
public import proofs.«01_k».proof.Proof.Gen.MixPgDw
public import proofs.«01_k».proof.Proof.Gen.MixPgDwIdeal
public import proofs.«01_k».proof.Proof.Gen.MixPgDwRefIdeal
public import proofs.«01_k».proof.Proof.Gen.InputGrad
public import proofs.«01_k».proof.Proof.Gen.InputGradIdeal
public import proofs.«01_k».proof.Proof.Gen.InputGradRefIdeal
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Reference.Gen.facts,
  Cert.Scatter.Gen.facts, Cert.ScatterIdeal.Gen.facts, Cert.ScatterRefIdeal.Gen.facts, Cert.ScatterRef.Gen.facts,
  Cert.Swap.Gen.facts, Cert.SwapIdeal.Gen.facts, Cert.SwapRefIdeal.Gen.facts, Cert.SwapRef.Gen.facts,
  Cert.FinalSwap.Gen.facts, Cert.FinalSwapIdeal.Gen.facts, Cert.FinalSwapRefIdeal.Gen.facts, Cert.FinalSwapRef.Gen.facts,
  Cert.AdamAdaW.Gen.facts, Cert.AdamAdaWIdeal.Gen.facts, Cert.AdamAdaWRefIdeal.Gen.facts, Cert.AdamAdaB.Gen.facts,
  Cert.AdamAdaBIdeal.Gen.facts, Cert.AdamAdaBRefIdeal.Gen.facts, Cert.AdamLn.Gen.facts, Cert.AdamLnIdeal.Gen.facts,
  Cert.AdamLnRefIdeal.Gen.facts, Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts, Cert.AdamWIn.Gen.facts,
  Cert.AdamWInIdeal.Gen.facts, Cert.AdamWInRefIdeal.Gen.facts, Cert.AdamConv.Gen.facts, Cert.AdamConvIdeal.Gen.facts,
  Cert.AdamConvRefIdeal.Gen.facts, Cert.AdamHeads.Gen.facts, Cert.AdamHeadsIdeal.Gen.facts, Cert.AdamHeadsRefIdeal.Gen.facts,
  Cert.AdamDn.Gen.facts, Cert.AdamDnIdeal.Gen.facts, Cert.AdamDnRefIdeal.Gen.facts, Cert.AdamMix.Gen.facts,
  Cert.AdamMixIdeal.Gen.facts, Cert.AdamMixRefIdeal.Gen.facts, Cert.AdamWb.Gen.facts, Cert.AdamWbIdeal.Gen.facts,
  Cert.AdamWbRefIdeal.Gen.facts, Cert.AdamNorm.Gen.facts, Cert.AdamNormIdeal.Gen.facts, Cert.AdamNormRefIdeal.Gen.facts,
  Cert.PairSum.Gen.facts, Cert.PairSumIdeal.Gen.facts, Cert.PairSumRefIdeal.Gen.facts, Cert.ChipSum.Gen.facts,
  Cert.ChipSumIdeal.Gen.facts, Cert.ChipSumRefIdeal.Gen.facts, Cert.SmallSum.Gen.facts, Cert.SmallSumIdeal.Gen.facts,
  Cert.SmallSumRefIdeal.Gen.facts, Cert.SmallGrads.Gen.facts, Cert.SmallGradsIdeal.Gen.facts, Cert.SmallGradsRefIdeal.Gen.facts,
  Cert.BigGrads.Gen.facts, Cert.BigGradsIdeal.Gen.facts, Cert.BigGradsRefIdeal.Gen.facts, Cert.AdaBGrad.Gen.facts,
  Cert.AdaBGradIdeal.Gen.facts, Cert.AdaBGradRefIdeal.Gen.facts, Cert.AdaWGrad.Gen.facts, Cert.AdaWGradIdeal.Gen.facts,
  Cert.AdaWGradRefIdeal.Gen.facts, Cert.CSilu.Gen.facts, Cert.CSiluIdeal.Gen.facts, Cert.CSiluRefIdeal.Gen.facts,
  Cert.AdaFwd.Gen.facts, Cert.AdaFwdIdeal.Gen.facts, Cert.AdaFwdRefIdeal.Gen.facts, Cert.FfnNorm.Gen.facts,
  Cert.FfnNormIdeal.Gen.facts, Cert.FfnNormRefIdeal.Gen.facts, Cert.FfnGu.Gen.facts, Cert.FfnGuIdeal.Gen.facts,
  Cert.FfnGuRefIdeal.Gen.facts, Cert.FfnAct.Gen.facts, Cert.FfnActIdeal.Gen.facts, Cert.FfnActRefIdeal.Gen.facts,
  Cert.FfnDown.Gen.facts, Cert.FfnDownIdeal.Gen.facts, Cert.FfnDownRefIdeal.Gen.facts, Cert.MixQkv.Gen.facts,
  Cert.MixQkvIdeal.Gen.facts, Cert.MixQkvRefIdeal.Gen.facts, Cert.MixZ.Gen.facts, Cert.MixZIdeal.Gen.facts,
  Cert.MixZRefIdeal.Gen.facts, Cert.MixBa.Gen.facts, Cert.MixBaIdeal.Gen.facts, Cert.MixBaRefIdeal.Gen.facts,
  Cert.MixDa.Gen.facts, Cert.MixDaIdeal.Gen.facts, Cert.MixDaRefIdeal.Gen.facts, Cert.MixPg.Gen.facts,
  Cert.MixPgIdeal.Gen.facts, Cert.MixPgRefIdeal.Gen.facts, Cert.MixWb.Gen.facts, Cert.MixWbIdeal.Gen.facts,
  Cert.MixWbRefIdeal.Gen.facts, Cert.MixGate.Gen.facts, Cert.MixGateIdeal.Gen.facts, Cert.MixGateRefIdeal.Gen.facts,
  Cert.MixOut.Gen.facts, Cert.MixOutIdeal.Gen.facts, Cert.MixOutRefIdeal.Gen.facts, Cert.FfnDownDx.Gen.facts,
  Cert.FfnDownDxIdeal.Gen.facts, Cert.FfnDownDxRefIdeal.Gen.facts, Cert.MixOutDx.Gen.facts, Cert.MixOutDxIdeal.Gen.facts,
  Cert.MixOutDxRefIdeal.Gen.facts, Cert.MixWaDx.Gen.facts, Cert.MixWaDxIdeal.Gen.facts, Cert.MixWaDxRefIdeal.Gen.facts,
  Cert.MixWbDx.Gen.facts, Cert.MixWbDxIdeal.Gen.facts, Cert.MixWbDxRefIdeal.Gen.facts, Cert.MixQkvDx.Gen.facts,
  Cert.MixQkvDxIdeal.Gen.facts, Cert.MixQkvDxRefIdeal.Gen.facts, Cert.MixZDx.Gen.facts, Cert.MixZDxIdeal.Gen.facts,
  Cert.MixZDxRefIdeal.Gen.facts, Cert.MixBaDx.Gen.facts, Cert.MixBaDxIdeal.Gen.facts, Cert.MixBaDxRefIdeal.Gen.facts,
  Cert.MixDaDx.Gen.facts, Cert.MixDaDxIdeal.Gen.facts, Cert.MixDaDxRefIdeal.Gen.facts, Cert.MixPgDx.Gen.facts,
  Cert.MixPgDxIdeal.Gen.facts, Cert.MixPgDxRefIdeal.Gen.facts, Cert.FfnGuDx.Gen.facts, Cert.FfnGuDxIdeal.Gen.facts,
  Cert.FfnGuDxRefIdeal.Gen.facts, Cert.FfnDownDw.Gen.facts, Cert.FfnDownDwIdeal.Gen.facts, Cert.FfnDownDwRefIdeal.Gen.facts,
  Cert.FfnGuDw.Gen.facts, Cert.FfnGuDwIdeal.Gen.facts, Cert.FfnGuDwRefIdeal.Gen.facts, Cert.MixOutDw.Gen.facts,
  Cert.MixOutDwIdeal.Gen.facts, Cert.MixOutDwRefIdeal.Gen.facts, Cert.MixWbDw.Gen.facts, Cert.MixWbDwIdeal.Gen.facts,
  Cert.MixWbDwRefIdeal.Gen.facts, Cert.MixQkvDw.Gen.facts, Cert.MixQkvDwIdeal.Gen.facts, Cert.MixQkvDwRefIdeal.Gen.facts,
  Cert.MixBaDw.Gen.facts, Cert.MixBaDwIdeal.Gen.facts, Cert.MixBaDwRefIdeal.Gen.facts, Cert.MixDaDw.Gen.facts,
  Cert.MixDaDwIdeal.Gen.facts, Cert.MixDaDwRefIdeal.Gen.facts, Cert.MixPgDw.Gen.facts, Cert.MixPgDwIdeal.Gen.facts,
  Cert.MixPgDwRefIdeal.Gen.facts, Cert.InputGrad.Gen.facts, Cert.InputGradIdeal.Gen.facts, Cert.InputGradRefIdeal.Gen.facts,
  GatherClaims.frame, GatherClaims.frame_ideal, GatherClaims.frame_ref_ideal, GatherClaims.frame_ref,
  ScatterClaims.frame, ScatterClaims.frame_ideal, ScatterClaims.frame_ref_ideal, ScatterClaims.frame_ref,
  SwapClaims.frame, SwapClaims.frame_ideal, SwapClaims.frame_ref_ideal, SwapClaims.frame_ref,
  FinalClaims.frame, FinalClaims.frame_ideal, FinalClaims.frame_ref_ideal, FinalClaims.frame_ref,
  AdamClaims.AdamAdaW.frame, AdamClaims.AdamAdaW.frame_ideal, AdamClaims.AdamAdaW.frame_ref_ideal,
  AdamClaims.AdamAdaB.frame, AdamClaims.AdamAdaB.frame_ideal, AdamClaims.AdamAdaB.frame_ref_ideal,
  AdamClaims.AdamLn.frame, AdamClaims.AdamLn.frame_ideal, AdamClaims.AdamLn.frame_ref_ideal,
  AdamClaims.AdamFfnIn.frame, AdamClaims.AdamFfnIn.frame_ideal, AdamClaims.AdamFfnIn.frame_ref_ideal,
  AdamClaims.AdamFfnOut.frame, AdamClaims.AdamFfnOut.frame_ideal, AdamClaims.AdamFfnOut.frame_ref_ideal,
  AdamClaims.AdamWIn.frame, AdamClaims.AdamWIn.frame_ideal, AdamClaims.AdamWIn.frame_ref_ideal,
  AdamClaims.AdamConv.frame, AdamClaims.AdamConv.frame_ideal, AdamClaims.AdamConv.frame_ref_ideal,
  AdamClaims.AdamHeads.frame, AdamClaims.AdamHeads.frame_ideal, AdamClaims.AdamHeads.frame_ref_ideal,
  AdamClaims.AdamDn.frame, AdamClaims.AdamDn.frame_ideal, AdamClaims.AdamDn.frame_ref_ideal,
  AdamClaims.AdamMix.frame, AdamClaims.AdamMix.frame_ideal, AdamClaims.AdamMix.frame_ref_ideal,
  AdamClaims.AdamWb.frame, AdamClaims.AdamWb.frame_ideal, AdamClaims.AdamWb.frame_ref_ideal,
  AdamClaims.AdamNorm.frame, AdamClaims.AdamNorm.frame_ideal, AdamClaims.AdamNorm.frame_ref_ideal,
  SumClaims.PairSum.frame, SumClaims.PairSum.frame_ideal, SumClaims.PairSum.frame_ref_ideal,
  SumClaims.ChipSum.frame, SumClaims.ChipSum.frame_ideal, SumClaims.ChipSum.frame_ref_ideal,
  SumClaims.SmallSum.frame, SumClaims.SmallSum.frame_ideal, SumClaims.SmallSum.frame_ref_ideal,
  SmallClaims.SmallGrads.frame, SmallClaims.SmallGrads.frame_ideal, SmallClaims.SmallGrads.frame_ref_ideal,
  BigClaims.BigGrads.frame, BigClaims.BigGrads.frame_ideal, BigClaims.BigGrads.frame_ref_ideal,
  SumClaims.AdaBGrad.frame, SumClaims.AdaBGrad.frame_ideal, SumClaims.AdaBGrad.frame_ref_ideal,
  SumClaims.AdaWGrad.frame, SumClaims.AdaWGrad.frame_ideal, SumClaims.AdaWGrad.frame_ref_ideal,
  ModelClaims.CSilu.frame, ModelClaims.CSilu.frame_ideal, ModelClaims.CSilu.frame_ref_ideal,
  ModelClaims.AdaFwd.frame, ModelClaims.AdaFwd.frame_ideal, ModelClaims.AdaFwd.frame_ref_ideal,
  ModelClaims.FfnNorm.frame, ModelClaims.FfnNorm.frame_ideal, ModelClaims.FfnNorm.frame_ref_ideal,
  ModelClaims.FfnGu.frame, ModelClaims.FfnGu.frame_ideal, ModelClaims.FfnGu.frame_ref_ideal,
  ModelClaims.FfnAct.frame, ModelClaims.FfnAct.frame_ideal, ModelClaims.FfnAct.frame_ref_ideal,
  ModelClaims.FfnDown.frame, ModelClaims.FfnDown.frame_ideal, ModelClaims.FfnDown.frame_ref_ideal,
  ModelClaims.MixQkv.frame, ModelClaims.MixQkv.frame_ideal, ModelClaims.MixQkv.frame_ref_ideal,
  ModelClaims.MixZ.frame, ModelClaims.MixZ.frame_ideal, ModelClaims.MixZ.frame_ref_ideal,
  ModelClaims.MixBa.frame, ModelClaims.MixBa.frame_ideal, ModelClaims.MixBa.frame_ref_ideal,
  ModelClaims.MixDa.frame, ModelClaims.MixDa.frame_ideal, ModelClaims.MixDa.frame_ref_ideal,
  ModelClaims.MixPg.frame, ModelClaims.MixPg.frame_ideal, ModelClaims.MixPg.frame_ref_ideal,
  ModelClaims.MixWb.frame, ModelClaims.MixWb.frame_ideal, ModelClaims.MixWb.frame_ref_ideal,
  ModelClaims.MixGate.frame, ModelClaims.MixGate.frame_ideal, ModelClaims.MixGate.frame_ref_ideal,
  ModelClaims.MixOut.frame, ModelClaims.MixOut.frame_ideal, ModelClaims.MixOut.frame_ref_ideal,
  BackClaims.FfnDownDx.frame, BackClaims.FfnDownDx.frame_ideal, BackClaims.FfnDownDx.frame_ref_ideal,
  BackClaims.MixOutDx.frame, BackClaims.MixOutDx.frame_ideal, BackClaims.MixOutDx.frame_ref_ideal,
  BackClaims.MixWaDx.frame, BackClaims.MixWaDx.frame_ideal, BackClaims.MixWaDx.frame_ref_ideal,
  BackClaims.MixWbDx.frame, BackClaims.MixWbDx.frame_ideal, BackClaims.MixWbDx.frame_ref_ideal,
  BackClaims.MixQkvDx.frame, BackClaims.MixQkvDx.frame_ideal, BackClaims.MixQkvDx.frame_ref_ideal,
  BackClaims.MixZDx.frame, BackClaims.MixZDx.frame_ideal, BackClaims.MixZDx.frame_ref_ideal,
  BackClaims.MixBaDx.frame, BackClaims.MixBaDx.frame_ideal, BackClaims.MixBaDx.frame_ref_ideal,
  BackClaims.MixDaDx.frame, BackClaims.MixDaDx.frame_ideal, BackClaims.MixDaDx.frame_ref_ideal,
  BackClaims.MixPgDx.frame, BackClaims.MixPgDx.frame_ideal, BackClaims.MixPgDx.frame_ref_ideal,
  WeightClaims.FfnGuDx.frame, WeightClaims.FfnGuDx.frame_ideal, WeightClaims.FfnGuDx.frame_ref_ideal,
  WeightClaims.FfnDownDw.frame, WeightClaims.FfnDownDw.frame_ideal, WeightClaims.FfnDownDw.frame_ref_ideal,
  WeightClaims.FfnGuDw.frame, WeightClaims.FfnGuDw.frame_ideal, WeightClaims.FfnGuDw.frame_ref_ideal,
  WeightClaims.MixOutDw.frame, WeightClaims.MixOutDw.frame_ideal, WeightClaims.MixOutDw.frame_ref_ideal,
  WeightClaims.MixWbDw.frame, WeightClaims.MixWbDw.frame_ideal, WeightClaims.MixWbDw.frame_ref_ideal,
  WeightClaims.MixQkvDw.frame, WeightClaims.MixQkvDw.frame_ideal, WeightClaims.MixQkvDw.frame_ref_ideal,
  WeightClaims.MixBaDw.frame, WeightClaims.MixBaDw.frame_ideal, WeightClaims.MixBaDw.frame_ref_ideal,
  WeightClaims.MixDaDw.frame, WeightClaims.MixDaDw.frame_ideal, WeightClaims.MixDaDw.frame_ref_ideal,
  WeightClaims.MixPgDw.frame, WeightClaims.MixPgDw.frame_ideal, WeightClaims.MixPgDw.frame_ref_ideal,
  ModelClaims.InputGrad.frame, ModelClaims.InputGrad.frame_ideal, ModelClaims.InputGrad.frame_ref_ideal,
  trivial, GatherClaims.value, GatherClaims.bits,
  trivial, ScatterClaims.value, ScatterClaims.bits,
  trivial, SwapClaims.value, SwapClaims.bits,
  trivial, FinalClaims.value, FinalClaims.bits,
  trivial, AdamClaims.AdamAdaW.value,
  trivial, AdamClaims.AdamAdaB.value,
  trivial, AdamClaims.AdamLn.value,
  trivial, AdamClaims.AdamFfnIn.value,
  trivial, AdamClaims.AdamFfnOut.value,
  trivial, AdamClaims.AdamWIn.value,
  trivial, AdamClaims.AdamConv.value,
  trivial, AdamClaims.AdamHeads.value,
  trivial, AdamClaims.AdamDn.value,
  trivial, AdamClaims.AdamMix.value,
  trivial, AdamClaims.AdamWb.value,
  trivial, AdamClaims.AdamNorm.value,
  trivial, SumClaims.PairSum.value,
  trivial, SumClaims.ChipSum.value,
  trivial, SumClaims.SmallSum.value,
  trivial, SmallClaims.SmallGrads.value,
  trivial, BigClaims.BigGrads.value,
  trivial, SumClaims.AdaBGrad.value,
  trivial, SumClaims.AdaWGrad.value,
  trivial, ModelClaims.CSilu.value,
  trivial, ModelClaims.AdaFwd.value,
  trivial, ModelClaims.FfnNorm.value,
  trivial, ModelClaims.FfnGu.value,
  trivial, ModelClaims.FfnAct.value,
  trivial, ModelClaims.FfnDown.value,
  trivial, ModelClaims.MixQkv.value,
  trivial, ModelClaims.MixZ.value,
  trivial, ModelClaims.MixBa.value,
  trivial, ModelClaims.MixDa.value,
  trivial, ModelClaims.MixPg.value,
  trivial, ModelClaims.MixWb.value,
  trivial, ModelClaims.MixGate.value,
  trivial, ModelClaims.MixOut.value,
  trivial, BackClaims.FfnDownDx.value,
  trivial, BackClaims.MixOutDx.value,
  trivial, BackClaims.MixWaDx.value,
  trivial, BackClaims.MixWbDx.value,
  trivial, BackClaims.MixQkvDx.value,
  trivial, BackClaims.MixZDx.value,
  trivial, BackClaims.MixBaDx.value,
  trivial, BackClaims.MixDaDx.value,
  trivial, BackClaims.MixPgDx.value,
  trivial, WeightClaims.FfnGuDx.value,
  trivial, WeightClaims.FfnDownDw.value,
  trivial, WeightClaims.FfnGuDw.value,
  trivial, WeightClaims.MixOutDw.value,
  trivial, WeightClaims.MixWbDw.value,
  trivial, WeightClaims.MixQkvDw.value,
  trivial, WeightClaims.MixBaDw.value,
  trivial, WeightClaims.MixDaDw.value,
  trivial, WeightClaims.MixPgDw.value,
  trivial, ModelClaims.InputGrad.value⟩

end Cert.Proof

end
